-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_layout [hPre_layout : Cert.Pre_layout.Facts] (m : (ℓ : Loc Cert.KernelIdeal.nD Cert.KernelIdeal.τ Cert.KernelIdeal.sig) → Buf (Elt Ideal) ℓ) : Prop :=
  ∀ c : Dev Cert.KernelIdeal.nD,
    (Cert.Pre_layout.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layout [hPre_layout : Cert.Pre_layout.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layout.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Early (m : (ℓ : Loc Cert.Early.nD Cert.Early.τ Cert.Early.sig) → Buf (Elt Bits) ℓ) : Prop :=
  True

def Pre_EarlyIdeal (m : (ℓ : Loc Cert.EarlyIdeal.nD Cert.EarlyIdeal.τ Cert.EarlyIdeal.sig) → Buf (Elt Ideal) ℓ) : Prop :=
  True

def Pre_EarlyIdeal_layout [hPre_layout : Cert.Pre_layout.Facts] (m : (ℓ : Loc Cert.EarlyIdeal.nD Cert.EarlyIdeal.τ Cert.EarlyIdeal.sig) → Buf (Elt Ideal) ℓ) : Prop :=
  ∀ c : Dev Cert.EarlyIdeal.nD,
    (Cert.Pre_layout.fn (F := Ideal) (m ((c.tc : Thread Cert.EarlyIdeal.nD Cert.EarlyIdeal.τ).loc Cert.EarlyIdeal.main_arg0)) (m ((c.tc : Thread Cert.EarlyIdeal.nD Cert.EarlyIdeal.τ).loc Cert.EarlyIdeal.main_arg1)) (m ((c.tc : Thread Cert.EarlyIdeal.nD Cert.EarlyIdeal.τ).loc Cert.EarlyIdeal.main_arg2)) (m ((c.tc : Thread Cert.EarlyIdeal.nD Cert.EarlyIdeal.τ).loc Cert.EarlyIdeal.main_arg3)) (m ((c.tc : Thread Cert.EarlyIdeal.nD Cert.EarlyIdeal.τ).loc Cert.EarlyIdeal.main_arg4)) (m ((c.tc : Thread Cert.EarlyIdeal.nD Cert.EarlyIdeal.τ).loc Cert.EarlyIdeal.main_arg5))) = (fun _ => 1#1)

def Pre_EarlyReferenceIdeal (m : (ℓ : Loc Cert.EarlyReferenceIdeal.nD Cert.EarlyReferenceIdeal.τ Cert.EarlyReferenceIdeal.sig) → Buf (Elt Ideal) ℓ) : Prop :=
  True

def Pre_EarlyReferenceIdeal_layout [hPre_layout : Cert.Pre_layout.Facts] (m : (ℓ : Loc Cert.EarlyReferenceIdeal.nD Cert.EarlyReferenceIdeal.τ Cert.EarlyReferenceIdeal.sig) → Buf (Elt Ideal) ℓ) : Prop :=
  ∀ c : Dev Cert.EarlyReferenceIdeal.nD,
    (Cert.Pre_layout.fn (F := Ideal) (m ((c.tc : Thread Cert.EarlyReferenceIdeal.nD Cert.EarlyReferenceIdeal.τ).loc Cert.EarlyReferenceIdeal.main_arg0)) (m ((c.tc : Thread Cert.EarlyReferenceIdeal.nD Cert.EarlyReferenceIdeal.τ).loc Cert.EarlyReferenceIdeal.main_arg1)) (m ((c.tc : Thread Cert.EarlyReferenceIdeal.nD Cert.EarlyReferenceIdeal.τ).loc Cert.EarlyReferenceIdeal.main_arg2)) (m ((c.tc : Thread Cert.EarlyReferenceIdeal.nD Cert.EarlyReferenceIdeal.τ).loc Cert.EarlyReferenceIdeal.main_arg3)) (m ((c.tc : Thread Cert.EarlyReferenceIdeal.nD Cert.EarlyReferenceIdeal.τ).loc Cert.EarlyReferenceIdeal.main_arg4)) (m ((c.tc : Thread Cert.EarlyReferenceIdeal.nD Cert.EarlyReferenceIdeal.τ).loc Cert.EarlyReferenceIdeal.main_arg5))) = (fun _ => 1#1)

def Pre_MobaProj (m : (ℓ : Loc Cert.MobaProj.nD Cert.MobaProj.τ Cert.MobaProj.sig) → Buf (Elt Bits) ℓ) : Prop :=
  True

def Pre_MobaProjIdeal (m : (ℓ : Loc Cert.MobaProjIdeal.nD Cert.MobaProjIdeal.τ Cert.MobaProjIdeal.sig) → Buf (Elt Ideal) ℓ) : Prop :=
  True

def Pre_MobaProjReferenceIdeal (m : (ℓ : Loc Cert.MobaProjReferenceIdeal.nD Cert.MobaProjReferenceIdeal.τ Cert.MobaProjReferenceIdeal.sig) → Buf (Elt Ideal) ℓ) : Prop :=
  True

def Pre_NsaProj (m : (ℓ : Loc Cert.NsaProj.nD Cert.NsaProj.τ Cert.NsaProj.sig) → Buf (Elt Bits) ℓ) : Prop :=
  True

def Pre_NsaProjIdeal (m : (ℓ : Loc Cert.NsaProjIdeal.nD Cert.NsaProjIdeal.τ Cert.NsaProjIdeal.sig) → Buf (Elt Ideal) ℓ) : Prop :=
  True

def Pre_NsaProjReferenceIdeal (m : (ℓ : Loc Cert.NsaProjReferenceIdeal.nD Cert.NsaProjReferenceIdeal.τ Cert.NsaProjReferenceIdeal.sig) → Buf (Elt Ideal) ℓ) : Prop :=
  True

def Pre_Post0 (m : (ℓ : Loc Cert.Post0.nD Cert.Post0.τ Cert.Post0.sig) → Buf (Elt Bits) ℓ) : Prop :=
  True

def Pre_Post0Ideal (m : (ℓ : Loc Cert.Post0Ideal.nD Cert.Post0Ideal.τ Cert.Post0Ideal.sig) → Buf (Elt Ideal) ℓ) : Prop :=
  True

def Pre_Post0ReferenceIdeal (m : (ℓ : Loc Cert.Post0ReferenceIdeal.nD Cert.Post0ReferenceIdeal.τ Cert.Post0ReferenceIdeal.sig) → Buf (Elt Ideal) ℓ) : Prop :=
  True

def Pre_Post1 (m : (ℓ : Loc Cert.Post1.nD Cert.Post1.τ Cert.Post1.sig) → Buf (Elt Bits) ℓ) : Prop :=
  True

def Pre_Post1Ideal (m : (ℓ : Loc Cert.Post1Ideal.nD Cert.Post1Ideal.τ Cert.Post1Ideal.sig) → Buf (Elt Ideal) ℓ) : Prop :=
  True

def Pre_Post1ReferenceIdeal (m : (ℓ : Loc Cert.Post1ReferenceIdeal.nD Cert.Post1ReferenceIdeal.τ Cert.Post1ReferenceIdeal.sig) → Buf (Elt Ideal) ℓ) : Prop :=
  True

def Pre_Post2 (m : (ℓ : Loc Cert.Post2.nD Cert.Post2.τ Cert.Post2.sig) → Buf (Elt Bits) ℓ) : Prop :=
  True

def Pre_Post2Ideal (m : (ℓ : Loc Cert.Post2Ideal.nD Cert.Post2Ideal.τ Cert.Post2Ideal.sig) → Buf (Elt Ideal) ℓ) : Prop :=
  True

def Pre_Post2ReferenceIdeal (m : (ℓ : Loc Cert.Post2ReferenceIdeal.nD Cert.Post2ReferenceIdeal.τ Cert.Post2ReferenceIdeal.sig) → Buf (Elt Ideal) ℓ) : Prop :=
  True

def Pre_Post3 (m : (ℓ : Loc Cert.Post3.nD Cert.Post3.τ Cert.Post3.sig) → Buf (Elt Bits) ℓ) : Prop :=
  True

def Pre_Post3Ideal (m : (ℓ : Loc Cert.Post3Ideal.nD Cert.Post3Ideal.τ Cert.Post3Ideal.sig) → Buf (Elt Ideal) ℓ) : Prop :=
  True

def Pre_Post3ReferenceIdeal (m : (ℓ : Loc Cert.Post3ReferenceIdeal.nD Cert.Post3ReferenceIdeal.τ Cert.Post3ReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_layout [hKernelIdeal : Cert.KernelIdeal.Facts] [hPre_layout : Cert.Pre_layout.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_layout m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_layout [hReferenceIdeal : Cert.ReferenceIdeal.Facts] [hPre_layout : Cert.Pre_layout.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layout m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Early [hEarly : Cert.Early.Facts] : Prop :=
  ∀ (m : (ℓ : Loc Cert.Early.nD Cert.Early.τ Cert.Early.sig) → Buf (Elt Bits) ℓ) (g : Dev Cert.Early.nD → PrngReg), Pre_Early m →
    θ_run (Cert.Early.defs (F := Bits)) (onTc (τ := Cert.Early.τ) (Cert.Early.main (F := Bits))) ⟨m, fun _ => 0, g⟩ (fun r => (∀ c : Dev Cert.Early.nD,
      r.2.mem ((c.tc : Thread Cert.Early.nD Cert.Early.τ).loc Cert.Early.main_arg0) = m ((c.tc : Thread Cert.Early.nD Cert.Early.τ).loc Cert.Early.main_arg0)
      ∧ r.2.mem ((c.tc : Thread Cert.Early.nD Cert.Early.τ).loc Cert.Early.main_arg1) = m ((c.tc : Thread Cert.Early.nD Cert.Early.τ).loc Cert.Early.main_arg1)
      ∧ r.2.mem ((c.tc : Thread Cert.Early.nD Cert.Early.τ).loc Cert.Early.main_arg2) = m ((c.tc : Thread Cert.Early.nD Cert.Early.τ).loc Cert.Early.main_arg2)
      ∧ r.2.mem ((c.tc : Thread Cert.Early.nD Cert.Early.τ).loc Cert.Early.main_arg3) = m ((c.tc : Thread Cert.Early.nD Cert.Early.τ).loc Cert.Early.main_arg3)
      ∧ r.2.mem ((c.tc : Thread Cert.Early.nD Cert.Early.τ).loc Cert.Early.main_arg4) = m ((c.tc : Thread Cert.Early.nD Cert.Early.τ).loc Cert.Early.main_arg4)
      ∧ r.2.mem ((c.tc : Thread Cert.Early.nD Cert.Early.τ).loc Cert.Early.main_arg5) = m ((c.tc : Thread Cert.Early.nD Cert.Early.τ).loc Cert.Early.main_arg5))
      ∧ r.2.sem = fun _ => 0)

def quiescent_EarlyIdeal [hEarlyIdeal : Cert.EarlyIdeal.Facts] : Prop :=
  ∀ (m : (ℓ : Loc Cert.EarlyIdeal.nD Cert.EarlyIdeal.τ Cert.EarlyIdeal.sig) → Buf (Elt Ideal) ℓ) (g : Dev Cert.EarlyIdeal.nD → PrngReg), Pre_EarlyIdeal m →
    θ_run (Cert.EarlyIdeal.defs (F := Ideal)) (onTc (τ := Cert.EarlyIdeal.τ) (Cert.EarlyIdeal.main (F := Ideal))) ⟨m, fun _ => 0, g⟩ (fun r => (∀ c : Dev Cert.EarlyIdeal.nD,
      r.2.mem ((c.tc : Thread Cert.EarlyIdeal.nD Cert.EarlyIdeal.τ).loc Cert.EarlyIdeal.main_arg0) = m ((c.tc : Thread Cert.EarlyIdeal.nD Cert.EarlyIdeal.τ).loc Cert.EarlyIdeal.main_arg0)
      ∧ r.2.mem ((c.tc : Thread Cert.EarlyIdeal.nD Cert.EarlyIdeal.τ).loc Cert.EarlyIdeal.main_arg1) = m ((c.tc : Thread Cert.EarlyIdeal.nD Cert.EarlyIdeal.τ).loc Cert.EarlyIdeal.main_arg1)
      ∧ r.2.mem ((c.tc : Thread Cert.EarlyIdeal.nD Cert.EarlyIdeal.τ).loc Cert.EarlyIdeal.main_arg2) = m ((c.tc : Thread Cert.EarlyIdeal.nD Cert.EarlyIdeal.τ).loc Cert.EarlyIdeal.main_arg2)
      ∧ r.2.mem ((c.tc : Thread Cert.EarlyIdeal.nD Cert.EarlyIdeal.τ).loc Cert.EarlyIdeal.main_arg3) = m ((c.tc : Thread Cert.EarlyIdeal.nD Cert.EarlyIdeal.τ).loc Cert.EarlyIdeal.main_arg3)
      ∧ r.2.mem ((c.tc : Thread Cert.EarlyIdeal.nD Cert.EarlyIdeal.τ).loc Cert.EarlyIdeal.main_arg4) = m ((c.tc : Thread Cert.EarlyIdeal.nD Cert.EarlyIdeal.τ).loc Cert.EarlyIdeal.main_arg4)
      ∧ r.2.mem ((c.tc : Thread Cert.EarlyIdeal.nD Cert.EarlyIdeal.τ).loc Cert.EarlyIdeal.main_arg5) = m ((c.tc : Thread Cert.EarlyIdeal.nD Cert.EarlyIdeal.τ).loc Cert.EarlyIdeal.main_arg5))
      ∧ r.2.sem = fun _ => 0)

def quiescent_EarlyIdeal_pre_layout [hEarlyIdeal : Cert.EarlyIdeal.Facts] [hPre_layout : Cert.Pre_layout.Facts] : Prop :=
  ∀ (m : (ℓ : Loc Cert.EarlyIdeal.nD Cert.EarlyIdeal.τ Cert.EarlyIdeal.sig) → Buf (Elt Ideal) ℓ) (g : Dev Cert.EarlyIdeal.nD → PrngReg), Pre_EarlyIdeal_layout m →
    θ_run (Cert.EarlyIdeal.defs (F := Ideal)) (onTc (τ := Cert.EarlyIdeal.τ) (Cert.EarlyIdeal.main (F := Ideal))) ⟨m, fun _ => 0, g⟩ (fun r => (∀ c : Dev Cert.EarlyIdeal.nD,
      r.2.mem ((c.tc : Thread Cert.EarlyIdeal.nD Cert.EarlyIdeal.τ).loc Cert.EarlyIdeal.main_arg0) = m ((c.tc : Thread Cert.EarlyIdeal.nD Cert.EarlyIdeal.τ).loc Cert.EarlyIdeal.main_arg0)
      ∧ r.2.mem ((c.tc : Thread Cert.EarlyIdeal.nD Cert.EarlyIdeal.τ).loc Cert.EarlyIdeal.main_arg1) = m ((c.tc : Thread Cert.EarlyIdeal.nD Cert.EarlyIdeal.τ).loc Cert.EarlyIdeal.main_arg1)
      ∧ r.2.mem ((c.tc : Thread Cert.EarlyIdeal.nD Cert.EarlyIdeal.τ).loc Cert.EarlyIdeal.main_arg2) = m ((c.tc : Thread Cert.EarlyIdeal.nD Cert.EarlyIdeal.τ).loc Cert.EarlyIdeal.main_arg2)
      ∧ r.2.mem ((c.tc : Thread Cert.EarlyIdeal.nD Cert.EarlyIdeal.τ).loc Cert.EarlyIdeal.main_arg3) = m ((c.tc : Thread Cert.EarlyIdeal.nD Cert.EarlyIdeal.τ).loc Cert.EarlyIdeal.main_arg3)
      ∧ r.2.mem ((c.tc : Thread Cert.EarlyIdeal.nD Cert.EarlyIdeal.τ).loc Cert.EarlyIdeal.main_arg4) = m ((c.tc : Thread Cert.EarlyIdeal.nD Cert.EarlyIdeal.τ).loc Cert.EarlyIdeal.main_arg4)
      ∧ r.2.mem ((c.tc : Thread Cert.EarlyIdeal.nD Cert.EarlyIdeal.τ).loc Cert.EarlyIdeal.main_arg5) = m ((c.tc : Thread Cert.EarlyIdeal.nD Cert.EarlyIdeal.τ).loc Cert.EarlyIdeal.main_arg5))
      ∧ r.2.sem = fun _ => 0)

def quiescent_EarlyReferenceIdeal [hEarlyReferenceIdeal : Cert.EarlyReferenceIdeal.Facts] : Prop :=
  ∀ (m : (ℓ : Loc Cert.EarlyReferenceIdeal.nD Cert.EarlyReferenceIdeal.τ Cert.EarlyReferenceIdeal.sig) → Buf (Elt Ideal) ℓ) (g : Dev Cert.EarlyReferenceIdeal.nD → PrngReg), Pre_EarlyReferenceIdeal m →
    θ_run (Cert.EarlyReferenceIdeal.defs (F := Ideal)) (onTc (τ := Cert.EarlyReferenceIdeal.τ) (Cert.EarlyReferenceIdeal.main (F := Ideal))) ⟨m, fun _ => 0, g⟩ (fun r => (∀ c : Dev Cert.EarlyReferenceIdeal.nD,
      r.2.mem ((c.tc : Thread Cert.EarlyReferenceIdeal.nD Cert.EarlyReferenceIdeal.τ).loc Cert.EarlyReferenceIdeal.main_arg0) = m ((c.tc : Thread Cert.EarlyReferenceIdeal.nD Cert.EarlyReferenceIdeal.τ).loc Cert.EarlyReferenceIdeal.main_arg0)
      ∧ r.2.mem ((c.tc : Thread Cert.EarlyReferenceIdeal.nD Cert.EarlyReferenceIdeal.τ).loc Cert.EarlyReferenceIdeal.main_arg1) = m ((c.tc : Thread Cert.EarlyReferenceIdeal.nD Cert.EarlyReferenceIdeal.τ).loc Cert.EarlyReferenceIdeal.main_arg1)
      ∧ r.2.mem ((c.tc : Thread Cert.EarlyReferenceIdeal.nD Cert.EarlyReferenceIdeal.τ).loc Cert.EarlyReferenceIdeal.main_arg2) = m ((c.tc : Thread Cert.EarlyReferenceIdeal.nD Cert.EarlyReferenceIdeal.τ).loc Cert.EarlyReferenceIdeal.main_arg2)
      ∧ r.2.mem ((c.tc : Thread Cert.EarlyReferenceIdeal.nD Cert.EarlyReferenceIdeal.τ).loc Cert.EarlyReferenceIdeal.main_arg3) = m ((c.tc : Thread Cert.EarlyReferenceIdeal.nD Cert.EarlyReferenceIdeal.τ).loc Cert.EarlyReferenceIdeal.main_arg3)
      ∧ r.2.mem ((c.tc : Thread Cert.EarlyReferenceIdeal.nD Cert.EarlyReferenceIdeal.τ).loc Cert.EarlyReferenceIdeal.main_arg4) = m ((c.tc : Thread Cert.EarlyReferenceIdeal.nD Cert.EarlyReferenceIdeal.τ).loc Cert.EarlyReferenceIdeal.main_arg4)
      ∧ r.2.mem ((c.tc : Thread Cert.EarlyReferenceIdeal.nD Cert.EarlyReferenceIdeal.τ).loc Cert.EarlyReferenceIdeal.main_arg5) = m ((c.tc : Thread Cert.EarlyReferenceIdeal.nD Cert.EarlyReferenceIdeal.τ).loc Cert.EarlyReferenceIdeal.main_arg5))
      ∧ r.2.sem = fun _ => 0)

def quiescent_EarlyReferenceIdeal_pre_layout [hEarlyReferenceIdeal : Cert.EarlyReferenceIdeal.Facts] [hPre_layout : Cert.Pre_layout.Facts] : Prop :=
  ∀ (m : (ℓ : Loc Cert.EarlyReferenceIdeal.nD Cert.EarlyReferenceIdeal.τ Cert.EarlyReferenceIdeal.sig) → Buf (Elt Ideal) ℓ) (g : Dev Cert.EarlyReferenceIdeal.nD → PrngReg), Pre_EarlyReferenceIdeal_layout m →
    θ_run (Cert.EarlyReferenceIdeal.defs (F := Ideal)) (onTc (τ := Cert.EarlyReferenceIdeal.τ) (Cert.EarlyReferenceIdeal.main (F := Ideal))) ⟨m, fun _ => 0, g⟩ (fun r => (∀ c : Dev Cert.EarlyReferenceIdeal.nD,
      r.2.mem ((c.tc : Thread Cert.EarlyReferenceIdeal.nD Cert.EarlyReferenceIdeal.τ).loc Cert.EarlyReferenceIdeal.main_arg0) = m ((c.tc : Thread Cert.EarlyReferenceIdeal.nD Cert.EarlyReferenceIdeal.τ).loc Cert.EarlyReferenceIdeal.main_arg0)
      ∧ r.2.mem ((c.tc : Thread Cert.EarlyReferenceIdeal.nD Cert.EarlyReferenceIdeal.τ).loc Cert.EarlyReferenceIdeal.main_arg1) = m ((c.tc : Thread Cert.EarlyReferenceIdeal.nD Cert.EarlyReferenceIdeal.τ).loc Cert.EarlyReferenceIdeal.main_arg1)
      ∧ r.2.mem ((c.tc : Thread Cert.EarlyReferenceIdeal.nD Cert.EarlyReferenceIdeal.τ).loc Cert.EarlyReferenceIdeal.main_arg2) = m ((c.tc : Thread Cert.EarlyReferenceIdeal.nD Cert.EarlyReferenceIdeal.τ).loc Cert.EarlyReferenceIdeal.main_arg2)
      ∧ r.2.mem ((c.tc : Thread Cert.EarlyReferenceIdeal.nD Cert.EarlyReferenceIdeal.τ).loc Cert.EarlyReferenceIdeal.main_arg3) = m ((c.tc : Thread Cert.EarlyReferenceIdeal.nD Cert.EarlyReferenceIdeal.τ).loc Cert.EarlyReferenceIdeal.main_arg3)
      ∧ r.2.mem ((c.tc : Thread Cert.EarlyReferenceIdeal.nD Cert.EarlyReferenceIdeal.τ).loc Cert.EarlyReferenceIdeal.main_arg4) = m ((c.tc : Thread Cert.EarlyReferenceIdeal.nD Cert.EarlyReferenceIdeal.τ).loc Cert.EarlyReferenceIdeal.main_arg4)
      ∧ r.2.mem ((c.tc : Thread Cert.EarlyReferenceIdeal.nD Cert.EarlyReferenceIdeal.τ).loc Cert.EarlyReferenceIdeal.main_arg5) = m ((c.tc : Thread Cert.EarlyReferenceIdeal.nD Cert.EarlyReferenceIdeal.τ).loc Cert.EarlyReferenceIdeal.main_arg5))
      ∧ r.2.sem = fun _ => 0)

def quiescent_MobaProj [hMobaProj : Cert.MobaProj.Facts] : Prop :=
  ∀ (m : (ℓ : Loc Cert.MobaProj.nD Cert.MobaProj.τ Cert.MobaProj.sig) → Buf (Elt Bits) ℓ) (g : Dev Cert.MobaProj.nD → PrngReg), Pre_MobaProj m →
    θ_run (Cert.MobaProj.defs (F := Bits)) (onTc (τ := Cert.MobaProj.τ) (Cert.MobaProj.main (F := Bits))) ⟨m, fun _ => 0, g⟩ (fun r => (∀ c : Dev Cert.MobaProj.nD,
      r.2.mem ((c.tc : Thread Cert.MobaProj.nD Cert.MobaProj.τ).loc Cert.MobaProj.main_arg0) = m ((c.tc : Thread Cert.MobaProj.nD Cert.MobaProj.τ).loc Cert.MobaProj.main_arg0)
      ∧ r.2.mem ((c.tc : Thread Cert.MobaProj.nD Cert.MobaProj.τ).loc Cert.MobaProj.main_arg1) = m ((c.tc : Thread Cert.MobaProj.nD Cert.MobaProj.τ).loc Cert.MobaProj.main_arg1)
      ∧ r.2.mem ((c.tc : Thread Cert.MobaProj.nD Cert.MobaProj.τ).loc Cert.MobaProj.main_arg2) = m ((c.tc : Thread Cert.MobaProj.nD Cert.MobaProj.τ).loc Cert.MobaProj.main_arg2))
      ∧ r.2.sem = fun _ => 0)

def quiescent_MobaProjIdeal [hMobaProjIdeal : Cert.MobaProjIdeal.Facts] : Prop :=
  ∀ (m : (ℓ : Loc Cert.MobaProjIdeal.nD Cert.MobaProjIdeal.τ Cert.MobaProjIdeal.sig) → Buf (Elt Ideal) ℓ) (g : Dev Cert.MobaProjIdeal.nD → PrngReg), Pre_MobaProjIdeal m →
    θ_run (Cert.MobaProjIdeal.defs (F := Ideal)) (onTc (τ := Cert.MobaProjIdeal.τ) (Cert.MobaProjIdeal.main (F := Ideal))) ⟨m, fun _ => 0, g⟩ (fun r => (∀ c : Dev Cert.MobaProjIdeal.nD,
      r.2.mem ((c.tc : Thread Cert.MobaProjIdeal.nD Cert.MobaProjIdeal.τ).loc Cert.MobaProjIdeal.main_arg0) = m ((c.tc : Thread Cert.MobaProjIdeal.nD Cert.MobaProjIdeal.τ).loc Cert.MobaProjIdeal.main_arg0)
      ∧ r.2.mem ((c.tc : Thread Cert.MobaProjIdeal.nD Cert.MobaProjIdeal.τ).loc Cert.MobaProjIdeal.main_arg1) = m ((c.tc : Thread Cert.MobaProjIdeal.nD Cert.MobaProjIdeal.τ).loc Cert.MobaProjIdeal.main_arg1)
      ∧ r.2.mem ((c.tc : Thread Cert.MobaProjIdeal.nD Cert.MobaProjIdeal.τ).loc Cert.MobaProjIdeal.main_arg2) = m ((c.tc : Thread Cert.MobaProjIdeal.nD Cert.MobaProjIdeal.τ).loc Cert.MobaProjIdeal.main_arg2))
      ∧ r.2.sem = fun _ => 0)

def quiescent_MobaProjReferenceIdeal [hMobaProjReferenceIdeal : Cert.MobaProjReferenceIdeal.Facts] : Prop :=
  ∀ (m : (ℓ : Loc Cert.MobaProjReferenceIdeal.nD Cert.MobaProjReferenceIdeal.τ Cert.MobaProjReferenceIdeal.sig) → Buf (Elt Ideal) ℓ) (g : Dev Cert.MobaProjReferenceIdeal.nD → PrngReg), Pre_MobaProjReferenceIdeal m →
    θ_run (Cert.MobaProjReferenceIdeal.defs (F := Ideal)) (onTc (τ := Cert.MobaProjReferenceIdeal.τ) (Cert.MobaProjReferenceIdeal.main (F := Ideal))) ⟨m, fun _ => 0, g⟩ (fun r => (∀ c : Dev Cert.MobaProjReferenceIdeal.nD,
      r.2.mem ((c.tc : Thread Cert.MobaProjReferenceIdeal.nD Cert.MobaProjReferenceIdeal.τ).loc Cert.MobaProjReferenceIdeal.main_arg0) = m ((c.tc : Thread Cert.MobaProjReferenceIdeal.nD Cert.MobaProjReferenceIdeal.τ).loc Cert.MobaProjReferenceIdeal.main_arg0)
      ∧ r.2.mem ((c.tc : Thread Cert.MobaProjReferenceIdeal.nD Cert.MobaProjReferenceIdeal.τ).loc Cert.MobaProjReferenceIdeal.main_arg1) = m ((c.tc : Thread Cert.MobaProjReferenceIdeal.nD Cert.MobaProjReferenceIdeal.τ).loc Cert.MobaProjReferenceIdeal.main_arg1)
      ∧ r.2.mem ((c.tc : Thread Cert.MobaProjReferenceIdeal.nD Cert.MobaProjReferenceIdeal.τ).loc Cert.MobaProjReferenceIdeal.main_arg2) = m ((c.tc : Thread Cert.MobaProjReferenceIdeal.nD Cert.MobaProjReferenceIdeal.τ).loc Cert.MobaProjReferenceIdeal.main_arg2))
      ∧ r.2.sem = fun _ => 0)

def quiescent_NsaProj [hNsaProj : Cert.NsaProj.Facts] : Prop :=
  ∀ (m : (ℓ : Loc Cert.NsaProj.nD Cert.NsaProj.τ Cert.NsaProj.sig) → Buf (Elt Bits) ℓ) (g : Dev Cert.NsaProj.nD → PrngReg), Pre_NsaProj m →
    θ_run (Cert.NsaProj.defs (F := Bits)) (onTc (τ := Cert.NsaProj.τ) (Cert.NsaProj.main (F := Bits))) ⟨m, fun _ => 0, g⟩ (fun r => (∀ c : Dev Cert.NsaProj.nD,
      r.2.mem ((c.tc : Thread Cert.NsaProj.nD Cert.NsaProj.τ).loc Cert.NsaProj.main_arg0) = m ((c.tc : Thread Cert.NsaProj.nD Cert.NsaProj.τ).loc Cert.NsaProj.main_arg0)
      ∧ r.2.mem ((c.tc : Thread Cert.NsaProj.nD Cert.NsaProj.τ).loc Cert.NsaProj.main_arg1) = m ((c.tc : Thread Cert.NsaProj.nD Cert.NsaProj.τ).loc Cert.NsaProj.main_arg1)
      ∧ r.2.mem ((c.tc : Thread Cert.NsaProj.nD Cert.NsaProj.τ).loc Cert.NsaProj.main_arg2) = m ((c.tc : Thread Cert.NsaProj.nD Cert.NsaProj.τ).loc Cert.NsaProj.main_arg2))
      ∧ r.2.sem = fun _ => 0)

def quiescent_NsaProjIdeal [hNsaProjIdeal : Cert.NsaProjIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg), Pre_NsaProjIdeal m →
    θ_run (Cert.NsaProjIdeal.defs (F := Ideal)) (onTc (τ := Cert.NsaProjIdeal.τ) (Cert.NsaProjIdeal.main (F := Ideal))) ⟨m, fun _ => 0, g⟩ (fun r => (∀ c : Dev Cert.NsaProjIdeal.nD,
      r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
      ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
      ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2))
      ∧ r.2.sem = fun _ => 0)

def quiescent_NsaProjReferenceIdeal [hNsaProjReferenceIdeal : Cert.NsaProjReferenceIdeal.Facts] : Prop :=
  ∀ (m : (ℓ : Loc Cert.NsaProjReferenceIdeal.nD Cert.NsaProjReferenceIdeal.τ Cert.NsaProjReferenceIdeal.sig) → Buf (Elt Ideal) ℓ) (g : Dev Cert.NsaProjReferenceIdeal.nD → PrngReg), Pre_NsaProjReferenceIdeal m →
    θ_run (Cert.NsaProjReferenceIdeal.defs (F := Ideal)) (onTc (τ := Cert.NsaProjReferenceIdeal.τ) (Cert.NsaProjReferenceIdeal.main (F := Ideal))) ⟨m, fun _ => 0, g⟩ (fun r => (∀ c : Dev Cert.NsaProjReferenceIdeal.nD,
      r.2.mem ((c.tc : Thread Cert.NsaProjReferenceIdeal.nD Cert.NsaProjReferenceIdeal.τ).loc Cert.NsaProjReferenceIdeal.main_arg0) = m ((c.tc : Thread Cert.NsaProjReferenceIdeal.nD Cert.NsaProjReferenceIdeal.τ).loc Cert.NsaProjReferenceIdeal.main_arg0)
      ∧ r.2.mem ((c.tc : Thread Cert.NsaProjReferenceIdeal.nD Cert.NsaProjReferenceIdeal.τ).loc Cert.NsaProjReferenceIdeal.main_arg1) = m ((c.tc : Thread Cert.NsaProjReferenceIdeal.nD Cert.NsaProjReferenceIdeal.τ).loc Cert.NsaProjReferenceIdeal.main_arg1)
      ∧ r.2.mem ((c.tc : Thread Cert.NsaProjReferenceIdeal.nD Cert.NsaProjReferenceIdeal.τ).loc Cert.NsaProjReferenceIdeal.main_arg2) = m ((c.tc : Thread Cert.NsaProjReferenceIdeal.nD Cert.NsaProjReferenceIdeal.τ).loc Cert.NsaProjReferenceIdeal.main_arg2))
      ∧ r.2.sem = fun _ => 0)

def quiescent_Post0 [hPost0 : Cert.Post0.Facts] : Prop :=
  ∀ (m : (ℓ : Loc Cert.Post0.nD Cert.Post0.τ Cert.Post0.sig) → Buf (Elt Bits) ℓ) (g : Dev Cert.Post0.nD → PrngReg), Pre_Post0 m →
    θ_run (Cert.Post0.defs (F := Bits)) (onTc (τ := Cert.Post0.τ) (Cert.Post0.main (F := Bits))) ⟨m, fun _ => 0, g⟩ (fun r => (∀ c : Dev Cert.Post0.nD,
      r.2.mem ((c.tc : Thread Cert.Post0.nD Cert.Post0.τ).loc Cert.Post0.main_arg0) = m ((c.tc : Thread Cert.Post0.nD Cert.Post0.τ).loc Cert.Post0.main_arg0)
      ∧ r.2.mem ((c.tc : Thread Cert.Post0.nD Cert.Post0.τ).loc Cert.Post0.main_arg1) = m ((c.tc : Thread Cert.Post0.nD Cert.Post0.τ).loc Cert.Post0.main_arg1)
      ∧ r.2.mem ((c.tc : Thread Cert.Post0.nD Cert.Post0.τ).loc Cert.Post0.main_arg2) = m ((c.tc : Thread Cert.Post0.nD Cert.Post0.τ).loc Cert.Post0.main_arg2)
      ∧ r.2.mem ((c.tc : Thread Cert.Post0.nD Cert.Post0.τ).loc Cert.Post0.main_arg3) = m ((c.tc : Thread Cert.Post0.nD Cert.Post0.τ).loc Cert.Post0.main_arg3)
      ∧ r.2.mem ((c.tc : Thread Cert.Post0.nD Cert.Post0.τ).loc Cert.Post0.main_arg4) = m ((c.tc : Thread Cert.Post0.nD Cert.Post0.τ).loc Cert.Post0.main_arg4)
      ∧ r.2.mem ((c.tc : Thread Cert.Post0.nD Cert.Post0.τ).loc Cert.Post0.main_arg5) = m ((c.tc : Thread Cert.Post0.nD Cert.Post0.τ).loc Cert.Post0.main_arg5)
      ∧ r.2.mem ((c.tc : Thread Cert.Post0.nD Cert.Post0.τ).loc Cert.Post0.main_arg6) = m ((c.tc : Thread Cert.Post0.nD Cert.Post0.τ).loc Cert.Post0.main_arg6)
      ∧ r.2.mem ((c.tc : Thread Cert.Post0.nD Cert.Post0.τ).loc Cert.Post0.main_arg7) = m ((c.tc : Thread Cert.Post0.nD Cert.Post0.τ).loc Cert.Post0.main_arg7))
      ∧ r.2.sem = fun _ => 0)

def quiescent_Post0Ideal [hPost0Ideal : Cert.Post0Ideal.Facts] : Prop :=
  ∀ (m : (ℓ : Loc Cert.Post0Ideal.nD Cert.Post0Ideal.τ Cert.Post0Ideal.sig) → Buf (Elt Ideal) ℓ) (g : Dev Cert.Post0Ideal.nD → PrngReg), Pre_Post0Ideal m →
    θ_run (Cert.Post0Ideal.defs (F := Ideal)) (onTc (τ := Cert.Post0Ideal.τ) (Cert.Post0Ideal.main (F := Ideal))) ⟨m, fun _ => 0, g⟩ (fun r => (∀ c : Dev Cert.Post0Ideal.nD,
      r.2.mem ((c.tc : Thread Cert.Post0Ideal.nD Cert.Post0Ideal.τ).loc Cert.Post0Ideal.main_arg0) = m ((c.tc : Thread Cert.Post0Ideal.nD Cert.Post0Ideal.τ).loc Cert.Post0Ideal.main_arg0)
      ∧ r.2.mem ((c.tc : Thread Cert.Post0Ideal.nD Cert.Post0Ideal.τ).loc Cert.Post0Ideal.main_arg1) = m ((c.tc : Thread Cert.Post0Ideal.nD Cert.Post0Ideal.τ).loc Cert.Post0Ideal.main_arg1)
      ∧ r.2.mem ((c.tc : Thread Cert.Post0Ideal.nD Cert.Post0Ideal.τ).loc Cert.Post0Ideal.main_arg2) = m ((c.tc : Thread Cert.Post0Ideal.nD Cert.Post0Ideal.τ).loc Cert.Post0Ideal.main_arg2)
      ∧ r.2.mem ((c.tc : Thread Cert.Post0Ideal.nD Cert.Post0Ideal.τ).loc Cert.Post0Ideal.main_arg3) = m ((c.tc : Thread Cert.Post0Ideal.nD Cert.Post0Ideal.τ).loc Cert.Post0Ideal.main_arg3)
      ∧ r.2.mem ((c.tc : Thread Cert.Post0Ideal.nD Cert.Post0Ideal.τ).loc Cert.Post0Ideal.main_arg4) = m ((c.tc : Thread Cert.Post0Ideal.nD Cert.Post0Ideal.τ).loc Cert.Post0Ideal.main_arg4)
      ∧ r.2.mem ((c.tc : Thread Cert.Post0Ideal.nD Cert.Post0Ideal.τ).loc Cert.Post0Ideal.main_arg5) = m ((c.tc : Thread Cert.Post0Ideal.nD Cert.Post0Ideal.τ).loc Cert.Post0Ideal.main_arg5)
      ∧ r.2.mem ((c.tc : Thread Cert.Post0Ideal.nD Cert.Post0Ideal.τ).loc Cert.Post0Ideal.main_arg6) = m ((c.tc : Thread Cert.Post0Ideal.nD Cert.Post0Ideal.τ).loc Cert.Post0Ideal.main_arg6)
      ∧ r.2.mem ((c.tc : Thread Cert.Post0Ideal.nD Cert.Post0Ideal.τ).loc Cert.Post0Ideal.main_arg7) = m ((c.tc : Thread Cert.Post0Ideal.nD Cert.Post0Ideal.τ).loc Cert.Post0Ideal.main_arg7))
      ∧ r.2.sem = fun _ => 0)

def quiescent_Post0ReferenceIdeal [hPost0ReferenceIdeal : Cert.Post0ReferenceIdeal.Facts] : Prop :=
  ∀ (m : (ℓ : Loc Cert.Post0ReferenceIdeal.nD Cert.Post0ReferenceIdeal.τ Cert.Post0ReferenceIdeal.sig) → Buf (Elt Ideal) ℓ) (g : Dev Cert.Post0ReferenceIdeal.nD → PrngReg), Pre_Post0ReferenceIdeal m →
    θ_run (Cert.Post0ReferenceIdeal.defs (F := Ideal)) (onTc (τ := Cert.Post0ReferenceIdeal.τ) (Cert.Post0ReferenceIdeal.main (F := Ideal))) ⟨m, fun _ => 0, g⟩ (fun r => (∀ c : Dev Cert.Post0ReferenceIdeal.nD,
      r.2.mem ((c.tc : Thread Cert.Post0ReferenceIdeal.nD Cert.Post0ReferenceIdeal.τ).loc Cert.Post0ReferenceIdeal.main_arg0) = m ((c.tc : Thread Cert.Post0ReferenceIdeal.nD Cert.Post0ReferenceIdeal.τ).loc Cert.Post0ReferenceIdeal.main_arg0)
      ∧ r.2.mem ((c.tc : Thread Cert.Post0ReferenceIdeal.nD Cert.Post0ReferenceIdeal.τ).loc Cert.Post0ReferenceIdeal.main_arg1) = m ((c.tc : Thread Cert.Post0ReferenceIdeal.nD Cert.Post0ReferenceIdeal.τ).loc Cert.Post0ReferenceIdeal.main_arg1)
      ∧ r.2.mem ((c.tc : Thread Cert.Post0ReferenceIdeal.nD Cert.Post0ReferenceIdeal.τ).loc Cert.Post0ReferenceIdeal.main_arg2) = m ((c.tc : Thread Cert.Post0ReferenceIdeal.nD Cert.Post0ReferenceIdeal.τ).loc Cert.Post0ReferenceIdeal.main_arg2)
      ∧ r.2.mem ((c.tc : Thread Cert.Post0ReferenceIdeal.nD Cert.Post0ReferenceIdeal.τ).loc Cert.Post0ReferenceIdeal.main_arg3) = m ((c.tc : Thread Cert.Post0ReferenceIdeal.nD Cert.Post0ReferenceIdeal.τ).loc Cert.Post0ReferenceIdeal.main_arg3)
      ∧ r.2.mem ((c.tc : Thread Cert.Post0ReferenceIdeal.nD Cert.Post0ReferenceIdeal.τ).loc Cert.Post0ReferenceIdeal.main_arg4) = m ((c.tc : Thread Cert.Post0ReferenceIdeal.nD Cert.Post0ReferenceIdeal.τ).loc Cert.Post0ReferenceIdeal.main_arg4)
      ∧ r.2.mem ((c.tc : Thread Cert.Post0ReferenceIdeal.nD Cert.Post0ReferenceIdeal.τ).loc Cert.Post0ReferenceIdeal.main_arg5) = m ((c.tc : Thread Cert.Post0ReferenceIdeal.nD Cert.Post0ReferenceIdeal.τ).loc Cert.Post0ReferenceIdeal.main_arg5)
      ∧ r.2.mem ((c.tc : Thread Cert.Post0ReferenceIdeal.nD Cert.Post0ReferenceIdeal.τ).loc Cert.Post0ReferenceIdeal.main_arg6) = m ((c.tc : Thread Cert.Post0ReferenceIdeal.nD Cert.Post0ReferenceIdeal.τ).loc Cert.Post0ReferenceIdeal.main_arg6)
      ∧ r.2.mem ((c.tc : Thread Cert.Post0ReferenceIdeal.nD Cert.Post0ReferenceIdeal.τ).loc Cert.Post0ReferenceIdeal.main_arg7) = m ((c.tc : Thread Cert.Post0ReferenceIdeal.nD Cert.Post0ReferenceIdeal.τ).loc Cert.Post0ReferenceIdeal.main_arg7))
      ∧ r.2.sem = fun _ => 0)

def quiescent_Post1 [hPost1 : Cert.Post1.Facts] : Prop :=
  ∀ (m : (ℓ : Loc Cert.Post1.nD Cert.Post1.τ Cert.Post1.sig) → Buf (Elt Bits) ℓ) (g : Dev Cert.Post1.nD → PrngReg), Pre_Post1 m →
    θ_run (Cert.Post1.defs (F := Bits)) (onTc (τ := Cert.Post1.τ) (Cert.Post1.main (F := Bits))) ⟨m, fun _ => 0, g⟩ (fun r => (∀ c : Dev Cert.Post1.nD,
      r.2.mem ((c.tc : Thread Cert.Post1.nD Cert.Post1.τ).loc Cert.Post1.main_arg0) = m ((c.tc : Thread Cert.Post1.nD Cert.Post1.τ).loc Cert.Post1.main_arg0)
      ∧ r.2.mem ((c.tc : Thread Cert.Post1.nD Cert.Post1.τ).loc Cert.Post1.main_arg1) = m ((c.tc : Thread Cert.Post1.nD Cert.Post1.τ).loc Cert.Post1.main_arg1)
      ∧ r.2.mem ((c.tc : Thread Cert.Post1.nD Cert.Post1.τ).loc Cert.Post1.main_arg2) = m ((c.tc : Thread Cert.Post1.nD Cert.Post1.τ).loc Cert.Post1.main_arg2)
      ∧ r.2.mem ((c.tc : Thread Cert.Post1.nD Cert.Post1.τ).loc Cert.Post1.main_arg3) = m ((c.tc : Thread Cert.Post1.nD Cert.Post1.τ).loc Cert.Post1.main_arg3)
      ∧ r.2.mem ((c.tc : Thread Cert.Post1.nD Cert.Post1.τ).loc Cert.Post1.main_arg4) = m ((c.tc : Thread Cert.Post1.nD Cert.Post1.τ).loc Cert.Post1.main_arg4)
      ∧ r.2.mem ((c.tc : Thread Cert.Post1.nD Cert.Post1.τ).loc Cert.Post1.main_arg5) = m ((c.tc : Thread Cert.Post1.nD Cert.Post1.τ).loc Cert.Post1.main_arg5)
      ∧ r.2.mem ((c.tc : Thread Cert.Post1.nD Cert.Post1.τ).loc Cert.Post1.main_arg6) = m ((c.tc : Thread Cert.Post1.nD Cert.Post1.τ).loc Cert.Post1.main_arg6)
      ∧ r.2.mem ((c.tc : Thread Cert.Post1.nD Cert.Post1.τ).loc Cert.Post1.main_arg7) = m ((c.tc : Thread Cert.Post1.nD Cert.Post1.τ).loc Cert.Post1.main_arg7))
      ∧ r.2.sem = fun _ => 0)

def quiescent_Post1Ideal [hPost1Ideal : Cert.Post1Ideal.Facts] : Prop :=
  ∀ (m : (ℓ : Loc Cert.Post1Ideal.nD Cert.Post1Ideal.τ Cert.Post1Ideal.sig) → Buf (Elt Ideal) ℓ) (g : Dev Cert.Post1Ideal.nD → PrngReg), Pre_Post1Ideal m →
    θ_run (Cert.Post1Ideal.defs (F := Ideal)) (onTc (τ := Cert.Post1Ideal.τ) (Cert.Post1Ideal.main (F := Ideal))) ⟨m, fun _ => 0, g⟩ (fun r => (∀ c : Dev Cert.Post1Ideal.nD,
      r.2.mem ((c.tc : Thread Cert.Post1Ideal.nD Cert.Post1Ideal.τ).loc Cert.Post1Ideal.main_arg0) = m ((c.tc : Thread Cert.Post1Ideal.nD Cert.Post1Ideal.τ).loc Cert.Post1Ideal.main_arg0)
      ∧ r.2.mem ((c.tc : Thread Cert.Post1Ideal.nD Cert.Post1Ideal.τ).loc Cert.Post1Ideal.main_arg1) = m ((c.tc : Thread Cert.Post1Ideal.nD Cert.Post1Ideal.τ).loc Cert.Post1Ideal.main_arg1)
      ∧ r.2.mem ((c.tc : Thread Cert.Post1Ideal.nD Cert.Post1Ideal.τ).loc Cert.Post1Ideal.main_arg2) = m ((c.tc : Thread Cert.Post1Ideal.nD Cert.Post1Ideal.τ).loc Cert.Post1Ideal.main_arg2)
      ∧ r.2.mem ((c.tc : Thread Cert.Post1Ideal.nD Cert.Post1Ideal.τ).loc Cert.Post1Ideal.main_arg3) = m ((c.tc : Thread Cert.Post1Ideal.nD Cert.Post1Ideal.τ).loc Cert.Post1Ideal.main_arg3)
      ∧ r.2.mem ((c.tc : Thread Cert.Post1Ideal.nD Cert.Post1Ideal.τ).loc Cert.Post1Ideal.main_arg4) = m ((c.tc : Thread Cert.Post1Ideal.nD Cert.Post1Ideal.τ).loc Cert.Post1Ideal.main_arg4)
      ∧ r.2.mem ((c.tc : Thread Cert.Post1Ideal.nD Cert.Post1Ideal.τ).loc Cert.Post1Ideal.main_arg5) = m ((c.tc : Thread Cert.Post1Ideal.nD Cert.Post1Ideal.τ).loc Cert.Post1Ideal.main_arg5)
      ∧ r.2.mem ((c.tc : Thread Cert.Post1Ideal.nD Cert.Post1Ideal.τ).loc Cert.Post1Ideal.main_arg6) = m ((c.tc : Thread Cert.Post1Ideal.nD Cert.Post1Ideal.τ).loc Cert.Post1Ideal.main_arg6)
      ∧ r.2.mem ((c.tc : Thread Cert.Post1Ideal.nD Cert.Post1Ideal.τ).loc Cert.Post1Ideal.main_arg7) = m ((c.tc : Thread Cert.Post1Ideal.nD Cert.Post1Ideal.τ).loc Cert.Post1Ideal.main_arg7))
      ∧ r.2.sem = fun _ => 0)

def quiescent_Post1ReferenceIdeal [hPost1ReferenceIdeal : Cert.Post1ReferenceIdeal.Facts] : Prop :=
  ∀ (m : (ℓ : Loc Cert.Post1ReferenceIdeal.nD Cert.Post1ReferenceIdeal.τ Cert.Post1ReferenceIdeal.sig) → Buf (Elt Ideal) ℓ) (g : Dev Cert.Post1ReferenceIdeal.nD → PrngReg), Pre_Post1ReferenceIdeal m →
    θ_run (Cert.Post1ReferenceIdeal.defs (F := Ideal)) (onTc (τ := Cert.Post1ReferenceIdeal.τ) (Cert.Post1ReferenceIdeal.main (F := Ideal))) ⟨m, fun _ => 0, g⟩ (fun r => (∀ c : Dev Cert.Post1ReferenceIdeal.nD,
      r.2.mem ((c.tc : Thread Cert.Post1ReferenceIdeal.nD Cert.Post1ReferenceIdeal.τ).loc Cert.Post1ReferenceIdeal.main_arg0) = m ((c.tc : Thread Cert.Post1ReferenceIdeal.nD Cert.Post1ReferenceIdeal.τ).loc Cert.Post1ReferenceIdeal.main_arg0)
      ∧ r.2.mem ((c.tc : Thread Cert.Post1ReferenceIdeal.nD Cert.Post1ReferenceIdeal.τ).loc Cert.Post1ReferenceIdeal.main_arg1) = m ((c.tc : Thread Cert.Post1ReferenceIdeal.nD Cert.Post1ReferenceIdeal.τ).loc Cert.Post1ReferenceIdeal.main_arg1)
      ∧ r.2.mem ((c.tc : Thread Cert.Post1ReferenceIdeal.nD Cert.Post1ReferenceIdeal.τ).loc Cert.Post1ReferenceIdeal.main_arg2) = m ((c.tc : Thread Cert.Post1ReferenceIdeal.nD Cert.Post1ReferenceIdeal.τ).loc Cert.Post1ReferenceIdeal.main_arg2)
      ∧ r.2.mem ((c.tc : Thread Cert.Post1ReferenceIdeal.nD Cert.Post1ReferenceIdeal.τ).loc Cert.Post1ReferenceIdeal.main_arg3) = m ((c.tc : Thread Cert.Post1ReferenceIdeal.nD Cert.Post1ReferenceIdeal.τ).loc Cert.Post1ReferenceIdeal.main_arg3)
      ∧ r.2.mem ((c.tc : Thread Cert.Post1ReferenceIdeal.nD Cert.Post1ReferenceIdeal.τ).loc Cert.Post1ReferenceIdeal.main_arg4) = m ((c.tc : Thread Cert.Post1ReferenceIdeal.nD Cert.Post1ReferenceIdeal.τ).loc Cert.Post1ReferenceIdeal.main_arg4)
      ∧ r.2.mem ((c.tc : Thread Cert.Post1ReferenceIdeal.nD Cert.Post1ReferenceIdeal.τ).loc Cert.Post1ReferenceIdeal.main_arg5) = m ((c.tc : Thread Cert.Post1ReferenceIdeal.nD Cert.Post1ReferenceIdeal.τ).loc Cert.Post1ReferenceIdeal.main_arg5)
      ∧ r.2.mem ((c.tc : Thread Cert.Post1ReferenceIdeal.nD Cert.Post1ReferenceIdeal.τ).loc Cert.Post1ReferenceIdeal.main_arg6) = m ((c.tc : Thread Cert.Post1ReferenceIdeal.nD Cert.Post1ReferenceIdeal.τ).loc Cert.Post1ReferenceIdeal.main_arg6)
      ∧ r.2.mem ((c.tc : Thread Cert.Post1ReferenceIdeal.nD Cert.Post1ReferenceIdeal.τ).loc Cert.Post1ReferenceIdeal.main_arg7) = m ((c.tc : Thread Cert.Post1ReferenceIdeal.nD Cert.Post1ReferenceIdeal.τ).loc Cert.Post1ReferenceIdeal.main_arg7))
      ∧ r.2.sem = fun _ => 0)

def quiescent_Post2 [hPost2 : Cert.Post2.Facts] : Prop :=
  ∀ (m : (ℓ : Loc Cert.Post2.nD Cert.Post2.τ Cert.Post2.sig) → Buf (Elt Bits) ℓ) (g : Dev Cert.Post2.nD → PrngReg), Pre_Post2 m →
    θ_run (Cert.Post2.defs (F := Bits)) (onTc (τ := Cert.Post2.τ) (Cert.Post2.main (F := Bits))) ⟨m, fun _ => 0, g⟩ (fun r => (∀ c : Dev Cert.Post2.nD,
      r.2.mem ((c.tc : Thread Cert.Post2.nD Cert.Post2.τ).loc Cert.Post2.main_arg0) = m ((c.tc : Thread Cert.Post2.nD Cert.Post2.τ).loc Cert.Post2.main_arg0)
      ∧ r.2.mem ((c.tc : Thread Cert.Post2.nD Cert.Post2.τ).loc Cert.Post2.main_arg1) = m ((c.tc : Thread Cert.Post2.nD Cert.Post2.τ).loc Cert.Post2.main_arg1)
      ∧ r.2.mem ((c.tc : Thread Cert.Post2.nD Cert.Post2.τ).loc Cert.Post2.main_arg2) = m ((c.tc : Thread Cert.Post2.nD Cert.Post2.τ).loc Cert.Post2.main_arg2)
      ∧ r.2.mem ((c.tc : Thread Cert.Post2.nD Cert.Post2.τ).loc Cert.Post2.main_arg3) = m ((c.tc : Thread Cert.Post2.nD Cert.Post2.τ).loc Cert.Post2.main_arg3)
      ∧ r.2.mem ((c.tc : Thread Cert.Post2.nD Cert.Post2.τ).loc Cert.Post2.main_arg4) = m ((c.tc : Thread Cert.Post2.nD Cert.Post2.τ).loc Cert.Post2.main_arg4)
      ∧ r.2.mem ((c.tc : Thread Cert.Post2.nD Cert.Post2.τ).loc Cert.Post2.main_arg5) = m ((c.tc : Thread Cert.Post2.nD Cert.Post2.τ).loc Cert.Post2.main_arg5)
      ∧ r.2.mem ((c.tc : Thread Cert.Post2.nD Cert.Post2.τ).loc Cert.Post2.main_arg6) = m ((c.tc : Thread Cert.Post2.nD Cert.Post2.τ).loc Cert.Post2.main_arg6)
      ∧ r.2.mem ((c.tc : Thread Cert.Post2.nD Cert.Post2.τ).loc Cert.Post2.main_arg7) = m ((c.tc : Thread Cert.Post2.nD Cert.Post2.τ).loc Cert.Post2.main_arg7))
      ∧ r.2.sem = fun _ => 0)

def quiescent_Post2Ideal [hPost2Ideal : Cert.Post2Ideal.Facts] : Prop :=
  ∀ (m : (ℓ : Loc Cert.Post2Ideal.nD Cert.Post2Ideal.τ Cert.Post2Ideal.sig) → Buf (Elt Ideal) ℓ) (g : Dev Cert.Post2Ideal.nD → PrngReg), Pre_Post2Ideal m →
    θ_run (Cert.Post2Ideal.defs (F := Ideal)) (onTc (τ := Cert.Post2Ideal.τ) (Cert.Post2Ideal.main (F := Ideal))) ⟨m, fun _ => 0, g⟩ (fun r => (∀ c : Dev Cert.Post2Ideal.nD,
      r.2.mem ((c.tc : Thread Cert.Post2Ideal.nD Cert.Post2Ideal.τ).loc Cert.Post2Ideal.main_arg0) = m ((c.tc : Thread Cert.Post2Ideal.nD Cert.Post2Ideal.τ).loc Cert.Post2Ideal.main_arg0)
      ∧ r.2.mem ((c.tc : Thread Cert.Post2Ideal.nD Cert.Post2Ideal.τ).loc Cert.Post2Ideal.main_arg1) = m ((c.tc : Thread Cert.Post2Ideal.nD Cert.Post2Ideal.τ).loc Cert.Post2Ideal.main_arg1)
      ∧ r.2.mem ((c.tc : Thread Cert.Post2Ideal.nD Cert.Post2Ideal.τ).loc Cert.Post2Ideal.main_arg2) = m ((c.tc : Thread Cert.Post2Ideal.nD Cert.Post2Ideal.τ).loc Cert.Post2Ideal.main_arg2)
      ∧ r.2.mem ((c.tc : Thread Cert.Post2Ideal.nD Cert.Post2Ideal.τ).loc Cert.Post2Ideal.main_arg3) = m ((c.tc : Thread Cert.Post2Ideal.nD Cert.Post2Ideal.τ).loc Cert.Post2Ideal.main_arg3)
      ∧ r.2.mem ((c.tc : Thread Cert.Post2Ideal.nD Cert.Post2Ideal.τ).loc Cert.Post2Ideal.main_arg4) = m ((c.tc : Thread Cert.Post2Ideal.nD Cert.Post2Ideal.τ).loc Cert.Post2Ideal.main_arg4)
      ∧ r.2.mem ((c.tc : Thread Cert.Post2Ideal.nD Cert.Post2Ideal.τ).loc Cert.Post2Ideal.main_arg5) = m ((c.tc : Thread Cert.Post2Ideal.nD Cert.Post2Ideal.τ).loc Cert.Post2Ideal.main_arg5)
      ∧ r.2.mem ((c.tc : Thread Cert.Post2Ideal.nD Cert.Post2Ideal.τ).loc Cert.Post2Ideal.main_arg6) = m ((c.tc : Thread Cert.Post2Ideal.nD Cert.Post2Ideal.τ).loc Cert.Post2Ideal.main_arg6)
      ∧ r.2.mem ((c.tc : Thread Cert.Post2Ideal.nD Cert.Post2Ideal.τ).loc Cert.Post2Ideal.main_arg7) = m ((c.tc : Thread Cert.Post2Ideal.nD Cert.Post2Ideal.τ).loc Cert.Post2Ideal.main_arg7))
      ∧ r.2.sem = fun _ => 0)

def quiescent_Post2ReferenceIdeal [hPost2ReferenceIdeal : Cert.Post2ReferenceIdeal.Facts] : Prop :=
  ∀ (m : (ℓ : Loc Cert.Post2ReferenceIdeal.nD Cert.Post2ReferenceIdeal.τ Cert.Post2ReferenceIdeal.sig) → Buf (Elt Ideal) ℓ) (g : Dev Cert.Post2ReferenceIdeal.nD → PrngReg), Pre_Post2ReferenceIdeal m →
    θ_run (Cert.Post2ReferenceIdeal.defs (F := Ideal)) (onTc (τ := Cert.Post2ReferenceIdeal.τ) (Cert.Post2ReferenceIdeal.main (F := Ideal))) ⟨m, fun _ => 0, g⟩ (fun r => (∀ c : Dev Cert.Post2ReferenceIdeal.nD,
      r.2.mem ((c.tc : Thread Cert.Post2ReferenceIdeal.nD Cert.Post2ReferenceIdeal.τ).loc Cert.Post2ReferenceIdeal.main_arg0) = m ((c.tc : Thread Cert.Post2ReferenceIdeal.nD Cert.Post2ReferenceIdeal.τ).loc Cert.Post2ReferenceIdeal.main_arg0)
      ∧ r.2.mem ((c.tc : Thread Cert.Post2ReferenceIdeal.nD Cert.Post2ReferenceIdeal.τ).loc Cert.Post2ReferenceIdeal.main_arg1) = m ((c.tc : Thread Cert.Post2ReferenceIdeal.nD Cert.Post2ReferenceIdeal.τ).loc Cert.Post2ReferenceIdeal.main_arg1)
      ∧ r.2.mem ((c.tc : Thread Cert.Post2ReferenceIdeal.nD Cert.Post2ReferenceIdeal.τ).loc Cert.Post2ReferenceIdeal.main_arg2) = m ((c.tc : Thread Cert.Post2ReferenceIdeal.nD Cert.Post2ReferenceIdeal.τ).loc Cert.Post2ReferenceIdeal.main_arg2)
      ∧ r.2.mem ((c.tc : Thread Cert.Post2ReferenceIdeal.nD Cert.Post2ReferenceIdeal.τ).loc Cert.Post2ReferenceIdeal.main_arg3) = m ((c.tc : Thread Cert.Post2ReferenceIdeal.nD Cert.Post2ReferenceIdeal.τ).loc Cert.Post2ReferenceIdeal.main_arg3)
      ∧ r.2.mem ((c.tc : Thread Cert.Post2ReferenceIdeal.nD Cert.Post2ReferenceIdeal.τ).loc Cert.Post2ReferenceIdeal.main_arg4) = m ((c.tc : Thread Cert.Post2ReferenceIdeal.nD Cert.Post2ReferenceIdeal.τ).loc Cert.Post2ReferenceIdeal.main_arg4)
      ∧ r.2.mem ((c.tc : Thread Cert.Post2ReferenceIdeal.nD Cert.Post2ReferenceIdeal.τ).loc Cert.Post2ReferenceIdeal.main_arg5) = m ((c.tc : Thread Cert.Post2ReferenceIdeal.nD Cert.Post2ReferenceIdeal.τ).loc Cert.Post2ReferenceIdeal.main_arg5)
      ∧ r.2.mem ((c.tc : Thread Cert.Post2ReferenceIdeal.nD Cert.Post2ReferenceIdeal.τ).loc Cert.Post2ReferenceIdeal.main_arg6) = m ((c.tc : Thread Cert.Post2ReferenceIdeal.nD Cert.Post2ReferenceIdeal.τ).loc Cert.Post2ReferenceIdeal.main_arg6)
      ∧ r.2.mem ((c.tc : Thread Cert.Post2ReferenceIdeal.nD Cert.Post2ReferenceIdeal.τ).loc Cert.Post2ReferenceIdeal.main_arg7) = m ((c.tc : Thread Cert.Post2ReferenceIdeal.nD Cert.Post2ReferenceIdeal.τ).loc Cert.Post2ReferenceIdeal.main_arg7))
      ∧ r.2.sem = fun _ => 0)

def quiescent_Post3 [hPost3 : Cert.Post3.Facts] : Prop :=
  ∀ (m : (ℓ : Loc Cert.Post3.nD Cert.Post3.τ Cert.Post3.sig) → Buf (Elt Bits) ℓ) (g : Dev Cert.Post3.nD → PrngReg), Pre_Post3 m →
    θ_run (Cert.Post3.defs (F := Bits)) (onTc (τ := Cert.Post3.τ) (Cert.Post3.main (F := Bits))) ⟨m, fun _ => 0, g⟩ (fun r => (∀ c : Dev Cert.Post3.nD,
      r.2.mem ((c.tc : Thread Cert.Post3.nD Cert.Post3.τ).loc Cert.Post3.main_arg0) = m ((c.tc : Thread Cert.Post3.nD Cert.Post3.τ).loc Cert.Post3.main_arg0)
      ∧ r.2.mem ((c.tc : Thread Cert.Post3.nD Cert.Post3.τ).loc Cert.Post3.main_arg1) = m ((c.tc : Thread Cert.Post3.nD Cert.Post3.τ).loc Cert.Post3.main_arg1)
      ∧ r.2.mem ((c.tc : Thread Cert.Post3.nD Cert.Post3.τ).loc Cert.Post3.main_arg2) = m ((c.tc : Thread Cert.Post3.nD Cert.Post3.τ).loc Cert.Post3.main_arg2)
      ∧ r.2.mem ((c.tc : Thread Cert.Post3.nD Cert.Post3.τ).loc Cert.Post3.main_arg3) = m ((c.tc : Thread Cert.Post3.nD Cert.Post3.τ).loc Cert.Post3.main_arg3)
      ∧ r.2.mem ((c.tc : Thread Cert.Post3.nD Cert.Post3.τ).loc Cert.Post3.main_arg4) = m ((c.tc : Thread Cert.Post3.nD Cert.Post3.τ).loc Cert.Post3.main_arg4)
      ∧ r.2.mem ((c.tc : Thread Cert.Post3.nD Cert.Post3.τ).loc Cert.Post3.main_arg5) = m ((c.tc : Thread Cert.Post3.nD Cert.Post3.τ).loc Cert.Post3.main_arg5)
      ∧ r.2.mem ((c.tc : Thread Cert.Post3.nD Cert.Post3.τ).loc Cert.Post3.main_arg6) = m ((c.tc : Thread Cert.Post3.nD Cert.Post3.τ).loc Cert.Post3.main_arg6)
      ∧ r.2.mem ((c.tc : Thread Cert.Post3.nD Cert.Post3.τ).loc Cert.Post3.main_arg7) = m ((c.tc : Thread Cert.Post3.nD Cert.Post3.τ).loc Cert.Post3.main_arg7))
      ∧ r.2.sem = fun _ => 0)

def quiescent_Post3Ideal [hPost3Ideal : Cert.Post3Ideal.Facts] : Prop :=
  ∀ (m : (ℓ : Loc Cert.Post3Ideal.nD Cert.Post3Ideal.τ Cert.Post3Ideal.sig) → Buf (Elt Ideal) ℓ) (g : Dev Cert.Post3Ideal.nD → PrngReg), Pre_Post3Ideal m →
    θ_run (Cert.Post3Ideal.defs (F := Ideal)) (onTc (τ := Cert.Post3Ideal.τ) (Cert.Post3Ideal.main (F := Ideal))) ⟨m, fun _ => 0, g⟩ (fun r => (∀ c : Dev Cert.Post3Ideal.nD,
      r.2.mem ((c.tc : Thread Cert.Post3Ideal.nD Cert.Post3Ideal.τ).loc Cert.Post3Ideal.main_arg0) = m ((c.tc : Thread Cert.Post3Ideal.nD Cert.Post3Ideal.τ).loc Cert.Post3Ideal.main_arg0)
      ∧ r.2.mem ((c.tc : Thread Cert.Post3Ideal.nD Cert.Post3Ideal.τ).loc Cert.Post3Ideal.main_arg1) = m ((c.tc : Thread Cert.Post3Ideal.nD Cert.Post3Ideal.τ).loc Cert.Post3Ideal.main_arg1)
      ∧ r.2.mem ((c.tc : Thread Cert.Post3Ideal.nD Cert.Post3Ideal.τ).loc Cert.Post3Ideal.main_arg2) = m ((c.tc : Thread Cert.Post3Ideal.nD Cert.Post3Ideal.τ).loc Cert.Post3Ideal.main_arg2)
      ∧ r.2.mem ((c.tc : Thread Cert.Post3Ideal.nD Cert.Post3Ideal.τ).loc Cert.Post3Ideal.main_arg3) = m ((c.tc : Thread Cert.Post3Ideal.nD Cert.Post3Ideal.τ).loc Cert.Post3Ideal.main_arg3)
      ∧ r.2.mem ((c.tc : Thread Cert.Post3Ideal.nD Cert.Post3Ideal.τ).loc Cert.Post3Ideal.main_arg4) = m ((c.tc : Thread Cert.Post3Ideal.nD Cert.Post3Ideal.τ).loc Cert.Post3Ideal.main_arg4)
      ∧ r.2.mem ((c.tc : Thread Cert.Post3Ideal.nD Cert.Post3Ideal.τ).loc Cert.Post3Ideal.main_arg5) = m ((c.tc : Thread Cert.Post3Ideal.nD Cert.Post3Ideal.τ).loc Cert.Post3Ideal.main_arg5)
      ∧ r.2.mem ((c.tc : Thread Cert.Post3Ideal.nD Cert.Post3Ideal.τ).loc Cert.Post3Ideal.main_arg6) = m ((c.tc : Thread Cert.Post3Ideal.nD Cert.Post3Ideal.τ).loc Cert.Post3Ideal.main_arg6)
      ∧ r.2.mem ((c.tc : Thread Cert.Post3Ideal.nD Cert.Post3Ideal.τ).loc Cert.Post3Ideal.main_arg7) = m ((c.tc : Thread Cert.Post3Ideal.nD Cert.Post3Ideal.τ).loc Cert.Post3Ideal.main_arg7))
      ∧ r.2.sem = fun _ => 0)

def quiescent_Post3ReferenceIdeal [hPost3ReferenceIdeal : Cert.Post3ReferenceIdeal.Facts] : Prop :=
  ∀ (m : (ℓ : Loc Cert.Post3ReferenceIdeal.nD Cert.Post3ReferenceIdeal.τ Cert.Post3ReferenceIdeal.sig) → Buf (Elt Ideal) ℓ) (g : Dev Cert.Post3ReferenceIdeal.nD → PrngReg), Pre_Post3ReferenceIdeal m →
    θ_run (Cert.Post3ReferenceIdeal.defs (F := Ideal)) (onTc (τ := Cert.Post3ReferenceIdeal.τ) (Cert.Post3ReferenceIdeal.main (F := Ideal))) ⟨m, fun _ => 0, g⟩ (fun r => (∀ c : Dev Cert.Post3ReferenceIdeal.nD,
      r.2.mem ((c.tc : Thread Cert.Post3ReferenceIdeal.nD Cert.Post3ReferenceIdeal.τ).loc Cert.Post3ReferenceIdeal.main_arg0) = m ((c.tc : Thread Cert.Post3ReferenceIdeal.nD Cert.Post3ReferenceIdeal.τ).loc Cert.Post3ReferenceIdeal.main_arg0)
      ∧ r.2.mem ((c.tc : Thread Cert.Post3ReferenceIdeal.nD Cert.Post3ReferenceIdeal.τ).loc Cert.Post3ReferenceIdeal.main_arg1) = m ((c.tc : Thread Cert.Post3ReferenceIdeal.nD Cert.Post3ReferenceIdeal.τ).loc Cert.Post3ReferenceIdeal.main_arg1)
      ∧ r.2.mem ((c.tc : Thread Cert.Post3ReferenceIdeal.nD Cert.Post3ReferenceIdeal.τ).loc Cert.Post3ReferenceIdeal.main_arg2) = m ((c.tc : Thread Cert.Post3ReferenceIdeal.nD Cert.Post3ReferenceIdeal.τ).loc Cert.Post3ReferenceIdeal.main_arg2)
      ∧ r.2.mem ((c.tc : Thread Cert.Post3ReferenceIdeal.nD Cert.Post3ReferenceIdeal.τ).loc Cert.Post3ReferenceIdeal.main_arg3) = m ((c.tc : Thread Cert.Post3ReferenceIdeal.nD Cert.Post3ReferenceIdeal.τ).loc Cert.Post3ReferenceIdeal.main_arg3)
      ∧ r.2.mem ((c.tc : Thread Cert.Post3ReferenceIdeal.nD Cert.Post3ReferenceIdeal.τ).loc Cert.Post3ReferenceIdeal.main_arg4) = m ((c.tc : Thread Cert.Post3ReferenceIdeal.nD Cert.Post3ReferenceIdeal.τ).loc Cert.Post3ReferenceIdeal.main_arg4)
      ∧ r.2.mem ((c.tc : Thread Cert.Post3ReferenceIdeal.nD Cert.Post3ReferenceIdeal.τ).loc Cert.Post3ReferenceIdeal.main_arg5) = m ((c.tc : Thread Cert.Post3ReferenceIdeal.nD Cert.Post3ReferenceIdeal.τ).loc Cert.Post3ReferenceIdeal.main_arg5)
      ∧ r.2.mem ((c.tc : Thread Cert.Post3ReferenceIdeal.nD Cert.Post3ReferenceIdeal.τ).loc Cert.Post3ReferenceIdeal.main_arg6) = m ((c.tc : Thread Cert.Post3ReferenceIdeal.nD Cert.Post3ReferenceIdeal.τ).loc Cert.Post3ReferenceIdeal.main_arg6)
      ∧ r.2.mem ((c.tc : Thread Cert.Post3ReferenceIdeal.nD Cert.Post3ReferenceIdeal.τ).loc Cert.Post3ReferenceIdeal.main_arg7) = m ((c.tc : Thread Cert.Post3ReferenceIdeal.nD Cert.Post3ReferenceIdeal.τ).loc Cert.Post3ReferenceIdeal.main_arg7))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3)
      ∧ r.2.mem ((c.tc : Thread Cert.CompressReferenceIdeal.nD Cert.CompressReferenceIdeal.τ).loc Cert.CompressReferenceIdeal.main_arg4) = m ((c.tc : Thread Cert.CompressReferenceIdeal.nD Cert.CompressReferenceIdeal.τ).loc Cert.CompressReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_layout [hKernelIdeal : Cert.KernelIdeal.Facts] [hReferenceIdeal : Cert.ReferenceIdeal.Facts] [hPre_layout : Cert.Pre_layout.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_layout m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Early_EarlyIdeal : Prop :=
  IdealRules.named_const.Statement Cert.EarlyIdeal.κ "mask" .f32 0xF149F2CA#32 ⊥

def algebraic_EarlyIdeal_EarlyReferenceIdeal_pre_layout [hEarlyIdeal : Cert.EarlyIdeal.Facts] [hEarlyReferenceIdeal : Cert.EarlyReferenceIdeal.Facts] [hPre_layout : Cert.Pre_layout.Facts] : Prop :=
  ∀ (m : (ℓ : Loc Cert.EarlyIdeal.nD Cert.EarlyIdeal.τ Cert.EarlyIdeal.sig) → Buf (Elt Ideal) ℓ) (g : Dev Cert.EarlyIdeal.nD → PrngReg)
    (m' : (ℓ : Loc Cert.EarlyReferenceIdeal.nD Cert.EarlyReferenceIdeal.τ Cert.EarlyReferenceIdeal.sig) → Buf (Elt Ideal) ℓ) (g' : Dev Cert.EarlyReferenceIdeal.nD → PrngReg), Pre_EarlyIdeal_layout m →
    (∀ c : Dev Cert.EarlyIdeal.nD,
      m' ((c.tc : Thread Cert.EarlyReferenceIdeal.nD Cert.EarlyReferenceIdeal.τ).loc Cert.EarlyReferenceIdeal.main_arg0) = m ((c.tc : Thread Cert.EarlyIdeal.nD Cert.EarlyIdeal.τ).loc Cert.EarlyIdeal.main_arg0)
      ∧ m' ((c.tc : Thread Cert.EarlyReferenceIdeal.nD Cert.EarlyReferenceIdeal.τ).loc Cert.EarlyReferenceIdeal.main_arg1) = m ((c.tc : Thread Cert.EarlyIdeal.nD Cert.EarlyIdeal.τ).loc Cert.EarlyIdeal.main_arg1)
      ∧ m' ((c.tc : Thread Cert.EarlyReferenceIdeal.nD Cert.EarlyReferenceIdeal.τ).loc Cert.EarlyReferenceIdeal.main_arg2) = m ((c.tc : Thread Cert.EarlyIdeal.nD Cert.EarlyIdeal.τ).loc Cert.EarlyIdeal.main_arg2)
      ∧ m' ((c.tc : Thread Cert.EarlyReferenceIdeal.nD Cert.EarlyReferenceIdeal.τ).loc Cert.EarlyReferenceIdeal.main_arg3) = m ((c.tc : Thread Cert.EarlyIdeal.nD Cert.EarlyIdeal.τ).loc Cert.EarlyIdeal.main_arg3)
      ∧ m' ((c.tc : Thread Cert.EarlyReferenceIdeal.nD Cert.EarlyReferenceIdeal.τ).loc Cert.EarlyReferenceIdeal.main_arg4) = m ((c.tc : Thread Cert.EarlyIdeal.nD Cert.EarlyIdeal.τ).loc Cert.EarlyIdeal.main_arg4)
      ∧ m' ((c.tc : Thread Cert.EarlyReferenceIdeal.nD Cert.EarlyReferenceIdeal.τ).loc Cert.EarlyReferenceIdeal.main_arg5) = m ((c.tc : Thread Cert.EarlyIdeal.nD Cert.EarlyIdeal.τ).loc Cert.EarlyIdeal.main_arg5)) →
    ∃ (v0 : (c : Dev Cert.EarlyIdeal.nD) → Buf (Elt Ideal) ((c.tc : Thread Cert.EarlyIdeal.nD Cert.EarlyIdeal.τ).loc Cert.EarlyIdeal.main_v0)),
      θ_run (Cert.EarlyIdeal.defs (F := Ideal)) (onTc (τ := Cert.EarlyIdeal.τ) (Cert.EarlyIdeal.main (F := Ideal))) ⟨m, fun _ => 0, g⟩ (fun r => ∀ c : Dev Cert.EarlyIdeal.nD,
          r.2.mem ((c.tc : Thread Cert.EarlyIdeal.nD Cert.EarlyIdeal.τ).loc Cert.EarlyIdeal.main_v0) = v0 c
          ∧ r.2.mem ((c.tc : Thread Cert.EarlyIdeal.nD Cert.EarlyIdeal.τ).loc Cert.EarlyIdeal.main_arg0) = m ((c.tc : Thread Cert.EarlyIdeal.nD Cert.EarlyIdeal.τ).loc Cert.EarlyIdeal.main_arg0)
          ∧ r.2.mem ((c.tc : Thread Cert.EarlyIdeal.nD Cert.EarlyIdeal.τ).loc Cert.EarlyIdeal.main_arg1) = m ((c.tc : Thread Cert.EarlyIdeal.nD Cert.EarlyIdeal.τ).loc Cert.EarlyIdeal.main_arg1)
          ∧ r.2.mem ((c.tc : Thread Cert.EarlyIdeal.nD Cert.EarlyIdeal.τ).loc Cert.EarlyIdeal.main_arg2) = m ((c.tc : Thread Cert.EarlyIdeal.nD Cert.EarlyIdeal.τ).loc Cert.EarlyIdeal.main_arg2)
          ∧ r.2.mem ((c.tc : Thread Cert.EarlyIdeal.nD Cert.EarlyIdeal.τ).loc Cert.EarlyIdeal.main_arg3) = m ((c.tc : Thread Cert.EarlyIdeal.nD Cert.EarlyIdeal.τ).loc Cert.EarlyIdeal.main_arg3)
          ∧ r.2.mem ((c.tc : Thread Cert.EarlyIdeal.nD Cert.EarlyIdeal.τ).loc Cert.EarlyIdeal.main_arg4) = m ((c.tc : Thread Cert.EarlyIdeal.nD Cert.EarlyIdeal.τ).loc Cert.EarlyIdeal.main_arg4)
          ∧ r.2.mem ((c.tc : Thread Cert.EarlyIdeal.nD Cert.EarlyIdeal.τ).loc Cert.EarlyIdeal.main_arg5) = m ((c.tc : Thread Cert.EarlyIdeal.nD Cert.EarlyIdeal.τ).loc Cert.EarlyIdeal.main_arg5))
      ∧ θ_run (Cert.EarlyReferenceIdeal.defs (F := Ideal)) (onTc (τ := Cert.EarlyReferenceIdeal.τ) (Cert.EarlyReferenceIdeal.main (F := Ideal))) ⟨m', fun _ => 0, g'⟩ (fun r => ∀ c : Dev Cert.EarlyReferenceIdeal.nD,
          r.2.mem ((c.tc : Thread Cert.EarlyReferenceIdeal.nD Cert.EarlyReferenceIdeal.τ).loc Cert.EarlyReferenceIdeal.main_v70) = v0 c
          ∧ r.2.mem ((c.tc : Thread Cert.EarlyReferenceIdeal.nD Cert.EarlyReferenceIdeal.τ).loc Cert.EarlyReferenceIdeal.main_arg0) = m' ((c.tc : Thread Cert.EarlyReferenceIdeal.nD Cert.EarlyReferenceIdeal.τ).loc Cert.EarlyReferenceIdeal.main_arg0)
          ∧ r.2.mem ((c.tc : Thread Cert.EarlyReferenceIdeal.nD Cert.EarlyReferenceIdeal.τ).loc Cert.EarlyReferenceIdeal.main_arg1) = m' ((c.tc : Thread Cert.EarlyReferenceIdeal.nD Cert.EarlyReferenceIdeal.τ).loc Cert.EarlyReferenceIdeal.main_arg1)
          ∧ r.2.mem ((c.tc : Thread Cert.EarlyReferenceIdeal.nD Cert.EarlyReferenceIdeal.τ).loc Cert.EarlyReferenceIdeal.main_arg2) = m' ((c.tc : Thread Cert.EarlyReferenceIdeal.nD Cert.EarlyReferenceIdeal.τ).loc Cert.EarlyReferenceIdeal.main_arg2)
          ∧ r.2.mem ((c.tc : Thread Cert.EarlyReferenceIdeal.nD Cert.EarlyReferenceIdeal.τ).loc Cert.EarlyReferenceIdeal.main_arg3) = m' ((c.tc : Thread Cert.EarlyReferenceIdeal.nD Cert.EarlyReferenceIdeal.τ).loc Cert.EarlyReferenceIdeal.main_arg3)
          ∧ r.2.mem ((c.tc : Thread Cert.EarlyReferenceIdeal.nD Cert.EarlyReferenceIdeal.τ).loc Cert.EarlyReferenceIdeal.main_arg4) = m' ((c.tc : Thread Cert.EarlyReferenceIdeal.nD Cert.EarlyReferenceIdeal.τ).loc Cert.EarlyReferenceIdeal.main_arg4)
          ∧ r.2.mem ((c.tc : Thread Cert.EarlyReferenceIdeal.nD Cert.EarlyReferenceIdeal.τ).loc Cert.EarlyReferenceIdeal.main_arg5) = m' ((c.tc : Thread Cert.EarlyReferenceIdeal.nD Cert.EarlyReferenceIdeal.τ).loc Cert.EarlyReferenceIdeal.main_arg5))

def preserves_MobaProj_MobaProjIdeal : Prop :=
  True

def algebraic_MobaProjIdeal_MobaProjReferenceIdeal [hMobaProjIdeal : Cert.MobaProjIdeal.Facts] [hMobaProjReferenceIdeal : Cert.MobaProjReferenceIdeal.Facts] : Prop :=
  ∀ (m : (ℓ : Loc Cert.MobaProjIdeal.nD Cert.MobaProjIdeal.τ Cert.MobaProjIdeal.sig) → Buf (Elt Ideal) ℓ) (g : Dev Cert.MobaProjIdeal.nD → PrngReg)
    (m' : (ℓ : Loc Cert.MobaProjReferenceIdeal.nD Cert.MobaProjReferenceIdeal.τ Cert.MobaProjReferenceIdeal.sig) → Buf (Elt Ideal) ℓ) (g' : Dev Cert.MobaProjReferenceIdeal.nD → PrngReg), Pre_MobaProjIdeal m →
    (∀ c : Dev Cert.MobaProjIdeal.nD,
      m' ((c.tc : Thread Cert.MobaProjReferenceIdeal.nD Cert.MobaProjReferenceIdeal.τ).loc Cert.MobaProjReferenceIdeal.main_arg0) = m ((c.tc : Thread Cert.MobaProjIdeal.nD Cert.MobaProjIdeal.τ).loc Cert.MobaProjIdeal.main_arg0)
      ∧ m' ((c.tc : Thread Cert.MobaProjReferenceIdeal.nD Cert.MobaProjReferenceIdeal.τ).loc Cert.MobaProjReferenceIdeal.main_arg1) = m ((c.tc : Thread Cert.MobaProjIdeal.nD Cert.MobaProjIdeal.τ).loc Cert.MobaProjIdeal.main_arg1)
      ∧ m' ((c.tc : Thread Cert.MobaProjReferenceIdeal.nD Cert.MobaProjReferenceIdeal.τ).loc Cert.MobaProjReferenceIdeal.main_arg2) = m ((c.tc : Thread Cert.MobaProjIdeal.nD Cert.MobaProjIdeal.τ).loc Cert.MobaProjIdeal.main_arg2)) →
    ∃ (v0 : (c : Dev Cert.MobaProjIdeal.nD) → Buf (Elt Ideal) ((c.tc : Thread Cert.MobaProjIdeal.nD Cert.MobaProjIdeal.τ).loc Cert.MobaProjIdeal.main_v2)),
      θ_run (Cert.MobaProjIdeal.defs (F := Ideal)) (onTc (τ := Cert.MobaProjIdeal.τ) (Cert.MobaProjIdeal.main (F := Ideal))) ⟨m, fun _ => 0, g⟩ (fun r => ∀ c : Dev Cert.MobaProjIdeal.nD,
          r.2.mem ((c.tc : Thread Cert.MobaProjIdeal.nD Cert.MobaProjIdeal.τ).loc Cert.MobaProjIdeal.main_v2) = v0 c
          ∧ r.2.mem ((c.tc : Thread Cert.MobaProjIdeal.nD Cert.MobaProjIdeal.τ).loc Cert.MobaProjIdeal.main_arg0) = m ((c.tc : Thread Cert.MobaProjIdeal.nD Cert.MobaProjIdeal.τ).loc Cert.MobaProjIdeal.main_arg0)
          ∧ r.2.mem ((c.tc : Thread Cert.MobaProjIdeal.nD Cert.MobaProjIdeal.τ).loc Cert.MobaProjIdeal.main_arg1) = m ((c.tc : Thread Cert.MobaProjIdeal.nD Cert.MobaProjIdeal.τ).loc Cert.MobaProjIdeal.main_arg1)
          ∧ r.2.mem ((c.tc : Thread Cert.MobaProjIdeal.nD Cert.MobaProjIdeal.τ).loc Cert.MobaProjIdeal.main_arg2) = m ((c.tc : Thread Cert.MobaProjIdeal.nD Cert.MobaProjIdeal.τ).loc Cert.MobaProjIdeal.main_arg2))
      ∧ θ_run (Cert.MobaProjReferenceIdeal.defs (F := Ideal)) (onTc (τ := Cert.MobaProjReferenceIdeal.τ) (Cert.MobaProjReferenceIdeal.main (F := Ideal))) ⟨m', fun _ => 0, g'⟩ (fun r => ∀ c : Dev Cert.MobaProjReferenceIdeal.nD,
          r.2.mem ((c.tc : Thread Cert.MobaProjReferenceIdeal.nD Cert.MobaProjReferenceIdeal.τ).loc Cert.MobaProjReferenceIdeal.main_v13) = v0 c
          ∧ r.2.mem ((c.tc : Thread Cert.MobaProjReferenceIdeal.nD Cert.MobaProjReferenceIdeal.τ).loc Cert.MobaProjReferenceIdeal.main_arg0) = m' ((c.tc : Thread Cert.MobaProjReferenceIdeal.nD Cert.MobaProjReferenceIdeal.τ).loc Cert.MobaProjReferenceIdeal.main_arg0)
          ∧ r.2.mem ((c.tc : Thread Cert.MobaProjReferenceIdeal.nD Cert.MobaProjReferenceIdeal.τ).loc Cert.MobaProjReferenceIdeal.main_arg1) = m' ((c.tc : Thread Cert.MobaProjReferenceIdeal.nD Cert.MobaProjReferenceIdeal.τ).loc Cert.MobaProjReferenceIdeal.main_arg1)
          ∧ r.2.mem ((c.tc : Thread Cert.MobaProjReferenceIdeal.nD Cert.MobaProjReferenceIdeal.τ).loc Cert.MobaProjReferenceIdeal.main_arg2) = m' ((c.tc : Thread Cert.MobaProjReferenceIdeal.nD Cert.MobaProjReferenceIdeal.τ).loc Cert.MobaProjReferenceIdeal.main_arg2))

def preserves_NsaProj_NsaProjIdeal : Prop :=
  True

def algebraic_NsaProjIdeal_NsaProjReferenceIdeal [hNsaProjIdeal : Cert.NsaProjIdeal.Facts] [hNsaProjReferenceIdeal : Cert.NsaProjReferenceIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg)
    (m' : (ℓ : Loc Cert.NsaProjReferenceIdeal.nD Cert.NsaProjReferenceIdeal.τ Cert.NsaProjReferenceIdeal.sig) → Buf (Elt Ideal) ℓ) (g' : Dev Cert.NsaProjReferenceIdeal.nD → PrngReg), Pre_NsaProjIdeal m →
    (∀ c : Dev Cert.NsaProjIdeal.nD,
      m' ((c.tc : Thread Cert.NsaProjReferenceIdeal.nD Cert.NsaProjReferenceIdeal.τ).loc Cert.NsaProjReferenceIdeal.main_arg0) = m ((c.tc : Thread Cert.NsaProjIdeal.nD Cert.NsaProjIdeal.τ).loc Cert.NsaProjIdeal.main_arg0)
      ∧ m' ((c.tc : Thread Cert.NsaProjReferenceIdeal.nD Cert.NsaProjReferenceIdeal.τ).loc Cert.NsaProjReferenceIdeal.main_arg1) = m ((c.tc : Thread Cert.NsaProjIdeal.nD Cert.NsaProjIdeal.τ).loc Cert.NsaProjIdeal.main_arg1)
      ∧ m' ((c.tc : Thread Cert.NsaProjReferenceIdeal.nD Cert.NsaProjReferenceIdeal.τ).loc Cert.NsaProjReferenceIdeal.main_arg2) = m ((c.tc : Thread Cert.NsaProjIdeal.nD Cert.NsaProjIdeal.τ).loc Cert.NsaProjIdeal.main_arg2)) →
    ∃ (v0 : (c : Dev Cert.NsaProjIdeal.nD) → Buf (Elt Ideal) ((c.tc : Thread Cert.NsaProjIdeal.nD Cert.NsaProjIdeal.τ).loc Cert.NsaProjIdeal.main_v2)),
      θ_run (Cert.NsaProjIdeal.defs (F := Ideal)) (onTc (τ := Cert.NsaProjIdeal.τ) (Cert.NsaProjIdeal.main (F := Ideal))) ⟨m, fun _ => 0, g⟩ (fun r => ∀ c : Dev Cert.NsaProjIdeal.nD,
          r.2.mem ((c.tc : Thread Cert.NsaProjIdeal.nD Cert.NsaProjIdeal.τ).loc Cert.NsaProjIdeal.main_v2) = v0 c
          ∧ r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
          ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
          ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2))
      ∧ θ_run (Cert.NsaProjReferenceIdeal.defs (F := Ideal)) (onTc (τ := Cert.NsaProjReferenceIdeal.τ) (Cert.NsaProjReferenceIdeal.main (F := Ideal))) ⟨m', fun _ => 0, g'⟩ (fun r => ∀ c : Dev Cert.NsaProjReferenceIdeal.nD,
          r.2.mem ((c.tc : Thread Cert.NsaProjReferenceIdeal.nD Cert.NsaProjReferenceIdeal.τ).loc Cert.NsaProjReferenceIdeal.main_v13) = v0 c
          ∧ r.2.mem ((c.tc : Thread Cert.NsaProjReferenceIdeal.nD Cert.NsaProjReferenceIdeal.τ).loc Cert.NsaProjReferenceIdeal.main_arg0) = m' ((c.tc : Thread Cert.NsaProjReferenceIdeal.nD Cert.NsaProjReferenceIdeal.τ).loc Cert.NsaProjReferenceIdeal.main_arg0)
          ∧ r.2.mem ((c.tc : Thread Cert.NsaProjReferenceIdeal.nD Cert.NsaProjReferenceIdeal.τ).loc Cert.NsaProjReferenceIdeal.main_arg1) = m' ((c.tc : Thread Cert.NsaProjReferenceIdeal.nD Cert.NsaProjReferenceIdeal.τ).loc Cert.NsaProjReferenceIdeal.main_arg1)
          ∧ r.2.mem ((c.tc : Thread Cert.NsaProjReferenceIdeal.nD Cert.NsaProjReferenceIdeal.τ).loc Cert.NsaProjReferenceIdeal.main_arg2) = m' ((c.tc : Thread Cert.NsaProjReferenceIdeal.nD Cert.NsaProjReferenceIdeal.τ).loc Cert.NsaProjReferenceIdeal.main_arg2))

def preserves_Post0_Post0Ideal : Prop :=
  True

def algebraic_Post0Ideal_Post0ReferenceIdeal [hPost0Ideal : Cert.Post0Ideal.Facts] [hPost0ReferenceIdeal : Cert.Post0ReferenceIdeal.Facts] : Prop :=
  ∀ (m : (ℓ : Loc Cert.Post0Ideal.nD Cert.Post0Ideal.τ Cert.Post0Ideal.sig) → Buf (Elt Ideal) ℓ) (g : Dev Cert.Post0Ideal.nD → PrngReg)
    (m' : (ℓ : Loc Cert.Post0ReferenceIdeal.nD Cert.Post0ReferenceIdeal.τ Cert.Post0ReferenceIdeal.sig) → Buf (Elt Ideal) ℓ) (g' : Dev Cert.Post0ReferenceIdeal.nD → PrngReg), Pre_Post0Ideal m →
    (∀ c : Dev Cert.Post0Ideal.nD,
      m' ((c.tc : Thread Cert.Post0ReferenceIdeal.nD Cert.Post0ReferenceIdeal.τ).loc Cert.Post0ReferenceIdeal.main_arg0) = m ((c.tc : Thread Cert.Post0Ideal.nD Cert.Post0Ideal.τ).loc Cert.Post0Ideal.main_arg0)
      ∧ m' ((c.tc : Thread Cert.Post0ReferenceIdeal.nD Cert.Post0ReferenceIdeal.τ).loc Cert.Post0ReferenceIdeal.main_arg1) = m ((c.tc : Thread Cert.Post0Ideal.nD Cert.Post0Ideal.τ).loc Cert.Post0Ideal.main_arg1)
      ∧ m' ((c.tc : Thread Cert.Post0ReferenceIdeal.nD Cert.Post0ReferenceIdeal.τ).loc Cert.Post0ReferenceIdeal.main_arg2) = m ((c.tc : Thread Cert.Post0Ideal.nD Cert.Post0Ideal.τ).loc Cert.Post0Ideal.main_arg2)
      ∧ m' ((c.tc : Thread Cert.Post0ReferenceIdeal.nD Cert.Post0ReferenceIdeal.τ).loc Cert.Post0ReferenceIdeal.main_arg3) = m ((c.tc : Thread Cert.Post0Ideal.nD Cert.Post0Ideal.τ).loc Cert.Post0Ideal.main_arg3)
      ∧ m' ((c.tc : Thread Cert.Post0ReferenceIdeal.nD Cert.Post0ReferenceIdeal.τ).loc Cert.Post0ReferenceIdeal.main_arg4) = m ((c.tc : Thread Cert.Post0Ideal.nD Cert.Post0Ideal.τ).loc Cert.Post0Ideal.main_arg4)
      ∧ m' ((c.tc : Thread Cert.Post0ReferenceIdeal.nD Cert.Post0ReferenceIdeal.τ).loc Cert.Post0ReferenceIdeal.main_arg5) = m ((c.tc : Thread Cert.Post0Ideal.nD Cert.Post0Ideal.τ).loc Cert.Post0Ideal.main_arg5)
      ∧ m' ((c.tc : Thread Cert.Post0ReferenceIdeal.nD Cert.Post0ReferenceIdeal.τ).loc Cert.Post0ReferenceIdeal.main_arg6) = m ((c.tc : Thread Cert.Post0Ideal.nD Cert.Post0Ideal.τ).loc Cert.Post0Ideal.main_arg6)
      ∧ m' ((c.tc : Thread Cert.Post0ReferenceIdeal.nD Cert.Post0ReferenceIdeal.τ).loc Cert.Post0ReferenceIdeal.main_arg7) = m ((c.tc : Thread Cert.Post0Ideal.nD Cert.Post0Ideal.τ).loc Cert.Post0Ideal.main_arg7)) →
    ∃ (v0 : (c : Dev Cert.Post0Ideal.nD) → Buf (Elt Ideal) ((c.tc : Thread Cert.Post0Ideal.nD Cert.Post0Ideal.τ).loc Cert.Post0Ideal.main_v4)),
      θ_run (Cert.Post0Ideal.defs (F := Ideal)) (onTc (τ := Cert.Post0Ideal.τ) (Cert.Post0Ideal.main (F := Ideal))) ⟨m, fun _ => 0, g⟩ (fun r => ∀ c : Dev Cert.Post0Ideal.nD,
          r.2.mem ((c.tc : Thread Cert.Post0Ideal.nD Cert.Post0Ideal.τ).loc Cert.Post0Ideal.main_v4) = v0 c
          ∧ r.2.mem ((c.tc : Thread Cert.Post0Ideal.nD Cert.Post0Ideal.τ).loc Cert.Post0Ideal.main_arg0) = m ((c.tc : Thread Cert.Post0Ideal.nD Cert.Post0Ideal.τ).loc Cert.Post0Ideal.main_arg0)
          ∧ r.2.mem ((c.tc : Thread Cert.Post0Ideal.nD Cert.Post0Ideal.τ).loc Cert.Post0Ideal.main_arg1) = m ((c.tc : Thread Cert.Post0Ideal.nD Cert.Post0Ideal.τ).loc Cert.Post0Ideal.main_arg1)
          ∧ r.2.mem ((c.tc : Thread Cert.Post0Ideal.nD Cert.Post0Ideal.τ).loc Cert.Post0Ideal.main_arg2) = m ((c.tc : Thread Cert.Post0Ideal.nD Cert.Post0Ideal.τ).loc Cert.Post0Ideal.main_arg2)
          ∧ r.2.mem ((c.tc : Thread Cert.Post0Ideal.nD Cert.Post0Ideal.τ).loc Cert.Post0Ideal.main_arg3) = m ((c.tc : Thread Cert.Post0Ideal.nD Cert.Post0Ideal.τ).loc Cert.Post0Ideal.main_arg3)
          ∧ r.2.mem ((c.tc : Thread Cert.Post0Ideal.nD Cert.Post0Ideal.τ).loc Cert.Post0Ideal.main_arg4) = m ((c.tc : Thread Cert.Post0Ideal.nD Cert.Post0Ideal.τ).loc Cert.Post0Ideal.main_arg4)
          ∧ r.2.mem ((c.tc : Thread Cert.Post0Ideal.nD Cert.Post0Ideal.τ).loc Cert.Post0Ideal.main_arg5) = m ((c.tc : Thread Cert.Post0Ideal.nD Cert.Post0Ideal.τ).loc Cert.Post0Ideal.main_arg5)
          ∧ r.2.mem ((c.tc : Thread Cert.Post0Ideal.nD Cert.Post0Ideal.τ).loc Cert.Post0Ideal.main_arg6) = m ((c.tc : Thread Cert.Post0Ideal.nD Cert.Post0Ideal.τ).loc Cert.Post0Ideal.main_arg6)
          ∧ r.2.mem ((c.tc : Thread Cert.Post0Ideal.nD Cert.Post0Ideal.τ).loc Cert.Post0Ideal.main_arg7) = m ((c.tc : Thread Cert.Post0Ideal.nD Cert.Post0Ideal.τ).loc Cert.Post0Ideal.main_arg7))
      ∧ θ_run (Cert.Post0ReferenceIdeal.defs (F := Ideal)) (onTc (τ := Cert.Post0ReferenceIdeal.τ) (Cert.Post0ReferenceIdeal.main (F := Ideal))) ⟨m', fun _ => 0, g'⟩ (fun r => ∀ c : Dev Cert.Post0ReferenceIdeal.nD,
          r.2.mem ((c.tc : Thread Cert.Post0ReferenceIdeal.nD Cert.Post0ReferenceIdeal.τ).loc Cert.Post0ReferenceIdeal.main_v28) = v0 c
          ∧ r.2.mem ((c.tc : Thread Cert.Post0ReferenceIdeal.nD Cert.Post0ReferenceIdeal.τ).loc Cert.Post0ReferenceIdeal.main_arg0) = m' ((c.tc : Thread Cert.Post0ReferenceIdeal.nD Cert.Post0ReferenceIdeal.τ).loc Cert.Post0ReferenceIdeal.main_arg0)
          ∧ r.2.mem ((c.tc : Thread Cert.Post0ReferenceIdeal.nD Cert.Post0ReferenceIdeal.τ).loc Cert.Post0ReferenceIdeal.main_arg1) = m' ((c.tc : Thread Cert.Post0ReferenceIdeal.nD Cert.Post0ReferenceIdeal.τ).loc Cert.Post0ReferenceIdeal.main_arg1)
          ∧ r.2.mem ((c.tc : Thread Cert.Post0ReferenceIdeal.nD Cert.Post0ReferenceIdeal.τ).loc Cert.Post0ReferenceIdeal.main_arg2) = m' ((c.tc : Thread Cert.Post0ReferenceIdeal.nD Cert.Post0ReferenceIdeal.τ).loc Cert.Post0ReferenceIdeal.main_arg2)
          ∧ r.2.mem ((c.tc : Thread Cert.Post0ReferenceIdeal.nD Cert.Post0ReferenceIdeal.τ).loc Cert.Post0ReferenceIdeal.main_arg3) = m' ((c.tc : Thread Cert.Post0ReferenceIdeal.nD Cert.Post0ReferenceIdeal.τ).loc Cert.Post0ReferenceIdeal.main_arg3)
          ∧ r.2.mem ((c.tc : Thread Cert.Post0ReferenceIdeal.nD Cert.Post0ReferenceIdeal.τ).loc Cert.Post0ReferenceIdeal.main_arg4) = m' ((c.tc : Thread Cert.Post0ReferenceIdeal.nD Cert.Post0ReferenceIdeal.τ).loc Cert.Post0ReferenceIdeal.main_arg4)
          ∧ r.2.mem ((c.tc : Thread Cert.Post0ReferenceIdeal.nD Cert.Post0ReferenceIdeal.τ).loc Cert.Post0ReferenceIdeal.main_arg5) = m' ((c.tc : Thread Cert.Post0ReferenceIdeal.nD Cert.Post0ReferenceIdeal.τ).loc Cert.Post0ReferenceIdeal.main_arg5)
          ∧ r.2.mem ((c.tc : Thread Cert.Post0ReferenceIdeal.nD Cert.Post0ReferenceIdeal.τ).loc Cert.Post0ReferenceIdeal.main_arg6) = m' ((c.tc : Thread Cert.Post0ReferenceIdeal.nD Cert.Post0ReferenceIdeal.τ).loc Cert.Post0ReferenceIdeal.main_arg6)
          ∧ r.2.mem ((c.tc : Thread Cert.Post0ReferenceIdeal.nD Cert.Post0ReferenceIdeal.τ).loc Cert.Post0ReferenceIdeal.main_arg7) = m' ((c.tc : Thread Cert.Post0ReferenceIdeal.nD Cert.Post0ReferenceIdeal.τ).loc Cert.Post0ReferenceIdeal.main_arg7))

def preserves_Post1_Post1Ideal : Prop :=
  True

def algebraic_Post1Ideal_Post1ReferenceIdeal [hPost1Ideal : Cert.Post1Ideal.Facts] [hPost1ReferenceIdeal : Cert.Post1ReferenceIdeal.Facts] : Prop :=
  ∀ (m : (ℓ : Loc Cert.Post1Ideal.nD Cert.Post1Ideal.τ Cert.Post1Ideal.sig) → Buf (Elt Ideal) ℓ) (g : Dev Cert.Post1Ideal.nD → PrngReg)
    (m' : (ℓ : Loc Cert.Post1ReferenceIdeal.nD Cert.Post1ReferenceIdeal.τ Cert.Post1ReferenceIdeal.sig) → Buf (Elt Ideal) ℓ) (g' : Dev Cert.Post1ReferenceIdeal.nD → PrngReg), Pre_Post1Ideal m →
    (∀ c : Dev Cert.Post1Ideal.nD,
      m' ((c.tc : Thread Cert.Post1ReferenceIdeal.nD Cert.Post1ReferenceIdeal.τ).loc Cert.Post1ReferenceIdeal.main_arg0) = m ((c.tc : Thread Cert.Post1Ideal.nD Cert.Post1Ideal.τ).loc Cert.Post1Ideal.main_arg0)
      ∧ m' ((c.tc : Thread Cert.Post1ReferenceIdeal.nD Cert.Post1ReferenceIdeal.τ).loc Cert.Post1ReferenceIdeal.main_arg1) = m ((c.tc : Thread Cert.Post1Ideal.nD Cert.Post1Ideal.τ).loc Cert.Post1Ideal.main_arg1)
      ∧ m' ((c.tc : Thread Cert.Post1ReferenceIdeal.nD Cert.Post1ReferenceIdeal.τ).loc Cert.Post1ReferenceIdeal.main_arg2) = m ((c.tc : Thread Cert.Post1Ideal.nD Cert.Post1Ideal.τ).loc Cert.Post1Ideal.main_arg2)
      ∧ m' ((c.tc : Thread Cert.Post1ReferenceIdeal.nD Cert.Post1ReferenceIdeal.τ).loc Cert.Post1ReferenceIdeal.main_arg3) = m ((c.tc : Thread Cert.Post1Ideal.nD Cert.Post1Ideal.τ).loc Cert.Post1Ideal.main_arg3)
      ∧ m' ((c.tc : Thread Cert.Post1ReferenceIdeal.nD Cert.Post1ReferenceIdeal.τ).loc Cert.Post1ReferenceIdeal.main_arg4) = m ((c.tc : Thread Cert.Post1Ideal.nD Cert.Post1Ideal.τ).loc Cert.Post1Ideal.main_arg4)
      ∧ m' ((c.tc : Thread Cert.Post1ReferenceIdeal.nD Cert.Post1ReferenceIdeal.τ).loc Cert.Post1ReferenceIdeal.main_arg5) = m ((c.tc : Thread Cert.Post1Ideal.nD Cert.Post1Ideal.τ).loc Cert.Post1Ideal.main_arg5)
      ∧ m' ((c.tc : Thread Cert.Post1ReferenceIdeal.nD Cert.Post1ReferenceIdeal.τ).loc Cert.Post1ReferenceIdeal.main_arg6) = m ((c.tc : Thread Cert.Post1Ideal.nD Cert.Post1Ideal.τ).loc Cert.Post1Ideal.main_arg6)
      ∧ m' ((c.tc : Thread Cert.Post1ReferenceIdeal.nD Cert.Post1ReferenceIdeal.τ).loc Cert.Post1ReferenceIdeal.main_arg7) = m ((c.tc : Thread Cert.Post1Ideal.nD Cert.Post1Ideal.τ).loc Cert.Post1Ideal.main_arg7)) →
    ∃ (v0 : (c : Dev Cert.Post1Ideal.nD) → Buf (Elt Ideal) ((c.tc : Thread Cert.Post1Ideal.nD Cert.Post1Ideal.τ).loc Cert.Post1Ideal.main_v4)),
      θ_run (Cert.Post1Ideal.defs (F := Ideal)) (onTc (τ := Cert.Post1Ideal.τ) (Cert.Post1Ideal.main (F := Ideal))) ⟨m, fun _ => 0, g⟩ (fun r => ∀ c : Dev Cert.Post1Ideal.nD,
          r.2.mem ((c.tc : Thread Cert.Post1Ideal.nD Cert.Post1Ideal.τ).loc Cert.Post1Ideal.main_v4) = v0 c
          ∧ r.2.mem ((c.tc : Thread Cert.Post1Ideal.nD Cert.Post1Ideal.τ).loc Cert.Post1Ideal.main_arg0) = m ((c.tc : Thread Cert.Post1Ideal.nD Cert.Post1Ideal.τ).loc Cert.Post1Ideal.main_arg0)
          ∧ r.2.mem ((c.tc : Thread Cert.Post1Ideal.nD Cert.Post1Ideal.τ).loc Cert.Post1Ideal.main_arg1) = m ((c.tc : Thread Cert.Post1Ideal.nD Cert.Post1Ideal.τ).loc Cert.Post1Ideal.main_arg1)
          ∧ r.2.mem ((c.tc : Thread Cert.Post1Ideal.nD Cert.Post1Ideal.τ).loc Cert.Post1Ideal.main_arg2) = m ((c.tc : Thread Cert.Post1Ideal.nD Cert.Post1Ideal.τ).loc Cert.Post1Ideal.main_arg2)
          ∧ r.2.mem ((c.tc : Thread Cert.Post1Ideal.nD Cert.Post1Ideal.τ).loc Cert.Post1Ideal.main_arg3) = m ((c.tc : Thread Cert.Post1Ideal.nD Cert.Post1Ideal.τ).loc Cert.Post1Ideal.main_arg3)
          ∧ r.2.mem ((c.tc : Thread Cert.Post1Ideal.nD Cert.Post1Ideal.τ).loc Cert.Post1Ideal.main_arg4) = m ((c.tc : Thread Cert.Post1Ideal.nD Cert.Post1Ideal.τ).loc Cert.Post1Ideal.main_arg4)
          ∧ r.2.mem ((c.tc : Thread Cert.Post1Ideal.nD Cert.Post1Ideal.τ).loc Cert.Post1Ideal.main_arg5) = m ((c.tc : Thread Cert.Post1Ideal.nD Cert.Post1Ideal.τ).loc Cert.Post1Ideal.main_arg5)
          ∧ r.2.mem ((c.tc : Thread Cert.Post1Ideal.nD Cert.Post1Ideal.τ).loc Cert.Post1Ideal.main_arg6) = m ((c.tc : Thread Cert.Post1Ideal.nD Cert.Post1Ideal.τ).loc Cert.Post1Ideal.main_arg6)
          ∧ r.2.mem ((c.tc : Thread Cert.Post1Ideal.nD Cert.Post1Ideal.τ).loc Cert.Post1Ideal.main_arg7) = m ((c.tc : Thread Cert.Post1Ideal.nD Cert.Post1Ideal.τ).loc Cert.Post1Ideal.main_arg7))
      ∧ θ_run (Cert.Post1ReferenceIdeal.defs (F := Ideal)) (onTc (τ := Cert.Post1ReferenceIdeal.τ) (Cert.Post1ReferenceIdeal.main (F := Ideal))) ⟨m', fun _ => 0, g'⟩ (fun r => ∀ c : Dev Cert.Post1ReferenceIdeal.nD,
          r.2.mem ((c.tc : Thread Cert.Post1ReferenceIdeal.nD Cert.Post1ReferenceIdeal.τ).loc Cert.Post1ReferenceIdeal.main_v28) = v0 c
          ∧ r.2.mem ((c.tc : Thread Cert.Post1ReferenceIdeal.nD Cert.Post1ReferenceIdeal.τ).loc Cert.Post1ReferenceIdeal.main_arg0) = m' ((c.tc : Thread Cert.Post1ReferenceIdeal.nD Cert.Post1ReferenceIdeal.τ).loc Cert.Post1ReferenceIdeal.main_arg0)
          ∧ r.2.mem ((c.tc : Thread Cert.Post1ReferenceIdeal.nD Cert.Post1ReferenceIdeal.τ).loc Cert.Post1ReferenceIdeal.main_arg1) = m' ((c.tc : Thread Cert.Post1ReferenceIdeal.nD Cert.Post1ReferenceIdeal.τ).loc Cert.Post1ReferenceIdeal.main_arg1)
          ∧ r.2.mem ((c.tc : Thread Cert.Post1ReferenceIdeal.nD Cert.Post1ReferenceIdeal.τ).loc Cert.Post1ReferenceIdeal.main_arg2) = m' ((c.tc : Thread Cert.Post1ReferenceIdeal.nD Cert.Post1ReferenceIdeal.τ).loc Cert.Post1ReferenceIdeal.main_arg2)
          ∧ r.2.mem ((c.tc : Thread Cert.Post1ReferenceIdeal.nD Cert.Post1ReferenceIdeal.τ).loc Cert.Post1ReferenceIdeal.main_arg3) = m' ((c.tc : Thread Cert.Post1ReferenceIdeal.nD Cert.Post1ReferenceIdeal.τ).loc Cert.Post1ReferenceIdeal.main_arg3)
          ∧ r.2.mem ((c.tc : Thread Cert.Post1ReferenceIdeal.nD Cert.Post1ReferenceIdeal.τ).loc Cert.Post1ReferenceIdeal.main_arg4) = m' ((c.tc : Thread Cert.Post1ReferenceIdeal.nD Cert.Post1ReferenceIdeal.τ).loc Cert.Post1ReferenceIdeal.main_arg4)
          ∧ r.2.mem ((c.tc : Thread Cert.Post1ReferenceIdeal.nD Cert.Post1ReferenceIdeal.τ).loc Cert.Post1ReferenceIdeal.main_arg5) = m' ((c.tc : Thread Cert.Post1ReferenceIdeal.nD Cert.Post1ReferenceIdeal.τ).loc Cert.Post1ReferenceIdeal.main_arg5)
          ∧ r.2.mem ((c.tc : Thread Cert.Post1ReferenceIdeal.nD Cert.Post1ReferenceIdeal.τ).loc Cert.Post1ReferenceIdeal.main_arg6) = m' ((c.tc : Thread Cert.Post1ReferenceIdeal.nD Cert.Post1ReferenceIdeal.τ).loc Cert.Post1ReferenceIdeal.main_arg6)
          ∧ r.2.mem ((c.tc : Thread Cert.Post1ReferenceIdeal.nD Cert.Post1ReferenceIdeal.τ).loc Cert.Post1ReferenceIdeal.main_arg7) = m' ((c.tc : Thread Cert.Post1ReferenceIdeal.nD Cert.Post1ReferenceIdeal.τ).loc Cert.Post1ReferenceIdeal.main_arg7))

def preserves_Post2_Post2Ideal : Prop :=
  True

def algebraic_Post2Ideal_Post2ReferenceIdeal [hPost2Ideal : Cert.Post2Ideal.Facts] [hPost2ReferenceIdeal : Cert.Post2ReferenceIdeal.Facts] : Prop :=
  ∀ (m : (ℓ : Loc Cert.Post2Ideal.nD Cert.Post2Ideal.τ Cert.Post2Ideal.sig) → Buf (Elt Ideal) ℓ) (g : Dev Cert.Post2Ideal.nD → PrngReg)
    (m' : (ℓ : Loc Cert.Post2ReferenceIdeal.nD Cert.Post2ReferenceIdeal.τ Cert.Post2ReferenceIdeal.sig) → Buf (Elt Ideal) ℓ) (g' : Dev Cert.Post2ReferenceIdeal.nD → PrngReg), Pre_Post2Ideal m →
    (∀ c : Dev Cert.Post2Ideal.nD,
      m' ((c.tc : Thread Cert.Post2ReferenceIdeal.nD Cert.Post2ReferenceIdeal.τ).loc Cert.Post2ReferenceIdeal.main_arg0) = m ((c.tc : Thread Cert.Post2Ideal.nD Cert.Post2Ideal.τ).loc Cert.Post2Ideal.main_arg0)
      ∧ m' ((c.tc : Thread Cert.Post2ReferenceIdeal.nD Cert.Post2ReferenceIdeal.τ).loc Cert.Post2ReferenceIdeal.main_arg1) = m ((c.tc : Thread Cert.Post2Ideal.nD Cert.Post2Ideal.τ).loc Cert.Post2Ideal.main_arg1)
      ∧ m' ((c.tc : Thread Cert.Post2ReferenceIdeal.nD Cert.Post2ReferenceIdeal.τ).loc Cert.Post2ReferenceIdeal.main_arg2) = m ((c.tc : Thread Cert.Post2Ideal.nD Cert.Post2Ideal.τ).loc Cert.Post2Ideal.main_arg2)
      ∧ m' ((c.tc : Thread Cert.Post2ReferenceIdeal.nD Cert.Post2ReferenceIdeal.τ).loc Cert.Post2ReferenceIdeal.main_arg3) = m ((c.tc : Thread Cert.Post2Ideal.nD Cert.Post2Ideal.τ).loc Cert.Post2Ideal.main_arg3)
      ∧ m' ((c.tc : Thread Cert.Post2ReferenceIdeal.nD Cert.Post2ReferenceIdeal.τ).loc Cert.Post2ReferenceIdeal.main_arg4) = m ((c.tc : Thread Cert.Post2Ideal.nD Cert.Post2Ideal.τ).loc Cert.Post2Ideal.main_arg4)
      ∧ m' ((c.tc : Thread Cert.Post2ReferenceIdeal.nD Cert.Post2ReferenceIdeal.τ).loc Cert.Post2ReferenceIdeal.main_arg5) = m ((c.tc : Thread Cert.Post2Ideal.nD Cert.Post2Ideal.τ).loc Cert.Post2Ideal.main_arg5)
      ∧ m' ((c.tc : Thread Cert.Post2ReferenceIdeal.nD Cert.Post2ReferenceIdeal.τ).loc Cert.Post2ReferenceIdeal.main_arg6) = m ((c.tc : Thread Cert.Post2Ideal.nD Cert.Post2Ideal.τ).loc Cert.Post2Ideal.main_arg6)
      ∧ m' ((c.tc : Thread Cert.Post2ReferenceIdeal.nD Cert.Post2ReferenceIdeal.τ).loc Cert.Post2ReferenceIdeal.main_arg7) = m ((c.tc : Thread Cert.Post2Ideal.nD Cert.Post2Ideal.τ).loc Cert.Post2Ideal.main_arg7)) →
    ∃ (v0 : (c : Dev Cert.Post2Ideal.nD) → Buf (Elt Ideal) ((c.tc : Thread Cert.Post2Ideal.nD Cert.Post2Ideal.τ).loc Cert.Post2Ideal.main_v4)),
      θ_run (Cert.Post2Ideal.defs (F := Ideal)) (onTc (τ := Cert.Post2Ideal.τ) (Cert.Post2Ideal.main (F := Ideal))) ⟨m, fun _ => 0, g⟩ (fun r => ∀ c : Dev Cert.Post2Ideal.nD,
          r.2.mem ((c.tc : Thread Cert.Post2Ideal.nD Cert.Post2Ideal.τ).loc Cert.Post2Ideal.main_v4) = v0 c
          ∧ r.2.mem ((c.tc : Thread Cert.Post2Ideal.nD Cert.Post2Ideal.τ).loc Cert.Post2Ideal.main_arg0) = m ((c.tc : Thread Cert.Post2Ideal.nD Cert.Post2Ideal.τ).loc Cert.Post2Ideal.main_arg0)
          ∧ r.2.mem ((c.tc : Thread Cert.Post2Ideal.nD Cert.Post2Ideal.τ).loc Cert.Post2Ideal.main_arg1) = m ((c.tc : Thread Cert.Post2Ideal.nD Cert.Post2Ideal.τ).loc Cert.Post2Ideal.main_arg1)
          ∧ r.2.mem ((c.tc : Thread Cert.Post2Ideal.nD Cert.Post2Ideal.τ).loc Cert.Post2Ideal.main_arg2) = m ((c.tc : Thread Cert.Post2Ideal.nD Cert.Post2Ideal.τ).loc Cert.Post2Ideal.main_arg2)
          ∧ r.2.mem ((c.tc : Thread Cert.Post2Ideal.nD Cert.Post2Ideal.τ).loc Cert.Post2Ideal.main_arg3) = m ((c.tc : Thread Cert.Post2Ideal.nD Cert.Post2Ideal.τ).loc Cert.Post2Ideal.main_arg3)
          ∧ r.2.mem ((c.tc : Thread Cert.Post2Ideal.nD Cert.Post2Ideal.τ).loc Cert.Post2Ideal.main_arg4) = m ((c.tc : Thread Cert.Post2Ideal.nD Cert.Post2Ideal.τ).loc Cert.Post2Ideal.main_arg4)
          ∧ r.2.mem ((c.tc : Thread Cert.Post2Ideal.nD Cert.Post2Ideal.τ).loc Cert.Post2Ideal.main_arg5) = m ((c.tc : Thread Cert.Post2Ideal.nD Cert.Post2Ideal.τ).loc Cert.Post2Ideal.main_arg5)
          ∧ r.2.mem ((c.tc : Thread Cert.Post2Ideal.nD Cert.Post2Ideal.τ).loc Cert.Post2Ideal.main_arg6) = m ((c.tc : Thread Cert.Post2Ideal.nD Cert.Post2Ideal.τ).loc Cert.Post2Ideal.main_arg6)
          ∧ r.2.mem ((c.tc : Thread Cert.Post2Ideal.nD Cert.Post2Ideal.τ).loc Cert.Post2Ideal.main_arg7) = m ((c.tc : Thread Cert.Post2Ideal.nD Cert.Post2Ideal.τ).loc Cert.Post2Ideal.main_arg7))
      ∧ θ_run (Cert.Post2ReferenceIdeal.defs (F := Ideal)) (onTc (τ := Cert.Post2ReferenceIdeal.τ) (Cert.Post2ReferenceIdeal.main (F := Ideal))) ⟨m', fun _ => 0, g'⟩ (fun r => ∀ c : Dev Cert.Post2ReferenceIdeal.nD,
          r.2.mem ((c.tc : Thread Cert.Post2ReferenceIdeal.nD Cert.Post2ReferenceIdeal.τ).loc Cert.Post2ReferenceIdeal.main_v28) = v0 c
          ∧ r.2.mem ((c.tc : Thread Cert.Post2ReferenceIdeal.nD Cert.Post2ReferenceIdeal.τ).loc Cert.Post2ReferenceIdeal.main_arg0) = m' ((c.tc : Thread Cert.Post2ReferenceIdeal.nD Cert.Post2ReferenceIdeal.τ).loc Cert.Post2ReferenceIdeal.main_arg0)
          ∧ r.2.mem ((c.tc : Thread Cert.Post2ReferenceIdeal.nD Cert.Post2ReferenceIdeal.τ).loc Cert.Post2ReferenceIdeal.main_arg1) = m' ((c.tc : Thread Cert.Post2ReferenceIdeal.nD Cert.Post2ReferenceIdeal.τ).loc Cert.Post2ReferenceIdeal.main_arg1)
          ∧ r.2.mem ((c.tc : Thread Cert.Post2ReferenceIdeal.nD Cert.Post2ReferenceIdeal.τ).loc Cert.Post2ReferenceIdeal.main_arg2) = m' ((c.tc : Thread Cert.Post2ReferenceIdeal.nD Cert.Post2ReferenceIdeal.τ).loc Cert.Post2ReferenceIdeal.main_arg2)
          ∧ r.2.mem ((c.tc : Thread Cert.Post2ReferenceIdeal.nD Cert.Post2ReferenceIdeal.τ).loc Cert.Post2ReferenceIdeal.main_arg3) = m' ((c.tc : Thread Cert.Post2ReferenceIdeal.nD Cert.Post2ReferenceIdeal.τ).loc Cert.Post2ReferenceIdeal.main_arg3)
          ∧ r.2.mem ((c.tc : Thread Cert.Post2ReferenceIdeal.nD Cert.Post2ReferenceIdeal.τ).loc Cert.Post2ReferenceIdeal.main_arg4) = m' ((c.tc : Thread Cert.Post2ReferenceIdeal.nD Cert.Post2ReferenceIdeal.τ).loc Cert.Post2ReferenceIdeal.main_arg4)
          ∧ r.2.mem ((c.tc : Thread Cert.Post2ReferenceIdeal.nD Cert.Post2ReferenceIdeal.τ).loc Cert.Post2ReferenceIdeal.main_arg5) = m' ((c.tc : Thread Cert.Post2ReferenceIdeal.nD Cert.Post2ReferenceIdeal.τ).loc Cert.Post2ReferenceIdeal.main_arg5)
          ∧ r.2.mem ((c.tc : Thread Cert.Post2ReferenceIdeal.nD Cert.Post2ReferenceIdeal.τ).loc Cert.Post2ReferenceIdeal.main_arg6) = m' ((c.tc : Thread Cert.Post2ReferenceIdeal.nD Cert.Post2ReferenceIdeal.τ).loc Cert.Post2ReferenceIdeal.main_arg6)
          ∧ r.2.mem ((c.tc : Thread Cert.Post2ReferenceIdeal.nD Cert.Post2ReferenceIdeal.τ).loc Cert.Post2ReferenceIdeal.main_arg7) = m' ((c.tc : Thread Cert.Post2ReferenceIdeal.nD Cert.Post2ReferenceIdeal.τ).loc Cert.Post2ReferenceIdeal.main_arg7))

def preserves_Post3_Post3Ideal : Prop :=
  True

def algebraic_Post3Ideal_Post3ReferenceIdeal [hPost3Ideal : Cert.Post3Ideal.Facts] [hPost3ReferenceIdeal : Cert.Post3ReferenceIdeal.Facts] : Prop :=
  ∀ (m : (ℓ : Loc Cert.Post3Ideal.nD Cert.Post3Ideal.τ Cert.Post3Ideal.sig) → Buf (Elt Ideal) ℓ) (g : Dev Cert.Post3Ideal.nD → PrngReg)
    (m' : (ℓ : Loc Cert.Post3ReferenceIdeal.nD Cert.Post3ReferenceIdeal.τ Cert.Post3ReferenceIdeal.sig) → Buf (Elt Ideal) ℓ) (g' : Dev Cert.Post3ReferenceIdeal.nD → PrngReg), Pre_Post3Ideal m →
    (∀ c : Dev Cert.Post3Ideal.nD,
      m' ((c.tc : Thread Cert.Post3ReferenceIdeal.nD Cert.Post3ReferenceIdeal.τ).loc Cert.Post3ReferenceIdeal.main_arg0) = m ((c.tc : Thread Cert.Post3Ideal.nD Cert.Post3Ideal.τ).loc Cert.Post3Ideal.main_arg0)
      ∧ m' ((c.tc : Thread Cert.Post3ReferenceIdeal.nD Cert.Post3ReferenceIdeal.τ).loc Cert.Post3ReferenceIdeal.main_arg1) = m ((c.tc : Thread Cert.Post3Ideal.nD Cert.Post3Ideal.τ).loc Cert.Post3Ideal.main_arg1)
      ∧ m' ((c.tc : Thread Cert.Post3ReferenceIdeal.nD Cert.Post3ReferenceIdeal.τ).loc Cert.Post3ReferenceIdeal.main_arg2) = m ((c.tc : Thread Cert.Post3Ideal.nD Cert.Post3Ideal.τ).loc Cert.Post3Ideal.main_arg2)
      ∧ m' ((c.tc : Thread Cert.Post3ReferenceIdeal.nD Cert.Post3ReferenceIdeal.τ).loc Cert.Post3ReferenceIdeal.main_arg3) = m ((c.tc : Thread Cert.Post3Ideal.nD Cert.Post3Ideal.τ).loc Cert.Post3Ideal.main_arg3)
      ∧ m' ((c.tc : Thread Cert.Post3ReferenceIdeal.nD Cert.Post3ReferenceIdeal.τ).loc Cert.Post3ReferenceIdeal.main_arg4) = m ((c.tc : Thread Cert.Post3Ideal.nD Cert.Post3Ideal.τ).loc Cert.Post3Ideal.main_arg4)
      ∧ m' ((c.tc : Thread Cert.Post3ReferenceIdeal.nD Cert.Post3ReferenceIdeal.τ).loc Cert.Post3ReferenceIdeal.main_arg5) = m ((c.tc : Thread Cert.Post3Ideal.nD Cert.Post3Ideal.τ).loc Cert.Post3Ideal.main_arg5)
      ∧ m' ((c.tc : Thread Cert.Post3ReferenceIdeal.nD Cert.Post3ReferenceIdeal.τ).loc Cert.Post3ReferenceIdeal.main_arg6) = m ((c.tc : Thread Cert.Post3Ideal.nD Cert.Post3Ideal.τ).loc Cert.Post3Ideal.main_arg6)
      ∧ m' ((c.tc : Thread Cert.Post3ReferenceIdeal.nD Cert.Post3ReferenceIdeal.τ).loc Cert.Post3ReferenceIdeal.main_arg7) = m ((c.tc : Thread Cert.Post3Ideal.nD Cert.Post3Ideal.τ).loc Cert.Post3Ideal.main_arg7)) →
    ∃ (v0 : (c : Dev Cert.Post3Ideal.nD) → Buf (Elt Ideal) ((c.tc : Thread Cert.Post3Ideal.nD Cert.Post3Ideal.τ).loc Cert.Post3Ideal.main_v4)),
      θ_run (Cert.Post3Ideal.defs (F := Ideal)) (onTc (τ := Cert.Post3Ideal.τ) (Cert.Post3Ideal.main (F := Ideal))) ⟨m, fun _ => 0, g⟩ (fun r => ∀ c : Dev Cert.Post3Ideal.nD,
          r.2.mem ((c.tc : Thread Cert.Post3Ideal.nD Cert.Post3Ideal.τ).loc Cert.Post3Ideal.main_v4) = v0 c
          ∧ r.2.mem ((c.tc : Thread Cert.Post3Ideal.nD Cert.Post3Ideal.τ).loc Cert.Post3Ideal.main_arg0) = m ((c.tc : Thread Cert.Post3Ideal.nD Cert.Post3Ideal.τ).loc Cert.Post3Ideal.main_arg0)
          ∧ r.2.mem ((c.tc : Thread Cert.Post3Ideal.nD Cert.Post3Ideal.τ).loc Cert.Post3Ideal.main_arg1) = m ((c.tc : Thread Cert.Post3Ideal.nD Cert.Post3Ideal.τ).loc Cert.Post3Ideal.main_arg1)
          ∧ r.2.mem ((c.tc : Thread Cert.Post3Ideal.nD Cert.Post3Ideal.τ).loc Cert.Post3Ideal.main_arg2) = m ((c.tc : Thread Cert.Post3Ideal.nD Cert.Post3Ideal.τ).loc Cert.Post3Ideal.main_arg2)
          ∧ r.2.mem ((c.tc : Thread Cert.Post3Ideal.nD Cert.Post3Ideal.τ).loc Cert.Post3Ideal.main_arg3) = m ((c.tc : Thread Cert.Post3Ideal.nD Cert.Post3Ideal.τ).loc Cert.Post3Ideal.main_arg3)
          ∧ r.2.mem ((c.tc : Thread Cert.Post3Ideal.nD Cert.Post3Ideal.τ).loc Cert.Post3Ideal.main_arg4) = m ((c.tc : Thread Cert.Post3Ideal.nD Cert.Post3Ideal.τ).loc Cert.Post3Ideal.main_arg4)
          ∧ r.2.mem ((c.tc : Thread Cert.Post3Ideal.nD Cert.Post3Ideal.τ).loc Cert.Post3Ideal.main_arg5) = m ((c.tc : Thread Cert.Post3Ideal.nD Cert.Post3Ideal.τ).loc Cert.Post3Ideal.main_arg5)
          ∧ r.2.mem ((c.tc : Thread Cert.Post3Ideal.nD Cert.Post3Ideal.τ).loc Cert.Post3Ideal.main_arg6) = m ((c.tc : Thread Cert.Post3Ideal.nD Cert.Post3Ideal.τ).loc Cert.Post3Ideal.main_arg6)
          ∧ r.2.mem ((c.tc : Thread Cert.Post3Ideal.nD Cert.Post3Ideal.τ).loc Cert.Post3Ideal.main_arg7) = m ((c.tc : Thread Cert.Post3Ideal.nD Cert.Post3Ideal.τ).loc Cert.Post3Ideal.main_arg7))
      ∧ θ_run (Cert.Post3ReferenceIdeal.defs (F := Ideal)) (onTc (τ := Cert.Post3ReferenceIdeal.τ) (Cert.Post3ReferenceIdeal.main (F := Ideal))) ⟨m', fun _ => 0, g'⟩ (fun r => ∀ c : Dev Cert.Post3ReferenceIdeal.nD,
          r.2.mem ((c.tc : Thread Cert.Post3ReferenceIdeal.nD Cert.Post3ReferenceIdeal.τ).loc Cert.Post3ReferenceIdeal.main_v28) = v0 c
          ∧ r.2.mem ((c.tc : Thread Cert.Post3ReferenceIdeal.nD Cert.Post3ReferenceIdeal.τ).loc Cert.Post3ReferenceIdeal.main_arg0) = m' ((c.tc : Thread Cert.Post3ReferenceIdeal.nD Cert.Post3ReferenceIdeal.τ).loc Cert.Post3ReferenceIdeal.main_arg0)
          ∧ r.2.mem ((c.tc : Thread Cert.Post3ReferenceIdeal.nD Cert.Post3ReferenceIdeal.τ).loc Cert.Post3ReferenceIdeal.main_arg1) = m' ((c.tc : Thread Cert.Post3ReferenceIdeal.nD Cert.Post3ReferenceIdeal.τ).loc Cert.Post3ReferenceIdeal.main_arg1)
          ∧ r.2.mem ((c.tc : Thread Cert.Post3ReferenceIdeal.nD Cert.Post3ReferenceIdeal.τ).loc Cert.Post3ReferenceIdeal.main_arg2) = m' ((c.tc : Thread Cert.Post3ReferenceIdeal.nD Cert.Post3ReferenceIdeal.τ).loc Cert.Post3ReferenceIdeal.main_arg2)
          ∧ r.2.mem ((c.tc : Thread Cert.Post3ReferenceIdeal.nD Cert.Post3ReferenceIdeal.τ).loc Cert.Post3ReferenceIdeal.main_arg3) = m' ((c.tc : Thread Cert.Post3ReferenceIdeal.nD Cert.Post3ReferenceIdeal.τ).loc Cert.Post3ReferenceIdeal.main_arg3)
          ∧ r.2.mem ((c.tc : Thread Cert.Post3ReferenceIdeal.nD Cert.Post3ReferenceIdeal.τ).loc Cert.Post3ReferenceIdeal.main_arg4) = m' ((c.tc : Thread Cert.Post3ReferenceIdeal.nD Cert.Post3ReferenceIdeal.τ).loc Cert.Post3ReferenceIdeal.main_arg4)
          ∧ r.2.mem ((c.tc : Thread Cert.Post3ReferenceIdeal.nD Cert.Post3ReferenceIdeal.τ).loc Cert.Post3ReferenceIdeal.main_arg5) = m' ((c.tc : Thread Cert.Post3ReferenceIdeal.nD Cert.Post3ReferenceIdeal.τ).loc Cert.Post3ReferenceIdeal.main_arg5)
          ∧ r.2.mem ((c.tc : Thread Cert.Post3ReferenceIdeal.nD Cert.Post3ReferenceIdeal.τ).loc Cert.Post3ReferenceIdeal.main_arg6) = m' ((c.tc : Thread Cert.Post3ReferenceIdeal.nD Cert.Post3ReferenceIdeal.τ).loc Cert.Post3ReferenceIdeal.main_arg6)
          ∧ r.2.mem ((c.tc : Thread Cert.Post3ReferenceIdeal.nD Cert.Post3ReferenceIdeal.τ).loc Cert.Post3ReferenceIdeal.main_arg7) = m' ((c.tc : Thread Cert.Post3ReferenceIdeal.nD Cert.Post3ReferenceIdeal.τ).loc Cert.Post3ReferenceIdeal.main_arg7))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)
      ∧ m' ((c.tc : Thread Cert.CompressReferenceIdeal.nD Cert.CompressReferenceIdeal.τ).loc Cert.CompressReferenceIdeal.main_arg4) = m ((c.tc : Thread Cert.CompressIdeal.nD Cert.CompressIdeal.τ).loc Cert.CompressIdeal.main_arg4)) →
    ∃ (v0 : (c : Dev Cert.CompressIdeal.nD) → Buf (Elt Ideal) ((c.tc : Thread Cert.CompressIdeal.nD Cert.CompressIdeal.τ).loc Cert.CompressIdeal.main_v78)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v78) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v142) = v0 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3)
          ∧ r.2.mem ((c.tc : Thread Cert.CompressReferenceIdeal.nD Cert.CompressReferenceIdeal.τ).loc Cert.CompressReferenceIdeal.main_arg4) = m' ((c.tc : Thread Cert.CompressReferenceIdeal.nD Cert.CompressReferenceIdeal.τ).loc Cert.CompressReferenceIdeal.main_arg4))

def Claim : Prop :=
  ∃ (hKernel : Cert.Kernel.Facts) (hKernelIdeal : Cert.KernelIdeal.Facts) (hReferenceIdeal : Cert.ReferenceIdeal.Facts) (hEarly : Cert.Early.Facts) (hEarlyIdeal : Cert.EarlyIdeal.Facts) (hEarlyReferenceIdeal : Cert.EarlyReferenceIdeal.Facts) (hMobaProj : Cert.MobaProj.Facts) (hMobaProjIdeal : Cert.MobaProjIdeal.Facts) (hMobaProjReferenceIdeal : Cert.MobaProjReferenceIdeal.Facts) (hNsaProj : Cert.NsaProj.Facts) (hNsaProjIdeal : Cert.NsaProjIdeal.Facts) (hNsaProjReferenceIdeal : Cert.NsaProjReferenceIdeal.Facts) (hPost0 : Cert.Post0.Facts) (hPost0Ideal : Cert.Post0Ideal.Facts) (hPost0ReferenceIdeal : Cert.Post0ReferenceIdeal.Facts) (hPost1 : Cert.Post1.Facts) (hPost1Ideal : Cert.Post1Ideal.Facts) (hPost1ReferenceIdeal : Cert.Post1ReferenceIdeal.Facts) (hPost2 : Cert.Post2.Facts) (hPost2Ideal : Cert.Post2Ideal.Facts) (hPost2ReferenceIdeal : Cert.Post2ReferenceIdeal.Facts) (hPost3 : Cert.Post3.Facts) (hPost3Ideal : Cert.Post3Ideal.Facts) (hPost3ReferenceIdeal : Cert.Post3ReferenceIdeal.Facts) (hCompress : Cert.Compress.Facts) (hCompressIdeal : Cert.CompressIdeal.Facts) (hCompressReferenceIdeal : Cert.CompressReferenceIdeal.Facts) (hPre_layout : Cert.Pre_layout.Facts),
    quiescent_Kernel (hKernel := hKernel)
    ∧ quiescent_KernelIdeal (hKernelIdeal := hKernelIdeal)
    ∧ quiescent_KernelIdeal_pre_layout (hKernelIdeal := hKernelIdeal) (hPre_layout := hPre_layout)
    ∧ quiescent_ReferenceIdeal (hReferenceIdeal := hReferenceIdeal)
    ∧ quiescent_ReferenceIdeal_pre_layout (hReferenceIdeal := hReferenceIdeal) (hPre_layout := hPre_layout)
    ∧ quiescent_Early (hEarly := hEarly)
    ∧ quiescent_EarlyIdeal (hEarlyIdeal := hEarlyIdeal)
    ∧ quiescent_EarlyIdeal_pre_layout (hEarlyIdeal := hEarlyIdeal) (hPre_layout := hPre_layout)
    ∧ quiescent_EarlyReferenceIdeal (hEarlyReferenceIdeal := hEarlyReferenceIdeal)
    ∧ quiescent_EarlyReferenceIdeal_pre_layout (hEarlyReferenceIdeal := hEarlyReferenceIdeal) (hPre_layout := hPre_layout)
    ∧ quiescent_MobaProj (hMobaProj := hMobaProj)
    ∧ quiescent_MobaProjIdeal (hMobaProjIdeal := hMobaProjIdeal)
    ∧ quiescent_MobaProjReferenceIdeal (hMobaProjReferenceIdeal := hMobaProjReferenceIdeal)
    ∧ quiescent_NsaProj (hNsaProj := hNsaProj)
    ∧ quiescent_NsaProjIdeal (hNsaProjIdeal := hNsaProjIdeal)
    ∧ quiescent_NsaProjReferenceIdeal (hNsaProjReferenceIdeal := hNsaProjReferenceIdeal)
    ∧ quiescent_Post0 (hPost0 := hPost0)
    ∧ quiescent_Post0Ideal (hPost0Ideal := hPost0Ideal)
    ∧ quiescent_Post0ReferenceIdeal (hPost0ReferenceIdeal := hPost0ReferenceIdeal)
    ∧ quiescent_Post1 (hPost1 := hPost1)
    ∧ quiescent_Post1Ideal (hPost1Ideal := hPost1Ideal)
    ∧ quiescent_Post1ReferenceIdeal (hPost1ReferenceIdeal := hPost1ReferenceIdeal)
    ∧ quiescent_Post2 (hPost2 := hPost2)
    ∧ quiescent_Post2Ideal (hPost2Ideal := hPost2Ideal)
    ∧ quiescent_Post2ReferenceIdeal (hPost2ReferenceIdeal := hPost2ReferenceIdeal)
    ∧ quiescent_Post3 (hPost3 := hPost3)
    ∧ quiescent_Post3Ideal (hPost3Ideal := hPost3Ideal)
    ∧ quiescent_Post3ReferenceIdeal (hPost3ReferenceIdeal := hPost3ReferenceIdeal)
    ∧ quiescent_Compress (hCompress := hCompress)
    ∧ quiescent_CompressIdeal (hCompressIdeal := hCompressIdeal)
    ∧ quiescent_CompressReferenceIdeal (hCompressReferenceIdeal := hCompressReferenceIdeal)
    ∧ preserves_Kernel_KernelIdeal
    ∧ algebraic_KernelIdeal_ReferenceIdeal_pre_layout (hKernelIdeal := hKernelIdeal) (hReferenceIdeal := hReferenceIdeal) (hPre_layout := hPre_layout)
    ∧ preserves_Early_EarlyIdeal
    ∧ algebraic_EarlyIdeal_EarlyReferenceIdeal_pre_layout (hEarlyIdeal := hEarlyIdeal) (hEarlyReferenceIdeal := hEarlyReferenceIdeal) (hPre_layout := hPre_layout)
    ∧ preserves_MobaProj_MobaProjIdeal
    ∧ algebraic_MobaProjIdeal_MobaProjReferenceIdeal (hMobaProjIdeal := hMobaProjIdeal) (hMobaProjReferenceIdeal := hMobaProjReferenceIdeal)
    ∧ preserves_NsaProj_NsaProjIdeal
    ∧ algebraic_NsaProjIdeal_NsaProjReferenceIdeal (hNsaProjIdeal := hNsaProjIdeal) (hNsaProjReferenceIdeal := hNsaProjReferenceIdeal)
    ∧ preserves_Post0_Post0Ideal
    ∧ algebraic_Post0Ideal_Post0ReferenceIdeal (hPost0Ideal := hPost0Ideal) (hPost0ReferenceIdeal := hPost0ReferenceIdeal)
    ∧ preserves_Post1_Post1Ideal
    ∧ algebraic_Post1Ideal_Post1ReferenceIdeal (hPost1Ideal := hPost1Ideal) (hPost1ReferenceIdeal := hPost1ReferenceIdeal)
    ∧ preserves_Post2_Post2Ideal
    ∧ algebraic_Post2Ideal_Post2ReferenceIdeal (hPost2Ideal := hPost2Ideal) (hPost2ReferenceIdeal := hPost2ReferenceIdeal)
    ∧ preserves_Post3_Post3Ideal
    ∧ algebraic_Post3Ideal_Post3ReferenceIdeal (hPost3Ideal := hPost3Ideal) (hPost3ReferenceIdeal := hPost3ReferenceIdeal)
    ∧ preserves_Compress_CompressIdeal
    ∧ algebraic_CompressIdeal_CompressReferenceIdeal (hCompressIdeal := hCompressIdeal) (hCompressReferenceIdeal := hCompressReferenceIdeal)
-- ==== Pre_layout.lean ====
abbrev S8x8x4096x256 : Shape := ⟨4, ![8, 8, 4096, 256]⟩
abbrev S8x8x4096x128 : Shape := ⟨4, ![8, 8, 4096, 128]⟩
abbrev S8x4096x1024 : Shape := ⟨3, ![8, 4096, 1024]⟩
abbrev S8x8x4096x16 : Shape := ⟨4, ![8, 8, 4096, 16]⟩
abbrev S_ : Shape := ⟨0, ![]⟩
abbrev S8x8x4096x64 : Shape := ⟨4, ![8, 8, 4096, 64]⟩

class Facts : Prop where
  slices_S8x8x4096x256_S8x8x4096x16_0_0_0_128 : S8x8x4096x256.Slices ![0, 0, 0, 128] S8x8x4096x16
  bitsLt_bf16_f32 : FTy.bits .bf16 < FTy.bits .f32
  bcast_S_S8x8x4096x128 : S_.BroadcastsInDim S8x8x4096x128 (![] : Fin 0 → Fin S8x8x4096x128.rank)
  slices_S8x8x4096x128_S8x8x4096x16_0_0_0_0 : S8x8x4096x128.Slices ![0, 0, 0, 0] S8x8x4096x16
  slices_S8x8x4096x256_S8x8x4096x64_0_0_0_0 : S8x8x4096x256.Slices ![0, 0, 0, 0] S8x8x4096x64
  bcast_S_S8x8x4096x64 : S_.BroadcastsInDim S8x8x4096x64 (![] : Fin 0 → Fin S8x8x4096x64.rank)
  reducesTo_S8x8x4096x64_S_d0_1_2_3 : S8x8x4096x64.ReducesTo [0, 1, 2, 3] S_
  h_S_ : 0 < S_.numel
  slices_S8x8x4096x256_S8x8x4096x64_0_0_0_64 : S8x8x4096x256.Slices ![0, 0, 0, 64] S8x8x4096x64
  slices_S8x8x4096x256_S8x8x4096x128_0_0_0_0 : S8x8x4096x256.Slices ![0, 0, 0, 0] S8x8x4096x128
  reducesTo_S8x8x4096x128_S_d0_1_2_3 : S8x8x4096x128.ReducesTo [0, 1, 2, 3] S_
  bcast_S_S8x8x4096x16 : S_.BroadcastsInDim S8x8x4096x16 (![] : Fin 0 → Fin S8x8x4096x16.rank)
  reducesTo_S8x8x4096x16_S_d0_1_2_3 : S8x8x4096x16.ReducesTo [0, 1, 2, 3] S_
  slices_S8x8x4096x256_S8x8x4096x128_0_0_0_128 : S8x8x4096x256.Slices ![0, 0, 0, 128] S8x8x4096x128
  slices_S8x8x4096x128_S8x8x4096x64_0_0_0_64 : S8x8x4096x128.Slices ![0, 0, 0, 64] S8x8x4096x64
  slices_S8x8x4096x128_S8x8x4096x64_0_0_0_0 : S8x8x4096x128.Slices ![0, 0, 0, 0] S8x8x4096x64

variable [Facts]

def fn_where {F : FTy → Type} [FloatOps F] (arg0 : IVec S8x8x4096x128 1) (arg1 : IVec S8x8x4096x128 32) (arg2 : IVec S8x8x4096x128 32) : IVec S8x8x4096x128 32 :=
  let v0 : IVec S8x8x4096x128 32 := select arg0 arg1 arg2
  v0

def fn_floor_divide {F : FTy → Type} [FloatOps F] (arg0 : IVec S8x8x4096x128 32) (arg1 : IVec S_ 32) : IVec S8x8x4096x128 32 :=
  let v0 : IVec S_ 32 := id arg1
  let v1 : IVec S8x8x4096x128 32 := broadcastInDim S8x8x4096x128 ![] bcast_S_S8x8x4096x128 v0
  let v2 : IVec S8x8x4096x128 32 := Host.divsi arg0 v1
  let v3 : IVec S8x8x4096x128 32 := signi arg0
  let v4 : IVec S_ 32 := signi v0
  let v5 : IVec S8x8x4096x128 32 := broadcastInDim S8x8x4096x128 ![] bcast_S_S8x8x4096x128 v4
  let v6 : IVec S8x8x4096x128 1 := cmpi .ne v3 v5
  let v7 : IVec S8x8x4096x128 32 := broadcastInDim S8x8x4096x128 ![] bcast_S_S8x8x4096x128 v0
  let v8 : IVec S8x8x4096x128 32 := Host.remsi arg0 v7
  let c : IVec S_ 32 := constantI S_ 32 0#32
  let v9 : IVec S8x8x4096x128 32 := broadcastInDim S8x8x4096x128 ![] bcast_S_S8x8x4096x128 c
  let v10 : IVec S8x8x4096x128 1 := cmpi .ne v8 v9
  let v11 : IVec S8x8x4096x128 1 := andi v6 v10
  let c_0 : IVec S_ 32 := constantI S_ 32 1#32
  let v12 : IVec S8x8x4096x128 32 := broadcastInDim S8x8x4096x128 ![] bcast_S_S8x8x4096x128 c_0
  let v13 : IVec S8x8x4096x128 32 := subi v2 v12
  let v14 : IVec S8x8x4096x128 32 := fn_where (F := F) v11 v13 v2
  v14

def fn_where_0 {F : FTy → Type} [FloatOps F] (arg0 : IVec S8x8x4096x16 1) (arg1 : FVec F S8x8x4096x16 .f32) (arg2 : FVec F S_ .f32) : FVec F S8x8x4096x16 .f32 :=
  let v0 : FVec F S_ .f32 := id arg2
  let v1 : FVec F S8x8x4096x16 .f32 := broadcastInDim S8x8x4096x16 ![] bcast_S_S8x8x4096x16 v0
  let v2 : FVec F S8x8x4096x16 .f32 := select arg0 arg1 v1
  v2

def fn_where_1 {F : FTy → Type} [FloatOps F] (arg0 : IVec S8x8x4096x128 1) (arg1 : FVec F S_ .f32) (arg2 : FVec F S_ .f32) : FVec F S8x8x4096x128 .f32 :=
  let v0 : FVec F S8x8x4096x128 .f32 := broadcastInDim S8x8x4096x128 ![] bcast_S_S8x8x4096x128 arg1
  let v1 : FVec F S8x8x4096x128 .f32 := broadcastInDim S8x8x4096x128 ![] bcast_S_S8x8x4096x128 arg2
  let v2 : FVec F S8x8x4096x128 .f32 := select arg0 v0 v1
  v2

def fn_part4 {F : FTy → Type} [FloatOps F] (main_arg3 : FVec F S8x8x4096x128 .bf16) (main_arg4 : FVec F S8x8x4096x128 .bf16) (main_v64 : IVec S_ 1) (main_v69 : IVec S8x8x4096x128 1) (main_c_23 : IVec S_ 1) : IVec S_ 1 :=
  let main_v70 : IVec S_ 1 := (fun x v => Host.reduce IntOp.andi x v reducesTo_S8x8x4096x128_S_d0_1_2_3 h_S_) main_v69 main_c_23
  let main_v71 : IVec S_ 1 := andi main_v64 main_v70
  let main_v72 : FVec F S8x8x4096x64 .bf16 := (extractStridedSlice S8x8x4096x64 ![0, 0, 0, 64] · slices_S8x8x4096x128_S8x8x4096x64_0_0_0_64) main_arg3
  let main_v73 : FVec F S8x8x4096x64 .f32 := (extf .f32 · bitsLt_bf16_f32) main_v72
  let main_cst_24 : FVec F S_ .f32 := constant S_ .f32 0x3F800000#32
  let main_v74 : FVec F S8x8x4096x64 .f32 := broadcastInDim S8x8x4096x64 ![] bcast_S_S8x8x4096x64 main_cst_24
  let main_v75 : IVec S8x8x4096x64 1 := cmpf .oeq main_v73 main_v74
  let main_c_25 : IVec S_ 1 := constantI S_ 1 1#1
  let main_v76 : IVec S_ 1 := (fun x v => Host.reduce IntOp.andi x v reducesTo_S8x8x4096x64_S_d0_1_2_3 h_S_) main_v75 main_c_25
  let main_v77 : IVec S_ 1 := andi main_v71 main_v76
  let main_v78 : FVec F S8x8x4096x64 .bf16 := (extractStridedSlice S8x8x4096x64 ![0, 0, 0, 0] · slices_S8x8x4096x128_S8x8x4096x64_0_0_0_0) main_arg4
  let main_v79 : FVec F S8x8x4096x64 .f32 := (extf .f32 · bitsLt_bf16_f32) main_v78
  let main_cst_26 : FVec F S_ .f32 := constant S_ .f32 0x3F800000#32
  let main_v80 : FVec F S8x8x4096x64 .f32 := broadcastInDim S8x8x4096x64 ![] bcast_S_S8x8x4096x64 main_cst_26
  let main_v81 : IVec S8x8x4096x64 1 := cmpf .oeq main_v79 main_v80
  let main_c_27 : IVec S_ 1 := constantI S_ 1 1#1
  let main_v82 : IVec S_ 1 := (fun x v => Host.reduce IntOp.andi x v reducesTo_S8x8x4096x64_S_d0_1_2_3 h_S_) main_v81 main_c_27
  let main_v83 : IVec S_ 1 := andi main_v77 main_v82
  main_v83

def fn_part3 {F : FTy → Type} [FloatOps F] (main_arg2 : FVec F S8x8x4096x256 .bf16) (main_arg3 : FVec F S8x8x4096x128 .bf16) (main_arg4 : FVec F S8x8x4096x128 .bf16) (main_v1 : FVec F S8x8x4096x16 .f32) (main_v3 : FVec F S8x8x4096x16 .f32) (main_v7 : IVec S8x8x4096x128 1) (main_v50 : IVec S_ 1) (main_v52 : IVec S8x8x4096x16 1) (main_cst_16 : FVec F S_ .f32) : IVec S_ 1 :=
  let main_v53 : FVec F S8x8x4096x16 .f32 := broadcastInDim S8x8x4096x16 ![] bcast_S_S8x8x4096x16 main_cst_16
  let main_v54 : IVec S8x8x4096x16 1 := cmpf .oeq main_v1 main_v53
  let main_v55 : IVec S8x8x4096x16 1 := ori main_v52 main_v54
  let main_c_17 : IVec S_ 1 := constantI S_ 1 1#1
  let main_v56 : IVec S_ 1 := (fun x v => Host.reduce IntOp.andi x v reducesTo_S8x8x4096x16_S_d0_1_2_3 h_S_) main_v55 main_c_17
  let main_v57 : IVec S_ 1 := andi main_v50 main_v56
  let main_cst_18 : FVec F S_ .f32 := constant S_ .f32 0x00000000#32
  let main_v58 : FVec F S8x8x4096x16 .f32 := broadcastInDim S8x8x4096x16 ![] bcast_S_S8x8x4096x16 main_cst_18
  let main_v59 : IVec S8x8x4096x16 1 := cmpf .oeq main_v3 main_v58
  let main_cst_19 : FVec F S_ .f32 := constant S_ .f32 0xFF800000#32
  let main_v60 : FVec F S8x8x4096x16 .f32 := broadcastInDim S8x8x4096x16 ![] bcast_S_S8x8x4096x16 main_cst_19
  let main_v61 : IVec S8x8x4096x16 1 := cmpf .oeq main_v3 main_v60
  let main_v62 : IVec S8x8x4096x16 1 := ori main_v59 main_v61
  let main_c_20 : IVec S_ 1 := constantI S_ 1 1#1
  let main_v63 : IVec S_ 1 := (fun x v => Host.reduce IntOp.andi x v reducesTo_S8x8x4096x16_S_d0_1_2_3 h_S_) main_v62 main_c_20
  let main_v64 : IVec S_ 1 := andi main_v57 main_v63
  let main_v65 : FVec F S8x8x4096x128 .bf16 := (extractStridedSlice S8x8x4096x128 ![0, 0, 0, 128] · slices_S8x8x4096x256_S8x8x4096x128_0_0_0_128) main_arg2
  let main_v66 : FVec F S8x8x4096x128 .f32 := (extf .f32 · bitsLt_bf16_f32) main_v65
  let main_cst_21 : FVec F S_ .f32 := constant S_ .f32 0x3F800000#32
  let main_cst_22 : FVec F S_ .f32 := constant S_ .f32 0x00000000#32
  let main_v67 : FVec F S8x8x4096x128 .f32 := fn_where_1 (F := F) main_v7 main_cst_21 main_cst_22
  let main_v68 : FVec F S8x8x4096x128 .f32 := id main_v67
  let main_v69 : IVec S8x8x4096x128 1 := cmpf .oeq main_v66 main_v68
  let main_c_23 : IVec S_ 1 := constantI S_ 1 1#1
  fn_part4 (F := F) main_arg3 main_arg4 main_v64 main_v69 main_c_23

def fn_part2 {F : FTy → Type} [FloatOps F] (main_arg0 : FVec F S8x8x4096x256 .bf16) (main_arg1 : FVec F S8x8x4096x256 .bf16) (main_arg2 : FVec F S8x8x4096x256 .bf16) (main_arg3 : FVec F S8x8x4096x128 .bf16) (main_arg4 : FVec F S8x8x4096x128 .bf16) (main_v1 : FVec F S8x8x4096x16 .f32) (main_v3 : FVec F S8x8x4096x16 .f32) (main_v7 : IVec S8x8x4096x128 1) (main_v33 : IVec S_ 1) (main_v34 : FVec F S8x8x4096x16 .f32) (main_v35 : FVec F S8x8x4096x16 .f32) : IVec S_ 1 :=
  let main_v36 : IVec S8x8x4096x16 1 := cmpf .oeq main_v34 main_v35
  let main_c_10 : IVec S_ 1 := constantI S_ 1 1#1
  let main_v37 : IVec S_ 1 := (fun x v => Host.reduce IntOp.andi x v reducesTo_S8x8x4096x16_S_d0_1_2_3 h_S_) main_v36 main_c_10
  let main_v38 : IVec S_ 1 := andi main_v33 main_v37
  let main_v39 : FVec F S8x8x4096x64 .bf16 := (extractStridedSlice S8x8x4096x64 ![0, 0, 0, 64] · slices_S8x8x4096x256_S8x8x4096x64_0_0_0_64) main_arg0
  let main_v40 : FVec F S8x8x4096x64 .f32 := (extf .f32 · bitsLt_bf16_f32) main_v39
  let main_cst_11 : FVec F S_ .f32 := constant S_ .f32 0x00000000#32
  let main_v41 : FVec F S8x8x4096x64 .f32 := broadcastInDim S8x8x4096x64 ![] bcast_S_S8x8x4096x64 main_cst_11
  let main_v42 : IVec S8x8x4096x64 1 := cmpf .oeq main_v40 main_v41
  let main_c_12 : IVec S_ 1 := constantI S_ 1 1#1
  let main_v43 : IVec S_ 1 := (fun x v => Host.reduce IntOp.andi x v reducesTo_S8x8x4096x64_S_d0_1_2_3 h_S_) main_v42 main_c_12
  let main_v44 : IVec S_ 1 := andi main_v38 main_v43
  let main_v45 : FVec F S8x8x4096x64 .bf16 := (extractStridedSlice S8x8x4096x64 ![0, 0, 0, 0] · slices_S8x8x4096x256_S8x8x4096x64_0_0_0_0) main_arg1
  let main_v46 : FVec F S8x8x4096x64 .f32 := (extf .f32 · bitsLt_bf16_f32) main_v45
  let main_cst_13 : FVec F S_ .f32 := constant S_ .f32 0x00000000#32
  let main_v47 : FVec F S8x8x4096x64 .f32 := broadcastInDim S8x8x4096x64 ![] bcast_S_S8x8x4096x64 main_cst_13
  let main_v48 : IVec S8x8x4096x64 1 := cmpf .oeq main_v46 main_v47
  let main_c_14 : IVec S_ 1 := constantI S_ 1 1#1
  let main_v49 : IVec S_ 1 := (fun x v => Host.reduce IntOp.andi x v reducesTo_S8x8x4096x64_S_d0_1_2_3 h_S_) main_v48 main_c_14
  let main_v50 : IVec S_ 1 := andi main_v44 main_v49
  let main_cst_15 : FVec F S_ .f32 := constant S_ .f32 0x00000000#32
  let main_v51 : FVec F S8x8x4096x16 .f32 := broadcastInDim S8x8x4096x16 ![] bcast_S_S8x8x4096x16 main_cst_15
  let main_v52 : IVec S8x8x4096x16 1 := cmpf .oeq main_v1 main_v51
  let main_cst_16 : FVec F S_ .f32 := constant S_ .f32 0xFF800000#32
  fn_part3 (F := F) main_arg2 main_arg3 main_arg4 main_v1 main_v3 main_v7 main_v50 main_v52 main_cst_16

def fn_part1 {F : FTy → Type} [FloatOps F] (main_arg0 : FVec F S8x8x4096x256 .bf16) (main_arg1 : FVec F S8x8x4096x256 .bf16) (main_arg2 : FVec F S8x8x4096x256 .bf16) (main_arg3 : FVec F S8x8x4096x128 .bf16) (main_arg4 : FVec F S8x8x4096x128 .bf16) (main_v1 : FVec F S8x8x4096x16 .f32) (main_v3 : FVec F S8x8x4096x16 .f32) (main_v7 : IVec S8x8x4096x128 1) (main_v8 : IVec S8x8x4096x16 1) (main_v14 : IVec S_ 1) (main_v19 : IVec S8x8x4096x64 1) : IVec S_ 1 :=
  let main_c_2 : IVec S_ 1 := constantI S_ 1 1#1
  let main_v20 : IVec S_ 1 := (fun x v => Host.reduce IntOp.andi x v reducesTo_S8x8x4096x64_S_d0_1_2_3 h_S_) main_v19 main_c_2
  let main_v21 : IVec S_ 1 := andi main_v14 main_v20
  let main_v22 : FVec F S8x8x4096x128 .bf16 := (extractStridedSlice S8x8x4096x128 ![0, 0, 0, 0] · slices_S8x8x4096x256_S8x8x4096x128_0_0_0_0) main_arg2
  let main_v23 : FVec F S8x8x4096x128 .f32 := (extf .f32 · bitsLt_bf16_f32) main_v22
  let main_v24 : FVec F S8x8x4096x128 .f32 := Host.absf main_v23
  let main_cst_3 : FVec F S_ .f32 := constant S_ .f32 0x7F800000#32
  let main_v25 : FVec F S8x8x4096x128 .f32 := broadcastInDim S8x8x4096x128 ![] bcast_S_S8x8x4096x128 main_cst_3
  let main_v26 : IVec S8x8x4096x128 1 := cmpf .olt main_v24 main_v25
  let main_c_4 : IVec S_ 1 := constantI S_ 1 1#1
  let main_v27 : IVec S_ 1 := (fun x v => Host.reduce IntOp.andi x v reducesTo_S8x8x4096x128_S_d0_1_2_3 h_S_) main_v26 main_c_4
  let main_v28 : IVec S_ 1 := andi main_v21 main_v27
  let main_cst_5 : FVec F S_ .f32 := constant S_ .f32 0x00000000#32
  let main_v29 : FVec F S8x8x4096x16 .f32 := fn_where_0 (F := F) main_v8 main_v1 main_cst_5
  let main_cst_6 : FVec F S_ .f32 := constant S_ .f32 0x00000000#32
  let main_v30 : FVec F S8x8x4096x16 .f32 := broadcastInDim S8x8x4096x16 ![] bcast_S_S8x8x4096x16 main_cst_6
  let main_v31 : IVec S8x8x4096x16 1 := cmpf .oeq main_v29 main_v30
  let main_c_7 : IVec S_ 1 := constantI S_ 1 1#1
  let main_v32 : IVec S_ 1 := (fun x v => Host.reduce IntOp.andi x v reducesTo_S8x8x4096x16_S_d0_1_2_3 h_S_) main_v31 main_c_7
  let main_v33 : IVec S_ 1 := andi main_v28 main_v32
  let main_cst_8 : FVec F S_ .f32 := constant S_ .f32 0x00000000#32
  let main_v34 : FVec F S8x8x4096x16 .f32 := fn_where_0 (F := F) main_v8 main_v3 main_cst_8
  let main_cst_9 : FVec F S_ .f32 := constant S_ .f32 0x00000000#32
  let main_v35 : FVec F S8x8x4096x16 .f32 := broadcastInDim S8x8x4096x16 ![] bcast_S_S8x8x4096x16 main_cst_9
  fn_part2 (F := F) main_arg0 main_arg1 main_arg2 main_arg3 main_arg4 main_v1 main_v3 main_v7 main_v33 main_v34 main_v35

def fn {F : FTy → Type} [FloatOps F] (main_arg0 : FVec F S8x8x4096x256 .bf16) (main_arg1 : FVec F S8x8x4096x256 .bf16) (main_arg2 : FVec F S8x8x4096x256 .bf16) (main_arg3 : FVec F S8x8x4096x128 .bf16) (main_arg4 : FVec F S8x8x4096x128 .bf16) (main_arg5 : FVec F S8x4096x1024 .f32) : IVec S_ 1 :=
  let main_v0 : FVec F S8x8x4096x16 .bf16 := (extractStridedSlice S8x8x4096x16 ![0, 0, 0, 128] · slices_S8x8x4096x256_S8x8x4096x16_0_0_0_128) main_arg0
  let main_v1 : FVec F S8x8x4096x16 .f32 := (extf .f32 · bitsLt_bf16_f32) main_v0
  let main_v2 : FVec F S8x8x4096x16 .bf16 := (extractStridedSlice S8x8x4096x16 ![0, 0, 0, 128] · slices_S8x8x4096x256_S8x8x4096x16_0_0_0_128) main_arg1
  let main_v3 : FVec F S8x8x4096x16 .f32 := (extf .f32 · bitsLt_bf16_f32) main_v2
  let main_v4 : IVec S8x8x4096x128 32 := iotaInDim S8x8x4096x128 32 2
  let main_c : IVec S_ 32 := constantI S_ 32 256#32
  let main_v5 : IVec S8x8x4096x128 32 := fn_floor_divide (F := F) main_v4 main_c
  let main_v6 : IVec S8x8x4096x128 32 := iotaInDim S8x8x4096x128 32 3
  let main_v7 : IVec S8x8x4096x128 1 := cmpi .eq main_v5 main_v6
  let main_v8 : IVec S8x8x4096x16 1 := (extractStridedSlice S8x8x4096x16 ![0, 0, 0, 0] · slices_S8x8x4096x128_S8x8x4096x16_0_0_0_0) main_v7
  let main_v9 : FVec F S8x8x4096x64 .bf16 := (extractStridedSlice S8x8x4096x64 ![0, 0, 0, 0] · slices_S8x8x4096x256_S8x8x4096x64_0_0_0_0) main_arg0
  let main_v10 : FVec F S8x8x4096x64 .f32 := (extf .f32 · bitsLt_bf16_f32) main_v9
  let main_v11 : FVec F S8x8x4096x64 .f32 := Host.absf main_v10
  let main_cst : FVec F S_ .f32 := constant S_ .f32 0x7F800000#32
  let main_v12 : FVec F S8x8x4096x64 .f32 := broadcastInDim S8x8x4096x64 ![] bcast_S_S8x8x4096x64 main_cst
  let main_v13 : IVec S8x8x4096x64 1 := cmpf .olt main_v11 main_v12
  let main_c_0 : IVec S_ 1 := constantI S_ 1 1#1
  let main_v14 : IVec S_ 1 := (fun x v => Host.reduce IntOp.andi x v reducesTo_S8x8x4096x64_S_d0_1_2_3 h_S_) main_v13 main_c_0
  let main_v15 : FVec F S8x8x4096x64 .bf16 := (extractStridedSlice S8x8x4096x64 ![0, 0, 0, 64] · slices_S8x8x4096x256_S8x8x4096x64_0_0_0_64) main_arg1
  let main_v16 : FVec F S8x8x4096x64 .f32 := (extf .f32 · bitsLt_bf16_f32) main_v15
  let main_v17 : FVec F S8x8x4096x64 .f32 := Host.absf main_v16
  let main_cst_1 : FVec F S_ .f32 := constant S_ .f32 0x7F800000#32
  let main_v18 : FVec F S8x8x4096x64 .f32 := broadcastInDim S8x8x4096x64 ![] bcast_S_S8x8x4096x64 main_cst_1
  let main_v19 : IVec S8x8x4096x64 1 := cmpf .olt main_v17 main_v18
  fn_part1 (F := F) main_arg0 main_arg1 main_arg2 main_arg3 main_arg4 main_v1 main_v3 main_v7 main_v8 main_v14 main_v19
-- ==== Kernel.lean ====
abbrev S8x8x4096x256 : Shape := ⟨4, ![8, 8, 4096, 256]⟩
abbrev S8x8x4096x128 : Shape := ⟨4, ![8, 8, 4096, 128]⟩
abbrev S8x4096x1024 : Shape := ⟨3, ![8, 4096, 1024]⟩
abbrev S1x1x2048x256 : Shape := ⟨4, ![1, 1, 2048, 256]⟩
abbrev S1x1x4096x256 : Shape := ⟨4, ![1, 1, 4096, 256]⟩
abbrev S1x1x4096x128 : Shape := ⟨4, ![1, 1, 4096, 128]⟩
abbrev S1x2048x128 : Shape := ⟨3, ![1, 2048, 128]⟩
abbrev S2x2x256x4096 : Shape := ⟨4, ![2, 2, 256, 4096]⟩
abbrev S1x1x256x256 : Shape := ⟨4, ![1, 1, 256, 256]⟩
abbrev S256x256 : Shape := ⟨2, ![256, 256]⟩
abbrev S1x1x2304x256 : Shape := ⟨4, ![1, 1, 2304, 256]⟩
abbrev S2304x256 : Shape := ⟨2, ![2304, 256]⟩
abbrev S256x2304 : Shape := ⟨2, ![256, 2304]⟩
abbrev S1x1x256x4096 : Shape := ⟨4, ![1, 1, 256, 4096]⟩
abbrev S256x4096 : Shape := ⟨2, ![256, 4096]⟩
abbrev S1x1x2560x256 : Shape := ⟨4, ![1, 1, 2560, 256]⟩
abbrev S2560x256 : Shape := ⟨2, ![2560, 256]⟩
abbrev S256x2560 : Shape := ⟨2, ![256, 2560]⟩
abbrev S256 : Shape := ⟨1, ![256]⟩
abbrev S256x1 : Shape := ⟨2, ![256, 1]⟩
abbrev S1x1x256x2304 : Shape := ⟨4, ![1, 1, 256, 2304]⟩
abbrev S1x1x256x2560 : Shape := ⟨4, ![1, 1, 256, 2560]⟩
abbrev S1x1x2304x128 : Shape := ⟨4, ![1, 1, 2304, 128]⟩
abbrev S2304x128 : Shape := ⟨2, ![2304, 128]⟩
abbrev S256x128 : Shape := ⟨2, ![256, 128]⟩
abbrev S1x1x2560x128 : Shape := ⟨4, ![1, 1, 2560, 128]⟩
abbrev S2560x128 : Shape := ⟨2, ![2560, 128]⟩
abbrev S1x1x2816x256 : Shape := ⟨4, ![1, 1, 2816, 256]⟩
abbrev S2816x256 : Shape := ⟨2, ![2816, 256]⟩
abbrev S256x2816 : Shape := ⟨2, ![256, 2816]⟩
abbrev S1x1x3072x256 : Shape := ⟨4, ![1, 1, 3072, 256]⟩
abbrev S3072x256 : Shape := ⟨2, ![3072, 256]⟩
abbrev S256x3072 : Shape := ⟨2, ![256, 3072]⟩
abbrev S1x1x256x2816 : Shape := ⟨4, ![1, 1, 256, 2816]⟩
abbrev S1x1x256x3072 : Shape := ⟨4, ![1, 1, 256, 3072]⟩
abbrev S1x1x2816x128 : Shape := ⟨4, ![1, 1, 2816, 128]⟩
abbrev S2816x128 : Shape := ⟨2, ![2816, 128]⟩
abbrev S1x1x3072x128 : Shape := ⟨4, ![1, 1, 3072, 128]⟩
abbrev S3072x128 : Shape := ⟨2, ![3072, 128]⟩
abbrev S1x1x3328x256 : Shape := ⟨4, ![1, 1, 3328, 256]⟩
abbrev S3328x256 : Shape := ⟨2, ![3328, 256]⟩
abbrev S256x3328 : Shape := ⟨2, ![256, 3328]⟩
abbrev S1x1x3584x256 : Shape := ⟨4, ![1, 1, 3584, 256]⟩
abbrev S3584x256 : Shape := ⟨2, ![3584, 256]⟩
abbrev S256x3584 : Shape := ⟨2, ![256, 3584]⟩
abbrev S1x1x256x3328 : Shape := ⟨4, ![1, 1, 256, 3328]⟩
abbrev S1x1x256x3584 : Shape := ⟨4, ![1, 1, 256, 3584]⟩
abbrev S1x1x3328x128 : Shape := ⟨4, ![1, 1, 3328, 128]⟩
abbrev S3328x128 : Shape := ⟨2, ![3328, 128]⟩
abbrev S1x1x3584x128 : Shape := ⟨4, ![1, 1, 3584, 128]⟩
abbrev S3584x128 : Shape := ⟨2, ![3584, 128]⟩
abbrev S1x1x3840x256 : Shape := ⟨4, ![1, 1, 3840, 256]⟩
abbrev S3840x256 : Shape := ⟨2, ![3840, 256]⟩
abbrev S256x3840 : Shape := ⟨2, ![256, 3840]⟩
abbrev S4096x256 : Shape := ⟨2, ![4096, 256]⟩
abbrev S1x1x256x3840 : Shape := ⟨4, ![1, 1, 256, 3840]⟩
abbrev S1x1x3840x128 : Shape := ⟨4, ![1, 1, 3840, 128]⟩
abbrev S3840x128 : Shape := ⟨2, ![3840, 128]⟩
abbrev S4096x128 : Shape := ⟨2, ![4096, 128]⟩
abbrev S1x256x128 : Shape := ⟨3, ![1, 256, 128]⟩

abbrev nBuf : Space → Nat
  | .hbm => 7
  | .vmem => 14
  | .smem => 0
  | _ => 0

abbrev bufTy : (tb : Table) → Fin (tcTables nBuf tb) → BufTy
  | .hbm, ⟨0, _⟩ => ⟨S8x8x4096x256, .bf16⟩
  | .hbm, ⟨1, _⟩ => ⟨S8x8x4096x256, .bf16⟩
  | .hbm, ⟨2, _⟩ => ⟨S8x8x4096x256, .bf16⟩
  | .hbm, ⟨3, _⟩ => ⟨S8x8x4096x128, .bf16⟩
  | .hbm, ⟨4, _⟩ => ⟨S8x8x4096x128, .bf16⟩
  | .hbm, ⟨5, _⟩ => ⟨S8x4096x1024, .f32⟩
  | .hbm, ⟨6, _⟩ => ⟨S8x4096x1024, .f32⟩
  | .local _ .vmem, ⟨0, _⟩ => ⟨S1x1x2048x256, .bf16⟩
  | .local _ .vmem, ⟨1, _⟩ => ⟨S1x1x2048x256, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1x1x4096x256, .bf16⟩
  | .local _ .vmem, ⟨5, _⟩ => ⟨S1x1x4096x256, .bf16⟩
  | .local _ .vmem, ⟨6, _⟩ => ⟨S1x1x4096x128, .bf16⟩
  | .local _ .vmem, ⟨7, _⟩ => ⟨S1x1x4096x128, .bf16⟩
  | .local _ .vmem, ⟨8, _⟩ => ⟨S1x1x4096x128, .bf16⟩
  | .local _ .vmem, ⟨9, _⟩ => ⟨S1x1x4096x128, .bf16⟩
  | .local _ .vmem, ⟨10, _⟩ => ⟨S1x2048x128, .f32⟩
  | .local _ .vmem, ⟨11, _⟩ => ⟨S1x2048x128, .f32⟩
  | .local _ .vmem, ⟨12, _⟩ => ⟨S2x2x256x4096, .f32⟩
  | .local _ .vmem, ⟨13, _⟩ => ⟨S2x2x256x4096, .bf16⟩
  | _, _ => ⟨S8x8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, arg1.toNat, c1_i32.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, arg1.toNat, c1_i32.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat, arg1.toNat]

abbrev stage0_0 : Fin 2 → Memref sig .tc .vmem S1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x8x4096x256 : Shape := ⟨4, ![8, 8, 4096, 256]⟩
abbrev S8x8x4096x128 : Shape := ⟨4, ![8, 8, 4096, 128]⟩
abbrev S8x4096x1024 : Shape := ⟨3, ![8, 4096, 1024]⟩
abbrev S8x8x2048x64 : Shape := ⟨4, ![8, 8, 2048, 64]⟩
abbrev S8x8x1x2048x64 : Shape := ⟨5, ![8, 8, 1, 2048, 64]⟩
abbrev S8x8x2x2048x64 : Shape := ⟨5, ![8, 8, 2, 2048, 64]⟩
abbrev S8x16x2048x64 : Shape := ⟨4, ![8, 16, 2048, 64]⟩
abbrev S8x8x4096x64 : Shape := ⟨4, ![8, 8, 4096, 64]⟩
abbrev S8x8x1x4096x64 : Shape := ⟨5, ![8, 8, 1, 4096, 64]⟩
abbrev S8x8x2x4096x64 : Shape := ⟨5, ![8, 8, 2, 4096, 64]⟩
abbrev S8x16x4096x64 : Shape := ⟨4, ![8, 16, 4096, 64]⟩
abbrev S8x8x2048x16 : Shape := ⟨4, ![8, 8, 2048, 16]⟩
abbrev S8x8x1x2048x16 : Shape := ⟨5, ![8, 8, 1, 2048, 16]⟩
abbrev S8x8x2x2048x16 : Shape := ⟨5, ![8, 8, 2, 2048, 16]⟩
abbrev S8x16x2048x16 : Shape := ⟨4, ![8, 16, 2048, 16]⟩
abbrev S_ : Shape := ⟨0, ![]⟩
abbrev S8x16x2048x16x1 : Shape := ⟨5, ![8, 16, 2048, 16, 1]⟩
abbrev S8x16x2048x16x256 : Shape := ⟨5, ![8, 16, 2048, 16, 256]⟩
abbrev S8x16x2048x4096 : Shape := ⟨4, ![8, 16, 2048, 4096]⟩
abbrev S2048 : Shape := ⟨1, ![2048]⟩
abbrev S4096 : Shape := ⟨1, ![4096]⟩
abbrev S1x4096 : Shape := ⟨2, ![1, 4096]⟩
abbrev S2048x1 : Shape := ⟨2, ![2048, 1]⟩
abbrev S2048x4096 : Shape := ⟨2, ![2048, 4096]⟩
abbrev S1x1x2048x4096 : Shape := ⟨4, ![1, 1, 2048, 4096]⟩
abbrev S8x16x2048 : Shape := ⟨3, ![8, 16, 2048]⟩
abbrev S8x16x2048x1 : Shape := ⟨4, ![8, 16, 2048, 1]⟩
abbrev S8x2048x1024 : Shape := ⟨3, ![8, 2048, 1024]⟩
abbrev S8x2048x16x64 : Shape := ⟨4, ![8, 2048, 16, 64]⟩

abbrev nBuf : Space → Nat
  | .hbm => 89
  | .vmem => 0
  | .smem => 0
  | _ => 0

abbrev bufTy : (tb : Table) → Fin (tcTables nBuf tb) → BufTy
  | .hbm, ⟨0, _⟩ => ⟨S8x8x4096x256, .bf16⟩
  | .hbm, ⟨1, _⟩ => ⟨S8x8x4096x256, .bf16⟩
  | .hbm, ⟨2, _⟩ => ⟨S8x8x4096x256, .bf16⟩
  | .hbm, ⟨3, _⟩ => ⟨S8x8x4096x128, .bf16⟩
  | .hbm, ⟨4, _⟩ => ⟨S8x8x4096x128, .bf16⟩
  | .hbm, ⟨5, _⟩ => ⟨S8x4096x1024, .f32⟩
  | .hbm, ⟨6, _⟩ => ⟨S8x8x2048x64, .bf16⟩
  | .hbm, ⟨7, _⟩ => ⟨S8x8x2048x64, .bf16⟩
  | .hbm, ⟨8, _⟩ => ⟨S8x8x2048x64, .f32⟩
  | .hbm, ⟨9, _⟩ => ⟨S8x8x2048x64, .f32⟩
  | .hbm, ⟨10, _⟩ => ⟨S8x8x1x2048x64, .f32⟩
  | .hbm, ⟨11, _⟩ => ⟨S8x8x1x2048x64, .f32⟩
  | .hbm, ⟨12, _⟩ => ⟨S8x8x2x2048x64, .f32⟩
  | .hbm, ⟨13, _⟩ => ⟨S8x16x2048x64, .f32⟩
  | .hbm, ⟨14, _⟩ => ⟨S8x8x4096x64, .bf16⟩
  | .hbm, ⟨15, _⟩ => ⟨S8x8x4096x64, .bf16⟩
  | .hbm, ⟨16, _⟩ => ⟨S8x8x4096x64, .f32⟩
  | .hbm, ⟨17, _⟩ => ⟨S8x8x4096x64, .f32⟩
  | .hbm, ⟨18, _⟩ => ⟨S8x8x1x4096x64, .f32⟩
  | .hbm, ⟨19, _⟩ => ⟨S8x8x1x4096x64, .f32⟩
  | .hbm, ⟨20, _⟩ => ⟨S8x8x2x4096x64, .f32⟩
  | .hbm, ⟨21, _⟩ => ⟨S8x16x4096x64, .f32⟩
  | .hbm, ⟨22, _⟩ => ⟨S8x8x4096x64, .bf16⟩
  | .hbm, ⟨23, _⟩ => ⟨S8x8x4096x64, .bf16⟩
  | .hbm, ⟨24, _⟩ => ⟨S8x8x4096x64, .f32⟩
  | .hbm, ⟨25, _⟩ => ⟨S8x8x4096x64, .f32⟩
  | .hbm, ⟨26, _⟩ => ⟨S8x8x1x4096x64, .f32⟩
  | .hbm, ⟨27, _⟩ => ⟨S8x8x1x4096x64, .f32⟩
  | .hbm, ⟨28, _⟩ => ⟨S8x8x2x4096x64, .f32⟩
  | .hbm, ⟨29, _⟩ => ⟨S8x16x4096x64, .f32⟩
  | .hbm, ⟨30, _⟩ => ⟨S8x8x2048x16, .bf16⟩
  | .hbm, ⟨31, _⟩ => ⟨S8x8x2048x16, .bf16⟩
  | .hbm, ⟨32, _⟩ => ⟨S8x8x2048x16, .f32⟩
  | .hbm, ⟨33, _⟩ => ⟨S8x8x2048x16, .f32⟩
  | .hbm, ⟨34, _⟩ => ⟨S8x8x1x2048x16, .f32⟩
  | .hbm, ⟨35, _⟩ => ⟨S8x8x1x2048x16, .f32⟩
  | .hbm, ⟨36, _⟩ => ⟨S8x8x2x2048x16, .f32⟩
  | .hbm, ⟨37, _⟩ => ⟨S8x16x2048x16, .f32⟩
  | .hbm, ⟨38, _⟩ => ⟨S_, .f32⟩
  | .hbm, ⟨39, _⟩ => ⟨S8x16x2048x16, .f32⟩
  | .hbm, ⟨40, _⟩ => ⟨S8x16x2048x16, .i1⟩
  | .hbm, ⟨41, _⟩ => ⟨S8x16x2048x16x1, .i1⟩
  | .hbm, ⟨42, _⟩ => ⟨S8x16x2048x16x256, .i1⟩
  | .hbm, ⟨43, _⟩ => ⟨S8x16x2048x4096, .i1⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S4096, .i32⟩
  | .hbm, ⟨49, _⟩ => ⟨S1x4096, .i32⟩
  | .hbm, ⟨50, _⟩ => ⟨S2048x1, .i32⟩
  | .hbm, ⟨51, _⟩ => ⟨S2048x4096, .i32⟩
  | .hbm, ⟨52, _⟩ => ⟨S2048x4096, .i32⟩
  | .hbm, ⟨53, _⟩ => ⟨S2048x4096, .i1⟩
  | .hbm, ⟨54, _⟩ => ⟨S8x16x2048x4096, .f32⟩
  | .hbm, ⟨55, _⟩ => ⟨S_, .f32⟩
  | .hbm, ⟨56, _⟩ => ⟨S_, .f32⟩
  | .hbm, ⟨57, _⟩ => ⟨S8x16x2048x4096, .f32⟩
  | .hbm, ⟨58, _⟩ => ⟨S8x16x2048x4096, .f32⟩
  | .hbm, ⟨59, _⟩ => ⟨S1x1x2048x4096, .i1⟩
  | .hbm, ⟨60, _⟩ => ⟨S8x16x2048x4096, .i1⟩
  | .hbm, ⟨61, _⟩ => ⟨S8x16x2048x4096, .i1⟩
  | .hbm, ⟨62, _⟩ => ⟨S_, .f32⟩
  | .hbm, ⟨63, _⟩ => ⟨S_, .f32⟩
  | .hbm, ⟨64, _⟩ => ⟨S8x16x2048x4096, .f32⟩
  | .hbm, ⟨65, _⟩ => ⟨S8x16x2048x4096, .f32⟩
  | .hbm, ⟨66, _⟩ => ⟨S_, .f32⟩
  | .hbm, ⟨67, _⟩ => ⟨S8x16x2048, .f32⟩
  | .hbm, ⟨68, _⟩ => ⟨S_, .f32⟩
  | .hbm, ⟨69, _⟩ => ⟨S8x16x2048, .f32⟩
  | .hbm, ⟨70, _⟩ => ⟨S8x16x2048, .f32⟩
  | .hbm, ⟨71, _⟩ => ⟨S8x16x2048x1, .f32⟩
  | .hbm, ⟨72, _⟩ => ⟨S8x16x2048x4096, .f32⟩
  | .hbm, ⟨73, _⟩ => ⟨S8x16x2048x4096, .f32⟩
  | .hbm, ⟨74, _⟩ => ⟨S8x16x2048x4096, .f32⟩
  | .hbm, ⟨75, _⟩ => ⟨S_, .f32⟩
  | .hbm, ⟨76, _⟩ => ⟨S8x16x2048, .f32⟩
  | .hbm, ⟨77, _⟩ => ⟨S8x16x2048x1, .f32⟩
  | .hbm, ⟨78, _⟩ => ⟨S8x16x2048x4096, .f32⟩
  | .hbm, ⟨79, _⟩ => ⟨S8x16x2048x4096, .f32⟩
  | .hbm, ⟨80, _⟩ => ⟨S_, .f32⟩
  | .hbm, ⟨81, _⟩ => ⟨S_, .f32⟩
  | .hbm, ⟨82, _⟩ => ⟨S8x16x2048x4096, .f32⟩
  | .hbm, ⟨83, _⟩ => ⟨S8x16x2048x4096, .f32⟩
  | .hbm, ⟨84, _⟩ => ⟨S8x16x2048x64, .f32⟩
  | .hbm, ⟨85, _⟩ => ⟨S8x2048x1024, .f32⟩
  | .hbm, ⟨86, _⟩ => ⟨S8x2048x16x64, .f32⟩
  | .hbm, ⟨87, _⟩ => ⟨S8x2048x1024, .f32⟩
  | .hbm, ⟨88, _⟩ => ⟨S8x4096x1024, .f32⟩
  | _, _ => ⟨S8x8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_0 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_1 : Ref sig .tc := ⟨.hbm, 62, rfl⟩
abbrev main_call0_v0 : Ref sig .tc := ⟨.hbm, 63, rfl⟩
abbrev main_call0_v1 : Ref sig .tc := ⟨.hbm, 64, rfl⟩
abbrev main_v53 : Ref sig .tc := ⟨.hbm, 65, rfl⟩
abbrev main_cst_2 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_4 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_5 : Ref sig .tc := ⟨.hbm, 80, rfl⟩
abbrev main_call1_v0 : Ref sig .tc := ⟨.hbm, 81, rfl⟩
abbrev main_call1_v1 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Early.lean ====
abbrev S8x8x4096x256 : Shape := ⟨4, ![8, 8, 4096, 256]⟩
abbrev S8x8x4096x128 : Shape := ⟨4, ![8, 8, 4096, 128]⟩
abbrev S8x4096x1024 : Shape := ⟨3, ![8, 4096, 1024]⟩
abbrev S1x1x2048x256 : Shape := ⟨4, ![1, 1, 2048, 256]⟩
abbrev S1x1x2048x128 : Shape := ⟨4, ![1, 1, 2048, 128]⟩
abbrev S1x2048x128 : Shape := ⟨3, ![1, 2048, 128]⟩
abbrev S2x2x256x2048 : Shape := ⟨4, ![2, 2, 256, 2048]⟩
abbrev S1x1x256x256 : Shape := ⟨4, ![1, 1, 256, 256]⟩
abbrev S256x256 : Shape := ⟨2, ![256, 256]⟩
abbrev S1x1x256x2048 : Shape := ⟨4, ![1, 1, 256, 2048]⟩
abbrev S256x2048 : Shape := ⟨2, ![256, 2048]⟩
abbrev S1x1x512x256 : Shape := ⟨4, ![1, 1, 512, 256]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S1x1x256x512 : Shape := ⟨4, ![1, 1, 256, 512]⟩
abbrev S1x1x256x128 : Shape := ⟨4, ![1, 1, 256, 128]⟩
abbrev S256x128 : Shape := ⟨2, ![256, 128]⟩
abbrev S1x1x512x128 : Shape := ⟨4, ![1, 1, 512, 128]⟩
abbrev S512x128 : Shape := ⟨2, ![512, 128]⟩
abbrev S1x1x768x256 : Shape := ⟨4, ![1, 1, 768, 256]⟩
abbrev S768x256 : Shape := ⟨2, ![768, 256]⟩
abbrev S256x768 : Shape := ⟨2, ![256, 768]⟩
abbrev S1x1x1024x256 : Shape := ⟨4, ![1, 1, 1024, 256]⟩
abbrev S1024x256 : Shape := ⟨2, ![1024, 256]⟩
abbrev S256x1024 : Shape := ⟨2, ![256, 1024]⟩
abbrev S1x1x256x768 : Shape := ⟨4, ![1, 1, 256, 768]⟩
abbrev S1x1x256x1024 : Shape := ⟨4, ![1, 1, 256, 1024]⟩
abbrev S1x1x768x128 : Shape := ⟨4, ![1, 1, 768, 128]⟩
abbrev S768x128 : Shape := ⟨2, ![768, 128]⟩
abbrev S1x1x1024x128 : Shape := ⟨4, ![1, 1, 1024, 128]⟩
abbrev S1024x128 : Shape := ⟨2, ![1024, 128]⟩
abbrev S1x1x1280x256 : Shape := ⟨4, ![1, 1, 1280, 256]⟩
abbrev S1280x256 : Shape := ⟨2, ![1280, 256]⟩
abbrev S256x1280 : Shape := ⟨2, ![256, 1280]⟩
abbrev S1x1x1536x256 : Shape := ⟨4, ![1, 1, 1536, 256]⟩
abbrev S1536x256 : Shape := ⟨2, ![1536, 256]⟩
abbrev S256x1536 : Shape := ⟨2, ![256, 1536]⟩
abbrev S1x1x256x1280 : Shape := ⟨4, ![1, 1, 256, 1280]⟩
abbrev S1x1x256x1536 : Shape := ⟨4, ![1, 1, 256, 1536]⟩
abbrev S1x1x1280x128 : Shape := ⟨4, ![1, 1, 1280, 128]⟩
abbrev S1280x128 : Shape := ⟨2, ![1280, 128]⟩
abbrev S1x1x1536x128 : Shape := ⟨4, ![1, 1, 1536, 128]⟩
abbrev S1536x128 : Shape := ⟨2, ![1536, 128]⟩
abbrev S1x1x1792x256 : Shape := ⟨4, ![1, 1, 1792, 256]⟩
abbrev S1792x256 : Shape := ⟨2, ![1792, 256]⟩
abbrev S256x1792 : Shape := ⟨2, ![256, 1792]⟩
abbrev S2048x256 : Shape := ⟨2, ![2048, 256]⟩
abbrev S1x1x256x1792 : Shape := ⟨4, ![1, 1, 256, 1792]⟩
abbrev S1x1x1792x128 : Shape := ⟨4, ![1, 1, 1792, 128]⟩
abbrev S1792x128 : Shape := ⟨2, ![1792, 128]⟩
abbrev S2048x128 : Shape := ⟨2, ![2048, 128]⟩
abbrev S1x256x128 : Shape := ⟨3, ![1, 256, 128]⟩

abbrev nBuf : Space → Nat
  | .hbm => 7
  | .vmem => 14
  | .smem => 0
  | _ => 0

abbrev bufTy : (tb : Table) → Fin (tcTables nBuf tb) → BufTy
  | .hbm, ⟨0, _⟩ => ⟨S8x8x4096x256, .bf16⟩
  | .hbm, ⟨1, _⟩ => ⟨S8x8x4096x256, .bf16⟩
  | .hbm, ⟨2, _⟩ => ⟨S8x8x4096x256, .bf16⟩
  | .hbm, ⟨3, _⟩ => ⟨S8x8x4096x128, .bf16⟩
  | .hbm, ⟨4, _⟩ => ⟨S8x8x4096x128, .bf16⟩
  | .hbm, ⟨5, _⟩ => ⟨S8x4096x1024, .f32⟩
  | .hbm, ⟨6, _⟩ => ⟨S8x4096x1024, .f32⟩
  | .local _ .vmem, ⟨0, _⟩ => ⟨S1x1x2048x256, .bf16⟩
  | .local _ .vmem, ⟨1, _⟩ => ⟨S1x1x2048x256, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1x1x2048x256, .bf16⟩
  | .local _ .vmem, ⟨5, _⟩ => ⟨S1x1x2048x256, .bf16⟩
  | .local _ .vmem, ⟨6, _⟩ => ⟨S1x1x2048x128, .bf16⟩
  | .local _ .vmem, ⟨7, _⟩ => ⟨S1x1x2048x128, .bf16⟩
  | .local _ .vmem, ⟨8, _⟩ => ⟨S1x1x2048x128, .bf16⟩
  | .local _ .vmem, ⟨9, _⟩ => ⟨S1x1x2048x128, .bf16⟩
  | .local _ .vmem, ⟨10, _⟩ => ⟨S1x2048x128, .f32⟩
  | .local _ .vmem, ⟨11, _⟩ => ⟨S1x2048x128, .f32⟩
  | .local _ .vmem, ⟨12, _⟩ => ⟨S2x2x256x2048, .f32⟩
  | .local _ .vmem, ⟨13, _⟩ => ⟨S2x2x256x2048, .bf16⟩
  | _, _ => ⟨S8x8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EarlyIdeal.lean ====
variable {F : FTy → Type} [FloatOps F] [Named F]
def κ : String → Option EReal := fun
  | "mask" => some ⊥
  | _ => none
-- ==== EarlyReferenceIdeal.lean ====
abbrev S8x8x4096x256 : Shape := ⟨4, ![8, 8, 4096, 256]⟩
abbrev S8x8x4096x128 : Shape := ⟨4, ![8, 8, 4096, 128]⟩
abbrev S8x4096x1024 : Shape := ⟨3, ![8, 4096, 1024]⟩
abbrev S8x8x2048x64 : Shape := ⟨4, ![8, 8, 2048, 64]⟩
abbrev S8x8x1x2048x64 : Shape := ⟨5, ![8, 8, 1, 2048, 64]⟩
abbrev S8x8x2x2048x64 : Shape := ⟨5, ![8, 8, 2, 2048, 64]⟩
abbrev S8x16x2048x64 : Shape := ⟨4, ![8, 16, 2048, 64]⟩
abbrev S8x8x4096x64 : Shape := ⟨4, ![8, 8, 4096, 64]⟩
abbrev S8x8x1x4096x64 : Shape := ⟨5, ![8, 8, 1, 4096, 64]⟩
abbrev S8x8x2x4096x64 : Shape := ⟨5, ![8, 8, 2, 4096, 64]⟩
abbrev S8x16x4096x64 : Shape := ⟨4, ![8, 16, 4096, 64]⟩
abbrev S8x8x2048x16 : Shape := ⟨4, ![8, 8, 2048, 16]⟩
abbrev S8x8x1x2048x16 : Shape := ⟨5, ![8, 8, 1, 2048, 16]⟩
abbrev S8x8x2x2048x16 : Shape := ⟨5, ![8, 8, 2, 2048, 16]⟩
abbrev S8x16x2048x16 : Shape := ⟨4, ![8, 16, 2048, 16]⟩
abbrev S_ : Shape := ⟨0, ![]⟩
abbrev S8x16x2048x16x1 : Shape := ⟨5, ![8, 16, 2048, 16, 1]⟩
abbrev S8x16x2048x16x256 : Shape := ⟨5, ![8, 16, 2048, 16, 256]⟩
abbrev S8x16x2048x4096 : Shape := ⟨4, ![8, 16, 2048, 4096]⟩
abbrev S2048 : Shape := ⟨1, ![2048]⟩
abbrev S4096 : Shape := ⟨1, ![4096]⟩
abbrev S1x4096 : Shape := ⟨2, ![1, 4096]⟩
abbrev S2048x1 : Shape := ⟨2, ![2048, 1]⟩
abbrev S2048x4096 : Shape := ⟨2, ![2048, 4096]⟩
abbrev S1x1x2048x4096 : Shape := ⟨4, ![1, 1, 2048, 4096]⟩
abbrev S8x16x2048 : Shape := ⟨3, ![8, 16, 2048]⟩
abbrev S8x16x2048x1 : Shape := ⟨4, ![8, 16, 2048, 1]⟩
abbrev S8x2048x16x64 : Shape := ⟨4, ![8, 2048, 16, 64]⟩
abbrev S8x2048x1024 : Shape := ⟨3, ![8, 2048, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x8x4096x256, .bf16⟩
  | .hbm, ⟨1, _⟩ => ⟨S8x8x4096x256, .bf16⟩
  | .hbm, ⟨2, _⟩ => ⟨S8x8x4096x256, .bf16⟩
  | .hbm, ⟨3, _⟩ => ⟨S8x8x4096x128, .bf16⟩
  | .hbm, ⟨4, _⟩ => ⟨S8x8x4096x128, .bf16⟩
  | .hbm, ⟨5, _⟩ => ⟨S8x4096x1024, .f32⟩
  | .hbm, ⟨6, _⟩ => ⟨S8x8x2048x64, .bf16⟩
  | .hbm, ⟨7, _⟩ => ⟨S8x8x2048x64, .bf16⟩
  | .hbm, ⟨8, _⟩ => ⟨S8x8x2048x64, .f32⟩
  | .hbm, ⟨9, _⟩ => ⟨S8x8x2048x64, .f32⟩
  | .hbm, ⟨10, _⟩ => ⟨S8x8x1x2048x64, .f32⟩
  | .hbm, ⟨11, _⟩ => ⟨S8x8x1x2048x64, .f32⟩
  | .hbm, ⟨12, _⟩ => ⟨S8x8x2x2048x64, .f32⟩
  | .hbm, ⟨13, _⟩ => ⟨S8x16x2048x64, .f32⟩
  | .hbm, ⟨14, _⟩ => ⟨S8x8x4096x64, .bf16⟩
  | .hbm, ⟨15, _⟩ => ⟨S8x8x4096x64, .bf16⟩
  | .hbm, ⟨16, _⟩ => ⟨S8x8x4096x64, .f32⟩
  | .hbm, ⟨17, _⟩ => ⟨S8x8x4096x64, .f32⟩
  | .hbm, ⟨18, _⟩ => ⟨S8x8x1x4096x64, .f32⟩
  | .hbm, ⟨19, _⟩ => ⟨S8x8x1x4096x64, .f32⟩
  | .hbm, ⟨20, _⟩ => ⟨S8x8x2x4096x64, .f32⟩
  | .hbm, ⟨21, _⟩ => ⟨S8x16x4096x64, .f32⟩
  | .hbm, ⟨22, _⟩ => ⟨S8x8x4096x64, .bf16⟩
  | .hbm, ⟨23, _⟩ => ⟨S8x8x4096x64, .bf16⟩
  | .hbm, ⟨24, _⟩ => ⟨S8x8x4096x64, .f32⟩
  | .hbm, ⟨25, _⟩ => ⟨S8x8x4096x64, .f32⟩
  | .hbm, ⟨26, _⟩ => ⟨S8x8x1x4096x64, .f32⟩
  | .hbm, ⟨27, _⟩ => ⟨S8x8x1x4096x64, .f32⟩
  | .hbm, ⟨28, _⟩ => ⟨S8x8x2x4096x64, .f32⟩
  | .hbm, ⟨29, _⟩ => ⟨S8x16x4096x64, .f32⟩
  | .hbm, ⟨30, _⟩ => ⟨S8x8x2048x16, .bf16⟩
  | .hbm, ⟨31, _⟩ => ⟨S8x8x2048x16, .bf16⟩
  | .hbm, ⟨32, _⟩ => ⟨S8x8x2048x16, .f32⟩
  | .hbm, ⟨33, _⟩ => ⟨S8x8x2048x16, .f32⟩
  | .hbm, ⟨34, _⟩ => ⟨S8x8x1x2048x16, .f32⟩
  | .hbm, ⟨35, _⟩ => ⟨S8x8x1x2048x16, .f32⟩
  | .hbm, ⟨36, _⟩ => ⟨S8x8x2x2048x16, .f32⟩
  | .hbm, ⟨37, _⟩ => ⟨S8x16x2048x16, .f32⟩
  | .hbm, ⟨38, _⟩ => ⟨S_, .f32⟩
  | .hbm, ⟨39, _⟩ => ⟨S8x16x2048x16, .f32⟩
  | .hbm, ⟨40, _⟩ => ⟨S8x16x2048x16, .i1⟩
  | .hbm, ⟨41, _⟩ => ⟨S8x16x2048x16x1, .i1⟩
  | .hbm, ⟨42, _⟩ => ⟨S8x16x2048x16x256, .i1⟩
  | .hbm, ⟨43, _⟩ => ⟨S8x16x2048x4096, .i1⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S4096, .i32⟩
  | .hbm, ⟨49, _⟩ => ⟨S1x4096, .i32⟩
  | .hbm, ⟨50, _⟩ => ⟨S2048x1, .i32⟩
  | .hbm, ⟨51, _⟩ => ⟨S2048x4096, .i32⟩
  | .hbm, ⟨52, _⟩ => ⟨S2048x4096, .i32⟩
  | .hbm, ⟨53, _⟩ => ⟨S2048x4096, .i1⟩
  | .hbm, ⟨54, _⟩ => ⟨S8x16x2048x4096, .f32⟩
  | .hbm, ⟨55, _⟩ => ⟨S_, .f32⟩
  | .hbm, ⟨56, _⟩ => ⟨S_, .f32⟩
  | .hbm, ⟨57, _⟩ => ⟨S8x16x2048x4096, .f32⟩
  | .hbm, ⟨58, _⟩ => ⟨S8x16x2048x4096, .f32⟩
  | .hbm, ⟨59, _⟩ => ⟨S1x1x2048x4096, .i1⟩
  | .hbm, ⟨60, _⟩ => ⟨S8x16x2048x4096, .i1⟩
  | .hbm, ⟨61, _⟩ => ⟨S8x16x2048x4096, .i1⟩
  | .hbm, ⟨62, _⟩ => ⟨S_, .f32⟩
  | .hbm, ⟨63, _⟩ => ⟨S_, .f32⟩
  | .hbm, ⟨64, _⟩ => ⟨S8x16x2048x4096, .f32⟩
  | .hbm, ⟨65, _⟩ => ⟨S8x16x2048x4096, .f32⟩
  | .hbm, ⟨66, _⟩ => ⟨S_, .f32⟩
  | .hbm, ⟨67, _⟩ => ⟨S8x16x2048, .f32⟩
  | .hbm, ⟨68, _⟩ => ⟨S_, .f32⟩
  | .hbm, ⟨69, _⟩ => ⟨S8x16x2048, .f32⟩
  | .hbm, ⟨70, _⟩ => ⟨S8x16x2048, .f32⟩
  | .hbm, ⟨71, _⟩ => ⟨S8x16x2048x1, .f32⟩
  | .hbm, ⟨72, _⟩ => ⟨S8x16x2048x4096, .f32⟩
  | .hbm, ⟨73, _⟩ => ⟨S8x16x2048x4096, .f32⟩
  | .hbm, ⟨74, _⟩ => ⟨S8x16x2048x4096, .f32⟩
  | .hbm, ⟨75, _⟩ => ⟨S_, .f32⟩
  | .hbm, ⟨76, _⟩ => ⟨S8x16x2048, .f32⟩
  | .hbm, ⟨77, _⟩ => ⟨S8x16x2048x1, .f32⟩
  | .hbm, ⟨78, _⟩ => ⟨S8x16x2048x4096, .f32⟩
  | .hbm, ⟨79, _⟩ => ⟨S8x16x2048x4096, .f32⟩
  | .hbm, ⟨80, _⟩ => ⟨S_, .f32⟩
  | .hbm, ⟨81, _⟩ => ⟨S_, .f32⟩
  | .hbm, ⟨82, _⟩ => ⟨S8x16x2048x4096, .f32⟩
  | .hbm, ⟨83, _⟩ => ⟨S8x16x2048x4096, .f32⟩
  | .hbm, ⟨84, _⟩ => ⟨S8x16x2048x64, .f32⟩
  | .hbm, ⟨85, _⟩ => ⟨S8x2048x16x64, .f32⟩
  | .hbm, ⟨86, _⟩ => ⟨S8x2048x1024, .f32⟩
  | .hbm, ⟨87, _⟩ => ⟨S8x2048x1024, .f32⟩
  | .hbm, ⟨88, _⟩ => ⟨S8x4096x1024, .f32⟩
  | _, _ => ⟨S8x8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_0 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_1 : Ref sig .tc := ⟨.hbm, 62, rfl⟩
abbrev main_call0_v0 : Ref sig .tc := ⟨.hbm, 63, rfl⟩
abbrev main_call0_v1 : Ref sig .tc := ⟨.hbm, 64, rfl⟩
abbrev main_v53 : Ref sig .tc := ⟨.hbm, 65, rfl⟩
abbrev main_cst_2 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_4 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_5 : Ref sig .tc := ⟨.hbm, 80, rfl⟩
abbrev main_call1_v0 : Ref sig .tc := ⟨.hbm, 81, rfl⟩
abbrev main_call1_v1 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== MobaProj.lean ====
abbrev S32768x1024 : Shape := ⟨2, ![32768, 1024]⟩
abbrev S1024 : Shape := ⟨1, ![1024]⟩
abbrev S1024x4096 : Shape := ⟨2, ![1024, 4096]⟩
abbrev S1x1024 : Shape := ⟨2, ![1, 1024]⟩
abbrev S32768x4096 : Shape := ⟨2, ![32768, 4096]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S32768x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x4096, .f32⟩
  | .local _ .vmem, ⟨5, _⟩ => ⟨S1024x4096, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MobaProjIdeal.lean ====
abbrev S32768x1024 : Shape := ⟨2, ![32768, 1024]⟩
abbrev S1024 : Shape := ⟨1, ![1024]⟩
abbrev S1024x4096 : Shape := ⟨2, ![1024, 4096]⟩
abbrev S1x1024 : Shape := ⟨2, ![1, 1024]⟩
abbrev S32768x4096 : Shape := ⟨2, ![32768, 4096]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S32768x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x4096, .f32⟩
  | .local _ .vmem, ⟨5, _⟩ => ⟨S1024x4096, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MobaProjReferenceIdeal.lean ====
abbrev S32768x1024 : Shape := ⟨2, ![32768, 1024]⟩
abbrev S1024 : Shape := ⟨1, ![1024]⟩
abbrev S1024x4096 : Shape := ⟨2, ![1024, 4096]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x4096, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== NsaProj.lean ====
abbrev S32768x1024 : Shape := ⟨2, ![32768, 1024]⟩
abbrev S1024 : Shape := ⟨1, ![1024]⟩
abbrev S1024x3712 : Shape := ⟨2, ![1024, 3712]⟩
abbrev S1x1024 : Shape := ⟨2, ![1, 1024]⟩
abbrev S32768x3712 : Shape := ⟨2, ![32768, 3712]⟩
abbrev S1024x1024 : Shape := ⟨2, ![1024, 1024]⟩
abbrev S1024x1 : Shape := ⟨2, ![1024, 1]⟩
abbrev S1024x512 : Shape := ⟨2, ![1024, 512]⟩
abbrev S1024x128 : Shape := ⟨2, ![1024, 128]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3712, .f32⟩
  | .hbm, ⟨3, _⟩ => ⟨S1024x3712, .bf16⟩
  | .hbm, ⟨4, _⟩ => ⟨S1x1024, .f32⟩
  | .hbm, ⟨5, _⟩ => ⟨S32768x3712, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3712, .bf16⟩
  | .local _ .vmem, ⟨4, _⟩ => ⟨S1024x3712, .f32⟩
  | .local _ .vmem, ⟨5, _⟩ => ⟨S1024x3712, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NsaProjReferenceIdeal.lean ====
abbrev S32768x1024 : Shape := ⟨2, ![32768, 1024]⟩
abbrev S1024 : Shape := ⟨1, ![1024]⟩
abbrev S1024x3712 : Shape := ⟨2, ![1024, 3712]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3712 : Shape := ⟨2, ![32768, 3712]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3712, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3712, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Post0.lean ====
abbrev S32768x1024 : Shape := ⟨2, ![32768, 1024]⟩
abbrev S32768x4096 : Shape := ⟨2, ![32768, 4096]⟩
abbrev S131072x256 : Shape := ⟨2, ![131072, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x4096, .f32⟩
  | .hbm, ⟨3, _⟩ => ⟨S131072x256, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024x1024, .bf16⟩
  | .hbm, ⟨9, _⟩ => ⟨S1x1024, .f32⟩
  | .hbm, ⟨10, _⟩ => ⟨S1024x1024, .bf16⟩
  | .hbm, ⟨11, _⟩ => ⟨S256x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Post0ReferenceIdeal.lean ====
abbrev S32768x1024 : Shape := ⟨2, ![32768, 1024]⟩
abbrev S32768x4096 : Shape := ⟨2, ![32768, 4096]⟩
abbrev S131072x256 : Shape := ⟨2, ![131072, 256]⟩
abbrev S1024x1024 : Shape := ⟨2, ![1024, 1024]⟩
abbrev S1024 : Shape := ⟨1, ![1024]⟩
abbrev S256x1024 : Shape := ⟨2, ![256, 1024]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x4096, .f32⟩
  | .hbm, ⟨3, _⟩ => ⟨S131072x256, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S32768x1024, .f32⟩
  | .hbm, ⟨9, _⟩ => ⟨S32768x256, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Post1.lean ====
abbrev S32768x1024 : Shape := ⟨2, ![32768, 1024]⟩
abbrev S32768x3712 : Shape := ⟨2, ![32768, 3712]⟩
abbrev S131072x256 : Shape := ⟨2, ![131072, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x3712, .f32⟩
  | .hbm, ⟨3, _⟩ => ⟨S131072x256, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024x1024, .bf16⟩
  | .hbm, ⟨9, _⟩ => ⟨S1x1024, .f32⟩
  | .hbm, ⟨10, _⟩ => ⟨S1024x1024, .bf16⟩
  | .hbm, ⟨11, _⟩ => ⟨S256x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Post1ReferenceIdeal.lean ====
abbrev S32768x1024 : Shape := ⟨2, ![32768, 1024]⟩
abbrev S32768x3712 : Shape := ⟨2, ![32768, 3712]⟩
abbrev S131072x256 : Shape := ⟨2, ![131072, 256]⟩
abbrev S1024x1024 : Shape := ⟨2, ![1024, 1024]⟩
abbrev S1024 : Shape := ⟨1, ![1024]⟩
abbrev S256x1024 : Shape := ⟨2, ![256, 1024]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x3712, .f32⟩
  | .hbm, ⟨3, _⟩ => ⟨S131072x256, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S32768x1024, .f32⟩
  | .hbm, ⟨9, _⟩ => ⟨S32768x256, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Post2.lean ====
abbrev S32768x1024 : Shape := ⟨2, ![32768, 1024]⟩
abbrev S32768x4096 : Shape := ⟨2, ![32768, 4096]⟩
abbrev S131072x256 : Shape := ⟨2, ![131072, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x4096, .f32⟩
  | .hbm, ⟨3, _⟩ => ⟨S131072x256, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024x1024, .bf16⟩
  | .hbm, ⟨9, _⟩ => ⟨S1x1024, .f32⟩
  | .hbm, ⟨10, _⟩ => ⟨S1024x1024, .bf16⟩
  | .hbm, ⟨11, _⟩ => ⟨S256x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Post2ReferenceIdeal.lean ====
abbrev S32768x1024 : Shape := ⟨2, ![32768, 1024]⟩
abbrev S32768x4096 : Shape := ⟨2, ![32768, 4096]⟩
abbrev S131072x256 : Shape := ⟨2, ![131072, 256]⟩
abbrev S1024x1024 : Shape := ⟨2, ![1024, 1024]⟩
abbrev S1024 : Shape := ⟨1, ![1024]⟩
abbrev S256x1024 : Shape := ⟨2, ![256, 1024]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x4096, .f32⟩
  | .hbm, ⟨3, _⟩ => ⟨S131072x256, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S32768x1024, .f32⟩
  | .hbm, ⟨9, _⟩ => ⟨S32768x256, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Post3.lean ====
abbrev S32768x1024 : Shape := ⟨2, ![32768, 1024]⟩
abbrev S32768x3712 : Shape := ⟨2, ![32768, 3712]⟩
abbrev S131072x256 : Shape := ⟨2, ![131072, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x3712, .f32⟩
  | .hbm, ⟨3, _⟩ => ⟨S131072x256, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024x1024, .bf16⟩
  | .hbm, ⟨9, _⟩ => ⟨S1x1024, .f32⟩
  | .hbm, ⟨10, _⟩ => ⟨S1024x1024, .bf16⟩
  | .hbm, ⟨11, _⟩ => ⟨S256x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Post3ReferenceIdeal.lean ====
abbrev S32768x1024 : Shape := ⟨2, ![32768, 1024]⟩
abbrev S32768x3712 : Shape := ⟨2, ![32768, 3712]⟩
abbrev S131072x256 : Shape := ⟨2, ![131072, 256]⟩
abbrev S1024x1024 : Shape := ⟨2, ![1024, 1024]⟩
abbrev S1024 : Shape := ⟨1, ![1024]⟩
abbrev S256x1024 : Shape := ⟨2, ![256, 1024]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x3712, .f32⟩
  | .hbm, ⟨3, _⟩ => ⟨S131072x256, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S32768x1024, .f32⟩
  | .hbm, ⟨9, _⟩ => ⟨S32768x256, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Compress.lean ====
abbrev S8x4096x3712 : Shape := ⟨3, ![8, 4096, 3712]⟩
abbrev S2x32x64 : Shape := ⟨3, ![2, 32, 64]⟩
abbrev S2x2048x256 : Shape := ⟨3, ![2, 2048, 256]⟩
abbrev S2x256x64 : Shape := ⟨3, ![2, 256, 64]⟩
abbrev S64 : Shape := ⟨1, ![64]⟩
abbrev S256 : Shape := ⟨1, ![256]⟩
abbrev S_ : Shape := ⟨0, ![]⟩
abbrev S32 : Shape := ⟨1, ![32]⟩
abbrev S256x1 : Shape := ⟨2, ![256, 1]⟩
abbrev S1x32 : Shape := ⟨2, ![1, 32]⟩
abbrev S256x32 : Shape := ⟨2, ![256, 32]⟩
abbrev S1x256x1x32 : Shape := ⟨4, ![1, 256, 1, 32]⟩
abbrev S1x256x4x32 : Shape := ⟨4, ![1, 256, 4, 32]⟩
abbrev S256x128 : Shape := ⟨2, ![256, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S2x32x64x256 : Shape := ⟨4, ![2, 32, 64, 256]⟩
abbrev S1x32x64x256 : Shape := ⟨4, ![1, 32, 64, 256]⟩
abbrev S32x64x256 : Shape := ⟨3, ![32, 64, 256]⟩
abbrev S32x64x512 : Shape := ⟨3, ![32, 64, 512]⟩
abbrev S32x128x512 : Shape := ⟨3, ![32, 128, 512]⟩
abbrev S1x256x64 : Shape := ⟨3, ![1, 256, 64]⟩
abbrev S256x64 : Shape := ⟨2, ![256, 64]⟩
abbrev S512x128 : Shape := ⟨2, ![512, 128]⟩
abbrev S1x32x64 : Shape := ⟨3, ![1, 32, 64]⟩
abbrev S32x64 : Shape := ⟨2, ![32, 64]⟩
abbrev S32x128 : Shape := ⟨2, ![32, 128]⟩
abbrev S8x4x256x128 : Shape := ⟨4, ![8, 4, 256, 128]⟩
abbrev S1x4096x128 : Shape := ⟨3, ![1, 4096, 128]⟩
abbrev S1x1x256x128 : Shape := ⟨4, ![1, 1, 256, 128]⟩
abbrev S256x512 : Shape := ⟨2, ![256, 512]⟩
abbrev S1x256x128 : Shape := ⟨3, ![1, 256, 128]⟩
abbrev S1x128x512 : Shape := ⟨3, ![1, 128, 512]⟩
abbrev S128x512 : Shape := ⟨2, ![128, 512]⟩

abbrev nBuf : Space → Nat
  | .hbm => 136
  | .vmem => 11
  | .smem => 0
  | _ => 0

abbrev hbmTy0_0 (i : Nat) : BufTy := match i % 128 with
  | 0 => ⟨S8x4096x3712, .f32⟩
  | 1 => ⟨S2x32x64, .f32⟩
  | 2 => ⟨S2x2048x256, .f32⟩
  | 3 => ⟨S2x256x64, .f32⟩
  | 4 => ⟨S64, .f32⟩
  | 5 => ⟨S256, .i32⟩
  | 6 => ⟨S_, .i32⟩
  | 7 => ⟨S256, .i32⟩
  | 8 => ⟨S256, .i32⟩
  | 9 => ⟨S_, .i32⟩
  | 10 => ⟨S256, .i32⟩
  | 11 => ⟨S256, .i32⟩
  | 12 => ⟨S_, .i32⟩
  | 13 => ⟨S256, .i32⟩
  | 14 => ⟨S256, .i32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S256, .f32⟩
  | 24 => ⟨S256x1, .f32⟩
  | 25 => ⟨S1x32, .f32⟩
  | 26 => ⟨S256x32, .f32⟩
  | 27 => ⟨S256x32, .f32⟩
  | 28 => ⟨S256x32, .f32⟩
  | 29 => ⟨S256x32, .f32⟩
  | 30 => ⟨S1x256x1x32, .f32⟩
  | 31 => ⟨S1x256x4x32, .f32⟩
  | 32 => ⟨S256x128, .f32⟩
  | 33 => ⟨S128, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S128, .i32⟩
  | 41 => ⟨S128, .i32⟩
  | 42 => ⟨S_, .i32⟩
  | 43 => ⟨S128, .i32⟩
  | 44 => ⟨S128, .i1⟩
  | 45 => ⟨S_, .i32⟩
  | 46 => ⟨S128, .i32⟩
  | 47 => ⟨S128, .i1⟩
  | 48 => ⟨S_, .i32⟩
  | 49 => ⟨S_, .i1⟩
  | 50 => ⟨S128, .i1⟩
  | 51 => ⟨S128, .i1⟩
  | 52 => ⟨S128, .i1⟩
  | 53 => ⟨S128, .i32⟩
  | 54 => ⟨S128, .i32⟩
  | 55 => ⟨S128, .i32⟩
  | 56 => ⟨S_, .i32⟩
  | 57 => ⟨S128, .i32⟩
  | 58 => ⟨S128, .i1⟩
  | 59 => ⟨S_, .f32⟩
  | 60 => ⟨S_, .f32⟩
  | 61 => ⟨S128, .f32⟩
  | 62 => ⟨S128, .f32⟩
  | 63 => ⟨S128, .f32⟩
  | 64 => ⟨S128, .f32⟩
  | 65 => ⟨S256x32, .f32⟩
  | 66 => ⟨S1x256x1x32, .f32⟩
  | 67 => ⟨S1x256x4x32, .f32⟩
  | 68 => ⟨S256x128, .f32⟩
  | 69 => ⟨S1x128, .f32⟩
  | 70 => ⟨S256x128, .f32⟩
  | 71 => ⟨S256x128, .f32⟩
  | 72 => ⟨S128, .i32⟩
  | 73 => ⟨S_, .i32⟩
  | 74 => ⟨S_, .i32⟩
  | 75 => ⟨S128, .i32⟩
  | 76 => ⟨S128, .i32⟩
  | 77 => ⟨S128, .i32⟩
  | 78 => ⟨S_, .i32⟩
  | 79 => ⟨S128, .i32⟩
  | 80 => ⟨S128, .i1⟩
  | 81 => ⟨S128, .i32⟩
  | 82 => ⟨S128, .i32⟩
  | 83 => ⟨S_, .i32⟩
  | 84 => ⟨S128, .i32⟩
  | 85 => ⟨S128, .i1⟩
  | 86 => ⟨S128, .i1⟩
  | 87 => ⟨S_, .i32⟩
  | 88 => ⟨S128, .i32⟩
  | 89 => ⟨S128, .i32⟩
  | 90 => ⟨S128, .i32⟩
  | 91 => ⟨S128x1, .i32⟩
  | 92 => ⟨S1x128, .i32⟩
  | 93 => ⟨S128x128, .i32⟩
  | 94 => ⟨S128x128, .i32⟩
  | 95 => ⟨S128x128, .i1⟩
  | 96 => ⟨S128x128, .f32⟩
  | 97 => ⟨S_, .f32⟩
  | 98 => ⟨S128x128, .f32⟩
  | 99 => ⟨S128x128, .f32⟩
  | 100 => ⟨S128x128, .bf16⟩
  | 101 => ⟨S2x32x64x256, .f32⟩
  | 102 => ⟨S1x32x64x256, .f32⟩
  | 103 => ⟨S32x64x256, .f32⟩
  | 104 => ⟨S_, .f32⟩
  | 105 => ⟨S32x64x256, .f32⟩
  | 106 => ⟨S1x32x64x256, .f32⟩
  | 107 => ⟨S32x64x256, .f32⟩
  | 108 => ⟨S32x64x512, .f32⟩
  | 109 => ⟨S1x32x64x256, .f32⟩
  | 110 => ⟨S32x64x256, .f32⟩
  | 111 => ⟨S32x64x512, .f32⟩
  | 112 => ⟨S32x128x512, .f32⟩
  | 113 => ⟨S32x128x512, .bf16⟩
  | 114 => ⟨S1x256x64, .f32⟩
  | 115 => ⟨S256x64, .f32⟩
  | 116 => ⟨S_, .f32⟩
  | 117 => ⟨S256x64, .f32⟩
  | 118 => ⟨S1x256x64, .f32⟩
  | 119 => ⟨S256x64, .f32⟩
  | 120 => ⟨S256x128, .f32⟩
  | 121 => ⟨S1x256x64, .f32⟩
  | 122 => ⟨S256x64, .f32⟩
  | 123 => ⟨S256x128, .f32⟩
  | 124 => ⟨S512x128, .f32⟩
  | 125 => ⟨S512x128, .bf16⟩
  | 126 => ⟨S1x32x64, .f32⟩
  | 127 => ⟨S32x64, .f32⟩
  | _ => ⟨S8x4096x3712, .f32⟩

abbrev hbmTy0_1 (i : Nat) : BufTy := match i % 128 with
  | 0 => ⟨S1x32x64, .f32⟩
  | 1 => ⟨S32x64, .f32⟩
  | 2 => ⟨S32x128, .f32⟩
  | 3 => ⟨S_, .f32⟩
  | 4 => ⟨S64, .f32⟩
  | 5 => ⟨S128, .f32⟩
  | 6 => ⟨S1x128, .f32⟩
  | 7 => ⟨S8x4x256x128, .f32⟩
  | _ => ⟨S8x4096x3712, .f32⟩

abbrev hbmTy (i : Nat) : BufTy := match i / 128 with
  | 0 => hbmTy0_0 i
  | 1 => hbmTy0_1 i
  | _ => ⟨S8x4096x3712, .f32⟩

abbrev bufTy : (tb : Table) → Fin (tcTables nBuf tb) → BufTy
  | .hbm, ⟨i, _⟩ => hbmTy i
  | .local _ .vmem, ⟨0, _⟩ => ⟨S1x4096x128, .f32⟩
  | .local _ .vmem, ⟨1, _⟩ => ⟨S1x4096x128, .f32⟩
  | .local _ .vmem, ⟨2, _⟩ => ⟨S32x128, .f32⟩
  | .local _ .vmem, ⟨3, _⟩ => ⟨S32x128x512, .bf16⟩
  | .local _ .vmem, ⟨4, _⟩ => ⟨S512x128, .bf16⟩
  | .local _ .vmem, ⟨5, _⟩ => ⟨S1x128, .f32⟩
  | .local _ .vmem, ⟨6, _⟩ => ⟨S256x128, .f32⟩
  | .local _ .vmem, ⟨7, _⟩ => ⟨S256x128, .f32⟩
  | .local _ .vmem, ⟨8, _⟩ => ⟨S128x128, .bf16⟩
  | .local _ .vmem, ⟨9, _⟩ => ⟨S1x1x256x128, .f32⟩
  | .local _ .vmem, ⟨10, _⟩ => ⟨S1x1x256x128, .f32⟩
  | _, _ => ⟨S8x4096x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_v5 : Ref sig .tc := ⟨.hbm, 43, rfl⟩
abbrev main_call0_v6 : Ref sig .tc := ⟨.hbm, 44, rfl⟩
abbrev main_call0_c_2 : Ref sig .tc := ⟨.hbm, 45, rfl⟩
abbrev main_call0_v7 : Ref sig .tc := ⟨.hbm, 46, rfl⟩
abbrev main_call0_v8 : Ref sig .tc := ⟨.hbm, 47, rfl⟩
abbrev main_call0_c_3 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_v24 : Ref sig .tc := ⟨.hbm, 55, rfl⟩
abbrev main_c_4 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_cst_6 : Ref sig .tc := ⟨.hbm, 60, rfl⟩
abbrev main_call1_v0 : Ref sig .tc := ⟨.hbm, 61, rfl⟩
abbrev main_call1_v1 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_7 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_c : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_0 : Ref sig .tc := ⟨.hbm, 87, rfl⟩
abbrev main_call2_v12 : Ref sig .tc := ⟨.hbm, 88, rfl⟩
abbrev main_call2_v13 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_8 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_cst_9 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_cst_10 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_11 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== CompressReferenceIdeal.lean ====
abbrev S8x4096x3712 : Shape := ⟨3, ![8, 4096, 3712]⟩
abbrev S2x32x64 : Shape := ⟨3, ![2, 32, 64]⟩
abbrev S2x2048x256 : Shape := ⟨3, ![2, 2048, 256]⟩
abbrev S2x256x64 : Shape := ⟨3, ![2, 256, 64]⟩
abbrev S64 : Shape := ⟨1, ![64]⟩
abbrev S8x4096x512 : Shape := ⟨3, ![8, 4096, 512]⟩
abbrev S8x4096x4x2x64 : Shape := ⟨5, ![8, 4096, 4, 2, 64]⟩
abbrev S2x8x4x4096x64 : Shape := ⟨5, ![2, 8, 4, 4096, 64]⟩
abbrev S1x8x4x4096x64 : Shape := ⟨5, ![1, 8, 4, 4096, 64]⟩
abbrev S8x4x4096x64 : Shape := ⟨4, ![8, 4, 4096, 64]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S_ : Shape := ⟨0, ![]⟩
abbrev S32 : Shape := ⟨1, ![32]⟩
abbrev S1x32 : Shape := ⟨2, ![1, 32]⟩
abbrev S256x32 : Shape := ⟨2, ![256, 32]⟩
abbrev S256x32x1 : Shape := ⟨3, ![256, 32, 1]⟩
abbrev S8x4x256x32x64 : Shape := ⟨5, ![8, 4, 256, 32, 64]⟩
abbrev S1x1x1x32x64 : Shape := ⟨5, ![1, 1, 1, 32, 64]⟩
abbrev S8x4x256x2048 : Shape := ⟨4, ![8, 4, 256, 2048]⟩
abbrev S8x4x256x256 : Shape := ⟨4, ![8, 4, 256, 256]⟩
abbrev S8x4x256x64 : Shape := ⟨4, ![8, 4, 256, 64]⟩
abbrev S8x4x256 : Shape := ⟨3, ![8, 4, 256]⟩
abbrev S8x4x256x1 : Shape := ⟨4, ![8, 4, 256, 1]⟩
abbrev S1x1x1x64 : Shape := ⟨4, ![1, 1, 1, 64]⟩
abbrev S8x4x256x32 : Shape := ⟨4, ![8, 4, 256, 32]⟩
abbrev S1x1x256x32 : Shape := ⟨4, ![1, 1, 256, 32]⟩
abbrev S8x4x256x128 : Shape := ⟨4, ![8, 4, 256, 128]⟩

abbrev nBuf : Space → Nat
  | .hbm => 212
  | .vmem => 0
  | .smem => 0
  | _ => 0

abbrev hbmTy0_0 (i : Nat) : BufTy := match i % 128 with
  | 0 => ⟨S8x4096x3712, .f32⟩
  | 1 => ⟨S2x32x64, .f32⟩
  | 2 => ⟨S2x2048x256, .f32⟩
  | 3 => ⟨S2x256x64, .f32⟩
  | 4 => ⟨S64, .f32⟩
  | 5 => ⟨S8x4096x512, .f32⟩
  | 6 => ⟨S8x4096x4x2x64, .f32⟩
  | 7 => ⟨S2x8x4x4096x64, .f32⟩
  | 8 => ⟨S1x8x4x4096x64, .f32⟩
  | 9 => ⟨S8x4x4096x64, .f32⟩
  | 10 => ⟨S1x32x64, .f32⟩
  | 11 => ⟨S32x64, .f32⟩
  | 12 => ⟨S1x2048x256, .f32⟩
  | 13 => ⟨S2048x256, .f32⟩
  | 14 => ⟨S1x256x64, .f32⟩
  | 15 => ⟨S256x64, .f32⟩
  | 16 => ⟨S256, .i32⟩
  | 17 => ⟨S256x1, .i32⟩
  | 18 => ⟨S_, .i32⟩
  | 19 => ⟨S256x1, .i32⟩
  | 20 => ⟨S256x1, .i32⟩
  | 21 => ⟨S32, .i32⟩
  | 22 => ⟨S1x32, .i32⟩
  | 23 => ⟨S256x32, .i32⟩
  | 24 => ⟨S256x32, .i32⟩
  | 25 => ⟨S256x32, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S256x32, .i32⟩
  | 33 => ⟨S256x32, .i32⟩
  | 34 => ⟨S_, .i32⟩
  | 35 => ⟨S256x32, .i32⟩
  | 36 => ⟨S256x32, .i1⟩
  | 37 => ⟨S_, .i32⟩
  | 38 => ⟨S256x32, .i32⟩
  | 39 => ⟨S256x32, .i1⟩
  | 40 => ⟨S_, .i32⟩
  | 41 => ⟨S_, .i1⟩
  | 42 => ⟨S256x32, .i1⟩
  | 43 => ⟨S256x32, .i1⟩
  | 44 => ⟨S256x32, .i1⟩
  | 45 => ⟨S256x32, .i32⟩
  | 46 => ⟨S256x32, .i32⟩
  | 47 => ⟨S256x32, .i32⟩
  | 48 => ⟨S_, .i32⟩
  | 49 => ⟨S256x32, .i32⟩
  | 50 => ⟨S256x32, .i1⟩
  | 51 => ⟨S_, .i32⟩
  | 52 => ⟨S256x32, .i32⟩
  | 53 => ⟨S256x32, .i32⟩
  | 54 => ⟨S256x32, .i32⟩
  | 55 => ⟨S256x32x1, .i32⟩
  | 56 => ⟨S8x4x256x32x64, .f32⟩
  | 57 => ⟨S1x1x1x32x64, .f32⟩
  | 58 => ⟨S8x4x256x32x64, .f32⟩
  | 59 => ⟨S8x4x256x32x64, .f32⟩
  | 60 => ⟨S8x4x256x2048, .f32⟩
  | 61 => ⟨S8x4x256x256, .f32⟩
  | 62 => ⟨S8x4x256x256, .f32⟩
  | 63 => ⟨S8x4x256x256, .f32⟩
  | 64 => ⟨S_, .f32⟩
  | 65 => ⟨S8x4x256x256, .f32⟩
  | 66 => ⟨S8x4x256x256, .f32⟩
  | 67 => ⟨S8x4x256x256, .f32⟩
  | 68 => ⟨S_, .f32⟩
  | 69 => ⟨S8x4x256x256, .f32⟩
  | 70 => ⟨S8x4x256x256, .f32⟩
  | 71 => ⟨S8x4x256x256, .f32⟩
  | 72 => ⟨S_, .f32⟩
  | 73 => ⟨S8x4x256x256, .f32⟩
  | 74 => ⟨S8x4x256x256, .f32⟩
  | 75 => ⟨S_, .f32⟩
  | 76 => ⟨S8x4x256x256, .f32⟩
  | 77 => ⟨S8x4x256x256, .f32⟩
  | 78 => ⟨S8x4x256x256, .f32⟩
  | 79 => ⟨S8x4x256x64, .f32⟩
  | 80 => ⟨S1x8x4x4096x64, .f32⟩
  | 81 => ⟨S8x4x4096x64, .f32⟩
  | 82 => ⟨S1x32x64, .f32⟩
  | 83 => ⟨S32x64, .f32⟩
  | 84 => ⟨S1x2048x256, .f32⟩
  | 85 => ⟨S2048x256, .f32⟩
  | 86 => ⟨S1x256x64, .f32⟩
  | 87 => ⟨S256x64, .f32⟩
  | 88 => ⟨S256, .i32⟩
  | 89 => ⟨S256x1, .i32⟩
  | 90 => ⟨S_, .i32⟩
  | 91 => ⟨S256x1, .i32⟩
  | 92 => ⟨S256x1, .i32⟩
  | 93 => ⟨S32, .i32⟩
  | 94 => ⟨S1x32, .i32⟩
  | 95 => ⟨S256x32, .i32⟩
  | 96 => ⟨S256x32, .i32⟩
  | 97 => ⟨S256x32, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S256x32, .i32⟩
  | 105 => ⟨S256x32, .i32⟩
  | 106 => ⟨S_, .i32⟩
  | 107 => ⟨S256x32, .i32⟩
  | 108 => ⟨S256x32, .i1⟩
  | 109 => ⟨S_, .i32⟩
  | 110 => ⟨S256x32, .i32⟩
  | 111 => ⟨S256x32, .i1⟩
  | 112 => ⟨S_, .i32⟩
  | 113 => ⟨S_, .i1⟩
  | 114 => ⟨S256x32, .i1⟩
  | 115 => ⟨S256x32, .i1⟩
  | 116 => ⟨S256x32, .i1⟩
  | 117 => ⟨S256x32, .i32⟩
  | 118 => ⟨S256x32, .i32⟩
  | 119 => ⟨S256x32, .i32⟩
  | 120 => ⟨S_, .i32⟩
  | 121 => ⟨S256x32, .i32⟩
  | 122 => ⟨S256x32, .i1⟩
  | 123 => ⟨S_, .i32⟩
  | 124 => ⟨S256x32, .i32⟩
  | 125 => ⟨S256x32, .i32⟩
  | 126 => ⟨S256x32, .i32⟩
  | 127 => ⟨S256x32x1, .i32⟩
  | _ => ⟨S8x4096x3712, .f32⟩

abbrev hbmTy0_1 (i : Nat) : BufTy := match i % 128 with
  | 0 => ⟨S8x4x256x32x64, .f32⟩
  | 1 => ⟨S1x1x1x32x64, .f32⟩
  | 2 => ⟨S8x4x256x32x64, .f32⟩
  | 3 => ⟨S8x4x256x32x64, .f32⟩
  | 4 => ⟨S8x4x256x2048, .f32⟩
  | 5 => ⟨S8x4x256x256, .f32⟩
  | 6 => ⟨S8x4x256x256, .f32⟩
  | 7 => ⟨S8x4x256x256, .f32⟩
  | 8 => ⟨S_, .f32⟩
  | 9 => ⟨S8x4x256x256, .f32⟩
  | 10 => ⟨S8x4x256x256, .f32⟩
  | 11 => ⟨S8x4x256x256, .f32⟩
  | 12 => ⟨S_, .f32⟩
  | 13 => ⟨S8x4x256x256, .f32⟩
  | 14 => ⟨S8x4x256x256, .f32⟩
  | 15 => ⟨S8x4x256x256, .f32⟩
  | 16 => ⟨S_, .f32⟩
  | 17 => ⟨S8x4x256x256, .f32⟩
  | 18 => ⟨S8x4x256x256, .f32⟩
  | 19 => ⟨S_, .f32⟩
  | 20 => ⟨S8x4x256x256, .f32⟩
  | 21 => ⟨S8x4x256x256, .f32⟩
  | 22 => ⟨S8x4x256x256, .f32⟩
  | 23 => ⟨S8x4x256x64, .f32⟩
  | 24 => ⟨S8x4x256x64, .f32⟩
  | 25 => ⟨S_, .f32⟩
  | 26 => ⟨S8x4x256, .f32⟩
  | 27 => ⟨S8x4x256x1, .f32⟩
  | 28 => ⟨S_, .f32⟩
  | 29 => ⟨S8x4x256x1, .f32⟩
  | 30 => ⟨S8x4x256x1, .f32⟩
  | 31 => ⟨S_, .f32⟩
  | 32 => ⟨S8x4x256x1, .f32⟩
  | 33 => ⟨S8x4x256x1, .f32⟩
  | 34 => ⟨S8x4x256x1, .f32⟩
  | 35 => ⟨S8x4x256x64, .f32⟩
  | 36 => ⟨S8x4x256x64, .f32⟩
  | 37 => ⟨S1x1x1x64, .f32⟩
  | 38 => ⟨S8x4x256x64, .f32⟩
  | 39 => ⟨S8x4x256x64, .f32⟩
  | 40 => ⟨S256, .i32⟩
  | 41 => ⟨S_, .i32⟩
  | 42 => ⟨S256, .i32⟩
  | 43 => ⟨S256, .i32⟩
  | 44 => ⟨S_, .i32⟩
  | 45 => ⟨S256, .i32⟩
  | 46 => ⟨S256, .i32⟩
  | 47 => ⟨S_, .i32⟩
  | 48 => ⟨S256, .i32⟩
  | 49 => ⟨S256, .i32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S256, .f32⟩
  | 59 => ⟨S256x1, .f32⟩
  | 60 => ⟨S1x32, .f32⟩
  | 61 => ⟨S256x32, .f32⟩
  | 62 => ⟨S256x32, .f32⟩
  | 63 => ⟨S256x32, .f32⟩
  | 64 => ⟨S256x32, .f32⟩
  | 65 => ⟨S256x32, .f32⟩
  | 66 => ⟨S8x4x256x32, .f32⟩
  | 67 => ⟨S8x4x256x32, .f32⟩
  | 68 => ⟨S1x1x256x32, .f32⟩
  | 69 => ⟨S8x4x256x32, .f32⟩
  | 70 => ⟨S8x4x256x32, .f32⟩
  | 71 => ⟨S1x1x256x32, .f32⟩
  | 72 => ⟨S8x4x256x32, .f32⟩
  | 73 => ⟨S8x4x256x32, .f32⟩
  | 74 => ⟨S8x4x256x32, .f32⟩
  | 75 => ⟨S1x1x256x32, .f32⟩
  | 76 => ⟨S8x4x256x32, .f32⟩
  | 77 => ⟨S8x4x256x32, .f32⟩
  | 78 => ⟨S1x1x256x32, .f32⟩
  | 79 => ⟨S8x4x256x32, .f32⟩
  | 80 => ⟨S8x4x256x32, .f32⟩
  | 81 => ⟨S8x4x256x32, .f32⟩
  | 82 => ⟨S8x4x256x64, .f32⟩
  | 83 => ⟨S8x4x256x128, .f32⟩
  | _ => ⟨S8x4096x3712, .f32⟩

abbrev hbmTy (i : Nat) : BufTy := match i / 128 with
  | 0 => hbmTy0_0 i
  | 1 => hbmTy0_1 i
  | _ => ⟨S8x4096x3712, .f32⟩

abbrev bufTy : (tb : Table) → Fin (tcTables nBuf tb) → BufTy
  | .hbm, ⟨i, _⟩ => hbmTy i
  | _, _ => ⟨S8x4096x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_0 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v20 : Ref sig .tc := ⟨.hbm, 47, rfl⟩
abbrev main_c_1 : Ref sig .tc := ⟨.hbm, 48, rfl⟩
abbrev main_v21 : Ref sig .tc := ⟨.hbm, 49, rfl⟩
abbrev main_v22 : Ref sig .tc := ⟨.hbm, 50, rfl⟩
abbrev main_c_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_3 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_4 : Ref sig .tc := ⟨.hbm, 72, rfl⟩
abbrev main_v41 : Ref sig .tc := ⟨.hbm, 73, rfl⟩
abbrev main_v42 : Ref sig .tc := ⟨.hbm, 74, rfl⟩
abbrev main_cst_5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_6 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_7 : Ref sig .tc := ⟨.hbm, 98, rfl⟩
abbrev main_call1_v0 : Ref sig .tc := ⟨.hbm, 99, rfl⟩
abbrev main_call1_c : Ref sig .tc := ⟨.hbm, 100, rfl⟩
abbrev main_call1_v1 : Ref sig .tc := ⟨.hbm, 101, rfl⟩
abbrev main_call1_c_0 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_c_1 : Ref sig .tc := ⟨.hbm, 106, rfl⟩
abbrev main_call1_v5 : Ref sig .tc := ⟨.hbm, 107, rfl⟩
abbrev main_call1_v6 : Ref sig .tc := ⟨.hbm, 108, rfl⟩
abbrev main_call1_c_2 : Ref sig .tc := ⟨.hbm, 109, rfl⟩
abbrev main_call1_v7 : Ref sig .tc := ⟨.hbm, 110, rfl⟩
abbrev main_call1_v8 : Ref sig .tc := ⟨.hbm, 111, rfl⟩
abbrev main_call1_c_3 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_call1_v12 : Ref sig .tc := ⟨.hbm, 116, rfl⟩
abbrev main_call1_v13 : Ref sig .tc := ⟨.hbm, 117, rfl⟩
abbrev main_call1_v14 : Ref sig .tc := ⟨.hbm, 118, rfl⟩
abbrev main_v64 : Ref sig .tc := ⟨.hbm, 119, rfl⟩
abbrev main_c_8 : Ref sig .tc := ⟨.hbm, 120, rfl⟩
abbrev main_v65 : Ref sig .tc := ⟨.hbm, 121, rfl⟩
abbrev main_v66 : Ref sig .tc := ⟨.hbm, 122, rfl⟩
abbrev main_c_9 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_10 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_cst_11 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_cst_12 : Ref sig .tc := ⟨.hbm, 144, rfl⟩
abbrev main_v85 : Ref sig .tc := ⟨.hbm, 145, rfl⟩
abbrev main_v86 : Ref sig .tc := ⟨.hbm, 146, rfl⟩
abbrev main_cst_13 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_cst_14 : Ref sig .tc := ⟨.hbm, 153, rfl⟩
abbrev main_v92 : Ref sig .tc := ⟨.hbm, 154, rfl⟩
abbrev main_v93 : Ref sig .tc := ⟨.hbm, 155, rfl⟩
abbrev main_cst_15 : Ref sig .tc := ⟨.hbm, 156, rfl⟩
abbrev main_v94 : Ref sig .tc := ⟨.hbm, 157, rfl⟩
abbrev main_v95 : Ref sig .tc := ⟨.hbm, 158, rfl⟩
abbrev main_cst_16 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_c_17 : Ref sig .tc := ⟨.hbm, 169, rfl⟩
abbrev main_v105 : Ref sig .tc := ⟨.hbm, 170, rfl⟩
abbrev main_v106 : Ref sig .tc := ⟨.hbm, 171, rfl⟩
abbrev main_c_18 : Ref sig .tc := ⟨.hbm, 172, rfl⟩
abbrev main_v107 : Ref sig .tc := ⟨.hbm, 173, rfl⟩
abbrev main_v108 : Ref sig .tc := ⟨.hbm, 174, rfl⟩
abbrev main_c_19 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_cst_20 : Ref sig .tc := ⟨.hbm, 180, rfl⟩
abbrev main_v113 : Ref sig .tc := ⟨.hbm, 181, rfl⟩
abbrev main_v114 : Ref sig .tc := ⟨.hbm, 182, rfl⟩
abbrev main_cst_21 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩

abbrev nD : Nat := 1
abbrev τ : Topo := Topo.v7x

variable {F : FTy → Type} [FloatOps F]
-- ==== Proof.Planes.lean ====
/-
  Reads of a scratch of four planes, [2, 2, 256, N]: what a load of `W` columns of one plane reads when stores of columns of
  the planes came before. A store or a load goes through a slice of one plane with its two unit axes dropped.
-/
module

public import Idealize.ShloMosaic.Lib.Pipeline.FrameBody
public import Idealize.ShloMosaic.Lib.Pointwise
public import Idealize.ShloMosaic.Lib.QrPanel.StackBlock

@[expose] public section

set_option maxRecDepth 16384

noncomputable section

namespace Cert.Planes

open Idealize.ShloMosaic

variable {sig : RefSig} {κ : Kind} {sp : Space} {e : EltTy} {Val : EltTy → Type} [∀ e, Nonempty (Val e)]
variable {N : ℕ}

/-- The shape of the scratch. -/
abbrev SS (N : ℕ) : Shape := ⟨4, ![2, 2, 256, N]⟩

/-- The columns `o … o + W` of one plane, its two unit axes kept. -/
abbrev cols (N o W : ℕ) (p1 : ∀ a : Fin 2, (![0, o] : Fin 2 → ℕ) a + (![256, W] : Fin 2 → ℕ) a ≤ (![256, N] : Fin 2 → ℕ) a)
    (p2 : (![1, 256, N] : Fin 3 → ℕ) 0 = 1) (p3 : ∀ i : Fin 2, (![1, 256, N] : Fin 3 → ℕ) i.succ = (![256, N] : Fin 2 → ℕ) i)
    (p4 : (![1, 1, 256, N] : Fin 4 → ℕ) 0 = 1) (p5 : ∀ i : Fin 3, (![1, 1, 256, N] : Fin 4 → ℕ) i.succ = (![1, 256, N] : Fin 3 → ℕ) i) :
    Rect (⟨4, ![1, 1, 256, N]⟩ : Shape) :=
  ((Rect.unit (s := ⟨2, ![256, N]⟩) ![0, o] ![256, W] p1).consLift ![1, 256, N] p2 p3).consLift ![1, 1, 256, N] p4 p5

/-- The index of row `r`, column `c` under the two unit axes. -/
abbrev under {W : ℕ} (r : Fin 256) (c : Fin W) : (⟨4, ![1, 1, 256, W]⟩ : Shape).Idx :=
  Fin.cons ⟨0, Nat.one_pos⟩ (Fin.cons ⟨0, Nat.one_pos⟩ (ix2 r c))

theorem reshape_under {W : ℕ} (h : (⟨4, ![1, 1, 256, W]⟩ : Shape).numel = (⟨2, ![256, W]⟩ : Shape).numel) (r : Fin 256) (c : Fin W) :
    Shape.reshapeEquiv h (under r c) = ix2 r c := by
  have := QrPanel.StackBlock.reshapeEquiv_cons_one_one (d := ![256, W]) h.symm (ix2 r c)
  rw [show under r c = Shape.reshapeEquiv h.symm (ix2 r c) from this.symm]
  exact (Shape.reshapeEquiv h.symm).symm_apply_apply (ix2 r c)

/-- Row `r`, column `c` of a plane's columns `o … o + W` is row `r`, column `o + c` of that plane. -/
theorem emb_under (h s : Fin 2) (o W : ℕ) (p0 p1 p2 p3 p4 p5 p6) (r : Fin 256) (c : Fin W) (hc : o + (c : ℕ) < N) :
    ((Rect.unit (s := SS N) ![h.val, s.val, 0, 0] ![1, 1, 256, N] p0).within (cols N o W p1 p2 p3 p4 p5) p6).emb (under r c)
      = ix4 h s r ⟨o + c, hc⟩ := by
  funext a
  apply Fin.ext
  fin_cases a
  · show (h.val + 0) + 1 * 0 = h.val; omega
  · show (s.val + 0) + 1 * 0 = s.val; omega
  · show (0 + 0) + 1 * r.val = r.val; omega
  · show (0 + o) + 1 * c.val = o + c.val; omega

/-- A load of a plane's columns `o … o + W` reads the plane at column `o + c`. -/
theorem load (v : View sig κ sp (SS N) e) (L : List (View.Piece Val (SS N) e)) (h s : Fin 2) (o W : ℕ)
    (p0 p1 p2 p3 p4 p5 p6) (p7) (r : Fin 256) (c : Fin W) (hc : o + (c : ℕ) < N) :
    LoadRect.valAlong (lr := (Rect.unit (s := ⟨2, ![256, N]⟩) ![0, o] ![256, W] p1).toLoadRect) p7
      (v.readCov L ((Rect.unit (s := SS N) ![h.val, s.val, 0, 0] ![1, 1, 256, N] p0).withinL
        (((Rect.unit (s := ⟨2, ![256, N]⟩) ![0, o] ![256, W] p1).toLoadRect.consLift ![1, 256, N] p2 p3).consLift ![1, 1, 256, N] p4 p5) p6))
      (ix2 r c) = View.canon L (ix4 h s r ⟨o + c, hc⟩) := by
  rw [View.readCov_eq_canon']
  show View.canon L _ = _
  congr 1
  rw [show Shape.reshapeEquiv p7 (ix2 r c) = (under r c : (⟨4, ![1, 1, 256, W]⟩ : Shape).Idx) from
    QrPanel.StackBlock.reshapeEquiv_cons_one_one (d := ![256, W]) p7 (ix2 r c)]
  exact emb_under h s o W p0 p1 p2 p3 p4 p5 p6 r c hc

/-- After a store to another plane a plane is what it was. -/
theorem store_miss (L : List (View.Piece Val (SS N) e)) (h s h' s' : Fin 2) (hne : h ≠ h' ∨ s ≠ s') (o W : ℕ)
    (p0 p1 p2 p3 p4 p5 p6) (pay) (r : Fin 256) (c : Fin N) :
    View.canon (⟨(Rect.unit (s := SS N) ![h'.val, s'.val, 0, 0] ![1, 1, 256, N] p0).within (cols N o W p1 p2 p3 p4 p5) p6, pay⟩ :: L)
      (ix4 h s r c) = View.canon L (ix4 h s r c) := by
  refine View.canon_cons_of_not_mem _ _ ?_
  rw [LoadRect.mem_set]
  intro hm
  rcases hne with hne | hne
  · obtain ⟨j, hj, he⟩ := hm 0
    have hj' : j < 1 := hj
    have he' : h.val = (h'.val + 0) + 1 * j := he
    exact hne (Fin.ext (by omega))
  · obtain ⟨j, hj, he⟩ := hm 1
    have hj' : j < 1 := hj
    have he' : s.val = (s'.val + 0) + 1 * j := he
    exact hne (Fin.ext (by omega))

/-- A store to columns `o … o + W` of a plane: those columns are the payload's … -/
theorem store_hit (L : List (View.Piece Val (SS N) e)) (h s : Fin 2) (o W : ℕ)
    (p0 p1 p2 p3 p4 p5 p6) (p7) (pay : (⟨2, ![256, W]⟩ : Shape).Idx → Val e) (r : Fin 256) (c : Fin W) (hc : o + (c : ℕ) < N) :
    View.canon (⟨(Rect.unit (s := SS N) ![h.val, s.val, 0, 0] ![1, 1, 256, N] p0).within (cols N o W p1 p2 p3 p4 p5) p6,
        Rect.payAlong (r := Rect.unit (s := ⟨2, ![256, N]⟩) ![0, o] ![256, W] p1) p7 pay⟩ :: L)
      (ix4 h s r ⟨o + c, hc⟩) = pay (ix2 r c) := by
  rw [← emb_under h s o W p0 p1 p2 p3 p4 p5 p6 r c hc]
  exact (View.canon_cons_emb _ _ _ _).trans (congrArg pay (reshape_under (W := W) p7 r c))

/-- … and a column before them is what it was. -/
theorem store_before (L : List (View.Piece Val (SS N) e)) (h s h' s' : Fin 2) (o W : ℕ)
    (p0 p1 p2 p3 p4 p5 p6) (pay) (r : Fin 256) (c : Fin N) (hc : c.val < o) :
    View.canon (⟨(Rect.unit (s := SS N) ![h'.val, s'.val, 0, 0] ![1, 1, 256, N] p0).within (cols N o W p1 p2 p3 p4 p5) p6, pay⟩ :: L)
      (ix4 h s r c) = View.canon L (ix4 h s r c) := by
  refine View.canon_cons_of_not_mem _ _ ?_
  rw [LoadRect.mem_set]
  intro hm
  obtain ⟨j, hj, he⟩ := hm 3
  have he' : c.val = (0 + o) + 1 * j := he
  omega

/-- A store through a whole-rows box of a plane, its unit axes kept in the payload: another plane is what it was … -/
theorem box_miss (L : List (View.Piece Val (SS N) e)) (h s h' s' : Fin 2) (hne : h ≠ h' ∨ s ≠ s') (W : ℕ)
    (p0) (pay) (r : Fin 256) (c : Fin N) :
    View.canon (⟨Rect.unit (s := SS N) ![h'.val, s'.val, 0, 0] ![1, 1, 256, W] p0, pay⟩ :: L) (ix4 h s r c)
      = View.canon L (ix4 h s r c) := by
  refine View.canon_cons_of_not_mem _ _ ?_
  rw [LoadRect.mem_set]
  intro hm
  rcases hne with hne | hne
  · obtain ⟨j, hj, he⟩ := hm 0
    have hj' : j < 1 := hj
    have he' : h.val = h'.val + 1 * j := he
    exact hne (Fin.ext (by omega))
  · obtain ⟨j, hj, he⟩ := hm 1
    have hj' : j < 1 := hj
    have he' : s.val = s'.val + 1 * j := he
    exact hne (Fin.ext (by omega))

/-- … and the plane stored is the payload. -/
theorem box_hit (L : List (View.Piece Val (SS N) e)) (h s : Fin 2) (W : ℕ)
    (p0) (pay : (⟨4, ![1, 1, 256, W]⟩ : Shape).Idx → Val e) (r : Fin 256) (c : Fin W) (hc : (c : ℕ) < N) :
    View.canon (⟨Rect.unit (s := SS N) ![h.val, s.val, 0, 0] ![1, 1, 256, W] p0, pay⟩ :: L) (ix4 h s r ⟨c, hc⟩)
      = pay (ix4 0 0 r c) := by
  rw [show (ix4 h s r ⟨c, hc⟩ : (SS N).Idx) = (Rect.unit (s := SS N) ![h.val, s.val, 0, 0] ![1, 1, 256, W] p0).emb (ix4 0 0 r c) from ?_,
    View.canon_cons_emb]
  funext a
  apply Fin.ext
  rw [Rect.emb_apply]
  fin_cases a
  · show h.val = h.val + 1 * 0; omega
  · show s.val = s.val + 1 * 0; omega
  · show r.val = 0 + 1 * r.val; omega
  · show c.val = 0 + 1 * c.val; omega

end Cert.Planes
end
-- ==== Proof.Chain.lean ====
/-
  One chain of the kernel's body: scores of 256 rows against `W` keys, the causal triangle of the last 256 keys, the row
  maximum, the exponentials, and their product with the values — each read at an index, at any width.
-/
module

public import Idealize.ShloMosaic.Lib.Pointwise
public import Idealize.ShloMosaic.PureOps.Ideal.Laws
public import proofs.«01_k».proof.Proof.Planes

@[expose] public section

set_option maxRecDepth 16384

noncomputable section

namespace Cert.Chain

open Idealize.ShloMosaic

/-- Rows times rows. -/
@[reducible] def dotRows (W : ℕ) (wf : DotDims.WF (⟨2, ![256, 256]⟩ : Shape) (⟨2, ![W, 256]⟩ : Shape) (⟨2, ![256, W]⟩ : Shape) [1] [1] [0] [0] [] []) : DotDims (⟨2, ![256, 256]⟩ : Shape) (⟨2, ![W, 256]⟩ : Shape) (⟨2, ![256, W]⟩ : Shape) where
  lhsContracting := [1]
  rhsContracting := [1]
  lhsNonContracting := [0]
  rhsNonContracting := [0]
  lhsBatch := []
  rhsBatch := []
  wf := wf

/-- Rows times columns. -/
@[reducible] def dotCols (W : ℕ) (wf : DotDims.WF (⟨2, ![256, W]⟩ : Shape) (⟨2, ![W, 128]⟩ : Shape) (⟨2, ![256, 128]⟩ : Shape) [1] [0] [0] [1] [] []) : DotDims (⟨2, ![256, W]⟩ : Shape) (⟨2, ![W, 128]⟩ : Shape) (⟨2, ![256, 128]⟩ : Shape) where
  lhsContracting := [1]
  rhsContracting := [0]
  lhsNonContracting := [0]
  rhsNonContracting := [1]
  lhsBatch := []
  rhsBatch := []
  wf := wf

/-- The scores of rows against keys, at an index. -/
theorem scores {W : ℕ} (wf) (q : FVec Ideal (⟨2, ![256, 256]⟩ : Shape) .bf16) (k : FVec Ideal (⟨2, ![W, 256]⟩ : Shape) .bf16)
    (r : Fin 256) (c : Fin W) :
    matmul (F := Ideal) (dotRows W wf) none q k
        (constant (⟨2, ![256, W]⟩ : Shape) FTy.f32 0#32) (ix2 r c)
      = ∑ l : Fin 256, (q (ix2 r l) : EReal) * k (ix2 c l) := by
  show Ideal.matmul (dotRows W wf) q k _ _ = _
  rw [Ideal.matmul_apply₁_of (dotRows W wf) (a := 1) rfl (K := 256) rfl q k _ _ (fun l => ix2 r l) (fun l => ix2 c l)]
  · show Ideal.ofBits FTy.f32 0#32 + _ = _
    rw [show Ideal.ofBits FTy.f32 0#32 = (0 : EReal) by simp [Ideal.ofBits, Ideal.ieee], zero_add]
  · intro l; funext a; fin_cases a <;> rfl
  · intro l; funext a; fin_cases a <;> rfl

/-- The same through the cast at which the scores are stored, from the operands' entries. -/
theorem scoresAt {W : ℕ} (wf sc) (q : FVec Ideal (⟨2, ![256, 256]⟩ : Shape) .bf16) (k : FVec Ideal (⟨2, ![W, 256]⟩ : Shape) .bf16)
    (r : Fin 256) (c : Fin W) (Q K : Fin 256 → EReal) (hq : ∀ l, q (ix2 r l) = Q l) (hk : ∀ l, k (ix2 c l) = K l) :
    shapeCast (⟨2, ![256, W]⟩ : Shape) (matmul (F := Ideal) (dotRows W wf) none q k (constant (⟨2, ![256, W]⟩ : Shape) FTy.f32 0#32)) sc
      (ix2 r c) = ∑ l : Fin 256, Q l * K l := by
  have e : ∀ y : FVec Ideal (⟨2, ![256, W]⟩ : Shape) .f32, shapeCast (⟨2, ![256, W]⟩ : Shape) y sc (ix2 r c) = y (ix2 r c) := fun y => by
    pointwise
  refine (e _).trans ((scores wf q k r c).trans (Finset.sum_congr rfl fun l _ => ?_))
  rw [hq, hk]

/-- Rows `o … o + R` of an operand's block, loaded and cast to two axes, at an index. -/
theorem rowsAt {sig : RefSig} {M R K o : ℕ} {m : Memref sig .tc .vmem (⟨4, ![1, 1, M, K]⟩ : Shape) .bf16} (hm : m.IsWhole)
    (x : Vec Ideal (⟨4, ![1, 1, M, K]⟩ : Shape) .bf16) (inb sc) (r : Fin R) (l : Fin K) (g : Fin M) (hg : g.val = o + r.val) :
    shapeCast (⟨2, ![R, K]⟩ : Shape) (View.readAt (Elt Ideal) m.view (Rect.unit (s := (⟨4, ![1, 1, M, K]⟩ : Shape)) ![0, 0, o, 0]
      ![1, 1, R, K] inb).toLoadRect (hm.unread x)) sc (ix2 r l) = x (ix4 0 0 g l) := by
  rw [View.readAt_eq_ld, hm.read_unread]
  refine congrArg x ?_
  have e : Shape.reshapeEquiv (s' := (⟨2, ![R, K]⟩ : Shape)) (s := (⟨4, ![1, 1, R, K]⟩ : Shape)) sc (ix2 r l)
      = (Fin.cons ⟨0, Nat.one_pos⟩ (Fin.cons ⟨0, Nat.one_pos⟩ (ix2 r l)) : (⟨4, ![1, 1, R, K]⟩ : Shape).Idx) :=
    QrPanel.StackBlock.reshapeEquiv_cons_one_one (d := ![R, K]) sc (ix2 r l)
  funext a
  apply Fin.ext
  refine (congrArg (fun i => (LoadRect.idx _ i a : ℕ)) e).trans ?_
  fin_cases a
  · show 0 + 1 * 0 = 0; rfl
  · show 0 + 1 * 0 = 0; rfl
  · show o + 1 * r.val = g.val; omega
  · show 0 + 1 * l.val = l.val; omega

/-- The exponentials' product with the values, at an index. -/
theorem mix {W : ℕ} (wf) (p : FVec Ideal (⟨2, ![256, W]⟩ : Shape) .bf16) (v : FVec Ideal (⟨2, ![W, 128]⟩ : Shape) .bf16)
    (r : Fin 256) (c : Fin 128) :
    matmul (F := Ideal) (dotCols W wf) none p v
        (constant (⟨2, ![256, 128]⟩ : Shape) FTy.f32 0#32) (ix2 r c)
      = ∑ l : Fin W, (p (ix2 r l) : EReal) * v (ix2 l c) := by
  show Ideal.matmul (dotCols W wf) p v _ _ = _
  rw [Ideal.matmul_apply₁_of (dotCols W wf) (a := 1) rfl (K := W) rfl p v _ _ (fun l => ix2 r l) (fun l => ix2 l c)]
  · show Ideal.ofBits FTy.f32 0#32 + _ = _
    rw [show Ideal.ofBits FTy.f32 0#32 = (0 : EReal) by simp [Ideal.ofBits, Ideal.ieee], zero_add]
  · intro l; funext a; fin_cases a <;> rfl
  · intro l; funext a; fin_cases a <;> rfl

/-- The causal triangle, at an index. -/
theorem triangle (i1 i0) (s) (x : FVec Ideal (⟨2, ![256, 256]⟩ : Shape) .f32) (m : EReal) (r c : Fin 256) :
    shapeCast (⟨2, ![256, 256]⟩ : Shape) (select (cmpi .sle (iota .tc (⟨2, ![256, 256]⟩ : Shape) 32 [1] i1)
      (iota .tc (⟨2, ![256, 256]⟩ : Shape) 32 [0] i0)) x (broadcast (⟨2, ![256, 256]⟩ : Shape) m)) s (ix2 r c)
      = if c.val ≤ r.val then x (ix2 r c) else m := by
  pointwise
  have hr := r.isLt
  have hc := c.isLt
  have e : (BitVec.ofNat 32 c.val).sle (BitVec.ofNat 32 r.val) = decide (c.val ≤ r.val) := by
    rw [BitVec.sle_eq_decide, BitVec.toInt_ofNat', BitVec.toInt_ofNat']
    congr 1
    simp only [Int.bmod, eq_iff_iff]
    omega
  show (if (IntOp.cmpi CmpIPredicate.sle (BitVec.ofNat 32 c.val) (BitVec.ofNat 32 r.val)) = 1#1 then _ else _) = _
  have e2 : IntOp.cmpi CmpIPredicate.sle (BitVec.ofNat 32 c.val) (BitVec.ofNat 32 r.val)
      = if c.val ≤ r.val then 1#1 else 0#1 := by
    show BitVec.ofBool ((BitVec.ofNat 32 c.val).sle (BitVec.ofNat 32 r.val)) = _
    rw [e]
    by_cases h : c.val ≤ r.val <;> simp [h]
  rw [e2]
  by_cases h : c.val ≤ r.val <;> simp [h]

/-- The row maximum, at an index. -/
theorem rowMax {W : ℕ} (red h1 h2 sc) (x : FVec Ideal (⟨2, ![256, W]⟩ : Shape) .f32)
    (m : FVec Ideal (⟨2, ![256, 1]⟩ : Shape) .f32)
    (hm : m = shapeCast (⟨2, ![256, 1]⟩ : Shape) (multiReduction .maximumf [1] (⟨1, ![256]⟩ : Shape) x 0xFF800000#32 red h1 h2) sc)
    (S : Fin W → EReal) (r : Fin 256) (hx : ∀ c, x (ix2 r c) = S c) : m (ix2 r 0) = Finset.univ.sup S := by
  subst hm
  pointwise
  rw [show Ideal.ofBits FTy.f32 4286578688#32 = (⊥ : EReal) from rfl]
  simp only [hx]
  rfl

/-- The exponentials, at an index. -/
theorem expo {W : ℕ} (h1 h2 h3 h4) (x : FVec Ideal (⟨2, ![256, W]⟩ : Shape) .f32) (m : FVec Ideal (⟨2, ![256, 1]⟩ : Shape) .f32)
    (r : Fin 256) (c : Fin W) :
    shapeCast (⟨4, ![1, 1, 256, W]⟩ : Shape) (shapeCast (⟨2, ![256, W]⟩ : Shape) (truncf .bf16 (exp2 (subf x
      (broadcastTo (⟨2, ![256, W]⟩ : Shape) m h1))) h2) h3) h4 (ix4 0 0 r c)
      = Ideal.exp2 ((x (ix2 r c) : EReal) - m (ix2 r 0)) := by
  rw [show ∀ (y : FVec Ideal (⟨2, ![256, W]⟩ : Shape) .bf16), shapeCast (⟨4, ![1, 1, 256, W]⟩ : Shape) y h4 (ix4 0 0 r c) = y (ix2 r c) from
    fun y => congrArg y ((congrArg (Shape.reshapeEquiv _) (show (ix4 0 0 r c : (⟨4, ![1, 1, 256, W]⟩ : Shape).Idx) = Planes.under r c from
      funext fun a => by fin_cases a <;> rfl)).trans (Planes.reshape_under _ r c))]
  pointwise
  rfl

/-- The score of query row `g` of the block (row `2048 + g` of the sequence) against key `c`: masked after the row's own place. -/
def score (q : (⟨4, ![1, 1, 2048, 256]⟩ : Shape).Idx → EReal) (k : (⟨4, ![1, 1, 4096, 256]⟩ : Shape).Idx → EReal)
    (g : Fin 2048) (c : Fin 4096) : EReal :=
  if c.val ≤ 2048 + g.val then ∑ l : Fin 256, q (ix4 0 0 g l) * k (ix4 0 0 c l) else ⊥

/-- The unnormalised mix of the first `W` keys' values: what the chain of row `g`'s block computes. -/
def acc (W : ℕ) (hW : W ≤ 4096) (q : (⟨4, ![1, 1, 2048, 256]⟩ : Shape).Idx → EReal) (k : (⟨4, ![1, 1, 4096, 256]⟩ : Shape).Idx → EReal)
    (v : (⟨4, ![1, 1, 4096, 128]⟩ : Shape).Idx → EReal) (g : Fin 2048) (lane : Fin 128) : EReal :=
  ∑ c : Fin W, Ideal.exp2 (score q k g (c.castLE hW) - Finset.univ.sup fun c' : Fin W => score q k g (c'.castLE hW))
    * v (ix4 0 0 (c.castLE hW) lane)

/-- The mix from the exponentials' and the values' entries. -/
theorem accAt {W : ℕ} (hW : W ≤ 4096) (wf) (p : FVec Ideal (⟨2, ![256, W]⟩ : Shape) .bf16)
    (v : FVec Ideal (⟨2, ![W, 128]⟩ : Shape) .bf16) (r : Fin 256) (lane : Fin 128) (Q K V) (g : Fin 2048)
    (hp : ∀ c, p (ix2 r c) = Ideal.exp2 (score Q K g (c.castLE hW) - Finset.univ.sup fun c' : Fin W => score Q K g (c'.castLE hW)))
    (hv : ∀ c, v (ix2 c lane) = V (ix4 0 0 (c.castLE hW) lane)) :
    matmul (F := Ideal) (dotCols W wf) none p v (constant (⟨2, ![256, 128]⟩ : Shape) FTy.f32 0#32) (ix2 r lane)
      = acc W hW Q K V g lane :=
  (mix wf p v r lane).trans (Finset.sum_congr rfl fun c _ => by rw [hp, hv])

/-- The lane a half turn away. -/
def turn (lane : Fin 128) : Fin 128 := ⟨(lane.val + 128 - 64) % 128, Nat.mod_lt _ (by decide)⟩

/-- The two heads' mixes joined and normalised: the first 64 lanes are head 0's, the others head 1's, each over the head's own
    other half. -/
def merge (A B : Fin 128 → EReal) (lane : Fin 128) : EReal :=
  Ideal.div (if lane.val < 64 then A lane else B lane) (if lane.val < 64 then A (turn lane) else B (turn lane))

/-- The test of the lane's half. -/
theorem half (lane : Fin 128) : IntOp.cmpi CmpIPredicate.slt (BitVec.ofNat 32 lane.val) 64#32 = if lane.val < 64 then 1#1 else 0#1 := by
  revert lane; decide +kernel

/-- The joined block, at an index. -/
theorem mergeAt (i rot sc) (A B : FVec Ideal (⟨2, ![256, 128]⟩ : Shape) .f32) (a b : Fin 256 → Fin 128 → EReal)
    (hA : ∀ r l, A (ix2 r l) = a r l) (hB : ∀ r l, B (ix2 r l) = b r l) (r : Fin 256) (lane : Fin 128) :
    shapeCast (⟨3, ![1, 256, 128]⟩ : Shape) (divf
      (select (cmpi .slt (iota .tc (⟨2, ![256, 128]⟩ : Shape) 32 [1] i) (broadcast (⟨2, ![256, 128]⟩ : Shape) 64#32)) A B)
      (dynamicRotate 1 64#32 none
        (select (cmpi .slt (iota .tc (⟨2, ![256, 128]⟩ : Shape) 32 [1] i) (broadcast (⟨2, ![256, 128]⟩ : Shape) 64#32)) B A) rot)) sc
      (ix3 0 r lane) = merge (a r) (b r) lane := by
  pointwise
  have ht : (turn lane).val < 64 ↔ ¬ lane.val < 64 := by
    have := lane.isLt
    show (lane.val + 128 - 64) % 128 < 64 ↔ _
    omega
  have h2 : IntOp.cmpi CmpIPredicate.slt (BitVec.ofNat 32 ((lane.val + 128 - 64) % 128)) 64#32 = if lane.val < 64 then 0#1 else 1#1 := by
    rw [show (lane.val + 128 - 64) % 128 = (turn lane).val from rfl, half]
    by_cases h : lane.val < 64 <;> simp [ht, h]
  rw [half, h2, hA, hB, show (ix2 r ⟨(lane.val + 128 - 64) % 128, Nat.mod_lt _ (by decide)⟩ : (⟨2, ![256, 128]⟩ : Shape).Idx) = ix2 r (turn lane) from rfl,
    hA, hB]
  unfold merge
  by_cases h : lane.val < 64
  · simp only [if_pos h]; rfl
  · simp only [if_neg h]; rfl

/-- A key after the row's own place weighs nothing, so the mix may run over all keys. -/
theorem acc_all (W : ℕ) (hW : W ≤ 4096) (q k v) (g : Fin 2048) (hg : 2048 + g.val < W) (lane : Fin 128) :
    acc W hW q k v g lane = acc 4096 le_rfl q k v g lane := by
  have hbot : ∀ c : Fin 4096, W ≤ c.val → score q k g c = ⊥ := fun c hc => if_neg (by omega)
  have hsup : (Finset.univ.sup fun c' : Fin W => score q k g (c'.castLE hW))
      = Finset.univ.sup fun c' : Fin 4096 => score q k g (c'.castLE le_rfl) := by
    apply le_antisymm
    · exact Finset.sup_le fun c _ => Finset.le_sup (f := fun c' : Fin 4096 => score q k g (c'.castLE le_rfl)) (Finset.mem_univ (c.castLE hW))
    · refine Finset.sup_le fun c _ => ?_
      by_cases hc : c.val < W
      · exact Finset.le_sup (f := fun c' : Fin W => score q k g (c'.castLE hW)) (Finset.mem_univ ⟨c.val, hc⟩)
      · exact (hbot c (by omega)).le.trans bot_le
  unfold acc
  rw [hsup]
  generalize (Finset.univ.sup fun c' : Fin 4096 => score q k g (c'.castLE le_rfl)) = M
  have hzero : ∀ c : Fin 4096, W ≤ c.val → Ideal.exp2 (score q k g c - M) * v (ix4 0 0 c lane) = 0 := fun c hc => by
    rw [hbot c hc, show (⊥ : EReal) - M = ⊥ from EReal.bot_sub M, show Ideal.exp2 ⊥ = 0 from rfl, zero_mul]
  rw [← Finset.sum_subset (Finset.subset_univ (Finset.univ.map (Fin.castLEEmb hW)))]
  · rw [Finset.sum_map]; rfl
  · intro c _ hc
    refine hzero c ?_
    by_contra h
    exact hc (Finset.mem_map.mpr ⟨⟨c.val, by omega⟩, Finset.mem_univ _, rfl⟩)

end Cert.Chain
end
-- ==== Proof.Chains.lean ====
/-
  The chains of the kernel's body: each product with the values is `Chain.acc`.
-/
module

public import proofs.«01_k».proof.Proof.Chain
public import proofs.«01_k».proof.Proof.Gen.KernelIdeal.Value

@[expose] public section

set_option maxRecDepth 16384

noncomputable section

namespace Cert.Chains

open Idealize.ShloMosaic Cert.KernelIdeal Cert.KernelIdeal.Gen

theorem zero_add_mk {n m : ℕ} {h : 0 + m < n} : (⟨0 + m, h⟩ : Fin n) = ⟨m, by omega⟩ := Fin.ext (Nat.zero_add m)

/-- Query rows 0 … 255 of head 0: the mix of the first 2304 keys' values. -/
theorem acc_0_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg5 : Memref sig .tc .vmem S1x1x4096x128 .bf16)
    (harg5 : arg5.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x3 : Vec Ideal S1x1x4096x128 .bf16) (r : Fin 256) (lane : Fin 128) :
    kernelRun0_A.sl.v165 (F := Ideal) c arg2 harg2 arg3 harg3 arg4 harg4 arg5 harg5 arg9 arg10 x0 x1 x2 x3 (ix2 r lane)
      = Chain.acc 2304 (by decide) x0 x2 x3 ⟨0 + r.val, by omega⟩ lane := by
  refine Chain.accAt (W := 2304) (by decide) _ _ _ r lane x0 x2 x3 ⟨0 + r.val, by omega⟩ (fun d => ?_)
    (fun d => Chain.rowsAt harg5 x3 _ _ d lane (d.castLE (by decide)) (Nat.zero_add d.val).symm)
  · refine (Planes.load _ _ 0 0 0 2304 _ _ _ _ _ _ _ _ r d (by omega)).trans ?_
    rw [zero_add_mk]
    refine (Planes.box_miss _ 0 0 1 1 (by decide) 2560 _ _ _ _).trans ?_
    refine (Planes.box_miss _ 0 0 0 1 (by decide) 2560 _ _ _ _).trans ?_
    refine (Planes.box_miss _ 0 0 1 0 (by decide) 2304 _ _ _ _).trans ?_
    refine (Planes.box_hit _ 0 0 2304 _ _ r d (by omega)).trans ?_
    refine (Chain.expo _ _ _ _ _ _ r d).trans (congrArg Ideal.exp2 (congrArg₂ (· - ·) ?_ ?_))
    · refine (Planes.load _ _ 0 0 0 2304 _ _ _ _ _ _ _ _ r d (by omega)).trans ?_
      refine (Planes.store_miss _ 0 0 1 1 (by decide) 2304 256 _ _ _ _ _ _ _ _ _ _).trans ?_
      refine (Planes.store_miss _ 0 0 0 1 (by decide) 2304 256 _ _ _ _ _ _ _ _ _ _).trans ?_
      refine (Planes.store_miss _ 0 0 1 0 (by decide) 2048 256 _ _ _ _ _ _ _ _ _ _).trans ?_
      by_cases hd : d.val < 2048
      · refine (Planes.store_before _ 0 0 0 0 2048 256 _ _ _ _ _ _ _ _ r _ (by show 0 + d.val < 2048; omega)).trans ?_
        refine (Planes.store_miss _ 0 0 1 1 (by decide) 0 2560 _ _ _ _ _ _ _ _ _ _).trans ?_
        refine (Planes.store_miss _ 0 0 0 1 (by decide) 0 2560 _ _ _ _ _ _ _ _ _ _).trans ?_
        refine (Planes.store_miss _ 0 0 1 0 (by decide) 0 2304 _ _ _ _ _ _ _ _ _ _).trans ?_
        refine (Planes.store_hit _ 0 0 0 2304 _ _ _ _ _ _ _ _ _ r d (by omega)).trans ?_
        exact (Chain.scoresAt _ _ _ _ r d (fun l => x0 (ix4 0 0 ⟨0 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (0 + r.val); omega)).symm
      · rw [show (⟨0 + d.val, by omega⟩ : Fin 4096) = ⟨2048 + (d.val - 2048), by omega⟩ from Fin.ext (by show 0 + d.val = 2048 + (d.val - 2048); omega)]
        refine (Planes.store_hit _ 0 0 2048 256 _ _ _ _ _ _ _ _ _ r ⟨d.val - 2048, by omega⟩ (by show 2048 + (d.val - 2048) < 4096; omega)).trans ?_
        refine (Chain.triangle _ _ _ _ _ r ⟨d.val - 2048, by omega⟩).trans ?_
        by_cases hj : d.val - 2048 ≤ r.val
        · refine (if_pos hj).trans ?_
          refine (Planes.load _ _ 0 0 2048 256 _ _ _ _ _ _ _ _ r ⟨d.val - 2048, by omega⟩ (by show 2048 + (d.val - 2048) < 4096; omega)).trans ?_
          rw [show (⟨2048 + (d.val - 2048), by omega⟩ : Fin 4096) = ⟨0 + d.val, by omega⟩ from Fin.ext (by show 2048 + (d.val - 2048) = 0 + d.val; omega)]
          refine (Planes.store_miss _ 0 0 1 1 (by decide) 0 2560 _ _ _ _ _ _ _ _ _ _).trans ?_
          refine (Planes.store_miss _ 0 0 0 1 (by decide) 0 2560 _ _ _ _ _ _ _ _ _ _).trans ?_
          refine (Planes.store_miss _ 0 0 1 0 (by decide) 0 2304 _ _ _ _ _ _ _ _ _ _).trans ?_
          refine (Planes.store_hit _ 0 0 0 2304 _ _ _ _ _ _ _ _ _ r d (by omega)).trans ?_
          exact (Chain.scoresAt _ _ _ _ r d (fun l => x0 (ix4 0 0 ⟨0 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (0 + r.val); omega)).symm
        · exact ((if_neg hj).trans (show _ = (⊥ : EReal) from rfl)).trans ((if_neg (by show ¬ d.val ≤ 2048 + (0 + r.val); omega)).symm)
    · unfold kernelRun0_A.sl.r_1 k0_pay11
      dsimp only
      refine Chain.rowMax (W := 2304) reduces_S256x2304_S256 (.inl rfl) rfl shapeCasts_S256_S256x1 _ _ rfl (fun c' => Chain.score x0 x2 ⟨0 + r.val, by omega⟩ (c'.castLE (by decide))) r (fun d => ?_)
      refine (Planes.load _ _ 0 0 0 2304 _ _ _ _ _ _ _ _ r d (by omega)).trans ?_
      by_cases hd : d.val < 2048
      · refine (Planes.store_before _ 0 0 0 0 2048 256 _ _ _ _ _ _ _ _ r _ (by show 0 + d.val < 2048; omega)).trans ?_
        refine (Planes.store_miss _ 0 0 1 1 (by decide) 0 2560 _ _ _ _ _ _ _ _ _ _).trans ?_
        refine (Planes.store_miss _ 0 0 0 1 (by decide) 0 2560 _ _ _ _ _ _ _ _ _ _).trans ?_
        refine (Planes.store_miss _ 0 0 1 0 (by decide) 0 2304 _ _ _ _ _ _ _ _ _ _).trans ?_
        refine (Planes.store_hit _ 0 0 0 2304 _ _ _ _ _ _ _ _ _ r d (by omega)).trans ?_
        exact (Chain.scoresAt _ _ _ _ r d (fun l => x0 (ix4 0 0 ⟨0 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (0 + r.val); omega)).symm
      · rw [show (⟨0 + d.val, by omega⟩ : Fin 4096) = ⟨2048 + (d.val - 2048), by omega⟩ from Fin.ext (by show 0 + d.val = 2048 + (d.val - 2048); omega)]
        refine (Planes.store_hit _ 0 0 2048 256 _ _ _ _ _ _ _ _ _ r ⟨d.val - 2048, by omega⟩ (by show 2048 + (d.val - 2048) < 4096; omega)).trans ?_
        refine (Chain.triangle _ _ _ _ _ r ⟨d.val - 2048, by omega⟩).trans ?_
        by_cases hj : d.val - 2048 ≤ r.val
        · refine (if_pos hj).trans ?_
          refine (Planes.load _ _ 0 0 2048 256 _ _ _ _ _ _ _ _ r ⟨d.val - 2048, by omega⟩ (by show 2048 + (d.val - 2048) < 4096; omega)).trans ?_
          rw [show (⟨2048 + (d.val - 2048), by omega⟩ : Fin 4096) = ⟨0 + d.val, by omega⟩ from Fin.ext (by show 2048 + (d.val - 2048) = 0 + d.val; omega)]
          refine (Planes.store_miss _ 0 0 1 1 (by decide) 0 2560 _ _ _ _ _ _ _ _ _ _).trans ?_
          refine (Planes.store_miss _ 0 0 0 1 (by decide) 0 2560 _ _ _ _ _ _ _ _ _ _).trans ?_
          refine (Planes.store_miss _ 0 0 1 0 (by decide) 0 2304 _ _ _ _ _ _ _ _ _ _).trans ?_
          refine (Planes.store_hit _ 0 0 0 2304 _ _ _ _ _ _ _ _ _ r d (by omega)).trans ?_
          exact (Chain.scoresAt _ _ _ _ r d (fun l => x0 (ix4 0 0 ⟨0 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (0 + r.val); omega)).symm
        · exact ((if_neg hj).trans (show _ = (⊥ : EReal) from rfl)).trans ((if_neg (by show ¬ d.val ≤ 2048 + (0 + r.val); omega)).symm)

/-- Query rows 0 … 255 of head 1: the mix of the first 2304 keys' values. -/
theorem acc_0_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg6 : Memref sig .tc .vmem S1x1x4096x128 .bf16)
    (harg6 : arg6.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x4 : Vec Ideal S1x1x4096x128 .bf16) (r : Fin 256) (lane : Fin 128) :
    kernelRun0_A.sl.v171 (F := Ideal) c arg2 harg2 arg3 harg3 arg4 harg4 arg6 harg6 arg9 arg10 x0 x1 x2 x4 (ix2 r lane)
      = Chain.acc 2304 (by decide) x1 x2 x4 ⟨0 + r.val, by omega⟩ lane := by
  refine Chain.accAt (W := 2304) (by decide) _ _ _ r lane x1 x2 x4 ⟨0 + r.val, by omega⟩ (fun d => ?_)
    (fun d => Chain.rowsAt harg6 x4 _ _ d lane (d.castLE (by decide)) (Nat.zero_add d.val).symm)
  · refine (Planes.load _ _ 1 0 0 2304 _ _ _ _ _ _ _ _ r d (by omega)).trans ?_
    rw [zero_add_mk]
    refine (Planes.box_miss _ 1 0 1 1 (by decide) 2560 _ _ _ _).trans ?_
    refine (Planes.box_miss _ 1 0 0 1 (by decide) 2560 _ _ _ _).trans ?_
    refine (Planes.box_hit _ 1 0 2304 _ _ r d (by omega)).trans ?_
    refine (Chain.expo _ _ _ _ _ _ r d).trans (congrArg Ideal.exp2 (congrArg₂ (· - ·) ?_ ?_))
    · refine (Planes.load _ _ 1 0 0 2304 _ _ _ _ _ _ _ _ r d (by omega)).trans ?_
      refine (Planes.store_miss _ 1 0 1 1 (by decide) 2304 256 _ _ _ _ _ _ _ _ _ _).trans ?_
      refine (Planes.store_miss _ 1 0 0 1 (by decide) 2304 256 _ _ _ _ _ _ _ _ _ _).trans ?_
      by_cases hd : d.val < 2048
      · refine (Planes.store_before _ 1 0 1 0 2048 256 _ _ _ _ _ _ _ _ r _ (by show 0 + d.val < 2048; omega)).trans ?_
        refine (Planes.store_miss _ 1 0 0 0 (by decide) 2048 256 _ _ _ _ _ _ _ _ _ _).trans ?_
        refine (Planes.store_miss _ 1 0 1 1 (by decide) 0 2560 _ _ _ _ _ _ _ _ _ _).trans ?_
        refine (Planes.store_miss _ 1 0 0 1 (by decide) 0 2560 _ _ _ _ _ _ _ _ _ _).trans ?_
        refine (Planes.store_hit _ 1 0 0 2304 _ _ _ _ _ _ _ _ _ r d (by omega)).trans ?_
        exact (Chain.scoresAt _ _ _ _ r d (fun l => x1 (ix4 0 0 ⟨0 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (0 + r.val); omega)).symm
      · rw [show (⟨0 + d.val, by omega⟩ : Fin 4096) = ⟨2048 + (d.val - 2048), by omega⟩ from Fin.ext (by show 0 + d.val = 2048 + (d.val - 2048); omega)]
        refine (Planes.store_hit _ 1 0 2048 256 _ _ _ _ _ _ _ _ _ r ⟨d.val - 2048, by omega⟩ (by show 2048 + (d.val - 2048) < 4096; omega)).trans ?_
        refine (Chain.triangle _ _ _ _ _ r ⟨d.val - 2048, by omega⟩).trans ?_
        by_cases hj : d.val - 2048 ≤ r.val
        · refine (if_pos hj).trans ?_
          refine (Planes.load _ _ 1 0 2048 256 _ _ _ _ _ _ _ _ r ⟨d.val - 2048, by omega⟩ (by show 2048 + (d.val - 2048) < 4096; omega)).trans ?_
          rw [show (⟨2048 + (d.val - 2048), by omega⟩ : Fin 4096) = ⟨0 + d.val, by omega⟩ from Fin.ext (by show 2048 + (d.val - 2048) = 0 + d.val; omega)]
          refine (Planes.store_miss _ 1 0 0 0 (by decide) 2048 256 _ _ _ _ _ _ _ _ _ _).trans ?_
          refine (Planes.store_miss _ 1 0 1 1 (by decide) 0 2560 _ _ _ _ _ _ _ _ _ _).trans ?_
          refine (Planes.store_miss _ 1 0 0 1 (by decide) 0 2560 _ _ _ _ _ _ _ _ _ _).trans ?_
          refine (Planes.store_hit _ 1 0 0 2304 _ _ _ _ _ _ _ _ _ r d (by omega)).trans ?_
          exact (Chain.scoresAt _ _ _ _ r d (fun l => x1 (ix4 0 0 ⟨0 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (0 + r.val); omega)).symm
        · exact ((if_neg hj).trans (show _ = (⊥ : EReal) from rfl)).trans ((if_neg (by show ¬ d.val ≤ 2048 + (0 + r.val); omega)).symm)
    · unfold kernelRun0_A.sl.r_2 k0_pay13
      dsimp only
      refine Chain.rowMax (W := 2304) reduces_S256x2304_S256 (.inl rfl) rfl shapeCasts_S256_S256x1 _ _ rfl (fun c' => Chain.score x1 x2 ⟨0 + r.val, by omega⟩ (c'.castLE (by decide))) r (fun d => ?_)
      refine (Planes.load _ _ 1 0 0 2304 _ _ _ _ _ _ _ _ r d (by omega)).trans ?_
      by_cases hd : d.val < 2048
      · refine (Planes.store_before _ 1 0 1 0 2048 256 _ _ _ _ _ _ _ _ r _ (by show 0 + d.val < 2048; omega)).trans ?_
        refine (Planes.store_miss _ 1 0 0 0 (by decide) 2048 256 _ _ _ _ _ _ _ _ _ _).trans ?_
        refine (Planes.store_miss _ 1 0 1 1 (by decide) 0 2560 _ _ _ _ _ _ _ _ _ _).trans ?_
        refine (Planes.store_miss _ 1 0 0 1 (by decide) 0 2560 _ _ _ _ _ _ _ _ _ _).trans ?_
        refine (Planes.store_hit _ 1 0 0 2304 _ _ _ _ _ _ _ _ _ r d (by omega)).trans ?_
        exact (Chain.scoresAt _ _ _ _ r d (fun l => x1 (ix4 0 0 ⟨0 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (0 + r.val); omega)).symm
      · rw [show (⟨0 + d.val, by omega⟩ : Fin 4096) = ⟨2048 + (d.val - 2048), by omega⟩ from Fin.ext (by show 0 + d.val = 2048 + (d.val - 2048); omega)]
        refine (Planes.store_hit _ 1 0 2048 256 _ _ _ _ _ _ _ _ _ r ⟨d.val - 2048, by omega⟩ (by show 2048 + (d.val - 2048) < 4096; omega)).trans ?_
        refine (Chain.triangle _ _ _ _ _ r ⟨d.val - 2048, by omega⟩).trans ?_
        by_cases hj : d.val - 2048 ≤ r.val
        · refine (if_pos hj).trans ?_
          refine (Planes.load _ _ 1 0 2048 256 _ _ _ _ _ _ _ _ r ⟨d.val - 2048, by omega⟩ (by show 2048 + (d.val - 2048) < 4096; omega)).trans ?_
          rw [show (⟨2048 + (d.val - 2048), by omega⟩ : Fin 4096) = ⟨0 + d.val, by omega⟩ from Fin.ext (by show 2048 + (d.val - 2048) = 0 + d.val; omega)]
          refine (Planes.store_miss _ 1 0 0 0 (by decide) 2048 256 _ _ _ _ _ _ _ _ _ _).trans ?_
          refine (Planes.store_miss _ 1 0 1 1 (by decide) 0 2560 _ _ _ _ _ _ _ _ _ _).trans ?_
          refine (Planes.store_miss _ 1 0 0 1 (by decide) 0 2560 _ _ _ _ _ _ _ _ _ _).trans ?_
          refine (Planes.store_hit _ 1 0 0 2304 _ _ _ _ _ _ _ _ _ r d (by omega)).trans ?_
          exact (Chain.scoresAt _ _ _ _ r d (fun l => x1 (ix4 0 0 ⟨0 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (0 + r.val); omega)).symm
        · exact ((if_neg hj).trans (show _ = (⊥ : EReal) from rfl)).trans ((if_neg (by show ¬ d.val ≤ 2048 + (0 + r.val); omega)).symm)

/-- Query rows 256 … 511 of head 0: the mix of the first 2560 keys' values. -/
theorem acc_1_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg5 : Memref sig .tc .vmem S1x1x4096x128 .bf16)
    (harg5 : arg5.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x3 : Vec Ideal S1x1x4096x128 .bf16) (r : Fin 256) (lane : Fin 128) :
    kernelRun0_A.sl.v177 (F := Ideal) c arg2 harg2 arg3 harg3 arg4 harg4 arg5 harg5 arg9 arg10 x0 x1 x2 x3 (ix2 r lane)
      = Chain.acc 2560 (by decide) x0 x2 x3 ⟨256 + r.val, by omega⟩ lane := by
  refine Chain.accAt (W := 2560) (by decide) _ _ _ r lane x0 x2 x3 ⟨256 + r.val, by omega⟩ (fun d => ?_)
    (fun d => Chain.rowsAt harg5 x3 _ _ d lane (d.castLE (by decide)) (Nat.zero_add d.val).symm)
  · refine (Planes.load _ _ 0 1 0 2560 _ _ _ _ _ _ _ _ r d (by omega)).trans ?_
    rw [zero_add_mk]
    refine (Planes.box_miss _ 0 1 1 1 (by decide) 2560 _ _ _ _).trans ?_
    refine (Planes.box_hit _ 0 1 2560 _ _ r d (by omega)).trans ?_
    refine (Chain.expo _ _ _ _ _ _ r d).trans (congrArg Ideal.exp2 (congrArg₂ (· - ·) ?_ ?_))
    · refine (Planes.load _ _ 0 1 0 2560 _ _ _ _ _ _ _ _ r d (by omega)).trans ?_
      refine (Planes.store_miss _ 0 1 1 1 (by decide) 2304 256 _ _ _ _ _ _ _ _ _ _).trans ?_
      by_cases hd : d.val < 2304
      · refine (Planes.store_before _ 0 1 0 1 2304 256 _ _ _ _ _ _ _ _ r _ (by show 0 + d.val < 2304; omega)).trans ?_
        refine (Planes.store_miss _ 0 1 1 0 (by decide) 2048 256 _ _ _ _ _ _ _ _ _ _).trans ?_
        refine (Planes.store_miss _ 0 1 0 0 (by decide) 2048 256 _ _ _ _ _ _ _ _ _ _).trans ?_
        refine (Planes.store_miss _ 0 1 1 1 (by decide) 0 2560 _ _ _ _ _ _ _ _ _ _).trans ?_
        refine (Planes.store_hit _ 0 1 0 2560 _ _ _ _ _ _ _ _ _ r d (by omega)).trans ?_
        exact (Chain.scoresAt _ _ _ _ r d (fun l => x0 (ix4 0 0 ⟨256 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (256 + r.val); omega)).symm
      · rw [show (⟨0 + d.val, by omega⟩ : Fin 4096) = ⟨2304 + (d.val - 2304), by omega⟩ from Fin.ext (by show 0 + d.val = 2304 + (d.val - 2304); omega)]
        refine (Planes.store_hit _ 0 1 2304 256 _ _ _ _ _ _ _ _ _ r ⟨d.val - 2304, by omega⟩ (by show 2304 + (d.val - 2304) < 4096; omega)).trans ?_
        refine (Chain.triangle _ _ _ _ _ r ⟨d.val - 2304, by omega⟩).trans ?_
        by_cases hj : d.val - 2304 ≤ r.val
        · refine (if_pos hj).trans ?_
          refine (Planes.load _ _ 0 1 2304 256 _ _ _ _ _ _ _ _ r ⟨d.val - 2304, by omega⟩ (by show 2304 + (d.val - 2304) < 4096; omega)).trans ?_
          rw [show (⟨2304 + (d.val - 2304), by omega⟩ : Fin 4096) = ⟨0 + d.val, by omega⟩ from Fin.ext (by show 2304 + (d.val - 2304) = 0 + d.val; omega)]
          refine (Planes.store_miss _ 0 1 1 0 (by decide) 2048 256 _ _ _ _ _ _ _ _ _ _).trans ?_
          refine (Planes.store_miss _ 0 1 0 0 (by decide) 2048 256 _ _ _ _ _ _ _ _ _ _).trans ?_
          refine (Planes.store_miss _ 0 1 1 1 (by decide) 0 2560 _ _ _ _ _ _ _ _ _ _).trans ?_
          refine (Planes.store_hit _ 0 1 0 2560 _ _ _ _ _ _ _ _ _ r d (by omega)).trans ?_
          exact (Chain.scoresAt _ _ _ _ r d (fun l => x0 (ix4 0 0 ⟨256 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (256 + r.val); omega)).symm
        · exact ((if_neg hj).trans (show _ = (⊥ : EReal) from rfl)).trans ((if_neg (by show ¬ d.val ≤ 2048 + (256 + r.val); omega)).symm)
    · unfold kernelRun0_A.sl.r_3 k0_pay15
      dsimp only
      refine Chain.rowMax (W := 2560) reduces_S256x2560_S256 (.inl rfl) rfl shapeCasts_S256_S256x1 _ _ rfl (fun c' => Chain.score x0 x2 ⟨256 + r.val, by omega⟩ (c'.castLE (by decide))) r (fun d => ?_)
      refine (Planes.load _ _ 0 1 0 2560 _ _ _ _ _ _ _ _ r d (by omega)).trans ?_
      by_cases hd : d.val < 2304
      · refine (Planes.store_before _ 0 1 0 1 2304 256 _ _ _ _ _ _ _ _ r _ (by show 0 + d.val < 2304; omega)).trans ?_
        refine (Planes.store_miss _ 0 1 1 0 (by decide) 2048 256 _ _ _ _ _ _ _ _ _ _).trans ?_
        refine (Planes.store_miss _ 0 1 0 0 (by decide) 2048 256 _ _ _ _ _ _ _ _ _ _).trans ?_
        refine (Planes.store_miss _ 0 1 1 1 (by decide) 0 2560 _ _ _ _ _ _ _ _ _ _).trans ?_
        refine (Planes.store_hit _ 0 1 0 2560 _ _ _ _ _ _ _ _ _ r d (by omega)).trans ?_
        exact (Chain.scoresAt _ _ _ _ r d (fun l => x0 (ix4 0 0 ⟨256 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (256 + r.val); omega)).symm
      · rw [show (⟨0 + d.val, by omega⟩ : Fin 4096) = ⟨2304 + (d.val - 2304), by omega⟩ from Fin.ext (by show 0 + d.val = 2304 + (d.val - 2304); omega)]
        refine (Planes.store_hit _ 0 1 2304 256 _ _ _ _ _ _ _ _ _ r ⟨d.val - 2304, by omega⟩ (by show 2304 + (d.val - 2304) < 4096; omega)).trans ?_
        refine (Chain.triangle _ _ _ _ _ r ⟨d.val - 2304, by omega⟩).trans ?_
        by_cases hj : d.val - 2304 ≤ r.val
        · refine (if_pos hj).trans ?_
          refine (Planes.load _ _ 0 1 2304 256 _ _ _ _ _ _ _ _ r ⟨d.val - 2304, by omega⟩ (by show 2304 + (d.val - 2304) < 4096; omega)).trans ?_
          rw [show (⟨2304 + (d.val - 2304), by omega⟩ : Fin 4096) = ⟨0 + d.val, by omega⟩ from Fin.ext (by show 2304 + (d.val - 2304) = 0 + d.val; omega)]
          refine (Planes.store_miss _ 0 1 1 0 (by decide) 2048 256 _ _ _ _ _ _ _ _ _ _).trans ?_
          refine (Planes.store_miss _ 0 1 0 0 (by decide) 2048 256 _ _ _ _ _ _ _ _ _ _).trans ?_
          refine (Planes.store_miss _ 0 1 1 1 (by decide) 0 2560 _ _ _ _ _ _ _ _ _ _).trans ?_
          refine (Planes.store_hit _ 0 1 0 2560 _ _ _ _ _ _ _ _ _ r d (by omega)).trans ?_
          exact (Chain.scoresAt _ _ _ _ r d (fun l => x0 (ix4 0 0 ⟨256 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (256 + r.val); omega)).symm
        · exact ((if_neg hj).trans (show _ = (⊥ : EReal) from rfl)).trans ((if_neg (by show ¬ d.val ≤ 2048 + (256 + r.val); omega)).symm)

/-- Query rows 256 … 511 of head 1: the mix of the first 2560 keys' values. -/
theorem acc_1_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg6 : Memref sig .tc .vmem S1x1x4096x128 .bf16)
    (harg6 : arg6.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x4 : Vec Ideal S1x1x4096x128 .bf16) (r : Fin 256) (lane : Fin 128) :
    kernelRun0_A.sl.v183 (F := Ideal) c arg2 harg2 arg3 harg3 arg4 harg4 arg6 harg6 arg9 arg10 x0 x1 x2 x4 (ix2 r lane)
      = Chain.acc 2560 (by decide) x1 x2 x4 ⟨256 + r.val, by omega⟩ lane := by
  refine Chain.accAt (W := 2560) (by decide) _ _ _ r lane x1 x2 x4 ⟨256 + r.val, by omega⟩ (fun d => ?_)
    (fun d => Chain.rowsAt harg6 x4 _ _ d lane (d.castLE (by decide)) (Nat.zero_add d.val).symm)
  · refine (Planes.load _ _ 1 1 0 2560 _ _ _ _ _ _ _ _ r d (by omega)).trans ?_
    rw [zero_add_mk]
    refine (Planes.box_hit _ 1 1 2560 _ _ r d (by omega)).trans ?_
    refine (Chain.expo _ _ _ _ _ _ r d).trans (congrArg Ideal.exp2 (congrArg₂ (· - ·) ?_ ?_))
    · refine (Planes.load _ _ 1 1 0 2560 _ _ _ _ _ _ _ _ r d (by omega)).trans ?_
      by_cases hd : d.val < 2304
      · refine (Planes.store_before _ 1 1 1 1 2304 256 _ _ _ _ _ _ _ _ r _ (by show 0 + d.val < 2304; omega)).trans ?_
        refine (Planes.store_miss _ 1 1 0 1 (by decide) 2304 256 _ _ _ _ _ _ _ _ _ _).trans ?_
        refine (Planes.store_miss _ 1 1 1 0 (by decide) 2048 256 _ _ _ _ _ _ _ _ _ _).trans ?_
        refine (Planes.store_miss _ 1 1 0 0 (by decide) 2048 256 _ _ _ _ _ _ _ _ _ _).trans ?_
        refine (Planes.store_hit _ 1 1 0 2560 _ _ _ _ _ _ _ _ _ r d (by omega)).trans ?_
        exact (Chain.scoresAt _ _ _ _ r d (fun l => x1 (ix4 0 0 ⟨256 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (256 + r.val); omega)).symm
      · rw [show (⟨0 + d.val, by omega⟩ : Fin 4096) = ⟨2304 + (d.val - 2304), by omega⟩ from Fin.ext (by show 0 + d.val = 2304 + (d.val - 2304); omega)]
        refine (Planes.store_hit _ 1 1 2304 256 _ _ _ _ _ _ _ _ _ r ⟨d.val - 2304, by omega⟩ (by show 2304 + (d.val - 2304) < 4096; omega)).trans ?_
        refine (Chain.triangle _ _ _ _ _ r ⟨d.val - 2304, by omega⟩).trans ?_
        by_cases hj : d.val - 2304 ≤ r.val
        · refine (if_pos hj).trans ?_
          refine (Planes.load _ _ 1 1 2304 256 _ _ _ _ _ _ _ _ r ⟨d.val - 2304, by omega⟩ (by show 2304 + (d.val - 2304) < 4096; omega)).trans ?_
          rw [show (⟨2304 + (d.val - 2304), by omega⟩ : Fin 4096) = ⟨0 + d.val, by omega⟩ from Fin.ext (by show 2304 + (d.val - 2304) = 0 + d.val; omega)]
          refine (Planes.store_miss _ 1 1 0 1 (by decide) 2304 256 _ _ _ _ _ _ _ _ _ _).trans ?_
          refine (Planes.store_miss _ 1 1 1 0 (by decide) 2048 256 _ _ _ _ _ _ _ _ _ _).trans ?_
          refine (Planes.store_miss _ 1 1 0 0 (by decide) 2048 256 _ _ _ _ _ _ _ _ _ _).trans ?_
          refine (Planes.store_hit _ 1 1 0 2560 _ _ _ _ _ _ _ _ _ r d (by omega)).trans ?_
          exact (Chain.scoresAt _ _ _ _ r d (fun l => x1 (ix4 0 0 ⟨256 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (256 + r.val); omega)).symm
        · exact ((if_neg hj).trans (show _ = (⊥ : EReal) from rfl)).trans ((if_neg (by show ¬ d.val ≤ 2048 + (256 + r.val); omega)).symm)
    · unfold kernelRun0_A.sl.v111 kernelRun0_A.sl.v110
      dsimp only
      refine Chain.rowMax (W := 2560) reduces_S256x2560_S256 (.inl rfl) rfl shapeCasts_S256_S256x1 _ _ rfl (fun c' => Chain.score x1 x2 ⟨256 + r.val, by omega⟩ (c'.castLE (by decide))) r (fun d => ?_)
      refine (Planes.load _ _ 1 1 0 2560 _ _ _ _ _ _ _ _ r d (by omega)).trans ?_
      by_cases hd : d.val < 2304
      · refine (Planes.store_before _ 1 1 1 1 2304 256 _ _ _ _ _ _ _ _ r _ (by show 0 + d.val < 2304; omega)).trans ?_
        refine (Planes.store_miss _ 1 1 0 1 (by decide) 2304 256 _ _ _ _ _ _ _ _ _ _).trans ?_
        refine (Planes.store_miss _ 1 1 1 0 (by decide) 2048 256 _ _ _ _ _ _ _ _ _ _).trans ?_
        refine (Planes.store_miss _ 1 1 0 0 (by decide) 2048 256 _ _ _ _ _ _ _ _ _ _).trans ?_
        refine (Planes.store_hit _ 1 1 0 2560 _ _ _ _ _ _ _ _ _ r d (by omega)).trans ?_
        exact (Chain.scoresAt _ _ _ _ r d (fun l => x1 (ix4 0 0 ⟨256 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (256 + r.val); omega)).symm
      · rw [show (⟨0 + d.val, by omega⟩ : Fin 4096) = ⟨2304 + (d.val - 2304), by omega⟩ from Fin.ext (by show 0 + d.val = 2304 + (d.val - 2304); omega)]
        refine (Planes.store_hit _ 1 1 2304 256 _ _ _ _ _ _ _ _ _ r ⟨d.val - 2304, by omega⟩ (by show 2304 + (d.val - 2304) < 4096; omega)).trans ?_
        refine (Chain.triangle _ _ _ _ _ r ⟨d.val - 2304, by omega⟩).trans ?_
        by_cases hj : d.val - 2304 ≤ r.val
        · refine (if_pos hj).trans ?_
          refine (Planes.load _ _ 1 1 2304 256 _ _ _ _ _ _ _ _ r ⟨d.val - 2304, by omega⟩ (by show 2304 + (d.val - 2304) < 4096; omega)).trans ?_
          rw [show (⟨2304 + (d.val - 2304), by omega⟩ : Fin 4096) = ⟨0 + d.val, by omega⟩ from Fin.ext (by show 2304 + (d.val - 2304) = 0 + d.val; omega)]
          refine (Planes.store_miss _ 1 1 0 1 (by decide) 2304 256 _ _ _ _ _ _ _ _ _ _).trans ?_
          refine (Planes.store_miss _ 1 1 1 0 (by decide) 2048 256 _ _ _ _ _ _ _ _ _ _).trans ?_
          refine (Planes.store_miss _ 1 1 0 0 (by decide) 2048 256 _ _ _ _ _ _ _ _ _ _).trans ?_
          refine (Planes.store_hit _ 1 1 0 2560 _ _ _ _ _ _ _ _ _ r d (by omega)).trans ?_
          exact (Chain.scoresAt _ _ _ _ r d (fun l => x1 (ix4 0 0 ⟨256 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (256 + r.val); omega)).symm
        · exact ((if_neg hj).trans (show _ = (⊥ : EReal) from rfl)).trans ((if_neg (by show ¬ d.val ≤ 2048 + (256 + r.val); omega)).symm)

/-- Query rows 512 … 767 of head 0: the mix of the first 2816 keys' values. -/
theorem acc_2_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg5 : Memref sig .tc .vmem S1x1x4096x128 .bf16)
    (harg5 : arg5.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x3 : Vec Ideal S1x1x4096x128 .bf16) (r : Fin 256) (lane : Fin 128) :
    kernelRun0_A.sl.v349 (F := Ideal) c arg2 harg2 arg3 harg3 arg4 harg4 arg5 harg5 arg9 arg10 x0 x1 x2 x3 (ix2 r lane)
      = Chain.acc 2816 (by decide) x0 x2 x3 ⟨512 + r.val, by omega⟩ lane := by
  refine Chain.accAt (W := 2816) (by decide) _ _ _ r lane x0 x2 x3 ⟨512 + r.val, by omega⟩ (fun d => ?_)
    (fun d => Chain.rowsAt harg5 x3 _ _ d lane (d.castLE (by decide)) (Nat.zero_add d.val).symm)
  · refine (Planes.load _ _ 0 0 0 2816 _ _ _ _ _ _ _ _ r d (by omega)).trans ?_
    rw [zero_add_mk]
    refine (Planes.box_miss _ 0 0 1 1 (by decide) 3072 _ _ _ _).trans ?_
    refine (Planes.box_miss _ 0 0 0 1 (by decide) 3072 _ _ _ _).trans ?_
    refine (Planes.box_miss _ 0 0 1 0 (by decide) 2816 _ _ _ _).trans ?_
    refine (Planes.box_hit _ 0 0 2816 _ _ r d (by omega)).trans ?_
    refine (Chain.expo _ _ _ _ _ _ r d).trans (congrArg Ideal.exp2 (congrArg₂ (· - ·) ?_ ?_))
    · refine (Planes.load _ _ 0 0 0 2816 _ _ _ _ _ _ _ _ r d (by omega)).trans ?_
      refine (Planes.store_miss _ 0 0 1 1 (by decide) 2816 256 _ _ _ _ _ _ _ _ _ _).trans ?_
      refine (Planes.store_miss _ 0 0 0 1 (by decide) 2816 256 _ _ _ _ _ _ _ _ _ _).trans ?_
      refine (Planes.store_miss _ 0 0 1 0 (by decide) 2560 256 _ _ _ _ _ _ _ _ _ _).trans ?_
      by_cases hd : d.val < 2560
      · refine (Planes.store_before _ 0 0 0 0 2560 256 _ _ _ _ _ _ _ _ r _ (by show 0 + d.val < 2560; omega)).trans ?_
        refine (Planes.store_miss _ 0 0 1 1 (by decide) 0 3072 _ _ _ _ _ _ _ _ _ _).trans ?_
        refine (Planes.store_miss _ 0 0 0 1 (by decide) 0 3072 _ _ _ _ _ _ _ _ _ _).trans ?_
        refine (Planes.store_miss _ 0 0 1 0 (by decide) 0 2816 _ _ _ _ _ _ _ _ _ _).trans ?_
        refine (Planes.store_hit _ 0 0 0 2816 _ _ _ _ _ _ _ _ _ r d (by omega)).trans ?_
        exact (Chain.scoresAt _ _ _ _ r d (fun l => x0 (ix4 0 0 ⟨512 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (512 + r.val); omega)).symm
      · rw [show (⟨0 + d.val, by omega⟩ : Fin 4096) = ⟨2560 + (d.val - 2560), by omega⟩ from Fin.ext (by show 0 + d.val = 2560 + (d.val - 2560); omega)]
        refine (Planes.store_hit _ 0 0 2560 256 _ _ _ _ _ _ _ _ _ r ⟨d.val - 2560, by omega⟩ (by show 2560 + (d.val - 2560) < 4096; omega)).trans ?_
        refine (Chain.triangle _ _ _ _ _ r ⟨d.val - 2560, by omega⟩).trans ?_
        by_cases hj : d.val - 2560 ≤ r.val
        · refine (if_pos hj).trans ?_
          refine (Planes.load _ _ 0 0 2560 256 _ _ _ _ _ _ _ _ r ⟨d.val - 2560, by omega⟩ (by show 2560 + (d.val - 2560) < 4096; omega)).trans ?_
          rw [show (⟨2560 + (d.val - 2560), by omega⟩ : Fin 4096) = ⟨0 + d.val, by omega⟩ from Fin.ext (by show 2560 + (d.val - 2560) = 0 + d.val; omega)]
          refine (Planes.store_miss _ 0 0 1 1 (by decide) 0 3072 _ _ _ _ _ _ _ _ _ _).trans ?_
          refine (Planes.store_miss _ 0 0 0 1 (by decide) 0 3072 _ _ _ _ _ _ _ _ _ _).trans ?_
          refine (Planes.store_miss _ 0 0 1 0 (by decide) 0 2816 _ _ _ _ _ _ _ _ _ _).trans ?_
          refine (Planes.store_hit _ 0 0 0 2816 _ _ _ _ _ _ _ _ _ r d (by omega)).trans ?_
          exact (Chain.scoresAt _ _ _ _ r d (fun l => x0 (ix4 0 0 ⟨512 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (512 + r.val); omega)).symm
        · exact ((if_neg hj).trans (show _ = (⊥ : EReal) from rfl)).trans ((if_neg (by show ¬ d.val ≤ 2048 + (512 + r.val); omega)).symm)
    · unfold kernelRun0_A.sl.r_5 k0_pay35
      dsimp only
      refine Chain.rowMax (W := 2816) reduces_S256x2816_S256 (.inl rfl) rfl shapeCasts_S256_S256x1 _ _ rfl (fun c' => Chain.score x0 x2 ⟨512 + r.val, by omega⟩ (c'.castLE (by decide))) r (fun d => ?_)
      refine (Planes.load _ _ 0 0 0 2816 _ _ _ _ _ _ _ _ r d (by omega)).trans ?_
      by_cases hd : d.val < 2560
      · refine (Planes.store_before _ 0 0 0 0 2560 256 _ _ _ _ _ _ _ _ r _ (by show 0 + d.val < 2560; omega)).trans ?_
        refine (Planes.store_miss _ 0 0 1 1 (by decide) 0 3072 _ _ _ _ _ _ _ _ _ _).trans ?_
        refine (Planes.store_miss _ 0 0 0 1 (by decide) 0 3072 _ _ _ _ _ _ _ _ _ _).trans ?_
        refine (Planes.store_miss _ 0 0 1 0 (by decide) 0 2816 _ _ _ _ _ _ _ _ _ _).trans ?_
        refine (Planes.store_hit _ 0 0 0 2816 _ _ _ _ _ _ _ _ _ r d (by omega)).trans ?_
        exact (Chain.scoresAt _ _ _ _ r d (fun l => x0 (ix4 0 0 ⟨512 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (512 + r.val); omega)).symm
      · rw [show (⟨0 + d.val, by omega⟩ : Fin 4096) = ⟨2560 + (d.val - 2560), by omega⟩ from Fin.ext (by show 0 + d.val = 2560 + (d.val - 2560); omega)]
        refine (Planes.store_hit _ 0 0 2560 256 _ _ _ _ _ _ _ _ _ r ⟨d.val - 2560, by omega⟩ (by show 2560 + (d.val - 2560) < 4096; omega)).trans ?_
        refine (Chain.triangle _ _ _ _ _ r ⟨d.val - 2560, by omega⟩).trans ?_
        by_cases hj : d.val - 2560 ≤ r.val
        · refine (if_pos hj).trans ?_
          refine (Planes.load _ _ 0 0 2560 256 _ _ _ _ _ _ _ _ r ⟨d.val - 2560, by omega⟩ (by show 2560 + (d.val - 2560) < 4096; omega)).trans ?_
          rw [show (⟨2560 + (d.val - 2560), by omega⟩ : Fin 4096) = ⟨0 + d.val, by omega⟩ from Fin.ext (by show 2560 + (d.val - 2560) = 0 + d.val; omega)]
          refine (Planes.store_miss _ 0 0 1 1 (by decide) 0 3072 _ _ _ _ _ _ _ _ _ _).trans ?_
          refine (Planes.store_miss _ 0 0 0 1 (by decide) 0 3072 _ _ _ _ _ _ _ _ _ _).trans ?_
          refine (Planes.store_miss _ 0 0 1 0 (by decide) 0 2816 _ _ _ _ _ _ _ _ _ _).trans ?_
          refine (Planes.store_hit _ 0 0 0 2816 _ _ _ _ _ _ _ _ _ r d (by omega)).trans ?_
          exact (Chain.scoresAt _ _ _ _ r d (fun l => x0 (ix4 0 0 ⟨512 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (512 + r.val); omega)).symm
        · exact ((if_neg hj).trans (show _ = (⊥ : EReal) from rfl)).trans ((if_neg (by show ¬ d.val ≤ 2048 + (512 + r.val); omega)).symm)

/-- Query rows 512 … 767 of head 1: the mix of the first 2816 keys' values. -/
theorem acc_2_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg6 : Memref sig .tc .vmem S1x1x4096x128 .bf16)
    (harg6 : arg6.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x4 : Vec Ideal S1x1x4096x128 .bf16) (r : Fin 256) (lane : Fin 128) :
    kernelRun0_A.sl.v355 (F := Ideal) c arg2 harg2 arg3 harg3 arg4 harg4 arg6 harg6 arg9 arg10 x0 x1 x2 x4 (ix2 r lane)
      = Chain.acc 2816 (by decide) x1 x2 x4 ⟨512 + r.val, by omega⟩ lane := by
  refine Chain.accAt (W := 2816) (by decide) _ _ _ r lane x1 x2 x4 ⟨512 + r.val, by omega⟩ (fun d => ?_)
    (fun d => Chain.rowsAt harg6 x4 _ _ d lane (d.castLE (by decide)) (Nat.zero_add d.val).symm)
  · refine (Planes.load _ _ 1 0 0 2816 _ _ _ _ _ _ _ _ r d (by omega)).trans ?_
    rw [zero_add_mk]
    refine (Planes.box_miss _ 1 0 1 1 (by decide) 3072 _ _ _ _).trans ?_
    refine (Planes.box_miss _ 1 0 0 1 (by decide) 3072 _ _ _ _).trans ?_
    refine (Planes.box_hit _ 1 0 2816 _ _ r d (by omega)).trans ?_
    refine (Chain.expo _ _ _ _ _ _ r d).trans (congrArg Ideal.exp2 (congrArg₂ (· - ·) ?_ ?_))
    · refine (Planes.load _ _ 1 0 0 2816 _ _ _ _ _ _ _ _ r d (by omega)).trans ?_
      refine (Planes.store_miss _ 1 0 1 1 (by decide) 2816 256 _ _ _ _ _ _ _ _ _ _).trans ?_
      refine (Planes.store_miss _ 1 0 0 1 (by decide) 2816 256 _ _ _ _ _ _ _ _ _ _).trans ?_
      by_cases hd : d.val < 2560
      · refine (Planes.store_before _ 1 0 1 0 2560 256 _ _ _ _ _ _ _ _ r _ (by show 0 + d.val < 2560; omega)).trans ?_
        refine (Planes.store_miss _ 1 0 0 0 (by decide) 2560 256 _ _ _ _ _ _ _ _ _ _).trans ?_
        refine (Planes.store_miss _ 1 0 1 1 (by decide) 0 3072 _ _ _ _ _ _ _ _ _ _).trans ?_
        refine (Planes.store_miss _ 1 0 0 1 (by decide) 0 3072 _ _ _ _ _ _ _ _ _ _).trans ?_
        refine (Planes.store_hit _ 1 0 0 2816 _ _ _ _ _ _ _ _ _ r d (by omega)).trans ?_
        exact (Chain.scoresAt _ _ _ _ r d (fun l => x1 (ix4 0 0 ⟨512 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (512 + r.val); omega)).symm
      · rw [show (⟨0 + d.val, by omega⟩ : Fin 4096) = ⟨2560 + (d.val - 2560), by omega⟩ from Fin.ext (by show 0 + d.val = 2560 + (d.val - 2560); omega)]
        refine (Planes.store_hit _ 1 0 2560 256 _ _ _ _ _ _ _ _ _ r ⟨d.val - 2560, by omega⟩ (by show 2560 + (d.val - 2560) < 4096; omega)).trans ?_
        refine (Chain.triangle _ _ _ _ _ r ⟨d.val - 2560, by omega⟩).trans ?_
        by_cases hj : d.val - 2560 ≤ r.val
        · refine (if_pos hj).trans ?_
          refine (Planes.load _ _ 1 0 2560 256 _ _ _ _ _ _ _ _ r ⟨d.val - 2560, by omega⟩ (by show 2560 + (d.val - 2560) < 4096; omega)).trans ?_
          rw [show (⟨2560 + (d.val - 2560), by omega⟩ : Fin 4096) = ⟨0 + d.val, by omega⟩ from Fin.ext (by show 2560 + (d.val - 2560) = 0 + d.val; omega)]
          refine (Planes.store_miss _ 1 0 0 0 (by decide) 2560 256 _ _ _ _ _ _ _ _ _ _).trans ?_
          refine (Planes.store_miss _ 1 0 1 1 (by decide) 0 3072 _ _ _ _ _ _ _ _ _ _).trans ?_
          refine (Planes.store_miss _ 1 0 0 1 (by decide) 0 3072 _ _ _ _ _ _ _ _ _ _).trans ?_
          refine (Planes.store_hit _ 1 0 0 2816 _ _ _ _ _ _ _ _ _ r d (by omega)).trans ?_
          exact (Chain.scoresAt _ _ _ _ r d (fun l => x1 (ix4 0 0 ⟨512 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (512 + r.val); omega)).symm
        · exact ((if_neg hj).trans (show _ = (⊥ : EReal) from rfl)).trans ((if_neg (by show ¬ d.val ≤ 2048 + (512 + r.val); omega)).symm)
    · unfold kernelRun0_A.sl.r_7 k0_pay38
      dsimp only
      refine Chain.rowMax (W := 2816) reduces_S256x2816_S256 (.inl rfl) rfl shapeCasts_S256_S256x1 _ _ rfl (fun c' => Chain.score x1 x2 ⟨512 + r.val, by omega⟩ (c'.castLE (by decide))) r (fun d => ?_)
      refine (Planes.load _ _ 1 0 0 2816 _ _ _ _ _ _ _ _ r d (by omega)).trans ?_
      by_cases hd : d.val < 2560
      · refine (Planes.store_before _ 1 0 1 0 2560 256 _ _ _ _ _ _ _ _ r _ (by show 0 + d.val < 2560; omega)).trans ?_
        refine (Planes.store_miss _ 1 0 0 0 (by decide) 2560 256 _ _ _ _ _ _ _ _ _ _).trans ?_
        refine (Planes.store_miss _ 1 0 1 1 (by decide) 0 3072 _ _ _ _ _ _ _ _ _ _).trans ?_
        refine (Planes.store_miss _ 1 0 0 1 (by decide) 0 3072 _ _ _ _ _ _ _ _ _ _).trans ?_
        refine (Planes.store_hit _ 1 0 0 2816 _ _ _ _ _ _ _ _ _ r d (by omega)).trans ?_
        exact (Chain.scoresAt _ _ _ _ r d (fun l => x1 (ix4 0 0 ⟨512 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (512 + r.val); omega)).symm
      · rw [show (⟨0 + d.val, by omega⟩ : Fin 4096) = ⟨2560 + (d.val - 2560), by omega⟩ from Fin.ext (by show 0 + d.val = 2560 + (d.val - 2560); omega)]
        refine (Planes.store_hit _ 1 0 2560 256 _ _ _ _ _ _ _ _ _ r ⟨d.val - 2560, by omega⟩ (by show 2560 + (d.val - 2560) < 4096; omega)).trans ?_
        refine (Chain.triangle _ _ _ _ _ r ⟨d.val - 2560, by omega⟩).trans ?_
        by_cases hj : d.val - 2560 ≤ r.val
        · refine (if_pos hj).trans ?_
          refine (Planes.load _ _ 1 0 2560 256 _ _ _ _ _ _ _ _ r ⟨d.val - 2560, by omega⟩ (by show 2560 + (d.val - 2560) < 4096; omega)).trans ?_
          rw [show (⟨2560 + (d.val - 2560), by omega⟩ : Fin 4096) = ⟨0 + d.val, by omega⟩ from Fin.ext (by show 2560 + (d.val - 2560) = 0 + d.val; omega)]
          refine (Planes.store_miss _ 1 0 0 0 (by decide) 2560 256 _ _ _ _ _ _ _ _ _ _).trans ?_
          refine (Planes.store_miss _ 1 0 1 1 (by decide) 0 3072 _ _ _ _ _ _ _ _ _ _).trans ?_
          refine (Planes.store_miss _ 1 0 0 1 (by decide) 0 3072 _ _ _ _ _ _ _ _ _ _).trans ?_
          refine (Planes.store_hit _ 1 0 0 2816 _ _ _ _ _ _ _ _ _ r d (by omega)).trans ?_
          exact (Chain.scoresAt _ _ _ _ r d (fun l => x1 (ix4 0 0 ⟨512 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (512 + r.val); omega)).symm
        · exact ((if_neg hj).trans (show _ = (⊥ : EReal) from rfl)).trans ((if_neg (by show ¬ d.val ≤ 2048 + (512 + r.val); omega)).symm)

/-- Query rows 768 … 1023 of head 0: the mix of the first 3072 keys' values. -/
theorem acc_3_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg5 : Memref sig .tc .vmem S1x1x4096x128 .bf16)
    (harg5 : arg5.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x3 : Vec Ideal S1x1x4096x128 .bf16) (r : Fin 256) (lane : Fin 128) :
    kernelRun0_A.sl.v361 (F := Ideal) c arg2 harg2 arg3 harg3 arg4 harg4 arg5 harg5 arg9 arg10 x0 x1 x2 x3 (ix2 r lane)
      = Chain.acc 3072 (by decide) x0 x2 x3 ⟨768 + r.val, by omega⟩ lane := by
  refine Chain.accAt (W := 3072) (by decide) _ _ _ r lane x0 x2 x3 ⟨768 + r.val, by omega⟩ (fun d => ?_)
    (fun d => Chain.rowsAt harg5 x3 _ _ d lane (d.castLE (by decide)) (Nat.zero_add d.val).symm)
  · refine (Planes.load _ _ 0 1 0 3072 _ _ _ _ _ _ _ _ r d (by omega)).trans ?_
    rw [zero_add_mk]
    refine (Planes.box_miss _ 0 1 1 1 (by decide) 3072 _ _ _ _).trans ?_
    refine (Planes.box_hit _ 0 1 3072 _ _ r d (by omega)).trans ?_
    refine (Chain.expo _ _ _ _ _ _ r d).trans (congrArg Ideal.exp2 (congrArg₂ (· - ·) ?_ ?_))
    · refine (Planes.load _ _ 0 1 0 3072 _ _ _ _ _ _ _ _ r d (by omega)).trans ?_
      refine (Planes.store_miss _ 0 1 1 1 (by decide) 2816 256 _ _ _ _ _ _ _ _ _ _).trans ?_
      by_cases hd : d.val < 2816
      · refine (Planes.store_before _ 0 1 0 1 2816 256 _ _ _ _ _ _ _ _ r _ (by show 0 + d.val < 2816; omega)).trans ?_
        refine (Planes.store_miss _ 0 1 1 0 (by decide) 2560 256 _ _ _ _ _ _ _ _ _ _).trans ?_
        refine (Planes.store_miss _ 0 1 0 0 (by decide) 2560 256 _ _ _ _ _ _ _ _ _ _).trans ?_
        refine (Planes.store_miss _ 0 1 1 1 (by decide) 0 3072 _ _ _ _ _ _ _ _ _ _).trans ?_
        refine (Planes.store_hit _ 0 1 0 3072 _ _ _ _ _ _ _ _ _ r d (by omega)).trans ?_
        exact (Chain.scoresAt _ _ _ _ r d (fun l => x0 (ix4 0 0 ⟨768 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (768 + r.val); omega)).symm
      · rw [show (⟨0 + d.val, by omega⟩ : Fin 4096) = ⟨2816 + (d.val - 2816), by omega⟩ from Fin.ext (by show 0 + d.val = 2816 + (d.val - 2816); omega)]
        refine (Planes.store_hit _ 0 1 2816 256 _ _ _ _ _ _ _ _ _ r ⟨d.val - 2816, by omega⟩ (by show 2816 + (d.val - 2816) < 4096; omega)).trans ?_
        refine (Chain.triangle _ _ _ _ _ r ⟨d.val - 2816, by omega⟩).trans ?_
        by_cases hj : d.val - 2816 ≤ r.val
        · refine (if_pos hj).trans ?_
          refine (Planes.load _ _ 0 1 2816 256 _ _ _ _ _ _ _ _ r ⟨d.val - 2816, by omega⟩ (by show 2816 + (d.val - 2816) < 4096; omega)).trans ?_
          rw [show (⟨2816 + (d.val - 2816), by omega⟩ : Fin 4096) = ⟨0 + d.val, by omega⟩ from Fin.ext (by show 2816 + (d.val - 2816) = 0 + d.val; omega)]
          refine (Planes.store_miss _ 0 1 1 0 (by decide) 2560 256 _ _ _ _ _ _ _ _ _ _).trans ?_
          refine (Planes.store_miss _ 0 1 0 0 (by decide) 2560 256 _ _ _ _ _ _ _ _ _ _).trans ?_
          refine (Planes.store_miss _ 0 1 1 1 (by decide) 0 3072 _ _ _ _ _ _ _ _ _ _).trans ?_
          refine (Planes.store_hit _ 0 1 0 3072 _ _ _ _ _ _ _ _ _ r d (by omega)).trans ?_
          exact (Chain.scoresAt _ _ _ _ r d (fun l => x0 (ix4 0 0 ⟨768 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (768 + r.val); omega)).symm
        · exact ((if_neg hj).trans (show _ = (⊥ : EReal) from rfl)).trans ((if_neg (by show ¬ d.val ≤ 2048 + (768 + r.val); omega)).symm)
    · unfold kernelRun0_A.sl.r_8 k0_pay40
      dsimp only
      refine Chain.rowMax (W := 3072) reduces_S256x3072_S256 (.inl rfl) rfl shapeCasts_S256_S256x1 _ _ rfl (fun c' => Chain.score x0 x2 ⟨768 + r.val, by omega⟩ (c'.castLE (by decide))) r (fun d => ?_)
      refine (Planes.load _ _ 0 1 0 3072 _ _ _ _ _ _ _ _ r d (by omega)).trans ?_
      by_cases hd : d.val < 2816
      · refine (Planes.store_before _ 0 1 0 1 2816 256 _ _ _ _ _ _ _ _ r _ (by show 0 + d.val < 2816; omega)).trans ?_
        refine (Planes.store_miss _ 0 1 1 0 (by decide) 2560 256 _ _ _ _ _ _ _ _ _ _).trans ?_
        refine (Planes.store_miss _ 0 1 0 0 (by decide) 2560 256 _ _ _ _ _ _ _ _ _ _).trans ?_
        refine (Planes.store_miss _ 0 1 1 1 (by decide) 0 3072 _ _ _ _ _ _ _ _ _ _).trans ?_
        refine (Planes.store_hit _ 0 1 0 3072 _ _ _ _ _ _ _ _ _ r d (by omega)).trans ?_
        exact (Chain.scoresAt _ _ _ _ r d (fun l => x0 (ix4 0 0 ⟨768 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (768 + r.val); omega)).symm
      · rw [show (⟨0 + d.val, by omega⟩ : Fin 4096) = ⟨2816 + (d.val - 2816), by omega⟩ from Fin.ext (by show 0 + d.val = 2816 + (d.val - 2816); omega)]
        refine (Planes.store_hit _ 0 1 2816 256 _ _ _ _ _ _ _ _ _ r ⟨d.val - 2816, by omega⟩ (by show 2816 + (d.val - 2816) < 4096; omega)).trans ?_
        refine (Chain.triangle _ _ _ _ _ r ⟨d.val - 2816, by omega⟩).trans ?_
        by_cases hj : d.val - 2816 ≤ r.val
        · refine (if_pos hj).trans ?_
          refine (Planes.load _ _ 0 1 2816 256 _ _ _ _ _ _ _ _ r ⟨d.val - 2816, by omega⟩ (by show 2816 + (d.val - 2816) < 4096; omega)).trans ?_
          rw [show (⟨2816 + (d.val - 2816), by omega⟩ : Fin 4096) = ⟨0 + d.val, by omega⟩ from Fin.ext (by show 2816 + (d.val - 2816) = 0 + d.val; omega)]
          refine (Planes.store_miss _ 0 1 1 0 (by decide) 2560 256 _ _ _ _ _ _ _ _ _ _).trans ?_
          refine (Planes.store_miss _ 0 1 0 0 (by decide) 2560 256 _ _ _ _ _ _ _ _ _ _).trans ?_
          refine (Planes.store_miss _ 0 1 1 1 (by decide) 0 3072 _ _ _ _ _ _ _ _ _ _).trans ?_
          refine (Planes.store_hit _ 0 1 0 3072 _ _ _ _ _ _ _ _ _ r d (by omega)).trans ?_
          exact (Chain.scoresAt _ _ _ _ r d (fun l => x0 (ix4 0 0 ⟨768 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (768 + r.val); omega)).symm
        · exact ((if_neg hj).trans (show _ = (⊥ : EReal) from rfl)).trans ((if_neg (by show ¬ d.val ≤ 2048 + (768 + r.val); omega)).symm)

/-- Query rows 768 … 1023 of head 1: the mix of the first 3072 keys' values. -/
theorem acc_3_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg6 : Memref sig .tc .vmem S1x1x4096x128 .bf16)
    (harg6 : arg6.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x4 : Vec Ideal S1x1x4096x128 .bf16) (r : Fin 256) (lane : Fin 128) :
    kernelRun0_A.sl.v367 (F := Ideal) c arg2 harg2 arg3 harg3 arg4 harg4 arg6 harg6 arg9 arg10 x0 x1 x2 x4 (ix2 r lane)
      = Chain.acc 3072 (by decide) x1 x2 x4 ⟨768 + r.val, by omega⟩ lane := by
  refine Chain.accAt (W := 3072) (by decide) _ _ _ r lane x1 x2 x4 ⟨768 + r.val, by omega⟩ (fun d => ?_)
    (fun d => Chain.rowsAt harg6 x4 _ _ d lane (d.castLE (by decide)) (Nat.zero_add d.val).symm)
  · refine (Planes.load _ _ 1 1 0 3072 _ _ _ _ _ _ _ _ r d (by omega)).trans ?_
    rw [zero_add_mk]
    refine (Planes.box_hit _ 1 1 3072 _ _ r d (by omega)).trans ?_
    refine (Chain.expo _ _ _ _ _ _ r d).trans (congrArg Ideal.exp2 (congrArg₂ (· - ·) ?_ ?_))
    · refine (Planes.load _ _ 1 1 0 3072 _ _ _ _ _ _ _ _ r d (by omega)).trans ?_
      by_cases hd : d.val < 2816
      · refine (Planes.store_before _ 1 1 1 1 2816 256 _ _ _ _ _ _ _ _ r _ (by show 0 + d.val < 2816; omega)).trans ?_
        refine (Planes.store_miss _ 1 1 0 1 (by decide) 2816 256 _ _ _ _ _ _ _ _ _ _).trans ?_
        refine (Planes.store_miss _ 1 1 1 0 (by decide) 2560 256 _ _ _ _ _ _ _ _ _ _).trans ?_
        refine (Planes.store_miss _ 1 1 0 0 (by decide) 2560 256 _ _ _ _ _ _ _ _ _ _).trans ?_
        refine (Planes.store_hit _ 1 1 0 3072 _ _ _ _ _ _ _ _ _ r d (by omega)).trans ?_
        exact (Chain.scoresAt _ _ _ _ r d (fun l => x1 (ix4 0 0 ⟨768 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (768 + r.val); omega)).symm
      · rw [show (⟨0 + d.val, by omega⟩ : Fin 4096) = ⟨2816 + (d.val - 2816), by omega⟩ from Fin.ext (by show 0 + d.val = 2816 + (d.val - 2816); omega)]
        refine (Planes.store_hit _ 1 1 2816 256 _ _ _ _ _ _ _ _ _ r ⟨d.val - 2816, by omega⟩ (by show 2816 + (d.val - 2816) < 4096; omega)).trans ?_
        refine (Chain.triangle _ _ _ _ _ r ⟨d.val - 2816, by omega⟩).trans ?_
        by_cases hj : d.val - 2816 ≤ r.val
        · refine (if_pos hj).trans ?_
          refine (Planes.load _ _ 1 1 2816 256 _ _ _ _ _ _ _ _ r ⟨d.val - 2816, by omega⟩ (by show 2816 + (d.val - 2816) < 4096; omega)).trans ?_
          rw [show (⟨2816 + (d.val - 2816), by omega⟩ : Fin 4096) = ⟨0 + d.val, by omega⟩ from Fin.ext (by show 2816 + (d.val - 2816) = 0 + d.val; omega)]
          refine (Planes.store_miss _ 1 1 0 1 (by decide) 2816 256 _ _ _ _ _ _ _ _ _ _).trans ?_
          refine (Planes.store_miss _ 1 1 1 0 (by decide) 2560 256 _ _ _ _ _ _ _ _ _ _).trans ?_
          refine (Planes.store_miss _ 1 1 0 0 (by decide) 2560 256 _ _ _ _ _ _ _ _ _ _).trans ?_
          refine (Planes.store_hit _ 1 1 0 3072 _ _ _ _ _ _ _ _ _ r d (by omega)).trans ?_
          exact (Chain.scoresAt _ _ _ _ r d (fun l => x1 (ix4 0 0 ⟨768 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (768 + r.val); omega)).symm
        · exact ((if_neg hj).trans (show _ = (⊥ : EReal) from rfl)).trans ((if_neg (by show ¬ d.val ≤ 2048 + (768 + r.val); omega)).symm)
    · unfold kernelRun0_A.sl.r_9 k0_pay43
      dsimp only
      refine Chain.rowMax (W := 3072) reduces_S256x3072_S256 (.inl rfl) rfl shapeCasts_S256_S256x1 _ _ rfl (fun c' => Chain.score x1 x2 ⟨768 + r.val, by omega⟩ (c'.castLE (by decide))) r (fun d => ?_)
      refine (Planes.load _ _ 1 1 0 3072 _ _ _ _ _ _ _ _ r d (by omega)).trans ?_
      by_cases hd : d.val < 2816
      · refine (Planes.store_before _ 1 1 1 1 2816 256 _ _ _ _ _ _ _ _ r _ (by show 0 + d.val < 2816; omega)).trans ?_
        refine (Planes.store_miss _ 1 1 0 1 (by decide) 2816 256 _ _ _ _ _ _ _ _ _ _).trans ?_
        refine (Planes.store_miss _ 1 1 1 0 (by decide) 2560 256 _ _ _ _ _ _ _ _ _ _).trans ?_
        refine (Planes.store_miss _ 1 1 0 0 (by decide) 2560 256 _ _ _ _ _ _ _ _ _ _).trans ?_
        refine (Planes.store_hit _ 1 1 0 3072 _ _ _ _ _ _ _ _ _ r d (by omega)).trans ?_
        exact (Chain.scoresAt _ _ _ _ r d (fun l => x1 (ix4 0 0 ⟨768 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (768 + r.val); omega)).symm
      · rw [show (⟨0 + d.val, by omega⟩ : Fin 4096) = ⟨2816 + (d.val - 2816), by omega⟩ from Fin.ext (by show 0 + d.val = 2816 + (d.val - 2816); omega)]
        refine (Planes.store_hit _ 1 1 2816 256 _ _ _ _ _ _ _ _ _ r ⟨d.val - 2816, by omega⟩ (by show 2816 + (d.val - 2816) < 4096; omega)).trans ?_
        refine (Chain.triangle _ _ _ _ _ r ⟨d.val - 2816, by omega⟩).trans ?_
        by_cases hj : d.val - 2816 ≤ r.val
        · refine (if_pos hj).trans ?_
          refine (Planes.load _ _ 1 1 2816 256 _ _ _ _ _ _ _ _ r ⟨d.val - 2816, by omega⟩ (by show 2816 + (d.val - 2816) < 4096; omega)).trans ?_
          rw [show (⟨2816 + (d.val - 2816), by omega⟩ : Fin 4096) = ⟨0 + d.val, by omega⟩ from Fin.ext (by show 2816 + (d.val - 2816) = 0 + d.val; omega)]
          refine (Planes.store_miss _ 1 1 0 1 (by decide) 2816 256 _ _ _ _ _ _ _ _ _ _).trans ?_
          refine (Planes.store_miss _ 1 1 1 0 (by decide) 2560 256 _ _ _ _ _ _ _ _ _ _).trans ?_
          refine (Planes.store_miss _ 1 1 0 0 (by decide) 2560 256 _ _ _ _ _ _ _ _ _ _).trans ?_
          refine (Planes.store_hit _ 1 1 0 3072 _ _ _ _ _ _ _ _ _ r d (by omega)).trans ?_
          exact (Chain.scoresAt _ _ _ _ r d (fun l => x1 (ix4 0 0 ⟨768 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (768 + r.val); omega)).symm
        · exact ((if_neg hj).trans (show _ = (⊥ : EReal) from rfl)).trans ((if_neg (by show ¬ d.val ≤ 2048 + (768 + r.val); omega)).symm)

/-- Query rows 1024 … 1279 of head 0: the mix of the first 3328 keys' values. -/
theorem acc_4_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg5 : Memref sig .tc .vmem S1x1x4096x128 .bf16)
    (harg5 : arg5.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x3 : Vec Ideal S1x1x4096x128 .bf16) (r : Fin 256) (lane : Fin 128) :
    kernelRun0_A.sl.v533 (F := Ideal) c arg2 harg2 arg3 harg3 arg4 harg4 arg5 harg5 arg9 arg10 x0 x1 x2 x3 (ix2 r lane)
      = Chain.acc 3328 (by decide) x0 x2 x3 ⟨1024 + r.val, by omega⟩ lane := by
  refine Chain.accAt (W := 3328) (by decide) _ _ _ r lane x0 x2 x3 ⟨1024 + r.val, by omega⟩ (fun d => ?_)
    (fun d => Chain.rowsAt harg5 x3 _ _ d lane (d.castLE (by decide)) (Nat.zero_add d.val).symm)
  · refine (Planes.load _ _ 0 0 0 3328 _ _ _ _ _ _ _ _ r d (by omega)).trans ?_
    rw [zero_add_mk]
    refine (Planes.box_miss _ 0 0 1 1 (by decide) 3584 _ _ _ _).trans ?_
    refine (Planes.box_miss _ 0 0 0 1 (by decide) 3584 _ _ _ _).trans ?_
    refine (Planes.box_miss _ 0 0 1 0 (by decide) 3328 _ _ _ _).trans ?_
    refine (Planes.box_hit _ 0 0 3328 _ _ r d (by omega)).trans ?_
    refine (Chain.expo _ _ _ _ _ _ r d).trans (congrArg Ideal.exp2 (congrArg₂ (· - ·) ?_ ?_))
    · refine (Planes.load _ _ 0 0 0 3328 _ _ _ _ _ _ _ _ r d (by omega)).trans ?_
      refine (Planes.store_miss _ 0 0 1 1 (by decide) 3328 256 _ _ _ _ _ _ _ _ _ _).trans ?_
      refine (Planes.store_miss _ 0 0 0 1 (by decide) 3328 256 _ _ _ _ _ _ _ _ _ _).trans ?_
      refine (Planes.store_miss _ 0 0 1 0 (by decide) 3072 256 _ _ _ _ _ _ _ _ _ _).trans ?_
      by_cases hd : d.val < 3072
      · refine (Planes.store_before _ 0 0 0 0 3072 256 _ _ _ _ _ _ _ _ r _ (by show 0 + d.val < 3072; omega)).trans ?_
        refine (Planes.store_miss _ 0 0 1 1 (by decide) 0 3584 _ _ _ _ _ _ _ _ _ _).trans ?_
        refine (Planes.store_miss _ 0 0 0 1 (by decide) 0 3584 _ _ _ _ _ _ _ _ _ _).trans ?_
        refine (Planes.store_miss _ 0 0 1 0 (by decide) 0 3328 _ _ _ _ _ _ _ _ _ _).trans ?_
        refine (Planes.store_hit _ 0 0 0 3328 _ _ _ _ _ _ _ _ _ r d (by omega)).trans ?_
        exact (Chain.scoresAt _ _ _ _ r d (fun l => x0 (ix4 0 0 ⟨1024 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (1024 + r.val); omega)).symm
      · rw [show (⟨0 + d.val, by omega⟩ : Fin 4096) = ⟨3072 + (d.val - 3072), by omega⟩ from Fin.ext (by show 0 + d.val = 3072 + (d.val - 3072); omega)]
        refine (Planes.store_hit _ 0 0 3072 256 _ _ _ _ _ _ _ _ _ r ⟨d.val - 3072, by omega⟩ (by show 3072 + (d.val - 3072) < 4096; omega)).trans ?_
        refine (Chain.triangle _ _ _ _ _ r ⟨d.val - 3072, by omega⟩).trans ?_
        by_cases hj : d.val - 3072 ≤ r.val
        · refine (if_pos hj).trans ?_
          refine (Planes.load _ _ 0 0 3072 256 _ _ _ _ _ _ _ _ r ⟨d.val - 3072, by omega⟩ (by show 3072 + (d.val - 3072) < 4096; omega)).trans ?_
          rw [show (⟨3072 + (d.val - 3072), by omega⟩ : Fin 4096) = ⟨0 + d.val, by omega⟩ from Fin.ext (by show 3072 + (d.val - 3072) = 0 + d.val; omega)]
          refine (Planes.store_miss _ 0 0 1 1 (by decide) 0 3584 _ _ _ _ _ _ _ _ _ _).trans ?_
          refine (Planes.store_miss _ 0 0 0 1 (by decide) 0 3584 _ _ _ _ _ _ _ _ _ _).trans ?_
          refine (Planes.store_miss _ 0 0 1 0 (by decide) 0 3328 _ _ _ _ _ _ _ _ _ _).trans ?_
          refine (Planes.store_hit _ 0 0 0 3328 _ _ _ _ _ _ _ _ _ r d (by omega)).trans ?_
          exact (Chain.scoresAt _ _ _ _ r d (fun l => x0 (ix4 0 0 ⟨1024 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (1024 + r.val); omega)).symm
        · exact ((if_neg hj).trans (show _ = (⊥ : EReal) from rfl)).trans ((if_neg (by show ¬ d.val ≤ 2048 + (1024 + r.val); omega)).symm)
    · unfold kernelRun0_A.sl.r_10 k0_pay59
      dsimp only
      refine Chain.rowMax (W := 3328) reduces_S256x3328_S256 (.inl rfl) rfl shapeCasts_S256_S256x1 _ _ rfl (fun c' => Chain.score x0 x2 ⟨1024 + r.val, by omega⟩ (c'.castLE (by decide))) r (fun d => ?_)
      refine (Planes.load _ _ 0 0 0 3328 _ _ _ _ _ _ _ _ r d (by omega)).trans ?_
      by_cases hd : d.val < 3072
      · refine (Planes.store_before _ 0 0 0 0 3072 256 _ _ _ _ _ _ _ _ r _ (by show 0 + d.val < 3072; omega)).trans ?_
        refine (Planes.store_miss _ 0 0 1 1 (by decide) 0 3584 _ _ _ _ _ _ _ _ _ _).trans ?_
        refine (Planes.store_miss _ 0 0 0 1 (by decide) 0 3584 _ _ _ _ _ _ _ _ _ _).trans ?_
        refine (Planes.store_miss _ 0 0 1 0 (by decide) 0 3328 _ _ _ _ _ _ _ _ _ _).trans ?_
        refine (Planes.store_hit _ 0 0 0 3328 _ _ _ _ _ _ _ _ _ r d (by omega)).trans ?_
        exact (Chain.scoresAt _ _ _ _ r d (fun l => x0 (ix4 0 0 ⟨1024 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (1024 + r.val); omega)).symm
      · rw [show (⟨0 + d.val, by omega⟩ : Fin 4096) = ⟨3072 + (d.val - 3072), by omega⟩ from Fin.ext (by show 0 + d.val = 3072 + (d.val - 3072); omega)]
        refine (Planes.store_hit _ 0 0 3072 256 _ _ _ _ _ _ _ _ _ r ⟨d.val - 3072, by omega⟩ (by show 3072 + (d.val - 3072) < 4096; omega)).trans ?_
        refine (Chain.triangle _ _ _ _ _ r ⟨d.val - 3072, by omega⟩).trans ?_
        by_cases hj : d.val - 3072 ≤ r.val
        · refine (if_pos hj).trans ?_
          refine (Planes.load _ _ 0 0 3072 256 _ _ _ _ _ _ _ _ r ⟨d.val - 3072, by omega⟩ (by show 3072 + (d.val - 3072) < 4096; omega)).trans ?_
          rw [show (⟨3072 + (d.val - 3072), by omega⟩ : Fin 4096) = ⟨0 + d.val, by omega⟩ from Fin.ext (by show 3072 + (d.val - 3072) = 0 + d.val; omega)]
          refine (Planes.store_miss _ 0 0 1 1 (by decide) 0 3584 _ _ _ _ _ _ _ _ _ _).trans ?_
          refine (Planes.store_miss _ 0 0 0 1 (by decide) 0 3584 _ _ _ _ _ _ _ _ _ _).trans ?_
          refine (Planes.store_miss _ 0 0 1 0 (by decide) 0 3328 _ _ _ _ _ _ _ _ _ _).trans ?_
          refine (Planes.store_hit _ 0 0 0 3328 _ _ _ _ _ _ _ _ _ r d (by omega)).trans ?_
          exact (Chain.scoresAt _ _ _ _ r d (fun l => x0 (ix4 0 0 ⟨1024 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (1024 + r.val); omega)).symm
        · exact ((if_neg hj).trans (show _ = (⊥ : EReal) from rfl)).trans ((if_neg (by show ¬ d.val ≤ 2048 + (1024 + r.val); omega)).symm)

/-- Query rows 1024 … 1279 of head 1: the mix of the first 3328 keys' values. -/
theorem acc_4_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg6 : Memref sig .tc .vmem S1x1x4096x128 .bf16)
    (harg6 : arg6.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x4 : Vec Ideal S1x1x4096x128 .bf16) (r : Fin 256) (lane : Fin 128) :
    kernelRun0_A.sl.v539 (F := Ideal) c arg2 harg2 arg3 harg3 arg4 harg4 arg6 harg6 arg9 arg10 x0 x1 x2 x4 (ix2 r lane)
      = Chain.acc 3328 (by decide) x1 x2 x4 ⟨1024 + r.val, by omega⟩ lane := by
  refine Chain.accAt (W := 3328) (by decide) _ _ _ r lane x1 x2 x4 ⟨1024 + r.val, by omega⟩ (fun d => ?_)
    (fun d => Chain.rowsAt harg6 x4 _ _ d lane (d.castLE (by decide)) (Nat.zero_add d.val).symm)
  · refine (Planes.load _ _ 1 0 0 3328 _ _ _ _ _ _ _ _ r d (by omega)).trans ?_
    rw [zero_add_mk]
    refine (Planes.box_miss _ 1 0 1 1 (by decide) 3584 _ _ _ _).trans ?_
    refine (Planes.box_miss _ 1 0 0 1 (by decide) 3584 _ _ _ _).trans ?_
    refine (Planes.box_hit _ 1 0 3328 _ _ r d (by omega)).trans ?_
    refine (Chain.expo _ _ _ _ _ _ r d).trans (congrArg Ideal.exp2 (congrArg₂ (· - ·) ?_ ?_))
    · refine (Planes.load _ _ 1 0 0 3328 _ _ _ _ _ _ _ _ r d (by omega)).trans ?_
      refine (Planes.store_miss _ 1 0 1 1 (by decide) 3328 256 _ _ _ _ _ _ _ _ _ _).trans ?_
      refine (Planes.store_miss _ 1 0 0 1 (by decide) 3328 256 _ _ _ _ _ _ _ _ _ _).trans ?_
      by_cases hd : d.val < 3072
      · refine (Planes.store_before _ 1 0 1 0 3072 256 _ _ _ _ _ _ _ _ r _ (by show 0 + d.val < 3072; omega)).trans ?_
        refine (Planes.store_miss _ 1 0 0 0 (by decide) 3072 256 _ _ _ _ _ _ _ _ _ _).trans ?_
        refine (Planes.store_miss _ 1 0 1 1 (by decide) 0 3584 _ _ _ _ _ _ _ _ _ _).trans ?_
        refine (Planes.store_miss _ 1 0 0 1 (by decide) 0 3584 _ _ _ _ _ _ _ _ _ _).trans ?_
        refine (Planes.store_hit _ 1 0 0 3328 _ _ _ _ _ _ _ _ _ r d (by omega)).trans ?_
        exact (Chain.scoresAt _ _ _ _ r d (fun l => x1 (ix4 0 0 ⟨1024 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (1024 + r.val); omega)).symm
      · rw [show (⟨0 + d.val, by omega⟩ : Fin 4096) = ⟨3072 + (d.val - 3072), by omega⟩ from Fin.ext (by show 0 + d.val = 3072 + (d.val - 3072); omega)]
        refine (Planes.store_hit _ 1 0 3072 256 _ _ _ _ _ _ _ _ _ r ⟨d.val - 3072, by omega⟩ (by show 3072 + (d.val - 3072) < 4096; omega)).trans ?_
        refine (Chain.triangle _ _ _ _ _ r ⟨d.val - 3072, by omega⟩).trans ?_
        by_cases hj : d.val - 3072 ≤ r.val
        · refine (if_pos hj).trans ?_
          refine (Planes.load _ _ 1 0 3072 256 _ _ _ _ _ _ _ _ r ⟨d.val - 3072, by omega⟩ (by show 3072 + (d.val - 3072) < 4096; omega)).trans ?_
          rw [show (⟨3072 + (d.val - 3072), by omega⟩ : Fin 4096) = ⟨0 + d.val, by omega⟩ from Fin.ext (by show 3072 + (d.val - 3072) = 0 + d.val; omega)]
          refine (Planes.store_miss _ 1 0 0 0 (by decide) 3072 256 _ _ _ _ _ _ _ _ _ _).trans ?_
          refine (Planes.store_miss _ 1 0 1 1 (by decide) 0 3584 _ _ _ _ _ _ _ _ _ _).trans ?_
          refine (Planes.store_miss _ 1 0 0 1 (by decide) 0 3584 _ _ _ _ _ _ _ _ _ _).trans ?_
          refine (Planes.store_hit _ 1 0 0 3328 _ _ _ _ _ _ _ _ _ r d (by omega)).trans ?_
          exact (Chain.scoresAt _ _ _ _ r d (fun l => x1 (ix4 0 0 ⟨1024 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (1024 + r.val); omega)).symm
        · exact ((if_neg hj).trans (show _ = (⊥ : EReal) from rfl)).trans ((if_neg (by show ¬ d.val ≤ 2048 + (1024 + r.val); omega)).symm)
    · unfold kernelRun0_A.sl.r_11 k0_pay62
      dsimp only
      refine Chain.rowMax (W := 3328) reduces_S256x3328_S256 (.inl rfl) rfl shapeCasts_S256_S256x1 _ _ rfl (fun c' => Chain.score x1 x2 ⟨1024 + r.val, by omega⟩ (c'.castLE (by decide))) r (fun d => ?_)
      refine (Planes.load _ _ 1 0 0 3328 _ _ _ _ _ _ _ _ r d (by omega)).trans ?_
      by_cases hd : d.val < 3072
      · refine (Planes.store_before _ 1 0 1 0 3072 256 _ _ _ _ _ _ _ _ r _ (by show 0 + d.val < 3072; omega)).trans ?_
        refine (Planes.store_miss _ 1 0 0 0 (by decide) 3072 256 _ _ _ _ _ _ _ _ _ _).trans ?_
        refine (Planes.store_miss _ 1 0 1 1 (by decide) 0 3584 _ _ _ _ _ _ _ _ _ _).trans ?_
        refine (Planes.store_miss _ 1 0 0 1 (by decide) 0 3584 _ _ _ _ _ _ _ _ _ _).trans ?_
        refine (Planes.store_hit _ 1 0 0 3328 _ _ _ _ _ _ _ _ _ r d (by omega)).trans ?_
        exact (Chain.scoresAt _ _ _ _ r d (fun l => x1 (ix4 0 0 ⟨1024 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (1024 + r.val); omega)).symm
      · rw [show (⟨0 + d.val, by omega⟩ : Fin 4096) = ⟨3072 + (d.val - 3072), by omega⟩ from Fin.ext (by show 0 + d.val = 3072 + (d.val - 3072); omega)]
        refine (Planes.store_hit _ 1 0 3072 256 _ _ _ _ _ _ _ _ _ r ⟨d.val - 3072, by omega⟩ (by show 3072 + (d.val - 3072) < 4096; omega)).trans ?_
        refine (Chain.triangle _ _ _ _ _ r ⟨d.val - 3072, by omega⟩).trans ?_
        by_cases hj : d.val - 3072 ≤ r.val
        · refine (if_pos hj).trans ?_
          refine (Planes.load _ _ 1 0 3072 256 _ _ _ _ _ _ _ _ r ⟨d.val - 3072, by omega⟩ (by show 3072 + (d.val - 3072) < 4096; omega)).trans ?_
          rw [show (⟨3072 + (d.val - 3072), by omega⟩ : Fin 4096) = ⟨0 + d.val, by omega⟩ from Fin.ext (by show 3072 + (d.val - 3072) = 0 + d.val; omega)]
          refine (Planes.store_miss _ 1 0 0 0 (by decide) 3072 256 _ _ _ _ _ _ _ _ _ _).trans ?_
          refine (Planes.store_miss _ 1 0 1 1 (by decide) 0 3584 _ _ _ _ _ _ _ _ _ _).trans ?_
          refine (Planes.store_miss _ 1 0 0 1 (by decide) 0 3584 _ _ _ _ _ _ _ _ _ _).trans ?_
          refine (Planes.store_hit _ 1 0 0 3328 _ _ _ _ _ _ _ _ _ r d (by omega)).trans ?_
          exact (Chain.scoresAt _ _ _ _ r d (fun l => x1 (ix4 0 0 ⟨1024 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (1024 + r.val); omega)).symm
        · exact ((if_neg hj).trans (show _ = (⊥ : EReal) from rfl)).trans ((if_neg (by show ¬ d.val ≤ 2048 + (1024 + r.val); omega)).symm)

/-- Query rows 1280 … 1535 of head 0: the mix of the first 3584 keys' values. -/
theorem acc_5_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg5 : Memref sig .tc .vmem S1x1x4096x128 .bf16)
    (harg5 : arg5.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x3 : Vec Ideal S1x1x4096x128 .bf16) (r : Fin 256) (lane : Fin 128) :
    kernelRun0_A.sl.v545 (F := Ideal) c arg2 harg2 arg3 harg3 arg4 harg4 arg5 harg5 arg9 arg10 x0 x1 x2 x3 (ix2 r lane)
      = Chain.acc 3584 (by decide) x0 x2 x3 ⟨1280 + r.val, by omega⟩ lane := by
  refine Chain.accAt (W := 3584) (by decide) _ _ _ r lane x0 x2 x3 ⟨1280 + r.val, by omega⟩ (fun d => ?_)
    (fun d => Chain.rowsAt harg5 x3 _ _ d lane (d.castLE (by decide)) (Nat.zero_add d.val).symm)
  · refine (Planes.load _ _ 0 1 0 3584 _ _ _ _ _ _ _ _ r d (by omega)).trans ?_
    rw [zero_add_mk]
    refine (Planes.box_miss _ 0 1 1 1 (by decide) 3584 _ _ _ _).trans ?_
    refine (Planes.box_hit _ 0 1 3584 _ _ r d (by omega)).trans ?_
    refine (Chain.expo _ _ _ _ _ _ r d).trans (congrArg Ideal.exp2 (congrArg₂ (· - ·) ?_ ?_))
    · refine (Planes.load _ _ 0 1 0 3584 _ _ _ _ _ _ _ _ r d (by omega)).trans ?_
      refine (Planes.store_miss _ 0 1 1 1 (by decide) 3328 256 _ _ _ _ _ _ _ _ _ _).trans ?_
      by_cases hd : d.val < 3328
      · refine (Planes.store_before _ 0 1 0 1 3328 256 _ _ _ _ _ _ _ _ r _ (by show 0 + d.val < 3328; omega)).trans ?_
        refine (Planes.store_miss _ 0 1 1 0 (by decide) 3072 256 _ _ _ _ _ _ _ _ _ _).trans ?_
        refine (Planes.store_miss _ 0 1 0 0 (by decide) 3072 256 _ _ _ _ _ _ _ _ _ _).trans ?_
        refine (Planes.store_miss _ 0 1 1 1 (by decide) 0 3584 _ _ _ _ _ _ _ _ _ _).trans ?_
        refine (Planes.store_hit _ 0 1 0 3584 _ _ _ _ _ _ _ _ _ r d (by omega)).trans ?_
        exact (Chain.scoresAt _ _ _ _ r d (fun l => x0 (ix4 0 0 ⟨1280 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (1280 + r.val); omega)).symm
      · rw [show (⟨0 + d.val, by omega⟩ : Fin 4096) = ⟨3328 + (d.val - 3328), by omega⟩ from Fin.ext (by show 0 + d.val = 3328 + (d.val - 3328); omega)]
        refine (Planes.store_hit _ 0 1 3328 256 _ _ _ _ _ _ _ _ _ r ⟨d.val - 3328, by omega⟩ (by show 3328 + (d.val - 3328) < 4096; omega)).trans ?_
        refine (Chain.triangle _ _ _ _ _ r ⟨d.val - 3328, by omega⟩).trans ?_
        by_cases hj : d.val - 3328 ≤ r.val
        · refine (if_pos hj).trans ?_
          refine (Planes.load _ _ 0 1 3328 256 _ _ _ _ _ _ _ _ r ⟨d.val - 3328, by omega⟩ (by show 3328 + (d.val - 3328) < 4096; omega)).trans ?_
          rw [show (⟨3328 + (d.val - 3328), by omega⟩ : Fin 4096) = ⟨0 + d.val, by omega⟩ from Fin.ext (by show 3328 + (d.val - 3328) = 0 + d.val; omega)]
          refine (Planes.store_miss _ 0 1 1 0 (by decide) 3072 256 _ _ _ _ _ _ _ _ _ _).trans ?_
          refine (Planes.store_miss _ 0 1 0 0 (by decide) 3072 256 _ _ _ _ _ _ _ _ _ _).trans ?_
          refine (Planes.store_miss _ 0 1 1 1 (by decide) 0 3584 _ _ _ _ _ _ _ _ _ _).trans ?_
          refine (Planes.store_hit _ 0 1 0 3584 _ _ _ _ _ _ _ _ _ r d (by omega)).trans ?_
          exact (Chain.scoresAt _ _ _ _ r d (fun l => x0 (ix4 0 0 ⟨1280 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (1280 + r.val); omega)).symm
        · exact ((if_neg hj).trans (show _ = (⊥ : EReal) from rfl)).trans ((if_neg (by show ¬ d.val ≤ 2048 + (1280 + r.val); omega)).symm)
    · unfold kernelRun0_A.sl.r_12 k0_pay64
      dsimp only
      refine Chain.rowMax (W := 3584) reduces_S256x3584_S256 (.inl rfl) rfl shapeCasts_S256_S256x1 _ _ rfl (fun c' => Chain.score x0 x2 ⟨1280 + r.val, by omega⟩ (c'.castLE (by decide))) r (fun d => ?_)
      refine (Planes.load _ _ 0 1 0 3584 _ _ _ _ _ _ _ _ r d (by omega)).trans ?_
      by_cases hd : d.val < 3328
      · refine (Planes.store_before _ 0 1 0 1 3328 256 _ _ _ _ _ _ _ _ r _ (by show 0 + d.val < 3328; omega)).trans ?_
        refine (Planes.store_miss _ 0 1 1 0 (by decide) 3072 256 _ _ _ _ _ _ _ _ _ _).trans ?_
        refine (Planes.store_miss _ 0 1 0 0 (by decide) 3072 256 _ _ _ _ _ _ _ _ _ _).trans ?_
        refine (Planes.store_miss _ 0 1 1 1 (by decide) 0 3584 _ _ _ _ _ _ _ _ _ _).trans ?_
        refine (Planes.store_hit _ 0 1 0 3584 _ _ _ _ _ _ _ _ _ r d (by omega)).trans ?_
        exact (Chain.scoresAt _ _ _ _ r d (fun l => x0 (ix4 0 0 ⟨1280 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (1280 + r.val); omega)).symm
      · rw [show (⟨0 + d.val, by omega⟩ : Fin 4096) = ⟨3328 + (d.val - 3328), by omega⟩ from Fin.ext (by show 0 + d.val = 3328 + (d.val - 3328); omega)]
        refine (Planes.store_hit _ 0 1 3328 256 _ _ _ _ _ _ _ _ _ r ⟨d.val - 3328, by omega⟩ (by show 3328 + (d.val - 3328) < 4096; omega)).trans ?_
        refine (Chain.triangle _ _ _ _ _ r ⟨d.val - 3328, by omega⟩).trans ?_
        by_cases hj : d.val - 3328 ≤ r.val
        · refine (if_pos hj).trans ?_
          refine (Planes.load _ _ 0 1 3328 256 _ _ _ _ _ _ _ _ r ⟨d.val - 3328, by omega⟩ (by show 3328 + (d.val - 3328) < 4096; omega)).trans ?_
          rw [show (⟨3328 + (d.val - 3328), by omega⟩ : Fin 4096) = ⟨0 + d.val, by omega⟩ from Fin.ext (by show 3328 + (d.val - 3328) = 0 + d.val; omega)]
          refine (Planes.store_miss _ 0 1 1 0 (by decide) 3072 256 _ _ _ _ _ _ _ _ _ _).trans ?_
          refine (Planes.store_miss _ 0 1 0 0 (by decide) 3072 256 _ _ _ _ _ _ _ _ _ _).trans ?_
          refine (Planes.store_miss _ 0 1 1 1 (by decide) 0 3584 _ _ _ _ _ _ _ _ _ _).trans ?_
          refine (Planes.store_hit _ 0 1 0 3584 _ _ _ _ _ _ _ _ _ r d (by omega)).trans ?_
          exact (Chain.scoresAt _ _ _ _ r d (fun l => x0 (ix4 0 0 ⟨1280 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (1280 + r.val); omega)).symm
        · exact ((if_neg hj).trans (show _ = (⊥ : EReal) from rfl)).trans ((if_neg (by show ¬ d.val ≤ 2048 + (1280 + r.val); omega)).symm)

/-- Query rows 1280 … 1535 of head 1: the mix of the first 3584 keys' values. -/
theorem acc_5_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg6 : Memref sig .tc .vmem S1x1x4096x128 .bf16)
    (harg6 : arg6.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x4 : Vec Ideal S1x1x4096x128 .bf16) (r : Fin 256) (lane : Fin 128) :
    kernelRun0_A.sl.v551 (F := Ideal) c arg2 harg2 arg3 harg3 arg4 harg4 arg6 harg6 arg9 arg10 x0 x1 x2 x4 (ix2 r lane)
      = Chain.acc 3584 (by decide) x1 x2 x4 ⟨1280 + r.val, by omega⟩ lane := by
  refine Chain.accAt (W := 3584) (by decide) _ _ _ r lane x1 x2 x4 ⟨1280 + r.val, by omega⟩ (fun d => ?_)
    (fun d => Chain.rowsAt harg6 x4 _ _ d lane (d.castLE (by decide)) (Nat.zero_add d.val).symm)
  · refine (Planes.load _ _ 1 1 0 3584 _ _ _ _ _ _ _ _ r d (by omega)).trans ?_
    rw [zero_add_mk]
    refine (Planes.box_hit _ 1 1 3584 _ _ r d (by omega)).trans ?_
    refine (Chain.expo _ _ _ _ _ _ r d).trans (congrArg Ideal.exp2 (congrArg₂ (· - ·) ?_ ?_))
    · refine (Planes.load _ _ 1 1 0 3584 _ _ _ _ _ _ _ _ r d (by omega)).trans ?_
      by_cases hd : d.val < 3328
      · refine (Planes.store_before _ 1 1 1 1 3328 256 _ _ _ _ _ _ _ _ r _ (by show 0 + d.val < 3328; omega)).trans ?_
        refine (Planes.store_miss _ 1 1 0 1 (by decide) 3328 256 _ _ _ _ _ _ _ _ _ _).trans ?_
        refine (Planes.store_miss _ 1 1 1 0 (by decide) 3072 256 _ _ _ _ _ _ _ _ _ _).trans ?_
        refine (Planes.store_miss _ 1 1 0 0 (by decide) 3072 256 _ _ _ _ _ _ _ _ _ _).trans ?_
        refine (Planes.store_hit _ 1 1 0 3584 _ _ _ _ _ _ _ _ _ r d (by omega)).trans ?_
        exact (Chain.scoresAt _ _ _ _ r d (fun l => x1 (ix4 0 0 ⟨1280 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (1280 + r.val); omega)).symm
      · rw [show (⟨0 + d.val, by omega⟩ : Fin 4096) = ⟨3328 + (d.val - 3328), by omega⟩ from Fin.ext (by show 0 + d.val = 3328 + (d.val - 3328); omega)]
        refine (Planes.store_hit _ 1 1 3328 256 _ _ _ _ _ _ _ _ _ r ⟨d.val - 3328, by omega⟩ (by show 3328 + (d.val - 3328) < 4096; omega)).trans ?_
        refine (Chain.triangle _ _ _ _ _ r ⟨d.val - 3328, by omega⟩).trans ?_
        by_cases hj : d.val - 3328 ≤ r.val
        · refine (if_pos hj).trans ?_
          refine (Planes.load _ _ 1 1 3328 256 _ _ _ _ _ _ _ _ r ⟨d.val - 3328, by omega⟩ (by show 3328 + (d.val - 3328) < 4096; omega)).trans ?_
          rw [show (⟨3328 + (d.val - 3328), by omega⟩ : Fin 4096) = ⟨0 + d.val, by omega⟩ from Fin.ext (by show 3328 + (d.val - 3328) = 0 + d.val; omega)]
          refine (Planes.store_miss _ 1 1 0 1 (by decide) 3328 256 _ _ _ _ _ _ _ _ _ _).trans ?_
          refine (Planes.store_miss _ 1 1 1 0 (by decide) 3072 256 _ _ _ _ _ _ _ _ _ _).trans ?_
          refine (Planes.store_miss _ 1 1 0 0 (by decide) 3072 256 _ _ _ _ _ _ _ _ _ _).trans ?_
          refine (Planes.store_hit _ 1 1 0 3584 _ _ _ _ _ _ _ _ _ r d (by omega)).trans ?_
          exact (Chain.scoresAt _ _ _ _ r d (fun l => x1 (ix4 0 0 ⟨1280 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (1280 + r.val); omega)).symm
        · exact ((if_neg hj).trans (show _ = (⊥ : EReal) from rfl)).trans ((if_neg (by show ¬ d.val ≤ 2048 + (1280 + r.val); omega)).symm)
    · unfold kernelRun0_A.sl.r_13 k0_pay66
      dsimp only
      refine Chain.rowMax (W := 3584) reduces_S256x3584_S256 (.inl rfl) rfl shapeCasts_S256_S256x1 _ _ rfl (fun c' => Chain.score x1 x2 ⟨1280 + r.val, by omega⟩ (c'.castLE (by decide))) r (fun d => ?_)
      refine (Planes.load _ _ 1 1 0 3584 _ _ _ _ _ _ _ _ r d (by omega)).trans ?_
      by_cases hd : d.val < 3328
      · refine (Planes.store_before _ 1 1 1 1 3328 256 _ _ _ _ _ _ _ _ r _ (by show 0 + d.val < 3328; omega)).trans ?_
        refine (Planes.store_miss _ 1 1 0 1 (by decide) 3328 256 _ _ _ _ _ _ _ _ _ _).trans ?_
        refine (Planes.store_miss _ 1 1 1 0 (by decide) 3072 256 _ _ _ _ _ _ _ _ _ _).trans ?_
        refine (Planes.store_miss _ 1 1 0 0 (by decide) 3072 256 _ _ _ _ _ _ _ _ _ _).trans ?_
        refine (Planes.store_hit _ 1 1 0 3584 _ _ _ _ _ _ _ _ _ r d (by omega)).trans ?_
        exact (Chain.scoresAt _ _ _ _ r d (fun l => x1 (ix4 0 0 ⟨1280 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (1280 + r.val); omega)).symm
      · rw [show (⟨0 + d.val, by omega⟩ : Fin 4096) = ⟨3328 + (d.val - 3328), by omega⟩ from Fin.ext (by show 0 + d.val = 3328 + (d.val - 3328); omega)]
        refine (Planes.store_hit _ 1 1 3328 256 _ _ _ _ _ _ _ _ _ r ⟨d.val - 3328, by omega⟩ (by show 3328 + (d.val - 3328) < 4096; omega)).trans ?_
        refine (Chain.triangle _ _ _ _ _ r ⟨d.val - 3328, by omega⟩).trans ?_
        by_cases hj : d.val - 3328 ≤ r.val
        · refine (if_pos hj).trans ?_
          refine (Planes.load _ _ 1 1 3328 256 _ _ _ _ _ _ _ _ r ⟨d.val - 3328, by omega⟩ (by show 3328 + (d.val - 3328) < 4096; omega)).trans ?_
          rw [show (⟨3328 + (d.val - 3328), by omega⟩ : Fin 4096) = ⟨0 + d.val, by omega⟩ from Fin.ext (by show 3328 + (d.val - 3328) = 0 + d.val; omega)]
          refine (Planes.store_miss _ 1 1 0 1 (by decide) 3328 256 _ _ _ _ _ _ _ _ _ _).trans ?_
          refine (Planes.store_miss _ 1 1 1 0 (by decide) 3072 256 _ _ _ _ _ _ _ _ _ _).trans ?_
          refine (Planes.store_miss _ 1 1 0 0 (by decide) 3072 256 _ _ _ _ _ _ _ _ _ _).trans ?_
          refine (Planes.store_hit _ 1 1 0 3584 _ _ _ _ _ _ _ _ _ r d (by omega)).trans ?_
          exact (Chain.scoresAt _ _ _ _ r d (fun l => x1 (ix4 0 0 ⟨1280 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (1280 + r.val); omega)).symm
        · exact ((if_neg hj).trans (show _ = (⊥ : EReal) from rfl)).trans ((if_neg (by show ¬ d.val ≤ 2048 + (1280 + r.val); omega)).symm)

/-- Query rows 1536 … 1791 of head 0: the mix of the first 3840 keys' values. -/
theorem acc_6_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg5 : Memref sig .tc .vmem S1x1x4096x128 .bf16)
    (harg5 : arg5.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x3 : Vec Ideal S1x1x4096x128 .bf16) (r : Fin 256) (lane : Fin 128) :
    kernelRun0_A.sl.v717 (F := Ideal) c arg2 harg2 arg3 harg3 arg4 harg4 arg5 harg5 arg9 arg10 x0 x1 x2 x3 (ix2 r lane)
      = Chain.acc 3840 (by decide) x0 x2 x3 ⟨1536 + r.val, by omega⟩ lane := by
  refine Chain.accAt (W := 3840) (by decide) _ _ _ r lane x0 x2 x3 ⟨1536 + r.val, by omega⟩ (fun d => ?_)
    (fun d => Chain.rowsAt harg5 x3 _ _ d lane (d.castLE (by decide)) (Nat.zero_add d.val).symm)
  · refine (Planes.load _ _ 0 0 0 3840 _ _ _ _ _ _ _ _ r d (by omega)).trans ?_
    rw [zero_add_mk]
    refine (Planes.box_miss _ 0 0 1 1 (by decide) 4096 _ _ _ _).trans ?_
    refine (Planes.box_miss _ 0 0 0 1 (by decide) 4096 _ _ _ _).trans ?_
    refine (Planes.box_miss _ 0 0 1 0 (by decide) 3840 _ _ _ _).trans ?_
    refine (Planes.box_hit _ 0 0 3840 _ _ r d (by omega)).trans ?_
    refine (Chain.expo _ _ _ _ _ _ r d).trans (congrArg Ideal.exp2 (congrArg₂ (· - ·) ?_ ?_))
    · refine (Planes.load _ _ 0 0 0 3840 _ _ _ _ _ _ _ _ r d (by omega)).trans ?_
      refine (Planes.store_miss _ 0 0 1 1 (by decide) 3840 256 _ _ _ _ _ _ _ _ _ _).trans ?_
      refine (Planes.store_miss _ 0 0 0 1 (by decide) 3840 256 _ _ _ _ _ _ _ _ _ _).trans ?_
      refine (Planes.store_miss _ 0 0 1 0 (by decide) 3584 256 _ _ _ _ _ _ _ _ _ _).trans ?_
      by_cases hd : d.val < 3584
      · refine (Planes.store_before _ 0 0 0 0 3584 256 _ _ _ _ _ _ _ _ r _ (by show 0 + d.val < 3584; omega)).trans ?_
        refine (Planes.store_miss _ 0 0 1 1 (by decide) 0 4096 _ _ _ _ _ _ _ _ _ _).trans ?_
        refine (Planes.store_miss _ 0 0 0 1 (by decide) 0 4096 _ _ _ _ _ _ _ _ _ _).trans ?_
        refine (Planes.store_miss _ 0 0 1 0 (by decide) 0 3840 _ _ _ _ _ _ _ _ _ _).trans ?_
        refine (Planes.store_hit _ 0 0 0 3840 _ _ _ _ _ _ _ _ _ r d (by omega)).trans ?_
        exact (Chain.scoresAt _ _ _ _ r d (fun l => x0 (ix4 0 0 ⟨1536 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (1536 + r.val); omega)).symm
      · rw [show (⟨0 + d.val, by omega⟩ : Fin 4096) = ⟨3584 + (d.val - 3584), by omega⟩ from Fin.ext (by show 0 + d.val = 3584 + (d.val - 3584); omega)]
        refine (Planes.store_hit _ 0 0 3584 256 _ _ _ _ _ _ _ _ _ r ⟨d.val - 3584, by omega⟩ (by show 3584 + (d.val - 3584) < 4096; omega)).trans ?_
        refine (Chain.triangle _ _ _ _ _ r ⟨d.val - 3584, by omega⟩).trans ?_
        by_cases hj : d.val - 3584 ≤ r.val
        · refine (if_pos hj).trans ?_
          refine (Planes.load _ _ 0 0 3584 256 _ _ _ _ _ _ _ _ r ⟨d.val - 3584, by omega⟩ (by show 3584 + (d.val - 3584) < 4096; omega)).trans ?_
          rw [show (⟨3584 + (d.val - 3584), by omega⟩ : Fin 4096) = ⟨0 + d.val, by omega⟩ from Fin.ext (by show 3584 + (d.val - 3584) = 0 + d.val; omega)]
          refine (Planes.store_miss _ 0 0 1 1 (by decide) 0 4096 _ _ _ _ _ _ _ _ _ _).trans ?_
          refine (Planes.store_miss _ 0 0 0 1 (by decide) 0 4096 _ _ _ _ _ _ _ _ _ _).trans ?_
          refine (Planes.store_miss _ 0 0 1 0 (by decide) 0 3840 _ _ _ _ _ _ _ _ _ _).trans ?_
          refine (Planes.store_hit _ 0 0 0 3840 _ _ _ _ _ _ _ _ _ r d (by omega)).trans ?_
          exact (Chain.scoresAt _ _ _ _ r d (fun l => x0 (ix4 0 0 ⟨1536 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (1536 + r.val); omega)).symm
        · exact ((if_neg hj).trans (show _ = (⊥ : EReal) from rfl)).trans ((if_neg (by show ¬ d.val ≤ 2048 + (1536 + r.val); omega)).symm)
    · unfold kernelRun0_A.sl.r_18 k0_pay84 kernelRun0_A.sl.r_17 k0_pay83
      dsimp only
      refine Chain.rowMax (W := 3840) reduces_S256x3840_S256 (.inl rfl) rfl shapeCasts_S256_S256x1 _ _ rfl (fun c' => Chain.score x0 x2 ⟨1536 + r.val, by omega⟩ (c'.castLE (by decide))) r (fun d => ?_)
      refine (Planes.load _ _ 0 0 0 3840 _ _ _ _ _ _ _ _ r d (by omega)).trans ?_
      by_cases hd : d.val < 3584
      · refine (Planes.store_before _ 0 0 0 0 3584 256 _ _ _ _ _ _ _ _ r _ (by show 0 + d.val < 3584; omega)).trans ?_
        refine (Planes.store_miss _ 0 0 1 1 (by decide) 0 4096 _ _ _ _ _ _ _ _ _ _).trans ?_
        refine (Planes.store_miss _ 0 0 0 1 (by decide) 0 4096 _ _ _ _ _ _ _ _ _ _).trans ?_
        refine (Planes.store_miss _ 0 0 1 0 (by decide) 0 3840 _ _ _ _ _ _ _ _ _ _).trans ?_
        refine (Planes.store_hit _ 0 0 0 3840 _ _ _ _ _ _ _ _ _ r d (by omega)).trans ?_
        exact (Chain.scoresAt _ _ _ _ r d (fun l => x0 (ix4 0 0 ⟨1536 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (1536 + r.val); omega)).symm
      · rw [show (⟨0 + d.val, by omega⟩ : Fin 4096) = ⟨3584 + (d.val - 3584), by omega⟩ from Fin.ext (by show 0 + d.val = 3584 + (d.val - 3584); omega)]
        refine (Planes.store_hit _ 0 0 3584 256 _ _ _ _ _ _ _ _ _ r ⟨d.val - 3584, by omega⟩ (by show 3584 + (d.val - 3584) < 4096; omega)).trans ?_
        refine (Chain.triangle _ _ _ _ _ r ⟨d.val - 3584, by omega⟩).trans ?_
        by_cases hj : d.val - 3584 ≤ r.val
        · refine (if_pos hj).trans ?_
          refine (Planes.load _ _ 0 0 3584 256 _ _ _ _ _ _ _ _ r ⟨d.val - 3584, by omega⟩ (by show 3584 + (d.val - 3584) < 4096; omega)).trans ?_
          rw [show (⟨3584 + (d.val - 3584), by omega⟩ : Fin 4096) = ⟨0 + d.val, by omega⟩ from Fin.ext (by show 3584 + (d.val - 3584) = 0 + d.val; omega)]
          refine (Planes.store_miss _ 0 0 1 1 (by decide) 0 4096 _ _ _ _ _ _ _ _ _ _).trans ?_
          refine (Planes.store_miss _ 0 0 0 1 (by decide) 0 4096 _ _ _ _ _ _ _ _ _ _).trans ?_
          refine (Planes.store_miss _ 0 0 1 0 (by decide) 0 3840 _ _ _ _ _ _ _ _ _ _).trans ?_
          refine (Planes.store_hit _ 0 0 0 3840 _ _ _ _ _ _ _ _ _ r d (by omega)).trans ?_
          exact (Chain.scoresAt _ _ _ _ r d (fun l => x0 (ix4 0 0 ⟨1536 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (1536 + r.val); omega)).symm
        · exact ((if_neg hj).trans (show _ = (⊥ : EReal) from rfl)).trans ((if_neg (by show ¬ d.val ≤ 2048 + (1536 + r.val); omega)).symm)

/-- Query rows 1536 … 1791 of head 1: the mix of the first 3840 keys' values. -/
theorem acc_6_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg6 : Memref sig .tc .vmem S1x1x4096x128 .bf16)
    (harg6 : arg6.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x4 : Vec Ideal S1x1x4096x128 .bf16) (r : Fin 256) (lane : Fin 128) :
    kernelRun0_A.sl.v723 (F := Ideal) c arg2 harg2 arg3 harg3 arg4 harg4 arg6 harg6 arg9 arg10 x0 x1 x2 x4 (ix2 r lane)
      = Chain.acc 3840 (by decide) x1 x2 x4 ⟨1536 + r.val, by omega⟩ lane := by
  refine Chain.accAt (W := 3840) (by decide) _ _ _ r lane x1 x2 x4 ⟨1536 + r.val, by omega⟩ (fun d => ?_)
    (fun d => Chain.rowsAt harg6 x4 _ _ d lane (d.castLE (by decide)) (Nat.zero_add d.val).symm)
  · refine (Planes.load _ _ 1 0 0 3840 _ _ _ _ _ _ _ _ r d (by omega)).trans ?_
    rw [zero_add_mk]
    refine (Planes.box_miss _ 1 0 1 1 (by decide) 4096 _ _ _ _).trans ?_
    refine (Planes.box_miss _ 1 0 0 1 (by decide) 4096 _ _ _ _).trans ?_
    refine (Planes.box_hit _ 1 0 3840 _ _ r d (by omega)).trans ?_
    refine (Chain.expo _ _ _ _ _ _ r d).trans (congrArg Ideal.exp2 (congrArg₂ (· - ·) ?_ ?_))
    · refine (Planes.load _ _ 1 0 0 3840 _ _ _ _ _ _ _ _ r d (by omega)).trans ?_
      refine (Planes.store_miss _ 1 0 1 1 (by decide) 3840 256 _ _ _ _ _ _ _ _ _ _).trans ?_
      refine (Planes.store_miss _ 1 0 0 1 (by decide) 3840 256 _ _ _ _ _ _ _ _ _ _).trans ?_
      by_cases hd : d.val < 3584
      · refine (Planes.store_before _ 1 0 1 0 3584 256 _ _ _ _ _ _ _ _ r _ (by show 0 + d.val < 3584; omega)).trans ?_
        refine (Planes.store_miss _ 1 0 0 0 (by decide) 3584 256 _ _ _ _ _ _ _ _ _ _).trans ?_
        refine (Planes.store_miss _ 1 0 1 1 (by decide) 0 4096 _ _ _ _ _ _ _ _ _ _).trans ?_
        refine (Planes.store_miss _ 1 0 0 1 (by decide) 0 4096 _ _ _ _ _ _ _ _ _ _).trans ?_
        refine (Planes.store_hit _ 1 0 0 3840 _ _ _ _ _ _ _ _ _ r d (by omega)).trans ?_
        exact (Chain.scoresAt _ _ _ _ r d (fun l => x1 (ix4 0 0 ⟨1536 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (1536 + r.val); omega)).symm
      · rw [show (⟨0 + d.val, by omega⟩ : Fin 4096) = ⟨3584 + (d.val - 3584), by omega⟩ from Fin.ext (by show 0 + d.val = 3584 + (d.val - 3584); omega)]
        refine (Planes.store_hit _ 1 0 3584 256 _ _ _ _ _ _ _ _ _ r ⟨d.val - 3584, by omega⟩ (by show 3584 + (d.val - 3584) < 4096; omega)).trans ?_
        refine (Chain.triangle _ _ _ _ _ r ⟨d.val - 3584, by omega⟩).trans ?_
        by_cases hj : d.val - 3584 ≤ r.val
        · refine (if_pos hj).trans ?_
          refine (Planes.load _ _ 1 0 3584 256 _ _ _ _ _ _ _ _ r ⟨d.val - 3584, by omega⟩ (by show 3584 + (d.val - 3584) < 4096; omega)).trans ?_
          rw [show (⟨3584 + (d.val - 3584), by omega⟩ : Fin 4096) = ⟨0 + d.val, by omega⟩ from Fin.ext (by show 3584 + (d.val - 3584) = 0 + d.val; omega)]
          refine (Planes.store_miss _ 1 0 0 0 (by decide) 3584 256 _ _ _ _ _ _ _ _ _ _).trans ?_
          refine (Planes.store_miss _ 1 0 1 1 (by decide) 0 4096 _ _ _ _ _ _ _ _ _ _).trans ?_
          refine (Planes.store_miss _ 1 0 0 1 (by decide) 0 4096 _ _ _ _ _ _ _ _ _ _).trans ?_
          refine (Planes.store_hit _ 1 0 0 3840 _ _ _ _ _ _ _ _ _ r d (by omega)).trans ?_
          exact (Chain.scoresAt _ _ _ _ r d (fun l => x1 (ix4 0 0 ⟨1536 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (1536 + r.val); omega)).symm
        · exact ((if_neg hj).trans (show _ = (⊥ : EReal) from rfl)).trans ((if_neg (by show ¬ d.val ≤ 2048 + (1536 + r.val); omega)).symm)
    · unfold kernelRun0_A.sl.r_19 k0_pay86
      dsimp only
      refine Chain.rowMax (W := 3840) reduces_S256x3840_S256 (.inl rfl) rfl shapeCasts_S256_S256x1 _ _ rfl (fun c' => Chain.score x1 x2 ⟨1536 + r.val, by omega⟩ (c'.castLE (by decide))) r (fun d => ?_)
      refine (Planes.load _ _ 1 0 0 3840 _ _ _ _ _ _ _ _ r d (by omega)).trans ?_
      by_cases hd : d.val < 3584
      · refine (Planes.store_before _ 1 0 1 0 3584 256 _ _ _ _ _ _ _ _ r _ (by show 0 + d.val < 3584; omega)).trans ?_
        refine (Planes.store_miss _ 1 0 0 0 (by decide) 3584 256 _ _ _ _ _ _ _ _ _ _).trans ?_
        refine (Planes.store_miss _ 1 0 1 1 (by decide) 0 4096 _ _ _ _ _ _ _ _ _ _).trans ?_
        refine (Planes.store_miss _ 1 0 0 1 (by decide) 0 4096 _ _ _ _ _ _ _ _ _ _).trans ?_
        refine (Planes.store_hit _ 1 0 0 3840 _ _ _ _ _ _ _ _ _ r d (by omega)).trans ?_
        exact (Chain.scoresAt _ _ _ _ r d (fun l => x1 (ix4 0 0 ⟨1536 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (1536 + r.val); omega)).symm
      · rw [show (⟨0 + d.val, by omega⟩ : Fin 4096) = ⟨3584 + (d.val - 3584), by omega⟩ from Fin.ext (by show 0 + d.val = 3584 + (d.val - 3584); omega)]
        refine (Planes.store_hit _ 1 0 3584 256 _ _ _ _ _ _ _ _ _ r ⟨d.val - 3584, by omega⟩ (by show 3584 + (d.val - 3584) < 4096; omega)).trans ?_
        refine (Chain.triangle _ _ _ _ _ r ⟨d.val - 3584, by omega⟩).trans ?_
        by_cases hj : d.val - 3584 ≤ r.val
        · refine (if_pos hj).trans ?_
          refine (Planes.load _ _ 1 0 3584 256 _ _ _ _ _ _ _ _ r ⟨d.val - 3584, by omega⟩ (by show 3584 + (d.val - 3584) < 4096; omega)).trans ?_
          rw [show (⟨3584 + (d.val - 3584), by omega⟩ : Fin 4096) = ⟨0 + d.val, by omega⟩ from Fin.ext (by show 3584 + (d.val - 3584) = 0 + d.val; omega)]
          refine (Planes.store_miss _ 1 0 0 0 (by decide) 3584 256 _ _ _ _ _ _ _ _ _ _).trans ?_
          refine (Planes.store_miss _ 1 0 1 1 (by decide) 0 4096 _ _ _ _ _ _ _ _ _ _).trans ?_
          refine (Planes.store_miss _ 1 0 0 1 (by decide) 0 4096 _ _ _ _ _ _ _ _ _ _).trans ?_
          refine (Planes.store_hit _ 1 0 0 3840 _ _ _ _ _ _ _ _ _ r d (by omega)).trans ?_
          exact (Chain.scoresAt _ _ _ _ r d (fun l => x1 (ix4 0 0 ⟨1536 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (1536 + r.val); omega)).symm
        · exact ((if_neg hj).trans (show _ = (⊥ : EReal) from rfl)).trans ((if_neg (by show ¬ d.val ≤ 2048 + (1536 + r.val); omega)).symm)

/-- Query rows 1792 … 2047 of head 0: the mix of the first 4096 keys' values. -/
theorem acc_7_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg5 : Memref sig .tc .vmem S1x1x4096x128 .bf16)
    (harg5 : arg5.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x3 : Vec Ideal S1x1x4096x128 .bf16) (r : Fin 256) (lane : Fin 128) :
    kernelRun0_A.sl.v729 (F := Ideal) c arg2 harg2 arg3 harg3 arg4 harg4 arg5 harg5 arg9 arg10 x0 x1 x2 x3 (ix2 r lane)
      = Chain.acc 4096 (by decide) x0 x2 x3 ⟨1792 + r.val, by omega⟩ lane := by
  refine Chain.accAt (W := 4096) (by decide) _ _ _ r lane x0 x2 x3 ⟨1792 + r.val, by omega⟩ (fun d => ?_)
    (fun d => Chain.rowsAt harg5 x3 _ _ d lane (d.castLE (by decide)) (Nat.zero_add d.val).symm)
  · refine (Planes.load _ _ 0 1 0 4096 _ _ _ _ _ _ _ _ r d (by omega)).trans ?_
    rw [zero_add_mk]
    refine (Planes.box_miss _ 0 1 1 1 (by decide) 4096 _ _ _ _).trans ?_
    refine (Planes.box_hit _ 0 1 4096 _ _ r d (by omega)).trans ?_
    refine (Chain.expo _ _ _ _ _ _ r d).trans (congrArg Ideal.exp2 (congrArg₂ (· - ·) ?_ ?_))
    · refine (Planes.load _ _ 0 1 0 4096 _ _ _ _ _ _ _ _ r d (by omega)).trans ?_
      refine (Planes.store_miss _ 0 1 1 1 (by decide) 3840 256 _ _ _ _ _ _ _ _ _ _).trans ?_
      by_cases hd : d.val < 3840
      · refine (Planes.store_before _ 0 1 0 1 3840 256 _ _ _ _ _ _ _ _ r _ (by show 0 + d.val < 3840; omega)).trans ?_
        refine (Planes.store_miss _ 0 1 1 0 (by decide) 3584 256 _ _ _ _ _ _ _ _ _ _).trans ?_
        refine (Planes.store_miss _ 0 1 0 0 (by decide) 3584 256 _ _ _ _ _ _ _ _ _ _).trans ?_
        refine (Planes.store_miss _ 0 1 1 1 (by decide) 0 4096 _ _ _ _ _ _ _ _ _ _).trans ?_
        refine (Planes.store_hit _ 0 1 0 4096 _ _ _ _ _ _ _ _ _ r d (by omega)).trans ?_
        exact (Chain.scoresAt _ _ _ _ r d (fun l => x0 (ix4 0 0 ⟨1792 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (1792 + r.val); omega)).symm
      · rw [show (⟨0 + d.val, by omega⟩ : Fin 4096) = ⟨3840 + (d.val - 3840), by omega⟩ from Fin.ext (by show 0 + d.val = 3840 + (d.val - 3840); omega)]
        refine (Planes.store_hit _ 0 1 3840 256 _ _ _ _ _ _ _ _ _ r ⟨d.val - 3840, by omega⟩ (by show 3840 + (d.val - 3840) < 4096; omega)).trans ?_
        refine (Chain.triangle _ _ _ _ _ r ⟨d.val - 3840, by omega⟩).trans ?_
        by_cases hj : d.val - 3840 ≤ r.val
        · refine (if_pos hj).trans ?_
          refine (Planes.load _ _ 0 1 3840 256 _ _ _ _ _ _ _ _ r ⟨d.val - 3840, by omega⟩ (by show 3840 + (d.val - 3840) < 4096; omega)).trans ?_
          rw [show (⟨3840 + (d.val - 3840), by omega⟩ : Fin 4096) = ⟨0 + d.val, by omega⟩ from Fin.ext (by show 3840 + (d.val - 3840) = 0 + d.val; omega)]
          refine (Planes.store_miss _ 0 1 1 0 (by decide) 3584 256 _ _ _ _ _ _ _ _ _ _).trans ?_
          refine (Planes.store_miss _ 0 1 0 0 (by decide) 3584 256 _ _ _ _ _ _ _ _ _ _).trans ?_
          refine (Planes.store_miss _ 0 1 1 1 (by decide) 0 4096 _ _ _ _ _ _ _ _ _ _).trans ?_
          refine (Planes.store_hit _ 0 1 0 4096 _ _ _ _ _ _ _ _ _ r d (by omega)).trans ?_
          exact (Chain.scoresAt _ _ _ _ r d (fun l => x0 (ix4 0 0 ⟨1792 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (1792 + r.val); omega)).symm
        · exact ((if_neg hj).trans (show _ = (⊥ : EReal) from rfl)).trans ((if_neg (by show ¬ d.val ≤ 2048 + (1792 + r.val); omega)).symm)
    · unfold kernelRun0_A.sl.r_21 k0_pay89
      dsimp only
      refine Chain.rowMax (W := 4096) reduces_S256x4096_S256 (.inl rfl) rfl shapeCasts_S256_S256x1 _ _ rfl (fun c' => Chain.score x0 x2 ⟨1792 + r.val, by omega⟩ (c'.castLE (by decide))) r (fun d => ?_)
      refine (Planes.load _ _ 0 1 0 4096 _ _ _ _ _ _ _ _ r d (by omega)).trans ?_
      by_cases hd : d.val < 3840
      · refine (Planes.store_before _ 0 1 0 1 3840 256 _ _ _ _ _ _ _ _ r _ (by show 0 + d.val < 3840; omega)).trans ?_
        refine (Planes.store_miss _ 0 1 1 0 (by decide) 3584 256 _ _ _ _ _ _ _ _ _ _).trans ?_
        refine (Planes.store_miss _ 0 1 0 0 (by decide) 3584 256 _ _ _ _ _ _ _ _ _ _).trans ?_
        refine (Planes.store_miss _ 0 1 1 1 (by decide) 0 4096 _ _ _ _ _ _ _ _ _ _).trans ?_
        refine (Planes.store_hit _ 0 1 0 4096 _ _ _ _ _ _ _ _ _ r d (by omega)).trans ?_
        exact (Chain.scoresAt _ _ _ _ r d (fun l => x0 (ix4 0 0 ⟨1792 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ 2048 + (1792 + r.val); omega)).symm
      · rw [show (⟨0 + d.val, by omega⟩ : Fin 4096) = ⟨3840 + (d.val - 3840), by omega⟩ from Fin.ext (by show 0 + d.val = 3840 + (d.val - 3840); omega)]
        refine (Planes.store_hit _ 0 1 3840 256 _ _ _ _ _ _ _ _ _ r ⟨d.val - 3840, by omega⟩ (by show 3840 + (d.val - 3840) < 4096; omega)).trans ?_
        refine (Chain.triangle _ _ _ _ _ r ⟨d.val - 3840, by omega⟩).trans ?_
        by_cases hj : d.val - 3840 ≤ r.val
        · refine (if_pos hj).trans ?_
          refine (Planes.load _ _ 0 1 3840 256 _ _ _ _ _ _ _ _ r ⟨d.val - 3840, by omega⟩ (by show 3840 + (d.val - 3840) < 4096; omega)).trans ?_
          rw [show (⟨3840 + (d.val - 3840), by omega⟩ : Fin 4096) = ⟨0 + d.val, by omega⟩ from Fin.ext (by show 3840 + (d.val - 3840) = 0 + d.val; omega)]
          refine (Planes.store_miss _ 0 1 1 0 (by decide) 3584 256 _ _ _ _ _ _ _ _ _ _).trans ?_
          refine (Planes.store_miss _ 0 1 0 0 (by decide) 3584 256 _ _ _ _ _ _ _ _ _ _).trans ?_
          refine (Planes.store_miss _ 0 1 1 1 (by decide) 0 4096 _ _ _ _ _ _ _ _ _ _).trans ?_
          refine (Planes.store_hit _ 0 1 0 4096 _ _ _ _ _ _ _ _ _ r d (by omega)).trans ?_
          exact (Chain.scoresAt _ _ _ _ r d (fun l => x0 (ix4 0 0 ⟨1792 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ 2048 + (1792 + r.val); omega)).symm
        · exact ((if_neg hj).trans (show _ = (⊥ : EReal) from rfl)).trans ((if_neg (by show ¬ d.val ≤ 2048 + (1792 + r.val); omega)).symm)

/-- Query rows 1792 … 2047 of head 1: the mix of the first 4096 keys' values. -/
theorem acc_7_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x4096x256 .bf16) (harg4 : arg4.IsWhole) (arg6 : Memref sig .tc .vmem S1x1x4096x128 .bf16)
    (harg6 : arg6.IsWhole) (arg9 : Memref sig .tc .vmem S2x2x256x4096 .f32) (arg10 : Memref sig .tc .vmem S2x2x256x4096 .bf16)
    (x0 x1 : Vec Ideal S1x1x2048x256 .bf16) (x2 : Vec Ideal S1x1x4096x256 .bf16) (x4 : Vec Ideal S1x1x4096x128 .bf16) (r : Fin 256) (lane : Fin 128) :
    kernelRun0_A.sl.v735 (F := Ideal) c arg2 harg2 arg3 harg3 arg4 harg4 arg6 harg6 arg9 arg10 x0 x1 x2 x4 (ix2 r lane)
      = Chain.acc 4096 (by decide) x1 x2 x4 ⟨1792 + r.val, by omega⟩ lane := by
  refine Chain.accAt (W := 4096) (by decide) _ _ _ r lane x1 x2 x4 ⟨1792 + r.val, by omega⟩ (fun d => ?_)
    (fun d => Chain.rowsAt harg6 x4 _ _ d lane (d.castLE (by decide)) (Nat.zero_add d.val).symm)
  · refine (Planes.load _ _ 1 1 0 4096 _ _ _ _ _ _ _ _ r d (by omega)).trans ?_
    rw [zero_add_mk]
    refine (Planes.box_hit _ 1 1 4096 _ _ r d (by omega)).trans ?_
    refine (Chain.expo _ _ _ _ _ _ r d).trans (congrArg Ideal.exp2 (congrArg₂ (· - ·) ?_ ?_))
    · refine (Planes.load _ _ 1 1 0 4096 _ _ _ _ _ _ _ _ r d (by omega)).trans ?_
      by_cases hd : d.val < 3840
      · refine (Planes.store_before _ 1 1 1 1 3840 256 _ _ _ _ _ _ _ _ r _ (by show 0 + d.val < 3840; omega)).trans ?_
        refine (Planes.store_miss _ 1 1 0 1 (by decide) 3840 256 _ _ _ _ _ _ _ _ _ _).trans ?_
        refine (Planes.store_miss _ 1 1 1 0 (by decide) 3584 256 _ _ _ _ _ _ _ _ _ _).trans ?_
        refine (Planes.store_miss _ 1 1 0 0 (by decide) 3584 256 _ _ _ _ _ _ _ _ _ _).trans ?_
        refine (Planes.store_hit _ 1 1 0 4096 _ _ _ _ _ _ _ _ _ r d (by omega)).trans ?_
        exact (Chain.scoresAt _ _ _ _ r d (fun l => x1 (ix4 0 0 ⟨1792 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (1792 + r.val); omega)).symm
      · rw [show (⟨0 + d.val, by omega⟩ : Fin 4096) = ⟨3840 + (d.val - 3840), by omega⟩ from Fin.ext (by show 0 + d.val = 3840 + (d.val - 3840); omega)]
        refine (Planes.store_hit _ 1 1 3840 256 _ _ _ _ _ _ _ _ _ r ⟨d.val - 3840, by omega⟩ (by show 3840 + (d.val - 3840) < 4096; omega)).trans ?_
        refine (Chain.triangle _ _ _ _ _ r ⟨d.val - 3840, by omega⟩).trans ?_
        by_cases hj : d.val - 3840 ≤ r.val
        · refine (if_pos hj).trans ?_
          refine (Planes.load _ _ 1 1 3840 256 _ _ _ _ _ _ _ _ r ⟨d.val - 3840, by omega⟩ (by show 3840 + (d.val - 3840) < 4096; omega)).trans ?_
          rw [show (⟨3840 + (d.val - 3840), by omega⟩ : Fin 4096) = ⟨0 + d.val, by omega⟩ from Fin.ext (by show 3840 + (d.val - 3840) = 0 + d.val; omega)]
          refine (Planes.store_miss _ 1 1 0 1 (by decide) 3840 256 _ _ _ _ _ _ _ _ _ _).trans ?_
          refine (Planes.store_miss _ 1 1 1 0 (by decide) 3584 256 _ _ _ _ _ _ _ _ _ _).trans ?_
          refine (Planes.store_miss _ 1 1 0 0 (by decide) 3584 256 _ _ _ _ _ _ _ _ _ _).trans ?_
          refine (Planes.store_hit _ 1 1 0 4096 _ _ _ _ _ _ _ _ _ r d (by omega)).trans ?_
          exact (Chain.scoresAt _ _ _ _ r d (fun l => x1 (ix4 0 0 ⟨1792 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (1792 + r.val); omega)).symm
        · exact ((if_neg hj).trans (show _ = (⊥ : EReal) from rfl)).trans ((if_neg (by show ¬ d.val ≤ 2048 + (1792 + r.val); omega)).symm)
    · unfold kernelRun0_A.sl.r_22 k0_pay91
      dsimp only
      refine Chain.rowMax (W := 4096) reduces_S256x4096_S256 (.inl rfl) rfl shapeCasts_S256_S256x1 _ _ rfl (fun c' => Chain.score x1 x2 ⟨1792 + r.val, by omega⟩ (c'.castLE (by decide))) r (fun d => ?_)
      refine (Planes.load _ _ 1 1 0 4096 _ _ _ _ _ _ _ _ r d (by omega)).trans ?_
      by_cases hd : d.val < 3840
      · refine (Planes.store_before _ 1 1 1 1 3840 256 _ _ _ _ _ _ _ _ r _ (by show 0 + d.val < 3840; omega)).trans ?_
        refine (Planes.store_miss _ 1 1 0 1 (by decide) 3840 256 _ _ _ _ _ _ _ _ _ _).trans ?_
        refine (Planes.store_miss _ 1 1 1 0 (by decide) 3584 256 _ _ _ _ _ _ _ _ _ _).trans ?_
        refine (Planes.store_miss _ 1 1 0 0 (by decide) 3584 256 _ _ _ _ _ _ _ _ _ _).trans ?_
        refine (Planes.store_hit _ 1 1 0 4096 _ _ _ _ _ _ _ _ _ r d (by omega)).trans ?_
        exact (Chain.scoresAt _ _ _ _ r d (fun l => x1 (ix4 0 0 ⟨1792 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ 2048 + (1792 + r.val); omega)).symm
      · rw [show (⟨0 + d.val, by omega⟩ : Fin 4096) = ⟨3840 + (d.val - 3840), by omega⟩ from Fin.ext (by show 0 + d.val = 3840 + (d.val - 3840); omega)]
        refine (Planes.store_hit _ 1 1 3840 256 _ _ _ _ _ _ _ _ _ r ⟨d.val - 3840, by omega⟩ (by show 3840 + (d.val - 3840) < 4096; omega)).trans ?_
        refine (Chain.triangle _ _ _ _ _ r ⟨d.val - 3840, by omega⟩).trans ?_
        by_cases hj : d.val - 3840 ≤ r.val
        · refine (if_pos hj).trans ?_
          refine (Planes.load _ _ 1 1 3840 256 _ _ _ _ _ _ _ _ r ⟨d.val - 3840, by omega⟩ (by show 3840 + (d.val - 3840) < 4096; omega)).trans ?_
          rw [show (⟨3840 + (d.val - 3840), by omega⟩ : Fin 4096) = ⟨0 + d.val, by omega⟩ from Fin.ext (by show 3840 + (d.val - 3840) = 0 + d.val; omega)]
          refine (Planes.store_miss _ 1 1 0 1 (by decide) 3840 256 _ _ _ _ _ _ _ _ _ _).trans ?_
          refine (Planes.store_miss _ 1 1 1 0 (by decide) 3584 256 _ _ _ _ _ _ _ _ _ _).trans ?_
          refine (Planes.store_miss _ 1 1 0 0 (by decide) 3584 256 _ _ _ _ _ _ _ _ _ _).trans ?_
          refine (Planes.store_hit _ 1 1 0 4096 _ _ _ _ _ _ _ _ _ r d (by omega)).trans ?_
          exact (Chain.scoresAt _ _ _ _ r d (fun l => x1 (ix4 0 0 ⟨1792 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ 2048 + (1792 + r.val); omega)).symm
        · exact ((if_neg hj).trans (show _ = (⊥ : EReal) from rfl)).trans ((if_neg (by show ¬ d.val ≤ 2048 + (1792 + r.val); omega)).symm)

end Cert.Chains
end
-- ==== Proof.Block.lean ====
/-
  What the kernel's body leaves in the output's block: every row's joined and normalised mix.
-/
module

public import proofs.«01_k».proof.Proof.Chains

@[expose] public section

set_option maxRecDepth 16384

noncomputable section

namespace Cert.Chains

open Idealize.ShloMosaic Cert.KernelIdeal Cert.KernelIdeal.Gen

/-- The block as a function of the operands' blocks. -/
def blockVal (x0 x1 : Vec Ideal S1x1x2048x256 .bf16) (x2 : Vec Ideal S1x1x4096x256 .bf16) (x3 x4 : Vec Ideal S1x1x4096x128 .bf16)
    (g : Fin 2048) (lane : Fin 128) : EReal :=
  Chain.merge (Chain.acc 4096 le_rfl x0 x2 x3 g) (Chain.acc 4096 le_rfl x1 x2 x4 g) lane

/-- One stored piece of the block. -/
theorem piece {q : ℕ} (hq : q + 256 ≤ 2048) (W : ℕ) (hW : W ≤ 4096) (hqW : 2048 + q + 256 ≤ W) (inb i rot sc) (A B : FVec Ideal S256x128 .f32)
    (x0 x1 : Vec Ideal S1x1x2048x256 .bf16) (x2 : Vec Ideal S1x1x4096x256 .bf16) (x3 x4 : Vec Ideal S1x1x4096x128 .bf16)
    (hA : ∀ (r : Fin 256) (l : Fin 128), A (ix2 r l) = Chain.acc W hW x0 x2 x3 ⟨q + r.val, by omega⟩ l)
    (hB : ∀ (r : Fin 256) (l : Fin 128), B (ix2 r l) = Chain.acc W hW x1 x2 x4 ⟨q + r.val, by omega⟩ l)
    (x : S1x256x128.Idx) :
    shapeCast (⟨3, ![1, 256, 128]⟩ : Shape) (divf
      (select (cmpi .slt (iota .tc (⟨2, ![256, 128]⟩ : Shape) 32 [1] i) (broadcast (⟨2, ![256, 128]⟩ : Shape) 64#32)) A B)
      (dynamicRotate 1 64#32 none
        (select (cmpi .slt (iota .tc (⟨2, ![256, 128]⟩ : Shape) 32 [1] i) (broadcast (⟨2, ![256, 128]⟩ : Shape) 64#32)) B A) rot)) sc x
      = (fun y : S1x2048x128.Idx => blockVal x0 x1 x2 x3 x4 (y 1) (y 2))
        ((Rect.unit (s := S1x2048x128) ![0, q, 0] S1x256x128.size inb).emb x) := by
  obtain ⟨u, r, l, rfl⟩ : ∃ (u : Fin 1) (r : Fin 256) (l : Fin 128), x = ix3 u r l := ⟨x 0, x 1, x 2, (eq_ix3 x)⟩
  obtain rfl : u = 0 := Subsingleton.elim _ _
  refine (Chain.mergeAt i rot sc A B _ _ hA hB r l).trans ?_
  have hl : ((Rect.unit (s := S1x2048x128) ![0, q, 0] S1x256x128.size inb).emb (ix3 0 r l) 2 : Fin 128) = l :=
    Fin.ext (show 0 + 1 * l.val = l.val by omega)
  have hr : ((Rect.unit (s := S1x2048x128) ![0, q, 0] S1x256x128.size inb).emb (ix3 0 r l) 1 : Fin 2048) = (⟨q + r.val, by omega⟩ : Fin 2048) :=
    Fin.ext (show q + 1 * r.val = q + r.val by omega)
  show _ = blockVal x0 x1 x2 x3 x4 ((Rect.unit (s := S1x2048x128) ![0, q, 0] S1x256x128.size inb).emb (ix3 0 r l) 1 : Fin 2048)
    ((Rect.unit (s := S1x2048x128) ![0, q, 0] S1x256x128.size inb).emb (ix3 0 r l) 2 : Fin 128)
  rw [hl, hr]
  unfold blockVal
  congr 1
  · funext l'; exact Chain.acc_all W hW x0 x2 x3 _ (by show 2048 + (q + r.val) < W; omega) l'
  · funext l'; exact Chain.acc_all W hW x1 x2 x4 _ (by show 2048 + (q + r.val) < W; omega) l'

theorem block_eq (c : Dev nD) (i : grid0.Coords) (arg2 : Memref sig .tc .vmem S1x1x2048x256 .bf16) (harg2 : arg2.IsWhole)
    (arg3 : Memref sig .tc .vmem S1x1x2048x256 .bf16) (harg3 : arg3.IsWhole)
    (arg4 : Memref sig .tc .vmem S1x1x4096x256 .bf16) (harg4 : arg4.IsWhole)
    (arg5 : Memref sig .tc .vmem S1x1x4096x128 .bf16) (harg5 : arg5.IsWhole)
    (arg6 : Memref sig .tc .vmem S1x1x4096x128 .bf16) (harg6 : arg6.IsWhole)
    (arg8 : Memref sig .tc .vmem S1x2048x128 .f32) (harg8 : arg8.IsWhole)
    (arg9 : Memref sig .tc .vmem S2x2x256x4096 .f32) (harg9 : arg9.IsWhole)
    (arg10 : Memref sig .tc .vmem S2x2x256x4096 .bf16) (harg10 : arg10.IsWhole)
    (x0 x1 : Vec Ideal S1x1x2048x256 .bf16) (x2 : Vec Ideal S1x1x4096x256 .bf16) (x3 x4 : Vec Ideal S1x1x4096x128 .bf16) (y : S1x2048x128.Idx) :
    out0_A_5 (F := Ideal) c i arg2 harg2 arg3 harg3 arg4 harg4 arg5 harg5 arg6 harg6 arg8 harg8 arg9 harg9 arg10 harg10 x0 x1 x2 x3 x4 y = blockVal x0 x1 x2 x3 x4 (y 1) (y 2) := by
  have hc := cover0_A_5 (F := Ideal) c i arg2 harg2 arg3 harg3 arg4 harg4 arg5 harg5 arg6 harg6 arg8 harg8 arg9 harg9 arg10 harg10 x0 x1 x2 x3 x4 y
  unfold out0_A_5
  rw [View.read_writes_eq_canon _ _ _ (cover0_A_5 (F := Ideal) c i arg2 harg2 arg3 harg3 arg4 harg4 arg5 harg5 arg6 harg6 arg8 harg8 arg9 harg9 arg10 harg10 x0 x1 x2 x3 x4)]
  refine View.canon_apply_of_pieces (fun y : S1x2048x128.Idx => blockVal x0 x1 x2 x3 x4 (y 1) (y 2)) _ ?_ y hc
  unfold kernelRun0_A
  dsimp only
  intro p hp
  simp only [List.mem_cons, List.not_mem_nil, or_false] at hp
  rcases hp with rfl | rfl | rfl | rfl | rfl | rfl | rfl | rfl
  · exact piece (q := 1792) (by decide) 4096 (by decide) (by decide) inb_S1x2048x128_S1x256x128_0_1792_0 _ _ _ _ _ x0 x1 x2 x3 x4
      (acc_7_0 c arg2 harg2 arg3 harg3 arg4 harg4 arg5 harg5 arg9 arg10 x0 x1 x2 x3)
      (acc_7_1 c arg2 harg2 arg3 harg3 arg4 harg4 arg6 harg6 arg9 arg10 x0 x1 x2 x4)
  · exact piece (q := 1536) (by decide) 3840 (by decide) (by decide) inb_S1x2048x128_S1x256x128_0_1536_0 _ _ _ _ _ x0 x1 x2 x3 x4
      (acc_6_0 c arg2 harg2 arg3 harg3 arg4 harg4 arg5 harg5 arg9 arg10 x0 x1 x2 x3)
      (acc_6_1 c arg2 harg2 arg3 harg3 arg4 harg4 arg6 harg6 arg9 arg10 x0 x1 x2 x4)
  · exact piece (q := 1280) (by decide) 3584 (by decide) (by decide) inb_S1x2048x128_S1x256x128_0_1280_0 _ _ _ _ _ x0 x1 x2 x3 x4
      (acc_5_0 c arg2 harg2 arg3 harg3 arg4 harg4 arg5 harg5 arg9 arg10 x0 x1 x2 x3)
      (acc_5_1 c arg2 harg2 arg3 harg3 arg4 harg4 arg6 harg6 arg9 arg10 x0 x1 x2 x4)
  · exact piece (q := 1024) (by decide) 3328 (by decide) (by decide) inb_S1x2048x128_S1x256x128_0_1024_0 _ _ _ _ _ x0 x1 x2 x3 x4
      (acc_4_0 c arg2 harg2 arg3 harg3 arg4 harg4 arg5 harg5 arg9 arg10 x0 x1 x2 x3)
      (acc_4_1 c arg2 harg2 arg3 harg3 arg4 harg4 arg6 harg6 arg9 arg10 x0 x1 x2 x4)
  · exact piece (q := 768) (by decide) 3072 (by decide) (by decide) inb_S1x2048x128_S1x256x128_0_768_0 _ _ _ _ _ x0 x1 x2 x3 x4
      (acc_3_0 c arg2 harg2 arg3 harg3 arg4 harg4 arg5 harg5 arg9 arg10 x0 x1 x2 x3)
      (acc_3_1 c arg2 harg2 arg3 harg3 arg4 harg4 arg6 harg6 arg9 arg10 x0 x1 x2 x4)
  · exact piece (q := 512) (by decide) 2816 (by decide) (by decide) inb_S1x2048x128_S1x256x128_0_512_0 _ _ _ _ _ x0 x1 x2 x3 x4
      (acc_2_0 c arg2 harg2 arg3 harg3 arg4 harg4 arg5 harg5 arg9 arg10 x0 x1 x2 x3)
      (acc_2_1 c arg2 harg2 arg3 harg3 arg4 harg4 arg6 harg6 arg9 arg10 x0 x1 x2 x4)
  · exact piece (q := 256) (by decide) 2560 (by decide) (by decide) inb_S1x2048x128_S1x256x128_0_256_0 _ _ _ _ _ x0 x1 x2 x3 x4
      (acc_1_0 c arg2 harg2 arg3 harg3 arg4 harg4 arg5 harg5 arg9 arg10 x0 x1 x2 x3)
      (acc_1_1 c arg2 harg2 arg3 harg3 arg4 harg4 arg6 harg6 arg9 arg10 x0 x1 x2 x4)
  · exact piece (q := 0) (by decide) 2304 (by decide) (by decide) inb_S1x2048x128_S1x256x128_0_0_0 _ _ _ _ _ x0 x1 x2 x3 x4
      (acc_0_0 c arg2 harg2 arg3 harg3 arg4 harg4 arg5 harg5 arg9 arg10 x0 x1 x2 x3)
      (acc_0_1 c arg2 harg2 arg3 harg3 arg4 harg4 arg6 harg6 arg9 arg10 x0 x1 x2 x4)

end Cert.Chains
end
-- ==== Proof.Array.lean ====
/-
  The kernel's output array: the rows before 2048 are the ones handed in, the others the joined mixes over the arrays.
-/
module

public import proofs.«01_k».proof.Proof.Block
public import Idealize.ShloMosaic.Lib.Pipeline.ValueKit

@[expose] public section

set_option maxRecDepth 16384

noncomputable section

namespace Cert.Chains

open Idealize.ShloMosaic Idealize.ShloMosaic.TcCoe Cert.KernelIdeal Cert.KernelIdeal.Gen

variable (m : (ℓ : Loc nD τ sig) → Buf (Elt Ideal) ℓ)

theorem index0 : ∀ t : Fin cfg0.N, win0_0.index t = ![(grid0.coords t 0).val, (grid0.coords t 1).val, 1, 0] :=
  (by decide +kernel : ∀ t : Fin grid0.N, win0_0.index t = ![(grid0.coords t 0).val, (grid0.coords t 1).val, 1, 0])
theorem index1 : ∀ t : Fin cfg0.N, win0_1.index t = ![(grid0.coords t 0).val, (grid0.coords t 1).val, 1, 0] :=
  (by decide +kernel : ∀ t : Fin grid0.N, win0_1.index t = ![(grid0.coords t 0).val, (grid0.coords t 1).val, 1, 0])
theorem index2 : ∀ t : Fin cfg0.N, win0_2.index t = ![(grid0.coords t 0).val, (grid0.coords t 1).val, 0, 0] :=
  (by decide +kernel : ∀ t : Fin grid0.N, win0_2.index t = ![(grid0.coords t 0).val, (grid0.coords t 1).val, 0, 0])
theorem index3 : ∀ t : Fin cfg0.N, win0_3.index t = ![(grid0.coords t 0).val, (grid0.coords t 1).val, 0, 0] :=
  (by decide +kernel : ∀ t : Fin grid0.N, win0_3.index t = ![(grid0.coords t 0).val, (grid0.coords t 1).val, 0, 0])
theorem index4 : ∀ t : Fin cfg0.N, win0_4.index t = ![(grid0.coords t 0).val, (grid0.coords t 1).val, 0, 0] :=
  (by decide +kernel : ∀ t : Fin grid0.N, win0_4.index t = ![(grid0.coords t 0).val, (grid0.coords t 1).val, 0, 0])
theorem index5 : ∀ t : Fin cfg0.N, win0_5.index t = ![(grid0.coords t 0).val, 1, (grid0.coords t 1).val] :=
  (by decide +kernel : ∀ t : Fin grid0.N, win0_5.index t = ![(grid0.coords t 0).val, 1, (grid0.coords t 1).val])

/-- The array handed in is where the region's output starts from. -/
theorem V_main_v0 (c : Dev nD) : V m c main_v0 = m ((c : Thread nD τ).loc main_arg5) := by
  simp [V, hostOps0, StableHlo.after]
  exact StableHlo.unary_result main_arg5 main_v0 id _ _ (fun b => m (c, b))

theorem point (b p : Fin 8) : ∃ t : Fin cfg0.N, (grid0.coords t 0).val = b.val ∧ (grid0.coords t 1).val = p.val :=
  (by decide +kernel : ∀ b p : Fin 8, ∃ t : Fin grid0.N, (grid0.coords t 0).val = b.val ∧ (grid0.coords t 1).val = p.val) b p

/-- Row `2048 + g` of batch `b`, lane `lane` of pair `p`, from the arrays. -/
def outVal (q0 q1 k : S8x8x4096x256.Idx → EReal) (v0 v1 : S8x8x4096x128.Idx → EReal) (b p : Fin 8) (g : Fin 2048) (lane : Fin 128) : EReal :=
  blockVal (fun y => q0 (ix4 b p (Fin.natAdd 2048 (y 2 : Fin 2048) : Fin 4096) (y 3 : Fin 256)))
    (fun y => q1 (ix4 b p (Fin.natAdd 2048 (y 2 : Fin 2048) : Fin 4096) (y 3 : Fin 256)))
    (fun y => k (ix4 b p (y 2 : Fin 4096) (y 3 : Fin 256))) (fun y => v0 (ix4 b p (y 2 : Fin 4096) (y 3 : Fin 128)))
    (fun y => v1 (ix4 b p (y 2 : Fin 4096) (y 3 : Fin 128))) g lane

/-- The rows from 2048 on. -/
theorem late (c : Dev nD) (b p : Fin 8) (g : Fin 2048) (lane : Fin 128) :
    (dats m 0 c).arrAt 5 cfg0.N (ix3 b ⟨2048 + g.val, by omega⟩ ⟨128 * p.val + lane.val, by omega⟩)
      = outVal (m ((c : Thread nD τ).loc main_arg0)) (m ((c : Thread nD τ).loc main_arg1)) (m ((c : Thread nD τ).loc main_arg2))
          (m ((c : Thread nD τ).loc main_arg3)) (m ((c : Thread nD τ).loc main_arg4)) b p g lane := by
  obtain ⟨t, hb, hp⟩ := point b p
  have h := congrFun (Value.blocks5 m c t (flush0_5 t)) (ix3 0 g lane)
  blk_simp at h
  rw [after0_5] at h
  have he : (win0_5.blk t).view.emb (ix3 0 g lane) = (ix3 b ⟨2048 + g.val, by omega⟩ ⟨128 * p.val + lane.val, by omega⟩ : S8x4096x1024.Idx) := by
    funext a
    apply Fin.ext
    fin_cases a
    · show win0_5.index t 0 * 1 + 1 * 0 = b.val
      rw [index5]
      show (grid0.coords t 0).val * 1 + 1 * 0 = b.val
      omega
    · show win0_5.index t 1 * 2048 + 1 * g.val = 2048 + g.val
      rw [index5]
      show 1 * 2048 + 1 * g.val = 2048 + g.val
      omega
    · show win0_5.index t 2 * 128 + 1 * lane.val = 128 * p.val + lane.val
      rw [index5]
      show (grid0.coords t 1).val * 128 + 1 * lane.val = 128 * p.val + lane.val
      omega
  rw [he] at h
  refine h.trans ?_
  unfold outsAt0
  rw [block_eq]
  show blockVal _ _ _ _ _ g lane = _
  unfold outVal
  have e0 : iblk m c 0 t = fun y => m ((c : Thread nD τ).loc main_arg0) (ix4 b p (Fin.natAdd 2048 (y 2 : Fin 2048) : Fin 4096) (y 3 : Fin 256)) := by
    funext y
    refine (congrFun (V_main_arg0 m c) ((win0_0.blk t).view.emb y)).trans (congrArg (m ((c : Thread nD τ).loc main_arg0)) ?_)
    have y0 : (y 0 : Fin 1).val = 0 := Nat.lt_one_iff.mp (y 0 : Fin 1).isLt
    have y1 : (y 1 : Fin 1).val = 0 := Nat.lt_one_iff.mp (y 1 : Fin 1).isLt
    funext a
    apply Fin.ext
    fin_cases a
    · show win0_0.index t 0 * 1 + 1 * (y 0 : Fin 1).val = b.val
      rw [index0, y0]
      show (grid0.coords t 0).val * 1 + 1 * 0 = b.val
      omega
    · show win0_0.index t 1 * 1 + 1 * (y 1 : Fin 1).val = p.val
      rw [index0, y1]
      show (grid0.coords t 1).val * 1 + 1 * 0 = p.val
      omega
    · show win0_0.index t 2 * 2048 + 1 * (y 2 : Fin 2048).val = 2048 + (y 2 : Fin 2048).val
      rw [index0]
      show 1 * 2048 + 1 * (y 2 : Fin 2048).val = 2048 + (y 2 : Fin 2048).val
      omega
    · show win0_0.index t 3 * 256 + 1 * (y 3 : Fin 256).val = (y 3 : Fin 256).val
      rw [index0]
      show 0 * 256 + 1 * (y 3 : Fin 256).val = (y 3 : Fin 256).val
      omega
  have e1 : iblk m c 1 t = fun y => m ((c : Thread nD τ).loc main_arg1) (ix4 b p (Fin.natAdd 2048 (y 2 : Fin 2048) : Fin 4096) (y 3 : Fin 256)) := by
    funext y
    refine (congrFun (V_main_arg1 m c) ((win0_1.blk t).view.emb y)).trans (congrArg (m ((c : Thread nD τ).loc main_arg1)) ?_)
    have y0 : (y 0 : Fin 1).val = 0 := Nat.lt_one_iff.mp (y 0 : Fin 1).isLt
    have y1 : (y 1 : Fin 1).val = 0 := Nat.lt_one_iff.mp (y 1 : Fin 1).isLt
    funext a
    apply Fin.ext
    fin_cases a
    · show win0_1.index t 0 * 1 + 1 * (y 0 : Fin 1).val = b.val
      rw [index1, y0]
      show (grid0.coords t 0).val * 1 + 1 * 0 = b.val
      omega
    · show win0_1.index t 1 * 1 + 1 * (y 1 : Fin 1).val = p.val
      rw [index1, y1]
      show (grid0.coords t 1).val * 1 + 1 * 0 = p.val
      omega
    · show win0_1.index t 2 * 2048 + 1 * (y 2 : Fin 2048).val = 2048 + (y 2 : Fin 2048).val
      rw [index1]
      show 1 * 2048 + 1 * (y 2 : Fin 2048).val = 2048 + (y 2 : Fin 2048).val
      omega
    · show win0_1.index t 3 * 256 + 1 * (y 3 : Fin 256).val = (y 3 : Fin 256).val
      rw [index1]
      show 0 * 256 + 1 * (y 3 : Fin 256).val = (y 3 : Fin 256).val
      omega
  have e2 : iblk m c 2 t = fun y => m ((c : Thread nD τ).loc main_arg2) (ix4 b p (y 2 : Fin 4096) (y 3 : Fin 256)) := by
    funext y
    refine (congrFun (V_main_arg2 m c) ((win0_2.blk t).view.emb y)).trans (congrArg (m ((c : Thread nD τ).loc main_arg2)) ?_)
    have y0 : (y 0 : Fin 1).val = 0 := Nat.lt_one_iff.mp (y 0 : Fin 1).isLt
    have y1 : (y 1 : Fin 1).val = 0 := Nat.lt_one_iff.mp (y 1 : Fin 1).isLt
    funext a
    apply Fin.ext
    fin_cases a
    · show win0_2.index t 0 * 1 + 1 * (y 0 : Fin 1).val = b.val
      rw [index2, y0]
      show (grid0.coords t 0).val * 1 + 1 * 0 = b.val
      omega
    · show win0_2.index t 1 * 1 + 1 * (y 1 : Fin 1).val = p.val
      rw [index2, y1]
      show (grid0.coords t 1).val * 1 + 1 * 0 = p.val
      omega
    · show win0_2.index t 2 * 4096 + 1 * (y 2 : Fin 4096).val = (y 2 : Fin 4096).val
      rw [index2]
      show 0 * 4096 + 1 * (y 2 : Fin 4096).val = (y 2 : Fin 4096).val
      omega
    · show win0_2.index t 3 * 256 + 1 * (y 3 : Fin 256).val = (y 3 : Fin 256).val
      rw [index2]
      show 0 * 256 + 1 * (y 3 : Fin 256).val = (y 3 : Fin 256).val
      omega
  have e3 : iblk m c 3 t = fun y => m ((c : Thread nD τ).loc main_arg3) (ix4 b p (y 2 : Fin 4096) (y 3 : Fin 128)) := by
    funext y
    refine (congrFun (V_main_arg3 m c) ((win0_3.blk t).view.emb y)).trans (congrArg (m ((c : Thread nD τ).loc main_arg3)) ?_)
    have y0 : (y 0 : Fin 1).val = 0 := Nat.lt_one_iff.mp (y 0 : Fin 1).isLt
    have y1 : (y 1 : Fin 1).val = 0 := Nat.lt_one_iff.mp (y 1 : Fin 1).isLt
    funext a
    apply Fin.ext
    fin_cases a
    · show win0_3.index t 0 * 1 + 1 * (y 0 : Fin 1).val = b.val
      rw [index3, y0]
      show (grid0.coords t 0).val * 1 + 1 * 0 = b.val
      omega
    · show win0_3.index t 1 * 1 + 1 * (y 1 : Fin 1).val = p.val
      rw [index3, y1]
      show (grid0.coords t 1).val * 1 + 1 * 0 = p.val
      omega
    · show win0_3.index t 2 * 4096 + 1 * (y 2 : Fin 4096).val = (y 2 : Fin 4096).val
      rw [index3]
      show 0 * 4096 + 1 * (y 2 : Fin 4096).val = (y 2 : Fin 4096).val
      omega
    · show win0_3.index t 3 * 128 + 1 * (y 3 : Fin 128).val = (y 3 : Fin 128).val
      rw [index3]
      show 0 * 128 + 1 * (y 3 : Fin 128).val = (y 3 : Fin 128).val
      omega
  have e4 : iblk m c 4 t = fun y => m ((c : Thread nD τ).loc main_arg4) (ix4 b p (y 2 : Fin 4096) (y 3 : Fin 128)) := by
    funext y
    refine (congrFun (V_main_arg4 m c) ((win0_4.blk t).view.emb y)).trans (congrArg (m ((c : Thread nD τ).loc main_arg4)) ?_)
    have y0 : (y 0 : Fin 1).val = 0 := Nat.lt_one_iff.mp (y 0 : Fin 1).isLt
    have y1 : (y 1 : Fin 1).val = 0 := Nat.lt_one_iff.mp (y 1 : Fin 1).isLt
    funext a
    apply Fin.ext
    fin_cases a
    · show win0_4.index t 0 * 1 + 1 * (y 0 : Fin 1).val = b.val
      rw [index4, y0]
      show (grid0.coords t 0).val * 1 + 1 * 0 = b.val
      omega
    · show win0_4.index t 1 * 1 + 1 * (y 1 : Fin 1).val = p.val
      rw [index4, y1]
      show (grid0.coords t 1).val * 1 + 1 * 0 = p.val
      omega
    · show win0_4.index t 2 * 4096 + 1 * (y 2 : Fin 4096).val = (y 2 : Fin 4096).val
      rw [index4]
      show 0 * 4096 + 1 * (y 2 : Fin 4096).val = (y 2 : Fin 4096).val
      omega
    · show win0_4.index t 3 * 128 + 1 * (y 3 : Fin 128).val = (y 3 : Fin 128).val
      rw [index4]
      show 0 * 128 + 1 * (y 3 : Fin 128).val = (y 3 : Fin 128).val
      omega
  rw [e0, e1, e2, e3, e4]
  rfl

/-- The rows before. -/
theorem early (c : Dev nD) (b : Fin 8) (g : Fin 4096) (hg : g.val < 2048) (n : Fin 1024) :
    (dats m 0 c).arrAt 5 cfg0.N (ix3 b g n) = m ((c : Thread nD τ).loc main_arg5) (ix3 b g n) := by
  rw [Value.entry5 m c (ix3 b g n) ?_]
  · exact congrFun (V_main_v0 m c) _
  · intro t _ hm
    mem_blk [index5] at hm
    have : 2048 ≤ g.val := hm.2.1.1
    omega

end Cert.Chains
end
-- ==== Proof.Soft.lean ====
/-
  A row of masked attention over the extended reals: the mix with the powers of two, divided at the end by their sum, is the mix
  with the softmax's weights.
-/
module

public import Idealize.ShloMosaic.PureOps.Ideal.Laws

@[expose] public section

noncomputable section

namespace Cert.Soft

open Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_mul {ι : Type} (s : Finset ι) (f : ι → EReal) (r : EReal) (h0 : 0 ≤ r) (h1 : r ≠ ⊤) : (∑ i ∈ s, f i) * r = ∑ i ∈ s, f i * r := by
  classical
  induction s using Finset.induction_on with
  | empty => simp
  | insert a s ha ih => rw [Finset.sum_insert ha, Finset.sum_insert ha, EReal.right_distrib_of_nonneg_of_ne_top h0 h1, ih]

/-- A sum whose terms vanish off an embedded range and one place more. -/
theorem sum_range {n m : ℕ} (f : Fin n → EReal) (j : Fin m ↪ Fin n) (z : Fin n) (hz : ∀ i, j i ≠ z)
    (h0 : ∀ l, (∀ i, j i ≠ l) → l ≠ z → f l = 0) : ∑ l, f l = ∑ i, f (j i) + f z := by
  classical
  have hn : z ∉ Finset.univ.map j := fun h => by
    obtain ⟨i, _, hi⟩ := Finset.mem_map.mp h
    exact hz i hi
  rw [← Finset.sum_subset (Finset.subset_univ (insert z (Finset.univ.map j))), Finset.sum_insert hn, Finset.sum_map, add_comm]
  intro l _ hl
  refine h0 l (fun i hi => hl (Finset.mem_insert_of_mem (Finset.mem_map.mpr ⟨i, Finset.mem_univ _, hi⟩))) (fun h => hl (h ▸ Finset.mem_insert_self _ _))

theorem exp_two (a : ℝ) : Real.rpow 2 a = Real.exp (a * Real.log 2) := by
  show (2 : ℝ) ^ a = _
  rw [Real.rpow_def_of_pos (by norm_num), mul_comm]

open Classical in
/-- The row's law. -/
theorem row {n : ℕ} (P : Fin n → Prop) (x : Fin n → ℝ) (s t : Fin n → EReal) (hs : ∀ c, s c = if P c then ((x c : ℝ) : EReal) else ⊥)
    (ht : ∀ c, t c = if P c then ((x c : ℝ) : EReal) * ((Real.log 2 : ℝ) : EReal) else ⊥) (c₀ : Fin n) (h₀ : P c₀) (v : Fin n → EReal) :
    Ideal.div (∑ c, Ideal.exp2 (s c - Finset.univ.sup s) * v c) (∑ c, Ideal.exp2 (s c - Finset.univ.sup s))
      = ∑ c, (if P c then Ideal.div (Ideal.exp (t c - Finset.univ.sup t)) (∑ c₁, Ideal.exp (t c₁ - Finset.univ.sup t)) else 0) * v c := by
  obtain ⟨c', _, hc'⟩ := Finset.exists_mem_eq_sup Finset.univ ⟨c₀, Finset.mem_univ _⟩ s
  have hP : P c' := by
    by_contra h
    have h1 : s c₀ ≤ s c' := hc' ▸ Finset.le_sup (f := s) (Finset.mem_univ c₀)
    rw [hs c₀, hs c', if_pos h₀, if_neg h, le_bot_iff] at h1
    exact EReal.coe_ne_bot _ h1
  have hS : Finset.univ.sup s = ((x c' : ℝ) : EReal) := by rw [hc', hs c', if_pos hP]
  have hle : ∀ c, P c → x c ≤ x c' := fun c h => by
    have h1 : s c ≤ Finset.univ.sup s := Finset.le_sup (f := s) (Finset.mem_univ c)
    rw [hS, hs c, if_pos h] at h1
    exact EReal.coe_le_coe_iff.mp h1
  have hT : Finset.univ.sup t = ((x c' * Real.log 2 : ℝ) : EReal) := by
    apply le_antisymm
    · refine Finset.sup_le fun c _ => ?_
      rw [ht c]
      by_cases h : P c
      · rw [if_pos h, ← EReal.coe_mul, EReal.coe_le_coe_iff]
        exact mul_le_mul_of_nonneg_right (hle c h) (Real.log_nonneg (by norm_num))
      · rw [if_neg h]; exact bot_le
    · have h1 : t c' ≤ Finset.univ.sup t := Finset.le_sup (f := t) (Finset.mem_univ c')
      rwa [ht c', if_pos hP, ← EReal.coe_mul] at h1
  let e : Fin n → ℝ := fun c => if P c then Real.rpow 2 (x c - x c') else 0
  have he : ∀ c, Ideal.exp2 (s c - Finset.univ.sup s) = ((e c : ℝ) : EReal) := fun c => by
    rw [hS, hs c]
    by_cases h : P c
    · rw [if_pos h, ← EReal.coe_sub, Ideal.exp2_coe, show e c = Real.rpow 2 (x c - x c') from if_pos h]
    · rw [if_neg h, EReal.bot_sub, Ideal.exp2_bot, show e c = 0 from if_neg h, EReal.coe_zero]
  have hf : ∀ c, Ideal.exp (t c - Finset.univ.sup t) = ((e c : ℝ) : EReal) := fun c => by
    rw [hT, ht c]
    by_cases h : P c
    · rw [if_pos h, ← EReal.coe_mul, ← EReal.coe_sub, Ideal.exp_coe, show e c = Real.rpow 2 (x c - x c') from if_pos h, exp_two, sub_mul]
    · rw [if_neg h, EReal.bot_sub, Ideal.exp_bot, show e c = 0 from if_neg h, EReal.coe_zero]
  simp only [he, hf]
  rw [coe_sum]
  have hnn : ∀ c, 0 ≤ e c := fun c => by
    by_cases h : P c
    · rw [show e c = Real.rpow 2 (x c - x c') from if_pos h]; exact Real.rpow_nonneg (by norm_num) _
    · rw [show e c = 0 from if_neg h]
  have hpos : 0 < ∑ c, e c := by
    refine Finset.sum_pos' (fun c _ => hnn c) ⟨c', Finset.mem_univ _, ?_⟩
    rw [show e c' = Real.rpow 2 (x c' - x c') from if_pos hP]
    exact Real.rpow_pos_of_pos (by norm_num) _
  generalize (∑ c, e c : ℝ) = L at hpos ⊢
  have hL : ((L : ℝ) : EReal) ≠ 0 := fun h => hpos.ne' (EReal.coe_eq_zero.mp h)
  have hd : ∀ y : EReal, Ideal.div y ((L : ℝ) : EReal) = y * ((L⁻¹ : ℝ) : EReal) := fun y => by
    rw [Ideal.div, if_neg hL, EReal.coe_inv]
  simp only [hd]
  rw [sum_mul _ _ _ (EReal.coe_nonneg.mpr (inv_nonneg.mpr hpos.le)) (EReal.coe_ne_top _)]
  refine Finset.sum_congr rfl fun c _ => ?_
  by_cases h : P c
  · rw [if_pos h, mul_right_comm]
  · rw [if_neg h, show e c = 0 from if_neg h, EReal.coe_zero, zero_mul, zero_mul]

end Cert.Soft
end
-- ==== Proof.Pre.lean ====
/-
  The operands' layout, read at an index.
-/
module

public import proofs.«01_k».proof.Pre_layout
public import Idealize.ShloMosaic.Lib.Pointwise
public import Idealize.ShloMosaic.Lib.ReduceAll
public import Idealize.ShloMosaic.PureOps.Ideal.Laws

@[expose] public section

set_option maxRecDepth 16384

noncomputable section

namespace Cert.Pre

open Idealize.ShloMosaic Cert.Pre_layout

variable [Facts]

instance : Subsingleton S_.Idx := ⟨fun a b => funext fun i => i.elim0⟩

theorem split {x y : IVec S_ 1} (h : andi x y = fun _ => 1#1) : x = (fun _ => 1#1) ∧ y = fun _ => 1#1 :=
  ⟨funext fun i => (IntOp.andi_eq_one.1 (congrFun h i)).1, funext fun i => (IntOp.andi_eq_one.1 (congrFun h i)).2⟩

/-- A row's block, by the host's division. -/
theorem block_word (g : Fin 4096) :
    (Scalar.select
        (IntOp.andi
          (IntOp.cmpi CmpIPredicate.ne
            (if BitVec.ofNat 32 g.val = 0 then (0 : BitVec 32) else if (BitVec.ofNat 32 g.val).msb = true then -1 else 1)
            (if (256#32 : BitVec 32) = 0 then (0 : BitVec 32) else if (256#32 : BitVec 32).msb = true then -1 else 1))
          (IntOp.cmpi CmpIPredicate.ne (IntOp.remsi ArithUnit.host (BitVec.ofNat 32 g.val) 256#32) 0#32))
        (IntOp.subi (IntOp.divsi ArithUnit.host (BitVec.ofNat 32 g.val) 256#32) 1#32)
        (IntOp.divsi ArithUnit.host (BitVec.ofNat 32 g.val) 256#32) : BitVec 32) = BitVec.ofNat 32 (g.val / 256) := by
  revert g; decide +kernel

theorem block_lane (q : Fin 16) (l : Fin 128) :
    IntOp.cmpi CmpIPredicate.eq (BitVec.ofNat 32 q.val) (BitVec.ofNat 32 l.val) = if l.val = q.val then 1#1 else 0#1 := by
  revert q l; decide +kernel

/-- A key's block lanes. -/
theorem own_at (b p : Fin 8) (g : Fin 4096) (l : Fin 128) :
    cmpi .eq (fn_floor_divide (F := Ideal) (iotaInDim S8x8x4096x128 32 2) (constantI S_ 32 256#32)) (iotaInDim S8x8x4096x128 32 3) (ix4 b p g l)
      = if l.val = g.val / 256 then 1#1 else 0#1 := by
  unfold fn_floor_divide fn_where
  pointwise
  exact (congrArg (IntOp.cmpi CmpIPredicate.eq · (BitVec.ofNat 32 l.val)) (block_word g)).trans (block_lane ⟨g.val / 256, by omega⟩ l)

/-- The operands' layout. -/
structure Layout (x0 x1 x2 : FVec Ideal S8x8x4096x256 .bf16) (x3 x4 : FVec Ideal S8x8x4096x128 .bf16) : Prop where
  qa_fin : ∀ (b p : Fin 8) (g : Fin 4096) (l : Fin 64), x0 (ix4 b p g (⟨l.val, by omega⟩ : Fin 256)) ≠ ⊤ ∧ x0 (ix4 b p g (⟨l.val, by omega⟩ : Fin 256)) ≠ ⊥
  qb_fin : ∀ (b p : Fin 8) (g : Fin 4096) (l : Fin 64), x1 (ix4 b p g (⟨64 + l.val, by omega⟩ : Fin 256)) ≠ ⊤ ∧ x1 (ix4 b p g (⟨64 + l.val, by omega⟩ : Fin 256)) ≠ ⊥
  k_fin : ∀ (b p : Fin 8) (g : Fin 4096) (j : Fin 128), x2 (ix4 b p g (⟨j.val, by omega⟩ : Fin 256)) ≠ ⊤ ∧ x2 (ix4 b p g (⟨j.val, by omega⟩ : Fin 256)) ≠ ⊥
  qa_own : ∀ (b p : Fin 8) (g : Fin 4096), x0 (ix4 b p g (⟨128 + g.val / 256, by omega⟩ : Fin 256)) = 0
  qb_own : ∀ (b p : Fin 8) (g : Fin 4096), x1 (ix4 b p g (⟨128 + g.val / 256, by omega⟩ : Fin 256)) = 0
  qa_zero : ∀ (b p : Fin 8) (g : Fin 4096) (l : Fin 64), x0 (ix4 b p g (⟨64 + l.val, by omega⟩ : Fin 256)) = 0
  qb_zero : ∀ (b p : Fin 8) (g : Fin 4096) (l : Fin 64), x1 (ix4 b p g (⟨l.val, by omega⟩ : Fin 256)) = 0
  qa_bias : ∀ (b p : Fin 8) (g : Fin 4096) (i : Fin 16), x0 (ix4 b p g (⟨128 + i.val, by omega⟩ : Fin 256)) = 0 ∨ x0 (ix4 b p g (⟨128 + i.val, by omega⟩ : Fin 256)) = ⊥
  qb_bias : ∀ (b p : Fin 8) (g : Fin 4096) (i : Fin 16), x1 (ix4 b p g (⟨128 + i.val, by omega⟩ : Fin 256)) = 0 ∨ x1 (ix4 b p g (⟨128 + i.val, by omega⟩ : Fin 256)) = ⊥
  k_hot : ∀ (b p : Fin 8) (g : Fin 4096) (j : Fin 128), x2 (ix4 b p g (⟨128 + j.val, by omega⟩ : Fin 256)) = if j.val = g.val / 256 then 1 else 0
  va_one : ∀ (b p : Fin 8) (g : Fin 4096) (l : Fin 64), x3 (ix4 b p g (⟨64 + l.val, by omega⟩ : Fin 128)) = 1
  vb_one : ∀ (b p : Fin 8) (g : Fin 4096) (l : Fin 64), x4 (ix4 b p g (⟨l.val, by omega⟩ : Fin 128)) = 1

theorem finite_of {x : EReal} (h : BitVec.ofBool (decide (FloatOps.absf (F := Ideal) (φ := .f32) x < Ideal.ofBits FTy.f32 0x7F800000#32)) = 1#1) : x ≠ ⊤ ∧ x ≠ ⊥ := by
  have ht : Ideal.ofBits FTy.f32 0x7F800000#32 = ⊤ := rfl
  rw [ht] at h
  have h' : max x (-x) < ⊤ := by
    by_contra hn
    have hn' : ¬ (FloatOps.absf (F := Ideal) (φ := .f32) x < (⊤ : EReal)) := hn
    rw [decide_eq_false hn'] at h
    exact absurd h (by decide)
  refine ⟨fun e => ?_, fun e => ?_⟩
  · rw [e] at h'; simp at h'
  · rw [e] at h'; simp at h'

theorem eq_of {x y : EReal} (h : BitVec.ofBool (decide (x = y)) = 1#1) : x = y := by
  by_contra hn
  rw [decide_eq_false hn] at h
  exact absurd h (by decide)

theorem or_of {x y z : EReal} (h : IntOp.ori (BitVec.ofBool (decide (x = y))) (BitVec.ofBool (decide (x = z))) = 1#1) : x = y ∨ x = z := by
  by_contra hn
  rw [not_or] at hn
  rw [decide_eq_false hn.1, decide_eq_false hn.2] at h
  exact absurd h (by decide)

theorem layout (x0 x1 x2 : FVec Ideal S8x8x4096x256 .bf16) (x3 x4 : FVec Ideal S8x8x4096x128 .bf16) (x5 : FVec Ideal S8x4096x1024 .f32)
    (h : fn (F := Ideal) x0 x1 x2 x3 x4 x5 = fun _ => 1#1) : Layout x0 x1 x2 x3 x4 := by
  unfold fn at h
  obtain ⟨h, h12⟩ := split h
  obtain ⟨h, h11⟩ := split h
  obtain ⟨h, h10⟩ := split h
  obtain ⟨h, h9⟩ := split h
  obtain ⟨h, h8⟩ := split h
  obtain ⟨h, h7⟩ := split h
  obtain ⟨h, h6⟩ := split h
  obtain ⟨h, h5⟩ := split h
  obtain ⟨h, h4⟩ := split h
  obtain ⟨h, h3⟩ := split h
  obtain ⟨h1, h2⟩ := split h
  constructor
  · intro b p g l
    have e := Host.reduce_andi_all _ _ _ _ _ (congrFun h1 (fun a => a.elim0)) (ix4 b p g l)
    clear h1 h2 h3 h4 h5 h6 h7 h8 h9 h10 h11 h12
    pointwise at e
    exact finite_of e
  · intro b p g l
    have e := Host.reduce_andi_all _ _ _ _ _ (congrFun h2 (fun a => a.elim0)) (ix4 b p g l)
    clear h1 h2 h3 h4 h5 h6 h7 h8 h9 h10 h11 h12
    pointwise at e
    exact finite_of e
  · intro b p g j
    have e := Host.reduce_andi_all _ _ _ _ _ (congrFun h3 (fun a => a.elim0)) (ix4 b p g j)
    clear h1 h2 h3 h4 h5 h6 h7 h8 h9 h10 h11 h12
    pointwise at e
    exact finite_of e
  · intro b p g
    have e := Host.reduce_andi_all _ _ _ _ _ (congrFun h4 (fun a => a.elim0)) (ix4 b p g (⟨g.val / 256, by omega⟩ : Fin 16))
    clear h1 h2 h3 h4 h5 h6 h7 h8 h9 h10 h11 h12
    have ho := own_at b p g ⟨g.val / 256, by omega⟩
    unfold fn_where_0 at e
    generalize cmpi .eq (fn_floor_divide (F := Ideal) (iotaInDim S8x8x4096x128 32 2) (constantI S_ 32 256#32)) (iotaInDim S8x8x4096x128 32 3) = w at e ho
    rw [if_pos rfl] at ho
    simp only [id] at e
    pointwise at e
    have e' := eq_of e
    rw [ho] at e'
    exact e'
  · intro b p g
    have e := Host.reduce_andi_all _ _ _ _ _ (congrFun h5 (fun a => a.elim0)) (ix4 b p g (⟨g.val / 256, by omega⟩ : Fin 16))
    clear h1 h2 h3 h4 h5 h6 h7 h8 h9 h10 h11 h12
    have ho := own_at b p g ⟨g.val / 256, by omega⟩
    unfold fn_where_0 at e
    generalize cmpi .eq (fn_floor_divide (F := Ideal) (iotaInDim S8x8x4096x128 32 2) (constantI S_ 32 256#32)) (iotaInDim S8x8x4096x128 32 3) = w at e ho
    rw [if_pos rfl] at ho
    simp only [id] at e
    pointwise at e
    have e' := eq_of e
    rw [ho] at e'
    exact e'
  · intro b p g l
    have e := Host.reduce_andi_all _ _ _ _ _ (congrFun h6 (fun a => a.elim0)) (ix4 b p g l)
    clear h1 h2 h3 h4 h5 h6 h7 h8 h9 h10 h11 h12
    pointwise at e
    exact eq_of e
  · intro b p g l
    have e := Host.reduce_andi_all _ _ _ _ _ (congrFun h7 (fun a => a.elim0)) (ix4 b p g l)
    clear h1 h2 h3 h4 h5 h6 h7 h8 h9 h10 h11 h12
    pointwise at e
    exact eq_of e
  · intro b p g i
    have e := Host.reduce_andi_all _ _ _ _ _ (congrFun h8 (fun a => a.elim0)) (ix4 b p g i)
    clear h1 h2 h3 h4 h5 h6 h7 h8 h9 h10 h11 h12
    pointwise at e
    exact or_of e
  · intro b p g i
    have e := Host.reduce_andi_all _ _ _ _ _ (congrFun h9 (fun a => a.elim0)) (ix4 b p g i)
    clear h1 h2 h3 h4 h5 h6 h7 h8 h9 h10 h11 h12
    pointwise at e
    exact or_of e
  · intro b p g j
    have e := Host.reduce_andi_all _ _ _ _ _ (congrFun h10 (fun a => a.elim0)) (ix4 b p g j)
    clear h1 h2 h3 h4 h5 h6 h7 h8 h9 h10 h11 h12
    have ho := own_at b p g j
    unfold fn_where_1 at e
    generalize cmpi .eq (fn_floor_divide (F := Ideal) (iotaInDim S8x8x4096x128 32 2) (constantI S_ 32 256#32)) (iotaInDim S8x8x4096x128 32 3) = w at e ho
    simp only [id] at e
    pointwise at e
    have e' := eq_of e
    rw [e', ho]
    by_cases hj : j.val = g.val / 256
    · rw [if_pos hj, if_pos hj]; rfl
    · rw [if_neg hj, if_neg hj]; rfl
  · intro b p g l
    have e := Host.reduce_andi_all _ _ _ _ _ (congrFun h11 (fun a => a.elim0)) (ix4 b p g l)
    clear h1 h2 h3 h4 h5 h6 h7 h8 h9 h10 h11 h12
    pointwise at e
    exact eq_of e
  · intro b p g l
    have e := Host.reduce_andi_all _ _ _ _ _ (congrFun h12 (fun a => a.elim0)) (ix4 b p g l)
    clear h1 h2 h3 h4 h5 h6 h7 h8 h9 h10 h11 h12
    pointwise at e
    exact eq_of e

end Cert.Pre
end
-- ==== Proof.Ref.lean ====
/-
  The reference, read at an index: a row of one head is the softmax of its kept and causal scores.
-/
module

public import proofs.«01_k».proof.Proof.Gen.ReferenceIdeal.Read
public import Idealize.ShloMosaic.Lib.Pointwise
public import Idealize.ShloMosaic.Lib.Tactic.CleanTypes

@[expose] public section

set_option maxRecDepth 16384

noncomputable section

namespace Cert.Ref

open Idealize.ShloMosaic Cert.ReferenceIdeal Cert.ReferenceIdeal.Gen Cert.ReferenceIdeal.Read

/-- The even heads' queries. -/
theorem q_even (x0 x1 : (⟨S8x8x4096x256, .bf16⟩ : BufTy).Contents (Elt Ideal)) (b p : Fin 8) (g : Fin 2048) (l : Fin 64) :
    val_main_v7 (F := Ideal) x0 x1 (ix4 b (⟨2 * p.val, by omega⟩ : Fin 16) g l) = x0 (ix4 b p (⟨2048 + g.val, by omega⟩ : Fin 4096) (⟨l.val, by omega⟩ : Fin 256)) := by
  rw [val_main_v7_apply, show idx_main_v7 (ix4 b (⟨2 * p.val, by omega⟩ : Fin 16) g l) = ix5 b p (0 : Fin 2) g l from ?_]
  · unfold val_main_v6
    generalize hL : val_main_v4 (F := Ideal) x0 = yl
    generalize hR : val_main_v5 (F := Ideal) x1 = yr
    pointwise
    simp only [← hL, val_main_v4_apply, val_main_v2_apply, val_main_v0_apply]
    refine congrArg x0 ?_
    funext a
    apply Fin.ext
    fin_cases a
    · rfl
    · rfl
    · show 2048 + g.val = _
      rfl
    · rfl
  · have hb := b.isLt
    have hp := p.isLt
    have hg := g.isLt
    have hl := l.isLt
    funext a
    apply Fin.ext
    fin_cases a
    · show (((b.val * 16 + (2 * p.val)) * 2048 + g.val) * 64 + l.val) / 2097152 = b.val; omega
    · show (((b.val * 16 + (2 * p.val)) * 2048 + g.val) * 64 + l.val) / 262144 % 8 = p.val; omega
    · show (((b.val * 16 + (2 * p.val)) * 2048 + g.val) * 64 + l.val) / 131072 % 2 = 0; omega
    · show (((b.val * 16 + (2 * p.val)) * 2048 + g.val) * 64 + l.val) / 64 % 2048 = g.val; omega
    · show (((b.val * 16 + (2 * p.val)) * 2048 + g.val) * 64 + l.val) % 64 = l.val; omega

/-- The odd heads' queries. -/
theorem q_odd (x0 x1 : (⟨S8x8x4096x256, .bf16⟩ : BufTy).Contents (Elt Ideal)) (b p : Fin 8) (g : Fin 2048) (l : Fin 64) :
    val_main_v7 (F := Ideal) x0 x1 (ix4 b (⟨2 * p.val + 1, by omega⟩ : Fin 16) g l) = x1 (ix4 b p (⟨2048 + g.val, by omega⟩ : Fin 4096) (⟨64 + l.val, by omega⟩ : Fin 256)) := by
  rw [val_main_v7_apply, show idx_main_v7 (ix4 b (⟨2 * p.val + 1, by omega⟩ : Fin 16) g l) = ix5 b p (1 : Fin 2) g l from ?_]
  · unfold val_main_v6
    generalize hL : val_main_v4 (F := Ideal) x0 = yl
    generalize hR : val_main_v5 (F := Ideal) x1 = yr
    pointwise
    simp only [← hR, val_main_v5_apply, val_main_v3_apply, val_main_v1_apply]
    refine congrArg x1 ?_
    funext a
    apply Fin.ext
    fin_cases a
    · rfl
    · rfl
    · show 2048 + g.val = _
      rfl
    · rfl
  · have hb := b.isLt
    have hp := p.isLt
    have hg := g.isLt
    have hl := l.isLt
    funext a
    apply Fin.ext
    fin_cases a
    · show (((b.val * 16 + (2 * p.val + 1)) * 2048 + g.val) * 64 + l.val) / 2097152 = b.val; omega
    · show (((b.val * 16 + (2 * p.val + 1)) * 2048 + g.val) * 64 + l.val) / 262144 % 8 = p.val; omega
    · show (((b.val * 16 + (2 * p.val + 1)) * 2048 + g.val) * 64 + l.val) / 131072 % 2 = 1; omega
    · show (((b.val * 16 + (2 * p.val + 1)) * 2048 + g.val) * 64 + l.val) / 64 % 2048 = g.val; omega
    · show (((b.val * 16 + (2 * p.val + 1)) * 2048 + g.val) * 64 + l.val) % 64 = l.val; omega

/-- The even heads' keys. -/
theorem k_even (x2 : (⟨S8x8x4096x256, .bf16⟩ : BufTy).Contents (Elt Ideal)) (b p : Fin 8) (g : Fin 4096) (l : Fin 64) :
    val_main_v15 (F := Ideal) x2 (ix4 b (⟨2 * p.val, by omega⟩ : Fin 16) g l) = x2 (ix4 b p g (⟨l.val, by omega⟩ : Fin 256)) := by
  rw [val_main_v15_apply, show idx_main_v15 (ix4 b (⟨2 * p.val, by omega⟩ : Fin 16) g l) = ix5 b p (0 : Fin 2) g l from ?_]
  · unfold val_main_v14
    generalize hL : val_main_v12 (F := Ideal) x2 = yl
    generalize hR : val_main_v13 (F := Ideal) x2 = yr
    pointwise
    simp only [← hL, val_main_v12_apply, val_main_v10_apply, val_main_v8_apply]
    refine congrArg x2 ?_
    funext a
    apply Fin.ext
    fin_cases a
    · rfl
    · rfl
    · show g.val = _
      rfl
    · rfl
  · have hb := b.isLt
    have hp := p.isLt
    have hg := g.isLt
    have hl := l.isLt
    funext a
    apply Fin.ext
    fin_cases a
    · show (((b.val * 16 + (2 * p.val)) * 4096 + g.val) * 64 + l.val) / 4194304 = b.val; omega
    · show (((b.val * 16 + (2 * p.val)) * 4096 + g.val) * 64 + l.val) / 524288 % 8 = p.val; omega
    · show (((b.val * 16 + (2 * p.val)) * 4096 + g.val) * 64 + l.val) / 262144 % 2 = 0; omega
    · show (((b.val * 16 + (2 * p.val)) * 4096 + g.val) * 64 + l.val) / 64 % 4096 = g.val; omega
    · show (((b.val * 16 + (2 * p.val)) * 4096 + g.val) * 64 + l.val) % 64 = l.val; omega

/-- The odd heads' keys. -/
theorem k_odd (x2 : (⟨S8x8x4096x256, .bf16⟩ : BufTy).Contents (Elt Ideal)) (b p : Fin 8) (g : Fin 4096) (l : Fin 64) :
    val_main_v15 (F := Ideal) x2 (ix4 b (⟨2 * p.val + 1, by omega⟩ : Fin 16) g l) = x2 (ix4 b p g (⟨64 + l.val, by omega⟩ : Fin 256)) := by
  rw [val_main_v15_apply, show idx_main_v15 (ix4 b (⟨2 * p.val + 1, by omega⟩ : Fin 16) g l) = ix5 b p (1 : Fin 2) g l from ?_]
  · unfold val_main_v14
    generalize hL : val_main_v12 (F := Ideal) x2 = yl
    generalize hR : val_main_v13 (F := Ideal) x2 = yr
    pointwise
    simp only [← hR, val_main_v13_apply, val_main_v11_apply, val_main_v9_apply]
    refine congrArg x2 ?_
    funext a
    apply Fin.ext
    fin_cases a
    · rfl
    · rfl
    · show g.val = _
      rfl
    · rfl
  · have hb := b.isLt
    have hp := p.isLt
    have hg := g.isLt
    have hl := l.isLt
    funext a
    apply Fin.ext
    fin_cases a
    · show (((b.val * 16 + (2 * p.val + 1)) * 4096 + g.val) * 64 + l.val) / 4194304 = b.val; omega
    · show (((b.val * 16 + (2 * p.val + 1)) * 4096 + g.val) * 64 + l.val) / 524288 % 8 = p.val; omega
    · show (((b.val * 16 + (2 * p.val + 1)) * 4096 + g.val) * 64 + l.val) / 262144 % 2 = 1; omega
    · show (((b.val * 16 + (2 * p.val + 1)) * 4096 + g.val) * 64 + l.val) / 64 % 4096 = g.val; omega
    · show (((b.val * 16 + (2 * p.val + 1)) * 4096 + g.val) * 64 + l.val) % 64 = l.val; omega

/-- The even heads' values. -/
theorem v_even (x3 x4 : (⟨S8x8x4096x128, .bf16⟩ : BufTy).Contents (Elt Ideal)) (b p : Fin 8) (g : Fin 4096) (l : Fin 64) :
    val_main_v23 (F := Ideal) x3 x4 (ix4 b (⟨2 * p.val, by omega⟩ : Fin 16) g l) = x3 (ix4 b p g (⟨l.val, by omega⟩ : Fin 128)) := by
  rw [val_main_v23_apply, show idx_main_v23 (ix4 b (⟨2 * p.val, by omega⟩ : Fin 16) g l) = ix5 b p (0 : Fin 2) g l from ?_]
  · unfold val_main_v22
    generalize hL : val_main_v20 (F := Ideal) x3 = yl
    generalize hR : val_main_v21 (F := Ideal) x4 = yr
    pointwise
    simp only [← hL, val_main_v20_apply, val_main_v18_apply, val_main_v16_apply]
    refine congrArg x3 ?_
    funext a
    apply Fin.ext
    fin_cases a
    · rfl
    · rfl
    · show g.val = _
      rfl
    · rfl
  · have hb := b.isLt
    have hp := p.isLt
    have hg := g.isLt
    have hl := l.isLt
    funext a
    apply Fin.ext
    fin_cases a
    · show (((b.val * 16 + (2 * p.val)) * 4096 + g.val) * 64 + l.val) / 4194304 = b.val; omega
    · show (((b.val * 16 + (2 * p.val)) * 4096 + g.val) * 64 + l.val) / 524288 % 8 = p.val; omega
    · show (((b.val * 16 + (2 * p.val)) * 4096 + g.val) * 64 + l.val) / 262144 % 2 = 0; omega
    · show (((b.val * 16 + (2 * p.val)) * 4096 + g.val) * 64 + l.val) / 64 % 4096 = g.val; omega
    · show (((b.val * 16 + (2 * p.val)) * 4096 + g.val) * 64 + l.val) % 64 = l.val; omega

/-- The odd heads' values. -/
theorem v_odd (x3 x4 : (⟨S8x8x4096x128, .bf16⟩ : BufTy).Contents (Elt Ideal)) (b p : Fin 8) (g : Fin 4096) (l : Fin 64) :
    val_main_v23 (F := Ideal) x3 x4 (ix4 b (⟨2 * p.val + 1, by omega⟩ : Fin 16) g l) = x4 (ix4 b p g (⟨64 + l.val, by omega⟩ : Fin 128)) := by
  rw [val_main_v23_apply, show idx_main_v23 (ix4 b (⟨2 * p.val + 1, by omega⟩ : Fin 16) g l) = ix5 b p (1 : Fin 2) g l from ?_]
  · unfold val_main_v22
    generalize hL : val_main_v20 (F := Ideal) x3 = yl
    generalize hR : val_main_v21 (F := Ideal) x4 = yr
    pointwise
    simp only [← hR, val_main_v21_apply, val_main_v19_apply, val_main_v17_apply]
    refine congrArg x4 ?_
    funext a
    apply Fin.ext
    fin_cases a
    · rfl
    · rfl
    · show g.val = _
      rfl
    · rfl
  · have hb := b.isLt
    have hp := p.isLt
    have hg := g.isLt
    have hl := l.isLt
    funext a
    apply Fin.ext
    fin_cases a
    · show (((b.val * 16 + (2 * p.val + 1)) * 4096 + g.val) * 64 + l.val) / 4194304 = b.val; omega
    · show (((b.val * 16 + (2 * p.val + 1)) * 4096 + g.val) * 64 + l.val) / 524288 % 8 = p.val; omega
    · show (((b.val * 16 + (2 * p.val + 1)) * 4096 + g.val) * 64 + l.val) / 262144 % 2 = 1; omega
    · show (((b.val * 16 + (2 * p.val + 1)) * 4096 + g.val) * 64 + l.val) / 64 % 4096 = g.val; omega
    · show (((b.val * 16 + (2 * p.val + 1)) * 4096 + g.val) * 64 + l.val) % 64 = l.val; omega

/-- The even heads' block biases. -/
theorem bias_even (x0 x1 : (⟨S8x8x4096x256, .bf16⟩ : BufTy).Contents (Elt Ideal)) (b p : Fin 8) (g : Fin 2048) (l : Fin 16) :
    val_main_v31 (F := Ideal) x0 x1 (ix4 b (⟨2 * p.val, by omega⟩ : Fin 16) g l) = x0 (ix4 b p (⟨2048 + g.val, by omega⟩ : Fin 4096) (⟨128 + l.val, by omega⟩ : Fin 256)) := by
  rw [val_main_v31_apply, show idx_main_v31 (ix4 b (⟨2 * p.val, by omega⟩ : Fin 16) g l) = ix5 b p (0 : Fin 2) g l from ?_]
  · unfold val_main_v30
    generalize hL : val_main_v28 (F := Ideal) x0 = yl
    generalize hR : val_main_v29 (F := Ideal) x1 = yr
    pointwise
    simp only [← hL, val_main_v28_apply, val_main_v26_apply, val_main_v24_apply]
    refine congrArg x0 ?_
    funext a
    apply Fin.ext
    fin_cases a
    · rfl
    · rfl
    · show 2048 + g.val = _
      rfl
    · rfl
  · have hb := b.isLt
    have hp := p.isLt
    have hg := g.isLt
    have hl := l.isLt
    funext a
    apply Fin.ext
    fin_cases a
    · show (((b.val * 16 + (2 * p.val)) * 2048 + g.val) * 16 + l.val) / 524288 = b.val; omega
    · show (((b.val * 16 + (2 * p.val)) * 2048 + g.val) * 16 + l.val) / 65536 % 8 = p.val; omega
    · show (((b.val * 16 + (2 * p.val)) * 2048 + g.val) * 16 + l.val) / 32768 % 2 = 0; omega
    · show (((b.val * 16 + (2 * p.val)) * 2048 + g.val) * 16 + l.val) / 16 % 2048 = g.val; omega
    · show (((b.val * 16 + (2 * p.val)) * 2048 + g.val) * 16 + l.val) % 16 = l.val; omega

/-- The odd heads' block biases. -/
theorem bias_odd (x0 x1 : (⟨S8x8x4096x256, .bf16⟩ : BufTy).Contents (Elt Ideal)) (b p : Fin 8) (g : Fin 2048) (l : Fin 16) :
    val_main_v31 (F := Ideal) x0 x1 (ix4 b (⟨2 * p.val + 1, by omega⟩ : Fin 16) g l) = x1 (ix4 b p (⟨2048 + g.val, by omega⟩ : Fin 4096) (⟨128 + l.val, by omega⟩ : Fin 256)) := by
  rw [val_main_v31_apply, show idx_main_v31 (ix4 b (⟨2 * p.val + 1, by omega⟩ : Fin 16) g l) = ix5 b p (1 : Fin 2) g l from ?_]
  · unfold val_main_v30
    generalize hL : val_main_v28 (F := Ideal) x0 = yl
    generalize hR : val_main_v29 (F := Ideal) x1 = yr
    pointwise
    simp only [← hR, val_main_v29_apply, val_main_v27_apply, val_main_v25_apply]
    refine congrArg x1 ?_
    funext a
    apply Fin.ext
    fin_cases a
    · rfl
    · rfl
    · show 2048 + g.val = _
      rfl
    · rfl
  · have hb := b.isLt
    have hp := p.isLt
    have hg := g.isLt
    have hl := l.isLt
    funext a
    apply Fin.ext
    fin_cases a
    · show (((b.val * 16 + (2 * p.val + 1)) * 2048 + g.val) * 16 + l.val) / 524288 = b.val; omega
    · show (((b.val * 16 + (2 * p.val + 1)) * 2048 + g.val) * 16 + l.val) / 65536 % 8 = p.val; omega
    · show (((b.val * 16 + (2 * p.val + 1)) * 2048 + g.val) * 16 + l.val) / 32768 % 2 = 1; omega
    · show (((b.val * 16 + (2 * p.val + 1)) * 2048 + g.val) * 16 + l.val) / 16 % 2048 = g.val; omega
    · show (((b.val * 16 + (2 * p.val + 1)) * 2048 + g.val) * 16 + l.val) % 16 = l.val; omega

/-- The causal test. -/
theorem causal_at (g : Fin 2048) (c : Fin 4096) :
    val_main_v45 (F := Ideal) (ix2 g c) = if c.val ≤ 2048 + g.val then 1#1 else 0#1 := by
  simp only [val_main_v45_apply, val_main_v43_apply, val_main_v44_apply, val_main_v42_apply, val_main_v41_apply, val_main_v40_apply,
    val_main_v39_apply, val_main_v38_apply, val_main_v37_apply, val_main_c_apply]
  show BitVec.ofBool (BitVec.sle (BitVec.ofNat 32 c.val) (2048#32 + BitVec.ofNat 32 g.val)) = _
  have hg := g.isLt
  have hc := c.isLt
  have e : (2048#32 + BitVec.ofNat 32 g.val).toInt = ((2048 + g.val : ℕ) : ℤ) := by
    rw [BitVec.toInt_eq_toNat_of_lt] <;> simp only [BitVec.toNat_add, BitVec.toNat_ofNat] <;> omega
  have e' : (BitVec.ofNat 32 c.val).toInt = ((c.val : ℕ) : ℤ) := by
    rw [BitVec.toInt_eq_toNat_of_lt] <;> simp only [BitVec.toNat_ofNat] <;> omega
  rw [BitVec.sle, e, e']
  by_cases h : c.val ≤ 2048 + g.val
  · rw [if_pos h, decide_eq_true (Int.ofNat_le.mpr h)]; rfl
  · rw [if_neg h, decide_eq_false (fun h' => h (Int.ofNat_le.mp h'))]; rfl

/-- The kept keys of a row: those of the blocks with bias 0. -/
theorem keep_at (x0 x1 : (⟨S8x8x4096x256, .bf16⟩ : BufTy).Contents (Elt Ideal)) (b : Fin 8) (h : Fin 16) (g : Fin 2048) (c : Fin 4096) :
    val_main_v36 (F := Ideal) x0 x1 (ix4 b h g c)
      = if val_main_v31 (F := Ideal) x0 x1 (ix4 b h g (⟨c.val / 256, by omega⟩ : Fin 16)) = (0 : EReal) then 1#1 else 0#1 := by
  rw [val_main_v36_apply, show idx_main_v36 (ix4 b h g c) = ix5 b h g (⟨c.val / 256, by omega⟩ : Fin 16) (⟨c.val % 256, Nat.mod_lt _ (by decide)⟩ : Fin 256) from ?_]
  · simp only [val_main_v35_apply, val_main_v34_apply, val_main_v33_apply, val_main_v32_apply, val_main_cst_apply]
    rw [show idx_main_v34 (idx_main_v35 (ix5 b h g (⟨c.val / 256, by omega⟩ : Fin 16) (⟨c.val % 256, Nat.mod_lt _ (by decide)⟩ : Fin 256)))
      = ix4 b h g (⟨c.val / 256, by omega⟩ : Fin 16) from by funext a; fin_cases a <;> rfl]
    generalize val_main_v31 (F := Ideal) x0 x1 (ix4 b h g (⟨c.val / 256, by omega⟩ : Fin 16)) = z
    have hz : (FloatOps.ofBits (F := Ideal) FTy.f32 0x00000000#32) = (0 : EReal) := by
      show Ideal.ofBits _ _ = _
      simp [Ideal.ofBits, Ideal.ieee]
    rw [hz]
    show Ideal.cmp .oeq z 0 = _
    by_cases h : z = 0
    · rw [if_pos h, h]; simp [Ideal.cmp]
    · rw [if_neg h]; simp [Ideal.cmp, h]
  · have hb := b.isLt
    have hh := h.isLt
    have hg := g.isLt
    have hc := c.isLt
    funext a
    apply Fin.ext
    fin_cases a
    · show (((b.val * 16 + h.val) * 2048 + g.val) * 4096 + c.val) / 134217728 = b.val; omega
    · show (((b.val * 16 + h.val) * 2048 + g.val) * 4096 + c.val) / 8388608 % 16 = h.val; omega
    · show (((b.val * 16 + h.val) * 2048 + g.val) * 4096 + c.val) / 4096 % 2048 = g.val; omega
    · show (((b.val * 16 + h.val) * 2048 + g.val) * 4096 + c.val) / 256 % 16 = c.val / 256; omega
    · show (((b.val * 16 + h.val) * 2048 + g.val) * 4096 + c.val) % 256 = c.val % 256; omega

/-- A row's largest score. -/
theorem max_at (x0 x1 x2 : (⟨S8x8x4096x256, .bf16⟩ : BufTy).Contents (Elt Ideal)) (b : Fin 8) (h : Fin 16) (g : Fin 2048) :
    val_main_v54 (F := Ideal) x0 x1 x2 (ix3 b h g) = Finset.univ.sup fun c : Fin 4096 => val_main_v53 (F := Ideal) x0 x1 x2 (ix4 b h g c) := by
  unfold val_main_v54
  generalize val_main_v53 (F := Ideal) x0 x1 x2 = y0
  clean_types
  pointwise
  rfl

/-- The keys a row attends to. -/
def mask (x0 x1 : (⟨S8x8x4096x256, .bf16⟩ : BufTy).Contents (Elt Ideal)) (b : Fin 8) (h : Fin 16) (g : Fin 2048) (c : Fin 4096) : Prop :=
  val_main_v31 (F := Ideal) x0 x1 (ix4 b h g (⟨c.val / 256, by omega⟩ : Fin 16)) = (0 : EReal) ∧ c.val ≤ 2048 + g.val

open Classical in
/-- A row's masked scores. -/
def scoreAt (x0 x1 x2 : (⟨S8x8x4096x256, .bf16⟩ : BufTy).Contents (Elt Ideal)) (b : Fin 8) (h : Fin 16) (g : Fin 2048) (c : Fin 4096) : EReal :=
  if mask x0 x1 b h g c then
    (∑ l : Fin 64, val_main_v7 (F := Ideal) x0 x1 (ix4 b h g l) * val_main_v15 (F := Ideal) x2 (ix4 b h c l)) * ((Real.log 2 : ℝ) : EReal)
  else ⊥

open Classical in
theorem mask_at (x0 x1 : (⟨S8x8x4096x256, .bf16⟩ : BufTy).Contents (Elt Ideal)) (b : Fin 8) (h : Fin 16) (g : Fin 2048) (c : Fin 4096) :
    val_main_v52 (F := Ideal) x0 x1 (ix4 b h g c) = if mask x0 x1 b h g c then 1#1 else 0#1 := by
  simp only [val_main_v52_apply, val_main_v51_apply, val_main_v50_apply]
  rw [keep_at, show idx_main_v50 (idx_main_v51 (ix4 b h g c)) = ix2 g c from by funext a; fin_cases a <;> rfl, causal_at]
  unfold mask
  by_cases h1 : val_main_v31 (F := Ideal) x0 x1 (ix4 b h g (⟨c.val / 256, by omega⟩ : Fin 16)) = (0 : EReal) <;>
    by_cases h2 : c.val ≤ 2048 + g.val <;> simp only [h1, h2, and_self, and_true, and_false, if_true, if_false] <;> rfl

theorem two_word : Ideal.ofBits FTy.f32 0x40000000#32 = ((2 : ℝ) : EReal) := by
  simp [Ideal.ofBits, Ideal.ieee]
  rw [← EReal.coe_mul]
  norm_num

/-- The scores' natural base. -/
theorem ln2_at (i) : val_main_v48 (F := Ideal) i = ((Real.log 2 : ℝ) : EReal) := by
  simp only [val_main_v48_apply, val_main_v47_apply, val_main_cst_0_apply]
  rw [Ideal.hostUnary_log_def, Ideal.ofBits_def]
  rw [show Ideal.ofBits FTy.f32 0x40000000#32 = ((2 : ℝ) : EReal) from two_word, Ideal.log_coe,
    if_neg (by norm_num)]

theorem score_at (x0 x1 x2 : (⟨S8x8x4096x256, .bf16⟩ : BufTy).Contents (Elt Ideal)) (b : Fin 8) (h : Fin 16) (g : Fin 2048) (c : Fin 4096) :
    val_main_v53 (F := Ideal) x0 x1 x2 (ix4 b h g c) = scoreAt x0 x1 x2 b h g c := by
  have hsum : val_main_v46 (F := Ideal) x0 x1 x2 (ix4 b h g c)
      = ∑ l : Fin 64, val_main_v7 (F := Ideal) x0 x1 (ix4 b h g l) * val_main_v15 (F := Ideal) x2 (ix4 b h c l) := by
    rw [val_main_v46_apply]
    refine Finset.sum_congr rfl fun l _ => ?_
    rw [show lidx_main_v46 (ix4 b h g c) l = ix4 b h g l from by funext a; fin_cases a <;> rfl,
      show ridx_main_v46 (ix4 b h g c) l = ix4 b h c l from by funext a; fin_cases a <;> rfl]
  have hbot : val_main_call0_v1 (F := Ideal) (ix4 b h g c) = (⊥ : EReal) := by
    simp only [val_main_call0_v1_apply, val_main_call0_v0_apply, val_main_cst_1_apply]
    rfl
  rw [val_main_v53_apply, mask_at, val_main_v49_apply, hsum, ln2_at, hbot]
  unfold scoreAt
  generalize (∑ l : Fin 64, val_main_v7 (F := Ideal) x0 x1 (ix4 b h g l) * val_main_v15 (F := Ideal) x2 (ix4 b h c l)) = z
  by_cases hm : mask x0 x1 b h g c
  · rw [if_pos hm, if_pos hm]; rfl
  · rw [if_neg hm, if_neg hm]; rfl

/-- A row's exponentials. -/
theorem exp_at (x0 x1 x2 : (⟨S8x8x4096x256, .bf16⟩ : BufTy).Contents (Elt Ideal)) (b : Fin 8) (h : Fin 16) (g : Fin 2048) (c : Fin 4096) :
    val_main_v60 (F := Ideal) x0 x1 x2 (ix4 b h g c)
      = Ideal.exp (scoreAt x0 x1 x2 b h g c - Finset.univ.sup fun c' : Fin 4096 => scoreAt x0 x1 x2 b h g c') := by
  rw [val_main_v60_apply, val_main_v59_apply, val_main_v58_apply, val_main_v57_apply, val_main_v56_apply, val_main_v55_apply, score_at,
    show idx_main_v57 (idx_main_v58 (ix4 b h g c)) = ix3 b h g from by funext a; fin_cases a <;> rfl, max_at]
  simp only [score_at, val_main_cst_3_apply]
  show Ideal.exp (_ - max ⊥ _) = _
  rw [max_eq_right bot_le]

open Classical in
/-- A row of one head's result. -/
theorem row_at (x0 x1 x2 : (⟨S8x8x4096x256, .bf16⟩ : BufTy).Contents (Elt Ideal)) (x3 x4 : (⟨S8x8x4096x128, .bf16⟩ : BufTy).Contents (Elt Ideal))
    (b : Fin 8) (h : Fin 16) (g : Fin 2048) (d : Fin 64) :
    val_main_v66 (F := Ideal) x0 x1 x2 x3 x4 (ix4 b h g d)
      = ∑ c : Fin 4096, (if mask x0 x1 b h g c then
          Ideal.div (Ideal.exp (scoreAt x0 x1 x2 b h g c - Finset.univ.sup fun c' : Fin 4096 => scoreAt x0 x1 x2 b h g c'))
            (∑ c₁ : Fin 4096, Ideal.exp (scoreAt x0 x1 x2 b h g c₁ - Finset.univ.sup fun c' : Fin 4096 => scoreAt x0 x1 x2 b h g c'))
        else 0) * val_main_v23 (F := Ideal) x3 x4 (ix4 b h c d) := by
  rw [val_main_v66_apply]
  refine Finset.sum_congr rfl fun c _ => ?_
  rw [show lidx_main_v66 (ix4 b h g d) c = ix4 b h g c from by funext a; fin_cases a <;> rfl,
    show ridx_main_v66 (ix4 b h g d) c = ix4 b h c d from by funext a; fin_cases a <;> rfl, val_main_v65_apply, mask_at]
  refine congrArg (· * val_main_v23 (F := Ideal) x3 x4 (ix4 b h c d)) ?_
  have hz : (FloatOps.ofBits (F := Ideal) FTy.f32 0x00000000#32) = (0 : EReal) := by
    show Ideal.ofBits _ _ = _
    simp [Ideal.ofBits, Ideal.ieee]
  by_cases hm : mask x0 x1 b h g c
  · rw [if_pos hm, if_pos hm]
    show val_main_v64 (F := Ideal) x0 x1 x2 (ix4 b h g c) = _
    rw [val_main_v64_apply, val_main_v63_apply, val_main_v62_apply,
      show idx_main_v62 (idx_main_v63 (ix4 b h g c)) = ix3 b h g from by funext a; fin_cases a <;> rfl, val_main_v61_apply, exp_at,
      val_main_cst_4_apply, hz, zero_add]
    show Ideal.div _ _ = _
    refine congrArg (Ideal.div _) (Finset.sum_congr rfl fun c₁ _ => ?_)
    rw [show idx_main_v61 (ix3 b h g) c₁ = ix4 b h g c₁ from by funext a; fin_cases a <;> rfl, exp_at]
  · rw [if_neg hm, if_neg hm]
    show val_main_call1_v1 (F := Ideal) (ix4 b h g c) = _
    simp only [val_main_call1_v1_apply, val_main_call1_v0_apply, val_main_cst_5_apply]
    exact hz

/-- The rows before are the given ones. -/
theorem out_early (x0 x1 x2 : (⟨S8x8x4096x256, .bf16⟩ : BufTy).Contents (Elt Ideal)) (x3 x4 : (⟨S8x8x4096x128, .bf16⟩ : BufTy).Contents (Elt Ideal))
    (x5 : (⟨S8x4096x1024, .f32⟩ : BufTy).Contents (Elt Ideal)) (b : Fin 8) (g : Fin 4096) (hg : g.val < 2048) (n : Fin 1024) :
    val_main_v70 (F := Ideal) x0 x1 x2 x3 x4 x5 (ix3 b g n) = x5 (ix3 b g n) := by
  unfold val_main_v70
  generalize val_main_v69 (F := Ideal) x0 x1 x2 x3 x4 = yr
  generalize hL : val_main_v67 (F := Ideal) x5 = yl
  pointwise
  rw [dif_pos (by exact hg), ← hL, val_main_v67_apply]
  refine congrArg x5 ?_
  funext a
  fin_cases a <;> rfl

/-- The rows from 2048 on are the heads' rows, side by side. -/
theorem out_late (x0 x1 x2 : (⟨S8x8x4096x256, .bf16⟩ : BufTy).Contents (Elt Ideal)) (x3 x4 : (⟨S8x8x4096x128, .bf16⟩ : BufTy).Contents (Elt Ideal))
    (x5 : (⟨S8x4096x1024, .f32⟩ : BufTy).Contents (Elt Ideal)) (b : Fin 8) (g : Fin 2048) (n : Fin 1024) :
    val_main_v70 (F := Ideal) x0 x1 x2 x3 x4 x5 (ix3 b (⟨2048 + g.val, by omega⟩ : Fin 4096) n)
      = val_main_v66 (F := Ideal) x0 x1 x2 x3 x4 (ix4 b (⟨n.val / 64, by omega⟩ : Fin 16) g (⟨n.val % 64, Nat.mod_lt _ (by decide)⟩ : Fin 64)) := by
  unfold val_main_v70
  generalize hR : val_main_v69 (F := Ideal) x0 x1 x2 x3 x4 = yr
  generalize val_main_v67 (F := Ideal) x5 = yl
  pointwise
  rw [← hR, val_main_v69_apply, val_main_v68_apply]
  refine congrArg (val_main_v66 (F := Ideal) x0 x1 x2 x3 x4) ?_
  have hb := b.isLt
  have hg := g.isLt
  have hn := n.isLt
  funext a
  apply Fin.ext
  fin_cases a
  · show ((b.val * 2048 + g.val) * 1024 + n.val) / 2097152 = b.val; omega
  · show ((b.val * 2048 + g.val) * 1024 + n.val) / 64 % 16 = n.val / 64; omega
  · show ((b.val * 2048 + g.val) * 1024 + n.val) / 1024 % 2048 = g.val; omega
  · show ((b.val * 2048 + g.val) * 1024 + n.val) % 64 = n.val % 64; omega

end Cert.Ref
end
-- ==== Proof.Heads.lean ====
/-
  One head of the kernel is one head of the reference, under the operands' layout.
-/
module

public import proofs.«01_k».proof.Proof.Array
public import proofs.«01_k».proof.Proof.Soft
public import proofs.«01_k».proof.Proof.Pre
public import proofs.«01_k».proof.Proof.Ref

@[expose] public section

set_option maxRecDepth 16384

noncomputable section

namespace Cert.Heads

open Idealize.ShloMosaic Cert.ReferenceIdeal.Read

/-- The product of a query's and a key's 256 lanes: the head's own lanes' product where the bias of the key's block is 0, minus
    infinity elsewhere. -/
theorem dot256 (q k : Fin 256 → EReal) (j : Fin 64 ↪ Fin 256) (o : Fin 16) (hj : ∀ i, (j i).val < 128)
    (hzero : ∀ l : Fin 256, l.val < 128 → (∀ i, j i ≠ l) → q l = 0)
    (hq : ∀ i, q (j i) ≠ ⊤ ∧ q (j i) ≠ ⊥) (hk : ∀ i, k (j i) ≠ ⊤ ∧ k (j i) ≠ ⊥)
    (hbias : q (⟨128 + o.val, by omega⟩ : Fin 256) = 0 ∨ q (⟨128 + o.val, by omega⟩ : Fin 256) = ⊥)
    (hhot : ∀ n : Fin 128, k (⟨128 + n.val, by omega⟩ : Fin 256) = if n.val = o.val then 1 else 0) :
    (∑ i, q (j i) * k (j i) = ((∑ i, (q (j i)).toReal * (k (j i)).toReal : ℝ) : EReal))
    ∧ ∑ l, q l * k l = if q (⟨128 + o.val, by omega⟩ : Fin 256) = 0 then ((∑ i, (q (j i)).toReal * (k (j i)).toReal : ℝ) : EReal) else ⊥ := by
  have hown : ∑ i, q (j i) * k (j i) = ((∑ i, (q (j i)).toReal * (k (j i)).toReal : ℝ) : EReal) := by
    rw [← Soft.coe_sum]
    refine Finset.sum_congr rfl fun i _ => ?_
    rw [EReal.coe_mul, EReal.coe_toReal (hq i).1 (hq i).2, EReal.coe_toReal (hk i).1 (hk i).2]
  refine ⟨hown, ?_⟩
  have h1 : k (⟨128 + o.val, by omega⟩ : Fin 256) = 1 := by
    have := hhot ⟨o.val, by omega⟩
    rwa [if_pos rfl] at this
  rw [Soft.sum_range _ j (⟨128 + o.val, by omega⟩ : Fin 256), hown, h1, mul_one]
  · rcases hbias with h | h
    · rw [h, if_pos rfl, add_zero]
    · rw [h, if_neg EReal.bot_ne_zero, EReal.add_bot]
  · intro i h
    have := hj i
    rw [h] at this
    have : 128 + o.val < 128 := this
    omega
  · intro l hl hne
    by_cases h : l.val < 128
    · rw [hzero l h hl, zero_mul]
    · have h2 := hhot ⟨l.val - 128, by omega⟩
      rw [show (⟨128 + (l.val - 128), by omega⟩ : Fin 256) = l from Fin.ext (by show 128 + (l.val - 128) = l.val; omega), if_neg] at h2
      · rw [h2, mul_zero]
      · intro h3
        exact hne (Fin.ext (by show l.val = 128 + o.val; have : l.val - 128 = o.val := h3; omega))

open Classical in
/-- One head: the kernel's mix over its sum is the softmax's mix. -/
theorem head (q : (⟨4, ![1, 1, 2048, 256]⟩ : Shape).Idx → EReal) (k : (⟨4, ![1, 1, 4096, 256]⟩ : Shape).Idx → EReal)
    (v : (⟨4, ![1, 1, 4096, 128]⟩ : Shape).Idx → EReal) (g : Fin 2048) (own one : Fin 128) (j : Fin 64 ↪ Fin 256)
    (hj : ∀ i, (j i).val < 128) (hzero : ∀ l : Fin 256, l.val < 128 → (∀ i, j i ≠ l) → q (ix4 0 0 g l) = 0)
    (hq : ∀ i, q (ix4 0 0 g (j i)) ≠ ⊤ ∧ q (ix4 0 0 g (j i)) ≠ ⊥) (hk : ∀ c i, k (ix4 0 0 c (j i)) ≠ ⊤ ∧ k (ix4 0 0 c (j i)) ≠ ⊥)
    (hown : q (ix4 0 0 g (⟨128 + (2048 + g.val) / 256, by omega⟩ : Fin 256)) = 0)
    (hbias : ∀ o : Fin 16, q (ix4 0 0 g (⟨128 + o.val, by omega⟩ : Fin 256)) = 0 ∨ q (ix4 0 0 g (⟨128 + o.val, by omega⟩ : Fin 256)) = ⊥)
    (hhot : ∀ (c : Fin 4096) (n : Fin 128), k (ix4 0 0 c (⟨128 + n.val, by omega⟩ : Fin 256)) = if n.val = c.val / 256 then 1 else 0)
    (hone : ∀ c, v (ix4 0 0 c one) = 1)
    (P : Fin 4096 → Prop) (hP : ∀ c : Fin 4096, P c ↔ q (ix4 0 0 g (⟨128 + c.val / 256, by omega⟩ : Fin 256)) = 0 ∧ c.val ≤ 2048 + g.val)
    (t : Fin 4096 → EReal)
    (ht : ∀ c, t c = if P c then (∑ i, q (ix4 0 0 g (j i)) * k (ix4 0 0 c (j i))) * ((Real.log 2 : ℝ) : EReal) else ⊥) :
    Ideal.div (Chain.acc 4096 le_rfl q k v g own) (Chain.acc 4096 le_rfl q k v g one)
      = ∑ c : Fin 4096, (if P c then Ideal.div (Ideal.exp (t c - Finset.univ.sup fun c' => t c')) (∑ c₁, Ideal.exp (t c₁ - Finset.univ.sup fun c' => t c')) else 0)
          * v (ix4 0 0 c own) := by
  have hd := fun c : Fin 4096 => dot256 (fun l => q (ix4 0 0 g l)) (fun l => k (ix4 0 0 c l)) j ⟨c.val / 256, by omega⟩ hj hzero hq (hk c)
    (hbias _) (hhot c)
  have hs : ∀ c : Fin 4096, Chain.score q k g c
      = if P c then ((∑ i, (q (ix4 0 0 g (j i))).toReal * (k (ix4 0 0 c (j i))).toReal : ℝ) : EReal) else ⊥ := fun c => by
    unfold Chain.score
    by_cases hc : c.val ≤ 2048 + g.val
    · rw [if_pos hc, (hd c).2]
      by_cases h0 : q (ix4 0 0 g (⟨128 + c.val / 256, by omega⟩ : Fin 256)) = 0
      · rw [if_pos h0, if_pos ((hP c).2 ⟨h0, hc⟩)]
      · rw [if_neg h0, if_neg fun h => h0 ((hP c).1 h).1]
    · rw [if_neg hc, if_neg fun h => hc ((hP c).1 h).2]
  have ht' : ∀ c : Fin 4096, t c
      = if P c then ((∑ i, (q (ix4 0 0 g (j i))).toReal * (k (ix4 0 0 c (j i))).toReal : ℝ) : EReal) * ((Real.log 2 : ℝ) : EReal) else ⊥ := fun c => by
    rw [ht c, (hd c).1]
  have hr := Soft.row P _ (Chain.score q k g) t hs ht' ⟨2048 + g.val, by omega⟩ ((hP _).2 ⟨hown, le_rfl⟩) (fun c => v (ix4 0 0 c own))
  refine Eq.trans ?_ hr
  unfold Chain.acc
  refine congrArg (Ideal.div _) (Finset.sum_congr rfl fun c _ => ?_)
  show Ideal.exp2 _ * v (ix4 0 0 c one) = _
  rw [hone c, mul_one]
  rfl

/-- The even heads. -/
theorem even (x0 x1 x2 : FVec Ideal Cert.Pre_layout.S8x8x4096x256 .bf16) (x3 x4 : FVec Ideal Cert.Pre_layout.S8x8x4096x128 .bf16) (L : Pre.Layout x0 x1 x2 x3 x4)
    (b p : Fin 8) (g : Fin 2048) (d : Fin 64) :
    Ideal.div
      (Chain.acc 4096 le_rfl (fun y => x0 (ix4 b p (Fin.natAdd 2048 (y 2 : Fin 2048) : Fin 4096) (y 3 : Fin 256)))
        (fun y => x2 (ix4 b p (y 2 : Fin 4096) (y 3 : Fin 256))) (fun y => x3 (ix4 b p (y 2 : Fin 4096) (y 3 : Fin 128))) g (⟨d.val, by omega⟩ : Fin 128))
      (Chain.acc 4096 le_rfl (fun y => x0 (ix4 b p (Fin.natAdd 2048 (y 2 : Fin 2048) : Fin 4096) (y 3 : Fin 256)))
        (fun y => x2 (ix4 b p (y 2 : Fin 4096) (y 3 : Fin 256))) (fun y => x3 (ix4 b p (y 2 : Fin 4096) (y 3 : Fin 128))) g (⟨64 + d.val, by omega⟩ : Fin 128))
      = val_main_v66 (F := Ideal) x0 x1 x2 x3 x4 (ix4 b (⟨2 * p.val, by omega⟩ : Fin 16) g d) := by
  rw [Ref.row_at]
  refine (head _ _ _ g _ _ ⟨fun i : Fin 64 => (⟨i.val, by omega⟩ : Fin 256), fun i i' h => Fin.ext (by have := congrArg Fin.val h; simp only at this; omega)⟩
    (fun i => ?_) (fun l hl hn => ?_) (fun i => L.qa_fin b p _ i) (fun c i => L.k_fin b p c ⟨i.val, by omega⟩) (L.qa_own b p (⟨2048 + g.val, by omega⟩ : Fin 4096))
    (fun o => L.qa_bias b p _ o) (fun c n => L.k_hot b p c n) (fun c => L.va_one b p c d) _ (fun c => ?_) _ (fun c => ?_)).trans
    (Finset.sum_congr rfl fun c _ => congrArg _ (Ref.v_even x3 x4 b p c d).symm)
  · show i.val < 128
    omega
  · have hl' : 64 ≤ l.val := by
      by_contra h
      exact hn ⟨l.val, by omega⟩ rfl
    refine Eq.trans (congrArg x0 (congrArg (ix4 b p _) ?_)) (L.qa_zero b p (⟨2048 + g.val, by omega⟩ : Fin 4096) ⟨l.val - 64, by omega⟩)
    exact Fin.ext (by show l.val = 64 + (l.val - 64); omega)
  · unfold Ref.mask
    rw [Ref.bias_even]
    exact Iff.rfl
  · unfold Ref.scoreAt
    simp only [Ref.q_even, Ref.k_even]
    rfl

/-- The odd heads. -/
theorem odd (x0 x1 x2 : FVec Ideal Cert.Pre_layout.S8x8x4096x256 .bf16) (x3 x4 : FVec Ideal Cert.Pre_layout.S8x8x4096x128 .bf16) (L : Pre.Layout x0 x1 x2 x3 x4)
    (b p : Fin 8) (g : Fin 2048) (d : Fin 64) :
    Ideal.div
      (Chain.acc 4096 le_rfl (fun y => x1 (ix4 b p (Fin.natAdd 2048 (y 2 : Fin 2048) : Fin 4096) (y 3 : Fin 256)))
        (fun y => x2 (ix4 b p (y 2 : Fin 4096) (y 3 : Fin 256))) (fun y => x4 (ix4 b p (y 2 : Fin 4096) (y 3 : Fin 128))) g (⟨64 + d.val, by omega⟩ : Fin 128))
      (Chain.acc 4096 le_rfl (fun y => x1 (ix4 b p (Fin.natAdd 2048 (y 2 : Fin 2048) : Fin 4096) (y 3 : Fin 256)))
        (fun y => x2 (ix4 b p (y 2 : Fin 4096) (y 3 : Fin 256))) (fun y => x4 (ix4 b p (y 2 : Fin 4096) (y 3 : Fin 128))) g (⟨d.val, by omega⟩ : Fin 128))
      = val_main_v66 (F := Ideal) x0 x1 x2 x3 x4 (ix4 b (⟨2 * p.val + 1, by omega⟩ : Fin 16) g d) := by
  rw [Ref.row_at]
  refine (head _ _ _ g _ _ ⟨fun i : Fin 64 => (⟨64 + i.val, by omega⟩ : Fin 256), fun i i' h => Fin.ext (by have := congrArg Fin.val h; simp only at this; omega)⟩
    (fun i => ?_) (fun l hl hn => ?_) (fun i => L.qb_fin b p _ i) (fun c i => L.k_fin b p c ⟨64 + i.val, by omega⟩) (L.qb_own b p (⟨2048 + g.val, by omega⟩ : Fin 4096))
    (fun o => L.qb_bias b p _ o) (fun c n => L.k_hot b p c n) (fun c => L.vb_one b p c d) _ (fun c => ?_) _ (fun c => ?_)).trans
    (Finset.sum_congr rfl fun c _ => congrArg _ (Ref.v_odd x3 x4 b p c d).symm)
  · show 64 + i.val < 128
    omega
  · have hl' : l.val < 64 := by
      by_contra h
      exact hn ⟨l.val - 64, by omega⟩ (Fin.ext (by show 64 + (l.val - 64) = l.val; omega))
    exact L.qb_zero b p (⟨2048 + g.val, by omega⟩ : Fin 4096) ⟨l.val, by omega⟩
  · unfold Ref.mask
    rw [Ref.bias_odd]
    exact Iff.rfl
  · unfold Ref.scoreAt
    simp only [Ref.q_odd, Ref.k_odd]
    rfl

/-- The kernel's rows from 2048 on are the reference's. -/
theorem rows (x0 x1 x2 : FVec Ideal Cert.Pre_layout.S8x8x4096x256 .bf16) (x3 x4 : FVec Ideal Cert.Pre_layout.S8x8x4096x128 .bf16) (x5 : FVec Ideal Cert.Pre_layout.S8x4096x1024 .f32)
    (L : Pre.Layout x0 x1 x2 x3 x4) (b p : Fin 8) (g : Fin 2048) (lane : Fin 128) :
    Chains.outVal x0 x1 x2 x3 x4 b p g lane
      = val_main_v70 (F := Ideal) x0 x1 x2 x3 x4 x5 (ix3 b (⟨2048 + g.val, by omega⟩ : Fin 4096) (⟨128 * p.val + lane.val, by omega⟩ : Fin 1024)) := by
  rw [Ref.out_late]
  unfold Chains.outVal Chains.blockVal Chain.merge
  by_cases h : lane.val < 64
  · rw [if_pos h, if_pos h, show (⟨(128 * p.val + lane.val) / 64, by omega⟩ : Fin 16) = ⟨2 * p.val, by omega⟩ from Fin.ext (by show (128 * p.val + lane.val) / 64 = 2 * p.val; omega),
      show (⟨(128 * p.val + lane.val) % 64, Nat.mod_lt _ (by decide)⟩ : Fin 64) = ⟨lane.val, h⟩ from Fin.ext (by show (128 * p.val + lane.val) % 64 = lane.val; omega),
      show Chain.turn lane = (⟨64 + lane.val, by omega⟩ : Fin 128) from Fin.ext (by show (lane.val + 128 - 64) % 128 = 64 + lane.val; omega)]
    exact even x0 x1 x2 x3 x4 L b p g ⟨lane.val, h⟩
  · rw [if_neg h, if_neg h, show (⟨(128 * p.val + lane.val) / 64, by omega⟩ : Fin 16) = ⟨2 * p.val + 1, by omega⟩ from Fin.ext (by show (128 * p.val + lane.val) / 64 = 2 * p.val + 1; omega),
      show (⟨(128 * p.val + lane.val) % 64, Nat.mod_lt _ (by decide)⟩ : Fin 64) = ⟨lane.val - 64, by omega⟩ from Fin.ext (by show (128 * p.val + lane.val) % 64 = lane.val - 64; omega),
      show Chain.turn lane = (⟨lane.val - 64, by omega⟩ : Fin 128) from Fin.ext (by show (lane.val + 128 - 64) % 128 = lane.val - 64; omega)]
    rw [← odd x0 x1 x2 x3 x4 L b p g ⟨lane.val - 64, by omega⟩,
      show (⟨64 + (lane.val - 64), by omega⟩ : Fin 128) = lane from Fin.ext (by show 64 + (lane.val - 64) = lane.val; omega)]

open Cert.KernelIdeal Cert.KernelIdeal.Gen TcCoe in
/-- The kernel's array is the reference's. -/
theorem array (m : (ℓ : Loc nD τ sig) → Buf (Elt Ideal) ℓ) (c : Dev nD)
    (L : Pre.Layout (m ((c : Thread nD τ).loc main_arg0)) (m ((c : Thread nD τ).loc main_arg1)) (m ((c : Thread nD τ).loc main_arg2))
      (m ((c : Thread nD τ).loc main_arg3)) (m ((c : Thread nD τ).loc main_arg4))) :
    (dats m 0 c).arrAt 5 cfg0.N
      = val_main_v70 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext y
  obtain ⟨b, g, n, rfl⟩ : ∃ (b : Fin 8) (g : Fin 4096) (n : Fin 1024), y = ix3 b g n := ⟨y 0, y 1, y 2, eq_ix3 y⟩
  by_cases hg : g.val < 2048
  · exact (Chains.early m c b g hg n).trans (Ref.out_early _ _ _ _ _ _ b g hg n).symm
  · have e1 : g = (⟨2048 + (⟨g.val - 2048, by omega⟩ : Fin 2048).val, by simp only; omega⟩ : Fin 4096) := Fin.ext (by show g.val = 2048 + (g.val - 2048); omega)
    have e2 : n = (⟨128 * (⟨n.val / 128, by omega⟩ : Fin 8).val + (⟨n.val % 128, Nat.mod_lt _ (by decide)⟩ : Fin 128).val, by simp only; omega⟩ : Fin 1024) :=
      Fin.ext (by show n.val = 128 * (n.val / 128) + n.val % 128; omega)
    rw [e1, e2]
    exact (Chains.late m c b _ _ _).trans (rows _ _ _ _ _ _ L b _ _ _)

end Cert.Heads
end
-- ==== Proof.Attention.lean ====
/-
  The attention call of the second query group: its frames, its idealization and its value.
-/
module

public import proofs.«01_k».proof.Defs
public import proofs.«01_k».proof.Proof.Heads
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent

@[expose] public section

noncomputable section

namespace Cert.Attention

open Idealize.ShloMosaic Idealize.SL.Sem

/-- What the precondition states of its shapes. -/
instance preFacts : Cert.Pre_layout.Facts where
  slices_S8x8x4096x256_S8x8x4096x16_0_0_0_128 := by decide
  bitsLt_bf16_f32 := by decide
  bcast_S_S8x8x4096x128 := by decide
  slices_S8x8x4096x128_S8x8x4096x16_0_0_0_0 := by decide
  slices_S8x8x4096x256_S8x8x4096x64_0_0_0_0 := by decide
  bcast_S_S8x8x4096x64 := by decide
  reducesTo_S8x8x4096x64_S_d0_1_2_3 := by decide
  h_S_ := by decide
  slices_S8x8x4096x256_S8x8x4096x64_0_0_0_64 := by decide
  slices_S8x8x4096x256_S8x8x4096x128_0_0_0_0 := by decide
  reducesTo_S8x8x4096x128_S_d0_1_2_3 := by decide
  bcast_S_S8x8x4096x16 := by decide
  reducesTo_S8x8x4096x16_S_d0_1_2_3 := by decide
  slices_S8x8x4096x256_S8x8x4096x128_0_0_0_128 := by decide
  slices_S8x8x4096x128_S8x8x4096x64_0_0_0_64 := by decide
  slices_S8x8x4096x128_S8x8x4096x64_0_0_0_0 := by decide

/-- The reference returns, leaves its arguments and no counter raised. -/
theorem reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The exact kernel's result is the reference's. -/
theorem value : Cert.algebraic_KernelIdeal_ReferenceIdeal_pre_layout := by
  intro m ρ m' ρ' hpre hagree
  refine ⟨fun c => Cert.ReferenceIdeal.Value.res_main_v70 (F := Ideal) m' c,
    (θ_run Cert.KernelIdeal.defs _ _).mono (fun r h c => ⟨(h c).1.trans ?_, (h c).2⟩) (Cert.KernelIdeal.Value.run_blocks (F := Ideal) m ρ),
    (θ_run Cert.ReferenceIdeal.defs _ _).mono (fun r h c => h c) (Cert.ReferenceIdeal.Value.run (F := Ideal) m' ρ')⟩
  obtain ⟨h0, h1, h2, h3, h4, h5⟩ := hagree c
  refine (Heads.array m c (Pre.layout _ _ _ _ _ _ (hpre c))).trans ?_
  refine Eq.trans ?_ (Cert.ReferenceIdeal.Read.val_main_v70_eq (F := Ideal) m' c).symm
  rw [h0, h1, h2, h3, h4, h5]

end Cert.Attention

end
-- ==== Proof.EarlyChain.lean ====
/-
  One chain of the call of the first query group: `Chain.score` and `Chain.acc` with the block's rows at the start of the sequence
  and any number of keys.
-/
module

public import proofs.«01_k».proof.Proof.Chain

@[expose] public section

set_option maxRecDepth 16384

noncomputable section

namespace Cert.EarlyChain

open Idealize.ShloMosaic Chain

/-- The score of row `g` against key `c`: masked after the row's own place. -/
def score {K : ℕ} (q : (⟨4, ![1, 1, 2048, 256]⟩ : Shape).Idx → EReal) (k : (⟨4, ![1, 1, K, 256]⟩ : Shape).Idx → EReal)
    (g : Fin 2048) (c : Fin K) : EReal :=
  if c.val ≤ g.val then ∑ l : Fin 256, q (ix4 0 0 g l) * k (ix4 0 0 c l) else ⊥

/-- The unnormalised mix of the first `W` keys' values: what the chain of row `g`'s block computes. -/
def acc {K : ℕ} (W : ℕ) (hW : W ≤ K) (q : (⟨4, ![1, 1, 2048, 256]⟩ : Shape).Idx → EReal) (k : (⟨4, ![1, 1, K, 256]⟩ : Shape).Idx → EReal)
    (v : (⟨4, ![1, 1, K, 128]⟩ : Shape).Idx → EReal) (g : Fin 2048) (lane : Fin 128) : EReal :=
  ∑ c : Fin W, Ideal.exp2 (score q k g (c.castLE hW) - Finset.univ.sup fun c' : Fin W => score q k g (c'.castLE hW))
    * v (ix4 0 0 (c.castLE hW) lane)

/-- The mix from the exponentials' and the values' entries. -/
theorem accAt {K W : ℕ} (hW : W ≤ K) (wf) (p : FVec Ideal (⟨2, ![256, W]⟩ : Shape) .bf16)
    (v : FVec Ideal (⟨2, ![W, 128]⟩ : Shape) .bf16) (r : Fin 256) (lane : Fin 128) (Q) (k : (⟨4, ![1, 1, K, 256]⟩ : Shape).Idx → EReal) (V) (g : Fin 2048)
    (hp : ∀ c, p (ix2 r c) = Ideal.exp2 (score Q k g (c.castLE hW) - Finset.univ.sup fun c' : Fin W => score Q k g (c'.castLE hW)))
    (hv : ∀ c, v (ix2 c lane) = V (ix4 0 0 (c.castLE hW) lane)) :
    matmul (F := Ideal) (dotCols W wf) none p v (constant (⟨2, ![256, 128]⟩ : Shape) FTy.f32 0#32) (ix2 r lane)
      = acc W hW Q k V g lane :=
  (mix wf p v r lane).trans (Finset.sum_congr rfl fun c _ => by rw [hp, hv])

/-- A key after the row's own place weighs nothing, so the mix may run over all keys of a longer sequence. -/
theorem acc_all {K N : ℕ} (W : ℕ) (hW : W ≤ K) (hK : K ≤ N) (q k v) (k' : (⟨4, ![1, 1, N, 256]⟩ : Shape).Idx → EReal)
    (v' : (⟨4, ![1, 1, N, 128]⟩ : Shape).Idx → EReal) (hk : ∀ c l, k (ix4 0 0 c l) = k' (ix4 0 0 (c.castLE hK) l))
    (hv : ∀ c l, v (ix4 0 0 c l) = v' (ix4 0 0 (c.castLE hK) l)) (g : Fin 2048) (hg : g.val < W) (lane : Fin 128) :
    acc W hW q k v g lane = acc N le_rfl q k' v' g lane := by
  have hbot : ∀ c : Fin N, W ≤ c.val → score q k' g c = ⊥ := fun c hc => if_neg (by omega)
  have hs : ∀ c : Fin W, score q k g (c.castLE hW) = score q k' g (c.castLE (hW.trans hK)) := fun c => by
    unfold score
    simp only [hk]
    rfl
  have hsup : (Finset.univ.sup fun c' : Fin W => score q k g (c'.castLE hW))
      = Finset.univ.sup fun c' : Fin N => score q k' g (c'.castLE le_rfl) := by
    apply le_antisymm
    · exact Finset.sup_le fun c _ => (hs c).le.trans
        (Finset.le_sup (f := fun c' : Fin N => score q k' g (c'.castLE le_rfl)) (Finset.mem_univ (c.castLE (hW.trans hK))))
    · refine Finset.sup_le fun c _ => ?_
      by_cases hc : c.val < W
      · exact (hs (⟨c.val, hc⟩ : Fin W)).ge.trans (Finset.le_sup (f := fun c' : Fin W => score q k g (c'.castLE hW)) (Finset.mem_univ (⟨c.val, hc⟩ : Fin W)))
      · exact (hbot c (by omega)).le.trans bot_le
  unfold acc
  rw [hsup]
  generalize (Finset.univ.sup fun c' : Fin N => score q k' g (c'.castLE le_rfl)) = M
  have hzero : ∀ c : Fin N, W ≤ c.val → Ideal.exp2 (score q k' g c - M) * v' (ix4 0 0 c lane) = 0 := fun c hc => by
    rw [hbot c hc, show (⊥ : EReal) - M = ⊥ from EReal.bot_sub M, show Ideal.exp2 ⊥ = 0 from rfl, zero_mul]
  rw [← Finset.sum_subset (Finset.subset_univ (Finset.univ.map (Fin.castLEEmb (hW.trans hK))))]
  · rw [Finset.sum_map]
    refine Finset.sum_congr rfl fun c _ => ?_
    rw [hs c, hv]
    rfl
  · intro c _ hc
    refine hzero c ?_
    by_contra h
    exact hc (Finset.mem_map.mpr ⟨⟨c.val, by omega⟩, Finset.mem_univ _, rfl⟩)

end Cert.EarlyChain
end
-- ==== Proof.EarlyChains.lean ====
/-
  The chains of the kernel's body: each product with the values is `Chain.acc`.
-/
module

public import proofs.«01_k».proof.Proof.EarlyChain
public import proofs.«01_k».proof.Proof.Gen.EarlyIdeal.Value

@[expose] public section

set_option maxRecDepth 16384

noncomputable section

namespace Cert.EarlyChains

open Idealize.ShloMosaic Cert.EarlyIdeal Cert.EarlyIdeal.Gen

theorem zero_add_mk {n m : ℕ} {h : 0 + m < n} : (⟨0 + m, h⟩ : Fin n) = ⟨m, by omega⟩ := Fin.ext (Nat.zero_add m)

/-- Query rows 0 … 255 of head 0: the mix of the first 256 keys' values. -/
theorem acc_0_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg5 : Memref sig .tc .vmem S1x1x2048x128 .bf16)
    (harg5 : arg5.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x3 : Vec Ideal S1x1x2048x128 .bf16) (r : Fin 256) (lane : Fin 128) :
    kernelRun0_A.sl.v165 (F := Ideal) c arg2 harg2 arg3 harg3 arg4 harg4 arg5 harg5 arg9 arg10 x0 x1 x2 x3 (ix2 r lane)
      = EarlyChain.acc 256 (by decide) x0 x2 x3 ⟨0 + r.val, by omega⟩ lane := by
  refine EarlyChain.accAt (W := 256) (by decide) _ _ _ r lane x0 x2 x3 ⟨0 + r.val, by omega⟩ (fun d => ?_)
    (fun d => Chain.rowsAt harg5 x3 _ _ d lane (d.castLE (by decide)) (Nat.zero_add d.val).symm)
  · refine (Planes.load _ _ 0 0 0 256 _ _ _ _ _ _ _ _ r d (by omega)).trans ?_
    rw [zero_add_mk]
    refine (Planes.box_miss _ 0 0 1 1 (by decide) 512 _ _ _ _).trans ?_
    refine (Planes.box_miss _ 0 0 0 1 (by decide) 512 _ _ _ _).trans ?_
    refine (Planes.box_miss _ 0 0 1 0 (by decide) 256 _ _ _ _).trans ?_
    refine (Planes.box_hit _ 0 0 256 _ _ r d (by omega)).trans ?_
    refine (Chain.expo _ _ _ _ _ _ r d).trans (congrArg Ideal.exp2 (congrArg₂ (· - ·) ?_ ?_))
    · refine (Planes.load _ _ 0 0 0 256 _ _ _ _ _ _ _ _ r d (by omega)).trans ?_
      refine (Planes.store_miss _ 0 0 1 1 (by decide) 256 256 _ _ _ _ _ _ _ _ _ _).trans ?_
      refine (Planes.store_miss _ 0 0 0 1 (by decide) 256 256 _ _ _ _ _ _ _ _ _ _).trans ?_
      refine (Planes.store_miss _ 0 0 1 0 (by decide) 0 256 _ _ _ _ _ _ _ _ _ _).trans ?_
      refine (Planes.store_hit _ 0 0 0 256 _ _ _ _ _ _ _ _ _ r d (by omega)).trans ?_
      refine (Chain.triangle _ _ _ _ _ r d).trans ?_
      by_cases hj : d.val ≤ r.val
      · refine (if_pos hj).trans ?_
        refine (Planes.load _ _ 0 0 0 256 _ _ _ _ _ _ _ _ r d (by omega)).trans ?_
        refine (Planes.store_miss _ 0 0 1 1 (by decide) 0 512 _ _ _ _ _ _ _ _ _ _).trans ?_
        refine (Planes.store_miss _ 0 0 0 1 (by decide) 0 512 _ _ _ _ _ _ _ _ _ _).trans ?_
        refine (Planes.store_miss _ 0 0 1 0 (by decide) 0 256 _ _ _ _ _ _ _ _ _ _).trans ?_
        refine (Planes.store_hit _ 0 0 0 256 _ _ _ _ _ _ _ _ _ r d (by omega)).trans ?_
        exact (Chain.scoresAt _ _ _ _ r d (fun l => x0 (ix4 0 0 ⟨0 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (0 + r.val); omega)).symm
      · exact ((if_neg hj).trans (show _ = (⊥ : EReal) from rfl)).trans ((if_neg (by show ¬ d.val ≤ (0 + r.val); omega)).symm)
    · unfold kernelRun0_A.sl.r_1 k0_pay11
      dsimp only
      refine Chain.rowMax (W := 256) reduces_S256x256_S256 (.inl rfl) rfl shapeCasts_S256_S256x1 _ _ rfl (fun c' => EarlyChain.score x0 x2 ⟨0 + r.val, by omega⟩ (c'.castLE (by decide))) r (fun d => ?_)
      refine (Planes.load _ _ 0 0 0 256 _ _ _ _ _ _ _ _ r d (by omega)).trans ?_
      refine (Planes.store_hit _ 0 0 0 256 _ _ _ _ _ _ _ _ _ r d (by omega)).trans ?_
      refine (Chain.triangle _ _ _ _ _ r d).trans ?_
      by_cases hj : d.val ≤ r.val
      · refine (if_pos hj).trans ?_
        refine (Planes.load _ _ 0 0 0 256 _ _ _ _ _ _ _ _ r d (by omega)).trans ?_
        refine (Planes.store_miss _ 0 0 1 1 (by decide) 0 512 _ _ _ _ _ _ _ _ _ _).trans ?_
        refine (Planes.store_miss _ 0 0 0 1 (by decide) 0 512 _ _ _ _ _ _ _ _ _ _).trans ?_
        refine (Planes.store_miss _ 0 0 1 0 (by decide) 0 256 _ _ _ _ _ _ _ _ _ _).trans ?_
        refine (Planes.store_hit _ 0 0 0 256 _ _ _ _ _ _ _ _ _ r d (by omega)).trans ?_
        exact (Chain.scoresAt _ _ _ _ r d (fun l => x0 (ix4 0 0 ⟨0 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (0 + r.val); omega)).symm
      · exact ((if_neg hj).trans (show _ = (⊥ : EReal) from rfl)).trans ((if_neg (by show ¬ d.val ≤ (0 + r.val); omega)).symm)

/-- Query rows 0 … 255 of head 1: the mix of the first 256 keys' values. -/
theorem acc_0_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg6 : Memref sig .tc .vmem S1x1x2048x128 .bf16)
    (harg6 : arg6.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x4 : Vec Ideal S1x1x2048x128 .bf16) (r : Fin 256) (lane : Fin 128) :
    kernelRun0_A.sl.v171 (F := Ideal) c arg2 harg2 arg3 harg3 arg4 harg4 arg6 harg6 arg9 arg10 x0 x1 x2 x4 (ix2 r lane)
      = EarlyChain.acc 256 (by decide) x1 x2 x4 ⟨0 + r.val, by omega⟩ lane := by
  refine EarlyChain.accAt (W := 256) (by decide) _ _ _ r lane x1 x2 x4 ⟨0 + r.val, by omega⟩ (fun d => ?_)
    (fun d => Chain.rowsAt harg6 x4 _ _ d lane (d.castLE (by decide)) (Nat.zero_add d.val).symm)
  · refine (Planes.load _ _ 1 0 0 256 _ _ _ _ _ _ _ _ r d (by omega)).trans ?_
    rw [zero_add_mk]
    refine (Planes.box_miss _ 1 0 1 1 (by decide) 512 _ _ _ _).trans ?_
    refine (Planes.box_miss _ 1 0 0 1 (by decide) 512 _ _ _ _).trans ?_
    refine (Planes.box_hit _ 1 0 256 _ _ r d (by omega)).trans ?_
    refine (Chain.expo _ _ _ _ _ _ r d).trans (congrArg Ideal.exp2 (congrArg₂ (· - ·) ?_ ?_))
    · refine (Planes.load _ _ 1 0 0 256 _ _ _ _ _ _ _ _ r d (by omega)).trans ?_
      refine (Planes.store_miss _ 1 0 1 1 (by decide) 256 256 _ _ _ _ _ _ _ _ _ _).trans ?_
      refine (Planes.store_miss _ 1 0 0 1 (by decide) 256 256 _ _ _ _ _ _ _ _ _ _).trans ?_
      refine (Planes.store_hit _ 1 0 0 256 _ _ _ _ _ _ _ _ _ r d (by omega)).trans ?_
      refine (Chain.triangle _ _ _ _ _ r d).trans ?_
      by_cases hj : d.val ≤ r.val
      · refine (if_pos hj).trans ?_
        refine (Planes.load _ _ 1 0 0 256 _ _ _ _ _ _ _ _ r d (by omega)).trans ?_
        refine (Planes.store_miss _ 1 0 0 0 (by decide) 0 256 _ _ _ _ _ _ _ _ _ _).trans ?_
        refine (Planes.store_miss _ 1 0 1 1 (by decide) 0 512 _ _ _ _ _ _ _ _ _ _).trans ?_
        refine (Planes.store_miss _ 1 0 0 1 (by decide) 0 512 _ _ _ _ _ _ _ _ _ _).trans ?_
        refine (Planes.store_hit _ 1 0 0 256 _ _ _ _ _ _ _ _ _ r d (by omega)).trans ?_
        exact (Chain.scoresAt _ _ _ _ r d (fun l => x1 (ix4 0 0 ⟨0 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (0 + r.val); omega)).symm
      · exact ((if_neg hj).trans (show _ = (⊥ : EReal) from rfl)).trans ((if_neg (by show ¬ d.val ≤ (0 + r.val); omega)).symm)
    · unfold kernelRun0_A.sl.r_2 k0_pay13
      dsimp only
      refine Chain.rowMax (W := 256) reduces_S256x256_S256 (.inl rfl) rfl shapeCasts_S256_S256x1 _ _ rfl (fun c' => EarlyChain.score x1 x2 ⟨0 + r.val, by omega⟩ (c'.castLE (by decide))) r (fun d => ?_)
      refine (Planes.load _ _ 1 0 0 256 _ _ _ _ _ _ _ _ r d (by omega)).trans ?_
      refine (Planes.store_hit _ 1 0 0 256 _ _ _ _ _ _ _ _ _ r d (by omega)).trans ?_
      refine (Chain.triangle _ _ _ _ _ r d).trans ?_
      by_cases hj : d.val ≤ r.val
      · refine (if_pos hj).trans ?_
        refine (Planes.load _ _ 1 0 0 256 _ _ _ _ _ _ _ _ r d (by omega)).trans ?_
        refine (Planes.store_miss _ 1 0 0 0 (by decide) 0 256 _ _ _ _ _ _ _ _ _ _).trans ?_
        refine (Planes.store_miss _ 1 0 1 1 (by decide) 0 512 _ _ _ _ _ _ _ _ _ _).trans ?_
        refine (Planes.store_miss _ 1 0 0 1 (by decide) 0 512 _ _ _ _ _ _ _ _ _ _).trans ?_
        refine (Planes.store_hit _ 1 0 0 256 _ _ _ _ _ _ _ _ _ r d (by omega)).trans ?_
        exact (Chain.scoresAt _ _ _ _ r d (fun l => x1 (ix4 0 0 ⟨0 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (0 + r.val); omega)).symm
      · exact ((if_neg hj).trans (show _ = (⊥ : EReal) from rfl)).trans ((if_neg (by show ¬ d.val ≤ (0 + r.val); omega)).symm)

/-- Query rows 256 … 511 of head 0: the mix of the first 512 keys' values. -/
theorem acc_1_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg5 : Memref sig .tc .vmem S1x1x2048x128 .bf16)
    (harg5 : arg5.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x3 : Vec Ideal S1x1x2048x128 .bf16) (r : Fin 256) (lane : Fin 128) :
    kernelRun0_A.sl.v177 (F := Ideal) c arg2 harg2 arg3 harg3 arg4 harg4 arg5 harg5 arg9 arg10 x0 x1 x2 x3 (ix2 r lane)
      = EarlyChain.acc 512 (by decide) x0 x2 x3 ⟨256 + r.val, by omega⟩ lane := by
  refine EarlyChain.accAt (W := 512) (by decide) _ _ _ r lane x0 x2 x3 ⟨256 + r.val, by omega⟩ (fun d => ?_)
    (fun d => Chain.rowsAt harg5 x3 _ _ d lane (d.castLE (by decide)) (Nat.zero_add d.val).symm)
  · refine (Planes.load _ _ 0 1 0 512 _ _ _ _ _ _ _ _ r d (by omega)).trans ?_
    rw [zero_add_mk]
    refine (Planes.box_miss _ 0 1 1 1 (by decide) 512 _ _ _ _).trans ?_
    refine (Planes.box_hit _ 0 1 512 _ _ r d (by omega)).trans ?_
    refine (Chain.expo _ _ _ _ _ _ r d).trans (congrArg Ideal.exp2 (congrArg₂ (· - ·) ?_ ?_))
    · refine (Planes.load _ _ 0 1 0 512 _ _ _ _ _ _ _ _ r d (by omega)).trans ?_
      refine (Planes.store_miss _ 0 1 1 1 (by decide) 256 256 _ _ _ _ _ _ _ _ _ _).trans ?_
      by_cases hd : d.val < 256
      · refine (Planes.store_before _ 0 1 0 1 256 256 _ _ _ _ _ _ _ _ r _ (by show 0 + d.val < 256; omega)).trans ?_
        refine (Planes.store_miss _ 0 1 1 0 (by decide) 0 256 _ _ _ _ _ _ _ _ _ _).trans ?_
        refine (Planes.store_miss _ 0 1 0 0 (by decide) 0 256 _ _ _ _ _ _ _ _ _ _).trans ?_
        refine (Planes.store_miss _ 0 1 1 1 (by decide) 0 512 _ _ _ _ _ _ _ _ _ _).trans ?_
        refine (Planes.store_hit _ 0 1 0 512 _ _ _ _ _ _ _ _ _ r d (by omega)).trans ?_
        exact (Chain.scoresAt _ _ _ _ r d (fun l => x0 (ix4 0 0 ⟨256 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (256 + r.val); omega)).symm
      · rw [show (⟨0 + d.val, by omega⟩ : Fin 2048) = ⟨256 + (d.val - 256), by omega⟩ from Fin.ext (by show 0 + d.val = 256 + (d.val - 256); omega)]
        refine (Planes.store_hit _ 0 1 256 256 _ _ _ _ _ _ _ _ _ r ⟨d.val - 256, by omega⟩ (by show 256 + (d.val - 256) < 2048; omega)).trans ?_
        refine (Chain.triangle _ _ _ _ _ r ⟨d.val - 256, by omega⟩).trans ?_
        by_cases hj : d.val - 256 ≤ r.val
        · refine (if_pos hj).trans ?_
          refine (Planes.load _ _ 0 1 256 256 _ _ _ _ _ _ _ _ r ⟨d.val - 256, by omega⟩ (by show 256 + (d.val - 256) < 2048; omega)).trans ?_
          rw [show (⟨256 + (d.val - 256), by omega⟩ : Fin 2048) = ⟨0 + d.val, by omega⟩ from Fin.ext (by show 256 + (d.val - 256) = 0 + d.val; omega)]
          refine (Planes.store_miss _ 0 1 1 0 (by decide) 0 256 _ _ _ _ _ _ _ _ _ _).trans ?_
          refine (Planes.store_miss _ 0 1 0 0 (by decide) 0 256 _ _ _ _ _ _ _ _ _ _).trans ?_
          refine (Planes.store_miss _ 0 1 1 1 (by decide) 0 512 _ _ _ _ _ _ _ _ _ _).trans ?_
          refine (Planes.store_hit _ 0 1 0 512 _ _ _ _ _ _ _ _ _ r d (by omega)).trans ?_
          exact (Chain.scoresAt _ _ _ _ r d (fun l => x0 (ix4 0 0 ⟨256 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (256 + r.val); omega)).symm
        · exact ((if_neg hj).trans (show _ = (⊥ : EReal) from rfl)).trans ((if_neg (by show ¬ d.val ≤ (256 + r.val); omega)).symm)
    · unfold kernelRun0_A.sl.r_3 k0_pay15
      dsimp only
      refine Chain.rowMax (W := 512) reduces_S256x512_S256 (.inl rfl) rfl shapeCasts_S256_S256x1 _ _ rfl (fun c' => EarlyChain.score x0 x2 ⟨256 + r.val, by omega⟩ (c'.castLE (by decide))) r (fun d => ?_)
      refine (Planes.load _ _ 0 1 0 512 _ _ _ _ _ _ _ _ r d (by omega)).trans ?_
      by_cases hd : d.val < 256
      · refine (Planes.store_before _ 0 1 0 1 256 256 _ _ _ _ _ _ _ _ r _ (by show 0 + d.val < 256; omega)).trans ?_
        refine (Planes.store_miss _ 0 1 1 0 (by decide) 0 256 _ _ _ _ _ _ _ _ _ _).trans ?_
        refine (Planes.store_miss _ 0 1 0 0 (by decide) 0 256 _ _ _ _ _ _ _ _ _ _).trans ?_
        refine (Planes.store_miss _ 0 1 1 1 (by decide) 0 512 _ _ _ _ _ _ _ _ _ _).trans ?_
        refine (Planes.store_hit _ 0 1 0 512 _ _ _ _ _ _ _ _ _ r d (by omega)).trans ?_
        exact (Chain.scoresAt _ _ _ _ r d (fun l => x0 (ix4 0 0 ⟨256 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (256 + r.val); omega)).symm
      · rw [show (⟨0 + d.val, by omega⟩ : Fin 2048) = ⟨256 + (d.val - 256), by omega⟩ from Fin.ext (by show 0 + d.val = 256 + (d.val - 256); omega)]
        refine (Planes.store_hit _ 0 1 256 256 _ _ _ _ _ _ _ _ _ r ⟨d.val - 256, by omega⟩ (by show 256 + (d.val - 256) < 2048; omega)).trans ?_
        refine (Chain.triangle _ _ _ _ _ r ⟨d.val - 256, by omega⟩).trans ?_
        by_cases hj : d.val - 256 ≤ r.val
        · refine (if_pos hj).trans ?_
          refine (Planes.load _ _ 0 1 256 256 _ _ _ _ _ _ _ _ r ⟨d.val - 256, by omega⟩ (by show 256 + (d.val - 256) < 2048; omega)).trans ?_
          rw [show (⟨256 + (d.val - 256), by omega⟩ : Fin 2048) = ⟨0 + d.val, by omega⟩ from Fin.ext (by show 256 + (d.val - 256) = 0 + d.val; omega)]
          refine (Planes.store_miss _ 0 1 1 0 (by decide) 0 256 _ _ _ _ _ _ _ _ _ _).trans ?_
          refine (Planes.store_miss _ 0 1 0 0 (by decide) 0 256 _ _ _ _ _ _ _ _ _ _).trans ?_
          refine (Planes.store_miss _ 0 1 1 1 (by decide) 0 512 _ _ _ _ _ _ _ _ _ _).trans ?_
          refine (Planes.store_hit _ 0 1 0 512 _ _ _ _ _ _ _ _ _ r d (by omega)).trans ?_
          exact (Chain.scoresAt _ _ _ _ r d (fun l => x0 (ix4 0 0 ⟨256 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (256 + r.val); omega)).symm
        · exact ((if_neg hj).trans (show _ = (⊥ : EReal) from rfl)).trans ((if_neg (by show ¬ d.val ≤ (256 + r.val); omega)).symm)

/-- Query rows 256 … 511 of head 1: the mix of the first 512 keys' values. -/
theorem acc_1_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg6 : Memref sig .tc .vmem S1x1x2048x128 .bf16)
    (harg6 : arg6.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x4 : Vec Ideal S1x1x2048x128 .bf16) (r : Fin 256) (lane : Fin 128) :
    kernelRun0_A.sl.v183 (F := Ideal) c arg2 harg2 arg3 harg3 arg4 harg4 arg6 harg6 arg9 arg10 x0 x1 x2 x4 (ix2 r lane)
      = EarlyChain.acc 512 (by decide) x1 x2 x4 ⟨256 + r.val, by omega⟩ lane := by
  refine EarlyChain.accAt (W := 512) (by decide) _ _ _ r lane x1 x2 x4 ⟨256 + r.val, by omega⟩ (fun d => ?_)
    (fun d => Chain.rowsAt harg6 x4 _ _ d lane (d.castLE (by decide)) (Nat.zero_add d.val).symm)
  · refine (Planes.load _ _ 1 1 0 512 _ _ _ _ _ _ _ _ r d (by omega)).trans ?_
    rw [zero_add_mk]
    refine (Planes.box_hit _ 1 1 512 _ _ r d (by omega)).trans ?_
    refine (Chain.expo _ _ _ _ _ _ r d).trans (congrArg Ideal.exp2 (congrArg₂ (· - ·) ?_ ?_))
    · refine (Planes.load _ _ 1 1 0 512 _ _ _ _ _ _ _ _ r d (by omega)).trans ?_
      by_cases hd : d.val < 256
      · refine (Planes.store_before _ 1 1 1 1 256 256 _ _ _ _ _ _ _ _ r _ (by show 0 + d.val < 256; omega)).trans ?_
        refine (Planes.store_miss _ 1 1 0 1 (by decide) 256 256 _ _ _ _ _ _ _ _ _ _).trans ?_
        refine (Planes.store_miss _ 1 1 1 0 (by decide) 0 256 _ _ _ _ _ _ _ _ _ _).trans ?_
        refine (Planes.store_miss _ 1 1 0 0 (by decide) 0 256 _ _ _ _ _ _ _ _ _ _).trans ?_
        refine (Planes.store_hit _ 1 1 0 512 _ _ _ _ _ _ _ _ _ r d (by omega)).trans ?_
        exact (Chain.scoresAt _ _ _ _ r d (fun l => x1 (ix4 0 0 ⟨256 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (256 + r.val); omega)).symm
      · rw [show (⟨0 + d.val, by omega⟩ : Fin 2048) = ⟨256 + (d.val - 256), by omega⟩ from Fin.ext (by show 0 + d.val = 256 + (d.val - 256); omega)]
        refine (Planes.store_hit _ 1 1 256 256 _ _ _ _ _ _ _ _ _ r ⟨d.val - 256, by omega⟩ (by show 256 + (d.val - 256) < 2048; omega)).trans ?_
        refine (Chain.triangle _ _ _ _ _ r ⟨d.val - 256, by omega⟩).trans ?_
        by_cases hj : d.val - 256 ≤ r.val
        · refine (if_pos hj).trans ?_
          refine (Planes.load _ _ 1 1 256 256 _ _ _ _ _ _ _ _ r ⟨d.val - 256, by omega⟩ (by show 256 + (d.val - 256) < 2048; omega)).trans ?_
          rw [show (⟨256 + (d.val - 256), by omega⟩ : Fin 2048) = ⟨0 + d.val, by omega⟩ from Fin.ext (by show 256 + (d.val - 256) = 0 + d.val; omega)]
          refine (Planes.store_miss _ 1 1 0 1 (by decide) 256 256 _ _ _ _ _ _ _ _ _ _).trans ?_
          refine (Planes.store_miss _ 1 1 1 0 (by decide) 0 256 _ _ _ _ _ _ _ _ _ _).trans ?_
          refine (Planes.store_miss _ 1 1 0 0 (by decide) 0 256 _ _ _ _ _ _ _ _ _ _).trans ?_
          refine (Planes.store_hit _ 1 1 0 512 _ _ _ _ _ _ _ _ _ r d (by omega)).trans ?_
          exact (Chain.scoresAt _ _ _ _ r d (fun l => x1 (ix4 0 0 ⟨256 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (256 + r.val); omega)).symm
        · exact ((if_neg hj).trans (show _ = (⊥ : EReal) from rfl)).trans ((if_neg (by show ¬ d.val ≤ (256 + r.val); omega)).symm)
    · unfold kernelRun0_A.sl.v111 kernelRun0_A.sl.v110
      dsimp only
      refine Chain.rowMax (W := 512) reduces_S256x512_S256 (.inl rfl) rfl shapeCasts_S256_S256x1 _ _ rfl (fun c' => EarlyChain.score x1 x2 ⟨256 + r.val, by omega⟩ (c'.castLE (by decide))) r (fun d => ?_)
      refine (Planes.load _ _ 1 1 0 512 _ _ _ _ _ _ _ _ r d (by omega)).trans ?_
      by_cases hd : d.val < 256
      · refine (Planes.store_before _ 1 1 1 1 256 256 _ _ _ _ _ _ _ _ r _ (by show 0 + d.val < 256; omega)).trans ?_
        refine (Planes.store_miss _ 1 1 0 1 (by decide) 256 256 _ _ _ _ _ _ _ _ _ _).trans ?_
        refine (Planes.store_miss _ 1 1 1 0 (by decide) 0 256 _ _ _ _ _ _ _ _ _ _).trans ?_
        refine (Planes.store_miss _ 1 1 0 0 (by decide) 0 256 _ _ _ _ _ _ _ _ _ _).trans ?_
        refine (Planes.store_hit _ 1 1 0 512 _ _ _ _ _ _ _ _ _ r d (by omega)).trans ?_
        exact (Chain.scoresAt _ _ _ _ r d (fun l => x1 (ix4 0 0 ⟨256 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (256 + r.val); omega)).symm
      · rw [show (⟨0 + d.val, by omega⟩ : Fin 2048) = ⟨256 + (d.val - 256), by omega⟩ from Fin.ext (by show 0 + d.val = 256 + (d.val - 256); omega)]
        refine (Planes.store_hit _ 1 1 256 256 _ _ _ _ _ _ _ _ _ r ⟨d.val - 256, by omega⟩ (by show 256 + (d.val - 256) < 2048; omega)).trans ?_
        refine (Chain.triangle _ _ _ _ _ r ⟨d.val - 256, by omega⟩).trans ?_
        by_cases hj : d.val - 256 ≤ r.val
        · refine (if_pos hj).trans ?_
          refine (Planes.load _ _ 1 1 256 256 _ _ _ _ _ _ _ _ r ⟨d.val - 256, by omega⟩ (by show 256 + (d.val - 256) < 2048; omega)).trans ?_
          rw [show (⟨256 + (d.val - 256), by omega⟩ : Fin 2048) = ⟨0 + d.val, by omega⟩ from Fin.ext (by show 256 + (d.val - 256) = 0 + d.val; omega)]
          refine (Planes.store_miss _ 1 1 0 1 (by decide) 256 256 _ _ _ _ _ _ _ _ _ _).trans ?_
          refine (Planes.store_miss _ 1 1 1 0 (by decide) 0 256 _ _ _ _ _ _ _ _ _ _).trans ?_
          refine (Planes.store_miss _ 1 1 0 0 (by decide) 0 256 _ _ _ _ _ _ _ _ _ _).trans ?_
          refine (Planes.store_hit _ 1 1 0 512 _ _ _ _ _ _ _ _ _ r d (by omega)).trans ?_
          exact (Chain.scoresAt _ _ _ _ r d (fun l => x1 (ix4 0 0 ⟨256 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (256 + r.val); omega)).symm
        · exact ((if_neg hj).trans (show _ = (⊥ : EReal) from rfl)).trans ((if_neg (by show ¬ d.val ≤ (256 + r.val); omega)).symm)

/-- Query rows 512 … 767 of head 0: the mix of the first 768 keys' values. -/
theorem acc_2_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg5 : Memref sig .tc .vmem S1x1x2048x128 .bf16)
    (harg5 : arg5.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x3 : Vec Ideal S1x1x2048x128 .bf16) (r : Fin 256) (lane : Fin 128) :
    kernelRun0_A.sl.v349 (F := Ideal) c arg2 harg2 arg3 harg3 arg4 harg4 arg5 harg5 arg9 arg10 x0 x1 x2 x3 (ix2 r lane)
      = EarlyChain.acc 768 (by decide) x0 x2 x3 ⟨512 + r.val, by omega⟩ lane := by
  refine EarlyChain.accAt (W := 768) (by decide) _ _ _ r lane x0 x2 x3 ⟨512 + r.val, by omega⟩ (fun d => ?_)
    (fun d => Chain.rowsAt harg5 x3 _ _ d lane (d.castLE (by decide)) (Nat.zero_add d.val).symm)
  · refine (Planes.load _ _ 0 0 0 768 _ _ _ _ _ _ _ _ r d (by omega)).trans ?_
    rw [zero_add_mk]
    refine (Planes.box_miss _ 0 0 1 1 (by decide) 1024 _ _ _ _).trans ?_
    refine (Planes.box_miss _ 0 0 0 1 (by decide) 1024 _ _ _ _).trans ?_
    refine (Planes.box_miss _ 0 0 1 0 (by decide) 768 _ _ _ _).trans ?_
    refine (Planes.box_hit _ 0 0 768 _ _ r d (by omega)).trans ?_
    refine (Chain.expo _ _ _ _ _ _ r d).trans (congrArg Ideal.exp2 (congrArg₂ (· - ·) ?_ ?_))
    · refine (Planes.load _ _ 0 0 0 768 _ _ _ _ _ _ _ _ r d (by omega)).trans ?_
      refine (Planes.store_miss _ 0 0 1 1 (by decide) 768 256 _ _ _ _ _ _ _ _ _ _).trans ?_
      refine (Planes.store_miss _ 0 0 0 1 (by decide) 768 256 _ _ _ _ _ _ _ _ _ _).trans ?_
      refine (Planes.store_miss _ 0 0 1 0 (by decide) 512 256 _ _ _ _ _ _ _ _ _ _).trans ?_
      by_cases hd : d.val < 512
      · refine (Planes.store_before _ 0 0 0 0 512 256 _ _ _ _ _ _ _ _ r _ (by show 0 + d.val < 512; omega)).trans ?_
        refine (Planes.store_miss _ 0 0 1 1 (by decide) 0 1024 _ _ _ _ _ _ _ _ _ _).trans ?_
        refine (Planes.store_miss _ 0 0 0 1 (by decide) 0 1024 _ _ _ _ _ _ _ _ _ _).trans ?_
        refine (Planes.store_miss _ 0 0 1 0 (by decide) 0 768 _ _ _ _ _ _ _ _ _ _).trans ?_
        refine (Planes.store_hit _ 0 0 0 768 _ _ _ _ _ _ _ _ _ r d (by omega)).trans ?_
        exact (Chain.scoresAt _ _ _ _ r d (fun l => x0 (ix4 0 0 ⟨512 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (512 + r.val); omega)).symm
      · rw [show (⟨0 + d.val, by omega⟩ : Fin 2048) = ⟨512 + (d.val - 512), by omega⟩ from Fin.ext (by show 0 + d.val = 512 + (d.val - 512); omega)]
        refine (Planes.store_hit _ 0 0 512 256 _ _ _ _ _ _ _ _ _ r ⟨d.val - 512, by omega⟩ (by show 512 + (d.val - 512) < 2048; omega)).trans ?_
        refine (Chain.triangle _ _ _ _ _ r ⟨d.val - 512, by omega⟩).trans ?_
        by_cases hj : d.val - 512 ≤ r.val
        · refine (if_pos hj).trans ?_
          refine (Planes.load _ _ 0 0 512 256 _ _ _ _ _ _ _ _ r ⟨d.val - 512, by omega⟩ (by show 512 + (d.val - 512) < 2048; omega)).trans ?_
          rw [show (⟨512 + (d.val - 512), by omega⟩ : Fin 2048) = ⟨0 + d.val, by omega⟩ from Fin.ext (by show 512 + (d.val - 512) = 0 + d.val; omega)]
          refine (Planes.store_miss _ 0 0 1 1 (by decide) 0 1024 _ _ _ _ _ _ _ _ _ _).trans ?_
          refine (Planes.store_miss _ 0 0 0 1 (by decide) 0 1024 _ _ _ _ _ _ _ _ _ _).trans ?_
          refine (Planes.store_miss _ 0 0 1 0 (by decide) 0 768 _ _ _ _ _ _ _ _ _ _).trans ?_
          refine (Planes.store_hit _ 0 0 0 768 _ _ _ _ _ _ _ _ _ r d (by omega)).trans ?_
          exact (Chain.scoresAt _ _ _ _ r d (fun l => x0 (ix4 0 0 ⟨512 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (512 + r.val); omega)).symm
        · exact ((if_neg hj).trans (show _ = (⊥ : EReal) from rfl)).trans ((if_neg (by show ¬ d.val ≤ (512 + r.val); omega)).symm)
    · unfold kernelRun0_A.sl.r_5 k0_pay35
      dsimp only
      refine Chain.rowMax (W := 768) reduces_S256x768_S256 (.inl rfl) rfl shapeCasts_S256_S256x1 _ _ rfl (fun c' => EarlyChain.score x0 x2 ⟨512 + r.val, by omega⟩ (c'.castLE (by decide))) r (fun d => ?_)
      refine (Planes.load _ _ 0 0 0 768 _ _ _ _ _ _ _ _ r d (by omega)).trans ?_
      by_cases hd : d.val < 512
      · refine (Planes.store_before _ 0 0 0 0 512 256 _ _ _ _ _ _ _ _ r _ (by show 0 + d.val < 512; omega)).trans ?_
        refine (Planes.store_miss _ 0 0 1 1 (by decide) 0 1024 _ _ _ _ _ _ _ _ _ _).trans ?_
        refine (Planes.store_miss _ 0 0 0 1 (by decide) 0 1024 _ _ _ _ _ _ _ _ _ _).trans ?_
        refine (Planes.store_miss _ 0 0 1 0 (by decide) 0 768 _ _ _ _ _ _ _ _ _ _).trans ?_
        refine (Planes.store_hit _ 0 0 0 768 _ _ _ _ _ _ _ _ _ r d (by omega)).trans ?_
        exact (Chain.scoresAt _ _ _ _ r d (fun l => x0 (ix4 0 0 ⟨512 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (512 + r.val); omega)).symm
      · rw [show (⟨0 + d.val, by omega⟩ : Fin 2048) = ⟨512 + (d.val - 512), by omega⟩ from Fin.ext (by show 0 + d.val = 512 + (d.val - 512); omega)]
        refine (Planes.store_hit _ 0 0 512 256 _ _ _ _ _ _ _ _ _ r ⟨d.val - 512, by omega⟩ (by show 512 + (d.val - 512) < 2048; omega)).trans ?_
        refine (Chain.triangle _ _ _ _ _ r ⟨d.val - 512, by omega⟩).trans ?_
        by_cases hj : d.val - 512 ≤ r.val
        · refine (if_pos hj).trans ?_
          refine (Planes.load _ _ 0 0 512 256 _ _ _ _ _ _ _ _ r ⟨d.val - 512, by omega⟩ (by show 512 + (d.val - 512) < 2048; omega)).trans ?_
          rw [show (⟨512 + (d.val - 512), by omega⟩ : Fin 2048) = ⟨0 + d.val, by omega⟩ from Fin.ext (by show 512 + (d.val - 512) = 0 + d.val; omega)]
          refine (Planes.store_miss _ 0 0 1 1 (by decide) 0 1024 _ _ _ _ _ _ _ _ _ _).trans ?_
          refine (Planes.store_miss _ 0 0 0 1 (by decide) 0 1024 _ _ _ _ _ _ _ _ _ _).trans ?_
          refine (Planes.store_miss _ 0 0 1 0 (by decide) 0 768 _ _ _ _ _ _ _ _ _ _).trans ?_
          refine (Planes.store_hit _ 0 0 0 768 _ _ _ _ _ _ _ _ _ r d (by omega)).trans ?_
          exact (Chain.scoresAt _ _ _ _ r d (fun l => x0 (ix4 0 0 ⟨512 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (512 + r.val); omega)).symm
        · exact ((if_neg hj).trans (show _ = (⊥ : EReal) from rfl)).trans ((if_neg (by show ¬ d.val ≤ (512 + r.val); omega)).symm)

/-- Query rows 512 … 767 of head 1: the mix of the first 768 keys' values. -/
theorem acc_2_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg6 : Memref sig .tc .vmem S1x1x2048x128 .bf16)
    (harg6 : arg6.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x4 : Vec Ideal S1x1x2048x128 .bf16) (r : Fin 256) (lane : Fin 128) :
    kernelRun0_A.sl.v355 (F := Ideal) c arg2 harg2 arg3 harg3 arg4 harg4 arg6 harg6 arg9 arg10 x0 x1 x2 x4 (ix2 r lane)
      = EarlyChain.acc 768 (by decide) x1 x2 x4 ⟨512 + r.val, by omega⟩ lane := by
  refine EarlyChain.accAt (W := 768) (by decide) _ _ _ r lane x1 x2 x4 ⟨512 + r.val, by omega⟩ (fun d => ?_)
    (fun d => Chain.rowsAt harg6 x4 _ _ d lane (d.castLE (by decide)) (Nat.zero_add d.val).symm)
  · refine (Planes.load _ _ 1 0 0 768 _ _ _ _ _ _ _ _ r d (by omega)).trans ?_
    rw [zero_add_mk]
    refine (Planes.box_miss _ 1 0 1 1 (by decide) 1024 _ _ _ _).trans ?_
    refine (Planes.box_miss _ 1 0 0 1 (by decide) 1024 _ _ _ _).trans ?_
    refine (Planes.box_hit _ 1 0 768 _ _ r d (by omega)).trans ?_
    refine (Chain.expo _ _ _ _ _ _ r d).trans (congrArg Ideal.exp2 (congrArg₂ (· - ·) ?_ ?_))
    · refine (Planes.load _ _ 1 0 0 768 _ _ _ _ _ _ _ _ r d (by omega)).trans ?_
      refine (Planes.store_miss _ 1 0 1 1 (by decide) 768 256 _ _ _ _ _ _ _ _ _ _).trans ?_
      refine (Planes.store_miss _ 1 0 0 1 (by decide) 768 256 _ _ _ _ _ _ _ _ _ _).trans ?_
      by_cases hd : d.val < 512
      · refine (Planes.store_before _ 1 0 1 0 512 256 _ _ _ _ _ _ _ _ r _ (by show 0 + d.val < 512; omega)).trans ?_
        refine (Planes.store_miss _ 1 0 0 0 (by decide) 512 256 _ _ _ _ _ _ _ _ _ _).trans ?_
        refine (Planes.store_miss _ 1 0 1 1 (by decide) 0 1024 _ _ _ _ _ _ _ _ _ _).trans ?_
        refine (Planes.store_miss _ 1 0 0 1 (by decide) 0 1024 _ _ _ _ _ _ _ _ _ _).trans ?_
        refine (Planes.store_hit _ 1 0 0 768 _ _ _ _ _ _ _ _ _ r d (by omega)).trans ?_
        exact (Chain.scoresAt _ _ _ _ r d (fun l => x1 (ix4 0 0 ⟨512 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (512 + r.val); omega)).symm
      · rw [show (⟨0 + d.val, by omega⟩ : Fin 2048) = ⟨512 + (d.val - 512), by omega⟩ from Fin.ext (by show 0 + d.val = 512 + (d.val - 512); omega)]
        refine (Planes.store_hit _ 1 0 512 256 _ _ _ _ _ _ _ _ _ r ⟨d.val - 512, by omega⟩ (by show 512 + (d.val - 512) < 2048; omega)).trans ?_
        refine (Chain.triangle _ _ _ _ _ r ⟨d.val - 512, by omega⟩).trans ?_
        by_cases hj : d.val - 512 ≤ r.val
        · refine (if_pos hj).trans ?_
          refine (Planes.load _ _ 1 0 512 256 _ _ _ _ _ _ _ _ r ⟨d.val - 512, by omega⟩ (by show 512 + (d.val - 512) < 2048; omega)).trans ?_
          rw [show (⟨512 + (d.val - 512), by omega⟩ : Fin 2048) = ⟨0 + d.val, by omega⟩ from Fin.ext (by show 512 + (d.val - 512) = 0 + d.val; omega)]
          refine (Planes.store_miss _ 1 0 0 0 (by decide) 512 256 _ _ _ _ _ _ _ _ _ _).trans ?_
          refine (Planes.store_miss _ 1 0 1 1 (by decide) 0 1024 _ _ _ _ _ _ _ _ _ _).trans ?_
          refine (Planes.store_miss _ 1 0 0 1 (by decide) 0 1024 _ _ _ _ _ _ _ _ _ _).trans ?_
          refine (Planes.store_hit _ 1 0 0 768 _ _ _ _ _ _ _ _ _ r d (by omega)).trans ?_
          exact (Chain.scoresAt _ _ _ _ r d (fun l => x1 (ix4 0 0 ⟨512 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (512 + r.val); omega)).symm
        · exact ((if_neg hj).trans (show _ = (⊥ : EReal) from rfl)).trans ((if_neg (by show ¬ d.val ≤ (512 + r.val); omega)).symm)
    · unfold kernelRun0_A.sl.r_7 k0_pay38
      dsimp only
      refine Chain.rowMax (W := 768) reduces_S256x768_S256 (.inl rfl) rfl shapeCasts_S256_S256x1 _ _ rfl (fun c' => EarlyChain.score x1 x2 ⟨512 + r.val, by omega⟩ (c'.castLE (by decide))) r (fun d => ?_)
      refine (Planes.load _ _ 1 0 0 768 _ _ _ _ _ _ _ _ r d (by omega)).trans ?_
      by_cases hd : d.val < 512
      · refine (Planes.store_before _ 1 0 1 0 512 256 _ _ _ _ _ _ _ _ r _ (by show 0 + d.val < 512; omega)).trans ?_
        refine (Planes.store_miss _ 1 0 0 0 (by decide) 512 256 _ _ _ _ _ _ _ _ _ _).trans ?_
        refine (Planes.store_miss _ 1 0 1 1 (by decide) 0 1024 _ _ _ _ _ _ _ _ _ _).trans ?_
        refine (Planes.store_miss _ 1 0 0 1 (by decide) 0 1024 _ _ _ _ _ _ _ _ _ _).trans ?_
        refine (Planes.store_hit _ 1 0 0 768 _ _ _ _ _ _ _ _ _ r d (by omega)).trans ?_
        exact (Chain.scoresAt _ _ _ _ r d (fun l => x1 (ix4 0 0 ⟨512 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (512 + r.val); omega)).symm
      · rw [show (⟨0 + d.val, by omega⟩ : Fin 2048) = ⟨512 + (d.val - 512), by omega⟩ from Fin.ext (by show 0 + d.val = 512 + (d.val - 512); omega)]
        refine (Planes.store_hit _ 1 0 512 256 _ _ _ _ _ _ _ _ _ r ⟨d.val - 512, by omega⟩ (by show 512 + (d.val - 512) < 2048; omega)).trans ?_
        refine (Chain.triangle _ _ _ _ _ r ⟨d.val - 512, by omega⟩).trans ?_
        by_cases hj : d.val - 512 ≤ r.val
        · refine (if_pos hj).trans ?_
          refine (Planes.load _ _ 1 0 512 256 _ _ _ _ _ _ _ _ r ⟨d.val - 512, by omega⟩ (by show 512 + (d.val - 512) < 2048; omega)).trans ?_
          rw [show (⟨512 + (d.val - 512), by omega⟩ : Fin 2048) = ⟨0 + d.val, by omega⟩ from Fin.ext (by show 512 + (d.val - 512) = 0 + d.val; omega)]
          refine (Planes.store_miss _ 1 0 0 0 (by decide) 512 256 _ _ _ _ _ _ _ _ _ _).trans ?_
          refine (Planes.store_miss _ 1 0 1 1 (by decide) 0 1024 _ _ _ _ _ _ _ _ _ _).trans ?_
          refine (Planes.store_miss _ 1 0 0 1 (by decide) 0 1024 _ _ _ _ _ _ _ _ _ _).trans ?_
          refine (Planes.store_hit _ 1 0 0 768 _ _ _ _ _ _ _ _ _ r d (by omega)).trans ?_
          exact (Chain.scoresAt _ _ _ _ r d (fun l => x1 (ix4 0 0 ⟨512 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (512 + r.val); omega)).symm
        · exact ((if_neg hj).trans (show _ = (⊥ : EReal) from rfl)).trans ((if_neg (by show ¬ d.val ≤ (512 + r.val); omega)).symm)

/-- Query rows 768 … 1023 of head 0: the mix of the first 1024 keys' values. -/
theorem acc_3_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg5 : Memref sig .tc .vmem S1x1x2048x128 .bf16)
    (harg5 : arg5.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x3 : Vec Ideal S1x1x2048x128 .bf16) (r : Fin 256) (lane : Fin 128) :
    kernelRun0_A.sl.v361 (F := Ideal) c arg2 harg2 arg3 harg3 arg4 harg4 arg5 harg5 arg9 arg10 x0 x1 x2 x3 (ix2 r lane)
      = EarlyChain.acc 1024 (by decide) x0 x2 x3 ⟨768 + r.val, by omega⟩ lane := by
  refine EarlyChain.accAt (W := 1024) (by decide) _ _ _ r lane x0 x2 x3 ⟨768 + r.val, by omega⟩ (fun d => ?_)
    (fun d => Chain.rowsAt harg5 x3 _ _ d lane (d.castLE (by decide)) (Nat.zero_add d.val).symm)
  · refine (Planes.load _ _ 0 1 0 1024 _ _ _ _ _ _ _ _ r d (by omega)).trans ?_
    rw [zero_add_mk]
    refine (Planes.box_miss _ 0 1 1 1 (by decide) 1024 _ _ _ _).trans ?_
    refine (Planes.box_hit _ 0 1 1024 _ _ r d (by omega)).trans ?_
    refine (Chain.expo _ _ _ _ _ _ r d).trans (congrArg Ideal.exp2 (congrArg₂ (· - ·) ?_ ?_))
    · refine (Planes.load _ _ 0 1 0 1024 _ _ _ _ _ _ _ _ r d (by omega)).trans ?_
      refine (Planes.store_miss _ 0 1 1 1 (by decide) 768 256 _ _ _ _ _ _ _ _ _ _).trans ?_
      by_cases hd : d.val < 768
      · refine (Planes.store_before _ 0 1 0 1 768 256 _ _ _ _ _ _ _ _ r _ (by show 0 + d.val < 768; omega)).trans ?_
        refine (Planes.store_miss _ 0 1 1 0 (by decide) 512 256 _ _ _ _ _ _ _ _ _ _).trans ?_
        refine (Planes.store_miss _ 0 1 0 0 (by decide) 512 256 _ _ _ _ _ _ _ _ _ _).trans ?_
        refine (Planes.store_miss _ 0 1 1 1 (by decide) 0 1024 _ _ _ _ _ _ _ _ _ _).trans ?_
        refine (Planes.store_hit _ 0 1 0 1024 _ _ _ _ _ _ _ _ _ r d (by omega)).trans ?_
        exact (Chain.scoresAt _ _ _ _ r d (fun l => x0 (ix4 0 0 ⟨768 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (768 + r.val); omega)).symm
      · rw [show (⟨0 + d.val, by omega⟩ : Fin 2048) = ⟨768 + (d.val - 768), by omega⟩ from Fin.ext (by show 0 + d.val = 768 + (d.val - 768); omega)]
        refine (Planes.store_hit _ 0 1 768 256 _ _ _ _ _ _ _ _ _ r ⟨d.val - 768, by omega⟩ (by show 768 + (d.val - 768) < 2048; omega)).trans ?_
        refine (Chain.triangle _ _ _ _ _ r ⟨d.val - 768, by omega⟩).trans ?_
        by_cases hj : d.val - 768 ≤ r.val
        · refine (if_pos hj).trans ?_
          refine (Planes.load _ _ 0 1 768 256 _ _ _ _ _ _ _ _ r ⟨d.val - 768, by omega⟩ (by show 768 + (d.val - 768) < 2048; omega)).trans ?_
          rw [show (⟨768 + (d.val - 768), by omega⟩ : Fin 2048) = ⟨0 + d.val, by omega⟩ from Fin.ext (by show 768 + (d.val - 768) = 0 + d.val; omega)]
          refine (Planes.store_miss _ 0 1 1 0 (by decide) 512 256 _ _ _ _ _ _ _ _ _ _).trans ?_
          refine (Planes.store_miss _ 0 1 0 0 (by decide) 512 256 _ _ _ _ _ _ _ _ _ _).trans ?_
          refine (Planes.store_miss _ 0 1 1 1 (by decide) 0 1024 _ _ _ _ _ _ _ _ _ _).trans ?_
          refine (Planes.store_hit _ 0 1 0 1024 _ _ _ _ _ _ _ _ _ r d (by omega)).trans ?_
          exact (Chain.scoresAt _ _ _ _ r d (fun l => x0 (ix4 0 0 ⟨768 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (768 + r.val); omega)).symm
        · exact ((if_neg hj).trans (show _ = (⊥ : EReal) from rfl)).trans ((if_neg (by show ¬ d.val ≤ (768 + r.val); omega)).symm)
    · unfold kernelRun0_A.sl.r_8 k0_pay40
      dsimp only
      refine Chain.rowMax (W := 1024) reduces_S256x1024_S256 (.inl rfl) rfl shapeCasts_S256_S256x1 _ _ rfl (fun c' => EarlyChain.score x0 x2 ⟨768 + r.val, by omega⟩ (c'.castLE (by decide))) r (fun d => ?_)
      refine (Planes.load _ _ 0 1 0 1024 _ _ _ _ _ _ _ _ r d (by omega)).trans ?_
      by_cases hd : d.val < 768
      · refine (Planes.store_before _ 0 1 0 1 768 256 _ _ _ _ _ _ _ _ r _ (by show 0 + d.val < 768; omega)).trans ?_
        refine (Planes.store_miss _ 0 1 1 0 (by decide) 512 256 _ _ _ _ _ _ _ _ _ _).trans ?_
        refine (Planes.store_miss _ 0 1 0 0 (by decide) 512 256 _ _ _ _ _ _ _ _ _ _).trans ?_
        refine (Planes.store_miss _ 0 1 1 1 (by decide) 0 1024 _ _ _ _ _ _ _ _ _ _).trans ?_
        refine (Planes.store_hit _ 0 1 0 1024 _ _ _ _ _ _ _ _ _ r d (by omega)).trans ?_
        exact (Chain.scoresAt _ _ _ _ r d (fun l => x0 (ix4 0 0 ⟨768 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (768 + r.val); omega)).symm
      · rw [show (⟨0 + d.val, by omega⟩ : Fin 2048) = ⟨768 + (d.val - 768), by omega⟩ from Fin.ext (by show 0 + d.val = 768 + (d.val - 768); omega)]
        refine (Planes.store_hit _ 0 1 768 256 _ _ _ _ _ _ _ _ _ r ⟨d.val - 768, by omega⟩ (by show 768 + (d.val - 768) < 2048; omega)).trans ?_
        refine (Chain.triangle _ _ _ _ _ r ⟨d.val - 768, by omega⟩).trans ?_
        by_cases hj : d.val - 768 ≤ r.val
        · refine (if_pos hj).trans ?_
          refine (Planes.load _ _ 0 1 768 256 _ _ _ _ _ _ _ _ r ⟨d.val - 768, by omega⟩ (by show 768 + (d.val - 768) < 2048; omega)).trans ?_
          rw [show (⟨768 + (d.val - 768), by omega⟩ : Fin 2048) = ⟨0 + d.val, by omega⟩ from Fin.ext (by show 768 + (d.val - 768) = 0 + d.val; omega)]
          refine (Planes.store_miss _ 0 1 1 0 (by decide) 512 256 _ _ _ _ _ _ _ _ _ _).trans ?_
          refine (Planes.store_miss _ 0 1 0 0 (by decide) 512 256 _ _ _ _ _ _ _ _ _ _).trans ?_
          refine (Planes.store_miss _ 0 1 1 1 (by decide) 0 1024 _ _ _ _ _ _ _ _ _ _).trans ?_
          refine (Planes.store_hit _ 0 1 0 1024 _ _ _ _ _ _ _ _ _ r d (by omega)).trans ?_
          exact (Chain.scoresAt _ _ _ _ r d (fun l => x0 (ix4 0 0 ⟨768 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (768 + r.val); omega)).symm
        · exact ((if_neg hj).trans (show _ = (⊥ : EReal) from rfl)).trans ((if_neg (by show ¬ d.val ≤ (768 + r.val); omega)).symm)

/-- Query rows 768 … 1023 of head 1: the mix of the first 1024 keys' values. -/
theorem acc_3_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg6 : Memref sig .tc .vmem S1x1x2048x128 .bf16)
    (harg6 : arg6.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x4 : Vec Ideal S1x1x2048x128 .bf16) (r : Fin 256) (lane : Fin 128) :
    kernelRun0_A.sl.v367 (F := Ideal) c arg2 harg2 arg3 harg3 arg4 harg4 arg6 harg6 arg9 arg10 x0 x1 x2 x4 (ix2 r lane)
      = EarlyChain.acc 1024 (by decide) x1 x2 x4 ⟨768 + r.val, by omega⟩ lane := by
  refine EarlyChain.accAt (W := 1024) (by decide) _ _ _ r lane x1 x2 x4 ⟨768 + r.val, by omega⟩ (fun d => ?_)
    (fun d => Chain.rowsAt harg6 x4 _ _ d lane (d.castLE (by decide)) (Nat.zero_add d.val).symm)
  · refine (Planes.load _ _ 1 1 0 1024 _ _ _ _ _ _ _ _ r d (by omega)).trans ?_
    rw [zero_add_mk]
    refine (Planes.box_hit _ 1 1 1024 _ _ r d (by omega)).trans ?_
    refine (Chain.expo _ _ _ _ _ _ r d).trans (congrArg Ideal.exp2 (congrArg₂ (· - ·) ?_ ?_))
    · refine (Planes.load _ _ 1 1 0 1024 _ _ _ _ _ _ _ _ r d (by omega)).trans ?_
      by_cases hd : d.val < 768
      · refine (Planes.store_before _ 1 1 1 1 768 256 _ _ _ _ _ _ _ _ r _ (by show 0 + d.val < 768; omega)).trans ?_
        refine (Planes.store_miss _ 1 1 0 1 (by decide) 768 256 _ _ _ _ _ _ _ _ _ _).trans ?_
        refine (Planes.store_miss _ 1 1 1 0 (by decide) 512 256 _ _ _ _ _ _ _ _ _ _).trans ?_
        refine (Planes.store_miss _ 1 1 0 0 (by decide) 512 256 _ _ _ _ _ _ _ _ _ _).trans ?_
        refine (Planes.store_hit _ 1 1 0 1024 _ _ _ _ _ _ _ _ _ r d (by omega)).trans ?_
        exact (Chain.scoresAt _ _ _ _ r d (fun l => x1 (ix4 0 0 ⟨768 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (768 + r.val); omega)).symm
      · rw [show (⟨0 + d.val, by omega⟩ : Fin 2048) = ⟨768 + (d.val - 768), by omega⟩ from Fin.ext (by show 0 + d.val = 768 + (d.val - 768); omega)]
        refine (Planes.store_hit _ 1 1 768 256 _ _ _ _ _ _ _ _ _ r ⟨d.val - 768, by omega⟩ (by show 768 + (d.val - 768) < 2048; omega)).trans ?_
        refine (Chain.triangle _ _ _ _ _ r ⟨d.val - 768, by omega⟩).trans ?_
        by_cases hj : d.val - 768 ≤ r.val
        · refine (if_pos hj).trans ?_
          refine (Planes.load _ _ 1 1 768 256 _ _ _ _ _ _ _ _ r ⟨d.val - 768, by omega⟩ (by show 768 + (d.val - 768) < 2048; omega)).trans ?_
          rw [show (⟨768 + (d.val - 768), by omega⟩ : Fin 2048) = ⟨0 + d.val, by omega⟩ from Fin.ext (by show 768 + (d.val - 768) = 0 + d.val; omega)]
          refine (Planes.store_miss _ 1 1 0 1 (by decide) 768 256 _ _ _ _ _ _ _ _ _ _).trans ?_
          refine (Planes.store_miss _ 1 1 1 0 (by decide) 512 256 _ _ _ _ _ _ _ _ _ _).trans ?_
          refine (Planes.store_miss _ 1 1 0 0 (by decide) 512 256 _ _ _ _ _ _ _ _ _ _).trans ?_
          refine (Planes.store_hit _ 1 1 0 1024 _ _ _ _ _ _ _ _ _ r d (by omega)).trans ?_
          exact (Chain.scoresAt _ _ _ _ r d (fun l => x1 (ix4 0 0 ⟨768 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (768 + r.val); omega)).symm
        · exact ((if_neg hj).trans (show _ = (⊥ : EReal) from rfl)).trans ((if_neg (by show ¬ d.val ≤ (768 + r.val); omega)).symm)
    · unfold kernelRun0_A.sl.r_9 k0_pay43
      dsimp only
      refine Chain.rowMax (W := 1024) reduces_S256x1024_S256 (.inl rfl) rfl shapeCasts_S256_S256x1 _ _ rfl (fun c' => EarlyChain.score x1 x2 ⟨768 + r.val, by omega⟩ (c'.castLE (by decide))) r (fun d => ?_)
      refine (Planes.load _ _ 1 1 0 1024 _ _ _ _ _ _ _ _ r d (by omega)).trans ?_
      by_cases hd : d.val < 768
      · refine (Planes.store_before _ 1 1 1 1 768 256 _ _ _ _ _ _ _ _ r _ (by show 0 + d.val < 768; omega)).trans ?_
        refine (Planes.store_miss _ 1 1 0 1 (by decide) 768 256 _ _ _ _ _ _ _ _ _ _).trans ?_
        refine (Planes.store_miss _ 1 1 1 0 (by decide) 512 256 _ _ _ _ _ _ _ _ _ _).trans ?_
        refine (Planes.store_miss _ 1 1 0 0 (by decide) 512 256 _ _ _ _ _ _ _ _ _ _).trans ?_
        refine (Planes.store_hit _ 1 1 0 1024 _ _ _ _ _ _ _ _ _ r d (by omega)).trans ?_
        exact (Chain.scoresAt _ _ _ _ r d (fun l => x1 (ix4 0 0 ⟨768 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (768 + r.val); omega)).symm
      · rw [show (⟨0 + d.val, by omega⟩ : Fin 2048) = ⟨768 + (d.val - 768), by omega⟩ from Fin.ext (by show 0 + d.val = 768 + (d.val - 768); omega)]
        refine (Planes.store_hit _ 1 1 768 256 _ _ _ _ _ _ _ _ _ r ⟨d.val - 768, by omega⟩ (by show 768 + (d.val - 768) < 2048; omega)).trans ?_
        refine (Chain.triangle _ _ _ _ _ r ⟨d.val - 768, by omega⟩).trans ?_
        by_cases hj : d.val - 768 ≤ r.val
        · refine (if_pos hj).trans ?_
          refine (Planes.load _ _ 1 1 768 256 _ _ _ _ _ _ _ _ r ⟨d.val - 768, by omega⟩ (by show 768 + (d.val - 768) < 2048; omega)).trans ?_
          rw [show (⟨768 + (d.val - 768), by omega⟩ : Fin 2048) = ⟨0 + d.val, by omega⟩ from Fin.ext (by show 768 + (d.val - 768) = 0 + d.val; omega)]
          refine (Planes.store_miss _ 1 1 0 1 (by decide) 768 256 _ _ _ _ _ _ _ _ _ _).trans ?_
          refine (Planes.store_miss _ 1 1 1 0 (by decide) 512 256 _ _ _ _ _ _ _ _ _ _).trans ?_
          refine (Planes.store_miss _ 1 1 0 0 (by decide) 512 256 _ _ _ _ _ _ _ _ _ _).trans ?_
          refine (Planes.store_hit _ 1 1 0 1024 _ _ _ _ _ _ _ _ _ r d (by omega)).trans ?_
          exact (Chain.scoresAt _ _ _ _ r d (fun l => x1 (ix4 0 0 ⟨768 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (768 + r.val); omega)).symm
        · exact ((if_neg hj).trans (show _ = (⊥ : EReal) from rfl)).trans ((if_neg (by show ¬ d.val ≤ (768 + r.val); omega)).symm)

/-- Query rows 1024 … 1279 of head 0: the mix of the first 1280 keys' values. -/
theorem acc_4_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg5 : Memref sig .tc .vmem S1x1x2048x128 .bf16)
    (harg5 : arg5.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x3 : Vec Ideal S1x1x2048x128 .bf16) (r : Fin 256) (lane : Fin 128) :
    kernelRun0_A.sl.v533 (F := Ideal) c arg2 harg2 arg3 harg3 arg4 harg4 arg5 harg5 arg9 arg10 x0 x1 x2 x3 (ix2 r lane)
      = EarlyChain.acc 1280 (by decide) x0 x2 x3 ⟨1024 + r.val, by omega⟩ lane := by
  refine EarlyChain.accAt (W := 1280) (by decide) _ _ _ r lane x0 x2 x3 ⟨1024 + r.val, by omega⟩ (fun d => ?_)
    (fun d => Chain.rowsAt harg5 x3 _ _ d lane (d.castLE (by decide)) (Nat.zero_add d.val).symm)
  · refine (Planes.load _ _ 0 0 0 1280 _ _ _ _ _ _ _ _ r d (by omega)).trans ?_
    rw [zero_add_mk]
    refine (Planes.box_miss _ 0 0 1 1 (by decide) 1536 _ _ _ _).trans ?_
    refine (Planes.box_miss _ 0 0 0 1 (by decide) 1536 _ _ _ _).trans ?_
    refine (Planes.box_miss _ 0 0 1 0 (by decide) 1280 _ _ _ _).trans ?_
    refine (Planes.box_hit _ 0 0 1280 _ _ r d (by omega)).trans ?_
    refine (Chain.expo _ _ _ _ _ _ r d).trans (congrArg Ideal.exp2 (congrArg₂ (· - ·) ?_ ?_))
    · refine (Planes.load _ _ 0 0 0 1280 _ _ _ _ _ _ _ _ r d (by omega)).trans ?_
      refine (Planes.store_miss _ 0 0 1 1 (by decide) 1280 256 _ _ _ _ _ _ _ _ _ _).trans ?_
      refine (Planes.store_miss _ 0 0 0 1 (by decide) 1280 256 _ _ _ _ _ _ _ _ _ _).trans ?_
      refine (Planes.store_miss _ 0 0 1 0 (by decide) 1024 256 _ _ _ _ _ _ _ _ _ _).trans ?_
      by_cases hd : d.val < 1024
      · refine (Planes.store_before _ 0 0 0 0 1024 256 _ _ _ _ _ _ _ _ r _ (by show 0 + d.val < 1024; omega)).trans ?_
        refine (Planes.store_miss _ 0 0 1 1 (by decide) 0 1536 _ _ _ _ _ _ _ _ _ _).trans ?_
        refine (Planes.store_miss _ 0 0 0 1 (by decide) 0 1536 _ _ _ _ _ _ _ _ _ _).trans ?_
        refine (Planes.store_miss _ 0 0 1 0 (by decide) 0 1280 _ _ _ _ _ _ _ _ _ _).trans ?_
        refine (Planes.store_hit _ 0 0 0 1280 _ _ _ _ _ _ _ _ _ r d (by omega)).trans ?_
        exact (Chain.scoresAt _ _ _ _ r d (fun l => x0 (ix4 0 0 ⟨1024 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (1024 + r.val); omega)).symm
      · rw [show (⟨0 + d.val, by omega⟩ : Fin 2048) = ⟨1024 + (d.val - 1024), by omega⟩ from Fin.ext (by show 0 + d.val = 1024 + (d.val - 1024); omega)]
        refine (Planes.store_hit _ 0 0 1024 256 _ _ _ _ _ _ _ _ _ r ⟨d.val - 1024, by omega⟩ (by show 1024 + (d.val - 1024) < 2048; omega)).trans ?_
        refine (Chain.triangle _ _ _ _ _ r ⟨d.val - 1024, by omega⟩).trans ?_
        by_cases hj : d.val - 1024 ≤ r.val
        · refine (if_pos hj).trans ?_
          refine (Planes.load _ _ 0 0 1024 256 _ _ _ _ _ _ _ _ r ⟨d.val - 1024, by omega⟩ (by show 1024 + (d.val - 1024) < 2048; omega)).trans ?_
          rw [show (⟨1024 + (d.val - 1024), by omega⟩ : Fin 2048) = ⟨0 + d.val, by omega⟩ from Fin.ext (by show 1024 + (d.val - 1024) = 0 + d.val; omega)]
          refine (Planes.store_miss _ 0 0 1 1 (by decide) 0 1536 _ _ _ _ _ _ _ _ _ _).trans ?_
          refine (Planes.store_miss _ 0 0 0 1 (by decide) 0 1536 _ _ _ _ _ _ _ _ _ _).trans ?_
          refine (Planes.store_miss _ 0 0 1 0 (by decide) 0 1280 _ _ _ _ _ _ _ _ _ _).trans ?_
          refine (Planes.store_hit _ 0 0 0 1280 _ _ _ _ _ _ _ _ _ r d (by omega)).trans ?_
          exact (Chain.scoresAt _ _ _ _ r d (fun l => x0 (ix4 0 0 ⟨1024 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (1024 + r.val); omega)).symm
        · exact ((if_neg hj).trans (show _ = (⊥ : EReal) from rfl)).trans ((if_neg (by show ¬ d.val ≤ (1024 + r.val); omega)).symm)
    · unfold kernelRun0_A.sl.r_10 k0_pay59
      dsimp only
      refine Chain.rowMax (W := 1280) reduces_S256x1280_S256 (.inl rfl) rfl shapeCasts_S256_S256x1 _ _ rfl (fun c' => EarlyChain.score x0 x2 ⟨1024 + r.val, by omega⟩ (c'.castLE (by decide))) r (fun d => ?_)
      refine (Planes.load _ _ 0 0 0 1280 _ _ _ _ _ _ _ _ r d (by omega)).trans ?_
      by_cases hd : d.val < 1024
      · refine (Planes.store_before _ 0 0 0 0 1024 256 _ _ _ _ _ _ _ _ r _ (by show 0 + d.val < 1024; omega)).trans ?_
        refine (Planes.store_miss _ 0 0 1 1 (by decide) 0 1536 _ _ _ _ _ _ _ _ _ _).trans ?_
        refine (Planes.store_miss _ 0 0 0 1 (by decide) 0 1536 _ _ _ _ _ _ _ _ _ _).trans ?_
        refine (Planes.store_miss _ 0 0 1 0 (by decide) 0 1280 _ _ _ _ _ _ _ _ _ _).trans ?_
        refine (Planes.store_hit _ 0 0 0 1280 _ _ _ _ _ _ _ _ _ r d (by omega)).trans ?_
        exact (Chain.scoresAt _ _ _ _ r d (fun l => x0 (ix4 0 0 ⟨1024 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (1024 + r.val); omega)).symm
      · rw [show (⟨0 + d.val, by omega⟩ : Fin 2048) = ⟨1024 + (d.val - 1024), by omega⟩ from Fin.ext (by show 0 + d.val = 1024 + (d.val - 1024); omega)]
        refine (Planes.store_hit _ 0 0 1024 256 _ _ _ _ _ _ _ _ _ r ⟨d.val - 1024, by omega⟩ (by show 1024 + (d.val - 1024) < 2048; omega)).trans ?_
        refine (Chain.triangle _ _ _ _ _ r ⟨d.val - 1024, by omega⟩).trans ?_
        by_cases hj : d.val - 1024 ≤ r.val
        · refine (if_pos hj).trans ?_
          refine (Planes.load _ _ 0 0 1024 256 _ _ _ _ _ _ _ _ r ⟨d.val - 1024, by omega⟩ (by show 1024 + (d.val - 1024) < 2048; omega)).trans ?_
          rw [show (⟨1024 + (d.val - 1024), by omega⟩ : Fin 2048) = ⟨0 + d.val, by omega⟩ from Fin.ext (by show 1024 + (d.val - 1024) = 0 + d.val; omega)]
          refine (Planes.store_miss _ 0 0 1 1 (by decide) 0 1536 _ _ _ _ _ _ _ _ _ _).trans ?_
          refine (Planes.store_miss _ 0 0 0 1 (by decide) 0 1536 _ _ _ _ _ _ _ _ _ _).trans ?_
          refine (Planes.store_miss _ 0 0 1 0 (by decide) 0 1280 _ _ _ _ _ _ _ _ _ _).trans ?_
          refine (Planes.store_hit _ 0 0 0 1280 _ _ _ _ _ _ _ _ _ r d (by omega)).trans ?_
          exact (Chain.scoresAt _ _ _ _ r d (fun l => x0 (ix4 0 0 ⟨1024 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (1024 + r.val); omega)).symm
        · exact ((if_neg hj).trans (show _ = (⊥ : EReal) from rfl)).trans ((if_neg (by show ¬ d.val ≤ (1024 + r.val); omega)).symm)

/-- Query rows 1024 … 1279 of head 1: the mix of the first 1280 keys' values. -/
theorem acc_4_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg6 : Memref sig .tc .vmem S1x1x2048x128 .bf16)
    (harg6 : arg6.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x4 : Vec Ideal S1x1x2048x128 .bf16) (r : Fin 256) (lane : Fin 128) :
    kernelRun0_A.sl.v539 (F := Ideal) c arg2 harg2 arg3 harg3 arg4 harg4 arg6 harg6 arg9 arg10 x0 x1 x2 x4 (ix2 r lane)
      = EarlyChain.acc 1280 (by decide) x1 x2 x4 ⟨1024 + r.val, by omega⟩ lane := by
  refine EarlyChain.accAt (W := 1280) (by decide) _ _ _ r lane x1 x2 x4 ⟨1024 + r.val, by omega⟩ (fun d => ?_)
    (fun d => Chain.rowsAt harg6 x4 _ _ d lane (d.castLE (by decide)) (Nat.zero_add d.val).symm)
  · refine (Planes.load _ _ 1 0 0 1280 _ _ _ _ _ _ _ _ r d (by omega)).trans ?_
    rw [zero_add_mk]
    refine (Planes.box_miss _ 1 0 1 1 (by decide) 1536 _ _ _ _).trans ?_
    refine (Planes.box_miss _ 1 0 0 1 (by decide) 1536 _ _ _ _).trans ?_
    refine (Planes.box_hit _ 1 0 1280 _ _ r d (by omega)).trans ?_
    refine (Chain.expo _ _ _ _ _ _ r d).trans (congrArg Ideal.exp2 (congrArg₂ (· - ·) ?_ ?_))
    · refine (Planes.load _ _ 1 0 0 1280 _ _ _ _ _ _ _ _ r d (by omega)).trans ?_
      refine (Planes.store_miss _ 1 0 1 1 (by decide) 1280 256 _ _ _ _ _ _ _ _ _ _).trans ?_
      refine (Planes.store_miss _ 1 0 0 1 (by decide) 1280 256 _ _ _ _ _ _ _ _ _ _).trans ?_
      by_cases hd : d.val < 1024
      · refine (Planes.store_before _ 1 0 1 0 1024 256 _ _ _ _ _ _ _ _ r _ (by show 0 + d.val < 1024; omega)).trans ?_
        refine (Planes.store_miss _ 1 0 0 0 (by decide) 1024 256 _ _ _ _ _ _ _ _ _ _).trans ?_
        refine (Planes.store_miss _ 1 0 1 1 (by decide) 0 1536 _ _ _ _ _ _ _ _ _ _).trans ?_
        refine (Planes.store_miss _ 1 0 0 1 (by decide) 0 1536 _ _ _ _ _ _ _ _ _ _).trans ?_
        refine (Planes.store_hit _ 1 0 0 1280 _ _ _ _ _ _ _ _ _ r d (by omega)).trans ?_
        exact (Chain.scoresAt _ _ _ _ r d (fun l => x1 (ix4 0 0 ⟨1024 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (1024 + r.val); omega)).symm
      · rw [show (⟨0 + d.val, by omega⟩ : Fin 2048) = ⟨1024 + (d.val - 1024), by omega⟩ from Fin.ext (by show 0 + d.val = 1024 + (d.val - 1024); omega)]
        refine (Planes.store_hit _ 1 0 1024 256 _ _ _ _ _ _ _ _ _ r ⟨d.val - 1024, by omega⟩ (by show 1024 + (d.val - 1024) < 2048; omega)).trans ?_
        refine (Chain.triangle _ _ _ _ _ r ⟨d.val - 1024, by omega⟩).trans ?_
        by_cases hj : d.val - 1024 ≤ r.val
        · refine (if_pos hj).trans ?_
          refine (Planes.load _ _ 1 0 1024 256 _ _ _ _ _ _ _ _ r ⟨d.val - 1024, by omega⟩ (by show 1024 + (d.val - 1024) < 2048; omega)).trans ?_
          rw [show (⟨1024 + (d.val - 1024), by omega⟩ : Fin 2048) = ⟨0 + d.val, by omega⟩ from Fin.ext (by show 1024 + (d.val - 1024) = 0 + d.val; omega)]
          refine (Planes.store_miss _ 1 0 0 0 (by decide) 1024 256 _ _ _ _ _ _ _ _ _ _).trans ?_
          refine (Planes.store_miss _ 1 0 1 1 (by decide) 0 1536 _ _ _ _ _ _ _ _ _ _).trans ?_
          refine (Planes.store_miss _ 1 0 0 1 (by decide) 0 1536 _ _ _ _ _ _ _ _ _ _).trans ?_
          refine (Planes.store_hit _ 1 0 0 1280 _ _ _ _ _ _ _ _ _ r d (by omega)).trans ?_
          exact (Chain.scoresAt _ _ _ _ r d (fun l => x1 (ix4 0 0 ⟨1024 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (1024 + r.val); omega)).symm
        · exact ((if_neg hj).trans (show _ = (⊥ : EReal) from rfl)).trans ((if_neg (by show ¬ d.val ≤ (1024 + r.val); omega)).symm)
    · unfold kernelRun0_A.sl.r_11 k0_pay62
      dsimp only
      refine Chain.rowMax (W := 1280) reduces_S256x1280_S256 (.inl rfl) rfl shapeCasts_S256_S256x1 _ _ rfl (fun c' => EarlyChain.score x1 x2 ⟨1024 + r.val, by omega⟩ (c'.castLE (by decide))) r (fun d => ?_)
      refine (Planes.load _ _ 1 0 0 1280 _ _ _ _ _ _ _ _ r d (by omega)).trans ?_
      by_cases hd : d.val < 1024
      · refine (Planes.store_before _ 1 0 1 0 1024 256 _ _ _ _ _ _ _ _ r _ (by show 0 + d.val < 1024; omega)).trans ?_
        refine (Planes.store_miss _ 1 0 0 0 (by decide) 1024 256 _ _ _ _ _ _ _ _ _ _).trans ?_
        refine (Planes.store_miss _ 1 0 1 1 (by decide) 0 1536 _ _ _ _ _ _ _ _ _ _).trans ?_
        refine (Planes.store_miss _ 1 0 0 1 (by decide) 0 1536 _ _ _ _ _ _ _ _ _ _).trans ?_
        refine (Planes.store_hit _ 1 0 0 1280 _ _ _ _ _ _ _ _ _ r d (by omega)).trans ?_
        exact (Chain.scoresAt _ _ _ _ r d (fun l => x1 (ix4 0 0 ⟨1024 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (1024 + r.val); omega)).symm
      · rw [show (⟨0 + d.val, by omega⟩ : Fin 2048) = ⟨1024 + (d.val - 1024), by omega⟩ from Fin.ext (by show 0 + d.val = 1024 + (d.val - 1024); omega)]
        refine (Planes.store_hit _ 1 0 1024 256 _ _ _ _ _ _ _ _ _ r ⟨d.val - 1024, by omega⟩ (by show 1024 + (d.val - 1024) < 2048; omega)).trans ?_
        refine (Chain.triangle _ _ _ _ _ r ⟨d.val - 1024, by omega⟩).trans ?_
        by_cases hj : d.val - 1024 ≤ r.val
        · refine (if_pos hj).trans ?_
          refine (Planes.load _ _ 1 0 1024 256 _ _ _ _ _ _ _ _ r ⟨d.val - 1024, by omega⟩ (by show 1024 + (d.val - 1024) < 2048; omega)).trans ?_
          rw [show (⟨1024 + (d.val - 1024), by omega⟩ : Fin 2048) = ⟨0 + d.val, by omega⟩ from Fin.ext (by show 1024 + (d.val - 1024) = 0 + d.val; omega)]
          refine (Planes.store_miss _ 1 0 0 0 (by decide) 1024 256 _ _ _ _ _ _ _ _ _ _).trans ?_
          refine (Planes.store_miss _ 1 0 1 1 (by decide) 0 1536 _ _ _ _ _ _ _ _ _ _).trans ?_
          refine (Planes.store_miss _ 1 0 0 1 (by decide) 0 1536 _ _ _ _ _ _ _ _ _ _).trans ?_
          refine (Planes.store_hit _ 1 0 0 1280 _ _ _ _ _ _ _ _ _ r d (by omega)).trans ?_
          exact (Chain.scoresAt _ _ _ _ r d (fun l => x1 (ix4 0 0 ⟨1024 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (1024 + r.val); omega)).symm
        · exact ((if_neg hj).trans (show _ = (⊥ : EReal) from rfl)).trans ((if_neg (by show ¬ d.val ≤ (1024 + r.val); omega)).symm)

/-- Query rows 1280 … 1535 of head 0: the mix of the first 1536 keys' values. -/
theorem acc_5_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg5 : Memref sig .tc .vmem S1x1x2048x128 .bf16)
    (harg5 : arg5.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x3 : Vec Ideal S1x1x2048x128 .bf16) (r : Fin 256) (lane : Fin 128) :
    kernelRun0_A.sl.v545 (F := Ideal) c arg2 harg2 arg3 harg3 arg4 harg4 arg5 harg5 arg9 arg10 x0 x1 x2 x3 (ix2 r lane)
      = EarlyChain.acc 1536 (by decide) x0 x2 x3 ⟨1280 + r.val, by omega⟩ lane := by
  refine EarlyChain.accAt (W := 1536) (by decide) _ _ _ r lane x0 x2 x3 ⟨1280 + r.val, by omega⟩ (fun d => ?_)
    (fun d => Chain.rowsAt harg5 x3 _ _ d lane (d.castLE (by decide)) (Nat.zero_add d.val).symm)
  · refine (Planes.load _ _ 0 1 0 1536 _ _ _ _ _ _ _ _ r d (by omega)).trans ?_
    rw [zero_add_mk]
    refine (Planes.box_miss _ 0 1 1 1 (by decide) 1536 _ _ _ _).trans ?_
    refine (Planes.box_hit _ 0 1 1536 _ _ r d (by omega)).trans ?_
    refine (Chain.expo _ _ _ _ _ _ r d).trans (congrArg Ideal.exp2 (congrArg₂ (· - ·) ?_ ?_))
    · refine (Planes.load _ _ 0 1 0 1536 _ _ _ _ _ _ _ _ r d (by omega)).trans ?_
      refine (Planes.store_miss _ 0 1 1 1 (by decide) 1280 256 _ _ _ _ _ _ _ _ _ _).trans ?_
      by_cases hd : d.val < 1280
      · refine (Planes.store_before _ 0 1 0 1 1280 256 _ _ _ _ _ _ _ _ r _ (by show 0 + d.val < 1280; omega)).trans ?_
        refine (Planes.store_miss _ 0 1 1 0 (by decide) 1024 256 _ _ _ _ _ _ _ _ _ _).trans ?_
        refine (Planes.store_miss _ 0 1 0 0 (by decide) 1024 256 _ _ _ _ _ _ _ _ _ _).trans ?_
        refine (Planes.store_miss _ 0 1 1 1 (by decide) 0 1536 _ _ _ _ _ _ _ _ _ _).trans ?_
        refine (Planes.store_hit _ 0 1 0 1536 _ _ _ _ _ _ _ _ _ r d (by omega)).trans ?_
        exact (Chain.scoresAt _ _ _ _ r d (fun l => x0 (ix4 0 0 ⟨1280 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (1280 + r.val); omega)).symm
      · rw [show (⟨0 + d.val, by omega⟩ : Fin 2048) = ⟨1280 + (d.val - 1280), by omega⟩ from Fin.ext (by show 0 + d.val = 1280 + (d.val - 1280); omega)]
        refine (Planes.store_hit _ 0 1 1280 256 _ _ _ _ _ _ _ _ _ r ⟨d.val - 1280, by omega⟩ (by show 1280 + (d.val - 1280) < 2048; omega)).trans ?_
        refine (Chain.triangle _ _ _ _ _ r ⟨d.val - 1280, by omega⟩).trans ?_
        by_cases hj : d.val - 1280 ≤ r.val
        · refine (if_pos hj).trans ?_
          refine (Planes.load _ _ 0 1 1280 256 _ _ _ _ _ _ _ _ r ⟨d.val - 1280, by omega⟩ (by show 1280 + (d.val - 1280) < 2048; omega)).trans ?_
          rw [show (⟨1280 + (d.val - 1280), by omega⟩ : Fin 2048) = ⟨0 + d.val, by omega⟩ from Fin.ext (by show 1280 + (d.val - 1280) = 0 + d.val; omega)]
          refine (Planes.store_miss _ 0 1 1 0 (by decide) 1024 256 _ _ _ _ _ _ _ _ _ _).trans ?_
          refine (Planes.store_miss _ 0 1 0 0 (by decide) 1024 256 _ _ _ _ _ _ _ _ _ _).trans ?_
          refine (Planes.store_miss _ 0 1 1 1 (by decide) 0 1536 _ _ _ _ _ _ _ _ _ _).trans ?_
          refine (Planes.store_hit _ 0 1 0 1536 _ _ _ _ _ _ _ _ _ r d (by omega)).trans ?_
          exact (Chain.scoresAt _ _ _ _ r d (fun l => x0 (ix4 0 0 ⟨1280 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (1280 + r.val); omega)).symm
        · exact ((if_neg hj).trans (show _ = (⊥ : EReal) from rfl)).trans ((if_neg (by show ¬ d.val ≤ (1280 + r.val); omega)).symm)
    · unfold kernelRun0_A.sl.r_12 k0_pay64
      dsimp only
      refine Chain.rowMax (W := 1536) reduces_S256x1536_S256 (.inl rfl) rfl shapeCasts_S256_S256x1 _ _ rfl (fun c' => EarlyChain.score x0 x2 ⟨1280 + r.val, by omega⟩ (c'.castLE (by decide))) r (fun d => ?_)
      refine (Planes.load _ _ 0 1 0 1536 _ _ _ _ _ _ _ _ r d (by omega)).trans ?_
      by_cases hd : d.val < 1280
      · refine (Planes.store_before _ 0 1 0 1 1280 256 _ _ _ _ _ _ _ _ r _ (by show 0 + d.val < 1280; omega)).trans ?_
        refine (Planes.store_miss _ 0 1 1 0 (by decide) 1024 256 _ _ _ _ _ _ _ _ _ _).trans ?_
        refine (Planes.store_miss _ 0 1 0 0 (by decide) 1024 256 _ _ _ _ _ _ _ _ _ _).trans ?_
        refine (Planes.store_miss _ 0 1 1 1 (by decide) 0 1536 _ _ _ _ _ _ _ _ _ _).trans ?_
        refine (Planes.store_hit _ 0 1 0 1536 _ _ _ _ _ _ _ _ _ r d (by omega)).trans ?_
        exact (Chain.scoresAt _ _ _ _ r d (fun l => x0 (ix4 0 0 ⟨1280 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (1280 + r.val); omega)).symm
      · rw [show (⟨0 + d.val, by omega⟩ : Fin 2048) = ⟨1280 + (d.val - 1280), by omega⟩ from Fin.ext (by show 0 + d.val = 1280 + (d.val - 1280); omega)]
        refine (Planes.store_hit _ 0 1 1280 256 _ _ _ _ _ _ _ _ _ r ⟨d.val - 1280, by omega⟩ (by show 1280 + (d.val - 1280) < 2048; omega)).trans ?_
        refine (Chain.triangle _ _ _ _ _ r ⟨d.val - 1280, by omega⟩).trans ?_
        by_cases hj : d.val - 1280 ≤ r.val
        · refine (if_pos hj).trans ?_
          refine (Planes.load _ _ 0 1 1280 256 _ _ _ _ _ _ _ _ r ⟨d.val - 1280, by omega⟩ (by show 1280 + (d.val - 1280) < 2048; omega)).trans ?_
          rw [show (⟨1280 + (d.val - 1280), by omega⟩ : Fin 2048) = ⟨0 + d.val, by omega⟩ from Fin.ext (by show 1280 + (d.val - 1280) = 0 + d.val; omega)]
          refine (Planes.store_miss _ 0 1 1 0 (by decide) 1024 256 _ _ _ _ _ _ _ _ _ _).trans ?_
          refine (Planes.store_miss _ 0 1 0 0 (by decide) 1024 256 _ _ _ _ _ _ _ _ _ _).trans ?_
          refine (Planes.store_miss _ 0 1 1 1 (by decide) 0 1536 _ _ _ _ _ _ _ _ _ _).trans ?_
          refine (Planes.store_hit _ 0 1 0 1536 _ _ _ _ _ _ _ _ _ r d (by omega)).trans ?_
          exact (Chain.scoresAt _ _ _ _ r d (fun l => x0 (ix4 0 0 ⟨1280 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (1280 + r.val); omega)).symm
        · exact ((if_neg hj).trans (show _ = (⊥ : EReal) from rfl)).trans ((if_neg (by show ¬ d.val ≤ (1280 + r.val); omega)).symm)

/-- Query rows 1280 … 1535 of head 1: the mix of the first 1536 keys' values. -/
theorem acc_5_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg6 : Memref sig .tc .vmem S1x1x2048x128 .bf16)
    (harg6 : arg6.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x4 : Vec Ideal S1x1x2048x128 .bf16) (r : Fin 256) (lane : Fin 128) :
    kernelRun0_A.sl.v551 (F := Ideal) c arg2 harg2 arg3 harg3 arg4 harg4 arg6 harg6 arg9 arg10 x0 x1 x2 x4 (ix2 r lane)
      = EarlyChain.acc 1536 (by decide) x1 x2 x4 ⟨1280 + r.val, by omega⟩ lane := by
  refine EarlyChain.accAt (W := 1536) (by decide) _ _ _ r lane x1 x2 x4 ⟨1280 + r.val, by omega⟩ (fun d => ?_)
    (fun d => Chain.rowsAt harg6 x4 _ _ d lane (d.castLE (by decide)) (Nat.zero_add d.val).symm)
  · refine (Planes.load _ _ 1 1 0 1536 _ _ _ _ _ _ _ _ r d (by omega)).trans ?_
    rw [zero_add_mk]
    refine (Planes.box_hit _ 1 1 1536 _ _ r d (by omega)).trans ?_
    refine (Chain.expo _ _ _ _ _ _ r d).trans (congrArg Ideal.exp2 (congrArg₂ (· - ·) ?_ ?_))
    · refine (Planes.load _ _ 1 1 0 1536 _ _ _ _ _ _ _ _ r d (by omega)).trans ?_
      by_cases hd : d.val < 1280
      · refine (Planes.store_before _ 1 1 1 1 1280 256 _ _ _ _ _ _ _ _ r _ (by show 0 + d.val < 1280; omega)).trans ?_
        refine (Planes.store_miss _ 1 1 0 1 (by decide) 1280 256 _ _ _ _ _ _ _ _ _ _).trans ?_
        refine (Planes.store_miss _ 1 1 1 0 (by decide) 1024 256 _ _ _ _ _ _ _ _ _ _).trans ?_
        refine (Planes.store_miss _ 1 1 0 0 (by decide) 1024 256 _ _ _ _ _ _ _ _ _ _).trans ?_
        refine (Planes.store_hit _ 1 1 0 1536 _ _ _ _ _ _ _ _ _ r d (by omega)).trans ?_
        exact (Chain.scoresAt _ _ _ _ r d (fun l => x1 (ix4 0 0 ⟨1280 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (1280 + r.val); omega)).symm
      · rw [show (⟨0 + d.val, by omega⟩ : Fin 2048) = ⟨1280 + (d.val - 1280), by omega⟩ from Fin.ext (by show 0 + d.val = 1280 + (d.val - 1280); omega)]
        refine (Planes.store_hit _ 1 1 1280 256 _ _ _ _ _ _ _ _ _ r ⟨d.val - 1280, by omega⟩ (by show 1280 + (d.val - 1280) < 2048; omega)).trans ?_
        refine (Chain.triangle _ _ _ _ _ r ⟨d.val - 1280, by omega⟩).trans ?_
        by_cases hj : d.val - 1280 ≤ r.val
        · refine (if_pos hj).trans ?_
          refine (Planes.load _ _ 1 1 1280 256 _ _ _ _ _ _ _ _ r ⟨d.val - 1280, by omega⟩ (by show 1280 + (d.val - 1280) < 2048; omega)).trans ?_
          rw [show (⟨1280 + (d.val - 1280), by omega⟩ : Fin 2048) = ⟨0 + d.val, by omega⟩ from Fin.ext (by show 1280 + (d.val - 1280) = 0 + d.val; omega)]
          refine (Planes.store_miss _ 1 1 0 1 (by decide) 1280 256 _ _ _ _ _ _ _ _ _ _).trans ?_
          refine (Planes.store_miss _ 1 1 1 0 (by decide) 1024 256 _ _ _ _ _ _ _ _ _ _).trans ?_
          refine (Planes.store_miss _ 1 1 0 0 (by decide) 1024 256 _ _ _ _ _ _ _ _ _ _).trans ?_
          refine (Planes.store_hit _ 1 1 0 1536 _ _ _ _ _ _ _ _ _ r d (by omega)).trans ?_
          exact (Chain.scoresAt _ _ _ _ r d (fun l => x1 (ix4 0 0 ⟨1280 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (1280 + r.val); omega)).symm
        · exact ((if_neg hj).trans (show _ = (⊥ : EReal) from rfl)).trans ((if_neg (by show ¬ d.val ≤ (1280 + r.val); omega)).symm)
    · unfold kernelRun0_A.sl.r_13 k0_pay66
      dsimp only
      refine Chain.rowMax (W := 1536) reduces_S256x1536_S256 (.inl rfl) rfl shapeCasts_S256_S256x1 _ _ rfl (fun c' => EarlyChain.score x1 x2 ⟨1280 + r.val, by omega⟩ (c'.castLE (by decide))) r (fun d => ?_)
      refine (Planes.load _ _ 1 1 0 1536 _ _ _ _ _ _ _ _ r d (by omega)).trans ?_
      by_cases hd : d.val < 1280
      · refine (Planes.store_before _ 1 1 1 1 1280 256 _ _ _ _ _ _ _ _ r _ (by show 0 + d.val < 1280; omega)).trans ?_
        refine (Planes.store_miss _ 1 1 0 1 (by decide) 1280 256 _ _ _ _ _ _ _ _ _ _).trans ?_
        refine (Planes.store_miss _ 1 1 1 0 (by decide) 1024 256 _ _ _ _ _ _ _ _ _ _).trans ?_
        refine (Planes.store_miss _ 1 1 0 0 (by decide) 1024 256 _ _ _ _ _ _ _ _ _ _).trans ?_
        refine (Planes.store_hit _ 1 1 0 1536 _ _ _ _ _ _ _ _ _ r d (by omega)).trans ?_
        exact (Chain.scoresAt _ _ _ _ r d (fun l => x1 (ix4 0 0 ⟨1280 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (1280 + r.val); omega)).symm
      · rw [show (⟨0 + d.val, by omega⟩ : Fin 2048) = ⟨1280 + (d.val - 1280), by omega⟩ from Fin.ext (by show 0 + d.val = 1280 + (d.val - 1280); omega)]
        refine (Planes.store_hit _ 1 1 1280 256 _ _ _ _ _ _ _ _ _ r ⟨d.val - 1280, by omega⟩ (by show 1280 + (d.val - 1280) < 2048; omega)).trans ?_
        refine (Chain.triangle _ _ _ _ _ r ⟨d.val - 1280, by omega⟩).trans ?_
        by_cases hj : d.val - 1280 ≤ r.val
        · refine (if_pos hj).trans ?_
          refine (Planes.load _ _ 1 1 1280 256 _ _ _ _ _ _ _ _ r ⟨d.val - 1280, by omega⟩ (by show 1280 + (d.val - 1280) < 2048; omega)).trans ?_
          rw [show (⟨1280 + (d.val - 1280), by omega⟩ : Fin 2048) = ⟨0 + d.val, by omega⟩ from Fin.ext (by show 1280 + (d.val - 1280) = 0 + d.val; omega)]
          refine (Planes.store_miss _ 1 1 0 1 (by decide) 1280 256 _ _ _ _ _ _ _ _ _ _).trans ?_
          refine (Planes.store_miss _ 1 1 1 0 (by decide) 1024 256 _ _ _ _ _ _ _ _ _ _).trans ?_
          refine (Planes.store_miss _ 1 1 0 0 (by decide) 1024 256 _ _ _ _ _ _ _ _ _ _).trans ?_
          refine (Planes.store_hit _ 1 1 0 1536 _ _ _ _ _ _ _ _ _ r d (by omega)).trans ?_
          exact (Chain.scoresAt _ _ _ _ r d (fun l => x1 (ix4 0 0 ⟨1280 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (1280 + r.val); omega)).symm
        · exact ((if_neg hj).trans (show _ = (⊥ : EReal) from rfl)).trans ((if_neg (by show ¬ d.val ≤ (1280 + r.val); omega)).symm)

/-- Query rows 1536 … 1791 of head 0: the mix of the first 1792 keys' values. -/
theorem acc_6_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg5 : Memref sig .tc .vmem S1x1x2048x128 .bf16)
    (harg5 : arg5.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x3 : Vec Ideal S1x1x2048x128 .bf16) (r : Fin 256) (lane : Fin 128) :
    kernelRun0_A.sl.v717 (F := Ideal) c arg2 harg2 arg3 harg3 arg4 harg4 arg5 harg5 arg9 arg10 x0 x1 x2 x3 (ix2 r lane)
      = EarlyChain.acc 1792 (by decide) x0 x2 x3 ⟨1536 + r.val, by omega⟩ lane := by
  refine EarlyChain.accAt (W := 1792) (by decide) _ _ _ r lane x0 x2 x3 ⟨1536 + r.val, by omega⟩ (fun d => ?_)
    (fun d => Chain.rowsAt harg5 x3 _ _ d lane (d.castLE (by decide)) (Nat.zero_add d.val).symm)
  · refine (Planes.load _ _ 0 0 0 1792 _ _ _ _ _ _ _ _ r d (by omega)).trans ?_
    rw [zero_add_mk]
    refine (Planes.box_miss _ 0 0 1 1 (by decide) 2048 _ _ _ _).trans ?_
    refine (Planes.box_miss _ 0 0 0 1 (by decide) 2048 _ _ _ _).trans ?_
    refine (Planes.box_miss _ 0 0 1 0 (by decide) 1792 _ _ _ _).trans ?_
    refine (Planes.box_hit _ 0 0 1792 _ _ r d (by omega)).trans ?_
    refine (Chain.expo _ _ _ _ _ _ r d).trans (congrArg Ideal.exp2 (congrArg₂ (· - ·) ?_ ?_))
    · refine (Planes.load _ _ 0 0 0 1792 _ _ _ _ _ _ _ _ r d (by omega)).trans ?_
      refine (Planes.store_miss _ 0 0 1 1 (by decide) 1792 256 _ _ _ _ _ _ _ _ _ _).trans ?_
      refine (Planes.store_miss _ 0 0 0 1 (by decide) 1792 256 _ _ _ _ _ _ _ _ _ _).trans ?_
      refine (Planes.store_miss _ 0 0 1 0 (by decide) 1536 256 _ _ _ _ _ _ _ _ _ _).trans ?_
      by_cases hd : d.val < 1536
      · refine (Planes.store_before _ 0 0 0 0 1536 256 _ _ _ _ _ _ _ _ r _ (by show 0 + d.val < 1536; omega)).trans ?_
        refine (Planes.store_miss _ 0 0 1 1 (by decide) 0 2048 _ _ _ _ _ _ _ _ _ _).trans ?_
        refine (Planes.store_miss _ 0 0 0 1 (by decide) 0 2048 _ _ _ _ _ _ _ _ _ _).trans ?_
        refine (Planes.store_miss _ 0 0 1 0 (by decide) 0 1792 _ _ _ _ _ _ _ _ _ _).trans ?_
        refine (Planes.store_hit _ 0 0 0 1792 _ _ _ _ _ _ _ _ _ r d (by omega)).trans ?_
        exact (Chain.scoresAt _ _ _ _ r d (fun l => x0 (ix4 0 0 ⟨1536 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (1536 + r.val); omega)).symm
      · rw [show (⟨0 + d.val, by omega⟩ : Fin 2048) = ⟨1536 + (d.val - 1536), by omega⟩ from Fin.ext (by show 0 + d.val = 1536 + (d.val - 1536); omega)]
        refine (Planes.store_hit _ 0 0 1536 256 _ _ _ _ _ _ _ _ _ r ⟨d.val - 1536, by omega⟩ (by show 1536 + (d.val - 1536) < 2048; omega)).trans ?_
        refine (Chain.triangle _ _ _ _ _ r ⟨d.val - 1536, by omega⟩).trans ?_
        by_cases hj : d.val - 1536 ≤ r.val
        · refine (if_pos hj).trans ?_
          refine (Planes.load _ _ 0 0 1536 256 _ _ _ _ _ _ _ _ r ⟨d.val - 1536, by omega⟩ (by show 1536 + (d.val - 1536) < 2048; omega)).trans ?_
          rw [show (⟨1536 + (d.val - 1536), by omega⟩ : Fin 2048) = ⟨0 + d.val, by omega⟩ from Fin.ext (by show 1536 + (d.val - 1536) = 0 + d.val; omega)]
          refine (Planes.store_miss _ 0 0 1 1 (by decide) 0 2048 _ _ _ _ _ _ _ _ _ _).trans ?_
          refine (Planes.store_miss _ 0 0 0 1 (by decide) 0 2048 _ _ _ _ _ _ _ _ _ _).trans ?_
          refine (Planes.store_miss _ 0 0 1 0 (by decide) 0 1792 _ _ _ _ _ _ _ _ _ _).trans ?_
          refine (Planes.store_hit _ 0 0 0 1792 _ _ _ _ _ _ _ _ _ r d (by omega)).trans ?_
          exact (Chain.scoresAt _ _ _ _ r d (fun l => x0 (ix4 0 0 ⟨1536 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (1536 + r.val); omega)).symm
        · exact ((if_neg hj).trans (show _ = (⊥ : EReal) from rfl)).trans ((if_neg (by show ¬ d.val ≤ (1536 + r.val); omega)).symm)
    · unfold kernelRun0_A.sl.r_18 k0_pay84 kernelRun0_A.sl.r_17 k0_pay83
      dsimp only
      refine Chain.rowMax (W := 1792) reduces_S256x1792_S256 (.inl rfl) rfl shapeCasts_S256_S256x1 _ _ rfl (fun c' => EarlyChain.score x0 x2 ⟨1536 + r.val, by omega⟩ (c'.castLE (by decide))) r (fun d => ?_)
      refine (Planes.load _ _ 0 0 0 1792 _ _ _ _ _ _ _ _ r d (by omega)).trans ?_
      by_cases hd : d.val < 1536
      · refine (Planes.store_before _ 0 0 0 0 1536 256 _ _ _ _ _ _ _ _ r _ (by show 0 + d.val < 1536; omega)).trans ?_
        refine (Planes.store_miss _ 0 0 1 1 (by decide) 0 2048 _ _ _ _ _ _ _ _ _ _).trans ?_
        refine (Planes.store_miss _ 0 0 0 1 (by decide) 0 2048 _ _ _ _ _ _ _ _ _ _).trans ?_
        refine (Planes.store_miss _ 0 0 1 0 (by decide) 0 1792 _ _ _ _ _ _ _ _ _ _).trans ?_
        refine (Planes.store_hit _ 0 0 0 1792 _ _ _ _ _ _ _ _ _ r d (by omega)).trans ?_
        exact (Chain.scoresAt _ _ _ _ r d (fun l => x0 (ix4 0 0 ⟨1536 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (1536 + r.val); omega)).symm
      · rw [show (⟨0 + d.val, by omega⟩ : Fin 2048) = ⟨1536 + (d.val - 1536), by omega⟩ from Fin.ext (by show 0 + d.val = 1536 + (d.val - 1536); omega)]
        refine (Planes.store_hit _ 0 0 1536 256 _ _ _ _ _ _ _ _ _ r ⟨d.val - 1536, by omega⟩ (by show 1536 + (d.val - 1536) < 2048; omega)).trans ?_
        refine (Chain.triangle _ _ _ _ _ r ⟨d.val - 1536, by omega⟩).trans ?_
        by_cases hj : d.val - 1536 ≤ r.val
        · refine (if_pos hj).trans ?_
          refine (Planes.load _ _ 0 0 1536 256 _ _ _ _ _ _ _ _ r ⟨d.val - 1536, by omega⟩ (by show 1536 + (d.val - 1536) < 2048; omega)).trans ?_
          rw [show (⟨1536 + (d.val - 1536), by omega⟩ : Fin 2048) = ⟨0 + d.val, by omega⟩ from Fin.ext (by show 1536 + (d.val - 1536) = 0 + d.val; omega)]
          refine (Planes.store_miss _ 0 0 1 1 (by decide) 0 2048 _ _ _ _ _ _ _ _ _ _).trans ?_
          refine (Planes.store_miss _ 0 0 0 1 (by decide) 0 2048 _ _ _ _ _ _ _ _ _ _).trans ?_
          refine (Planes.store_miss _ 0 0 1 0 (by decide) 0 1792 _ _ _ _ _ _ _ _ _ _).trans ?_
          refine (Planes.store_hit _ 0 0 0 1792 _ _ _ _ _ _ _ _ _ r d (by omega)).trans ?_
          exact (Chain.scoresAt _ _ _ _ r d (fun l => x0 (ix4 0 0 ⟨1536 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (1536 + r.val); omega)).symm
        · exact ((if_neg hj).trans (show _ = (⊥ : EReal) from rfl)).trans ((if_neg (by show ¬ d.val ≤ (1536 + r.val); omega)).symm)

/-- Query rows 1536 … 1791 of head 1: the mix of the first 1792 keys' values. -/
theorem acc_6_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg6 : Memref sig .tc .vmem S1x1x2048x128 .bf16)
    (harg6 : arg6.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x4 : Vec Ideal S1x1x2048x128 .bf16) (r : Fin 256) (lane : Fin 128) :
    kernelRun0_A.sl.v723 (F := Ideal) c arg2 harg2 arg3 harg3 arg4 harg4 arg6 harg6 arg9 arg10 x0 x1 x2 x4 (ix2 r lane)
      = EarlyChain.acc 1792 (by decide) x1 x2 x4 ⟨1536 + r.val, by omega⟩ lane := by
  refine EarlyChain.accAt (W := 1792) (by decide) _ _ _ r lane x1 x2 x4 ⟨1536 + r.val, by omega⟩ (fun d => ?_)
    (fun d => Chain.rowsAt harg6 x4 _ _ d lane (d.castLE (by decide)) (Nat.zero_add d.val).symm)
  · refine (Planes.load _ _ 1 0 0 1792 _ _ _ _ _ _ _ _ r d (by omega)).trans ?_
    rw [zero_add_mk]
    refine (Planes.box_miss _ 1 0 1 1 (by decide) 2048 _ _ _ _).trans ?_
    refine (Planes.box_miss _ 1 0 0 1 (by decide) 2048 _ _ _ _).trans ?_
    refine (Planes.box_hit _ 1 0 1792 _ _ r d (by omega)).trans ?_
    refine (Chain.expo _ _ _ _ _ _ r d).trans (congrArg Ideal.exp2 (congrArg₂ (· - ·) ?_ ?_))
    · refine (Planes.load _ _ 1 0 0 1792 _ _ _ _ _ _ _ _ r d (by omega)).trans ?_
      refine (Planes.store_miss _ 1 0 1 1 (by decide) 1792 256 _ _ _ _ _ _ _ _ _ _).trans ?_
      refine (Planes.store_miss _ 1 0 0 1 (by decide) 1792 256 _ _ _ _ _ _ _ _ _ _).trans ?_
      by_cases hd : d.val < 1536
      · refine (Planes.store_before _ 1 0 1 0 1536 256 _ _ _ _ _ _ _ _ r _ (by show 0 + d.val < 1536; omega)).trans ?_
        refine (Planes.store_miss _ 1 0 0 0 (by decide) 1536 256 _ _ _ _ _ _ _ _ _ _).trans ?_
        refine (Planes.store_miss _ 1 0 1 1 (by decide) 0 2048 _ _ _ _ _ _ _ _ _ _).trans ?_
        refine (Planes.store_miss _ 1 0 0 1 (by decide) 0 2048 _ _ _ _ _ _ _ _ _ _).trans ?_
        refine (Planes.store_hit _ 1 0 0 1792 _ _ _ _ _ _ _ _ _ r d (by omega)).trans ?_
        exact (Chain.scoresAt _ _ _ _ r d (fun l => x1 (ix4 0 0 ⟨1536 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (1536 + r.val); omega)).symm
      · rw [show (⟨0 + d.val, by omega⟩ : Fin 2048) = ⟨1536 + (d.val - 1536), by omega⟩ from Fin.ext (by show 0 + d.val = 1536 + (d.val - 1536); omega)]
        refine (Planes.store_hit _ 1 0 1536 256 _ _ _ _ _ _ _ _ _ r ⟨d.val - 1536, by omega⟩ (by show 1536 + (d.val - 1536) < 2048; omega)).trans ?_
        refine (Chain.triangle _ _ _ _ _ r ⟨d.val - 1536, by omega⟩).trans ?_
        by_cases hj : d.val - 1536 ≤ r.val
        · refine (if_pos hj).trans ?_
          refine (Planes.load _ _ 1 0 1536 256 _ _ _ _ _ _ _ _ r ⟨d.val - 1536, by omega⟩ (by show 1536 + (d.val - 1536) < 2048; omega)).trans ?_
          rw [show (⟨1536 + (d.val - 1536), by omega⟩ : Fin 2048) = ⟨0 + d.val, by omega⟩ from Fin.ext (by show 1536 + (d.val - 1536) = 0 + d.val; omega)]
          refine (Planes.store_miss _ 1 0 0 0 (by decide) 1536 256 _ _ _ _ _ _ _ _ _ _).trans ?_
          refine (Planes.store_miss _ 1 0 1 1 (by decide) 0 2048 _ _ _ _ _ _ _ _ _ _).trans ?_
          refine (Planes.store_miss _ 1 0 0 1 (by decide) 0 2048 _ _ _ _ _ _ _ _ _ _).trans ?_
          refine (Planes.store_hit _ 1 0 0 1792 _ _ _ _ _ _ _ _ _ r d (by omega)).trans ?_
          exact (Chain.scoresAt _ _ _ _ r d (fun l => x1 (ix4 0 0 ⟨1536 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (1536 + r.val); omega)).symm
        · exact ((if_neg hj).trans (show _ = (⊥ : EReal) from rfl)).trans ((if_neg (by show ¬ d.val ≤ (1536 + r.val); omega)).symm)
    · unfold kernelRun0_A.sl.r_19 k0_pay86
      dsimp only
      refine Chain.rowMax (W := 1792) reduces_S256x1792_S256 (.inl rfl) rfl shapeCasts_S256_S256x1 _ _ rfl (fun c' => EarlyChain.score x1 x2 ⟨1536 + r.val, by omega⟩ (c'.castLE (by decide))) r (fun d => ?_)
      refine (Planes.load _ _ 1 0 0 1792 _ _ _ _ _ _ _ _ r d (by omega)).trans ?_
      by_cases hd : d.val < 1536
      · refine (Planes.store_before _ 1 0 1 0 1536 256 _ _ _ _ _ _ _ _ r _ (by show 0 + d.val < 1536; omega)).trans ?_
        refine (Planes.store_miss _ 1 0 0 0 (by decide) 1536 256 _ _ _ _ _ _ _ _ _ _).trans ?_
        refine (Planes.store_miss _ 1 0 1 1 (by decide) 0 2048 _ _ _ _ _ _ _ _ _ _).trans ?_
        refine (Planes.store_miss _ 1 0 0 1 (by decide) 0 2048 _ _ _ _ _ _ _ _ _ _).trans ?_
        refine (Planes.store_hit _ 1 0 0 1792 _ _ _ _ _ _ _ _ _ r d (by omega)).trans ?_
        exact (Chain.scoresAt _ _ _ _ r d (fun l => x1 (ix4 0 0 ⟨1536 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (1536 + r.val); omega)).symm
      · rw [show (⟨0 + d.val, by omega⟩ : Fin 2048) = ⟨1536 + (d.val - 1536), by omega⟩ from Fin.ext (by show 0 + d.val = 1536 + (d.val - 1536); omega)]
        refine (Planes.store_hit _ 1 0 1536 256 _ _ _ _ _ _ _ _ _ r ⟨d.val - 1536, by omega⟩ (by show 1536 + (d.val - 1536) < 2048; omega)).trans ?_
        refine (Chain.triangle _ _ _ _ _ r ⟨d.val - 1536, by omega⟩).trans ?_
        by_cases hj : d.val - 1536 ≤ r.val
        · refine (if_pos hj).trans ?_
          refine (Planes.load _ _ 1 0 1536 256 _ _ _ _ _ _ _ _ r ⟨d.val - 1536, by omega⟩ (by show 1536 + (d.val - 1536) < 2048; omega)).trans ?_
          rw [show (⟨1536 + (d.val - 1536), by omega⟩ : Fin 2048) = ⟨0 + d.val, by omega⟩ from Fin.ext (by show 1536 + (d.val - 1536) = 0 + d.val; omega)]
          refine (Planes.store_miss _ 1 0 0 0 (by decide) 1536 256 _ _ _ _ _ _ _ _ _ _).trans ?_
          refine (Planes.store_miss _ 1 0 1 1 (by decide) 0 2048 _ _ _ _ _ _ _ _ _ _).trans ?_
          refine (Planes.store_miss _ 1 0 0 1 (by decide) 0 2048 _ _ _ _ _ _ _ _ _ _).trans ?_
          refine (Planes.store_hit _ 1 0 0 1792 _ _ _ _ _ _ _ _ _ r d (by omega)).trans ?_
          exact (Chain.scoresAt _ _ _ _ r d (fun l => x1 (ix4 0 0 ⟨1536 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (1536 + r.val); omega)).symm
        · exact ((if_neg hj).trans (show _ = (⊥ : EReal) from rfl)).trans ((if_neg (by show ¬ d.val ≤ (1536 + r.val); omega)).symm)

/-- Query rows 1792 … 2047 of head 0: the mix of the first 2048 keys' values. -/
theorem acc_7_0 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg5 : Memref sig .tc .vmem S1x1x2048x128 .bf16)
    (harg5 : arg5.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x3 : Vec Ideal S1x1x2048x128 .bf16) (r : Fin 256) (lane : Fin 128) :
    kernelRun0_A.sl.v729 (F := Ideal) c arg2 harg2 arg3 harg3 arg4 harg4 arg5 harg5 arg9 arg10 x0 x1 x2 x3 (ix2 r lane)
      = EarlyChain.acc 2048 (by decide) x0 x2 x3 ⟨1792 + r.val, by omega⟩ lane := by
  refine EarlyChain.accAt (W := 2048) (by decide) _ _ _ r lane x0 x2 x3 ⟨1792 + r.val, by omega⟩ (fun d => ?_)
    (fun d => Chain.rowsAt harg5 x3 _ _ d lane (d.castLE (by decide)) (Nat.zero_add d.val).symm)
  · refine (Planes.load _ _ 0 1 0 2048 _ _ _ _ _ _ _ _ r d (by omega)).trans ?_
    rw [zero_add_mk]
    refine (Planes.box_miss _ 0 1 1 1 (by decide) 2048 _ _ _ _).trans ?_
    refine (Planes.box_hit _ 0 1 2048 _ _ r d (by omega)).trans ?_
    refine (Chain.expo _ _ _ _ _ _ r d).trans (congrArg Ideal.exp2 (congrArg₂ (· - ·) ?_ ?_))
    · refine (Planes.load _ _ 0 1 0 2048 _ _ _ _ _ _ _ _ r d (by omega)).trans ?_
      refine (Planes.store_miss _ 0 1 1 1 (by decide) 1792 256 _ _ _ _ _ _ _ _ _ _).trans ?_
      by_cases hd : d.val < 1792
      · refine (Planes.store_before _ 0 1 0 1 1792 256 _ _ _ _ _ _ _ _ r _ (by show 0 + d.val < 1792; omega)).trans ?_
        refine (Planes.store_miss _ 0 1 1 0 (by decide) 1536 256 _ _ _ _ _ _ _ _ _ _).trans ?_
        refine (Planes.store_miss _ 0 1 0 0 (by decide) 1536 256 _ _ _ _ _ _ _ _ _ _).trans ?_
        refine (Planes.store_miss _ 0 1 1 1 (by decide) 0 2048 _ _ _ _ _ _ _ _ _ _).trans ?_
        refine (Planes.store_hit _ 0 1 0 2048 _ _ _ _ _ _ _ _ _ r d (by omega)).trans ?_
        exact (Chain.scoresAt _ _ _ _ r d (fun l => x0 (ix4 0 0 ⟨1792 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (1792 + r.val); omega)).symm
      · rw [show (⟨0 + d.val, by omega⟩ : Fin 2048) = ⟨1792 + (d.val - 1792), by omega⟩ from Fin.ext (by show 0 + d.val = 1792 + (d.val - 1792); omega)]
        refine (Planes.store_hit _ 0 1 1792 256 _ _ _ _ _ _ _ _ _ r ⟨d.val - 1792, by omega⟩ (by show 1792 + (d.val - 1792) < 2048; omega)).trans ?_
        refine (Chain.triangle _ _ _ _ _ r ⟨d.val - 1792, by omega⟩).trans ?_
        by_cases hj : d.val - 1792 ≤ r.val
        · refine (if_pos hj).trans ?_
          refine (Planes.load _ _ 0 1 1792 256 _ _ _ _ _ _ _ _ r ⟨d.val - 1792, by omega⟩ (by show 1792 + (d.val - 1792) < 2048; omega)).trans ?_
          rw [show (⟨1792 + (d.val - 1792), by omega⟩ : Fin 2048) = ⟨0 + d.val, by omega⟩ from Fin.ext (by show 1792 + (d.val - 1792) = 0 + d.val; omega)]
          refine (Planes.store_miss _ 0 1 1 0 (by decide) 1536 256 _ _ _ _ _ _ _ _ _ _).trans ?_
          refine (Planes.store_miss _ 0 1 0 0 (by decide) 1536 256 _ _ _ _ _ _ _ _ _ _).trans ?_
          refine (Planes.store_miss _ 0 1 1 1 (by decide) 0 2048 _ _ _ _ _ _ _ _ _ _).trans ?_
          refine (Planes.store_hit _ 0 1 0 2048 _ _ _ _ _ _ _ _ _ r d (by omega)).trans ?_
          exact (Chain.scoresAt _ _ _ _ r d (fun l => x0 (ix4 0 0 ⟨1792 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (1792 + r.val); omega)).symm
        · exact ((if_neg hj).trans (show _ = (⊥ : EReal) from rfl)).trans ((if_neg (by show ¬ d.val ≤ (1792 + r.val); omega)).symm)
    · unfold kernelRun0_A.sl.r_21 k0_pay89
      dsimp only
      refine Chain.rowMax (W := 2048) reduces_S256x2048_S256 (.inl rfl) rfl shapeCasts_S256_S256x1 _ _ rfl (fun c' => EarlyChain.score x0 x2 ⟨1792 + r.val, by omega⟩ (c'.castLE (by decide))) r (fun d => ?_)
      refine (Planes.load _ _ 0 1 0 2048 _ _ _ _ _ _ _ _ r d (by omega)).trans ?_
      by_cases hd : d.val < 1792
      · refine (Planes.store_before _ 0 1 0 1 1792 256 _ _ _ _ _ _ _ _ r _ (by show 0 + d.val < 1792; omega)).trans ?_
        refine (Planes.store_miss _ 0 1 1 0 (by decide) 1536 256 _ _ _ _ _ _ _ _ _ _).trans ?_
        refine (Planes.store_miss _ 0 1 0 0 (by decide) 1536 256 _ _ _ _ _ _ _ _ _ _).trans ?_
        refine (Planes.store_miss _ 0 1 1 1 (by decide) 0 2048 _ _ _ _ _ _ _ _ _ _).trans ?_
        refine (Planes.store_hit _ 0 1 0 2048 _ _ _ _ _ _ _ _ _ r d (by omega)).trans ?_
        exact (Chain.scoresAt _ _ _ _ r d (fun l => x0 (ix4 0 0 ⟨1792 + r.val, by omega⟩ l)) (fun l => x2 (ix4 0 0 (d.castLE (by decide)) l))
          (fun l => Chain.rowsAt harg2 x0 _ _ r l _ rfl) (fun l => Chain.rowsAt harg4 x2 _ _ d l _ (Nat.zero_add d.val).symm)).trans (if_pos (by show d.val ≤ (1792 + r.val); omega)).symm
      · rw [show (⟨0 + d.val, by omega⟩ : Fin 2048) = ⟨1792 + (d.val - 1792), by omega⟩ from Fin.ext (by show 0 + d.val = 1792 + (d.val - 1792); omega)]
        refine (Planes.store_hit _ 0 1 1792 256 _ _ _ _ _ _ _ _ _ r ⟨d.val - 1792, by omega⟩ (by show 1792 + (d.val - 1792) < 2048; omega)).trans ?_
        refine (Chain.triangle _ _ _ _ _ r ⟨d.val - 1792, by omega⟩).trans ?_
        by_cases hj : d.val - 1792 ≤ r.val
        · refine (if_pos hj).trans ?_
          refine (Planes.load _ _ 0 1 1792 256 _ _ _ _ _ _ _ _ r ⟨d.val - 1792, by omega⟩ (by show 1792 + (d.val - 1792) < 2048; omega)).trans ?_
          rw [show (⟨1792 + (d.val - 1792), by omega⟩ : Fin 2048) = ⟨0 + d.val, by omega⟩ from Fin.ext (by show 1792 + (d.val - 1792) = 0 + d.val; omega)]
          refine (Planes.store_miss _ 0 1 1 0 (by decide) 1536 256 _ _ _ _ _ _ _ _ _ _).trans ?_
          refine (Planes.store_miss _ 0 1 0 0 (by decide) 1536 256 _ _ _ _ _ _ _ _ _ _).trans ?_
          refine (Planes.store_miss _ 0 1 1 1 (by decide) 0 2048 _ _ _ _ _ _ _ _ _ _).trans ?_
          refine (Planes.store_hit _ 0 1 0 2048 _ _ _ _ _ _ _ _ _ r d (by omega)).trans ?_
          exact (Chain.scoresAt _ _ _ _ r d (fun l => x0 (ix4 0 0 ⟨1792 + r.val, by omega⟩ l)) (fun l => x2 (ix4 0 0 (d.castLE (by decide)) l))
            (fun l => Chain.rowsAt harg2 x0 _ _ r l _ rfl) (fun l => Chain.rowsAt harg4 x2 _ _ d l _ (Nat.zero_add d.val).symm)).trans (if_pos (by show d.val ≤ (1792 + r.val); omega)).symm
        · exact ((if_neg hj).trans (show _ = (⊥ : EReal) from rfl)).trans ((if_neg (by show ¬ d.val ≤ (1792 + r.val); omega)).symm)

/-- Query rows 1792 … 2047 of head 1: the mix of the first 2048 keys' values. -/
theorem acc_7_1 (c : Dev nD) (arg2 : Memref sig .tc .vmem S1x1x2048x256 .bf16) (harg2 : arg2.IsWhole) (arg3 : Memref sig .tc .vmem S1x1x2048x256 .bf16)
    (harg3 : arg3.IsWhole) (arg4 : Memref sig .tc .vmem S1x1x2048x256 .bf16) (harg4 : arg4.IsWhole) (arg6 : Memref sig .tc .vmem S1x1x2048x128 .bf16)
    (harg6 : arg6.IsWhole) (arg9 : Memref sig .tc .vmem S2x2x256x2048 .f32) (arg10 : Memref sig .tc .vmem S2x2x256x2048 .bf16)
    (x0 x1 : Vec Ideal S1x1x2048x256 .bf16) (x2 : Vec Ideal S1x1x2048x256 .bf16) (x4 : Vec Ideal S1x1x2048x128 .bf16) (r : Fin 256) (lane : Fin 128) :
    kernelRun0_A.sl.v735 (F := Ideal) c arg2 harg2 arg3 harg3 arg4 harg4 arg6 harg6 arg9 arg10 x0 x1 x2 x4 (ix2 r lane)
      = EarlyChain.acc 2048 (by decide) x1 x2 x4 ⟨1792 + r.val, by omega⟩ lane := by
  refine EarlyChain.accAt (W := 2048) (by decide) _ _ _ r lane x1 x2 x4 ⟨1792 + r.val, by omega⟩ (fun d => ?_)
    (fun d => Chain.rowsAt harg6 x4 _ _ d lane (d.castLE (by decide)) (Nat.zero_add d.val).symm)
  · refine (Planes.load _ _ 1 1 0 2048 _ _ _ _ _ _ _ _ r d (by omega)).trans ?_
    rw [zero_add_mk]
    refine (Planes.box_hit _ 1 1 2048 _ _ r d (by omega)).trans ?_
    refine (Chain.expo _ _ _ _ _ _ r d).trans (congrArg Ideal.exp2 (congrArg₂ (· - ·) ?_ ?_))
    · refine (Planes.load _ _ 1 1 0 2048 _ _ _ _ _ _ _ _ r d (by omega)).trans ?_
      by_cases hd : d.val < 1792
      · refine (Planes.store_before _ 1 1 1 1 1792 256 _ _ _ _ _ _ _ _ r _ (by show 0 + d.val < 1792; omega)).trans ?_
        refine (Planes.store_miss _ 1 1 0 1 (by decide) 1792 256 _ _ _ _ _ _ _ _ _ _).trans ?_
        refine (Planes.store_miss _ 1 1 1 0 (by decide) 1536 256 _ _ _ _ _ _ _ _ _ _).trans ?_
        refine (Planes.store_miss _ 1 1 0 0 (by decide) 1536 256 _ _ _ _ _ _ _ _ _ _).trans ?_
        refine (Planes.store_hit _ 1 1 0 2048 _ _ _ _ _ _ _ _ _ r d (by omega)).trans ?_
        exact (Chain.scoresAt _ _ _ _ r d (fun l => x1 (ix4 0 0 ⟨1792 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (1792 + r.val); omega)).symm
      · rw [show (⟨0 + d.val, by omega⟩ : Fin 2048) = ⟨1792 + (d.val - 1792), by omega⟩ from Fin.ext (by show 0 + d.val = 1792 + (d.val - 1792); omega)]
        refine (Planes.store_hit _ 1 1 1792 256 _ _ _ _ _ _ _ _ _ r ⟨d.val - 1792, by omega⟩ (by show 1792 + (d.val - 1792) < 2048; omega)).trans ?_
        refine (Chain.triangle _ _ _ _ _ r ⟨d.val - 1792, by omega⟩).trans ?_
        by_cases hj : d.val - 1792 ≤ r.val
        · refine (if_pos hj).trans ?_
          refine (Planes.load _ _ 1 1 1792 256 _ _ _ _ _ _ _ _ r ⟨d.val - 1792, by omega⟩ (by show 1792 + (d.val - 1792) < 2048; omega)).trans ?_
          rw [show (⟨1792 + (d.val - 1792), by omega⟩ : Fin 2048) = ⟨0 + d.val, by omega⟩ from Fin.ext (by show 1792 + (d.val - 1792) = 0 + d.val; omega)]
          refine (Planes.store_miss _ 1 1 0 1 (by decide) 1792 256 _ _ _ _ _ _ _ _ _ _).trans ?_
          refine (Planes.store_miss _ 1 1 1 0 (by decide) 1536 256 _ _ _ _ _ _ _ _ _ _).trans ?_
          refine (Planes.store_miss _ 1 1 0 0 (by decide) 1536 256 _ _ _ _ _ _ _ _ _ _).trans ?_
          refine (Planes.store_hit _ 1 1 0 2048 _ _ _ _ _ _ _ _ _ r d (by omega)).trans ?_
          exact (Chain.scoresAt _ _ _ _ r d (fun l => x1 (ix4 0 0 ⟨1792 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (1792 + r.val); omega)).symm
        · exact ((if_neg hj).trans (show _ = (⊥ : EReal) from rfl)).trans ((if_neg (by show ¬ d.val ≤ (1792 + r.val); omega)).symm)
    · unfold kernelRun0_A.sl.r_22 k0_pay91
      dsimp only
      refine Chain.rowMax (W := 2048) reduces_S256x2048_S256 (.inl rfl) rfl shapeCasts_S256_S256x1 _ _ rfl (fun c' => EarlyChain.score x1 x2 ⟨1792 + r.val, by omega⟩ (c'.castLE (by decide))) r (fun d => ?_)
      refine (Planes.load _ _ 1 1 0 2048 _ _ _ _ _ _ _ _ r d (by omega)).trans ?_
      by_cases hd : d.val < 1792
      · refine (Planes.store_before _ 1 1 1 1 1792 256 _ _ _ _ _ _ _ _ r _ (by show 0 + d.val < 1792; omega)).trans ?_
        refine (Planes.store_miss _ 1 1 0 1 (by decide) 1792 256 _ _ _ _ _ _ _ _ _ _).trans ?_
        refine (Planes.store_miss _ 1 1 1 0 (by decide) 1536 256 _ _ _ _ _ _ _ _ _ _).trans ?_
        refine (Planes.store_miss _ 1 1 0 0 (by decide) 1536 256 _ _ _ _ _ _ _ _ _ _).trans ?_
        refine (Planes.store_hit _ 1 1 0 2048 _ _ _ _ _ _ _ _ _ r d (by omega)).trans ?_
        exact (Chain.scoresAt _ _ _ _ r d (fun l => x1 (ix4 0 0 ⟨1792 + r.val, by omega⟩ l)) (fun l => x2 (ix4 0 0 (d.castLE (by decide)) l))
          (fun l => Chain.rowsAt harg3 x1 _ _ r l _ rfl) (fun l => Chain.rowsAt harg4 x2 _ _ d l _ (Nat.zero_add d.val).symm)).trans (if_pos (by show d.val ≤ (1792 + r.val); omega)).symm
      · rw [show (⟨0 + d.val, by omega⟩ : Fin 2048) = ⟨1792 + (d.val - 1792), by omega⟩ from Fin.ext (by show 0 + d.val = 1792 + (d.val - 1792); omega)]
        refine (Planes.store_hit _ 1 1 1792 256 _ _ _ _ _ _ _ _ _ r ⟨d.val - 1792, by omega⟩ (by show 1792 + (d.val - 1792) < 2048; omega)).trans ?_
        refine (Chain.triangle _ _ _ _ _ r ⟨d.val - 1792, by omega⟩).trans ?_
        by_cases hj : d.val - 1792 ≤ r.val
        · refine (if_pos hj).trans ?_
          refine (Planes.load _ _ 1 1 1792 256 _ _ _ _ _ _ _ _ r ⟨d.val - 1792, by omega⟩ (by show 1792 + (d.val - 1792) < 2048; omega)).trans ?_
          rw [show (⟨1792 + (d.val - 1792), by omega⟩ : Fin 2048) = ⟨0 + d.val, by omega⟩ from Fin.ext (by show 1792 + (d.val - 1792) = 0 + d.val; omega)]
          refine (Planes.store_miss _ 1 1 0 1 (by decide) 1792 256 _ _ _ _ _ _ _ _ _ _).trans ?_
          refine (Planes.store_miss _ 1 1 1 0 (by decide) 1536 256 _ _ _ _ _ _ _ _ _ _).trans ?_
          refine (Planes.store_miss _ 1 1 0 0 (by decide) 1536 256 _ _ _ _ _ _ _ _ _ _).trans ?_
          refine (Planes.store_hit _ 1 1 0 2048 _ _ _ _ _ _ _ _ _ r d (by omega)).trans ?_
          exact (Chain.scoresAt _ _ _ _ r d (fun l => x1 (ix4 0 0 ⟨1792 + r.val, by omega⟩ l)) (fun l => x2 (ix4 0 0 (d.castLE (by decide)) l))
            (fun l => Chain.rowsAt harg3 x1 _ _ r l _ rfl) (fun l => Chain.rowsAt harg4 x2 _ _ d l _ (Nat.zero_add d.val).symm)).trans (if_pos (by show d.val ≤ (1792 + r.val); omega)).symm
        · exact ((if_neg hj).trans (show _ = (⊥ : EReal) from rfl)).trans ((if_neg (by show ¬ d.val ≤ (1792 + r.val); omega)).symm)

end Cert.EarlyChains
end
-- ==== Proof.EarlyBlock.lean ====
/-
  What the kernel's body leaves in the output's block: every row's joined and normalised mix.
-/
module

public import proofs.«01_k».proof.Proof.EarlyChains

@[expose] public section

set_option maxRecDepth 16384

noncomputable section

namespace Cert.EarlyChains

open Idealize.ShloMosaic Cert.EarlyIdeal Cert.EarlyIdeal.Gen

/-- The block as a function of the operands' blocks. -/
def blockVal (x0 x1 : Vec Ideal S1x1x2048x256 .bf16) (x2 : Vec Ideal S1x1x2048x256 .bf16) (x3 x4 : Vec Ideal S1x1x2048x128 .bf16)
    (g : Fin 2048) (lane : Fin 128) : EReal :=
  Chain.merge (EarlyChain.acc 2048 le_rfl x0 x2 x3 g) (EarlyChain.acc 2048 le_rfl x1 x2 x4 g) lane

/-- One stored piece of the block. -/
theorem piece {q : ℕ} (hq : q + 256 ≤ 2048) (W : ℕ) (hW : W ≤ 2048) (hqW : q + 256 ≤ W) (inb i rot sc) (A B : FVec Ideal S256x128 .f32)
    (x0 x1 : Vec Ideal S1x1x2048x256 .bf16) (x2 : Vec Ideal S1x1x2048x256 .bf16) (x3 x4 : Vec Ideal S1x1x2048x128 .bf16)
    (hA : ∀ (r : Fin 256) (l : Fin 128), A (ix2 r l) = EarlyChain.acc W hW x0 x2 x3 ⟨q + r.val, by omega⟩ l)
    (hB : ∀ (r : Fin 256) (l : Fin 128), B (ix2 r l) = EarlyChain.acc W hW x1 x2 x4 ⟨q + r.val, by omega⟩ l)
    (x : S1x256x128.Idx) :
    shapeCast (⟨3, ![1, 256, 128]⟩ : Shape) (divf
      (select (cmpi .slt (iota .tc (⟨2, ![256, 128]⟩ : Shape) 32 [1] i) (broadcast (⟨2, ![256, 128]⟩ : Shape) 64#32)) A B)
      (dynamicRotate 1 64#32 none
        (select (cmpi .slt (iota .tc (⟨2, ![256, 128]⟩ : Shape) 32 [1] i) (broadcast (⟨2, ![256, 128]⟩ : Shape) 64#32)) B A) rot)) sc x
      = (fun y : S1x2048x128.Idx => blockVal x0 x1 x2 x3 x4 (y 1) (y 2))
        ((Rect.unit (s := S1x2048x128) ![0, q, 0] S1x256x128.size inb).emb x) := by
  obtain ⟨u, r, l, rfl⟩ : ∃ (u : Fin 1) (r : Fin 256) (l : Fin 128), x = ix3 u r l := ⟨x 0, x 1, x 2, (eq_ix3 x)⟩
  obtain rfl : u = 0 := Subsingleton.elim _ _
  refine (Chain.mergeAt i rot sc A B _ _ hA hB r l).trans ?_
  have hl : ((Rect.unit (s := S1x2048x128) ![0, q, 0] S1x256x128.size inb).emb (ix3 0 r l) 2 : Fin 128) = l :=
    Fin.ext (show 0 + 1 * l.val = l.val by omega)
  have hr : ((Rect.unit (s := S1x2048x128) ![0, q, 0] S1x256x128.size inb).emb (ix3 0 r l) 1 : Fin 2048) = (⟨q + r.val, by omega⟩ : Fin 2048) :=
    Fin.ext (show q + 1 * r.val = q + r.val by omega)
  show _ = blockVal x0 x1 x2 x3 x4 ((Rect.unit (s := S1x2048x128) ![0, q, 0] S1x256x128.size inb).emb (ix3 0 r l) 1 : Fin 2048)
    ((Rect.unit (s := S1x2048x128) ![0, q, 0] S1x256x128.size inb).emb (ix3 0 r l) 2 : Fin 128)
  rw [hl, hr]
  unfold blockVal
  congr 1
  · funext l'; exact EarlyChain.acc_all W hW le_rfl x0 x2 x3 x2 x3 (fun _ _ => rfl) (fun _ _ => rfl) _ (by show (q + r.val) < W; omega) l'
  · funext l'; exact EarlyChain.acc_all W hW le_rfl x1 x2 x4 x2 x4 (fun _ _ => rfl) (fun _ _ => rfl) _ (by show (q + r.val) < W; omega) l'

theorem block_eq (c : Dev nD) (i : grid0.Coords) (arg2 : Memref sig .tc .vmem S1x1x2048x256 .bf16) (harg2 : arg2.IsWhole)
    (arg3 : Memref sig .tc .vmem S1x1x2048x256 .bf16) (harg3 : arg3.IsWhole)
    (arg4 : Memref sig .tc .vmem S1x1x2048x256 .bf16) (harg4 : arg4.IsWhole)
    (arg5 : Memref sig .tc .vmem S1x1x2048x128 .bf16) (harg5 : arg5.IsWhole)
    (arg6 : Memref sig .tc .vmem S1x1x2048x128 .bf16) (harg6 : arg6.IsWhole)
    (arg8 : Memref sig .tc .vmem S1x2048x128 .f32) (harg8 : arg8.IsWhole)
    (arg9 : Memref sig .tc .vmem S2x2x256x2048 .f32) (harg9 : arg9.IsWhole)
    (arg10 : Memref sig .tc .vmem S2x2x256x2048 .bf16) (harg10 : arg10.IsWhole)
    (x0 x1 : Vec Ideal S1x1x2048x256 .bf16) (x2 : Vec Ideal S1x1x2048x256 .bf16) (x3 x4 : Vec Ideal S1x1x2048x128 .bf16) (y : S1x2048x128.Idx) :
    out0_A_5 (F := Ideal) c i arg2 harg2 arg3 harg3 arg4 harg4 arg5 harg5 arg6 harg6 arg8 harg8 arg9 harg9 arg10 harg10 x0 x1 x2 x3 x4 y = blockVal x0 x1 x2 x3 x4 (y 1) (y 2) := by
  have hc := cover0_A_5 (F := Ideal) c i arg2 harg2 arg3 harg3 arg4 harg4 arg5 harg5 arg6 harg6 arg8 harg8 arg9 harg9 arg10 harg10 x0 x1 x2 x3 x4 y
  unfold out0_A_5
  rw [View.read_writes_eq_canon _ _ _ (cover0_A_5 (F := Ideal) c i arg2 harg2 arg3 harg3 arg4 harg4 arg5 harg5 arg6 harg6 arg8 harg8 arg9 harg9 arg10 harg10 x0 x1 x2 x3 x4)]
  refine View.canon_apply_of_pieces (fun y : S1x2048x128.Idx => blockVal x0 x1 x2 x3 x4 (y 1) (y 2)) _ ?_ y hc
  unfold kernelRun0_A
  dsimp only
  intro p hp
  simp only [List.mem_cons, List.not_mem_nil, or_false] at hp
  rcases hp with rfl | rfl | rfl | rfl | rfl | rfl | rfl | rfl
  · exact piece (q := 1792) (by decide) 2048 (by decide) (by decide) inb_S1x2048x128_S1x256x128_0_1792_0 _ _ _ _ _ x0 x1 x2 x3 x4
      (acc_7_0 c arg2 harg2 arg3 harg3 arg4 harg4 arg5 harg5 arg9 arg10 x0 x1 x2 x3)
      (acc_7_1 c arg2 harg2 arg3 harg3 arg4 harg4 arg6 harg6 arg9 arg10 x0 x1 x2 x4)
  · exact piece (q := 1536) (by decide) 1792 (by decide) (by decide) inb_S1x2048x128_S1x256x128_0_1536_0 _ _ _ _ _ x0 x1 x2 x3 x4
      (acc_6_0 c arg2 harg2 arg3 harg3 arg4 harg4 arg5 harg5 arg9 arg10 x0 x1 x2 x3)
      (acc_6_1 c arg2 harg2 arg3 harg3 arg4 harg4 arg6 harg6 arg9 arg10 x0 x1 x2 x4)
  · exact piece (q := 1280) (by decide) 1536 (by decide) (by decide) inb_S1x2048x128_S1x256x128_0_1280_0 _ _ _ _ _ x0 x1 x2 x3 x4
      (acc_5_0 c arg2 harg2 arg3 harg3 arg4 harg4 arg5 harg5 arg9 arg10 x0 x1 x2 x3)
      (acc_5_1 c arg2 harg2 arg3 harg3 arg4 harg4 arg6 harg6 arg9 arg10 x0 x1 x2 x4)
  · exact piece (q := 1024) (by decide) 1280 (by decide) (by decide) inb_S1x2048x128_S1x256x128_0_1024_0 _ _ _ _ _ x0 x1 x2 x3 x4
      (acc_4_0 c arg2 harg2 arg3 harg3 arg4 harg4 arg5 harg5 arg9 arg10 x0 x1 x2 x3)
      (acc_4_1 c arg2 harg2 arg3 harg3 arg4 harg4 arg6 harg6 arg9 arg10 x0 x1 x2 x4)
  · exact piece (q := 768) (by decide) 1024 (by decide) (by decide) inb_S1x2048x128_S1x256x128_0_768_0 _ _ _ _ _ x0 x1 x2 x3 x4
      (acc_3_0 c arg2 harg2 arg3 harg3 arg4 harg4 arg5 harg5 arg9 arg10 x0 x1 x2 x3)
      (acc_3_1 c arg2 harg2 arg3 harg3 arg4 harg4 arg6 harg6 arg9 arg10 x0 x1 x2 x4)
  · exact piece (q := 512) (by decide) 768 (by decide) (by decide) inb_S1x2048x128_S1x256x128_0_512_0 _ _ _ _ _ x0 x1 x2 x3 x4
      (acc_2_0 c arg2 harg2 arg3 harg3 arg4 harg4 arg5 harg5 arg9 arg10 x0 x1 x2 x3)
      (acc_2_1 c arg2 harg2 arg3 harg3 arg4 harg4 arg6 harg6 arg9 arg10 x0 x1 x2 x4)
  · exact piece (q := 256) (by decide) 512 (by decide) (by decide) inb_S1x2048x128_S1x256x128_0_256_0 _ _ _ _ _ x0 x1 x2 x3 x4
      (acc_1_0 c arg2 harg2 arg3 harg3 arg4 harg4 arg5 harg5 arg9 arg10 x0 x1 x2 x3)
      (acc_1_1 c arg2 harg2 arg3 harg3 arg4 harg4 arg6 harg6 arg9 arg10 x0 x1 x2 x4)
  · exact piece (q := 0) (by decide) 256 (by decide) (by decide) inb_S1x2048x128_S1x256x128_0_0_0 _ _ _ _ _ x0 x1 x2 x3 x4
      (acc_0_0 c arg2 harg2 arg3 harg3 arg4 harg4 arg5 harg5 arg9 arg10 x0 x1 x2 x3)
      (acc_0_1 c arg2 harg2 arg3 harg3 arg4 harg4 arg6 harg6 arg9 arg10 x0 x1 x2 x4)

end Cert.EarlyChains
end
-- ==== Proof.EarlyArray.lean ====
/-
  The output array of the first query group's call: the rows before 2048 are the joined mixes over the arrays, the others the ones handed in.
-/
module

public import proofs.«01_k».proof.Proof.EarlyBlock
public import Idealize.ShloMosaic.Lib.Pipeline.ValueKit

@[expose] public section

set_option maxRecDepth 16384

noncomputable section

namespace Cert.EarlyChains

open Idealize.ShloMosaic Idealize.ShloMosaic.TcCoe Cert.EarlyIdeal Cert.EarlyIdeal.Gen

variable (m : (ℓ : Loc nD τ sig) → Buf (Elt Ideal) ℓ)

theorem index0 : ∀ t : Fin cfg0.N, win0_0.index t = ![(grid0.coords t 0).val, (grid0.coords t 1).val, 0, 0] :=
  (by decide +kernel : ∀ t : Fin grid0.N, win0_0.index t = ![(grid0.coords t 0).val, (grid0.coords t 1).val, 0, 0])
theorem index1 : ∀ t : Fin cfg0.N, win0_1.index t = ![(grid0.coords t 0).val, (grid0.coords t 1).val, 0, 0] :=
  (by decide +kernel : ∀ t : Fin grid0.N, win0_1.index t = ![(grid0.coords t 0).val, (grid0.coords t 1).val, 0, 0])
theorem index2 : ∀ t : Fin cfg0.N, win0_2.index t = ![(grid0.coords t 0).val, (grid0.coords t 1).val, 0, 0] :=
  (by decide +kernel : ∀ t : Fin grid0.N, win0_2.index t = ![(grid0.coords t 0).val, (grid0.coords t 1).val, 0, 0])
theorem index3 : ∀ t : Fin cfg0.N, win0_3.index t = ![(grid0.coords t 0).val, (grid0.coords t 1).val, 0, 0] :=
  (by decide +kernel : ∀ t : Fin grid0.N, win0_3.index t = ![(grid0.coords t 0).val, (grid0.coords t 1).val, 0, 0])
theorem index4 : ∀ t : Fin cfg0.N, win0_4.index t = ![(grid0.coords t 0).val, (grid0.coords t 1).val, 0, 0] :=
  (by decide +kernel : ∀ t : Fin grid0.N, win0_4.index t = ![(grid0.coords t 0).val, (grid0.coords t 1).val, 0, 0])
theorem index5 : ∀ t : Fin cfg0.N, win0_5.index t = ![(grid0.coords t 0).val, 0, (grid0.coords t 1).val] :=
  (by decide +kernel : ∀ t : Fin grid0.N, win0_5.index t = ![(grid0.coords t 0).val, 0, (grid0.coords t 1).val])

/-- The array handed in is where the region's output starts from. -/
theorem V_main_v0 (c : Dev nD) : V m c main_v0 = m ((c : Thread nD τ).loc main_arg5) := by
  simp [V, hostOps0, StableHlo.after]
  exact StableHlo.unary_result main_arg5 main_v0 id _ _ (fun b => m (c, b))

theorem point (b p : Fin 8) : ∃ t : Fin cfg0.N, (grid0.coords t 0).val = b.val ∧ (grid0.coords t 1).val = p.val :=
  (by decide +kernel : ∀ b p : Fin 8, ∃ t : Fin grid0.N, (grid0.coords t 0).val = b.val ∧ (grid0.coords t 1).val = p.val) b p

/-- Row `g` of batch `b`, lane `lane` of pair `p`, from the arrays. -/
def outVal (q0 q1 k : S8x8x4096x256.Idx → EReal) (v0 v1 : S8x8x4096x128.Idx → EReal) (b p : Fin 8) (g : Fin 2048) (lane : Fin 128) : EReal :=
  blockVal (fun y => q0 (ix4 b p (Fin.castLE (by decide) (y 2 : Fin 2048) : Fin 4096) (y 3 : Fin 256)))
    (fun y => q1 (ix4 b p (Fin.castLE (by decide) (y 2 : Fin 2048) : Fin 4096) (y 3 : Fin 256)))
    (fun y => k (ix4 b p (Fin.castLE (by decide) (y 2 : Fin 2048) : Fin 4096) (y 3 : Fin 256))) (fun y => v0 (ix4 b p (Fin.castLE (by decide) (y 2 : Fin 2048) : Fin 4096) (y 3 : Fin 128)))
    (fun y => v1 (ix4 b p (Fin.castLE (by decide) (y 2 : Fin 2048) : Fin 4096) (y 3 : Fin 128))) g lane

/-- The rows before 2048. -/
theorem early (c : Dev nD) (b p : Fin 8) (g : Fin 2048) (lane : Fin 128) :
    (dats m 0 c).arrAt 5 cfg0.N (ix3 b ⟨g.val, by omega⟩ ⟨128 * p.val + lane.val, by omega⟩)
      = outVal (m ((c : Thread nD τ).loc main_arg0)) (m ((c : Thread nD τ).loc main_arg1)) (m ((c : Thread nD τ).loc main_arg2))
          (m ((c : Thread nD τ).loc main_arg3)) (m ((c : Thread nD τ).loc main_arg4)) b p g lane := by
  obtain ⟨t, hb, hp⟩ := point b p
  have h := congrFun (Value.blocks5 m c t (flush0_5 t)) (ix3 0 g lane)
  blk_simp at h
  rw [after0_5] at h
  have he : (win0_5.blk t).view.emb (ix3 0 g lane) = (ix3 b ⟨g.val, by omega⟩ ⟨128 * p.val + lane.val, by omega⟩ : S8x4096x1024.Idx) := by
    funext a
    apply Fin.ext
    fin_cases a
    · show win0_5.index t 0 * 1 + 1 * 0 = b.val
      rw [index5]
      show (grid0.coords t 0).val * 1 + 1 * 0 = b.val
      omega
    · show win0_5.index t 1 * 2048 + 1 * g.val = g.val
      rw [index5]
      show 0 * 2048 + 1 * g.val = g.val
      omega
    · show win0_5.index t 2 * 128 + 1 * lane.val = 128 * p.val + lane.val
      rw [index5]
      show (grid0.coords t 1).val * 128 + 1 * lane.val = 128 * p.val + lane.val
      omega
  rw [he] at h
  refine h.trans ?_
  unfold outsAt0
  rw [block_eq]
  show blockVal _ _ _ _ _ g lane = _
  unfold outVal
  have e0 : iblk m c 0 t = fun y => m ((c : Thread nD τ).loc main_arg0) (ix4 b p (Fin.castLE (by decide) (y 2 : Fin 2048) : Fin 4096) (y 3 : Fin 256)) := by
    funext y
    refine (congrFun (V_main_arg0 m c) ((win0_0.blk t).view.emb y)).trans (congrArg (m ((c : Thread nD τ).loc main_arg0)) ?_)
    have y0 : (y 0 : Fin 1).val = 0 := Nat.lt_one_iff.mp (y 0 : Fin 1).isLt
    have y1 : (y 1 : Fin 1).val = 0 := Nat.lt_one_iff.mp (y 1 : Fin 1).isLt
    funext a
    apply Fin.ext
    fin_cases a
    · show win0_0.index t 0 * 1 + 1 * (y 0 : Fin 1).val = b.val
      rw [index0, y0]
      show (grid0.coords t 0).val * 1 + 1 * 0 = b.val
      omega
    · show win0_0.index t 1 * 1 + 1 * (y 1 : Fin 1).val = p.val
      rw [index0, y1]
      show (grid0.coords t 1).val * 1 + 1 * 0 = p.val
      omega
    · show win0_0.index t 2 * 2048 + 1 * (y 2 : Fin 2048).val = (y 2 : Fin 2048).val
      rw [index0]
      show 0 * 2048 + 1 * (y 2 : Fin 2048).val = (y 2 : Fin 2048).val
      omega
    · show win0_0.index t 3 * 256 + 1 * (y 3 : Fin 256).val = (y 3 : Fin 256).val
      rw [index0]
      show 0 * 256 + 1 * (y 3 : Fin 256).val = (y 3 : Fin 256).val
      omega
  have e1 : iblk m c 1 t = fun y => m ((c : Thread nD τ).loc main_arg1) (ix4 b p (Fin.castLE (by decide) (y 2 : Fin 2048) : Fin 4096) (y 3 : Fin 256)) := by
    funext y
    refine (congrFun (V_main_arg1 m c) ((win0_1.blk t).view.emb y)).trans (congrArg (m ((c : Thread nD τ).loc main_arg1)) ?_)
    have y0 : (y 0 : Fin 1).val = 0 := Nat.lt_one_iff.mp (y 0 : Fin 1).isLt
    have y1 : (y 1 : Fin 1).val = 0 := Nat.lt_one_iff.mp (y 1 : Fin 1).isLt
    funext a
    apply Fin.ext
    fin_cases a
    · show win0_1.index t 0 * 1 + 1 * (y 0 : Fin 1).val = b.val
      rw [index1, y0]
      show (grid0.coords t 0).val * 1 + 1 * 0 = b.val
      omega
    · show win0_1.index t 1 * 1 + 1 * (y 1 : Fin 1).val = p.val
      rw [index1, y1]
      show (grid0.coords t 1).val * 1 + 1 * 0 = p.val
      omega
    · show win0_1.index t 2 * 2048 + 1 * (y 2 : Fin 2048).val = (y 2 : Fin 2048).val
      rw [index1]
      show 0 * 2048 + 1 * (y 2 : Fin 2048).val = (y 2 : Fin 2048).val
      omega
    · show win0_1.index t 3 * 256 + 1 * (y 3 : Fin 256).val = (y 3 : Fin 256).val
      rw [index1]
      show 0 * 256 + 1 * (y 3 : Fin 256).val = (y 3 : Fin 256).val
      omega
  have e2 : iblk m c 2 t = fun y => m ((c : Thread nD τ).loc main_arg2) (ix4 b p (Fin.castLE (by decide) (y 2 : Fin 2048) : Fin 4096) (y 3 : Fin 256)) := by
    funext y
    refine (congrFun (V_main_arg2 m c) ((win0_2.blk t).view.emb y)).trans (congrArg (m ((c : Thread nD τ).loc main_arg2)) ?_)
    have y0 : (y 0 : Fin 1).val = 0 := Nat.lt_one_iff.mp (y 0 : Fin 1).isLt
    have y1 : (y 1 : Fin 1).val = 0 := Nat.lt_one_iff.mp (y 1 : Fin 1).isLt
    funext a
    apply Fin.ext
    fin_cases a
    · show win0_2.index t 0 * 1 + 1 * (y 0 : Fin 1).val = b.val
      rw [index2, y0]
      show (grid0.coords t 0).val * 1 + 1 * 0 = b.val
      omega
    · show win0_2.index t 1 * 1 + 1 * (y 1 : Fin 1).val = p.val
      rw [index2, y1]
      show (grid0.coords t 1).val * 1 + 1 * 0 = p.val
      omega
    · show win0_2.index t 2 * 2048 + 1 * (y 2 : Fin 2048).val = (y 2 : Fin 2048).val
      rw [index2]
      show 0 * 2048 + 1 * (y 2 : Fin 2048).val = (y 2 : Fin 2048).val
      omega
    · show win0_2.index t 3 * 256 + 1 * (y 3 : Fin 256).val = (y 3 : Fin 256).val
      rw [index2]
      show 0 * 256 + 1 * (y 3 : Fin 256).val = (y 3 : Fin 256).val
      omega
  have e3 : iblk m c 3 t = fun y => m ((c : Thread nD τ).loc main_arg3) (ix4 b p (Fin.castLE (by decide) (y 2 : Fin 2048) : Fin 4096) (y 3 : Fin 128)) := by
    funext y
    refine (congrFun (V_main_arg3 m c) ((win0_3.blk t).view.emb y)).trans (congrArg (m ((c : Thread nD τ).loc main_arg3)) ?_)
    have y0 : (y 0 : Fin 1).val = 0 := Nat.lt_one_iff.mp (y 0 : Fin 1).isLt
    have y1 : (y 1 : Fin 1).val = 0 := Nat.lt_one_iff.mp (y 1 : Fin 1).isLt
    funext a
    apply Fin.ext
    fin_cases a
    · show win0_3.index t 0 * 1 + 1 * (y 0 : Fin 1).val = b.val
      rw [index3, y0]
      show (grid0.coords t 0).val * 1 + 1 * 0 = b.val
      omega
    · show win0_3.index t 1 * 1 + 1 * (y 1 : Fin 1).val = p.val
      rw [index3, y1]
      show (grid0.coords t 1).val * 1 + 1 * 0 = p.val
      omega
    · show win0_3.index t 2 * 2048 + 1 * (y 2 : Fin 2048).val = (y 2 : Fin 2048).val
      rw [index3]
      show 0 * 2048 + 1 * (y 2 : Fin 2048).val = (y 2 : Fin 2048).val
      omega
    · show win0_3.index t 3 * 128 + 1 * (y 3 : Fin 128).val = (y 3 : Fin 128).val
      rw [index3]
      show 0 * 128 + 1 * (y 3 : Fin 128).val = (y 3 : Fin 128).val
      omega
  have e4 : iblk m c 4 t = fun y => m ((c : Thread nD τ).loc main_arg4) (ix4 b p (Fin.castLE (by decide) (y 2 : Fin 2048) : Fin 4096) (y 3 : Fin 128)) := by
    funext y
    refine (congrFun (V_main_arg4 m c) ((win0_4.blk t).view.emb y)).trans (congrArg (m ((c : Thread nD τ).loc main_arg4)) ?_)
    have y0 : (y 0 : Fin 1).val = 0 := Nat.lt_one_iff.mp (y 0 : Fin 1).isLt
    have y1 : (y 1 : Fin 1).val = 0 := Nat.lt_one_iff.mp (y 1 : Fin 1).isLt
    funext a
    apply Fin.ext
    fin_cases a
    · show win0_4.index t 0 * 1 + 1 * (y 0 : Fin 1).val = b.val
      rw [index4, y0]
      show (grid0.coords t 0).val * 1 + 1 * 0 = b.val
      omega
    · show win0_4.index t 1 * 1 + 1 * (y 1 : Fin 1).val = p.val
      rw [index4, y1]
      show (grid0.coords t 1).val * 1 + 1 * 0 = p.val
      omega
    · show win0_4.index t 2 * 2048 + 1 * (y 2 : Fin 2048).val = (y 2 : Fin 2048).val
      rw [index4]
      show 0 * 2048 + 1 * (y 2 : Fin 2048).val = (y 2 : Fin 2048).val
      omega
    · show win0_4.index t 3 * 128 + 1 * (y 3 : Fin 128).val = (y 3 : Fin 128).val
      rw [index4]
      show 0 * 128 + 1 * (y 3 : Fin 128).val = (y 3 : Fin 128).val
      omega
  rw [e0, e1, e2, e3, e4]
  rfl

/-- The rows from there on. -/
theorem late (c : Dev nD) (b : Fin 8) (g : Fin 4096) (hg : 2048 ≤ g.val) (n : Fin 1024) :
    (dats m 0 c).arrAt 5 cfg0.N (ix3 b g n) = m ((c : Thread nD τ).loc main_arg5) (ix3 b g n) := by
  rw [Value.entry5 m c (ix3 b g n) ?_]
  · exact congrFun (V_main_v0 m c) _
  · intro t _ hm
    mem_blk [index5] at hm
    have : g.val < 2048 := hm.2.1.2
    omega

end Cert.EarlyChains
end
-- ==== Proof.EarlyRef.lean ====
/-
  The reference of the first query group, read at an index: a row of one head is the softmax of its kept and causal scores.
-/
module

public import proofs.«01_k».proof.Proof.Gen.EarlyReferenceIdeal.Read
public import Idealize.ShloMosaic.Lib.Pointwise
public import Idealize.ShloMosaic.Lib.Tactic.CleanTypes

@[expose] public section

set_option maxRecDepth 16384

noncomputable section

namespace Cert.EarlyRef

open Idealize.ShloMosaic Cert.EarlyReferenceIdeal Cert.EarlyReferenceIdeal.Gen Cert.EarlyReferenceIdeal.Read

/-- The even heads' queries. -/
theorem q_even (x0 x1 : (⟨S8x8x4096x256, .bf16⟩ : BufTy).Contents (Elt Ideal)) (b p : Fin 8) (g : Fin 2048) (l : Fin 64) :
    val_main_v7 (F := Ideal) x0 x1 (ix4 b (⟨2 * p.val, by omega⟩ : Fin 16) g l) = x0 (ix4 b p (⟨g.val, by omega⟩ : Fin 4096) (⟨l.val, by omega⟩ : Fin 256)) := by
  rw [val_main_v7_apply, show idx_main_v7 (ix4 b (⟨2 * p.val, by omega⟩ : Fin 16) g l) = ix5 b p (0 : Fin 2) g l from ?_]
  · unfold val_main_v6
    generalize hL : val_main_v4 (F := Ideal) x0 = yl
    generalize hR : val_main_v5 (F := Ideal) x1 = yr
    pointwise
    simp only [← hL, val_main_v4_apply, val_main_v2_apply, val_main_v0_apply]
    refine congrArg x0 ?_
    funext a
    apply Fin.ext
    fin_cases a
    · rfl
    · rfl
    · show g.val = _
      rfl
    · rfl
  · have hb := b.isLt
    have hp := p.isLt
    have hg := g.isLt
    have hl := l.isLt
    funext a
    apply Fin.ext
    fin_cases a
    · show (((b.val * 16 + (2 * p.val)) * 2048 + g.val) * 64 + l.val) / 2097152 = b.val; omega
    · show (((b.val * 16 + (2 * p.val)) * 2048 + g.val) * 64 + l.val) / 262144 % 8 = p.val; omega
    · show (((b.val * 16 + (2 * p.val)) * 2048 + g.val) * 64 + l.val) / 131072 % 2 = 0; omega
    · show (((b.val * 16 + (2 * p.val)) * 2048 + g.val) * 64 + l.val) / 64 % 2048 = g.val; omega
    · show (((b.val * 16 + (2 * p.val)) * 2048 + g.val) * 64 + l.val) % 64 = l.val; omega

/-- The odd heads' queries. -/
theorem q_odd (x0 x1 : (⟨S8x8x4096x256, .bf16⟩ : BufTy).Contents (Elt Ideal)) (b p : Fin 8) (g : Fin 2048) (l : Fin 64) :
    val_main_v7 (F := Ideal) x0 x1 (ix4 b (⟨2 * p.val + 1, by omega⟩ : Fin 16) g l) = x1 (ix4 b p (⟨g.val, by omega⟩ : Fin 4096) (⟨64 + l.val, by omega⟩ : Fin 256)) := by
  rw [val_main_v7_apply, show idx_main_v7 (ix4 b (⟨2 * p.val + 1, by omega⟩ : Fin 16) g l) = ix5 b p (1 : Fin 2) g l from ?_]
  · unfold val_main_v6
    generalize hL : val_main_v4 (F := Ideal) x0 = yl
    generalize hR : val_main_v5 (F := Ideal) x1 = yr
    pointwise
    simp only [← hR, val_main_v5_apply, val_main_v3_apply, val_main_v1_apply]
    refine congrArg x1 ?_
    funext a
    apply Fin.ext
    fin_cases a
    · rfl
    · rfl
    · show g.val = _
      rfl
    · rfl
  · have hb := b.isLt
    have hp := p.isLt
    have hg := g.isLt
    have hl := l.isLt
    funext a
    apply Fin.ext
    fin_cases a
    · show (((b.val * 16 + (2 * p.val + 1)) * 2048 + g.val) * 64 + l.val) / 2097152 = b.val; omega
    · show (((b.val * 16 + (2 * p.val + 1)) * 2048 + g.val) * 64 + l.val) / 262144 % 8 = p.val; omega
    · show (((b.val * 16 + (2 * p.val + 1)) * 2048 + g.val) * 64 + l.val) / 131072 % 2 = 1; omega
    · show (((b.val * 16 + (2 * p.val + 1)) * 2048 + g.val) * 64 + l.val) / 64 % 2048 = g.val; omega
    · show (((b.val * 16 + (2 * p.val + 1)) * 2048 + g.val) * 64 + l.val) % 64 = l.val; omega

/-- The even heads' keys. -/
theorem k_even (x2 : (⟨S8x8x4096x256, .bf16⟩ : BufTy).Contents (Elt Ideal)) (b p : Fin 8) (g : Fin 4096) (l : Fin 64) :
    val_main_v15 (F := Ideal) x2 (ix4 b (⟨2 * p.val, by omega⟩ : Fin 16) g l) = x2 (ix4 b p g (⟨l.val, by omega⟩ : Fin 256)) := by
  rw [val_main_v15_apply, show idx_main_v15 (ix4 b (⟨2 * p.val, by omega⟩ : Fin 16) g l) = ix5 b p (0 : Fin 2) g l from ?_]
  · unfold val_main_v14
    generalize hL : val_main_v12 (F := Ideal) x2 = yl
    generalize hR : val_main_v13 (F := Ideal) x2 = yr
    pointwise
    simp only [← hL, val_main_v12_apply, val_main_v10_apply, val_main_v8_apply]
    refine congrArg x2 ?_
    funext a
    apply Fin.ext
    fin_cases a
    · rfl
    · rfl
    · show g.val = _
      rfl
    · rfl
  · have hb := b.isLt
    have hp := p.isLt
    have hg := g.isLt
    have hl := l.isLt
    funext a
    apply Fin.ext
    fin_cases a
    · show (((b.val * 16 + (2 * p.val)) * 4096 + g.val) * 64 + l.val) / 4194304 = b.val; omega
    · show (((b.val * 16 + (2 * p.val)) * 4096 + g.val) * 64 + l.val) / 524288 % 8 = p.val; omega
    · show (((b.val * 16 + (2 * p.val)) * 4096 + g.val) * 64 + l.val) / 262144 % 2 = 0; omega
    · show (((b.val * 16 + (2 * p.val)) * 4096 + g.val) * 64 + l.val) / 64 % 4096 = g.val; omega
    · show (((b.val * 16 + (2 * p.val)) * 4096 + g.val) * 64 + l.val) % 64 = l.val; omega

/-- The odd heads' keys. -/
theorem k_odd (x2 : (⟨S8x8x4096x256, .bf16⟩ : BufTy).Contents (Elt Ideal)) (b p : Fin 8) (g : Fin 4096) (l : Fin 64) :
    val_main_v15 (F := Ideal) x2 (ix4 b (⟨2 * p.val + 1, by omega⟩ : Fin 16) g l) = x2 (ix4 b p g (⟨64 + l.val, by omega⟩ : Fin 256)) := by
  rw [val_main_v15_apply, show idx_main_v15 (ix4 b (⟨2 * p.val + 1, by omega⟩ : Fin 16) g l) = ix5 b p (1 : Fin 2) g l from ?_]
  · unfold val_main_v14
    generalize hL : val_main_v12 (F := Ideal) x2 = yl
    generalize hR : val_main_v13 (F := Ideal) x2 = yr
    pointwise
    simp only [← hR, val_main_v13_apply, val_main_v11_apply, val_main_v9_apply]
    refine congrArg x2 ?_
    funext a
    apply Fin.ext
    fin_cases a
    · rfl
    · rfl
    · show g.val = _
      rfl
    · rfl
  · have hb := b.isLt
    have hp := p.isLt
    have hg := g.isLt
    have hl := l.isLt
    funext a
    apply Fin.ext
    fin_cases a
    · show (((b.val * 16 + (2 * p.val + 1)) * 4096 + g.val) * 64 + l.val) / 4194304 = b.val; omega
    · show (((b.val * 16 + (2 * p.val + 1)) * 4096 + g.val) * 64 + l.val) / 524288 % 8 = p.val; omega
    · show (((b.val * 16 + (2 * p.val + 1)) * 4096 + g.val) * 64 + l.val) / 262144 % 2 = 1; omega
    · show (((b.val * 16 + (2 * p.val + 1)) * 4096 + g.val) * 64 + l.val) / 64 % 4096 = g.val; omega
    · show (((b.val * 16 + (2 * p.val + 1)) * 4096 + g.val) * 64 + l.val) % 64 = l.val; omega

/-- The even heads' values. -/
theorem v_even (x3 x4 : (⟨S8x8x4096x128, .bf16⟩ : BufTy).Contents (Elt Ideal)) (b p : Fin 8) (g : Fin 4096) (l : Fin 64) :
    val_main_v23 (F := Ideal) x3 x4 (ix4 b (⟨2 * p.val, by omega⟩ : Fin 16) g l) = x3 (ix4 b p g (⟨l.val, by omega⟩ : Fin 128)) := by
  rw [val_main_v23_apply, show idx_main_v23 (ix4 b (⟨2 * p.val, by omega⟩ : Fin 16) g l) = ix5 b p (0 : Fin 2) g l from ?_]
  · unfold val_main_v22
    generalize hL : val_main_v20 (F := Ideal) x3 = yl
    generalize hR : val_main_v21 (F := Ideal) x4 = yr
    pointwise
    simp only [← hL, val_main_v20_apply, val_main_v18_apply, val_main_v16_apply]
    refine congrArg x3 ?_
    funext a
    apply Fin.ext
    fin_cases a
    · rfl
    · rfl
    · show g.val = _
      rfl
    · rfl
  · have hb := b.isLt
    have hp := p.isLt
    have hg := g.isLt
    have hl := l.isLt
    funext a
    apply Fin.ext
    fin_cases a
    · show (((b.val * 16 + (2 * p.val)) * 4096 + g.val) * 64 + l.val) / 4194304 = b.val; omega
    · show (((b.val * 16 + (2 * p.val)) * 4096 + g.val) * 64 + l.val) / 524288 % 8 = p.val; omega
    · show (((b.val * 16 + (2 * p.val)) * 4096 + g.val) * 64 + l.val) / 262144 % 2 = 0; omega
    · show (((b.val * 16 + (2 * p.val)) * 4096 + g.val) * 64 + l.val) / 64 % 4096 = g.val; omega
    · show (((b.val * 16 + (2 * p.val)) * 4096 + g.val) * 64 + l.val) % 64 = l.val; omega

/-- The odd heads' values. -/
theorem v_odd (x3 x4 : (⟨S8x8x4096x128, .bf16⟩ : BufTy).Contents (Elt Ideal)) (b p : Fin 8) (g : Fin 4096) (l : Fin 64) :
    val_main_v23 (F := Ideal) x3 x4 (ix4 b (⟨2 * p.val + 1, by omega⟩ : Fin 16) g l) = x4 (ix4 b p g (⟨64 + l.val, by omega⟩ : Fin 128)) := by
  rw [val_main_v23_apply, show idx_main_v23 (ix4 b (⟨2 * p.val + 1, by omega⟩ : Fin 16) g l) = ix5 b p (1 : Fin 2) g l from ?_]
  · unfold val_main_v22
    generalize hL : val_main_v20 (F := Ideal) x3 = yl
    generalize hR : val_main_v21 (F := Ideal) x4 = yr
    pointwise
    simp only [← hR, val_main_v21_apply, val_main_v19_apply, val_main_v17_apply]
    refine congrArg x4 ?_
    funext a
    apply Fin.ext
    fin_cases a
    · rfl
    · rfl
    · show g.val = _
      rfl
    · rfl
  · have hb := b.isLt
    have hp := p.isLt
    have hg := g.isLt
    have hl := l.isLt
    funext a
    apply Fin.ext
    fin_cases a
    · show (((b.val * 16 + (2 * p.val + 1)) * 4096 + g.val) * 64 + l.val) / 4194304 = b.val; omega
    · show (((b.val * 16 + (2 * p.val + 1)) * 4096 + g.val) * 64 + l.val) / 524288 % 8 = p.val; omega
    · show (((b.val * 16 + (2 * p.val + 1)) * 4096 + g.val) * 64 + l.val) / 262144 % 2 = 1; omega
    · show (((b.val * 16 + (2 * p.val + 1)) * 4096 + g.val) * 64 + l.val) / 64 % 4096 = g.val; omega
    · show (((b.val * 16 + (2 * p.val + 1)) * 4096 + g.val) * 64 + l.val) % 64 = l.val; omega

/-- The even heads' block biases. -/
theorem bias_even (x0 x1 : (⟨S8x8x4096x256, .bf16⟩ : BufTy).Contents (Elt Ideal)) (b p : Fin 8) (g : Fin 2048) (l : Fin 16) :
    val_main_v31 (F := Ideal) x0 x1 (ix4 b (⟨2 * p.val, by omega⟩ : Fin 16) g l) = x0 (ix4 b p (⟨g.val, by omega⟩ : Fin 4096) (⟨128 + l.val, by omega⟩ : Fin 256)) := by
  rw [val_main_v31_apply, show idx_main_v31 (ix4 b (⟨2 * p.val, by omega⟩ : Fin 16) g l) = ix5 b p (0 : Fin 2) g l from ?_]
  · unfold val_main_v30
    generalize hL : val_main_v28 (F := Ideal) x0 = yl
    generalize hR : val_main_v29 (F := Ideal) x1 = yr
    pointwise
    simp only [← hL, val_main_v28_apply, val_main_v26_apply, val_main_v24_apply]
    refine congrArg x0 ?_
    funext a
    apply Fin.ext
    fin_cases a
    · rfl
    · rfl
    · show g.val = _
      rfl
    · rfl
  · have hb := b.isLt
    have hp := p.isLt
    have hg := g.isLt
    have hl := l.isLt
    funext a
    apply Fin.ext
    fin_cases a
    · show (((b.val * 16 + (2 * p.val)) * 2048 + g.val) * 16 + l.val) / 524288 = b.val; omega
    · show (((b.val * 16 + (2 * p.val)) * 2048 + g.val) * 16 + l.val) / 65536 % 8 = p.val; omega
    · show (((b.val * 16 + (2 * p.val)) * 2048 + g.val) * 16 + l.val) / 32768 % 2 = 0; omega
    · show (((b.val * 16 + (2 * p.val)) * 2048 + g.val) * 16 + l.val) / 16 % 2048 = g.val; omega
    · show (((b.val * 16 + (2 * p.val)) * 2048 + g.val) * 16 + l.val) % 16 = l.val; omega

/-- The odd heads' block biases. -/
theorem bias_odd (x0 x1 : (⟨S8x8x4096x256, .bf16⟩ : BufTy).Contents (Elt Ideal)) (b p : Fin 8) (g : Fin 2048) (l : Fin 16) :
    val_main_v31 (F := Ideal) x0 x1 (ix4 b (⟨2 * p.val + 1, by omega⟩ : Fin 16) g l) = x1 (ix4 b p (⟨g.val, by omega⟩ : Fin 4096) (⟨128 + l.val, by omega⟩ : Fin 256)) := by
  rw [val_main_v31_apply, show idx_main_v31 (ix4 b (⟨2 * p.val + 1, by omega⟩ : Fin 16) g l) = ix5 b p (1 : Fin 2) g l from ?_]
  · unfold val_main_v30
    generalize hL : val_main_v28 (F := Ideal) x0 = yl
    generalize hR : val_main_v29 (F := Ideal) x1 = yr
    pointwise
    simp only [← hR, val_main_v29_apply, val_main_v27_apply, val_main_v25_apply]
    refine congrArg x1 ?_
    funext a
    apply Fin.ext
    fin_cases a
    · rfl
    · rfl
    · show g.val = _
      rfl
    · rfl
  · have hb := b.isLt
    have hp := p.isLt
    have hg := g.isLt
    have hl := l.isLt
    funext a
    apply Fin.ext
    fin_cases a
    · show (((b.val * 16 + (2 * p.val + 1)) * 2048 + g.val) * 16 + l.val) / 524288 = b.val; omega
    · show (((b.val * 16 + (2 * p.val + 1)) * 2048 + g.val) * 16 + l.val) / 65536 % 8 = p.val; omega
    · show (((b.val * 16 + (2 * p.val + 1)) * 2048 + g.val) * 16 + l.val) / 32768 % 2 = 1; omega
    · show (((b.val * 16 + (2 * p.val + 1)) * 2048 + g.val) * 16 + l.val) / 16 % 2048 = g.val; omega
    · show (((b.val * 16 + (2 * p.val + 1)) * 2048 + g.val) * 16 + l.val) % 16 = l.val; omega

/-- The causal test. -/
theorem causal_at (g : Fin 2048) (c : Fin 4096) :
    val_main_v45 (F := Ideal) (ix2 g c) = if c.val ≤ g.val then 1#1 else 0#1 := by
  simp only [val_main_v45_apply, val_main_v43_apply, val_main_v44_apply, val_main_v42_apply, val_main_v41_apply, val_main_v40_apply,
    val_main_v39_apply, val_main_v38_apply, val_main_v37_apply, val_main_c_apply]
  show BitVec.ofBool (BitVec.sle (BitVec.ofNat 32 c.val) (0#32 + BitVec.ofNat 32 g.val)) = _
  have hg := g.isLt
  have hc := c.isLt
  have e : (0#32 + BitVec.ofNat 32 g.val).toInt = ((g.val : ℕ) : ℤ) := by
    rw [BitVec.toInt_eq_toNat_of_lt] <;> simp only [BitVec.toNat_add, BitVec.toNat_ofNat] <;> omega
  have e' : (BitVec.ofNat 32 c.val).toInt = ((c.val : ℕ) : ℤ) := by
    rw [BitVec.toInt_eq_toNat_of_lt] <;> simp only [BitVec.toNat_ofNat] <;> omega
  rw [BitVec.sle, e, e']
  by_cases h : c.val ≤ g.val
  · rw [if_pos h, decide_eq_true (Int.ofNat_le.mpr h)]; rfl
  · rw [if_neg h, decide_eq_false (fun h' => h (Int.ofNat_le.mp h'))]; rfl

/-- The kept keys of a row: those of the blocks with bias 0. -/
theorem keep_at (x0 x1 : (⟨S8x8x4096x256, .bf16⟩ : BufTy).Contents (Elt Ideal)) (b : Fin 8) (h : Fin 16) (g : Fin 2048) (c : Fin 4096) :
    val_main_v36 (F := Ideal) x0 x1 (ix4 b h g c)
      = if val_main_v31 (F := Ideal) x0 x1 (ix4 b h g (⟨c.val / 256, by omega⟩ : Fin 16)) = (0 : EReal) then 1#1 else 0#1 := by
  rw [val_main_v36_apply, show idx_main_v36 (ix4 b h g c) = ix5 b h g (⟨c.val / 256, by omega⟩ : Fin 16) (⟨c.val % 256, Nat.mod_lt _ (by decide)⟩ : Fin 256) from ?_]
  · simp only [val_main_v35_apply, val_main_v34_apply, val_main_v33_apply, val_main_v32_apply, val_main_cst_apply]
    rw [show idx_main_v34 (idx_main_v35 (ix5 b h g (⟨c.val / 256, by omega⟩ : Fin 16) (⟨c.val % 256, Nat.mod_lt _ (by decide)⟩ : Fin 256)))
      = ix4 b h g (⟨c.val / 256, by omega⟩ : Fin 16) from by funext a; fin_cases a <;> rfl]
    generalize val_main_v31 (F := Ideal) x0 x1 (ix4 b h g (⟨c.val / 256, by omega⟩ : Fin 16)) = z
    have hz : (FloatOps.ofBits (F := Ideal) FTy.f32 0x00000000#32) = (0 : EReal) := by
      show Ideal.ofBits _ _ = _
      simp [Ideal.ofBits, Ideal.ieee]
    rw [hz]
    show Ideal.cmp .oeq z 0 = _
    by_cases h : z = 0
    · rw [if_pos h, h]; simp [Ideal.cmp]
    · rw [if_neg h]; simp [Ideal.cmp, h]
  · have hb := b.isLt
    have hh := h.isLt
    have hg := g.isLt
    have hc := c.isLt
    funext a
    apply Fin.ext
    fin_cases a
    · show (((b.val * 16 + h.val) * 2048 + g.val) * 4096 + c.val) / 134217728 = b.val; omega
    · show (((b.val * 16 + h.val) * 2048 + g.val) * 4096 + c.val) / 8388608 % 16 = h.val; omega
    · show (((b.val * 16 + h.val) * 2048 + g.val) * 4096 + c.val) / 4096 % 2048 = g.val; omega
    · show (((b.val * 16 + h.val) * 2048 + g.val) * 4096 + c.val) / 256 % 16 = c.val / 256; omega
    · show (((b.val * 16 + h.val) * 2048 + g.val) * 4096 + c.val) % 256 = c.val % 256; omega

/-- A row's largest score. -/
theorem max_at (x0 x1 x2 : (⟨S8x8x4096x256, .bf16⟩ : BufTy).Contents (Elt Ideal)) (b : Fin 8) (h : Fin 16) (g : Fin 2048) :
    val_main_v54 (F := Ideal) x0 x1 x2 (ix3 b h g) = Finset.univ.sup fun c : Fin 4096 => val_main_v53 (F := Ideal) x0 x1 x2 (ix4 b h g c) := by
  unfold val_main_v54
  generalize val_main_v53 (F := Ideal) x0 x1 x2 = y0
  clean_types
  pointwise
  rfl

/-- The keys a row attends to. -/
def mask (x0 x1 : (⟨S8x8x4096x256, .bf16⟩ : BufTy).Contents (Elt Ideal)) (b : Fin 8) (h : Fin 16) (g : Fin 2048) (c : Fin 4096) : Prop :=
  val_main_v31 (F := Ideal) x0 x1 (ix4 b h g (⟨c.val / 256, by omega⟩ : Fin 16)) = (0 : EReal) ∧ c.val ≤ g.val

open Classical in
/-- A row's masked scores. -/
def scoreAt (x0 x1 x2 : (⟨S8x8x4096x256, .bf16⟩ : BufTy).Contents (Elt Ideal)) (b : Fin 8) (h : Fin 16) (g : Fin 2048) (c : Fin 4096) : EReal :=
  if mask x0 x1 b h g c then
    (∑ l : Fin 64, val_main_v7 (F := Ideal) x0 x1 (ix4 b h g l) * val_main_v15 (F := Ideal) x2 (ix4 b h c l)) * ((Real.log 2 : ℝ) : EReal)
  else ⊥

open Classical in
theorem mask_at (x0 x1 : (⟨S8x8x4096x256, .bf16⟩ : BufTy).Contents (Elt Ideal)) (b : Fin 8) (h : Fin 16) (g : Fin 2048) (c : Fin 4096) :
    val_main_v52 (F := Ideal) x0 x1 (ix4 b h g c) = if mask x0 x1 b h g c then 1#1 else 0#1 := by
  simp only [val_main_v52_apply, val_main_v51_apply, val_main_v50_apply]
  rw [keep_at, show idx_main_v50 (idx_main_v51 (ix4 b h g c)) = ix2 g c from by funext a; fin_cases a <;> rfl, causal_at]
  unfold mask
  by_cases h1 : val_main_v31 (F := Ideal) x0 x1 (ix4 b h g (⟨c.val / 256, by omega⟩ : Fin 16)) = (0 : EReal) <;>
    by_cases h2 : c.val ≤ g.val <;> simp only [h1, h2, and_self, and_true, and_false, if_true, if_false] <;> rfl

theorem two_word : Ideal.ofBits FTy.f32 0x40000000#32 = ((2 : ℝ) : EReal) := by
  simp [Ideal.ofBits, Ideal.ieee]
  rw [← EReal.coe_mul]
  norm_num

/-- The scores' natural base. -/
theorem ln2_at (i) : val_main_v48 (F := Ideal) i = ((Real.log 2 : ℝ) : EReal) := by
  simp only [val_main_v48_apply, val_main_v47_apply, val_main_cst_0_apply]
  rw [Ideal.hostUnary_log_def, Ideal.ofBits_def]
  rw [show Ideal.ofBits FTy.f32 0x40000000#32 = ((2 : ℝ) : EReal) from two_word, Ideal.log_coe,
    if_neg (by norm_num)]

theorem score_at (x0 x1 x2 : (⟨S8x8x4096x256, .bf16⟩ : BufTy).Contents (Elt Ideal)) (b : Fin 8) (h : Fin 16) (g : Fin 2048) (c : Fin 4096) :
    val_main_v53 (F := Ideal) x0 x1 x2 (ix4 b h g c) = scoreAt x0 x1 x2 b h g c := by
  have hsum : val_main_v46 (F := Ideal) x0 x1 x2 (ix4 b h g c)
      = ∑ l : Fin 64, val_main_v7 (F := Ideal) x0 x1 (ix4 b h g l) * val_main_v15 (F := Ideal) x2 (ix4 b h c l) := by
    rw [val_main_v46_apply]
    refine Finset.sum_congr rfl fun l _ => ?_
    rw [show lidx_main_v46 (ix4 b h g c) l = ix4 b h g l from by funext a; fin_cases a <;> rfl,
      show ridx_main_v46 (ix4 b h g c) l = ix4 b h c l from by funext a; fin_cases a <;> rfl]
  have hbot : val_main_call0_v1 (F := Ideal) (ix4 b h g c) = (⊥ : EReal) := by
    simp only [val_main_call0_v1_apply, val_main_call0_v0_apply, val_main_cst_1_apply]
    rfl
  rw [val_main_v53_apply, mask_at, val_main_v49_apply, hsum, ln2_at, hbot]
  unfold scoreAt
  generalize (∑ l : Fin 64, val_main_v7 (F := Ideal) x0 x1 (ix4 b h g l) * val_main_v15 (F := Ideal) x2 (ix4 b h c l)) = z
  by_cases hm : mask x0 x1 b h g c
  · rw [if_pos hm, if_pos hm]; rfl
  · rw [if_neg hm, if_neg hm]; rfl

/-- A row's exponentials. -/
theorem exp_at (x0 x1 x2 : (⟨S8x8x4096x256, .bf16⟩ : BufTy).Contents (Elt Ideal)) (b : Fin 8) (h : Fin 16) (g : Fin 2048) (c : Fin 4096) :
    val_main_v60 (F := Ideal) x0 x1 x2 (ix4 b h g c)
      = Ideal.exp (scoreAt x0 x1 x2 b h g c - Finset.univ.sup fun c' : Fin 4096 => scoreAt x0 x1 x2 b h g c') := by
  rw [val_main_v60_apply, val_main_v59_apply, val_main_v58_apply, val_main_v57_apply, val_main_v56_apply, val_main_v55_apply, score_at,
    show idx_main_v57 (idx_main_v58 (ix4 b h g c)) = ix3 b h g from by funext a; fin_cases a <;> rfl, max_at]
  simp only [score_at, val_main_cst_3_apply]
  show Ideal.exp (_ - max ⊥ _) = _
  rw [max_eq_right bot_le]

open Classical in
/-- A row of one head's result. -/
theorem row_at (x0 x1 x2 : (⟨S8x8x4096x256, .bf16⟩ : BufTy).Contents (Elt Ideal)) (x3 x4 : (⟨S8x8x4096x128, .bf16⟩ : BufTy).Contents (Elt Ideal))
    (b : Fin 8) (h : Fin 16) (g : Fin 2048) (d : Fin 64) :
    val_main_v66 (F := Ideal) x0 x1 x2 x3 x4 (ix4 b h g d)
      = ∑ c : Fin 4096, (if mask x0 x1 b h g c then
          Ideal.div (Ideal.exp (scoreAt x0 x1 x2 b h g c - Finset.univ.sup fun c' : Fin 4096 => scoreAt x0 x1 x2 b h g c'))
            (∑ c₁ : Fin 4096, Ideal.exp (scoreAt x0 x1 x2 b h g c₁ - Finset.univ.sup fun c' : Fin 4096 => scoreAt x0 x1 x2 b h g c'))
        else 0) * val_main_v23 (F := Ideal) x3 x4 (ix4 b h c d) := by
  rw [val_main_v66_apply]
  refine Finset.sum_congr rfl fun c _ => ?_
  rw [show lidx_main_v66 (ix4 b h g d) c = ix4 b h g c from by funext a; fin_cases a <;> rfl,
    show ridx_main_v66 (ix4 b h g d) c = ix4 b h c d from by funext a; fin_cases a <;> rfl, val_main_v65_apply, mask_at]
  refine congrArg (· * val_main_v23 (F := Ideal) x3 x4 (ix4 b h c d)) ?_
  have hz : (FloatOps.ofBits (F := Ideal) FTy.f32 0x00000000#32) = (0 : EReal) := by
    show Ideal.ofBits _ _ = _
    simp [Ideal.ofBits, Ideal.ieee]
  by_cases hm : mask x0 x1 b h g c
  · rw [if_pos hm, if_pos hm]
    show val_main_v64 (F := Ideal) x0 x1 x2 (ix4 b h g c) = _
    rw [val_main_v64_apply, val_main_v63_apply, val_main_v62_apply,
      show idx_main_v62 (idx_main_v63 (ix4 b h g c)) = ix3 b h g from by funext a; fin_cases a <;> rfl, val_main_v61_apply, exp_at,
      val_main_cst_4_apply, hz, zero_add]
    show Ideal.div _ _ = _
    refine congrArg (Ideal.div _) (Finset.sum_congr rfl fun c₁ _ => ?_)
    rw [show idx_main_v61 (ix3 b h g) c₁ = ix4 b h g c₁ from by funext a; fin_cases a <;> rfl, exp_at]
  · rw [if_neg hm, if_neg hm]
    show val_main_call1_v1 (F := Ideal) (ix4 b h g c) = _
    simp only [val_main_call1_v1_apply, val_main_call1_v0_apply, val_main_cst_5_apply]
    exact hz

/-- The rows before 2048 are the heads' rows, side by side. -/
theorem out_early (x0 x1 x2 : (⟨S8x8x4096x256, .bf16⟩ : BufTy).Contents (Elt Ideal)) (x3 x4 : (⟨S8x8x4096x128, .bf16⟩ : BufTy).Contents (Elt Ideal))
    (x5 : (⟨S8x4096x1024, .f32⟩ : BufTy).Contents (Elt Ideal)) (b : Fin 8) (g : Fin 2048) (n : Fin 1024) :
    val_main_v70 (F := Ideal) x0 x1 x2 x3 x4 x5 (ix3 b (⟨g.val, by omega⟩ : Fin 4096) n)
      = val_main_v66 (F := Ideal) x0 x1 x2 x3 x4 (ix4 b (⟨n.val / 64, by omega⟩ : Fin 16) g (⟨n.val % 64, Nat.mod_lt _ (by decide)⟩ : Fin 64)) := by
  unfold val_main_v70
  generalize hL : val_main_v68 (F := Ideal) x0 x1 x2 x3 x4 = yl
  generalize val_main_v69 (F := Ideal) x5 = yr
  pointwise
  rw [← hL, val_main_v68_apply, val_main_v67_apply]
  refine congrArg (val_main_v66 (F := Ideal) x0 x1 x2 x3 x4) ?_
  have hb := b.isLt
  have hg := g.isLt
  have hn := n.isLt
  funext a
  apply Fin.ext
  fin_cases a
  · show ((b.val * 2048 + g.val) * 1024 + n.val) / 2097152 = b.val; omega
  · show ((b.val * 2048 + g.val) * 1024 + n.val) / 64 % 16 = n.val / 64; omega
  · show ((b.val * 2048 + g.val) * 1024 + n.val) / 1024 % 2048 = g.val; omega
  · show ((b.val * 2048 + g.val) * 1024 + n.val) % 64 = n.val % 64; omega

/-- The rows from there on are the given ones. -/
theorem out_late (x0 x1 x2 : (⟨S8x8x4096x256, .bf16⟩ : BufTy).Contents (Elt Ideal)) (x3 x4 : (⟨S8x8x4096x128, .bf16⟩ : BufTy).Contents (Elt Ideal))
    (x5 : (⟨S8x4096x1024, .f32⟩ : BufTy).Contents (Elt Ideal)) (b : Fin 8) (g : Fin 2048) (n : Fin 1024) :
    val_main_v70 (F := Ideal) x0 x1 x2 x3 x4 x5 (ix3 b (⟨2048 + g.val, by omega⟩ : Fin 4096) n) = x5 (ix3 b (⟨2048 + g.val, by omega⟩ : Fin 4096) n) := by
  unfold val_main_v70
  generalize val_main_v68 (F := Ideal) x0 x1 x2 x3 x4 = yl
  generalize hR : val_main_v69 (F := Ideal) x5 = yr
  pointwise
  rw [← hR, val_main_v69_apply]
  refine congrArg x5 ?_
  funext a
  fin_cases a <;> rfl

end Cert.EarlyRef
end
-- ==== Proof.EarlyHeads.lean ====
/-
  One head of the first query group is one head of the reference, under the operands' layout.
-/
module

public import proofs.«01_k».proof.Proof.EarlyArray
public import proofs.«01_k».proof.Proof.Heads
public import proofs.«01_k».proof.Proof.EarlyRef

@[expose] public section

set_option maxRecDepth 16384

noncomputable section

namespace Cert.EarlyHeads

open Idealize.ShloMosaic Cert.EarlyReferenceIdeal.Read

open Classical in
/-- One head: the kernel's mix over its sum is the softmax's mix. -/
theorem head (q : (⟨4, ![1, 1, 2048, 256]⟩ : Shape).Idx → EReal) (k : (⟨4, ![1, 1, 4096, 256]⟩ : Shape).Idx → EReal)
    (v : (⟨4, ![1, 1, 4096, 128]⟩ : Shape).Idx → EReal) (g : Fin 2048) (own one : Fin 128) (j : Fin 64 ↪ Fin 256)
    (hj : ∀ i, (j i).val < 128) (hzero : ∀ l : Fin 256, l.val < 128 → (∀ i, j i ≠ l) → q (ix4 0 0 g l) = 0)
    (hq : ∀ i, q (ix4 0 0 g (j i)) ≠ ⊤ ∧ q (ix4 0 0 g (j i)) ≠ ⊥) (hk : ∀ c i, k (ix4 0 0 c (j i)) ≠ ⊤ ∧ k (ix4 0 0 c (j i)) ≠ ⊥)
    (hown : q (ix4 0 0 g (⟨128 + g.val / 256, by omega⟩ : Fin 256)) = 0)
    (hbias : ∀ o : Fin 16, q (ix4 0 0 g (⟨128 + o.val, by omega⟩ : Fin 256)) = 0 ∨ q (ix4 0 0 g (⟨128 + o.val, by omega⟩ : Fin 256)) = ⊥)
    (hhot : ∀ (c : Fin 4096) (n : Fin 128), k (ix4 0 0 c (⟨128 + n.val, by omega⟩ : Fin 256)) = if n.val = c.val / 256 then 1 else 0)
    (hone : ∀ c, v (ix4 0 0 c one) = 1)
    (P : Fin 4096 → Prop) (hP : ∀ c : Fin 4096, P c ↔ q (ix4 0 0 g (⟨128 + c.val / 256, by omega⟩ : Fin 256)) = 0 ∧ c.val ≤ g.val)
    (t : Fin 4096 → EReal)
    (ht : ∀ c, t c = if P c then (∑ i, q (ix4 0 0 g (j i)) * k (ix4 0 0 c (j i))) * ((Real.log 2 : ℝ) : EReal) else ⊥) :
    Ideal.div (EarlyChain.acc 4096 le_rfl q k v g own) (EarlyChain.acc 4096 le_rfl q k v g one)
      = ∑ c : Fin 4096, (if P c then Ideal.div (Ideal.exp (t c - Finset.univ.sup fun c' => t c')) (∑ c₁, Ideal.exp (t c₁ - Finset.univ.sup fun c' => t c')) else 0)
          * v (ix4 0 0 c own) := by
  have hd := fun c : Fin 4096 => Heads.dot256 (fun l => q (ix4 0 0 g l)) (fun l => k (ix4 0 0 c l)) j ⟨c.val / 256, by omega⟩ hj hzero hq (hk c)
    (hbias _) (hhot c)
  have hs : ∀ c : Fin 4096, EarlyChain.score q k g c
      = if P c then ((∑ i, (q (ix4 0 0 g (j i))).toReal * (k (ix4 0 0 c (j i))).toReal : ℝ) : EReal) else ⊥ := fun c => by
    unfold EarlyChain.score
    by_cases hc : c.val ≤ g.val
    · rw [if_pos hc, (hd c).2]
      by_cases h0 : q (ix4 0 0 g (⟨128 + c.val / 256, by omega⟩ : Fin 256)) = 0
      · rw [if_pos h0, if_pos ((hP c).2 ⟨h0, hc⟩)]
      · rw [if_neg h0, if_neg fun h => h0 ((hP c).1 h).1]
    · rw [if_neg hc, if_neg fun h => hc ((hP c).1 h).2]
  have ht' : ∀ c : Fin 4096, t c
      = if P c then ((∑ i, (q (ix4 0 0 g (j i))).toReal * (k (ix4 0 0 c (j i))).toReal : ℝ) : EReal) * ((Real.log 2 : ℝ) : EReal) else ⊥ := fun c => by
    rw [ht c, (hd c).1]
  have hr := Soft.row P _ (EarlyChain.score q k g) t hs ht' ⟨g.val, by omega⟩ ((hP _).2 ⟨hown, le_rfl⟩) (fun c => v (ix4 0 0 c own))
  refine Eq.trans ?_ hr
  unfold EarlyChain.acc
  refine congrArg (Ideal.div _) (Finset.sum_congr rfl fun c _ => ?_)
  show Ideal.exp2 _ * v (ix4 0 0 c one) = _
  rw [hone c, mul_one]
  rfl

/-- The even heads. -/
theorem even (x0 x1 x2 : FVec Ideal Cert.Pre_layout.S8x8x4096x256 .bf16) (x3 x4 : FVec Ideal Cert.Pre_layout.S8x8x4096x128 .bf16) (L : Pre.Layout x0 x1 x2 x3 x4)
    (b p : Fin 8) (g : Fin 2048) (d : Fin 64) :
    Ideal.div
      (EarlyChain.acc 4096 le_rfl (fun y => x0 (ix4 b p (Fin.castLE (by decide) (y 2 : Fin 2048) : Fin 4096) (y 3 : Fin 256)))
        (fun y => x2 (ix4 b p (y 2 : Fin 4096) (y 3 : Fin 256))) (fun y => x3 (ix4 b p (y 2 : Fin 4096) (y 3 : Fin 128))) g (⟨d.val, by omega⟩ : Fin 128))
      (EarlyChain.acc 4096 le_rfl (fun y => x0 (ix4 b p (Fin.castLE (by decide) (y 2 : Fin 2048) : Fin 4096) (y 3 : Fin 256)))
        (fun y => x2 (ix4 b p (y 2 : Fin 4096) (y 3 : Fin 256))) (fun y => x3 (ix4 b p (y 2 : Fin 4096) (y 3 : Fin 128))) g (⟨64 + d.val, by omega⟩ : Fin 128))
      = val_main_v66 (F := Ideal) x0 x1 x2 x3 x4 (ix4 b (⟨2 * p.val, by omega⟩ : Fin 16) g d) := by
  rw [EarlyRef.row_at]
  refine (head _ _ _ g _ _ ⟨fun i : Fin 64 => (⟨i.val, by omega⟩ : Fin 256), fun i i' h => Fin.ext (by have := congrArg Fin.val h; simp only at this; omega)⟩
    (fun i => ?_) (fun l hl hn => ?_) (fun i => L.qa_fin b p _ i) (fun c i => L.k_fin b p c ⟨i.val, by omega⟩) (L.qa_own b p (⟨g.val, by omega⟩ : Fin 4096))
    (fun o => L.qa_bias b p _ o) (fun c n => L.k_hot b p c n) (fun c => L.va_one b p c d) _ (fun c => ?_) _ (fun c => ?_)).trans
    (Finset.sum_congr rfl fun c _ => congrArg _ (EarlyRef.v_even x3 x4 b p c d).symm)
  · show i.val < 128
    omega
  · have hl' : 64 ≤ l.val := by
      by_contra h
      exact hn ⟨l.val, by omega⟩ rfl
    refine Eq.trans (congrArg x0 (congrArg (ix4 b p _) ?_)) (L.qa_zero b p (⟨g.val, by omega⟩ : Fin 4096) ⟨l.val - 64, by omega⟩)
    exact Fin.ext (by show l.val = 64 + (l.val - 64); omega)
  · unfold EarlyRef.mask
    rw [EarlyRef.bias_even]
    exact Iff.rfl
  · unfold EarlyRef.scoreAt
    simp only [EarlyRef.q_even, EarlyRef.k_even]
    rfl

/-- The odd heads. -/
theorem odd (x0 x1 x2 : FVec Ideal Cert.Pre_layout.S8x8x4096x256 .bf16) (x3 x4 : FVec Ideal Cert.Pre_layout.S8x8x4096x128 .bf16) (L : Pre.Layout x0 x1 x2 x3 x4)
    (b p : Fin 8) (g : Fin 2048) (d : Fin 64) :
    Ideal.div
      (EarlyChain.acc 4096 le_rfl (fun y => x1 (ix4 b p (Fin.castLE (by decide) (y 2 : Fin 2048) : Fin 4096) (y 3 : Fin 256)))
        (fun y => x2 (ix4 b p (y 2 : Fin 4096) (y 3 : Fin 256))) (fun y => x4 (ix4 b p (y 2 : Fin 4096) (y 3 : Fin 128))) g (⟨64 + d.val, by omega⟩ : Fin 128))
      (EarlyChain.acc 4096 le_rfl (fun y => x1 (ix4 b p (Fin.castLE (by decide) (y 2 : Fin 2048) : Fin 4096) (y 3 : Fin 256)))
        (fun y => x2 (ix4 b p (y 2 : Fin 4096) (y 3 : Fin 256))) (fun y => x4 (ix4 b p (y 2 : Fin 4096) (y 3 : Fin 128))) g (⟨d.val, by omega⟩ : Fin 128))
      = val_main_v66 (F := Ideal) x0 x1 x2 x3 x4 (ix4 b (⟨2 * p.val + 1, by omega⟩ : Fin 16) g d) := by
  rw [EarlyRef.row_at]
  refine (head _ _ _ g _ _ ⟨fun i : Fin 64 => (⟨64 + i.val, by omega⟩ : Fin 256), fun i i' h => Fin.ext (by have := congrArg Fin.val h; simp only at this; omega)⟩
    (fun i => ?_) (fun l hl hn => ?_) (fun i => L.qb_fin b p _ i) (fun c i => L.k_fin b p c ⟨64 + i.val, by omega⟩) (L.qb_own b p (⟨g.val, by omega⟩ : Fin 4096))
    (fun o => L.qb_bias b p _ o) (fun c n => L.k_hot b p c n) (fun c => L.vb_one b p c d) _ (fun c => ?_) _ (fun c => ?_)).trans
    (Finset.sum_congr rfl fun c _ => congrArg _ (EarlyRef.v_odd x3 x4 b p c d).symm)
  · show 64 + i.val < 128
    omega
  · have hl' : l.val < 64 := by
      by_contra h
      exact hn ⟨l.val - 64, by omega⟩ (Fin.ext (by show 64 + (l.val - 64) = l.val; omega))
    exact L.qb_zero b p (⟨g.val, by omega⟩ : Fin 4096) ⟨l.val, by omega⟩
  · unfold EarlyRef.mask
    rw [EarlyRef.bias_odd]
    exact Iff.rfl
  · unfold EarlyRef.scoreAt
    simp only [EarlyRef.q_odd, EarlyRef.k_odd]
    rfl

/-- The mix over a group's own keys is the mix over the whole sequence. -/
theorem whole (x2 : FVec Ideal Cert.Pre_layout.S8x8x4096x256 .bf16) (x3 : FVec Ideal Cert.Pre_layout.S8x8x4096x128 .bf16) (b p : Fin 8)
    (q : (⟨4, ![1, 1, 2048, 256]⟩ : Shape).Idx → EReal) (g : Fin 2048) :
    EarlyChain.acc 2048 le_rfl q (fun y => x2 (ix4 b p (Fin.castLE (by decide) (y 2 : Fin 2048) : Fin 4096) (y 3 : Fin 256)))
        (fun y => x3 (ix4 b p (Fin.castLE (by decide) (y 2 : Fin 2048) : Fin 4096) (y 3 : Fin 128))) g
      = EarlyChain.acc 4096 le_rfl q (fun y => x2 (ix4 b p (y 2 : Fin 4096) (y 3 : Fin 256))) (fun y => x3 (ix4 b p (y 2 : Fin 4096) (y 3 : Fin 128))) g :=
  funext fun lane => EarlyChain.acc_all (K := 2048) (N := 4096) 2048 le_rfl (by omega) q
    (fun y => x2 (ix4 b p (Fin.castLE (by decide) (y 2 : Fin 2048) : Fin 4096) (y 3 : Fin 256)))
    (fun y => x3 (ix4 b p (Fin.castLE (by decide) (y 2 : Fin 2048) : Fin 4096) (y 3 : Fin 128)))
    (fun y => x2 (ix4 b p (y 2 : Fin 4096) (y 3 : Fin 256))) (fun y => x3 (ix4 b p (y 2 : Fin 4096) (y 3 : Fin 128)))
    (fun _ _ => rfl) (fun _ _ => rfl) g g.isLt lane

/-- The kernel's rows before 2048 are the reference's. -/
theorem rows (x0 x1 x2 : FVec Ideal Cert.Pre_layout.S8x8x4096x256 .bf16) (x3 x4 : FVec Ideal Cert.Pre_layout.S8x8x4096x128 .bf16) (x5 : FVec Ideal Cert.Pre_layout.S8x4096x1024 .f32)
    (L : Pre.Layout x0 x1 x2 x3 x4) (b p : Fin 8) (g : Fin 2048) (lane : Fin 128) :
    EarlyChains.outVal x0 x1 x2 x3 x4 b p g lane
      = val_main_v70 (F := Ideal) x0 x1 x2 x3 x4 x5 (ix3 b (⟨g.val, by omega⟩ : Fin 4096) (⟨128 * p.val + lane.val, by omega⟩ : Fin 1024)) := by
  rw [EarlyRef.out_early]
  unfold EarlyChains.outVal EarlyChains.blockVal Chain.merge
  simp only [whole x2 x3 b p, whole x2 x4 b p]
  by_cases h : lane.val < 64
  · rw [if_pos h, if_pos h, show (⟨(128 * p.val + lane.val) / 64, by omega⟩ : Fin 16) = ⟨2 * p.val, by omega⟩ from Fin.ext (by show (128 * p.val + lane.val) / 64 = 2 * p.val; omega),
      show (⟨(128 * p.val + lane.val) % 64, Nat.mod_lt _ (by decide)⟩ : Fin 64) = ⟨lane.val, h⟩ from Fin.ext (by show (128 * p.val + lane.val) % 64 = lane.val; omega),
      show Chain.turn lane = (⟨64 + lane.val, by omega⟩ : Fin 128) from Fin.ext (by show (lane.val + 128 - 64) % 128 = 64 + lane.val; omega)]
    exact even x0 x1 x2 x3 x4 L b p g ⟨lane.val, h⟩
  · rw [if_neg h, if_neg h, show (⟨(128 * p.val + lane.val) / 64, by omega⟩ : Fin 16) = ⟨2 * p.val + 1, by omega⟩ from Fin.ext (by show (128 * p.val + lane.val) / 64 = 2 * p.val + 1; omega),
      show (⟨(128 * p.val + lane.val) % 64, Nat.mod_lt _ (by decide)⟩ : Fin 64) = ⟨lane.val - 64, by omega⟩ from Fin.ext (by show (128 * p.val + lane.val) % 64 = lane.val - 64; omega),
      show Chain.turn lane = (⟨lane.val - 64, by omega⟩ : Fin 128) from Fin.ext (by show (lane.val + 128 - 64) % 128 = lane.val - 64; omega)]
    rw [← odd x0 x1 x2 x3 x4 L b p g ⟨lane.val - 64, by omega⟩,
      show (⟨64 + (lane.val - 64), by omega⟩ : Fin 128) = lane from Fin.ext (by show 64 + (lane.val - 64) = lane.val; omega)]

open Cert.EarlyIdeal Cert.EarlyIdeal.Gen TcCoe in
/-- The kernel's array is the reference's. -/
theorem array (m : (ℓ : Loc nD τ sig) → Buf (Elt Ideal) ℓ) (c : Dev nD)
    (L : Pre.Layout (m ((c : Thread nD τ).loc main_arg0)) (m ((c : Thread nD τ).loc main_arg1)) (m ((c : Thread nD τ).loc main_arg2))
      (m ((c : Thread nD τ).loc main_arg3)) (m ((c : Thread nD τ).loc main_arg4))) :
    (dats m 0 c).arrAt 5 cfg0.N
      = val_main_v70 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext y
  obtain ⟨b, g, n, rfl⟩ : ∃ (b : Fin 8) (g : Fin 4096) (n : Fin 1024), y = ix3 b g n := ⟨y 0, y 1, y 2, eq_ix3 y⟩
  by_cases hg : g.val < 2048
  · have e2 : n = (⟨128 * (⟨n.val / 128, by omega⟩ : Fin 8).val + (⟨n.val % 128, Nat.mod_lt _ (by decide)⟩ : Fin 128).val, by simp only; omega⟩ : Fin 1024) :=
      Fin.ext (by show n.val = 128 * (n.val / 128) + n.val % 128; omega)
    rw [e2]
    exact (EarlyChains.early m c b _ ⟨g.val, hg⟩ _).trans (rows _ _ _ _ _ _ L b _ ⟨g.val, hg⟩ _)
  · have e1 : g = (⟨2048 + (⟨g.val - 2048, by omega⟩ : Fin 2048).val, by simp only; omega⟩ : Fin 4096) := Fin.ext (by show g.val = 2048 + (g.val - 2048); omega)
    refine (EarlyChains.late m c b g (Nat.le_of_not_lt hg) n).trans ?_
    rw [e1]
    exact (EarlyRef.out_late _ _ _ _ _ _ b _ n).symm

end Cert.EarlyHeads
end
-- ==== Proof.EarlyAttention.lean ====
/-
  The attention call of the first query group: its frames, its idealization and its value.
-/
module

public import proofs.«01_k».proof.Defs
public import proofs.«01_k».proof.Proof.EarlyHeads
public import proofs.«01_k».proof.Proof.Attention
public import proofs.«01_k».proof.Proof.Gen.Early.Frame
public import proofs.«01_k».proof.Proof.Gen.EarlyIdeal.Frame
public import proofs.«01_k».proof.Proof.Gen.EarlyIdeal.Value
public import proofs.«01_k».proof.Proof.Gen.EarlyReferenceIdeal.Run
public import Idealize.ShloMosaic.Adequacy
public import Idealize.ShloMosaic.Init
public import Idealize.ShloMosaic.Lib.Quiescent

@[expose] public section

noncomputable section

namespace Cert.EarlyAttention

open Idealize.ShloMosaic Idealize.SL.Sem

/-- The reference returns, leaves its arguments and no counter raised. -/
theorem reference : Cert.quiescent_EarlyReferenceIdeal := by
  intro m ρ _
  exact (θ_run Cert.EarlyReferenceIdeal.defs _ _).mono (fun r h => ⟨fun c => (h c).2, sem_eq_zero_of_no_sems (by decide) r.2⟩)
    (Cert.EarlyReferenceIdeal.Value.run (F := Ideal) m ρ)

/-- The exact kernel's result is the reference's. -/
theorem value : Cert.algebraic_EarlyIdeal_EarlyReferenceIdeal_pre_layout := by
  intro m ρ m' ρ' hpre hagree
  refine ⟨fun c => Cert.EarlyReferenceIdeal.Value.res_main_v70 (F := Ideal) m' c,
    (θ_run Cert.EarlyIdeal.defs _ _).mono (fun r h c => ⟨(h c).1.trans ?_, (h c).2⟩) (Cert.EarlyIdeal.Value.run_blocks (F := Ideal) m ρ),
    (θ_run Cert.EarlyReferenceIdeal.defs _ _).mono (fun r h c => h c) (Cert.EarlyReferenceIdeal.Value.run (F := Ideal) m' ρ')⟩
  obtain ⟨h0, h1, h2, h3, h4, h5⟩ := hagree c
  refine (EarlyHeads.array m c (Pre.layout _ _ _ _ _ _ (hpre c))).trans ?_
  refine Eq.trans ?_ (Cert.EarlyReferenceIdeal.Read.val_main_v70_eq (F := Ideal) m' c).symm
  rw [h0, h1, h2, h3, h4, h5]

end Cert.EarlyAttention

end
-- ==== Proof.Layer.lean ====
/-
  The row operations of a layer's projections, read at an index: a row over its root mean square and times a gain, a product of
  rows with columns, the logistic function.
-/
module

public import Idealize.ShloMosaic.Lib.Pointwise
public import Idealize.ShloMosaic.PureOps.Ideal.Laws

@[expose] public section

set_option maxRecDepth 16384

noncomputable section

namespace Cert.Layer

open Idealize.ShloMosaic

/-- Entry `k` of a row over its root mean square, times the gain. -/
def normed (x g : Fin 1024 → EReal) (k : Fin 1024) : EReal :=
  x k * Ideal.rsqrt (Ideal.div (∑ l, x l * x l) (Ideal.ofBits FTy.f32 0x44800000#32) + Ideal.ofBits FTy.f32 0x358637BD#32) * g k

/-- Rows times columns. -/
@[reducible] def dotRC (R K N : ℕ) (wf : DotDims.WF (⟨2, ![R, K]⟩ : Shape) (⟨2, ![K, N]⟩ : Shape) (⟨2, ![R, N]⟩ : Shape) [1] [0] [0] [1] [] []) :
    DotDims (⟨2, ![R, K]⟩ : Shape) (⟨2, ![K, N]⟩ : Shape) (⟨2, ![R, N]⟩ : Shape) where
  lhsContracting := [1]
  rhsContracting := [0]
  lhsNonContracting := [0]
  rhsNonContracting := [1]
  lhsBatch := []
  rhsBatch := []
  wf := wf

theorem zero : Ideal.ofBits FTy.f32 0#32 = (0 : EReal) := by simp [Ideal.ofBits, Ideal.ieee]

theorem one : Ideal.ofBits FTy.f32 0x3F800000#32 = (1 : EReal) := by
  simp [Ideal.ofBits, Ideal.ieee]
  rw [← EReal.coe_mul]
  norm_num

/-- A product at an index. -/
theorem dotAt {R K N : ℕ} (wf sc) (p : FVec Ideal (⟨2, ![R, K]⟩ : Shape) .bf16) (v : FVec Ideal (⟨2, ![K, N]⟩ : Shape) .bf16)
    (r : Fin R) (c : Fin N) :
    matmul (F := Ideal) (dotRC R K N wf) none p (shapeCast (⟨2, ![K, N]⟩ : Shape) v sc)
        (constant (⟨2, ![R, N]⟩ : Shape) FTy.f32 0#32) (ix2 r c)
      = ∑ l : Fin K, (p (ix2 r l) : EReal) * v (ix2 l c) := by
  rw [shapeCast_self]
  show Ideal.matmul (dotRC R K N wf) p v _ _ = _
  rw [Ideal.matmul_apply₁_of (dotRC R K N wf) (a := 1) rfl (K := K) rfl p v _ _ (fun l => ix2 r l) (fun l => ix2 l c)]
  · show Ideal.ofBits FTy.f32 0#32 + _ = _
    rw [zero, zero_add]
  · intro l; funext a; fin_cases a <;> rfl
  · intro l; funext a; fin_cases a <;> rfl

/-- The normalised row at an index. -/
theorem normAt (hr hb hf s1 s2 b1 b2) (x : FVec Ideal (⟨2, ![1024, 1024]⟩ : Shape) .f32)
    (g : FVec Ideal (⟨2, ![1, 1024]⟩ : Shape) .f32) (r k : Fin 1024) :
    mulf (mulf x (broadcastTo (⟨2, ![1024, 1024]⟩ : Shape) (rsqrt (addf (divf
        (shapeCast (⟨2, ![1024, 1]⟩ : Shape) (multiReduction (F := Ideal) .add [1] (⟨1, ![1024]⟩ : Shape) (mulf x x) 0x00000000#32 hr hb hf) s1)
        (broadcast (⟨2, ![1024, 1]⟩ : Shape) (Scalar.ofBits (F := Ideal) .f32 0x44800000#32)))
        (broadcast (⟨2, ![1024, 1]⟩ : Shape) (Scalar.ofBits (F := Ideal) .f32 0x358637BD#32)))) b1))
      (broadcastTo (⟨2, ![1024, 1024]⟩ : Shape) (shapeCast (⟨2, ![1, 1024]⟩ : Shape) g s2) b2) (ix2 r k)
      = normed (fun l => x (ix2 r l)) (fun l => g (ix2 0 l)) k := by
  pointwise
  rfl

/-- A row of the projection of normalised rows, at a column. -/
def proj {N : ℕ} (x g : Fin 1024 → EReal) (w : (⟨2, ![1024, N]⟩ : Shape).Idx → EReal) (c : Fin N) : EReal :=
  ∑ l : Fin 1024, normed x g l * w (ix2 l c)

/-- Columns `o … o + W` of the projection's block, as stored. -/
theorem piece {N W o : ℕ} (hW : o + W ≤ N) (inb wf sc) (p : FVec Ideal (⟨2, ![1024, 1024]⟩ : Shape) .bf16)
    (x0 : Vec Ideal (⟨2, ![1024, 1024]⟩ : Shape) .f32) (x1 : Vec Ideal (⟨2, ![1, 1024]⟩ : Shape) .f32)
    (x2 : Vec Ideal (⟨2, ![1024, N]⟩ : Shape) .bf16)
    (hp : ∀ r k : Fin 1024, p (ix2 r k) = normed (fun l => x0 (ix2 r l)) (fun l => x1 (ix2 0 l)) k)
    (b : FVec Ideal (⟨2, ![1024, W]⟩ : Shape) .bf16)
    (hb : ∀ (l : Fin 1024) (c : Fin W), b (ix2 l c) = x2 (ix2 l ⟨o + c.val, by omega⟩))
    (x : (⟨2, ![1024, W]⟩ : Shape).Idx) :
    matmul (F := Ideal) (dotRC 1024 1024 W wf) none p (shapeCast (⟨2, ![1024, W]⟩ : Shape)
        b sc)
        (constant (⟨2, ![1024, W]⟩ : Shape) FTy.f32 0#32) x
      = (fun y : (⟨2, ![1024, N]⟩ : Shape).Idx => proj (fun l => x0 (ix2 (y 0 : Fin 1024) l)) (fun l => x1 (ix2 0 l)) x2 (y 1 : Fin N))
        ((Rect.unit (s := (⟨2, ![1024, N]⟩ : Shape)) ![0, o] ![1024, W] inb).emb x) := by
  obtain ⟨r, c, rfl⟩ : ∃ (r : Fin 1024) (c : Fin W), x = ix2 r c := ⟨x 0, x 1, (eq_ix2 x)⟩
  refine (dotAt wf sc p _ r c).trans ?_
  have hc : ((Rect.unit (s := (⟨2, ![1024, N]⟩ : Shape)) ![0, o] ![1024, W] inb).emb (ix2 r c) 1 : Fin N) = (⟨o + c.val, by omega⟩ : Fin N) :=
    Fin.ext (show o + 1 * c.val = o + c.val by omega)
  have hr : ((Rect.unit (s := (⟨2, ![1024, N]⟩ : Shape)) ![0, o] ![1024, W] inb).emb (ix2 r c) 0 : Fin 1024) = r :=
    Fin.ext (show 0 + 1 * r.val = r.val by omega)
  show _ = proj (fun l => x0 (ix2 ((Rect.unit (s := (⟨2, ![1024, N]⟩ : Shape)) ![0, o] ![1024, W] inb).emb (ix2 r c) 0 : Fin 1024) l)) _ x2
    ((Rect.unit (s := (⟨2, ![1024, N]⟩ : Shape)) ![0, o] ![1024, W] inb).emb (ix2 r c) 1 : Fin N)
  rw [hc, hr]
  unfold proj
  refine Finset.sum_congr rfl fun l _ => ?_
  rw [hp, hb]

/-- Entry `k` of a row after the sublayer: the row plus the gated mix's projection. -/
def joined (x o z : Fin 1024 → EReal) (w : (⟨2, ![1024, 1024]⟩ : Shape).Idx → EReal) (k : Fin 1024) : EReal :=
  x k + ∑ l : Fin 1024, o l * (z l * Ideal.logistic (z l)) * w (ix2 l k)

/-- The layer's output row: the row after the sublayer, plus the gated embedding's projection. -/
def post (x o z g : Fin 1024 → EReal) (p : Fin 256 → EReal) (w a : (⟨2, ![1024, 1024]⟩ : Shape).Idx → EReal)
    (b : (⟨2, ![256, 1024]⟩ : Shape).Idx → EReal) (c : Fin 1024) : EReal :=
  joined x o z w c + Ideal.logistic (∑ l : Fin 1024, normed (joined x o z w) g l * a (ix2 l c)) * ∑ l : Fin 256, p l * b (ix2 l c)

/-- A row after the sublayer, at an index. -/
theorem joinedAt (wf sc ht) (x o z : FVec Ideal (⟨2, ![1024, 1024]⟩ : Shape) .f32) (w : FVec Ideal (⟨2, ![1024, 1024]⟩ : Shape) .bf16)
    (r k : Fin 1024) :
    addf x (matmul (F := Ideal) (dotRC 1024 1024 1024 wf) none (truncf .bf16 (mulf o (mulf z (logistic z))) ht)
      (shapeCast (⟨2, ![1024, 1024]⟩ : Shape) w sc) (constant (⟨2, ![1024, 1024]⟩ : Shape) FTy.f32 0#32)) (ix2 r k)
      = joined (fun l => x (ix2 r l)) (fun l => o (ix2 r l)) (fun l => z (ix2 r l)) w k := by
  refine (congrArg (fun e : EReal => (x (ix2 r k) : EReal) + e) (dotAt wf sc _ w r k)).trans ?_
  rfl

theorem combine {s : Shape} (h a b : FVec Ideal s .f32) (i : s.Idx) (x y z : EReal) (hx : h i = x) (hy : a i = y) (hz : b i = z) :
    addf h (mulf (logistic a) b) i = x + Ideal.logistic y * z := by
  subst hx hy hz
  rfl

/-- The output row at an index, from the rows after the sublayer. -/
theorem gatedAt (hr hb hf s1 s2 b1 b2 ht hq wf sc wf' sc') (h : FVec Ideal (⟨2, ![1024, 1024]⟩ : Shape) .f32)
    (g : FVec Ideal (⟨2, ![1, 1024]⟩ : Shape) .f32) (p : FVec Ideal (⟨2, ![1024, 256]⟩ : Shape) .f32)
    (a : FVec Ideal (⟨2, ![1024, 1024]⟩ : Shape) .bf16) (b : FVec Ideal (⟨2, ![256, 1024]⟩ : Shape) .bf16) (r c : Fin 1024)
    (H : Fin 1024 → EReal) (hH : ∀ k, h (ix2 r k) = H k) :
    addf h (mulf (logistic (matmul (F := Ideal) (dotRC 1024 1024 1024 wf) none
        (truncf .bf16 (mulf (mulf h (broadcastTo (⟨2, ![1024, 1024]⟩ : Shape) (rsqrt (addf (divf
          (shapeCast (⟨2, ![1024, 1]⟩ : Shape) (multiReduction (F := Ideal) .add [1] (⟨1, ![1024]⟩ : Shape) (mulf h h) 0x00000000#32 hr hb hf) s1)
          (broadcast (⟨2, ![1024, 1]⟩ : Shape) (Scalar.ofBits (F := Ideal) .f32 0x44800000#32)))
          (broadcast (⟨2, ![1024, 1]⟩ : Shape) (Scalar.ofBits (F := Ideal) .f32 0x358637BD#32)))) b1))
          (broadcastTo (⟨2, ![1024, 1024]⟩ : Shape) (shapeCast (⟨2, ![1, 1024]⟩ : Shape) g s2) b2)) ht)
        (shapeCast (⟨2, ![1024, 1024]⟩ : Shape) a sc) (constant (⟨2, ![1024, 1024]⟩ : Shape) FTy.f32 0#32)))
      (matmul (F := Ideal) (dotRC 1024 256 1024 wf') none (truncf .bf16 p hq) (shapeCast (⟨2, ![256, 1024]⟩ : Shape) b sc')
        (constant (⟨2, ![1024, 1024]⟩ : Shape) FTy.f32 0#32))) (ix2 r c)
      = H c + Ideal.logistic (∑ l : Fin 1024, normed H (fun l => g (ix2 0 l)) l * a (ix2 l c)) * ∑ l : Fin 256, p (ix2 r l) * b (ix2 l c) := by
  have e1 := dotAt wf sc (truncf .bf16 (mulf (mulf h (broadcastTo (⟨2, ![1024, 1024]⟩ : Shape) (rsqrt (addf (divf
          (shapeCast (⟨2, ![1024, 1]⟩ : Shape) (multiReduction (F := Ideal) .add [1] (⟨1, ![1024]⟩ : Shape) (mulf h h) 0x00000000#32 hr hb hf) s1)
          (broadcast (⟨2, ![1024, 1]⟩ : Shape) (Scalar.ofBits (F := Ideal) .f32 0x44800000#32)))
          (broadcast (⟨2, ![1024, 1]⟩ : Shape) (Scalar.ofBits (F := Ideal) .f32 0x358637BD#32)))) b1))
          (broadcastTo (⟨2, ![1024, 1024]⟩ : Shape) (shapeCast (⟨2, ![1, 1024]⟩ : Shape) g s2) b2)) ht) a r c
  have e2 := dotAt wf' sc' (truncf .bf16 p hq) b r c
  have e3 : ∀ l : Fin 1024, mulf (mulf h (broadcastTo (⟨2, ![1024, 1024]⟩ : Shape) (rsqrt (addf (divf
          (shapeCast (⟨2, ![1024, 1]⟩ : Shape) (multiReduction (F := Ideal) .add [1] (⟨1, ![1024]⟩ : Shape) (mulf h h) 0x00000000#32 hr hb hf) s1)
          (broadcast (⟨2, ![1024, 1]⟩ : Shape) (Scalar.ofBits (F := Ideal) .f32 0x44800000#32)))
          (broadcast (⟨2, ![1024, 1]⟩ : Shape) (Scalar.ofBits (F := Ideal) .f32 0x358637BD#32)))) b1))
          (broadcastTo (⟨2, ![1024, 1024]⟩ : Shape) (shapeCast (⟨2, ![1, 1024]⟩ : Shape) g s2) b2) (ix2 r l) = normed H (fun l => g (ix2 0 l)) l := fun l =>
    (normAt hr hb hf s1 s2 b1 b2 h g r l).trans (congrArg (fun f => normed f (fun l => g (ix2 0 l)) l) (funext hH))
  refine combine h _ _ _ _ _ _ (hH c) (e1.trans ?_) e2
  exact Finset.sum_congr rfl fun l _ => congrArg (fun e : EReal => e * (a (ix2 l c) : EReal)) (e3 l)

end Cert.Layer
end
-- ==== Proof.ProjMoba.lean ====
/-
  The call of the MoBA layers' projection: what the kernel leaves in its output is the reference's value, from any arguments.
-/
module

public import proofs.«01_k».proof.Proof.Layer
public import proofs.«01_k».proof.Defs
public import proofs.«01_k».proof.Proof.Gen.MobaProjIdeal.Value
public import proofs.«01_k».proof.Proof.Gen.MobaProjReferenceIdeal.Read
public import Idealize.ShloMosaic.Lib.Pipeline.ValueKit
public import Idealize.ShloMosaic.Lib.Quiescent

@[expose] public section

set_option maxRecDepth 16384

noncomputable section

namespace Cert.Layer.MobaProj

open Idealize.ShloMosaic Idealize.ShloMosaic.TcCoe Idealize.SL.Sem Cert.MobaProjIdeal Cert.MobaProjIdeal.Gen

/-- The normalised rows. -/
theorem rowAt (x0 : Vec Ideal S1024x1024 .f32) (x1 : Vec Ideal S1x1024 .f32) (r k : Fin 1024) :
    k0_pay5 (F := Ideal) (View.ld x0 (Rect.unit (s := S1024x1024) ![0, 0] S1024x1024.size inb_S1024x1024_S1024x1024_0_0))
      (View.ld x1 (Rect.unit (s := S1x1024) ![0, 0] S1x1024.size inb_S1x1024_S1x1024_0_0)) (ix2 r k)
      = Layer.normed (fun l => x0 (ix2 r l)) (fun l => x1 (ix2 0 l)) k := by
  rw [View.ld_unit_zero (by funext a; fin_cases a <;> rfl), View.ld_unit_zero (by funext a; fin_cases a <;> rfl)]
  exact Layer.normAt _ _ _ _ _ _ _ x0 x1 r k

/-- Columns of the weight's block. -/
theorem ldAt {W : ℕ} (x2 : Vec Ideal S1024x4096 .bf16) (o : ℕ) (ho : o + W ≤ 4096) (inb) (l : Fin 1024) (c : Fin W) :
    View.ld x2 (Rect.unit (s := S1024x4096) ![0, o] ![1024, W] inb) (ix2 l c) = x2 (ix2 l ⟨o + c.val, by omega⟩) := by
  refine congrArg x2 ?_
  funext a
  apply Fin.ext
  fin_cases a
  · show 0 + 1 * l.val = l.val; omega
  · show o + 1 * c.val = o + c.val; omega

/-- The block the body leaves: rows normalised, times the weight's columns. -/
theorem block_eq (x0 : Vec Ideal S1024x1024 .f32) (x1 : Vec Ideal S1x1024 .f32) (x2 : Vec Ideal S1024x4096 .bf16) (y : S1024x4096.Idx) :
    (out0_3 (F := Ideal) x0 x1 x2 y : EReal)
      = Layer.proj (fun l => x0 (ix2 (y 0 : Fin 1024) l)) (fun l => x1 (ix2 0 l)) x2 (y 1 : Fin 4096) := by
  unfold out0_3
  refine View.canon_apply_of_pieces (Val := Elt Ideal) (e := .f32) (fun y : S1024x4096.Idx => Layer.proj (fun l => x0 (ix2 (y 0 : Fin 1024) l)) (fun l => x1 (ix2 0 l)) x2 (y 1 : Fin 4096)) _ ?_ y
    (cover0_3 _ _ _ _ _ _ _ _ y)
  intro p hp
  simp only [List.mem_cons, List.not_mem_nil, or_false] at hp
  rcases hp with rfl | rfl | rfl | rfl | rfl | rfl | rfl | rfl
  · exact Layer.piece (N := 4096) (W := 512) (o := 3584) (by decide) inb_S1024x4096_S1024x512_0_3584 _ _ _ x0 x1 x2 (rowAt x0 x1) _ (ldAt x2 3584 (by decide) _)
  · exact Layer.piece (N := 4096) (W := 512) (o := 3072) (by decide) inb_S1024x4096_S1024x512_0_3072 _ _ _ x0 x1 x2 (rowAt x0 x1) _ (ldAt x2 3072 (by decide) _)
  · exact Layer.piece (N := 4096) (W := 512) (o := 2560) (by decide) inb_S1024x4096_S1024x512_0_2560 _ _ _ x0 x1 x2 (rowAt x0 x1) _ (ldAt x2 2560 (by decide) _)
  · exact Layer.piece (N := 4096) (W := 512) (o := 2048) (by decide) inb_S1024x4096_S1024x512_0_2048 _ _ _ x0 x1 x2 (rowAt x0 x1) _ (ldAt x2 2048 (by decide) _)
  · exact Layer.piece (N := 4096) (W := 512) (o := 1536) (by decide) inb_S1024x4096_S1024x512_0_1536 _ _ _ x0 x1 x2 (rowAt x0 x1) _ (ldAt x2 1536 (by decide) _)
  · exact Layer.piece (N := 4096) (W := 512) (o := 1024) (by decide) inb_S1024x4096_S1024x512_0_1024 _ _ _ x0 x1 x2 (rowAt x0 x1) _ (ldAt x2 1024 (by decide) _)
  · exact Layer.piece (N := 4096) (W := 512) (o := 512) (by decide) inb_S1024x4096_S1024x512_0_512 _ _ _ x0 x1 x2 (rowAt x0 x1) _ (ldAt x2 512 (by decide) _)
  · exact Layer.piece (N := 4096) (W := 512) (o := 0) (by decide) inb_S1024x4096_S1024x512_0_0 _ _ _ x0 x1 x2 (rowAt x0 x1) _ (ldAt x2 0 (by decide) _)

variable (m : (ℓ : Loc nD τ sig) → Buf (Elt Ideal) ℓ)

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![(grid0.coords t 0).val, 0] :=
  (by decide +kernel : ∀ t : Fin grid0.N, win0_3.index t = ![(grid0.coords t 0).val, 0])
theorem point (b : Fin 32) : ∃ t : Fin cfg0.N, (grid0.coords t 0).val = b.val :=
  (by decide +kernel : ∀ b : Fin 32, ∃ t : Fin grid0.N, (grid0.coords t 0).val = b.val) b

/-- The weight as the region finds it. -/
theorem V_main_v0 (c : Dev nD) : V m c main_v0 = m ((c : Thread nD τ).loc main_arg2) := by
  simp [V, hostOps0, StableHlo.after]
  exact StableHlo.unary_result main_arg2 main_v0 (fun x => x) _ _ (fun b => m (c, b))

/-- The gain as the region finds it. -/
theorem V_main_v1 (c : Dev nD) (l : Fin 1024) : V m c main_v1 (ix2 0 l) = m ((c : Thread nD τ).loc main_arg1) (ix1 l) := by
  have e : V m c main_v1 = shapeCast S1x1024 (m ((c : Thread nD τ).loc main_arg1)) shapeCasts_S1024_S1x1024 := by
    simp [V, hostOps0, StableHlo.after]
    exact StableHlo.reshape_result main_arg1 main_v1 rfl shapeCasts_S1024_S1x1024 _ _ (fun b => m (c, b))
  rw [e]
  generalize m ((c : Thread nD τ).loc main_arg1) = x
  pointwise

/-- The output array at a row and a column. -/
theorem out (c : Dev nD) (g : Fin 32768) (n : Fin 4096) :
    (dats m 0 c).arrAt 3 cfg0.N (ix2 g n)
      = proj (fun l => m ((c : Thread nD τ).loc main_arg0) (ix2 g l)) (fun l => m ((c : Thread nD τ).loc main_arg1) (ix1 l))
          (m ((c : Thread nD τ).loc main_arg2)) n := by
  obtain ⟨b, r, hg⟩ : ∃ (b : Fin 32) (r : Fin 1024), g.val = b.val * 1024 + r.val :=
    ⟨⟨g.val / 1024, by omega⟩, ⟨g.val % 1024, by omega⟩, by show g.val = g.val / 1024 * 1024 + g.val % 1024; omega⟩
  obtain ⟨t, hb⟩ := point b
  have h := congrFun (Value.blocks3 m c t (flush0_3 t)) (ix2 r n)
  blk_simp at h
  rw [after0_3] at h
  have he : (win0_3.blk t).view.emb (ix2 r n) = (ix2 g n : S32768x4096.Idx) := by
    funext a
    apply Fin.ext
    fin_cases a
    · show win0_3.index t 0 * 1024 + 1 * r.val = g.val
      rw [index3]
      show (grid0.coords t 0).val * 1024 + 1 * r.val = g.val
      omega
    · show win0_3.index t 1 * 4096 + 1 * n.val = n.val
      rw [index3]
      show 0 * 4096 + 1 * n.val = n.val
      omega
  rw [he] at h
  refine h.trans ?_
  rw [block_eq]
  show proj (fun l => iblk m c 0 t (ix2 r l)) (fun l => iblk m c 1 t (ix2 0 l)) (iblk m c 2 t) n = _
  have e0 : ∀ l : Fin 1024, iblk m c 0 t (ix2 r l) = m ((c : Thread nD τ).loc main_arg0) (ix2 g l) := fun l => by
    refine (congrFun (V_main_arg0 m c) ((win0_0.blk t).view.emb (ix2 r l))).trans (congrArg (m ((c : Thread nD τ).loc main_arg0)) ?_)
    funext a
    apply Fin.ext
    fin_cases a
    · show win0_0.index t 0 * 1024 + 1 * r.val = g.val
      rw [index0]
      show (grid0.coords t 0).val * 1024 + 1 * r.val = g.val
      omega
    · show win0_0.index t 1 * 1024 + 1 * l.val = l.val
      rw [index0]
      show 0 * 1024 + 1 * l.val = l.val
      omega
  have e1 : ∀ l : Fin 1024, iblk m c 1 t (ix2 0 l) = m ((c : Thread nD τ).loc main_arg1) (ix1 l) := fun l => by
    refine Eq.trans (congrArg (V m c main_v1) ?_) (V_main_v1 m c l)
    funext a
    apply Fin.ext
    fin_cases a
    · show win0_1.index t 0 * 1 + 1 * 0 = 0
      rw [index1]
      rfl
    · show win0_1.index t 1 * 1024 + 1 * l.val = l.val
      rw [index1]
      show 0 * 1024 + 1 * l.val = l.val
      omega
  have e2 : iblk m c 2 t = m ((c : Thread nD τ).loc main_arg2) := by
    funext y
    refine (congrFun (V_main_v0 m c) ((win0_2.blk t).view.emb y)).trans (congrArg (m ((c : Thread nD τ).loc main_arg2)) ?_)
    funext a
    apply Fin.ext
    fin_cases a
    · show win0_2.index t 0 * 1024 + 1 * (y 0 : Fin 1024).val = (y 0 : Fin 1024).val
      rw [index2]
      show 0 * 1024 + 1 * (y 0 : Fin 1024).val = (y 0 : Fin 1024).val
      omega
    · show win0_2.index t 1 * 4096 + 1 * (y 1 : Fin 4096).val = (y 1 : Fin 4096).val
      rw [index2]
      show 0 * 4096 + 1 * (y 1 : Fin 4096).val = (y 1 : Fin 4096).val
      omega
  rw [e2]
  simp only [e0, e1]

/-- The reference's normalised rows. -/
theorem ref_normed (x0 : (⟨S32768x1024, .f32⟩ : BufTy).Contents (Elt Ideal)) (x1 : (⟨S1024, .f32⟩ : BufTy).Contents (Elt Ideal)) (g : Fin 32768)
    (l : Fin 1024) :
    Cert.MobaProjReferenceIdeal.Read.val_main_v12 (F := Ideal) x0 x1 (ix2 g l) = normed (fun k => x0 (ix2 g k)) (fun k => x1 (ix1 k)) l := by
  open Cert.MobaProjReferenceIdeal.Read in
  have i1 : ∀ k, idx_main_v1 (idx_main_v2 (idx_main_v8 (ix2 g l))) k = ix2 g k := fun k => by
    funext a; apply Fin.ext; fin_cases a <;> rfl
  open Cert.MobaProjReferenceIdeal.Read in
  have i2 : idx_main_v10 (idx_main_v11 (ix2 g l)) = ix1 l := by
    funext a; apply Fin.ext; fin_cases a; rfl
  open Cert.MobaProjReferenceIdeal.Read in
  simp only [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply,
    val_main_cst_0_apply, val_main_cst_1_apply, i1, i2]
  show x0 (ix2 g l) * Ideal.rsqrt (Ideal.div (Ideal.ofBits FTy.f32 0#32 + ∑ k : Fin 1024, x0 (ix2 g k) * x0 (ix2 g k)) (Ideal.ofBits FTy.f32 0x44800000#32)
    + Ideal.ofBits FTy.f32 0x358637BD#32) * x1 (ix1 l) = _
  rw [zero, zero_add]
  rfl

/-- The reference at a row and a column. -/
theorem ref (x0 : (⟨S32768x1024, .f32⟩ : BufTy).Contents (Elt Ideal)) (x1 : (⟨S1024, .f32⟩ : BufTy).Contents (Elt Ideal))
    (x2 : (⟨S1024x4096, .f32⟩ : BufTy).Contents (Elt Ideal)) (g : Fin 32768) (n : Fin 4096) :
    Cert.MobaProjReferenceIdeal.Read.val_main_v13 (F := Ideal) x0 x1 x2 (ix2 g n) = proj (fun k => x0 (ix2 g k)) (fun k => x1 (ix1 k)) x2 n := by
  rw [Cert.MobaProjReferenceIdeal.Read.val_main_v13_apply]
  refine Finset.sum_congr rfl fun l _ => ?_
  have el : Cert.MobaProjReferenceIdeal.Read.lidx_main_v13 (ix2 g n) l = ix2 g l := by
    funext a; apply Fin.ext; fin_cases a <;> rfl
  have er : Cert.MobaProjReferenceIdeal.Read.ridx_main_v13 (ix2 g n) l = ix2 l n := by
    funext a; apply Fin.ext; fin_cases a <;> rfl
  rw [el, er, ref_normed]

/-- The reference returns, leaves its arguments and no counter raised. -/
theorem reference : Cert.quiescent_MobaProjReferenceIdeal := by
  intro m ρ _
  exact (θ_run Cert.MobaProjReferenceIdeal.defs _ _).mono (fun r h => ⟨fun c => (h c).2, sem_eq_zero_of_no_sems (by decide) r.2⟩)
    (Cert.MobaProjReferenceIdeal.Value.run (F := Ideal) m ρ)

/-- The exact kernel's result is the reference's. -/
theorem value : Cert.algebraic_MobaProjIdeal_MobaProjReferenceIdeal := by
  intro m ρ m' ρ' hpre hagree
  refine ⟨fun c => Cert.MobaProjReferenceIdeal.Read.val_main_v13 (F := Ideal) (m' ((c.tc : Thread _ _).loc Cert.MobaProjReferenceIdeal.main_arg0))
      (m' ((c.tc : Thread _ _).loc Cert.MobaProjReferenceIdeal.main_arg1)) (m' ((c.tc : Thread _ _).loc Cert.MobaProjReferenceIdeal.main_arg2)),
    (θ_run Cert.MobaProjIdeal.defs _ _).mono (fun r h c => ⟨(h c).1.trans ?_, (h c).2⟩) (Cert.MobaProjIdeal.Value.run_blocks (F := Ideal) m ρ),
    (θ_run Cert.MobaProjReferenceIdeal.defs _ _).mono (fun r h c => ⟨(h c).1.trans (Cert.MobaProjReferenceIdeal.Read.val_main_v13_eq (F := Ideal) _ _ _), (h c).2⟩)
      (Cert.MobaProjReferenceIdeal.Value.run (F := Ideal) m' ρ')⟩
  obtain ⟨h0, h1, h2⟩ := hagree c
  funext y
  obtain ⟨g, n, rfl⟩ : ∃ (g : Fin 32768) (n : Fin 4096), y = ix2 g n := ⟨y 0, y 1, eq_ix2 y⟩
  refine (out m c g n).trans ?_
  refine Eq.trans ?_ (ref _ _ _ g n).symm
  rw [h0, h1, h2]

end Cert.Layer.MobaProj
end
-- ==== Proof.ProjNsa.lean ====
/-
  The call of the NSA layers' projection: what the kernel leaves in its output is the reference's value, from any arguments.
-/
module

public import proofs.«01_k».proof.Proof.Layer
public import proofs.«01_k».proof.Defs
public import proofs.«01_k».proof.Proof.Gen.NsaProjIdeal.Value
public import proofs.«01_k».proof.Proof.Gen.NsaProjReferenceIdeal.Read
public import Idealize.ShloMosaic.Lib.Pipeline.ValueKit
public import Idealize.ShloMosaic.Lib.Quiescent

@[expose] public section

set_option maxRecDepth 16384

noncomputable section

namespace Cert.Layer.NsaProj

open Idealize.ShloMosaic Idealize.ShloMosaic.TcCoe Idealize.SL.Sem Cert.NsaProjIdeal Cert.NsaProjIdeal.Gen

/-- The normalised rows. -/
theorem rowAt {a1 : Memref sig .tc .vmem S1024x1024 .f32} (h1 : a1.IsWhole) {a2 : Memref sig .tc .vmem S1x1024 .f32} (h2 : a2.IsWhole)
    (x0 : Vec Ideal S1024x1024 .f32) (x1 : Vec Ideal S1x1024 .f32) (r k : Fin 1024) :
    k0_pay5 (F := Ideal) (View.readAt (Elt Ideal) a1.view (Rect.unit (s := S1024x1024) ![0, 0] S1024x1024.size inb_S1024x1024_S1024x1024_0_0).toLoadRect (h1.unread x0))
      (View.readAt (Elt Ideal) a2.view (Rect.unit (s := S1x1024) ![0, 0] S1x1024.size inb_S1x1024_S1x1024_0_0).toLoadRect (h2.unread x1)) (ix2 r k)
      = Layer.normed (fun l => x0 (ix2 r l)) (fun l => x1 (ix2 0 l)) k := by
  rw [View.readAt_eq_ld, h1.read_unread, View.readAt_eq_ld, h2.read_unread, View.ld_unit_zero (by funext a; fin_cases a <;> rfl),
    View.ld_unit_zero (by funext a; fin_cases a <;> rfl)]
  exact Layer.normAt _ _ _ _ _ _ _ x0 x1 r k

/-- Columns of the weight's block. -/
theorem ldAt {W : ℕ} {a3 : Memref sig .tc .vmem S1024x3712 .bf16} (h3 : a3.IsWhole) (x2 : Vec Ideal S1024x3712 .bf16) (o : ℕ) (ho : o + W ≤ 3712) (inb)
    (l : Fin 1024) (c : Fin W) :
    View.readAt (Elt Ideal) a3.view (Rect.unit (s := S1024x3712) ![0, o] ![1024, W] inb).toLoadRect (h3.unread x2) (ix2 l c) = x2 (ix2 l ⟨o + c.val, by omega⟩) := by
  rw [View.readAt_eq_ld, h3.read_unread]
  refine congrArg x2 ?_
  funext a
  apply Fin.ext
  fin_cases a
  · show 0 + 1 * l.val = l.val; omega
  · show o + 1 * c.val = o + c.val; omega

/-- The block the body leaves: rows normalised, times the weight's columns. -/
theorem block_eq (c : Dev nD) (i : grid0.Coords) (arg1 : Memref sig .tc .vmem S1024x1024 .f32) (harg1 : arg1.IsWhole) (arg2 : Memref sig .tc .vmem S1x1024 .f32) (harg2 : arg2.IsWhole)
    (arg3 : Memref sig .tc .vmem S1024x3712 .bf16) (harg3 : arg3.IsWhole) (arg4 : Memref sig .tc .vmem S1024x3712 .f32) (harg4 : arg4.IsWhole)
    (x0 : Vec Ideal S1024x1024 .f32) (x1 : Vec Ideal S1x1024 .f32) (x2 : Vec Ideal S1024x3712 .bf16) (y : S1024x3712.Idx) :
    out0_A_3 (F := Ideal) c i arg1 harg1 arg2 harg2 arg3 harg3 arg4 harg4 x0 x1 x2 y
      = Layer.proj (fun l => x0 (ix2 (y 0 : Fin 1024) l)) (fun l => x1 (ix2 0 l)) x2 (y 1 : Fin 3712) := by
  have hc := cover0_A_3 (F := Ideal) c i arg1 harg1 arg2 harg2 arg3 harg3 arg4 harg4 x0 x1 x2
  unfold out0_A_3
  rw [View.read_writes_eq_canon _ _ _ hc]
  refine View.canon_apply_of_pieces (fun y : S1024x3712.Idx => Layer.proj (fun l => x0 (ix2 (y 0 : Fin 1024) l)) (fun l => x1 (ix2 0 l)) x2 (y 1 : Fin 3712)) _ ?_ y
    (hc y)
  unfold kernelRun0_A
  dsimp only
  intro p hp
  simp only [List.mem_cons, List.not_mem_nil, or_false] at hp
  rcases hp with rfl | rfl | rfl | rfl | rfl | rfl | rfl | rfl
  · exact Layer.piece (N := 3712) (W := 128) (o := 3584) (by decide) inb_S1024x3712_S1024x128_0_3584 _ _ _ x0 x1 x2 (rowAt harg1 harg2 x0 x1) _ (ldAt harg3 x2 3584 (by decide) _)
  · exact Layer.piece (N := 3712) (W := 512) (o := 3072) (by decide) inb_S1024x3712_S1024x512_0_3072 _ _ _ x0 x1 x2 (rowAt harg1 harg2 x0 x1) _ (ldAt harg3 x2 3072 (by decide) _)
  · exact Layer.piece (N := 3712) (W := 512) (o := 2560) (by decide) inb_S1024x3712_S1024x512_0_2560 _ _ _ x0 x1 x2 (rowAt harg1 harg2 x0 x1) _ (ldAt harg3 x2 2560 (by decide) _)
  · exact Layer.piece (N := 3712) (W := 512) (o := 2048) (by decide) inb_S1024x3712_S1024x512_0_2048 _ _ _ x0 x1 x2 (rowAt harg1 harg2 x0 x1) _ (ldAt harg3 x2 2048 (by decide) _)
  · exact Layer.piece (N := 3712) (W := 512) (o := 1536) (by decide) inb_S1024x3712_S1024x512_0_1536 _ _ _ x0 x1 x2 (rowAt harg1 harg2 x0 x1) _ (ldAt harg3 x2 1536 (by decide) _)
  · exact Layer.piece (N := 3712) (W := 512) (o := 1024) (by decide) inb_S1024x3712_S1024x512_0_1024 _ _ _ x0 x1 x2 (rowAt harg1 harg2 x0 x1) _ (ldAt harg3 x2 1024 (by decide) _)
  · exact Layer.piece (N := 3712) (W := 512) (o := 512) (by decide) inb_S1024x3712_S1024x512_0_512 _ _ _ x0 x1 x2 (rowAt harg1 harg2 x0 x1) _ (ldAt harg3 x2 512 (by decide) _)
  · exact Layer.piece (N := 3712) (W := 512) (o := 0) (by decide) inb_S1024x3712_S1024x512_0_0 _ _ _ x0 x1 x2 (rowAt harg1 harg2 x0 x1) _ (ldAt harg3 x2 0 (by decide) _)

variable (m : (ℓ : Loc nD τ sig) → Buf (Elt Ideal) ℓ)

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![(grid0.coords t 0).val, 0] :=
  (by decide +kernel : ∀ t : Fin grid0.N, win0_3.index t = ![(grid0.coords t 0).val, 0])
theorem point (b : Fin 32) : ∃ t : Fin cfg0.N, (grid0.coords t 0).val = b.val :=
  (by decide +kernel : ∀ b : Fin 32, ∃ t : Fin grid0.N, (grid0.coords t 0).val = b.val) b

/-- The weight as the region finds it. -/
theorem V_main_v0 (c : Dev nD) : V m c main_v0 = m ((c : Thread nD τ).loc main_arg2) := by
  simp [V, hostOps0, StableHlo.after]
  exact StableHlo.unary_result main_arg2 main_v0 (fun x => x) _ _ (fun b => m (c, b))

/-- The gain as the region finds it. -/
theorem V_main_v1 (c : Dev nD) (l : Fin 1024) : V m c main_v1 (ix2 0 l) = m ((c : Thread nD τ).loc main_arg1) (ix1 l) := by
  have e : V m c main_v1 = shapeCast S1x1024 (m ((c : Thread nD τ).loc main_arg1)) shapeCasts_S1024_S1x1024 := by
    simp [V, hostOps0, StableHlo.after]
    exact StableHlo.reshape_result main_arg1 main_v1 rfl shapeCasts_S1024_S1x1024 _ _ (fun b => m (c, b))
  rw [e]
  generalize m ((c : Thread nD τ).loc main_arg1) = x
  pointwise

/-- The output array at a row and a column. -/
theorem out (c : Dev nD) (g : Fin 32768) (n : Fin 3712) :
    (dats m 0 c).arrAt 3 cfg0.N (ix2 g n)
      = proj (fun l => m ((c : Thread nD τ).loc main_arg0) (ix2 g l)) (fun l => m ((c : Thread nD τ).loc main_arg1) (ix1 l))
          (m ((c : Thread nD τ).loc main_arg2)) n := by
  obtain ⟨b, r, hg⟩ : ∃ (b : Fin 32) (r : Fin 1024), g.val = b.val * 1024 + r.val :=
    ⟨⟨g.val / 1024, by omega⟩, ⟨g.val % 1024, by omega⟩, by show g.val = g.val / 1024 * 1024 + g.val % 1024; omega⟩
  obtain ⟨t, hb⟩ := point b
  have h := congrFun (Value.blocks3 m c t (flush0_3 t)) (ix2 r n)
  blk_simp at h
  rw [after0_3] at h
  have he : (win0_3.blk t).view.emb (ix2 r n) = (ix2 g n : S32768x3712.Idx) := by
    funext a
    apply Fin.ext
    fin_cases a
    · show win0_3.index t 0 * 1024 + 1 * r.val = g.val
      rw [index3]
      show (grid0.coords t 0).val * 1024 + 1 * r.val = g.val
      omega
    · show win0_3.index t 1 * 3712 + 1 * n.val = n.val
      rw [index3]
      show 0 * 3712 + 1 * n.val = n.val
      omega
  rw [he] at h
  refine h.trans ?_
  unfold outsAt0
  rw [block_eq]
  show proj (fun l => iblk m c 0 t (ix2 r l)) (fun l => iblk m c 1 t (ix2 0 l)) (iblk m c 2 t) n = _
  have e0 : ∀ l : Fin 1024, iblk m c 0 t (ix2 r l) = m ((c : Thread nD τ).loc main_arg0) (ix2 g l) := fun l => by
    refine (congrFun (V_main_arg0 m c) ((win0_0.blk t).view.emb (ix2 r l))).trans (congrArg (m ((c : Thread nD τ).loc main_arg0)) ?_)
    funext a
    apply Fin.ext
    fin_cases a
    · show win0_0.index t 0 * 1024 + 1 * r.val = g.val
      rw [index0]
      show (grid0.coords t 0).val * 1024 + 1 * r.val = g.val
      omega
    · show win0_0.index t 1 * 1024 + 1 * l.val = l.val
      rw [index0]
      show 0 * 1024 + 1 * l.val = l.val
      omega
  have e1 : ∀ l : Fin 1024, iblk m c 1 t (ix2 0 l) = m ((c : Thread nD τ).loc main_arg1) (ix1 l) := fun l => by
    refine Eq.trans (congrArg (V m c main_v1) ?_) (V_main_v1 m c l)
    funext a
    apply Fin.ext
    fin_cases a
    · show win0_1.index t 0 * 1 + 1 * 0 = 0
      rw [index1]
      rfl
    · show win0_1.index t 1 * 1024 + 1 * l.val = l.val
      rw [index1]
      show 0 * 1024 + 1 * l.val = l.val
      omega
  have e2 : iblk m c 2 t = m ((c : Thread nD τ).loc main_arg2) := by
    funext y
    refine (congrFun (V_main_v0 m c) ((win0_2.blk t).view.emb y)).trans (congrArg (m ((c : Thread nD τ).loc main_arg2)) ?_)
    funext a
    apply Fin.ext
    fin_cases a
    · show win0_2.index t 0 * 1024 + 1 * (y 0 : Fin 1024).val = (y 0 : Fin 1024).val
      rw [index2]
      show 0 * 1024 + 1 * (y 0 : Fin 1024).val = (y 0 : Fin 1024).val
      omega
    · show win0_2.index t 1 * 3712 + 1 * (y 1 : Fin 3712).val = (y 1 : Fin 3712).val
      rw [index2]
      show 0 * 3712 + 1 * (y 1 : Fin 3712).val = (y 1 : Fin 3712).val
      omega
  rw [e2]
  simp only [e0, e1]

/-- The reference's normalised rows. -/
theorem ref_normed (x0 : (⟨S32768x1024, .f32⟩ : BufTy).Contents (Elt Ideal)) (x1 : (⟨S1024, .f32⟩ : BufTy).Contents (Elt Ideal)) (g : Fin 32768)
    (l : Fin 1024) :
    Cert.NsaProjReferenceIdeal.Read.val_main_v12 (F := Ideal) x0 x1 (ix2 g l) = normed (fun k => x0 (ix2 g k)) (fun k => x1 (ix1 k)) l := by
  open Cert.NsaProjReferenceIdeal.Read in
  have i1 : ∀ k, idx_main_v1 (idx_main_v2 (idx_main_v8 (ix2 g l))) k = ix2 g k := fun k => by
    funext a; apply Fin.ext; fin_cases a <;> rfl
  open Cert.NsaProjReferenceIdeal.Read in
  have i2 : idx_main_v10 (idx_main_v11 (ix2 g l)) = ix1 l := by
    funext a; apply Fin.ext; fin_cases a; rfl
  open Cert.NsaProjReferenceIdeal.Read in
  simp only [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply,
    val_main_cst_0_apply, val_main_cst_1_apply, i1, i2]
  show x0 (ix2 g l) * Ideal.rsqrt (Ideal.div (Ideal.ofBits FTy.f32 0#32 + ∑ k : Fin 1024, x0 (ix2 g k) * x0 (ix2 g k)) (Ideal.ofBits FTy.f32 0x44800000#32)
    + Ideal.ofBits FTy.f32 0x358637BD#32) * x1 (ix1 l) = _
  rw [zero, zero_add]
  rfl

/-- The reference at a row and a column. -/
theorem ref (x0 : (⟨S32768x1024, .f32⟩ : BufTy).Contents (Elt Ideal)) (x1 : (⟨S1024, .f32⟩ : BufTy).Contents (Elt Ideal))
    (x2 : (⟨S1024x3712, .f32⟩ : BufTy).Contents (Elt Ideal)) (g : Fin 32768) (n : Fin 3712) :
    Cert.NsaProjReferenceIdeal.Read.val_main_v13 (F := Ideal) x0 x1 x2 (ix2 g n) = proj (fun k => x0 (ix2 g k)) (fun k => x1 (ix1 k)) x2 n := by
  rw [Cert.NsaProjReferenceIdeal.Read.val_main_v13_apply]
  refine Finset.sum_congr rfl fun l _ => ?_
  have el : Cert.NsaProjReferenceIdeal.Read.lidx_main_v13 (ix2 g n) l = ix2 g l := by
    funext a; apply Fin.ext; fin_cases a <;> rfl
  have er : Cert.NsaProjReferenceIdeal.Read.ridx_main_v13 (ix2 g n) l = ix2 l n := by
    funext a; apply Fin.ext; fin_cases a <;> rfl
  rw [el, er, ref_normed]

/-- The reference returns, leaves its arguments and no counter raised. -/
theorem reference : Cert.quiescent_NsaProjReferenceIdeal := by
  intro m ρ _
  exact (θ_run Cert.NsaProjReferenceIdeal.defs _ _).mono (fun r h => ⟨fun c => (h c).2, sem_eq_zero_of_no_sems (by decide) r.2⟩)
    (Cert.NsaProjReferenceIdeal.Value.run (F := Ideal) m ρ)

/-- The exact kernel's result is the reference's. -/
theorem value : Cert.algebraic_NsaProjIdeal_NsaProjReferenceIdeal := by
  intro m ρ m' ρ' hpre hagree
  refine ⟨fun c => Cert.NsaProjReferenceIdeal.Read.val_main_v13 (F := Ideal) (m' ((c.tc : Thread _ _).loc Cert.NsaProjReferenceIdeal.main_arg0))
      (m' ((c.tc : Thread _ _).loc Cert.NsaProjReferenceIdeal.main_arg1)) (m' ((c.tc : Thread _ _).loc Cert.NsaProjReferenceIdeal.main_arg2)),
    (θ_run Cert.NsaProjIdeal.defs _ _).mono (fun r h c => ⟨(h c).1.trans ?_, (h c).2⟩) (Cert.NsaProjIdeal.Value.run_blocks (F := Ideal) m ρ),
    (θ_run Cert.NsaProjReferenceIdeal.defs _ _).mono (fun r h c => ⟨(h c).1.trans (Cert.NsaProjReferenceIdeal.Read.val_main_v13_eq (F := Ideal) _ _ _), (h c).2⟩)
      (Cert.NsaProjReferenceIdeal.Value.run (F := Ideal) m' ρ')⟩
  obtain ⟨h0, h1, h2⟩ := hagree c
  funext y
  obtain ⟨g, n, rfl⟩ : ∃ (g : Fin 32768) (n : Fin 3712), y = ix2 g n := ⟨y 0, y 1, eq_ix2 y⟩
  refine (out m c g n).trans ?_
  refine Eq.trans ?_ (ref _ _ _ g n).symm
  rw [h0, h1, h2]

end Cert.Layer.NsaProj
end
-- ==== Proof.PostLayer0.lean ====
/-
  Layer 0's call after its sublayer: what the kernel leaves in its output is the reference's value, from any arguments.
-/
module

public import proofs.«01_k».proof.Proof.Layer
public import proofs.«01_k».proof.Defs
public import proofs.«01_k».proof.Proof.Gen.Post0Ideal.Value
public import proofs.«01_k».proof.Proof.Gen.Post0ReferenceIdeal.Read
public import Idealize.ShloMosaic.Lib.Pipeline.ValueKit
public import Idealize.ShloMosaic.Lib.Quiescent

@[expose] public section

set_option maxRecDepth 16384

noncomputable section

namespace Cert.Layer.Post0

open Idealize.ShloMosaic Idealize.ShloMosaic.TcCoe Idealize.SL.Sem Cert.Post0Ideal Cert.Post0Ideal.Gen

/-- What the body stores, at an index. -/
theorem payAt (x0 x1 x2 : Vec Ideal S1024x1024 .f32) (x3 : Vec Ideal S1024x256 .f32) (x4 : Vec Ideal S1024x1024 .bf16) (x5 : Vec Ideal S1x1024 .f32)
    (x6 : Vec Ideal S1024x1024 .bf16) (x7 : Vec Ideal S256x1024 .bf16) (r c : Fin 1024) :
    (k0_pay1 (F := Ideal) x2 x1 x0 x4 x5 x6 x3 x7 (ix2 r c) : EReal)
      = Layer.post (fun l => x0 (ix2 r l)) (fun l => x1 (ix2 r l)) (fun l => x2 (ix2 r l)) (fun l => x5 (ix2 0 l)) (fun l => x3 (ix2 r l)) x4 x6 x7 c :=
  Layer.gatedAt _ _ _ _ _ _ _ _ _ _ _ _ _ _ x5 x3 x6 x7 r c _ (fun k => Layer.joinedAt _ _ _ x0 x1 x2 x4 r k)

/-- The block the body leaves. -/
theorem block_eq (x0 x1 x2 : Vec Ideal S1024x1024 .f32) (x3 : Vec Ideal S1024x256 .f32) (x4 : Vec Ideal S1024x1024 .bf16) (x5 : Vec Ideal S1x1024 .f32)
    (x6 : Vec Ideal S1024x1024 .bf16) (x7 : Vec Ideal S256x1024 .bf16) (y : S1024x1024.Idx) :
    (out0_8 (F := Ideal) x0 x1 x2 x3 x4 x5 x6 x7 y : EReal) = k0_pay1 (F := Ideal) x2 x1 x0 x4 x5 x6 x3 x7 y := by
  unfold out0_8
  refine View.canon_apply_of_pieces (Val := Elt Ideal) (e := .f32) (k0_pay1 (F := Ideal) x2 x1 x0 x4 x5 x6 x3 x7) _ ?_ y (cover0_8 _ y)
  intro p hp
  simp only [List.mem_cons, List.not_mem_nil, or_false] at hp
  subst hp
  intro x
  have hx : r0_0.emb x = x := by
    funext a; apply Fin.ext
    fin_cases a
    · show 0 + 1 * (x 0).val = (x 0).val; omega
    · show 0 + 1 * (x 1).val = (x 1).val; omega
  refine Eq.trans ?_ (congrArg (k0_pay1 (F := Ideal) x2 x1 x0 x4 x5 x6 x3 x7) hx.symm)
  have l2 : View.ld x2 r0_0 = x2 := View.ld_unit_zero (by funext a; fin_cases a <;> rfl) _ x2
  have l1 : View.ld x1 r0_0 = x1 := View.ld_unit_zero (by funext a; fin_cases a <;> rfl) _ x1
  have l0 : View.ld x0 r0_0 = x0 := View.ld_unit_zero (by funext a; fin_cases a <;> rfl) _ x0
  have l4 : View.ld x4 r0_0 = x4 := View.ld_unit_zero (by funext a; fin_cases a <;> rfl) _ x4
  have l5 : View.ld x5 r0_1 = x5 := View.ld_unit_zero (by funext a; fin_cases a <;> rfl) _ x5
  have l6 : View.ld x6 r0_0 = x6 := View.ld_unit_zero (by funext a; fin_cases a <;> rfl) _ x6
  have l3 : View.ld x3 r0_2 = x3 := View.ld_unit_zero (by funext a; fin_cases a <;> rfl) _ x3
  have l7 : View.ld x7 r0_3 = x7 := View.ld_unit_zero (by funext a; fin_cases a <;> rfl) _ x7
  dsimp only
  rw [l0, l1, l2, l3, l4, l5, l6, l7]

variable (m : (ℓ : Loc nD τ sig) → Buf (Elt Ideal) ℓ)

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![(grid0.coords t 0).val, 3] :=
  (by decide +kernel : ∀ t : Fin grid0.N, win0_2.index t = ![(grid0.coords t 0).val, 3])
theorem index3 : ∀ t : Fin cfg0.N, win0_3.index t = ![(grid0.coords t 0).val, 0] :=
  (by decide +kernel : ∀ t : Fin grid0.N, win0_3.index t = ![(grid0.coords t 0).val, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![(grid0.coords t 0).val, 0] :=
  (by decide +kernel : ∀ t : Fin grid0.N, win0_8.index t = ![(grid0.coords t 0).val, 0])
theorem point (b : Fin 32) : ∃ t : Fin cfg0.N, (grid0.coords t 0).val = b.val :=
  (by decide +kernel : ∀ b : Fin 32, ∃ t : Fin grid0.N, (grid0.coords t 0).val = b.val) b

/-- Argument 4 as the region finds it. -/
theorem V_main_v0 (c : Dev nD) : V m c main_v0 = m ((c : Thread nD τ).loc main_arg4) := by
  simp [V, hostOps0, StableHlo.after]
  exact StableHlo.unary_result main_arg4 main_v0 (fun x => x) _ _ (fun b => m (c, b))

/-- Argument 6 as the region finds it. -/
theorem V_main_v2 (c : Dev nD) : V m c main_v2 = m ((c : Thread nD τ).loc main_arg6) := by
  simp [V, hostOps0, StableHlo.after]
  exact StableHlo.unary_result main_arg6 main_v2 (fun x => x) _ _ (fun b => m (c, b))

/-- Argument 7 as the region finds it. -/
theorem V_main_v3 (c : Dev nD) : V m c main_v3 = m ((c : Thread nD τ).loc main_arg7) := by
  simp [V, hostOps0, StableHlo.after]
  exact StableHlo.unary_result main_arg7 main_v3 (fun x => x) _ _ (fun b => m (c, b))

/-- The gain as the region finds it. -/
theorem V_main_v1 (c : Dev nD) (l : Fin 1024) : V m c main_v1 (ix2 0 l) = m ((c : Thread nD τ).loc main_arg5) (ix1 l) := by
  have e : V m c main_v1 = shapeCast S1x1024 (m ((c : Thread nD τ).loc main_arg5)) shapeCasts_S1024_S1x1024 := by
    simp [V, hostOps0, StableHlo.after]
    exact StableHlo.reshape_result main_arg5 main_v1 rfl shapeCasts_S1024_S1x1024 _ _ (fun b => m (c, b))
  rw [e]
  generalize m ((c : Thread nD τ).loc main_arg5) = x
  pointwise

/-- The output array at a row and a column. -/
theorem out (c : Dev nD) (g : Fin 32768) (n : Fin 1024) :
    (dats m 0 c).arrAt 8 cfg0.N (ix2 g n)
      = post (fun l => m ((c : Thread nD τ).loc main_arg0) (ix2 g l)) (fun l => m ((c : Thread nD τ).loc main_arg1) (ix2 g l))
          (fun l => m ((c : Thread nD τ).loc main_arg2) (ix2 g ⟨3072 + l.val, by omega⟩)) (fun l => m ((c : Thread nD τ).loc main_arg5) (ix1 l))
          (fun l => m ((c : Thread nD τ).loc main_arg3) (ix2 ⟨0 + g.val, by omega⟩ l)) (m ((c : Thread nD τ).loc main_arg4)) (m ((c : Thread nD τ).loc main_arg6))
          (m ((c : Thread nD τ).loc main_arg7)) n := by
  obtain ⟨b, r, hg⟩ : ∃ (b : Fin 32) (r : Fin 1024), g.val = b.val * 1024 + r.val :=
    ⟨⟨g.val / 1024, by omega⟩, ⟨g.val % 1024, by omega⟩, by show g.val = g.val / 1024 * 1024 + g.val % 1024; omega⟩
  obtain ⟨t, hb⟩ := point b
  have h := congrFun (Value.blocks8 m c t (flush0_8 t)) (ix2 r n)
  blk_simp at h
  rw [after0_8] at h
  have he : (win0_8.blk t).view.emb (ix2 r n) = (ix2 g n : S32768x1024.Idx) := by
    funext a
    apply Fin.ext
    fin_cases a
    · show win0_8.index t 0 * 1024 + 1 * r.val = g.val
      rw [index8]
      show (grid0.coords t 0).val * 1024 + 1 * r.val = g.val
      omega
    · show win0_8.index t 1 * 1024 + 1 * n.val = n.val
      rw [index8]
      show 0 * 1024 + 1 * n.val = n.val
      omega
  rw [he] at h
  refine h.trans ?_
  rw [block_eq, payAt]
  have e0 : ∀ l : Fin 1024, iblk m c 0 t (ix2 r l) = m ((c : Thread nD τ).loc main_arg0) (ix2 g l) := fun l => by
    refine (congrFun (V_main_arg0 m c) ((win0_0.blk t).view.emb (ix2 r l))).trans (congrArg (m ((c : Thread nD τ).loc main_arg0)) ?_)
    funext a
    apply Fin.ext
    fin_cases a
    · show win0_0.index t 0 * 1024 + 1 * r.val = g.val
      rw [index0]
      show (grid0.coords t 0).val * 1024 + 1 * r.val = g.val
      omega
    · show win0_0.index t 1 * 1024 + 1 * l.val = l.val
      rw [index0]
      show 0 * 1024 + 1 * l.val = l.val
      omega
  have e1 : ∀ l : Fin 1024, iblk m c 1 t (ix2 r l) = m ((c : Thread nD τ).loc main_arg1) (ix2 g l) := fun l => by
    refine (congrFun (V_main_arg1 m c) ((win0_1.blk t).view.emb (ix2 r l))).trans (congrArg (m ((c : Thread nD τ).loc main_arg1)) ?_)
    funext a
    apply Fin.ext
    fin_cases a
    · show win0_1.index t 0 * 1024 + 1 * r.val = g.val
      rw [index1]
      show (grid0.coords t 0).val * 1024 + 1 * r.val = g.val
      omega
    · show win0_1.index t 1 * 1024 + 1 * l.val = l.val
      rw [index1]
      show 0 * 1024 + 1 * l.val = l.val
      omega
  have e2 : ∀ l : Fin 1024, iblk m c 2 t (ix2 r l) = m ((c : Thread nD τ).loc main_arg2) (ix2 g ⟨3072 + l.val, by omega⟩) := fun l => by
    refine (congrFun (V_main_arg2 m c) ((win0_2.blk t).view.emb (ix2 r l))).trans (congrArg (m ((c : Thread nD τ).loc main_arg2)) ?_)
    funext a
    apply Fin.ext
    fin_cases a
    · show win0_2.index t 0 * 1024 + 1 * r.val = g.val
      rw [index2]
      show (grid0.coords t 0).val * 1024 + 1 * r.val = g.val
      omega
    · show win0_2.index t 1 * 1024 + 1 * l.val = 3072 + l.val
      rw [index2]
      show 3 * 1024 + 1 * l.val = 3072 + l.val
      omega
  have e3 : ∀ l : Fin 256, iblk m c 3 t (ix2 r l) = m ((c : Thread nD τ).loc main_arg3) (ix2 ⟨0 + g.val, by omega⟩ l) := fun l => by
    refine (congrFun (V_main_arg3 m c) ((win0_3.blk t).view.emb (ix2 r l))).trans (congrArg (m ((c : Thread nD τ).loc main_arg3)) ?_)
    funext a
    apply Fin.ext
    fin_cases a
    · show win0_3.index t 0 * 1024 + 1 * r.val = 0 + g.val
      rw [index3]
      show ((grid0.coords t 0).val) * 1024 + 1 * r.val = 0 + g.val
      omega
    · show win0_3.index t 1 * 256 + 1 * l.val = l.val
      rw [index3]
      show 0 * 256 + 1 * l.val = l.val
      omega
  have e5 : ∀ l : Fin 1024, iblk m c 5 t (ix2 0 l) = m ((c : Thread nD τ).loc main_arg5) (ix1 l) := fun l => by
    refine Eq.trans (congrArg (V m c main_v1) ?_) (V_main_v1 m c l)
    funext a
    apply Fin.ext
    fin_cases a
    · show win0_5.index t 0 * 1 + 1 * 0 = 0
      rw [index5]
      rfl
    · show win0_5.index t 1 * 1024 + 1 * l.val = l.val
      rw [index5]
      show 0 * 1024 + 1 * l.val = l.val
      omega
  have e4 : iblk m c 4 t = m ((c : Thread nD τ).loc main_arg4) := by
    funext y
    refine (congrFun (V_main_v0 m c) ((win0_4.blk t).view.emb y)).trans (congrArg (m ((c : Thread nD τ).loc main_arg4)) ?_)
    funext a
    apply Fin.ext
    fin_cases a
    · show win0_4.index t 0 * 1024 + 1 * (y 0 : Fin 1024).val = (y 0 : Fin 1024).val
      rw [index4]
      show 0 * 1024 + 1 * (y 0 : Fin 1024).val = (y 0 : Fin 1024).val
      omega
    · show win0_4.index t 1 * 1024 + 1 * (y 1 : Fin 1024).val = (y 1 : Fin 1024).val
      rw [index4]
      show 0 * 1024 + 1 * (y 1 : Fin 1024).val = (y 1 : Fin 1024).val
      omega
  have e6 : iblk m c 6 t = m ((c : Thread nD τ).loc main_arg6) := by
    funext y
    refine (congrFun (V_main_v2 m c) ((win0_6.blk t).view.emb y)).trans (congrArg (m ((c : Thread nD τ).loc main_arg6)) ?_)
    funext a
    apply Fin.ext
    fin_cases a
    · show win0_6.index t 0 * 1024 + 1 * (y 0 : Fin 1024).val = (y 0 : Fin 1024).val
      rw [index6]
      show 0 * 1024 + 1 * (y 0 : Fin 1024).val = (y 0 : Fin 1024).val
      omega
    · show win0_6.index t 1 * 1024 + 1 * (y 1 : Fin 1024).val = (y 1 : Fin 1024).val
      rw [index6]
      show 0 * 1024 + 1 * (y 1 : Fin 1024).val = (y 1 : Fin 1024).val
      omega
  have e7 : iblk m c 7 t = m ((c : Thread nD τ).loc main_arg7) := by
    funext y
    refine (congrFun (V_main_v3 m c) ((win0_7.blk t).view.emb y)).trans (congrArg (m ((c : Thread nD τ).loc main_arg7)) ?_)
    funext a
    apply Fin.ext
    fin_cases a
    · show win0_7.index t 0 * 256 + 1 * (y 0 : Fin 256).val = (y 0 : Fin 256).val
      rw [index7]
      show 0 * 256 + 1 * (y 0 : Fin 256).val = (y 0 : Fin 256).val
      omega
    · show win0_7.index t 1 * 1024 + 1 * (y 1 : Fin 1024).val = (y 1 : Fin 1024).val
      rw [index7]
      show 0 * 1024 + 1 * (y 1 : Fin 1024).val = (y 1 : Fin 1024).val
      omega
  rw [e4, e6, e7]
  simp only [e0, e1, e2, e3, e5]

/-- The reference's gated mix. -/
theorem ref_mix (x1 : (⟨S32768x1024, .f32⟩ : BufTy).Contents (Elt Ideal)) (x2 : (⟨S32768x4096, .f32⟩ : BufTy).Contents (Elt Ideal)) (g : Fin 32768) (l : Fin 1024) :
    Cert.Post0ReferenceIdeal.Read.val_main_v3 (F := Ideal) x1 x2 (ix2 g l)
      = x1 (ix2 g l) * (x2 (ix2 g ⟨3072 + l.val, by omega⟩) * Ideal.logistic (x2 (ix2 g ⟨3072 + l.val, by omega⟩))) := by
  open Cert.Post0ReferenceIdeal.Read in
  have i0 : idx_main_v0 (ix2 g l) = ix2 g ⟨3072 + l.val, by omega⟩ := by
    funext a; apply Fin.ext; fin_cases a <;> rfl
  open Cert.Post0ReferenceIdeal.Read in
  simp only [val_main_v3_apply, val_main_v2_apply, val_main_v0_apply, val_main_call0_v5_apply, val_main_call0_v4_apply, val_main_call0_cst_0_apply,
    val_main_call0_v3_apply, val_main_call0_v2_apply, val_main_call0_cst_apply, val_main_call0_v1_apply, val_main_call0_v0_apply, i0]
  generalize x2 (ix2 g ⟨3072 + l.val, by omega⟩) = z
  show x1 (ix2 g l) * (z * Ideal.div (Ideal.ofBits FTy.f32 0x3F800000#32) (Ideal.ofBits FTy.f32 0x3F800000#32 + Ideal.exp (-z))) = _
  rw [one]
  rfl

/-- The reference's rows after the sublayer. -/
theorem ref_joined (x0 x1 : (⟨S32768x1024, .f32⟩ : BufTy).Contents (Elt Ideal)) (x2 : (⟨S32768x4096, .f32⟩ : BufTy).Contents (Elt Ideal)) (x4 : (⟨S1024x1024, .f32⟩ : BufTy).Contents (Elt Ideal))
    (g : Fin 32768) (k : Fin 1024) :
    Cert.Post0ReferenceIdeal.Read.val_main_v5 (F := Ideal) x0 x1 x2 x4 (ix2 g k)
      = joined (fun l => x0 (ix2 g l)) (fun l => x1 (ix2 g l)) (fun l => x2 (ix2 g ⟨3072 + l.val, by omega⟩)) x4 k := by
  rw [Cert.Post0ReferenceIdeal.Read.val_main_v5_apply, Cert.Post0ReferenceIdeal.Read.val_main_v4_apply]
  refine congrArg (fun e : EReal => (x0 (ix2 g k) : EReal) + e) (Finset.sum_congr rfl fun l _ => ?_)
  have el : Cert.Post0ReferenceIdeal.Read.lidx_main_v4 (ix2 g k) l = ix2 g l := by
    funext a; apply Fin.ext; fin_cases a <;> rfl
  have er : Cert.Post0ReferenceIdeal.Read.ridx_main_v4 (ix2 g k) l = ix2 l k := by
    funext a; apply Fin.ext; fin_cases a <;> rfl
  rw [el, er, ref_mix]

/-- The reference's normalised rows. -/
theorem ref_normed (x0 x1 : (⟨S32768x1024, .f32⟩ : BufTy).Contents (Elt Ideal)) (x2 : (⟨S32768x4096, .f32⟩ : BufTy).Contents (Elt Ideal)) (x4 : (⟨S1024x1024, .f32⟩ : BufTy).Contents (Elt Ideal))
    (x5 : (⟨S1024, .f32⟩ : BufTy).Contents (Elt Ideal)) (g : Fin 32768) (l : Fin 1024) :
    Cert.Post0ReferenceIdeal.Read.val_main_v18 (F := Ideal) x0 x1 x2 x4 x5 (ix2 g l)
      = normed (joined (fun l => x0 (ix2 g l)) (fun l => x1 (ix2 g l)) (fun l => x2 (ix2 g ⟨3072 + l.val, by omega⟩)) x4) (fun k => x5 (ix1 k)) l := by
  open Cert.Post0ReferenceIdeal.Read in
  have i1 : ∀ k, idx_main_v7 (idx_main_v8 (idx_main_v14 (ix2 g l))) k = ix2 g k := fun k => by
    funext a; apply Fin.ext; fin_cases a <;> rfl
  open Cert.Post0ReferenceIdeal.Read in
  have i2 : idx_main_v16 (idx_main_v17 (ix2 g l)) = ix1 l := by
    funext a; apply Fin.ext; fin_cases a; rfl
  open Cert.Post0ReferenceIdeal.Read in
  simp only [val_main_v18_apply, val_main_v17_apply, val_main_v16_apply, val_main_v15_apply, val_main_v14_apply, val_main_v13_apply, val_main_v12_apply,
    val_main_v11_apply, val_main_v10_apply, val_main_v9_apply, val_main_v8_apply, val_main_v7_apply, val_main_v6_apply, val_main_cst_apply,
    val_main_cst_0_apply, val_main_cst_1_apply, i1, i2, ref_joined]
  generalize joined (fun l => x0 (ix2 g l)) (fun l => x1 (ix2 g l)) (fun l => x2 (ix2 g ⟨3072 + l.val, by omega⟩)) x4 = h
  show h l * Ideal.rsqrt (Ideal.div (Ideal.ofBits FTy.f32 0#32 + ∑ k : Fin 1024, h k * h k) (Ideal.ofBits FTy.f32 0x44800000#32)
    + Ideal.ofBits FTy.f32 0x358637BD#32) * x5 (ix1 l) = _
  rw [zero, zero_add]
  rfl

/-- The reference at a row and a column. -/
theorem ref (x0 x1 : (⟨S32768x1024, .f32⟩ : BufTy).Contents (Elt Ideal)) (x2 : (⟨S32768x4096, .f32⟩ : BufTy).Contents (Elt Ideal)) (x3 : (⟨S131072x256, .f32⟩ : BufTy).Contents (Elt Ideal))
    (x4 : (⟨S1024x1024, .f32⟩ : BufTy).Contents (Elt Ideal)) (x5 : (⟨S1024, .f32⟩ : BufTy).Contents (Elt Ideal)) (x6 : (⟨S1024x1024, .f32⟩ : BufTy).Contents (Elt Ideal))
    (x7 : (⟨S256x1024, .f32⟩ : BufTy).Contents (Elt Ideal)) (g : Fin 32768) (n : Fin 1024) :
    Cert.Post0ReferenceIdeal.Read.val_main_v28 (F := Ideal) x0 x1 x2 x3 x4 x5 x6 x7 (ix2 g n)
      = post (fun l => x0 (ix2 g l)) (fun l => x1 (ix2 g l)) (fun l => x2 (ix2 g ⟨3072 + l.val, by omega⟩)) (fun l => x5 (ix1 l))
          (fun l => x3 (ix2 ⟨0 + g.val, by omega⟩ l)) x4 x6 x7 n := by
  have e26 : Cert.Post0ReferenceIdeal.Read.val_main_v26 (F := Ideal) x3 x7 (ix2 g n) = ∑ l : Fin 256, x3 (ix2 ⟨0 + g.val, by omega⟩ l) * x7 (ix2 l n) := by
    rw [Cert.Post0ReferenceIdeal.Read.val_main_v26_apply]
    refine Finset.sum_congr rfl fun l _ => ?_
    have el : Cert.Post0ReferenceIdeal.Read.idx_main_v1 (Cert.Post0ReferenceIdeal.Read.lidx_main_v26 (ix2 g n) l) = ix2 ⟨0 + g.val, by omega⟩ l := by
      funext a; apply Fin.ext; fin_cases a
      · show g.val = 0 + g.val; omega
      · rfl
    have er : Cert.Post0ReferenceIdeal.Read.ridx_main_v26 (ix2 g n) l = ix2 l n := by
      funext a; apply Fin.ext; fin_cases a <;> rfl
    rw [Cert.Post0ReferenceIdeal.Read.val_main_v1_apply, el, er]
  have e19 : Cert.Post0ReferenceIdeal.Read.val_main_v19 (F := Ideal) x0 x1 x2 x4 x5 x6 (ix2 g n)
      = ∑ l : Fin 1024, normed (joined (fun l => x0 (ix2 g l)) (fun l => x1 (ix2 g l)) (fun l => x2 (ix2 g ⟨3072 + l.val, by omega⟩)) x4) (fun k => x5 (ix1 k)) l * x6 (ix2 l n) := by
    rw [Cert.Post0ReferenceIdeal.Read.val_main_v19_apply]
    refine Finset.sum_congr rfl fun l _ => ?_
    have el : Cert.Post0ReferenceIdeal.Read.lidx_main_v19 (ix2 g n) l = ix2 g l := by
      funext a; apply Fin.ext; fin_cases a <;> rfl
    have er : Cert.Post0ReferenceIdeal.Read.ridx_main_v19 (ix2 g n) l = ix2 l n := by
      funext a; apply Fin.ext; fin_cases a <;> rfl
    rw [el, er, ref_normed]
  open Cert.Post0ReferenceIdeal.Read in
  simp only [val_main_v28_apply, val_main_v27_apply, val_main_v25_apply, val_main_v24_apply, val_main_cst_3_apply, val_main_v23_apply,
    val_main_v22_apply, val_main_cst_2_apply, val_main_v21_apply, val_main_v20_apply, e26, e19, ref_joined]
  unfold post
  generalize joined (fun l => x0 (ix2 g l)) (fun l => x1 (ix2 g l)) (fun l => x2 (ix2 g ⟨3072 + l.val, by omega⟩)) x4 n = h
  generalize ∑ l : Fin 256, x3 (ix2 ⟨0 + g.val, _⟩ l) * x7 (ix2 l n) = q
  generalize (∑ l : Fin 1024, normed (joined (fun l => x0 (ix2 g l)) (fun l => x1 (ix2 g l)) (fun l => x2 (ix2 g ⟨3072 + l.val, by omega⟩)) x4) (fun k => x5 (ix1 k)) l * x6 (ix2 l n)) = u
  show h + Ideal.div (Ideal.ofBits FTy.f32 0x3F800000#32) (Ideal.ofBits FTy.f32 0x3F800000#32 + Ideal.exp (-u)) * q = _
  rw [one]
  rfl

/-- The reference returns, leaves its arguments and no counter raised. -/
theorem reference : Cert.quiescent_Post0ReferenceIdeal := by
  intro m ρ _
  exact (θ_run Cert.Post0ReferenceIdeal.defs _ _).mono (fun r h => ⟨fun c => (h c).2, sem_eq_zero_of_no_sems (by decide) r.2⟩)
    (Cert.Post0ReferenceIdeal.Value.run (F := Ideal) m ρ)

/-- The exact kernel's result is the reference's. -/
theorem value : Cert.algebraic_Post0Ideal_Post0ReferenceIdeal := by
  intro m ρ m' ρ' hpre hagree
  refine ⟨fun c => Cert.Post0ReferenceIdeal.Read.val_main_v28 (F := Ideal) (m' ((c.tc : Thread _ _).loc Cert.Post0ReferenceIdeal.main_arg0))
      (m' ((c.tc : Thread _ _).loc Cert.Post0ReferenceIdeal.main_arg1)) (m' ((c.tc : Thread _ _).loc Cert.Post0ReferenceIdeal.main_arg2))
      (m' ((c.tc : Thread _ _).loc Cert.Post0ReferenceIdeal.main_arg3)) (m' ((c.tc : Thread _ _).loc Cert.Post0ReferenceIdeal.main_arg4))
      (m' ((c.tc : Thread _ _).loc Cert.Post0ReferenceIdeal.main_arg5)) (m' ((c.tc : Thread _ _).loc Cert.Post0ReferenceIdeal.main_arg6))
      (m' ((c.tc : Thread _ _).loc Cert.Post0ReferenceIdeal.main_arg7)),
    (θ_run Cert.Post0Ideal.defs _ _).mono (fun r h c => ⟨(h c).1.trans ?_, (h c).2⟩) (Cert.Post0Ideal.Value.run_blocks (F := Ideal) m ρ),
    (θ_run Cert.Post0ReferenceIdeal.defs _ _).mono (fun r h c => ⟨(h c).1.trans (Cert.Post0ReferenceIdeal.Read.val_main_v28_eq (F := Ideal) _ _ _ _ _ _ _ _), (h c).2⟩)
      (Cert.Post0ReferenceIdeal.Value.run (F := Ideal) m' ρ')⟩
  obtain ⟨h0, h1, h2, h3, h4, h5, h6, h7⟩ := hagree c
  funext y
  obtain ⟨g, n, rfl⟩ : ∃ (g : Fin 32768) (n : Fin 1024), y = ix2 g n := ⟨y 0, y 1, eq_ix2 y⟩
  refine (out m c g n).trans ?_
  refine Eq.trans ?_ (ref _ _ _ _ _ _ _ _ g n).symm
  rw [h0, h1, h2, h3, h4, h5, h6, h7]

end Cert.Layer.Post0
end
-- ==== Proof.PostLayer1.lean ====
/-
  Layer 1's call after its sublayer: what the kernel leaves in its output is the reference's value, from any arguments.
-/
module

public import proofs.«01_k».proof.Proof.Layer
public import proofs.«01_k».proof.Defs
public import proofs.«01_k».proof.Proof.Gen.Post1Ideal.Value
public import proofs.«01_k».proof.Proof.Gen.Post1ReferenceIdeal.Read
public import Idealize.ShloMosaic.Lib.Pipeline.ValueKit
public import Idealize.ShloMosaic.Lib.Quiescent

@[expose] public section

set_option maxRecDepth 16384

noncomputable section

namespace Cert.Layer.Post1

open Idealize.ShloMosaic Idealize.ShloMosaic.TcCoe Idealize.SL.Sem Cert.Post1Ideal Cert.Post1Ideal.Gen

/-- What the body stores, at an index. -/
theorem payAt (x0 x1 x2 : Vec Ideal S1024x1024 .f32) (x3 : Vec Ideal S1024x256 .f32) (x4 : Vec Ideal S1024x1024 .bf16) (x5 : Vec Ideal S1x1024 .f32)
    (x6 : Vec Ideal S1024x1024 .bf16) (x7 : Vec Ideal S256x1024 .bf16) (r c : Fin 1024) :
    (k0_pay1 (F := Ideal) x2 x1 x0 x4 x5 x6 x3 x7 (ix2 r c) : EReal)
      = Layer.post (fun l => x0 (ix2 r l)) (fun l => x1 (ix2 r l)) (fun l => x2 (ix2 r l)) (fun l => x5 (ix2 0 l)) (fun l => x3 (ix2 r l)) x4 x6 x7 c :=
  Layer.gatedAt _ _ _ _ _ _ _ _ _ _ _ _ _ _ x5 x3 x6 x7 r c _ (fun k => Layer.joinedAt _ _ _ x0 x1 x2 x4 r k)

/-- The block the body leaves. -/
theorem block_eq (c : Dev nD) (i : grid0.Coords)
    (arg1 : Memref sig .tc .vmem S1024x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x256 .f32) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1024x1024 .bf16) (harg7 : arg7.IsWhole)
    (arg8 : Memref sig .tc .vmem S256x1024 .bf16) (harg8 : arg8.IsWhole)
    (arg9 : Memref sig .tc .vmem S1024x1024 .f32) (harg9 : arg9.IsWhole)
    (x0 x1 x2 : Vec Ideal S1024x1024 .f32) (x3 : Vec Ideal S1024x256 .f32) (x4 : Vec Ideal S1024x1024 .bf16) (x5 : Vec Ideal S1x1024 .f32)
    (x6 : Vec Ideal S1024x1024 .bf16) (x7 : Vec Ideal S256x1024 .bf16) (y : S1024x1024.Idx) :
    out0_A_8 (F := Ideal) c i arg1 harg1 arg2 harg2 arg3 harg3 arg4 harg4 arg5 harg5 arg6 harg6 arg7 harg7 arg8 harg8 arg9 harg9 x0 x1 x2 x3 x4 x5 x6 x7 y
      = k0_pay1 (F := Ideal) x2 x1 x0 x4 x5 x6 x3 x7 y := by
  have hc := cover0_A_8 (F := Ideal) c i arg1 harg1 arg2 harg2 arg3 harg3 arg4 harg4 arg5 harg5 arg6 harg6 arg7 harg7 arg8 harg8 arg9 harg9 x0 x1 x2 x3 x4 x5 x6 x7
  unfold out0_A_8
  rw [View.read_writes_eq_canon _ _ _ hc]
  refine View.canon_apply_of_pieces (k0_pay1 (F := Ideal) x2 x1 x0 x4 x5 x6 x3 x7) _ ?_ y (hc y)
  unfold kernelRun0_A
  dsimp only
  intro p hp
  simp only [List.mem_cons, List.not_mem_nil, or_false] at hp
  subst hp
  intro x
  have hx : (Rect.unit (s := S1024x1024) ![0, 0] S1024x1024.size inb_S1024x1024_S1024x1024_0_0).emb x = x := by
    funext a; apply Fin.ext
    fin_cases a
    · show 0 + 1 * (x 0).val = (x 0).val; omega
    · show 0 + 1 * (x 1).val = (x 1).val; omega
  refine Eq.trans ?_ (congrArg (k0_pay1 (F := Ideal) x2 x1 x0 x4 x5 x6 x3 x7) hx.symm)
  have l2 : View.readAt (Elt Ideal) arg3.view (Rect.unit (s := S1024x1024) ![0, 0] S1024x1024.size inb_S1024x1024_S1024x1024_0_0).toLoadRect (harg3.unread x2) = x2 := by
    rw [View.readAt_eq_ld, harg3.read_unread, View.ld_unit_zero (by funext a; fin_cases a <;> rfl)]
  have l1 : View.readAt (Elt Ideal) arg2.view (Rect.unit (s := S1024x1024) ![0, 0] S1024x1024.size inb_S1024x1024_S1024x1024_0_0).toLoadRect (harg2.unread x1) = x1 := by
    rw [View.readAt_eq_ld, harg2.read_unread, View.ld_unit_zero (by funext a; fin_cases a <;> rfl)]
  have l0 : View.readAt (Elt Ideal) arg1.view (Rect.unit (s := S1024x1024) ![0, 0] S1024x1024.size inb_S1024x1024_S1024x1024_0_0).toLoadRect (harg1.unread x0) = x0 := by
    rw [View.readAt_eq_ld, harg1.read_unread, View.ld_unit_zero (by funext a; fin_cases a <;> rfl)]
  have l4 : View.readAt (Elt Ideal) arg5.view (Rect.unit (s := S1024x1024) ![0, 0] S1024x1024.size inb_S1024x1024_S1024x1024_0_0).toLoadRect (harg5.unread x4) = x4 := by
    rw [View.readAt_eq_ld, harg5.read_unread, View.ld_unit_zero (by funext a; fin_cases a <;> rfl)]
  have l5 : View.readAt (Elt Ideal) arg6.view (Rect.unit (s := S1x1024) ![0, 0] S1x1024.size inb_S1x1024_S1x1024_0_0).toLoadRect (harg6.unread x5) = x5 := by
    rw [View.readAt_eq_ld, harg6.read_unread, View.ld_unit_zero (by funext a; fin_cases a <;> rfl)]
  have l6 : View.readAt (Elt Ideal) arg7.view (Rect.unit (s := S1024x1024) ![0, 0] S1024x1024.size inb_S1024x1024_S1024x1024_0_0).toLoadRect (harg7.unread x6) = x6 := by
    rw [View.readAt_eq_ld, harg7.read_unread, View.ld_unit_zero (by funext a; fin_cases a <;> rfl)]
  have l3 : View.readAt (Elt Ideal) arg4.view (Rect.unit (s := S1024x256) ![0, 0] S1024x256.size inb_S1024x256_S1024x256_0_0).toLoadRect (harg4.unread x3) = x3 := by
    rw [View.readAt_eq_ld, harg4.read_unread, View.ld_unit_zero (by funext a; fin_cases a <;> rfl)]
  have l7 : View.readAt (Elt Ideal) arg8.view (Rect.unit (s := S256x1024) ![0, 0] S256x1024.size inb_S256x1024_S256x1024_0_0).toLoadRect (harg8.unread x7) = x7 := by
    rw [View.readAt_eq_ld, harg8.read_unread, View.ld_unit_zero (by funext a; fin_cases a <;> rfl)]
  show kernelRun0_A.sl.r (F := Ideal) c arg1 harg1 arg2 harg2 arg3 harg3 arg4 harg4 arg5 harg5 arg6 harg6 arg7 harg7 arg8 harg8 x0 x1 x2 x3 x4 x5 x6 x7 x = _
  unfold kernelRun0_A.sl.r
  rw [l0, l1, l2, l3, l4, l5, l6, l7]

variable (m : (ℓ : Loc nD τ sig) → Buf (Elt Ideal) ℓ)

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![(grid0.coords t 0).val, 1] :=
  (by decide +kernel : ∀ t : Fin grid0.N, win0_2.index t = ![(grid0.coords t 0).val, 1])
theorem index3 : ∀ t : Fin cfg0.N, win0_3.index t = ![(grid0.coords t 0).val + 32, 0] :=
  (by decide +kernel : ∀ t : Fin grid0.N, win0_3.index t = ![(grid0.coords t 0).val + 32, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![(grid0.coords t 0).val, 0] :=
  (by decide +kernel : ∀ t : Fin grid0.N, win0_8.index t = ![(grid0.coords t 0).val, 0])
theorem point (b : Fin 32) : ∃ t : Fin cfg0.N, (grid0.coords t 0).val = b.val :=
  (by decide +kernel : ∀ b : Fin 32, ∃ t : Fin grid0.N, (grid0.coords t 0).val = b.val) b

/-- Argument 4 as the region finds it. -/
theorem V_main_v0 (c : Dev nD) : V m c main_v0 = m ((c : Thread nD τ).loc main_arg4) := by
  simp [V, hostOps0, StableHlo.after]
  exact StableHlo.unary_result main_arg4 main_v0 (fun x => x) _ _ (fun b => m (c, b))

/-- Argument 6 as the region finds it. -/
theorem V_main_v2 (c : Dev nD) : V m c main_v2 = m ((c : Thread nD τ).loc main_arg6) := by
  simp [V, hostOps0, StableHlo.after]
  exact StableHlo.unary_result main_arg6 main_v2 (fun x => x) _ _ (fun b => m (c, b))

/-- Argument 7 as the region finds it. -/
theorem V_main_v3 (c : Dev nD) : V m c main_v3 = m ((c : Thread nD τ).loc main_arg7) := by
  simp [V, hostOps0, StableHlo.after]
  exact StableHlo.unary_result main_arg7 main_v3 (fun x => x) _ _ (fun b => m (c, b))

/-- The gain as the region finds it. -/
theorem V_main_v1 (c : Dev nD) (l : Fin 1024) : V m c main_v1 (ix2 0 l) = m ((c : Thread nD τ).loc main_arg5) (ix1 l) := by
  have e : V m c main_v1 = shapeCast S1x1024 (m ((c : Thread nD τ).loc main_arg5)) shapeCasts_S1024_S1x1024 := by
    simp [V, hostOps0, StableHlo.after]
    exact StableHlo.reshape_result main_arg5 main_v1 rfl shapeCasts_S1024_S1x1024 _ _ (fun b => m (c, b))
  rw [e]
  generalize m ((c : Thread nD τ).loc main_arg5) = x
  pointwise

/-- The output array at a row and a column. -/
theorem out (c : Dev nD) (g : Fin 32768) (n : Fin 1024) :
    (dats m 0 c).arrAt 8 cfg0.N (ix2 g n)
      = post (fun l => m ((c : Thread nD τ).loc main_arg0) (ix2 g l)) (fun l => m ((c : Thread nD τ).loc main_arg1) (ix2 g l))
          (fun l => m ((c : Thread nD τ).loc main_arg2) (ix2 g ⟨1024 + l.val, by omega⟩)) (fun l => m ((c : Thread nD τ).loc main_arg5) (ix1 l))
          (fun l => m ((c : Thread nD τ).loc main_arg3) (ix2 ⟨32768 + g.val, by omega⟩ l)) (m ((c : Thread nD τ).loc main_arg4)) (m ((c : Thread nD τ).loc main_arg6))
          (m ((c : Thread nD τ).loc main_arg7)) n := by
  obtain ⟨b, r, hg⟩ : ∃ (b : Fin 32) (r : Fin 1024), g.val = b.val * 1024 + r.val :=
    ⟨⟨g.val / 1024, by omega⟩, ⟨g.val % 1024, by omega⟩, by show g.val = g.val / 1024 * 1024 + g.val % 1024; omega⟩
  obtain ⟨t, hb⟩ := point b
  have h := congrFun (Value.blocks8 m c t (flush0_8 t)) (ix2 r n)
  blk_simp at h
  rw [after0_8] at h
  have he : (win0_8.blk t).view.emb (ix2 r n) = (ix2 g n : S32768x1024.Idx) := by
    funext a
    apply Fin.ext
    fin_cases a
    · show win0_8.index t 0 * 1024 + 1 * r.val = g.val
      rw [index8]
      show (grid0.coords t 0).val * 1024 + 1 * r.val = g.val
      omega
    · show win0_8.index t 1 * 1024 + 1 * n.val = n.val
      rw [index8]
      show 0 * 1024 + 1 * n.val = n.val
      omega
  rw [he] at h
  refine h.trans ?_
  unfold outsAt0
  rw [block_eq, payAt]
  have e0 : ∀ l : Fin 1024, iblk m c 0 t (ix2 r l) = m ((c : Thread nD τ).loc main_arg0) (ix2 g l) := fun l => by
    refine (congrFun (V_main_arg0 m c) ((win0_0.blk t).view.emb (ix2 r l))).trans (congrArg (m ((c : Thread nD τ).loc main_arg0)) ?_)
    funext a
    apply Fin.ext
    fin_cases a
    · show win0_0.index t 0 * 1024 + 1 * r.val = g.val
      rw [index0]
      show (grid0.coords t 0).val * 1024 + 1 * r.val = g.val
      omega
    · show win0_0.index t 1 * 1024 + 1 * l.val = l.val
      rw [index0]
      show 0 * 1024 + 1 * l.val = l.val
      omega
  have e1 : ∀ l : Fin 1024, iblk m c 1 t (ix2 r l) = m ((c : Thread nD τ).loc main_arg1) (ix2 g l) := fun l => by
    refine (congrFun (V_main_arg1 m c) ((win0_1.blk t).view.emb (ix2 r l))).trans (congrArg (m ((c : Thread nD τ).loc main_arg1)) ?_)
    funext a
    apply Fin.ext
    fin_cases a
    · show win0_1.index t 0 * 1024 + 1 * r.val = g.val
      rw [index1]
      show (grid0.coords t 0).val * 1024 + 1 * r.val = g.val
      omega
    · show win0_1.index t 1 * 1024 + 1 * l.val = l.val
      rw [index1]
      show 0 * 1024 + 1 * l.val = l.val
      omega
  have e2 : ∀ l : Fin 1024, X0_2 m c t (ix2 r l) = m ((c : Thread nD τ).loc main_arg2) (ix2 g ⟨1024 + l.val, by omega⟩) := fun l => by
    unfold X0_2 Pipeline.Window.fill
    rw [dif_pos (moved0_2 t (ix2 r l))]
    refine (congrFun (V_main_arg2 m c) _).trans (congrArg (m ((c : Thread nD τ).loc main_arg2)) ?_)
    funext a
    apply Fin.ext
    fin_cases a
    · show win0_2.index t 0 * 1024 + 1 * r.val = g.val
      rw [index2]
      show (grid0.coords t 0).val * 1024 + 1 * r.val = g.val
      omega
    · show win0_2.index t 1 * 1024 + 1 * l.val = 1024 + l.val
      rw [index2]
      show 1 * 1024 + 1 * l.val = 1024 + l.val
      omega
  have e3 : ∀ l : Fin 256, iblk m c 3 t (ix2 r l) = m ((c : Thread nD τ).loc main_arg3) (ix2 ⟨32768 + g.val, by omega⟩ l) := fun l => by
    refine (congrFun (V_main_arg3 m c) ((win0_3.blk t).view.emb (ix2 r l))).trans (congrArg (m ((c : Thread nD τ).loc main_arg3)) ?_)
    funext a
    apply Fin.ext
    fin_cases a
    · show win0_3.index t 0 * 1024 + 1 * r.val = 32768 + g.val
      rw [index3]
      show ((grid0.coords t 0).val + 32) * 1024 + 1 * r.val = 32768 + g.val
      omega
    · show win0_3.index t 1 * 256 + 1 * l.val = l.val
      rw [index3]
      show 0 * 256 + 1 * l.val = l.val
      omega
  have e5 : ∀ l : Fin 1024, iblk m c 5 t (ix2 0 l) = m ((c : Thread nD τ).loc main_arg5) (ix1 l) := fun l => by
    refine Eq.trans (congrArg (V m c main_v1) ?_) (V_main_v1 m c l)
    funext a
    apply Fin.ext
    fin_cases a
    · show win0_5.index t 0 * 1 + 1 * 0 = 0
      rw [index5]
      rfl
    · show win0_5.index t 1 * 1024 + 1 * l.val = l.val
      rw [index5]
      show 0 * 1024 + 1 * l.val = l.val
      omega
  have e4 : iblk m c 4 t = m ((c : Thread nD τ).loc main_arg4) := by
    funext y
    refine (congrFun (V_main_v0 m c) ((win0_4.blk t).view.emb y)).trans (congrArg (m ((c : Thread nD τ).loc main_arg4)) ?_)
    funext a
    apply Fin.ext
    fin_cases a
    · show win0_4.index t 0 * 1024 + 1 * (y 0 : Fin 1024).val = (y 0 : Fin 1024).val
      rw [index4]
      show 0 * 1024 + 1 * (y 0 : Fin 1024).val = (y 0 : Fin 1024).val
      omega
    · show win0_4.index t 1 * 1024 + 1 * (y 1 : Fin 1024).val = (y 1 : Fin 1024).val
      rw [index4]
      show 0 * 1024 + 1 * (y 1 : Fin 1024).val = (y 1 : Fin 1024).val
      omega
  have e6 : iblk m c 6 t = m ((c : Thread nD τ).loc main_arg6) := by
    funext y
    refine (congrFun (V_main_v2 m c) ((win0_6.blk t).view.emb y)).trans (congrArg (m ((c : Thread nD τ).loc main_arg6)) ?_)
    funext a
    apply Fin.ext
    fin_cases a
    · show win0_6.index t 0 * 1024 + 1 * (y 0 : Fin 1024).val = (y 0 : Fin 1024).val
      rw [index6]
      show 0 * 1024 + 1 * (y 0 : Fin 1024).val = (y 0 : Fin 1024).val
      omega
    · show win0_6.index t 1 * 1024 + 1 * (y 1 : Fin 1024).val = (y 1 : Fin 1024).val
      rw [index6]
      show 0 * 1024 + 1 * (y 1 : Fin 1024).val = (y 1 : Fin 1024).val
      omega
  have e7 : iblk m c 7 t = m ((c : Thread nD τ).loc main_arg7) := by
    funext y
    refine (congrFun (V_main_v3 m c) ((win0_7.blk t).view.emb y)).trans (congrArg (m ((c : Thread nD τ).loc main_arg7)) ?_)
    funext a
    apply Fin.ext
    fin_cases a
    · show win0_7.index t 0 * 256 + 1 * (y 0 : Fin 256).val = (y 0 : Fin 256).val
      rw [index7]
      show 0 * 256 + 1 * (y 0 : Fin 256).val = (y 0 : Fin 256).val
      omega
    · show win0_7.index t 1 * 1024 + 1 * (y 1 : Fin 1024).val = (y 1 : Fin 1024).val
      rw [index7]
      show 0 * 1024 + 1 * (y 1 : Fin 1024).val = (y 1 : Fin 1024).val
      omega
  rw [e4, e6, e7]
  simp only [e0, e1, e2, e3, e5]

/-- The reference's gated mix. -/
theorem ref_mix (x1 : (⟨S32768x1024, .f32⟩ : BufTy).Contents (Elt Ideal)) (x2 : (⟨S32768x3712, .f32⟩ : BufTy).Contents (Elt Ideal)) (g : Fin 32768) (l : Fin 1024) :
    Cert.Post1ReferenceIdeal.Read.val_main_v3 (F := Ideal) x1 x2 (ix2 g l)
      = x1 (ix2 g l) * (x2 (ix2 g ⟨1024 + l.val, by omega⟩) * Ideal.logistic (x2 (ix2 g ⟨1024 + l.val, by omega⟩))) := by
  open Cert.Post1ReferenceIdeal.Read in
  have i0 : idx_main_v0 (ix2 g l) = ix2 g ⟨1024 + l.val, by omega⟩ := by
    funext a; apply Fin.ext; fin_cases a <;> rfl
  open Cert.Post1ReferenceIdeal.Read in
  simp only [val_main_v3_apply, val_main_v2_apply, val_main_v0_apply, val_main_call0_v5_apply, val_main_call0_v4_apply, val_main_call0_cst_0_apply,
    val_main_call0_v3_apply, val_main_call0_v2_apply, val_main_call0_cst_apply, val_main_call0_v1_apply, val_main_call0_v0_apply, i0]
  generalize x2 (ix2 g ⟨1024 + l.val, by omega⟩) = z
  show x1 (ix2 g l) * (z * Ideal.div (Ideal.ofBits FTy.f32 0x3F800000#32) (Ideal.ofBits FTy.f32 0x3F800000#32 + Ideal.exp (-z))) = _
  rw [one]
  rfl

/-- The reference's rows after the sublayer. -/
theorem ref_joined (x0 x1 : (⟨S32768x1024, .f32⟩ : BufTy).Contents (Elt Ideal)) (x2 : (⟨S32768x3712, .f32⟩ : BufTy).Contents (Elt Ideal)) (x4 : (⟨S1024x1024, .f32⟩ : BufTy).Contents (Elt Ideal))
    (g : Fin 32768) (k : Fin 1024) :
    Cert.Post1ReferenceIdeal.Read.val_main_v5 (F := Ideal) x0 x1 x2 x4 (ix2 g k)
      = joined (fun l => x0 (ix2 g l)) (fun l => x1 (ix2 g l)) (fun l => x2 (ix2 g ⟨1024 + l.val, by omega⟩)) x4 k := by
  rw [Cert.Post1ReferenceIdeal.Read.val_main_v5_apply, Cert.Post1ReferenceIdeal.Read.val_main_v4_apply]
  refine congrArg (fun e : EReal => (x0 (ix2 g k) : EReal) + e) (Finset.sum_congr rfl fun l _ => ?_)
  have el : Cert.Post1ReferenceIdeal.Read.lidx_main_v4 (ix2 g k) l = ix2 g l := by
    funext a; apply Fin.ext; fin_cases a <;> rfl
  have er : Cert.Post1ReferenceIdeal.Read.ridx_main_v4 (ix2 g k) l = ix2 l k := by
    funext a; apply Fin.ext; fin_cases a <;> rfl
  rw [el, er, ref_mix]

/-- The reference's normalised rows. -/
theorem ref_normed (x0 x1 : (⟨S32768x1024, .f32⟩ : BufTy).Contents (Elt Ideal)) (x2 : (⟨S32768x3712, .f32⟩ : BufTy).Contents (Elt Ideal)) (x4 : (⟨S1024x1024, .f32⟩ : BufTy).Contents (Elt Ideal))
    (x5 : (⟨S1024, .f32⟩ : BufTy).Contents (Elt Ideal)) (g : Fin 32768) (l : Fin 1024) :
    Cert.Post1ReferenceIdeal.Read.val_main_v18 (F := Ideal) x0 x1 x2 x4 x5 (ix2 g l)
      = normed (joined (fun l => x0 (ix2 g l)) (fun l => x1 (ix2 g l)) (fun l => x2 (ix2 g ⟨1024 + l.val, by omega⟩)) x4) (fun k => x5 (ix1 k)) l := by
  open Cert.Post1ReferenceIdeal.Read in
  have i1 : ∀ k, idx_main_v7 (idx_main_v8 (idx_main_v14 (ix2 g l))) k = ix2 g k := fun k => by
    funext a; apply Fin.ext; fin_cases a <;> rfl
  open Cert.Post1ReferenceIdeal.Read in
  have i2 : idx_main_v16 (idx_main_v17 (ix2 g l)) = ix1 l := by
    funext a; apply Fin.ext; fin_cases a; rfl
  open Cert.Post1ReferenceIdeal.Read in
  simp only [val_main_v18_apply, val_main_v17_apply, val_main_v16_apply, val_main_v15_apply, val_main_v14_apply, val_main_v13_apply, val_main_v12_apply,
    val_main_v11_apply, val_main_v10_apply, val_main_v9_apply, val_main_v8_apply, val_main_v7_apply, val_main_v6_apply, val_main_cst_apply,
    val_main_cst_0_apply, val_main_cst_1_apply, i1, i2, ref_joined]
  generalize joined (fun l => x0 (ix2 g l)) (fun l => x1 (ix2 g l)) (fun l => x2 (ix2 g ⟨1024 + l.val, by omega⟩)) x4 = h
  show h l * Ideal.rsqrt (Ideal.div (Ideal.ofBits FTy.f32 0#32 + ∑ k : Fin 1024, h k * h k) (Ideal.ofBits FTy.f32 0x44800000#32)
    + Ideal.ofBits FTy.f32 0x358637BD#32) * x5 (ix1 l) = _
  rw [zero, zero_add]
  rfl

/-- The reference at a row and a column. -/
theorem ref (x0 x1 : (⟨S32768x1024, .f32⟩ : BufTy).Contents (Elt Ideal)) (x2 : (⟨S32768x3712, .f32⟩ : BufTy).Contents (Elt Ideal)) (x3 : (⟨S131072x256, .f32⟩ : BufTy).Contents (Elt Ideal))
    (x4 : (⟨S1024x1024, .f32⟩ : BufTy).Contents (Elt Ideal)) (x5 : (⟨S1024, .f32⟩ : BufTy).Contents (Elt Ideal)) (x6 : (⟨S1024x1024, .f32⟩ : BufTy).Contents (Elt Ideal))
    (x7 : (⟨S256x1024, .f32⟩ : BufTy).Contents (Elt Ideal)) (g : Fin 32768) (n : Fin 1024) :
    Cert.Post1ReferenceIdeal.Read.val_main_v28 (F := Ideal) x0 x1 x2 x3 x4 x5 x6 x7 (ix2 g n)
      = post (fun l => x0 (ix2 g l)) (fun l => x1 (ix2 g l)) (fun l => x2 (ix2 g ⟨1024 + l.val, by omega⟩)) (fun l => x5 (ix1 l))
          (fun l => x3 (ix2 ⟨32768 + g.val, by omega⟩ l)) x4 x6 x7 n := by
  have e26 : Cert.Post1ReferenceIdeal.Read.val_main_v26 (F := Ideal) x3 x7 (ix2 g n) = ∑ l : Fin 256, x3 (ix2 ⟨32768 + g.val, by omega⟩ l) * x7 (ix2 l n) := by
    rw [Cert.Post1ReferenceIdeal.Read.val_main_v26_apply]
    refine Finset.sum_congr rfl fun l _ => ?_
    have el : Cert.Post1ReferenceIdeal.Read.idx_main_v1 (Cert.Post1ReferenceIdeal.Read.lidx_main_v26 (ix2 g n) l) = ix2 ⟨32768 + g.val, by omega⟩ l := by
      funext a; apply Fin.ext; fin_cases a
      · show 32768 + g.val = 32768 + g.val; omega
      · rfl
    have er : Cert.Post1ReferenceIdeal.Read.ridx_main_v26 (ix2 g n) l = ix2 l n := by
      funext a; apply Fin.ext; fin_cases a <;> rfl
    rw [Cert.Post1ReferenceIdeal.Read.val_main_v1_apply, el, er]
  have e19 : Cert.Post1ReferenceIdeal.Read.val_main_v19 (F := Ideal) x0 x1 x2 x4 x5 x6 (ix2 g n)
      = ∑ l : Fin 1024, normed (joined (fun l => x0 (ix2 g l)) (fun l => x1 (ix2 g l)) (fun l => x2 (ix2 g ⟨1024 + l.val, by omega⟩)) x4) (fun k => x5 (ix1 k)) l * x6 (ix2 l n) := by
    rw [Cert.Post1ReferenceIdeal.Read.val_main_v19_apply]
    refine Finset.sum_congr rfl fun l _ => ?_
    have el : Cert.Post1ReferenceIdeal.Read.lidx_main_v19 (ix2 g n) l = ix2 g l := by
      funext a; apply Fin.ext; fin_cases a <;> rfl
    have er : Cert.Post1ReferenceIdeal.Read.ridx_main_v19 (ix2 g n) l = ix2 l n := by
      funext a; apply Fin.ext; fin_cases a <;> rfl
    rw [el, er, ref_normed]
  open Cert.Post1ReferenceIdeal.Read in
  simp only [val_main_v28_apply, val_main_v27_apply, val_main_v25_apply, val_main_v24_apply, val_main_cst_3_apply, val_main_v23_apply,
    val_main_v22_apply, val_main_cst_2_apply, val_main_v21_apply, val_main_v20_apply, e26, e19, ref_joined]
  unfold post
  generalize joined (fun l => x0 (ix2 g l)) (fun l => x1 (ix2 g l)) (fun l => x2 (ix2 g ⟨1024 + l.val, by omega⟩)) x4 n = h
  generalize ∑ l : Fin 256, x3 (ix2 ⟨32768 + g.val, _⟩ l) * x7 (ix2 l n) = q
  generalize (∑ l : Fin 1024, normed (joined (fun l => x0 (ix2 g l)) (fun l => x1 (ix2 g l)) (fun l => x2 (ix2 g ⟨1024 + l.val, by omega⟩)) x4) (fun k => x5 (ix1 k)) l * x6 (ix2 l n)) = u
  show h + Ideal.div (Ideal.ofBits FTy.f32 0x3F800000#32) (Ideal.ofBits FTy.f32 0x3F800000#32 + Ideal.exp (-u)) * q = _
  rw [one]
  rfl

/-- The reference returns, leaves its arguments and no counter raised. -/
theorem reference : Cert.quiescent_Post1ReferenceIdeal := by
  intro m ρ _
  exact (θ_run Cert.Post1ReferenceIdeal.defs _ _).mono (fun r h => ⟨fun c => (h c).2, sem_eq_zero_of_no_sems (by decide) r.2⟩)
    (Cert.Post1ReferenceIdeal.Value.run (F := Ideal) m ρ)

/-- The exact kernel's result is the reference's. -/
theorem value : Cert.algebraic_Post1Ideal_Post1ReferenceIdeal := by
  intro m ρ m' ρ' hpre hagree
  refine ⟨fun c => Cert.Post1ReferenceIdeal.Read.val_main_v28 (F := Ideal) (m' ((c.tc : Thread _ _).loc Cert.Post1ReferenceIdeal.main_arg0))
      (m' ((c.tc : Thread _ _).loc Cert.Post1ReferenceIdeal.main_arg1)) (m' ((c.tc : Thread _ _).loc Cert.Post1ReferenceIdeal.main_arg2))
      (m' ((c.tc : Thread _ _).loc Cert.Post1ReferenceIdeal.main_arg3)) (m' ((c.tc : Thread _ _).loc Cert.Post1ReferenceIdeal.main_arg4))
      (m' ((c.tc : Thread _ _).loc Cert.Post1ReferenceIdeal.main_arg5)) (m' ((c.tc : Thread _ _).loc Cert.Post1ReferenceIdeal.main_arg6))
      (m' ((c.tc : Thread _ _).loc Cert.Post1ReferenceIdeal.main_arg7)),
    (θ_run Cert.Post1Ideal.defs _ _).mono (fun r h c => ⟨(h c).1.trans ?_, (h c).2⟩) (Cert.Post1Ideal.Value.run_blocks (F := Ideal) m ρ),
    (θ_run Cert.Post1ReferenceIdeal.defs _ _).mono (fun r h c => ⟨(h c).1.trans (Cert.Post1ReferenceIdeal.Read.val_main_v28_eq (F := Ideal) _ _ _ _ _ _ _ _), (h c).2⟩)
      (Cert.Post1ReferenceIdeal.Value.run (F := Ideal) m' ρ')⟩
  obtain ⟨h0, h1, h2, h3, h4, h5, h6, h7⟩ := hagree c
  funext y
  obtain ⟨g, n, rfl⟩ : ∃ (g : Fin 32768) (n : Fin 1024), y = ix2 g n := ⟨y 0, y 1, eq_ix2 y⟩
  refine (out m c g n).trans ?_
  refine Eq.trans ?_ (ref _ _ _ _ _ _ _ _ g n).symm
  rw [h0, h1, h2, h3, h4, h5, h6, h7]

end Cert.Layer.Post1
end
-- ==== Proof.PostLayer2.lean ====
/-
  Layer 2's call after its sublayer: what the kernel leaves in its output is the reference's value, from any arguments.
-/
module

public import proofs.«01_k».proof.Proof.Layer
public import proofs.«01_k».proof.Defs
public import proofs.«01_k».proof.Proof.Gen.Post2Ideal.Value
public import proofs.«01_k».proof.Proof.Gen.Post2ReferenceIdeal.Read
public import Idealize.ShloMosaic.Lib.Pipeline.ValueKit
public import Idealize.ShloMosaic.Lib.Quiescent

@[expose] public section

set_option maxRecDepth 16384

noncomputable section

namespace Cert.Layer.Post2

open Idealize.ShloMosaic Idealize.ShloMosaic.TcCoe Idealize.SL.Sem Cert.Post2Ideal Cert.Post2Ideal.Gen

/-- What the body stores, at an index. -/
theorem payAt (x0 x1 x2 : Vec Ideal S1024x1024 .f32) (x3 : Vec Ideal S1024x256 .f32) (x4 : Vec Ideal S1024x1024 .bf16) (x5 : Vec Ideal S1x1024 .f32)
    (x6 : Vec Ideal S1024x1024 .bf16) (x7 : Vec Ideal S256x1024 .bf16) (r c : Fin 1024) :
    (k0_pay1 (F := Ideal) x2 x1 x0 x4 x5 x6 x3 x7 (ix2 r c) : EReal)
      = Layer.post (fun l => x0 (ix2 r l)) (fun l => x1 (ix2 r l)) (fun l => x2 (ix2 r l)) (fun l => x5 (ix2 0 l)) (fun l => x3 (ix2 r l)) x4 x6 x7 c :=
  Layer.gatedAt _ _ _ _ _ _ _ _ _ _ _ _ _ _ x5 x3 x6 x7 r c _ (fun k => Layer.joinedAt _ _ _ x0 x1 x2 x4 r k)

/-- The block the body leaves. -/
theorem block_eq (x0 x1 x2 : Vec Ideal S1024x1024 .f32) (x3 : Vec Ideal S1024x256 .f32) (x4 : Vec Ideal S1024x1024 .bf16) (x5 : Vec Ideal S1x1024 .f32)
    (x6 : Vec Ideal S1024x1024 .bf16) (x7 : Vec Ideal S256x1024 .bf16) (y : S1024x1024.Idx) :
    (out0_8 (F := Ideal) x0 x1 x2 x3 x4 x5 x6 x7 y : EReal) = k0_pay1 (F := Ideal) x2 x1 x0 x4 x5 x6 x3 x7 y := by
  unfold out0_8
  refine View.canon_apply_of_pieces (Val := Elt Ideal) (e := .f32) (k0_pay1 (F := Ideal) x2 x1 x0 x4 x5 x6 x3 x7) _ ?_ y (cover0_8 _ y)
  intro p hp
  simp only [List.mem_cons, List.not_mem_nil, or_false] at hp
  subst hp
  intro x
  have hx : r0_0.emb x = x := by
    funext a; apply Fin.ext
    fin_cases a
    · show 0 + 1 * (x 0).val = (x 0).val; omega
    · show 0 + 1 * (x 1).val = (x 1).val; omega
  refine Eq.trans ?_ (congrArg (k0_pay1 (F := Ideal) x2 x1 x0 x4 x5 x6 x3 x7) hx.symm)
  have l2 : View.ld x2 r0_0 = x2 := View.ld_unit_zero (by funext a; fin_cases a <;> rfl) _ x2
  have l1 : View.ld x1 r0_0 = x1 := View.ld_unit_zero (by funext a; fin_cases a <;> rfl) _ x1
  have l0 : View.ld x0 r0_0 = x0 := View.ld_unit_zero (by funext a; fin_cases a <;> rfl) _ x0
  have l4 : View.ld x4 r0_0 = x4 := View.ld_unit_zero (by funext a; fin_cases a <;> rfl) _ x4
  have l5 : View.ld x5 r0_1 = x5 := View.ld_unit_zero (by funext a; fin_cases a <;> rfl) _ x5
  have l6 : View.ld x6 r0_0 = x6 := View.ld_unit_zero (by funext a; fin_cases a <;> rfl) _ x6
  have l3 : View.ld x3 r0_2 = x3 := View.ld_unit_zero (by funext a; fin_cases a <;> rfl) _ x3
  have l7 : View.ld x7 r0_3 = x7 := View.ld_unit_zero (by funext a; fin_cases a <;> rfl) _ x7
  dsimp only
  rw [l0, l1, l2, l3, l4, l5, l6, l7]

variable (m : (ℓ : Loc nD τ sig) → Buf (Elt Ideal) ℓ)

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![(grid0.coords t 0).val, 3] :=
  (by decide +kernel : ∀ t : Fin grid0.N, win0_2.index t = ![(grid0.coords t 0).val, 3])
theorem index3 : ∀ t : Fin cfg0.N, win0_3.index t = ![(grid0.coords t 0).val + 64, 0] :=
  (by decide +kernel : ∀ t : Fin grid0.N, win0_3.index t = ![(grid0.coords t 0).val + 64, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![(grid0.coords t 0).val, 0] :=
  (by decide +kernel : ∀ t : Fin grid0.N, win0_8.index t = ![(grid0.coords t 0).val, 0])
theorem point (b : Fin 32) : ∃ t : Fin cfg0.N, (grid0.coords t 0).val = b.val :=
  (by decide +kernel : ∀ b : Fin 32, ∃ t : Fin grid0.N, (grid0.coords t 0).val = b.val) b

/-- Argument 4 as the region finds it. -/
theorem V_main_v0 (c : Dev nD) : V m c main_v0 = m ((c : Thread nD τ).loc main_arg4) := by
  simp [V, hostOps0, StableHlo.after]
  exact StableHlo.unary_result main_arg4 main_v0 (fun x => x) _ _ (fun b => m (c, b))

/-- Argument 6 as the region finds it. -/
theorem V_main_v2 (c : Dev nD) : V m c main_v2 = m ((c : Thread nD τ).loc main_arg6) := by
  simp [V, hostOps0, StableHlo.after]
  exact StableHlo.unary_result main_arg6 main_v2 (fun x => x) _ _ (fun b => m (c, b))

/-- Argument 7 as the region finds it. -/
theorem V_main_v3 (c : Dev nD) : V m c main_v3 = m ((c : Thread nD τ).loc main_arg7) := by
  simp [V, hostOps0, StableHlo.after]
  exact StableHlo.unary_result main_arg7 main_v3 (fun x => x) _ _ (fun b => m (c, b))

/-- The gain as the region finds it. -/
theorem V_main_v1 (c : Dev nD) (l : Fin 1024) : V m c main_v1 (ix2 0 l) = m ((c : Thread nD τ).loc main_arg5) (ix1 l) := by
  have e : V m c main_v1 = shapeCast S1x1024 (m ((c : Thread nD τ).loc main_arg5)) shapeCasts_S1024_S1x1024 := by
    simp [V, hostOps0, StableHlo.after]
    exact StableHlo.reshape_result main_arg5 main_v1 rfl shapeCasts_S1024_S1x1024 _ _ (fun b => m (c, b))
  rw [e]
  generalize m ((c : Thread nD τ).loc main_arg5) = x
  pointwise

/-- The output array at a row and a column. -/
theorem out (c : Dev nD) (g : Fin 32768) (n : Fin 1024) :
    (dats m 0 c).arrAt 8 cfg0.N (ix2 g n)
      = post (fun l => m ((c : Thread nD τ).loc main_arg0) (ix2 g l)) (fun l => m ((c : Thread nD τ).loc main_arg1) (ix2 g l))
          (fun l => m ((c : Thread nD τ).loc main_arg2) (ix2 g ⟨3072 + l.val, by omega⟩)) (fun l => m ((c : Thread nD τ).loc main_arg5) (ix1 l))
          (fun l => m ((c : Thread nD τ).loc main_arg3) (ix2 ⟨65536 + g.val, by omega⟩ l)) (m ((c : Thread nD τ).loc main_arg4)) (m ((c : Thread nD τ).loc main_arg6))
          (m ((c : Thread nD τ).loc main_arg7)) n := by
  obtain ⟨b, r, hg⟩ : ∃ (b : Fin 32) (r : Fin 1024), g.val = b.val * 1024 + r.val :=
    ⟨⟨g.val / 1024, by omega⟩, ⟨g.val % 1024, by omega⟩, by show g.val = g.val / 1024 * 1024 + g.val % 1024; omega⟩
  obtain ⟨t, hb⟩ := point b
  have h := congrFun (Value.blocks8 m c t (flush0_8 t)) (ix2 r n)
  blk_simp at h
  rw [after0_8] at h
  have he : (win0_8.blk t).view.emb (ix2 r n) = (ix2 g n : S32768x1024.Idx) := by
    funext a
    apply Fin.ext
    fin_cases a
    · show win0_8.index t 0 * 1024 + 1 * r.val = g.val
      rw [index8]
      show (grid0.coords t 0).val * 1024 + 1 * r.val = g.val
      omega
    · show win0_8.index t 1 * 1024 + 1 * n.val = n.val
      rw [index8]
      show 0 * 1024 + 1 * n.val = n.val
      omega
  rw [he] at h
  refine h.trans ?_
  rw [block_eq, payAt]
  have e0 : ∀ l : Fin 1024, iblk m c 0 t (ix2 r l) = m ((c : Thread nD τ).loc main_arg0) (ix2 g l) := fun l => by
    refine (congrFun (V_main_arg0 m c) ((win0_0.blk t).view.emb (ix2 r l))).trans (congrArg (m ((c : Thread nD τ).loc main_arg0)) ?_)
    funext a
    apply Fin.ext
    fin_cases a
    · show win0_0.index t 0 * 1024 + 1 * r.val = g.val
      rw [index0]
      show (grid0.coords t 0).val * 1024 + 1 * r.val = g.val
      omega
    · show win0_0.index t 1 * 1024 + 1 * l.val = l.val
      rw [index0]
      show 0 * 1024 + 1 * l.val = l.val
      omega
  have e1 : ∀ l : Fin 1024, iblk m c 1 t (ix2 r l) = m ((c : Thread nD τ).loc main_arg1) (ix2 g l) := fun l => by
    refine (congrFun (V_main_arg1 m c) ((win0_1.blk t).view.emb (ix2 r l))).trans (congrArg (m ((c : Thread nD τ).loc main_arg1)) ?_)
    funext a
    apply Fin.ext
    fin_cases a
    · show win0_1.index t 0 * 1024 + 1 * r.val = g.val
      rw [index1]
      show (grid0.coords t 0).val * 1024 + 1 * r.val = g.val
      omega
    · show win0_1.index t 1 * 1024 + 1 * l.val = l.val
      rw [index1]
      show 0 * 1024 + 1 * l.val = l.val
      omega
  have e2 : ∀ l : Fin 1024, iblk m c 2 t (ix2 r l) = m ((c : Thread nD τ).loc main_arg2) (ix2 g ⟨3072 + l.val, by omega⟩) := fun l => by
    refine (congrFun (V_main_arg2 m c) ((win0_2.blk t).view.emb (ix2 r l))).trans (congrArg (m ((c : Thread nD τ).loc main_arg2)) ?_)
    funext a
    apply Fin.ext
    fin_cases a
    · show win0_2.index t 0 * 1024 + 1 * r.val = g.val
      rw [index2]
      show (grid0.coords t 0).val * 1024 + 1 * r.val = g.val
      omega
    · show win0_2.index t 1 * 1024 + 1 * l.val = 3072 + l.val
      rw [index2]
      show 3 * 1024 + 1 * l.val = 3072 + l.val
      omega
  have e3 : ∀ l : Fin 256, iblk m c 3 t (ix2 r l) = m ((c : Thread nD τ).loc main_arg3) (ix2 ⟨65536 + g.val, by omega⟩ l) := fun l => by
    refine (congrFun (V_main_arg3 m c) ((win0_3.blk t).view.emb (ix2 r l))).trans (congrArg (m ((c : Thread nD τ).loc main_arg3)) ?_)
    funext a
    apply Fin.ext
    fin_cases a
    · show win0_3.index t 0 * 1024 + 1 * r.val = 65536 + g.val
      rw [index3]
      show ((grid0.coords t 0).val + 64) * 1024 + 1 * r.val = 65536 + g.val
      omega
    · show win0_3.index t 1 * 256 + 1 * l.val = l.val
      rw [index3]
      show 0 * 256 + 1 * l.val = l.val
      omega
  have e5 : ∀ l : Fin 1024, iblk m c 5 t (ix2 0 l) = m ((c : Thread nD τ).loc main_arg5) (ix1 l) := fun l => by
    refine Eq.trans (congrArg (V m c main_v1) ?_) (V_main_v1 m c l)
    funext a
    apply Fin.ext
    fin_cases a
    · show win0_5.index t 0 * 1 + 1 * 0 = 0
      rw [index5]
      rfl
    · show win0_5.index t 1 * 1024 + 1 * l.val = l.val
      rw [index5]
      show 0 * 1024 + 1 * l.val = l.val
      omega
  have e4 : iblk m c 4 t = m ((c : Thread nD τ).loc main_arg4) := by
    funext y
    refine (congrFun (V_main_v0 m c) ((win0_4.blk t).view.emb y)).trans (congrArg (m ((c : Thread nD τ).loc main_arg4)) ?_)
    funext a
    apply Fin.ext
    fin_cases a
    · show win0_4.index t 0 * 1024 + 1 * (y 0 : Fin 1024).val = (y 0 : Fin 1024).val
      rw [index4]
      show 0 * 1024 + 1 * (y 0 : Fin 1024).val = (y 0 : Fin 1024).val
      omega
    · show win0_4.index t 1 * 1024 + 1 * (y 1 : Fin 1024).val = (y 1 : Fin 1024).val
      rw [index4]
      show 0 * 1024 + 1 * (y 1 : Fin 1024).val = (y 1 : Fin 1024).val
      omega
  have e6 : iblk m c 6 t = m ((c : Thread nD τ).loc main_arg6) := by
    funext y
    refine (congrFun (V_main_v2 m c) ((win0_6.blk t).view.emb y)).trans (congrArg (m ((c : Thread nD τ).loc main_arg6)) ?_)
    funext a
    apply Fin.ext
    fin_cases a
    · show win0_6.index t 0 * 1024 + 1 * (y 0 : Fin 1024).val = (y 0 : Fin 1024).val
      rw [index6]
      show 0 * 1024 + 1 * (y 0 : Fin 1024).val = (y 0 : Fin 1024).val
      omega
    · show win0_6.index t 1 * 1024 + 1 * (y 1 : Fin 1024).val = (y 1 : Fin 1024).val
      rw [index6]
      show 0 * 1024 + 1 * (y 1 : Fin 1024).val = (y 1 : Fin 1024).val
      omega
  have e7 : iblk m c 7 t = m ((c : Thread nD τ).loc main_arg7) := by
    funext y
    refine (congrFun (V_main_v3 m c) ((win0_7.blk t).view.emb y)).trans (congrArg (m ((c : Thread nD τ).loc main_arg7)) ?_)
    funext a
    apply Fin.ext
    fin_cases a
    · show win0_7.index t 0 * 256 + 1 * (y 0 : Fin 256).val = (y 0 : Fin 256).val
      rw [index7]
      show 0 * 256 + 1 * (y 0 : Fin 256).val = (y 0 : Fin 256).val
      omega
    · show win0_7.index t 1 * 1024 + 1 * (y 1 : Fin 1024).val = (y 1 : Fin 1024).val
      rw [index7]
      show 0 * 1024 + 1 * (y 1 : Fin 1024).val = (y 1 : Fin 1024).val
      omega
  rw [e4, e6, e7]
  simp only [e0, e1, e2, e3, e5]

/-- The reference's gated mix. -/
theorem ref_mix (x1 : (⟨S32768x1024, .f32⟩ : BufTy).Contents (Elt Ideal)) (x2 : (⟨S32768x4096, .f32⟩ : BufTy).Contents (Elt Ideal)) (g : Fin 32768) (l : Fin 1024) :
    Cert.Post2ReferenceIdeal.Read.val_main_v3 (F := Ideal) x1 x2 (ix2 g l)
      = x1 (ix2 g l) * (x2 (ix2 g ⟨3072 + l.val, by omega⟩) * Ideal.logistic (x2 (ix2 g ⟨3072 + l.val, by omega⟩))) := by
  open Cert.Post2ReferenceIdeal.Read in
  have i0 : idx_main_v0 (ix2 g l) = ix2 g ⟨3072 + l.val, by omega⟩ := by
    funext a; apply Fin.ext; fin_cases a <;> rfl
  open Cert.Post2ReferenceIdeal.Read in
  simp only [val_main_v3_apply, val_main_v2_apply, val_main_v0_apply, val_main_call0_v5_apply, val_main_call0_v4_apply, val_main_call0_cst_0_apply,
    val_main_call0_v3_apply, val_main_call0_v2_apply, val_main_call0_cst_apply, val_main_call0_v1_apply, val_main_call0_v0_apply, i0]
  generalize x2 (ix2 g ⟨3072 + l.val, by omega⟩) = z
  show x1 (ix2 g l) * (z * Ideal.div (Ideal.ofBits FTy.f32 0x3F800000#32) (Ideal.ofBits FTy.f32 0x3F800000#32 + Ideal.exp (-z))) = _
  rw [one]
  rfl

/-- The reference's rows after the sublayer. -/
theorem ref_joined (x0 x1 : (⟨S32768x1024, .f32⟩ : BufTy).Contents (Elt Ideal)) (x2 : (⟨S32768x4096, .f32⟩ : BufTy).Contents (Elt Ideal)) (x4 : (⟨S1024x1024, .f32⟩ : BufTy).Contents (Elt Ideal))
    (g : Fin 32768) (k : Fin 1024) :
    Cert.Post2ReferenceIdeal.Read.val_main_v5 (F := Ideal) x0 x1 x2 x4 (ix2 g k)
      = joined (fun l => x0 (ix2 g l)) (fun l => x1 (ix2 g l)) (fun l => x2 (ix2 g ⟨3072 + l.val, by omega⟩)) x4 k := by
  rw [Cert.Post2ReferenceIdeal.Read.val_main_v5_apply, Cert.Post2ReferenceIdeal.Read.val_main_v4_apply]
  refine congrArg (fun e : EReal => (x0 (ix2 g k) : EReal) + e) (Finset.sum_congr rfl fun l _ => ?_)
  have el : Cert.Post2ReferenceIdeal.Read.lidx_main_v4 (ix2 g k) l = ix2 g l := by
    funext a; apply Fin.ext; fin_cases a <;> rfl
  have er : Cert.Post2ReferenceIdeal.Read.ridx_main_v4 (ix2 g k) l = ix2 l k := by
    funext a; apply Fin.ext; fin_cases a <;> rfl
  rw [el, er, ref_mix]

/-- The reference's normalised rows. -/
theorem ref_normed (x0 x1 : (⟨S32768x1024, .f32⟩ : BufTy).Contents (Elt Ideal)) (x2 : (⟨S32768x4096, .f32⟩ : BufTy).Contents (Elt Ideal)) (x4 : (⟨S1024x1024, .f32⟩ : BufTy).Contents (Elt Ideal))
    (x5 : (⟨S1024, .f32⟩ : BufTy).Contents (Elt Ideal)) (g : Fin 32768) (l : Fin 1024) :
    Cert.Post2ReferenceIdeal.Read.val_main_v18 (F := Ideal) x0 x1 x2 x4 x5 (ix2 g l)
      = normed (joined (fun l => x0 (ix2 g l)) (fun l => x1 (ix2 g l)) (fun l => x2 (ix2 g ⟨3072 + l.val, by omega⟩)) x4) (fun k => x5 (ix1 k)) l := by
  open Cert.Post2ReferenceIdeal.Read in
  have i1 : ∀ k, idx_main_v7 (idx_main_v8 (idx_main_v14 (ix2 g l))) k = ix2 g k := fun k => by
    funext a; apply Fin.ext; fin_cases a <;> rfl
  open Cert.Post2ReferenceIdeal.Read in
  have i2 : idx_main_v16 (idx_main_v17 (ix2 g l)) = ix1 l := by
    funext a; apply Fin.ext; fin_cases a; rfl
  open Cert.Post2ReferenceIdeal.Read in
  simp only [val_main_v18_apply, val_main_v17_apply, val_main_v16_apply, val_main_v15_apply, val_main_v14_apply, val_main_v13_apply, val_main_v12_apply,
    val_main_v11_apply, val_main_v10_apply, val_main_v9_apply, val_main_v8_apply, val_main_v7_apply, val_main_v6_apply, val_main_cst_apply,
    val_main_cst_0_apply, val_main_cst_1_apply, i1, i2, ref_joined]
  generalize joined (fun l => x0 (ix2 g l)) (fun l => x1 (ix2 g l)) (fun l => x2 (ix2 g ⟨3072 + l.val, by omega⟩)) x4 = h
  show h l * Ideal.rsqrt (Ideal.div (Ideal.ofBits FTy.f32 0#32 + ∑ k : Fin 1024, h k * h k) (Ideal.ofBits FTy.f32 0x44800000#32)
    + Ideal.ofBits FTy.f32 0x358637BD#32) * x5 (ix1 l) = _
  rw [zero, zero_add]
  rfl

/-- The reference at a row and a column. -/
theorem ref (x0 x1 : (⟨S32768x1024, .f32⟩ : BufTy).Contents (Elt Ideal)) (x2 : (⟨S32768x4096, .f32⟩ : BufTy).Contents (Elt Ideal)) (x3 : (⟨S131072x256, .f32⟩ : BufTy).Contents (Elt Ideal))
    (x4 : (⟨S1024x1024, .f32⟩ : BufTy).Contents (Elt Ideal)) (x5 : (⟨S1024, .f32⟩ : BufTy).Contents (Elt Ideal)) (x6 : (⟨S1024x1024, .f32⟩ : BufTy).Contents (Elt Ideal))
    (x7 : (⟨S256x1024, .f32⟩ : BufTy).Contents (Elt Ideal)) (g : Fin 32768) (n : Fin 1024) :
    Cert.Post2ReferenceIdeal.Read.val_main_v28 (F := Ideal) x0 x1 x2 x3 x4 x5 x6 x7 (ix2 g n)
      = post (fun l => x0 (ix2 g l)) (fun l => x1 (ix2 g l)) (fun l => x2 (ix2 g ⟨3072 + l.val, by omega⟩)) (fun l => x5 (ix1 l))
          (fun l => x3 (ix2 ⟨65536 + g.val, by omega⟩ l)) x4 x6 x7 n := by
  have e26 : Cert.Post2ReferenceIdeal.Read.val_main_v26 (F := Ideal) x3 x7 (ix2 g n) = ∑ l : Fin 256, x3 (ix2 ⟨65536 + g.val, by omega⟩ l) * x7 (ix2 l n) := by
    rw [Cert.Post2ReferenceIdeal.Read.val_main_v26_apply]
    refine Finset.sum_congr rfl fun l _ => ?_
    have el : Cert.Post2ReferenceIdeal.Read.idx_main_v1 (Cert.Post2ReferenceIdeal.Read.lidx_main_v26 (ix2 g n) l) = ix2 ⟨65536 + g.val, by omega⟩ l := by
      funext a; apply Fin.ext; fin_cases a
      · show 65536 + g.val = 65536 + g.val; omega
      · rfl
    have er : Cert.Post2ReferenceIdeal.Read.ridx_main_v26 (ix2 g n) l = ix2 l n := by
      funext a; apply Fin.ext; fin_cases a <;> rfl
    rw [Cert.Post2ReferenceIdeal.Read.val_main_v1_apply, el, er]
  have e19 : Cert.Post2ReferenceIdeal.Read.val_main_v19 (F := Ideal) x0 x1 x2 x4 x5 x6 (ix2 g n)
      = ∑ l : Fin 1024, normed (joined (fun l => x0 (ix2 g l)) (fun l => x1 (ix2 g l)) (fun l => x2 (ix2 g ⟨3072 + l.val, by omega⟩)) x4) (fun k => x5 (ix1 k)) l * x6 (ix2 l n) := by
    rw [Cert.Post2ReferenceIdeal.Read.val_main_v19_apply]
    refine Finset.sum_congr rfl fun l _ => ?_
    have el : Cert.Post2ReferenceIdeal.Read.lidx_main_v19 (ix2 g n) l = ix2 g l := by
      funext a; apply Fin.ext; fin_cases a <;> rfl
    have er : Cert.Post2ReferenceIdeal.Read.ridx_main_v19 (ix2 g n) l = ix2 l n := by
      funext a; apply Fin.ext; fin_cases a <;> rfl
    rw [el, er, ref_normed]
  open Cert.Post2ReferenceIdeal.Read in
  simp only [val_main_v28_apply, val_main_v27_apply, val_main_v25_apply, val_main_v24_apply, val_main_cst_3_apply, val_main_v23_apply,
    val_main_v22_apply, val_main_cst_2_apply, val_main_v21_apply, val_main_v20_apply, e26, e19, ref_joined]
  unfold post
  generalize joined (fun l => x0 (ix2 g l)) (fun l => x1 (ix2 g l)) (fun l => x2 (ix2 g ⟨3072 + l.val, by omega⟩)) x4 n = h
  generalize ∑ l : Fin 256, x3 (ix2 ⟨65536 + g.val, _⟩ l) * x7 (ix2 l n) = q
  generalize (∑ l : Fin 1024, normed (joined (fun l => x0 (ix2 g l)) (fun l => x1 (ix2 g l)) (fun l => x2 (ix2 g ⟨3072 + l.val, by omega⟩)) x4) (fun k => x5 (ix1 k)) l * x6 (ix2 l n)) = u
  show h + Ideal.div (Ideal.ofBits FTy.f32 0x3F800000#32) (Ideal.ofBits FTy.f32 0x3F800000#32 + Ideal.exp (-u)) * q = _
  rw [one]
  rfl

/-- The reference returns, leaves its arguments and no counter raised. -/
theorem reference : Cert.quiescent_Post2ReferenceIdeal := by
  intro m ρ _
  exact (θ_run Cert.Post2ReferenceIdeal.defs _ _).mono (fun r h => ⟨fun c => (h c).2, sem_eq_zero_of_no_sems (by decide) r.2⟩)
    (Cert.Post2ReferenceIdeal.Value.run (F := Ideal) m ρ)

/-- The exact kernel's result is the reference's. -/
theorem value : Cert.algebraic_Post2Ideal_Post2ReferenceIdeal := by
  intro m ρ m' ρ' hpre hagree
  refine ⟨fun c => Cert.Post2ReferenceIdeal.Read.val_main_v28 (F := Ideal) (m' ((c.tc : Thread _ _).loc Cert.Post2ReferenceIdeal.main_arg0))
      (m' ((c.tc : Thread _ _).loc Cert.Post2ReferenceIdeal.main_arg1)) (m' ((c.tc : Thread _ _).loc Cert.Post2ReferenceIdeal.main_arg2))
      (m' ((c.tc : Thread _ _).loc Cert.Post2ReferenceIdeal.main_arg3)) (m' ((c.tc : Thread _ _).loc Cert.Post2ReferenceIdeal.main_arg4))
      (m' ((c.tc : Thread _ _).loc Cert.Post2ReferenceIdeal.main_arg5)) (m' ((c.tc : Thread _ _).loc Cert.Post2ReferenceIdeal.main_arg6))
      (m' ((c.tc : Thread _ _).loc Cert.Post2ReferenceIdeal.main_arg7)),
    (θ_run Cert.Post2Ideal.defs _ _).mono (fun r h c => ⟨(h c).1.trans ?_, (h c).2⟩) (Cert.Post2Ideal.Value.run_blocks (F := Ideal) m ρ),
    (θ_run Cert.Post2ReferenceIdeal.defs _ _).mono (fun r h c => ⟨(h c).1.trans (Cert.Post2ReferenceIdeal.Read.val_main_v28_eq (F := Ideal) _ _ _ _ _ _ _ _), (h c).2⟩)
      (Cert.Post2ReferenceIdeal.Value.run (F := Ideal) m' ρ')⟩
  obtain ⟨h0, h1, h2, h3, h4, h5, h6, h7⟩ := hagree c
  funext y
  obtain ⟨g, n, rfl⟩ : ∃ (g : Fin 32768) (n : Fin 1024), y = ix2 g n := ⟨y 0, y 1, eq_ix2 y⟩
  refine (out m c g n).trans ?_
  refine Eq.trans ?_ (ref _ _ _ _ _ _ _ _ g n).symm
  rw [h0, h1, h2, h3, h4, h5, h6, h7]

end Cert.Layer.Post2
end
-- ==== Proof.PostLayer3.lean ====
/-
  Layer 3's call after its sublayer: what the kernel leaves in its output is the reference's value, from any arguments.
-/
module

public import proofs.«01_k».proof.Proof.Layer
public import proofs.«01_k».proof.Defs
public import proofs.«01_k».proof.Proof.Gen.Post3Ideal.Value
public import proofs.«01_k».proof.Proof.Gen.Post3ReferenceIdeal.Read
public import Idealize.ShloMosaic.Lib.Pipeline.ValueKit
public import Idealize.ShloMosaic.Lib.Quiescent

@[expose] public section

set_option maxRecDepth 16384

noncomputable section

namespace Cert.Layer.Post3

open Idealize.ShloMosaic Idealize.ShloMosaic.TcCoe Idealize.SL.Sem Cert.Post3Ideal Cert.Post3Ideal.Gen

/-- What the body stores, at an index. -/
theorem payAt (x0 x1 x2 : Vec Ideal S1024x1024 .f32) (x3 : Vec Ideal S1024x256 .f32) (x4 : Vec Ideal S1024x1024 .bf16) (x5 : Vec Ideal S1x1024 .f32)
    (x6 : Vec Ideal S1024x1024 .bf16) (x7 : Vec Ideal S256x1024 .bf16) (r c : Fin 1024) :
    (k0_pay1 (F := Ideal) x2 x1 x0 x4 x5 x6 x3 x7 (ix2 r c) : EReal)
      = Layer.post (fun l => x0 (ix2 r l)) (fun l => x1 (ix2 r l)) (fun l => x2 (ix2 r l)) (fun l => x5 (ix2 0 l)) (fun l => x3 (ix2 r l)) x4 x6 x7 c :=
  Layer.gatedAt _ _ _ _ _ _ _ _ _ _ _ _ _ _ x5 x3 x6 x7 r c _ (fun k => Layer.joinedAt _ _ _ x0 x1 x2 x4 r k)

/-- The block the body leaves. -/
theorem block_eq (c : Dev nD) (i : grid0.Coords)
    (arg1 : Memref sig .tc .vmem S1024x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x256 .f32) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1024x1024 .bf16) (harg7 : arg7.IsWhole)
    (arg8 : Memref sig .tc .vmem S256x1024 .bf16) (harg8 : arg8.IsWhole)
    (arg9 : Memref sig .tc .vmem S1024x1024 .f32) (harg9 : arg9.IsWhole)
    (x0 x1 x2 : Vec Ideal S1024x1024 .f32) (x3 : Vec Ideal S1024x256 .f32) (x4 : Vec Ideal S1024x1024 .bf16) (x5 : Vec Ideal S1x1024 .f32)
    (x6 : Vec Ideal S1024x1024 .bf16) (x7 : Vec Ideal S256x1024 .bf16) (y : S1024x1024.Idx) :
    out0_A_8 (F := Ideal) c i arg1 harg1 arg2 harg2 arg3 harg3 arg4 harg4 arg5 harg5 arg6 harg6 arg7 harg7 arg8 harg8 arg9 harg9 x0 x1 x2 x3 x4 x5 x6 x7 y
      = k0_pay1 (F := Ideal) x2 x1 x0 x4 x5 x6 x3 x7 y := by
  have hc := cover0_A_8 (F := Ideal) c i arg1 harg1 arg2 harg2 arg3 harg3 arg4 harg4 arg5 harg5 arg6 harg6 arg7 harg7 arg8 harg8 arg9 harg9 x0 x1 x2 x3 x4 x5 x6 x7
  unfold out0_A_8
  rw [View.read_writes_eq_canon _ _ _ hc]
  refine View.canon_apply_of_pieces (k0_pay1 (F := Ideal) x2 x1 x0 x4 x5 x6 x3 x7) _ ?_ y (hc y)
  unfold kernelRun0_A
  dsimp only
  intro p hp
  simp only [List.mem_cons, List.not_mem_nil, or_false] at hp
  subst hp
  intro x
  have hx : (Rect.unit (s := S1024x1024) ![0, 0] S1024x1024.size inb_S1024x1024_S1024x1024_0_0).emb x = x := by
    funext a; apply Fin.ext
    fin_cases a
    · show 0 + 1 * (x 0).val = (x 0).val; omega
    · show 0 + 1 * (x 1).val = (x 1).val; omega
  refine Eq.trans ?_ (congrArg (k0_pay1 (F := Ideal) x2 x1 x0 x4 x5 x6 x3 x7) hx.symm)
  have l2 : View.readAt (Elt Ideal) arg3.view (Rect.unit (s := S1024x1024) ![0, 0] S1024x1024.size inb_S1024x1024_S1024x1024_0_0).toLoadRect (harg3.unread x2) = x2 := by
    rw [View.readAt_eq_ld, harg3.read_unread, View.ld_unit_zero (by funext a; fin_cases a <;> rfl)]
  have l1 : View.readAt (Elt Ideal) arg2.view (Rect.unit (s := S1024x1024) ![0, 0] S1024x1024.size inb_S1024x1024_S1024x1024_0_0).toLoadRect (harg2.unread x1) = x1 := by
    rw [View.readAt_eq_ld, harg2.read_unread, View.ld_unit_zero (by funext a; fin_cases a <;> rfl)]
  have l0 : View.readAt (Elt Ideal) arg1.view (Rect.unit (s := S1024x1024) ![0, 0] S1024x1024.size inb_S1024x1024_S1024x1024_0_0).toLoadRect (harg1.unread x0) = x0 := by
    rw [View.readAt_eq_ld, harg1.read_unread, View.ld_unit_zero (by funext a; fin_cases a <;> rfl)]
  have l4 : View.readAt (Elt Ideal) arg5.view (Rect.unit (s := S1024x1024) ![0, 0] S1024x1024.size inb_S1024x1024_S1024x1024_0_0).toLoadRect (harg5.unread x4) = x4 := by
    rw [View.readAt_eq_ld, harg5.read_unread, View.ld_unit_zero (by funext a; fin_cases a <;> rfl)]
  have l5 : View.readAt (Elt Ideal) arg6.view (Rect.unit (s := S1x1024) ![0, 0] S1x1024.size inb_S1x1024_S1x1024_0_0).toLoadRect (harg6.unread x5) = x5 := by
    rw [View.readAt_eq_ld, harg6.read_unread, View.ld_unit_zero (by funext a; fin_cases a <;> rfl)]
  have l6 : View.readAt (Elt Ideal) arg7.view (Rect.unit (s := S1024x1024) ![0, 0] S1024x1024.size inb_S1024x1024_S1024x1024_0_0).toLoadRect (harg7.unread x6) = x6 := by
    rw [View.readAt_eq_ld, harg7.read_unread, View.ld_unit_zero (by funext a; fin_cases a <;> rfl)]
  have l3 : View.readAt (Elt Ideal) arg4.view (Rect.unit (s := S1024x256) ![0, 0] S1024x256.size inb_S1024x256_S1024x256_0_0).toLoadRect (harg4.unread x3) = x3 := by
    rw [View.readAt_eq_ld, harg4.read_unread, View.ld_unit_zero (by funext a; fin_cases a <;> rfl)]
  have l7 : View.readAt (Elt Ideal) arg8.view (Rect.unit (s := S256x1024) ![0, 0] S256x1024.size inb_S256x1024_S256x1024_0_0).toLoadRect (harg8.unread x7) = x7 := by
    rw [View.readAt_eq_ld, harg8.read_unread, View.ld_unit_zero (by funext a; fin_cases a <;> rfl)]
  show kernelRun0_A.sl.r (F := Ideal) c arg1 harg1 arg2 harg2 arg3 harg3 arg4 harg4 arg5 harg5 arg6 harg6 arg7 harg7 arg8 harg8 x0 x1 x2 x3 x4 x5 x6 x7 x = _
  unfold kernelRun0_A.sl.r
  rw [l0, l1, l2, l3, l4, l5, l6, l7]

variable (m : (ℓ : Loc nD τ sig) → Buf (Elt Ideal) ℓ)

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![(grid0.coords t 0).val, 1] :=
  (by decide +kernel : ∀ t : Fin grid0.N, win0_2.index t = ![(grid0.coords t 0).val, 1])
theorem index3 : ∀ t : Fin cfg0.N, win0_3.index t = ![(grid0.coords t 0).val + 96, 0] :=
  (by decide +kernel : ∀ t : Fin grid0.N, win0_3.index t = ![(grid0.coords t 0).val + 96, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![(grid0.coords t 0).val, 0] :=
  (by decide +kernel : ∀ t : Fin grid0.N, win0_8.index t = ![(grid0.coords t 0).val, 0])
theorem point (b : Fin 32) : ∃ t : Fin cfg0.N, (grid0.coords t 0).val = b.val :=
  (by decide +kernel : ∀ b : Fin 32, ∃ t : Fin grid0.N, (grid0.coords t 0).val = b.val) b

/-- Argument 4 as the region finds it. -/
theorem V_main_v0 (c : Dev nD) : V m c main_v0 = m ((c : Thread nD τ).loc main_arg4) := by
  simp [V, hostOps0, StableHlo.after]
  exact StableHlo.unary_result main_arg4 main_v0 (fun x => x) _ _ (fun b => m (c, b))

/-- Argument 6 as the region finds it. -/
theorem V_main_v2 (c : Dev nD) : V m c main_v2 = m ((c : Thread nD τ).loc main_arg6) := by
  simp [V, hostOps0, StableHlo.after]
  exact StableHlo.unary_result main_arg6 main_v2 (fun x => x) _ _ (fun b => m (c, b))

/-- Argument 7 as the region finds it. -/
theorem V_main_v3 (c : Dev nD) : V m c main_v3 = m ((c : Thread nD τ).loc main_arg7) := by
  simp [V, hostOps0, StableHlo.after]
  exact StableHlo.unary_result main_arg7 main_v3 (fun x => x) _ _ (fun b => m (c, b))

/-- The gain as the region finds it. -/
theorem V_main_v1 (c : Dev nD) (l : Fin 1024) : V m c main_v1 (ix2 0 l) = m ((c : Thread nD τ).loc main_arg5) (ix1 l) := by
  have e : V m c main_v1 = shapeCast S1x1024 (m ((c : Thread nD τ).loc main_arg5)) shapeCasts_S1024_S1x1024 := by
    simp [V, hostOps0, StableHlo.after]
    exact StableHlo.reshape_result main_arg5 main_v1 rfl shapeCasts_S1024_S1x1024 _ _ (fun b => m (c, b))
  rw [e]
  generalize m ((c : Thread nD τ).loc main_arg5) = x
  pointwise

/-- The output array at a row and a column. -/
theorem out (c : Dev nD) (g : Fin 32768) (n : Fin 1024) :
    (dats m 0 c).arrAt 8 cfg0.N (ix2 g n)
      = post (fun l => m ((c : Thread nD τ).loc main_arg0) (ix2 g l)) (fun l => m ((c : Thread nD τ).loc main_arg1) (ix2 g l))
          (fun l => m ((c : Thread nD τ).loc main_arg2) (ix2 g ⟨1024 + l.val, by omega⟩)) (fun l => m ((c : Thread nD τ).loc main_arg5) (ix1 l))
          (fun l => m ((c : Thread nD τ).loc main_arg3) (ix2 ⟨98304 + g.val, by omega⟩ l)) (m ((c : Thread nD τ).loc main_arg4)) (m ((c : Thread nD τ).loc main_arg6))
          (m ((c : Thread nD τ).loc main_arg7)) n := by
  obtain ⟨b, r, hg⟩ : ∃ (b : Fin 32) (r : Fin 1024), g.val = b.val * 1024 + r.val :=
    ⟨⟨g.val / 1024, by omega⟩, ⟨g.val % 1024, by omega⟩, by show g.val = g.val / 1024 * 1024 + g.val % 1024; omega⟩
  obtain ⟨t, hb⟩ := point b
  have h := congrFun (Value.blocks8 m c t (flush0_8 t)) (ix2 r n)
  blk_simp at h
  rw [after0_8] at h
  have he : (win0_8.blk t).view.emb (ix2 r n) = (ix2 g n : S32768x1024.Idx) := by
    funext a
    apply Fin.ext
    fin_cases a
    · show win0_8.index t 0 * 1024 + 1 * r.val = g.val
      rw [index8]
      show (grid0.coords t 0).val * 1024 + 1 * r.val = g.val
      omega
    · show win0_8.index t 1 * 1024 + 1 * n.val = n.val
      rw [index8]
      show 0 * 1024 + 1 * n.val = n.val
      omega
  rw [he] at h
  refine h.trans ?_
  unfold outsAt0
  rw [block_eq, payAt]
  have e0 : ∀ l : Fin 1024, iblk m c 0 t (ix2 r l) = m ((c : Thread nD τ).loc main_arg0) (ix2 g l) := fun l => by
    refine (congrFun (V_main_arg0 m c) ((win0_0.blk t).view.emb (ix2 r l))).trans (congrArg (m ((c : Thread nD τ).loc main_arg0)) ?_)
    funext a
    apply Fin.ext
    fin_cases a
    · show win0_0.index t 0 * 1024 + 1 * r.val = g.val
      rw [index0]
      show (grid0.coords t 0).val * 1024 + 1 * r.val = g.val
      omega
    · show win0_0.index t 1 * 1024 + 1 * l.val = l.val
      rw [index0]
      show 0 * 1024 + 1 * l.val = l.val
      omega
  have e1 : ∀ l : Fin 1024, iblk m c 1 t (ix2 r l) = m ((c : Thread nD τ).loc main_arg1) (ix2 g l) := fun l => by
    refine (congrFun (V_main_arg1 m c) ((win0_1.blk t).view.emb (ix2 r l))).trans (congrArg (m ((c : Thread nD τ).loc main_arg1)) ?_)
    funext a
    apply Fin.ext
    fin_cases a
    · show win0_1.index t 0 * 1024 + 1 * r.val = g.val
      rw [index1]
      show (grid0.coords t 0).val * 1024 + 1 * r.val = g.val
      omega
    · show win0_1.index t 1 * 1024 + 1 * l.val = l.val
      rw [index1]
      show 0 * 1024 + 1 * l.val = l.val
      omega
  have e2 : ∀ l : Fin 1024, X0_2 m c t (ix2 r l) = m ((c : Thread nD τ).loc main_arg2) (ix2 g ⟨1024 + l.val, by omega⟩) := fun l => by
    unfold X0_2 Pipeline.Window.fill
    rw [dif_pos (moved0_2 t (ix2 r l))]
    refine (congrFun (V_main_arg2 m c) _).trans (congrArg (m ((c : Thread nD τ).loc main_arg2)) ?_)
    funext a
    apply Fin.ext
    fin_cases a
    · show win0_2.index t 0 * 1024 + 1 * r.val = g.val
      rw [index2]
      show (grid0.coords t 0).val * 1024 + 1 * r.val = g.val
      omega
    · show win0_2.index t 1 * 1024 + 1 * l.val = 1024 + l.val
      rw [index2]
      show 1 * 1024 + 1 * l.val = 1024 + l.val
      omega
  have e3 : ∀ l : Fin 256, iblk m c 3 t (ix2 r l) = m ((c : Thread nD τ).loc main_arg3) (ix2 ⟨98304 + g.val, by omega⟩ l) := fun l => by
    refine (congrFun (V_main_arg3 m c) ((win0_3.blk t).view.emb (ix2 r l))).trans (congrArg (m ((c : Thread nD τ).loc main_arg3)) ?_)
    funext a
    apply Fin.ext
    fin_cases a
    · show win0_3.index t 0 * 1024 + 1 * r.val = 98304 + g.val
      rw [index3]
      show ((grid0.coords t 0).val + 96) * 1024 + 1 * r.val = 98304 + g.val
      omega
    · show win0_3.index t 1 * 256 + 1 * l.val = l.val
      rw [index3]
      show 0 * 256 + 1 * l.val = l.val
      omega
  have e5 : ∀ l : Fin 1024, iblk m c 5 t (ix2 0 l) = m ((c : Thread nD τ).loc main_arg5) (ix1 l) := fun l => by
    refine Eq.trans (congrArg (V m c main_v1) ?_) (V_main_v1 m c l)
    funext a
    apply Fin.ext
    fin_cases a
    · show win0_5.index t 0 * 1 + 1 * 0 = 0
      rw [index5]
      rfl
    · show win0_5.index t 1 * 1024 + 1 * l.val = l.val
      rw [index5]
      show 0 * 1024 + 1 * l.val = l.val
      omega
  have e4 : iblk m c 4 t = m ((c : Thread nD τ).loc main_arg4) := by
    funext y
    refine (congrFun (V_main_v0 m c) ((win0_4.blk t).view.emb y)).trans (congrArg (m ((c : Thread nD τ).loc main_arg4)) ?_)
    funext a
    apply Fin.ext
    fin_cases a
    · show win0_4.index t 0 * 1024 + 1 * (y 0 : Fin 1024).val = (y 0 : Fin 1024).val
      rw [index4]
      show 0 * 1024 + 1 * (y 0 : Fin 1024).val = (y 0 : Fin 1024).val
      omega
    · show win0_4.index t 1 * 1024 + 1 * (y 1 : Fin 1024).val = (y 1 : Fin 1024).val
      rw [index4]
      show 0 * 1024 + 1 * (y 1 : Fin 1024).val = (y 1 : Fin 1024).val
      omega
  have e6 : iblk m c 6 t = m ((c : Thread nD τ).loc main_arg6) := by
    funext y
    refine (congrFun (V_main_v2 m c) ((win0_6.blk t).view.emb y)).trans (congrArg (m ((c : Thread nD τ).loc main_arg6)) ?_)
    funext a
    apply Fin.ext
    fin_cases a
    · show win0_6.index t 0 * 1024 + 1 * (y 0 : Fin 1024).val = (y 0 : Fin 1024).val
      rw [index6]
      show 0 * 1024 + 1 * (y 0 : Fin 1024).val = (y 0 : Fin 1024).val
      omega
    · show win0_6.index t 1 * 1024 + 1 * (y 1 : Fin 1024).val = (y 1 : Fin 1024).val
      rw [index6]
      show 0 * 1024 + 1 * (y 1 : Fin 1024).val = (y 1 : Fin 1024).val
      omega
  have e7 : iblk m c 7 t = m ((c : Thread nD τ).loc main_arg7) := by
    funext y
    refine (congrFun (V_main_v3 m c) ((win0_7.blk t).view.emb y)).trans (congrArg (m ((c : Thread nD τ).loc main_arg7)) ?_)
    funext a
    apply Fin.ext
    fin_cases a
    · show win0_7.index t 0 * 256 + 1 * (y 0 : Fin 256).val = (y 0 : Fin 256).val
      rw [index7]
      show 0 * 256 + 1 * (y 0 : Fin 256).val = (y 0 : Fin 256).val
      omega
    · show win0_7.index t 1 * 1024 + 1 * (y 1 : Fin 1024).val = (y 1 : Fin 1024).val
      rw [index7]
      show 0 * 1024 + 1 * (y 1 : Fin 1024).val = (y 1 : Fin 1024).val
      omega
  rw [e4, e6, e7]
  simp only [e0, e1, e2, e3, e5]

/-- The reference's gated mix. -/
theorem ref_mix (x1 : (⟨S32768x1024, .f32⟩ : BufTy).Contents (Elt Ideal)) (x2 : (⟨S32768x3712, .f32⟩ : BufTy).Contents (Elt Ideal)) (g : Fin 32768) (l : Fin 1024) :
    Cert.Post3ReferenceIdeal.Read.val_main_v3 (F := Ideal) x1 x2 (ix2 g l)
      = x1 (ix2 g l) * (x2 (ix2 g ⟨1024 + l.val, by omega⟩) * Ideal.logistic (x2 (ix2 g ⟨1024 + l.val, by omega⟩))) := by
  open Cert.Post3ReferenceIdeal.Read in
  have i0 : idx_main_v0 (ix2 g l) = ix2 g ⟨1024 + l.val, by omega⟩ := by
    funext a; apply Fin.ext; fin_cases a <;> rfl
  open Cert.Post3ReferenceIdeal.Read in
  simp only [val_main_v3_apply, val_main_v2_apply, val_main_v0_apply, val_main_call0_v5_apply, val_main_call0_v4_apply, val_main_call0_cst_0_apply,
    val_main_call0_v3_apply, val_main_call0_v2_apply, val_main_call0_cst_apply, val_main_call0_v1_apply, val_main_call0_v0_apply, i0]
  generalize x2 (ix2 g ⟨1024 + l.val, by omega⟩) = z
  show x1 (ix2 g l) * (z * Ideal.div (Ideal.ofBits FTy.f32 0x3F800000#32) (Ideal.ofBits FTy.f32 0x3F800000#32 + Ideal.exp (-z))) = _
  rw [one]
  rfl

/-- The reference's rows after the sublayer. -/
theorem ref_joined (x0 x1 : (⟨S32768x1024, .f32⟩ : BufTy).Contents (Elt Ideal)) (x2 : (⟨S32768x3712, .f32⟩ : BufTy).Contents (Elt Ideal)) (x4 : (⟨S1024x1024, .f32⟩ : BufTy).Contents (Elt Ideal))
    (g : Fin 32768) (k : Fin 1024) :
    Cert.Post3ReferenceIdeal.Read.val_main_v5 (F := Ideal) x0 x1 x2 x4 (ix2 g k)
      = joined (fun l => x0 (ix2 g l)) (fun l => x1 (ix2 g l)) (fun l => x2 (ix2 g ⟨1024 + l.val, by omega⟩)) x4 k := by
  rw [Cert.Post3ReferenceIdeal.Read.val_main_v5_apply, Cert.Post3ReferenceIdeal.Read.val_main_v4_apply]
  refine congrArg (fun e : EReal => (x0 (ix2 g k) : EReal) + e) (Finset.sum_congr rfl fun l _ => ?_)
  have el : Cert.Post3ReferenceIdeal.Read.lidx_main_v4 (ix2 g k) l = ix2 g l := by
    funext a; apply Fin.ext; fin_cases a <;> rfl
  have er : Cert.Post3ReferenceIdeal.Read.ridx_main_v4 (ix2 g k) l = ix2 l k := by
    funext a; apply Fin.ext; fin_cases a <;> rfl
  rw [el, er, ref_mix]

/-- The reference's normalised rows. -/
theorem ref_normed (x0 x1 : (⟨S32768x1024, .f32⟩ : BufTy).Contents (Elt Ideal)) (x2 : (⟨S32768x3712, .f32⟩ : BufTy).Contents (Elt Ideal)) (x4 : (⟨S1024x1024, .f32⟩ : BufTy).Contents (Elt Ideal))
    (x5 : (⟨S1024, .f32⟩ : BufTy).Contents (Elt Ideal)) (g : Fin 32768) (l : Fin 1024) :
    Cert.Post3ReferenceIdeal.Read.val_main_v18 (F := Ideal) x0 x1 x2 x4 x5 (ix2 g l)
      = normed (joined (fun l => x0 (ix2 g l)) (fun l => x1 (ix2 g l)) (fun l => x2 (ix2 g ⟨1024 + l.val, by omega⟩)) x4) (fun k => x5 (ix1 k)) l := by
  open Cert.Post3ReferenceIdeal.Read in
  have i1 : ∀ k, idx_main_v7 (idx_main_v8 (idx_main_v14 (ix2 g l))) k = ix2 g k := fun k => by
    funext a; apply Fin.ext; fin_cases a <;> rfl
  open Cert.Post3ReferenceIdeal.Read in
  have i2 : idx_main_v16 (idx_main_v17 (ix2 g l)) = ix1 l := by
    funext a; apply Fin.ext; fin_cases a; rfl
  open Cert.Post3ReferenceIdeal.Read in
  simp only [val_main_v18_apply, val_main_v17_apply, val_main_v16_apply, val_main_v15_apply, val_main_v14_apply, val_main_v13_apply, val_main_v12_apply,
    val_main_v11_apply, val_main_v10_apply, val_main_v9_apply, val_main_v8_apply, val_main_v7_apply, val_main_v6_apply, val_main_cst_apply,
    val_main_cst_0_apply, val_main_cst_1_apply, i1, i2, ref_joined]
  generalize joined (fun l => x0 (ix2 g l)) (fun l => x1 (ix2 g l)) (fun l => x2 (ix2 g ⟨1024 + l.val, by omega⟩)) x4 = h
  show h l * Ideal.rsqrt (Ideal.div (Ideal.ofBits FTy.f32 0#32 + ∑ k : Fin 1024, h k * h k) (Ideal.ofBits FTy.f32 0x44800000#32)
    + Ideal.ofBits FTy.f32 0x358637BD#32) * x5 (ix1 l) = _
  rw [zero, zero_add]
  rfl

/-- The reference at a row and a column. -/
theorem ref (x0 x1 : (⟨S32768x1024, .f32⟩ : BufTy).Contents (Elt Ideal)) (x2 : (⟨S32768x3712, .f32⟩ : BufTy).Contents (Elt Ideal)) (x3 : (⟨S131072x256, .f32⟩ : BufTy).Contents (Elt Ideal))
    (x4 : (⟨S1024x1024, .f32⟩ : BufTy).Contents (Elt Ideal)) (x5 : (⟨S1024, .f32⟩ : BufTy).Contents (Elt Ideal)) (x6 : (⟨S1024x1024, .f32⟩ : BufTy).Contents (Elt Ideal))
    (x7 : (⟨S256x1024, .f32⟩ : BufTy).Contents (Elt Ideal)) (g : Fin 32768) (n : Fin 1024) :
    Cert.Post3ReferenceIdeal.Read.val_main_v28 (F := Ideal) x0 x1 x2 x3 x4 x5 x6 x7 (ix2 g n)
      = post (fun l => x0 (ix2 g l)) (fun l => x1 (ix2 g l)) (fun l => x2 (ix2 g ⟨1024 + l.val, by omega⟩)) (fun l => x5 (ix1 l))
          (fun l => x3 (ix2 ⟨98304 + g.val, by omega⟩ l)) x4 x6 x7 n := by
  have e26 : Cert.Post3ReferenceIdeal.Read.val_main_v26 (F := Ideal) x3 x7 (ix2 g n) = ∑ l : Fin 256, x3 (ix2 ⟨98304 + g.val, by omega⟩ l) * x7 (ix2 l n) := by
    rw [Cert.Post3ReferenceIdeal.Read.val_main_v26_apply]
    refine Finset.sum_congr rfl fun l _ => ?_
    have el : Cert.Post3ReferenceIdeal.Read.idx_main_v1 (Cert.Post3ReferenceIdeal.Read.lidx_main_v26 (ix2 g n) l) = ix2 ⟨98304 + g.val, by omega⟩ l := by
      funext a; apply Fin.ext; fin_cases a
      · show 98304 + g.val = 98304 + g.val; omega
      · rfl
    have er : Cert.Post3ReferenceIdeal.Read.ridx_main_v26 (ix2 g n) l = ix2 l n := by
      funext a; apply Fin.ext; fin_cases a <;> rfl
    rw [Cert.Post3ReferenceIdeal.Read.val_main_v1_apply, el, er]
  have e19 : Cert.Post3ReferenceIdeal.Read.val_main_v19 (F := Ideal) x0 x1 x2 x4 x5 x6 (ix2 g n)
      = ∑ l : Fin 1024, normed (joined (fun l => x0 (ix2 g l)) (fun l => x1 (ix2 g l)) (fun l => x2 (ix2 g ⟨1024 + l.val, by omega⟩)) x4) (fun k => x5 (ix1 k)) l * x6 (ix2 l n) := by
    rw [Cert.Post3ReferenceIdeal.Read.val_main_v19_apply]
    refine Finset.sum_congr rfl fun l _ => ?_
    have el : Cert.Post3ReferenceIdeal.Read.lidx_main_v19 (ix2 g n) l = ix2 g l := by
      funext a; apply Fin.ext; fin_cases a <;> rfl
    have er : Cert.Post3ReferenceIdeal.Read.ridx_main_v19 (ix2 g n) l = ix2 l n := by
      funext a; apply Fin.ext; fin_cases a <;> rfl
    rw [el, er, ref_normed]
  open Cert.Post3ReferenceIdeal.Read in
  simp only [val_main_v28_apply, val_main_v27_apply, val_main_v25_apply, val_main_v24_apply, val_main_cst_3_apply, val_main_v23_apply,
    val_main_v22_apply, val_main_cst_2_apply, val_main_v21_apply, val_main_v20_apply, e26, e19, ref_joined]
  unfold post
  generalize joined (fun l => x0 (ix2 g l)) (fun l => x1 (ix2 g l)) (fun l => x2 (ix2 g ⟨1024 + l.val, by omega⟩)) x4 n = h
  generalize ∑ l : Fin 256, x3 (ix2 ⟨98304 + g.val, _⟩ l) * x7 (ix2 l n) = q
  generalize (∑ l : Fin 1024, normed (joined (fun l => x0 (ix2 g l)) (fun l => x1 (ix2 g l)) (fun l => x2 (ix2 g ⟨1024 + l.val, by omega⟩)) x4) (fun k => x5 (ix1 k)) l * x6 (ix2 l n)) = u
  show h + Ideal.div (Ideal.ofBits FTy.f32 0x3F800000#32) (Ideal.ofBits FTy.f32 0x3F800000#32 + Ideal.exp (-u)) * q = _
  rw [one]
  rfl

/-- The reference returns, leaves its arguments and no counter raised. -/
theorem reference : Cert.quiescent_Post3ReferenceIdeal := by
  intro m ρ _
  exact (θ_run Cert.Post3ReferenceIdeal.defs _ _).mono (fun r h => ⟨fun c => (h c).2, sem_eq_zero_of_no_sems (by decide) r.2⟩)
    (Cert.Post3ReferenceIdeal.Value.run (F := Ideal) m ρ)

/-- The exact kernel's result is the reference's. -/
theorem value : Cert.algebraic_Post3Ideal_Post3ReferenceIdeal := by
  intro m ρ m' ρ' hpre hagree
  refine ⟨fun c => Cert.Post3ReferenceIdeal.Read.val_main_v28 (F := Ideal) (m' ((c.tc : Thread _ _).loc Cert.Post3ReferenceIdeal.main_arg0))
      (m' ((c.tc : Thread _ _).loc Cert.Post3ReferenceIdeal.main_arg1)) (m' ((c.tc : Thread _ _).loc Cert.Post3ReferenceIdeal.main_arg2))
      (m' ((c.tc : Thread _ _).loc Cert.Post3ReferenceIdeal.main_arg3)) (m' ((c.tc : Thread _ _).loc Cert.Post3ReferenceIdeal.main_arg4))
      (m' ((c.tc : Thread _ _).loc Cert.Post3ReferenceIdeal.main_arg5)) (m' ((c.tc : Thread _ _).loc Cert.Post3ReferenceIdeal.main_arg6))
      (m' ((c.tc : Thread _ _).loc Cert.Post3ReferenceIdeal.main_arg7)),
    (θ_run Cert.Post3Ideal.defs _ _).mono (fun r h c => ⟨(h c).1.trans ?_, (h c).2⟩) (Cert.Post3Ideal.Value.run_blocks (F := Ideal) m ρ),
    (θ_run Cert.Post3ReferenceIdeal.defs _ _).mono (fun r h c => ⟨(h c).1.trans (Cert.Post3ReferenceIdeal.Read.val_main_v28_eq (F := Ideal) _ _ _ _ _ _ _ _), (h c).2⟩)
      (Cert.Post3ReferenceIdeal.Value.run (F := Ideal) m' ρ')⟩
  obtain ⟨h0, h1, h2, h3, h4, h5, h6, h7⟩ := hagree c
  funext y
  obtain ⟨g, n, rfl⟩ : ∃ (g : Fin 32768) (n : Fin 1024), y = ix2 g n := ⟨y 0, y 1, eq_ix2 y⟩
  refine (out m c g n).trans ?_
  refine Eq.trans ?_ (ref _ _ _ _ _ _ _ _ g n).symm
  rw [h0, h1, h2, h3, h4, h5, h6, h7]

end Cert.Layer.Post3
end
-- ==== Proof.CompressBlock.lean ====
/-
  The compression of NSA's keys and values: what one grid point of the kernel leaves, at a row and a column.
-/
module

public import proofs.«01_k».proof.Proof.Layer
public import proofs.«01_k».proof.Proof.Gen.CompressIdeal.Value
public import Idealize.ShloMosaic.Lib.Pipeline.ValueKit
import all proofs.«01_k».proof.Proof.Gen.CompressIdeal.Frame.RunA

@[expose] public section

set_option backward.proofsInPublic true
set_option maxRecDepth 65536

noncomputable section

namespace Cert.Layer.Compress

open Idealize.ShloMosaic Idealize.ShloMosaic.TcCoe Idealize.SL.Sem Cert.CompressIdeal Cert.CompressIdeal.Gen

/-- One token's part of the first layer added to what the tokens before it left. -/
def step (acc : FVec Ideal S256x512 .f32) (y : Vec Ideal S1x256x128 .f32) (p : Vec Ideal S1x128 .f32) (w : Vec Ideal S1x128x512 .bf16) : FVec Ideal S256x512 .f32 :=
  addf acc (matmul (φ₂ := .bf16) dot_S256x128_S128x512_S256x512_1_0_0_1_n_n none
    (truncf .bf16 (addf (shapeCast S256x128 y shapeCasts_S1x256x128_S256x128) (broadcastTo S256x128 (shapeCast S1x128 p shapeCasts_S1x128_S1x128) broadcasts_S1x128_S256x128)) bitsLt_bf16_f32)
    (shapeCast S128x512 w shapeCasts_S1x128x512_S128x512) (constant S256x512 .f32 0x00000000#32))

theorem step_apply (acc : FVec Ideal S256x512 .f32) (y : Vec Ideal S1x256x128 .f32) (p : Vec Ideal S1x128 .f32) (w : Vec Ideal S1x128x512 .bf16) (n : Fin 256) (h : Fin 512) :
    step acc y p w (ix2 n h) = (acc (ix2 n h) : EReal) + ∑ c : Fin 128, ((y (ix3 0 n c) : EReal) + p (ix2 0 c)) * w (ix3 0 c h) := by
  unfold step
  pointwise

/-- A row of activations of one token of each block. -/
theorem ldY {a2 : Memref sig .tc .vmem S1x4096x128 .f32} (h2 : a2.IsWhole) (x0 : Vec Ideal S1x4096x128 .f32) (l : ℕ) (hl : l < 16) (inb) (n : Fin 256) (c : Fin 128) :
    View.readAt (Elt Ideal) a2.view ({ off := ![0, l, 0], size := S1x256x128.size, stride := ![1, 16, 1], inb := inb } : LoadRect S1x4096x128) (h2.unread x0) (ix3 0 n c)
      = x0 (ix3 0 (⟨16 * n.val + l, by omega⟩ : Fin 4096) c) := by
  refine (congrFun (h2.read_unread x0) _).trans (congrArg x0 ?_)
  funext a
  apply Fin.ext
  fin_cases a
  · rfl
  · show l + 16 * n.val = 16 * n.val + l; omega
  · show 0 + 1 * c.val = c.val; omega

/-- A row of the position embedding. -/
theorem ldP {a3 : Memref sig .tc .vmem S32x128 .f32} (h3 : a3.IsWhole) (x1 : Vec Ideal S32x128 .f32) (l : ℕ) (hl : l < 32) (inb) (c : Fin 128) :
    View.readAt (Elt Ideal) a3.view (Rect.unit (s := S32x128) ![l, 0] S1x128.size inb).toLoadRect (h3.unread x1) (ix2 0 c) = x1 (ix2 (⟨l, hl⟩ : Fin 32) c) := by
  rw [View.readAt_eq_ld, h3.read_unread]
  refine congrArg x1 ?_
  funext a
  apply Fin.ext
  fin_cases a
  · rfl
  · show 0 + 1 * c.val = c.val; omega

/-- A slab of the first layer's weight. -/
theorem ldW {a4 : Memref sig .tc .vmem S32x128x512 .bf16} (h4 : a4.IsWhole) (x2 : Vec Ideal S32x128x512 .bf16) (l : ℕ) (hl : l < 32) (inb) (c : Fin 128) (h : Fin 512) :
    View.readAt (Elt Ideal) a4.view (Rect.unit (s := S32x128x512) ![l, 0, 0] S1x128x512.size inb).toLoadRect (h4.unread x2) (ix3 0 c h) = x2 (ix3 (⟨l, hl⟩ : Fin 32) c h) := by
  rw [View.readAt_eq_ld, h4.read_unread]
  refine congrArg x2 ?_
  funext a
  apply Fin.ext
  fin_cases a
  · rfl
  · show 0 + 1 * c.val = c.val; omega
  · show 0 + 1 * h.val = h.val; omega

/-- The tanh form of gelu. -/
def gelu (h : EReal) : EReal :=
  h * (Ideal.ofBits FTy.f32 0x3F000000#32 * (1 + Ideal.tanh (Ideal.ofBits FTy.f32 0x3F4C422A#32 * (h + Ideal.ofBits FTy.f32 0x3D372713#32 * (h * (h * h))))))

/-- The second layer, from the first one's two halves: the second half comes from the next row. -/
def tail (a b : FVec Ideal S256x512 .f32) (w : Vec Ideal S512x128 .bf16) : FVec Ideal S256x128 .f32 :=
  have v323 : FVec Ideal S256x512 .f32 := addf a (dynamicRotate 0 255#32 none b rotates_S256x512_d0)
  matmul (φ₂ := .bf16) dot_S256x512_S512x128_S256x128_1_0_0_1_n_n none
    (truncf .bf16 (mulf v323 (mulf (broadcast S256x512 (Scalar.ofBits .f32 0x3F000000#32)) (addf (broadcast S256x512 (Scalar.ofBits .f32 0x3F800000#32))
      (tanh (mulf (broadcast S256x512 (Scalar.ofBits .f32 0x3F4C422A#32)) (addf v323 (mulf (broadcast S256x512 (Scalar.ofBits .f32 0x3D372713#32)) (mulf v323 (mulf v323 v323))))))))) bitsLt_bf16_f32)
    (shapeCast S512x128 w shapeCasts_S512x128_S512x128) (constant S256x128 .f32 0x00000000#32)

/-- The row after row `n`, the first after the last. -/
def nxt (n : Fin 256) : Fin 256 := ⟨(n.val + 1) % 256, Nat.mod_lt _ (by decide)⟩

theorem rot0 (b : FVec Ideal S256x512 .f32) (n : Fin 256) (h : Fin 512) :
    dynamicRotate 0 255#32 none b rotates_S256x512_d0 (ix2 n h) = b (ix2 (nxt n) h) := by
  pointwise
  refine congrArg b ?_
  funext a
  apply Fin.ext
  fin_cases a
  · show _ = (n.val + 1) % 256
    simp
  · rfl

theorem tail_apply (a b : FVec Ideal S256x512 .f32) (w : Vec Ideal S512x128 .bf16) (n : Fin 256) (c : Fin 128) :
    tail a b w (ix2 n c) = ∑ h : Fin 512, gelu ((a (ix2 n h) : EReal) + b (ix2 (nxt n) h)) * w (ix2 h c) := by
  unfold tail
  dsimp only
  generalize hr : dynamicRotate 0 255#32 none b rotates_S256x512_d0 = r
  pointwise
  refine Finset.sum_congr rfl fun h _ => ?_
  have e : r (ix2 n h) = b (ix2 (nxt n) h) := by rw [← hr]; exact rot0 b n h
  rw [← e]
  unfold gelu
  rfl

/-- The lane a rotation pairs lane `c` with, inside its head. -/
def partner (c : Fin 128) : Fin 128 := ⟨if c.val % 64 < 32 then (c.val + 32) % 128 else (c.val + 96) % 128, by split <;> exact Nat.mod_lt _ (by decide)⟩

/-- A key's lane over its head's root mean square, times the gain; the mean by a product with `seg`. -/
def keyed (kv : Fin 128 → EReal) (g : Fin 128 → EReal) (seg : Fin 128 → Fin 128 → EReal) (c : Fin 128) : EReal :=
  kv c * Ideal.rsqrt ((∑ j : Fin 128, kv j * kv j * seg j c) + Ideal.ofBits FTy.f32 0x358637BD#32) * g c

/-- The first head's lanes as rotated keys, the second's as they are. -/
def finish (kv : Fin 128 → EReal) (g : Fin 128 → EReal) (seg : Fin 128 → Fin 128 → EReal) (cs sn : Fin 128 → EReal) (c : Fin 128) : EReal :=
  if c.val < 64 then keyed kv g seg c * cs c + keyed kv g seg (partner c) * sn c else kv c

theorem rot96 (b : FVec Ideal S256x128 .f32) (n : Fin 256) (c : Fin 128) :
    dynamicRotate 1 96#32 none b rotates_S256x128_d1 (ix2 n c) = b (ix2 n (⟨(c.val + 32) % 128, Nat.mod_lt _ (by decide)⟩ : Fin 128)) := by
  pointwise
  refine congrArg b ?_
  funext a
  apply Fin.ext
  fin_cases a
  · rfl
  · show _ = (c.val + 32) % 128
    simp

theorem rot32 (b : FVec Ideal S256x128 .f32) (n : Fin 256) (c : Fin 128) :
    dynamicRotate 1 32#32 none b rotates_S256x128_d1 (ix2 n c) = b (ix2 n (⟨(c.val + 96) % 128, Nat.mod_lt _ (by decide)⟩ : Fin 128)) := by
  pointwise
  refine congrArg b ?_
  funext a
  apply Fin.ext
  fin_cases a
  · rfl
  · show _ = (c.val + 96) % 128
    simp

theorem first64 : ∀ c : Fin 128, IntOp.cmpi CmpIPredicate.slt (BitVec.ofNat 32 c.val) 64#32 = if c.val < 64 then 1#1 else 0#1 := by decide +kernel

theorem half : ∀ c : Fin 128, IntOp.cmpi CmpIPredicate.slt
      (Scalar.select
        (IntOp.andi
          (IntOp.xori
            (IntOp.cmpi CmpIPredicate.slt
              (IntOp.remsi ArithUnit.vector (BitVec.ofNat 32 c.val) (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 c.val) (Scalar.select (Scalar.cmpi CmpIPredicate.eq 64#32 0#32) 1#32 64#32)) 0#32))
        (IntOp.addi
          (IntOp.remsi ArithUnit.vector (BitVec.ofNat 32 c.val) (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 c.val) (Scalar.select (Scalar.cmpi CmpIPredicate.eq 64#32 0#32) 1#32 64#32)))
      32#32 = if c.val % 64 < 32 then 1#1 else 0#1 := by decide +kernel

theorem pay46_apply (kv : FVec Ideal S256x128 .f32) (g : FVec Ideal S1x128 .f32) (cs sn : Vec Ideal S256x128 .f32) (seg : Vec Ideal S128x128 .bf16) (n : Fin 256) (c : Fin 128) :
    k0_pay46 (F := Ideal) kv g cs sn seg (ix2 n c)
      = finish (fun j => kv (ix2 n j)) (fun j => g (ix2 0 j)) (fun j k => seg (ix2 j k)) (fun j => cs (ix2 n j)) (fun j => sn (ix2 n j)) c := by
  unfold k0_pay46
  dsimp only
  generalize hN : (mulf (mulf kv _) _ : FVec Ideal S256x128 .f32) = N
  have hk : ∀ j : Fin 128, N (ix2 n j) = keyed (fun j => kv (ix2 n j)) (fun j => g (ix2 0 j)) (fun j k => seg (ix2 j k)) j := by
    intro j
    rw [← hN]
    pointwise
    rfl
  generalize h1 : dynamicRotate 1 96#32 none N rotates_S256x128_d1 = N1
  generalize h2 : dynamicRotate 1 32#32 none N rotates_S256x128_d1 = N2
  have e1 := h1 ▸ rot96 N n c
  have e2 := h2 ▸ rot32 N n c
  rw [hk] at e1 e2
  pointwise
  rw [hk, e1, e2, first64, half]
  unfold finish partner
  by_cases hc : c.val < 64 <;> by_cases hd : c.val % 64 < 32 <;> simp only [hc, hd, if_true, if_false] <;> rfl

/-- One token's part of the first layer. -/
def term (x0 : Vec Ideal S1x4096x128 .f32) (x1 : Vec Ideal S32x128 .f32) (x2 : Vec Ideal S32x128x512 .bf16) (o : ℕ) (ho : o < 2) (n : Fin 256) (h : Fin 512) (l : Fin 16) : EReal :=
  ∑ c : Fin 128, ((x0 (ix3 0 (⟨16 * n.val + l.val, by omega⟩ : Fin 4096) c) : EReal) + x1 (ix2 (⟨l.val + 16 * o, by omega⟩ : Fin 32) c)) * x2 (ix3 (⟨l.val + 16 * o, by omega⟩ : Fin 32) c h)

theorem step_term {arg2 : Memref sig .tc .vmem S1x4096x128 .f32} (harg2 : arg2.IsWhole) {arg3 : Memref sig .tc .vmem S32x128 .f32} (harg3 : arg3.IsWhole)
    {arg4 : Memref sig .tc .vmem S32x128x512 .bf16} (harg4 : arg4.IsWhole) (x0 : Vec Ideal S1x4096x128 .f32) (x1 : Vec Ideal S32x128 .f32) (x2 : Vec Ideal S32x128x512 .bf16)
    (acc : FVec Ideal S256x512 .f32) (l : ℕ) (hl : l < 16) (o : ℕ) (ho : o < 2) (L : ℕ) (hL : L = l + 16 * o) (i0 i1 i2) (n : Fin 256) (h : Fin 512) (A : EReal) (hA : acc (ix2 n h) = A) :
    step acc (View.readAt (Elt Ideal) arg2.view ({ off := ![0, l, 0], size := S1x256x128.size, stride := ![1, 16, 1], inb := i0 } : LoadRect S1x4096x128) (harg2.unread x0))
      (View.readAt (Elt Ideal) arg3.view (Rect.unit (s := S32x128) ![L, 0] S1x128.size i1).toLoadRect (harg3.unread x1))
      (View.readAt (Elt Ideal) arg4.view (Rect.unit (s := S32x128x512) ![L, 0, 0] S1x128x512.size i2).toLoadRect (harg4.unread x2)) (ix2 n h)
      = A + term x0 x1 x2 o ho n h ⟨l, hl⟩ := by
  subst hL hA
  refine (step_apply _ _ _ _ n h).trans (congrArg (fun e : EReal => (acc (ix2 n h) : EReal) + e) ?_)
  refine Finset.sum_congr rfl fun c _ => ?_
  rw [ldY harg2 x0 l hl i0 n c, ldP harg3 x1 (l + 16 * o) (by omega) i1 c, ldW harg4 x2 (l + 16 * o) (by omega) i2 c h]

section
variable {arg2 : Memref sig .tc .vmem S1x4096x128 .f32} (harg2 : arg2.IsWhole) {arg3 : Memref sig .tc .vmem S32x128 .f32} (harg3 : arg3.IsWhole)
  {arg4 : Memref sig .tc .vmem S32x128x512 .bf16} (harg4 : arg4.IsWhole) (x0 : Vec Ideal S1x4096x128 .f32) (x1 : Vec Ideal S32x128 .f32) (x2 : Vec Ideal S32x128x512 .bf16)

/-- One token's step, on the parts of the windows it reads. -/
abbrev stepAt (acc : FVec Ideal S256x512 .f32) (l L : ℕ)
    (i0 : ∀ a, S1x256x128.size a = 0 ∨ ![0, l, 0] a + ![1, 16, 1] a * (S1x256x128.size a - 1) < S1x4096x128.size a)
    (i1 : ∀ a, ![L, 0] a + S1x128.size a ≤ S32x128.size a) (i2 : ∀ a, ![L, 0, 0] a + S1x128x512.size a ≤ S32x128x512.size a) : FVec Ideal S256x512 .f32 :=
    step acc (View.readAt (Elt Ideal) arg2.view ({ off := ![0, l, 0], size := S1x256x128.size, stride := ![1, 16, 1], inb := i0 } : LoadRect S1x4096x128) (harg2.unread x0))
      (View.readAt (Elt Ideal) arg3.view (Rect.unit (s := S32x128) ![L, 0] S1x128.size i1).toLoadRect (harg3.unread x1))
      (View.readAt (Elt Ideal) arg4.view (Rect.unit (s := S32x128x512) ![L, 0, 0] S1x128x512.size i2).toLoadRect (harg4.unread x2))

/-- The first layer over the block's first sixteen tokens. -/
def acc0 : FVec Ideal S256x512 .f32 :=
    (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (broadcast S256x512 (Scalar.ofBits (F := Ideal) .f32 0x00000000#32))
      0 0 inb_S1x4096x128_S1x256x128_0_0_0_s_1_16_1 inb_S32x128_S1x128_0_0 inb_S32x128x512_S1x128x512_0_0_0)
      1 1 inb_S1x4096x128_S1x256x128_0_1_0_s_1_16_1 inb_S32x128_S1x128_1_0 inb_S32x128x512_S1x128x512_1_0_0)
      2 2 inb_S1x4096x128_S1x256x128_0_2_0_s_1_16_1 inb_S32x128_S1x128_2_0 inb_S32x128x512_S1x128x512_2_0_0)
      3 3 inb_S1x4096x128_S1x256x128_0_3_0_s_1_16_1 inb_S32x128_S1x128_3_0 inb_S32x128x512_S1x128x512_3_0_0)
      4 4 inb_S1x4096x128_S1x256x128_0_4_0_s_1_16_1 inb_S32x128_S1x128_4_0 inb_S32x128x512_S1x128x512_4_0_0)
      5 5 inb_S1x4096x128_S1x256x128_0_5_0_s_1_16_1 inb_S32x128_S1x128_5_0 inb_S32x128x512_S1x128x512_5_0_0)
      6 6 inb_S1x4096x128_S1x256x128_0_6_0_s_1_16_1 inb_S32x128_S1x128_6_0 inb_S32x128x512_S1x128x512_6_0_0)
      7 7 inb_S1x4096x128_S1x256x128_0_7_0_s_1_16_1 inb_S32x128_S1x128_7_0 inb_S32x128x512_S1x128x512_7_0_0)
      8 8 inb_S1x4096x128_S1x256x128_0_8_0_s_1_16_1 inb_S32x128_S1x128_8_0 inb_S32x128x512_S1x128x512_8_0_0)
      9 9 inb_S1x4096x128_S1x256x128_0_9_0_s_1_16_1 inb_S32x128_S1x128_9_0 inb_S32x128x512_S1x128x512_9_0_0)
      10 10 inb_S1x4096x128_S1x256x128_0_10_0_s_1_16_1 inb_S32x128_S1x128_10_0 inb_S32x128x512_S1x128x512_10_0_0)
      11 11 inb_S1x4096x128_S1x256x128_0_11_0_s_1_16_1 inb_S32x128_S1x128_11_0 inb_S32x128x512_S1x128x512_11_0_0)
      12 12 inb_S1x4096x128_S1x256x128_0_12_0_s_1_16_1 inb_S32x128_S1x128_12_0 inb_S32x128x512_S1x128x512_12_0_0)
      13 13 inb_S1x4096x128_S1x256x128_0_13_0_s_1_16_1 inb_S32x128_S1x128_13_0 inb_S32x128x512_S1x128x512_13_0_0)
      14 14 inb_S1x4096x128_S1x256x128_0_14_0_s_1_16_1 inb_S32x128_S1x128_14_0 inb_S32x128x512_S1x128x512_14_0_0)
      15 15 inb_S1x4096x128_S1x256x128_0_15_0_s_1_16_1 inb_S32x128_S1x128_15_0 inb_S32x128x512_S1x128x512_15_0_0)

theorem acc0_apply (n : Fin 256) (h : Fin 512) : acc0 harg2 harg3 harg4 x0 x1 x2 (ix2 n h) = ∑ l : Fin 16, term x0 x1 x2 0 (by decide) n h l := by
  have e : acc0 harg2 harg3 harg4 x0 x1 x2 (ix2 n h) = _ :=
    (step_term harg2 harg3 harg4 x0 x1 x2 _ 15 (by decide) 0 (by decide) 15 rfl _ _ _ n h _ (step_term harg2 harg3 harg4 x0 x1 x2 _ 14 (by decide) 0 (by decide) 14 rfl _ _ _ n h _ (step_term harg2 harg3 harg4 x0 x1 x2 _ 13 (by decide) 0 (by decide) 13 rfl _ _ _ n h _ (step_term harg2 harg3 harg4 x0 x1 x2 _ 12 (by decide) 0 (by decide) 12 rfl _ _ _ n h _ (step_term harg2 harg3 harg4 x0 x1 x2 _ 11 (by decide) 0 (by decide) 11 rfl _ _ _ n h _ (step_term harg2 harg3 harg4 x0 x1 x2 _ 10 (by decide) 0 (by decide) 10 rfl _ _ _ n h _ (step_term harg2 harg3 harg4 x0 x1 x2 _ 9 (by decide) 0 (by decide) 9 rfl _ _ _ n h _ (step_term harg2 harg3 harg4 x0 x1 x2 _ 8 (by decide) 0 (by decide) 8 rfl _ _ _ n h _ (step_term harg2 harg3 harg4 x0 x1 x2 _ 7 (by decide) 0 (by decide) 7 rfl _ _ _ n h _ (step_term harg2 harg3 harg4 x0 x1 x2 _ 6 (by decide) 0 (by decide) 6 rfl _ _ _ n h _ (step_term harg2 harg3 harg4 x0 x1 x2 _ 5 (by decide) 0 (by decide) 5 rfl _ _ _ n h _ (step_term harg2 harg3 harg4 x0 x1 x2 _ 4 (by decide) 0 (by decide) 4 rfl _ _ _ n h _ (step_term harg2 harg3 harg4 x0 x1 x2 _ 3 (by decide) 0 (by decide) 3 rfl _ _ _ n h _ (step_term harg2 harg3 harg4 x0 x1 x2 _ 2 (by decide) 0 (by decide) 2 rfl _ _ _ n h _ (step_term harg2 harg3 harg4 x0 x1 x2 _ 1 (by decide) 0 (by decide) 1 rfl _ _ _ n h _ (step_term harg2 harg3 harg4 x0 x1 x2 _ 0 (by decide) 0 (by decide) 0 rfl _ _ _ n h _ zero))))))))))))))))
  rw [e]
  simp only [Fin.sum_univ_castSucc, Fin.sum_univ_zero]
  rfl

/-- The first layer over the block's second sixteen tokens. -/
def acc1 : FVec Ideal S256x512 .f32 :=
    (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (stepAt harg2 harg3 harg4 x0 x1 x2 (broadcast S256x512 (Scalar.ofBits (F := Ideal) .f32 0x00000000#32))
      0 16 inb_S1x4096x128_S1x256x128_0_0_0_s_1_16_1 inb_S32x128_S1x128_16_0 inb_S32x128x512_S1x128x512_16_0_0)
      1 17 inb_S1x4096x128_S1x256x128_0_1_0_s_1_16_1 inb_S32x128_S1x128_17_0 inb_S32x128x512_S1x128x512_17_0_0)
      2 18 inb_S1x4096x128_S1x256x128_0_2_0_s_1_16_1 inb_S32x128_S1x128_18_0 inb_S32x128x512_S1x128x512_18_0_0)
      3 19 inb_S1x4096x128_S1x256x128_0_3_0_s_1_16_1 inb_S32x128_S1x128_19_0 inb_S32x128x512_S1x128x512_19_0_0)
      4 20 inb_S1x4096x128_S1x256x128_0_4_0_s_1_16_1 inb_S32x128_S1x128_20_0 inb_S32x128x512_S1x128x512_20_0_0)
      5 21 inb_S1x4096x128_S1x256x128_0_5_0_s_1_16_1 inb_S32x128_S1x128_21_0 inb_S32x128x512_S1x128x512_21_0_0)
      6 22 inb_S1x4096x128_S1x256x128_0_6_0_s_1_16_1 inb_S32x128_S1x128_22_0 inb_S32x128x512_S1x128x512_22_0_0)
      7 23 inb_S1x4096x128_S1x256x128_0_7_0_s_1_16_1 inb_S32x128_S1x128_23_0 inb_S32x128x512_S1x128x512_23_0_0)
      8 24 inb_S1x4096x128_S1x256x128_0_8_0_s_1_16_1 inb_S32x128_S1x128_24_0 inb_S32x128x512_S1x128x512_24_0_0)
      9 25 inb_S1x4096x128_S1x256x128_0_9_0_s_1_16_1 inb_S32x128_S1x128_25_0 inb_S32x128x512_S1x128x512_25_0_0)
      10 26 inb_S1x4096x128_S1x256x128_0_10_0_s_1_16_1 inb_S32x128_S1x128_26_0 inb_S32x128x512_S1x128x512_26_0_0)
      11 27 inb_S1x4096x128_S1x256x128_0_11_0_s_1_16_1 inb_S32x128_S1x128_27_0 inb_S32x128x512_S1x128x512_27_0_0)
      12 28 inb_S1x4096x128_S1x256x128_0_12_0_s_1_16_1 inb_S32x128_S1x128_28_0 inb_S32x128x512_S1x128x512_28_0_0)
      13 29 inb_S1x4096x128_S1x256x128_0_13_0_s_1_16_1 inb_S32x128_S1x128_29_0 inb_S32x128x512_S1x128x512_29_0_0)
      14 30 inb_S1x4096x128_S1x256x128_0_14_0_s_1_16_1 inb_S32x128_S1x128_30_0 inb_S32x128x512_S1x128x512_30_0_0)
      15 31 inb_S1x4096x128_S1x256x128_0_15_0_s_1_16_1 inb_S32x128_S1x128_31_0 inb_S32x128x512_S1x128x512_31_0_0)

theorem acc1_apply (n : Fin 256) (h : Fin 512) : acc1 harg2 harg3 harg4 x0 x1 x2 (ix2 n h) = ∑ l : Fin 16, term x0 x1 x2 1 (by decide) n h l := by
  have e : acc1 harg2 harg3 harg4 x0 x1 x2 (ix2 n h) = _ :=
    (step_term harg2 harg3 harg4 x0 x1 x2 _ 15 (by decide) 1 (by decide) 31 rfl _ _ _ n h _ (step_term harg2 harg3 harg4 x0 x1 x2 _ 14 (by decide) 1 (by decide) 30 rfl _ _ _ n h _ (step_term harg2 harg3 harg4 x0 x1 x2 _ 13 (by decide) 1 (by decide) 29 rfl _ _ _ n h _ (step_term harg2 harg3 harg4 x0 x1 x2 _ 12 (by decide) 1 (by decide) 28 rfl _ _ _ n h _ (step_term harg2 harg3 harg4 x0 x1 x2 _ 11 (by decide) 1 (by decide) 27 rfl _ _ _ n h _ (step_term harg2 harg3 harg4 x0 x1 x2 _ 10 (by decide) 1 (by decide) 26 rfl _ _ _ n h _ (step_term harg2 harg3 harg4 x0 x1 x2 _ 9 (by decide) 1 (by decide) 25 rfl _ _ _ n h _ (step_term harg2 harg3 harg4 x0 x1 x2 _ 8 (by decide) 1 (by decide) 24 rfl _ _ _ n h _ (step_term harg2 harg3 harg4 x0 x1 x2 _ 7 (by decide) 1 (by decide) 23 rfl _ _ _ n h _ (step_term harg2 harg3 harg4 x0 x1 x2 _ 6 (by decide) 1 (by decide) 22 rfl _ _ _ n h _ (step_term harg2 harg3 harg4 x0 x1 x2 _ 5 (by decide) 1 (by decide) 21 rfl _ _ _ n h _ (step_term harg2 harg3 harg4 x0 x1 x2 _ 4 (by decide) 1 (by decide) 20 rfl _ _ _ n h _ (step_term harg2 harg3 harg4 x0 x1 x2 _ 3 (by decide) 1 (by decide) 19 rfl _ _ _ n h _ (step_term harg2 harg3 harg4 x0 x1 x2 _ 2 (by decide) 1 (by decide) 18 rfl _ _ _ n h _ (step_term harg2 harg3 harg4 x0 x1 x2 _ 1 (by decide) 1 (by decide) 17 rfl _ _ _ n h _ (step_term harg2 harg3 harg4 x0 x1 x2 _ 0 (by decide) 1 (by decide) 16 rfl _ _ _ n h _ zero))))))))))))))))
  rw [e]
  simp only [Fin.sum_univ_castSucc, Fin.sum_univ_zero]
  rfl

end

theorem whole_eq (c : Dev nD) (i : grid0.Coords) (arg2 : Memref sig .tc .vmem S1x4096x128 .f32) (harg2 : arg2.IsWhole) (arg3 : Memref sig .tc .vmem S32x128 .f32) (harg3 : arg3.IsWhole)
    (arg4 : Memref sig .tc .vmem S32x128x512 .bf16) (harg4 : arg4.IsWhole) (arg5 : Memref sig .tc .vmem S512x128 .bf16) (harg5 : arg5.IsWhole) (arg6 : Memref sig .tc .vmem S1x128 .f32) (harg6 : arg6.IsWhole)
    (arg7 : Memref sig .tc .vmem S256x128 .f32) (harg7 : arg7.IsWhole) (arg8 : Memref sig .tc .vmem S256x128 .f32) (harg8 : arg8.IsWhole) (arg9 : Memref sig .tc .vmem S128x128 .bf16) (harg9 : arg9.IsWhole)
    (x0 : Vec Ideal S1x4096x128 .f32) (x1 : Vec Ideal S32x128 .f32) (x2 : Vec Ideal S32x128x512 .bf16) (x3 : Vec Ideal S512x128 .bf16) (x4 : Vec Ideal S1x128 .f32) (x5 x6 : Vec Ideal S256x128 .f32) (x7 : Vec Ideal S128x128 .bf16) :
    kernelRun0_A.sl.r_36 c arg2 harg2 arg3 harg3 arg4 harg4 arg5 harg5 arg6 harg6 arg7 harg7 arg8 harg8 arg9 harg9 x0 x1 x2 x3 x4 x5 x6 x7
      = k0_pay46 (F := Ideal) (tail (acc0 harg2 harg3 harg4 x0 x1 x2) (acc1 harg2 harg3 harg4 x0 x1 x2)
          (View.readAt (Elt Ideal) arg5.view (Rect.unit (s := S512x128) ![0, 0] S512x128.size inb_S512x128_S512x128_0_0).toLoadRect (harg5.unread x3)))
        (shapeCast S1x128 (View.readAt (Elt Ideal) arg6.view (Rect.unit (s := S1x128) ![0, 0] S1x128.size inb_S1x128_S1x128_0_0).toLoadRect (harg6.unread x4)) shapeCasts_S1x128_S1x128)
        (View.readAt (Elt Ideal) arg7.view (Rect.unit (s := S256x128) ![0, 0] S256x128.size inb_S256x128_S256x128_0_0).toLoadRect (harg7.unread x5))
        (View.readAt (Elt Ideal) arg8.view (Rect.unit (s := S256x128) ![0, 0] S256x128.size inb_S256x128_S256x128_0_0).toLoadRect (harg8.unread x6))
        (View.readAt (Elt Ideal) arg9.view (Rect.unit (s := S128x128) ![0, 0] S128x128.size inb_S128x128_S128x128_0_0).toLoadRect (harg9.unread x7)) := by
  rfl

/-- The compressed row before its norm. -/
def mlp (x0 : Vec Ideal S1x4096x128 .f32) (x1 : Vec Ideal S32x128 .f32) (x2 : Vec Ideal S32x128x512 .bf16) (x3 : Vec Ideal S512x128 .bf16) (n : Fin 256) (c : Fin 128) : EReal :=
  ∑ h : Fin 512, gelu (∑ l : Fin 16, term x0 x1 x2 0 (by decide) n h l + ∑ l : Fin 16, term x0 x1 x2 1 (by decide) (nxt n) h l) * x3 (ix2 h c)

theorem ldAll {s : Shape} {e : EltTy} {a : Memref sig .tc .vmem s e} (h : a.IsWhole) (x : Vec Ideal s e) {off : Fin s.rank → ℕ} (ho : off = fun _ => 0) (inb) :
    View.readAt (Elt Ideal) a.view (Rect.unit (s := s) off s.size inb).toLoadRect (h.unread x) = x := by
  rw [View.readAt_eq_ld, h.read_unread, View.ld_unit_zero ho]

/-- The block the body leaves. -/
def blockOf (x0 : Vec Ideal S1x4096x128 .f32) (x1 : Vec Ideal S32x128 .f32) (x2 : Vec Ideal S32x128x512 .bf16) (x3 : Vec Ideal S512x128 .bf16) (x4 : Vec Ideal S1x128 .f32) (x5 x6 : Vec Ideal S256x128 .f32) (x7 : Vec Ideal S128x128 .bf16) (y : S1x1x256x128.Idx) : EReal :=
  finish (mlp x0 x1 x2 x3 (y 2 : Fin 256)) (fun j => x4 (ix2 0 j)) (fun j k => x7 (ix2 j k)) (fun j => x5 (ix2 (y 2 : Fin 256) j)) (fun j => x6 (ix2 (y 2 : Fin 256) j)) (y 3 : Fin 128)

/-- The stored value at a row and a lane. -/
theorem pay_eq (c : Dev nD) (i : grid0.Coords) (arg2 : Memref sig .tc .vmem S1x4096x128 .f32) (harg2 : arg2.IsWhole) (arg3 : Memref sig .tc .vmem S32x128 .f32) (harg3 : arg3.IsWhole)
    (arg4 : Memref sig .tc .vmem S32x128x512 .bf16) (harg4 : arg4.IsWhole) (arg5 : Memref sig .tc .vmem S512x128 .bf16) (harg5 : arg5.IsWhole) (arg6 : Memref sig .tc .vmem S1x128 .f32) (harg6 : arg6.IsWhole)
    (arg7 : Memref sig .tc .vmem S256x128 .f32) (harg7 : arg7.IsWhole) (arg8 : Memref sig .tc .vmem S256x128 .f32) (harg8 : arg8.IsWhole) (arg9 : Memref sig .tc .vmem S128x128 .bf16) (harg9 : arg9.IsWhole)
    (x0 : Vec Ideal S1x4096x128 .f32) (x1 : Vec Ideal S32x128 .f32) (x2 : Vec Ideal S32x128x512 .bf16) (x3 : Vec Ideal S512x128 .bf16) (x4 : Vec Ideal S1x128 .f32) (x5 x6 : Vec Ideal S256x128 .f32) (x7 : Vec Ideal S128x128 .bf16) (n : Fin 256) (k : Fin 128) :
    k0_pay1 (F := Ideal) (kernelRun0_A.sl.r_36 c arg2 harg2 arg3 harg3 arg4 harg4 arg5 harg5 arg6 harg6 arg7 harg7 arg8 harg8 arg9 harg9 x0 x1 x2 x3 x4 x5 x6 x7) (ix4 0 0 n k)
      = blockOf x0 x1 x2 x3 x4 x5 x6 x7 (ix4 0 0 n k) := by
  rw [whole_eq c i, ldAll harg5 x3 (by funext a; fin_cases a <;> rfl), ldAll harg6 x4 (by funext a; fin_cases a <;> rfl), ldAll harg7 x5 (by funext a; fin_cases a <;> rfl),
    ldAll harg8 x6 (by funext a; fin_cases a <;> rfl), ldAll harg9 x7 (by funext a; fin_cases a <;> rfl)]
  have e : k0_pay1 (F := Ideal) (k0_pay46 (F := Ideal) (tail (acc0 harg2 harg3 harg4 x0 x1 x2) (acc1 harg2 harg3 harg4 x0 x1 x2) x3) (shapeCast S1x128 x4 shapeCasts_S1x128_S1x128) x5 x6 x7) (ix4 0 0 n k)
      = k0_pay46 (F := Ideal) (tail (acc0 harg2 harg3 harg4 x0 x1 x2) (acc1 harg2 harg3 harg4 x0 x1 x2) x3) (shapeCast S1x128 x4 shapeCasts_S1x128_S1x128) x5 x6 x7 (ix2 n k) := by
    generalize k0_pay46 (F := Ideal) (tail (acc0 harg2 harg3 harg4 x0 x1 x2) (acc1 harg2 harg3 harg4 x0 x1 x2) x3) (shapeCast S1x128 x4 shapeCasts_S1x128_S1x128) x5 x6 x7 = v
    unfold k0_pay1
    pointwise
  refine e.trans ((pay46_apply _ _ _ _ _ n k).trans ?_)
  have hm : (fun j => tail (acc0 harg2 harg3 harg4 x0 x1 x2) (acc1 harg2 harg3 harg4 x0 x1 x2) x3 (ix2 n j)) = mlp x0 x1 x2 x3 n := by
    funext j
    rw [tail_apply]
    unfold mlp
    simp only [acc0_apply, acc1_apply]
  rw [hm, shapeCast_self]
  rfl

/-- The block the body leaves, at a row and a lane. -/
theorem block_eq (c : Dev nD) (i : grid0.Coords) (arg2 : Memref sig .tc .vmem S1x4096x128 .f32) (harg2 : arg2.IsWhole) (arg3 : Memref sig .tc .vmem S32x128 .f32) (harg3 : arg3.IsWhole)
    (arg4 : Memref sig .tc .vmem S32x128x512 .bf16) (harg4 : arg4.IsWhole) (arg5 : Memref sig .tc .vmem S512x128 .bf16) (harg5 : arg5.IsWhole) (arg6 : Memref sig .tc .vmem S1x128 .f32) (harg6 : arg6.IsWhole)
    (arg7 : Memref sig .tc .vmem S256x128 .f32) (harg7 : arg7.IsWhole) (arg8 : Memref sig .tc .vmem S256x128 .f32) (harg8 : arg8.IsWhole) (arg9 : Memref sig .tc .vmem S128x128 .bf16) (harg9 : arg9.IsWhole) (arg10 : Memref sig .tc .vmem S1x1x256x128 .f32) (harg10 : arg10.IsWhole)
    (x0 : Vec Ideal S1x4096x128 .f32) (x1 : Vec Ideal S32x128 .f32) (x2 : Vec Ideal S32x128x512 .bf16) (x3 : Vec Ideal S512x128 .bf16) (x4 : Vec Ideal S1x128 .f32) (x5 x6 : Vec Ideal S256x128 .f32) (x7 : Vec Ideal S128x128 .bf16) (n : Fin 256) (k : Fin 128) :
    out0_A_8 (F := Ideal) c i arg2 harg2 arg3 harg3 arg4 harg4 arg5 harg5 arg6 harg6 arg7 harg7 arg8 harg8 arg9 harg9 arg10 harg10 x0 x1 x2 x3 x4 x5 x6 x7 (ix4 0 0 n k)
      = blockOf x0 x1 x2 x3 x4 x5 x6 x7 (ix4 0 0 n k) := by
  have hc := cover0_A_8 (F := Ideal) c i arg2 harg2 arg3 harg3 arg4 harg4 arg5 harg5 arg6 harg6 arg7 harg7 arg8 harg8 arg9 harg9 arg10 harg10 x0 x1 x2 x3 x4 x5 x6 x7
  unfold out0_A_8
  rw [View.read_writes_eq_canon _ _ _ hc]
  refine View.canon_apply_of_pieces (blockOf x0 x1 x2 x3 x4 x5 x6 x7) _ ?_ _ (hc _)
  unfold kernelRun0_A
  dsimp only
  intro p hp
  simp only [List.mem_cons, List.not_mem_nil, or_false] at hp
  rcases hp with rfl
  intro x
  dsimp only
  obtain ⟨n, k, rfl⟩ : ∃ (n : Fin 256) (k : Fin 128), x = ix4 0 0 n k := ⟨x 2, x 3, by
    funext a
    fin_cases a
    · exact Subsingleton.elim (α := Fin 1) _ _
    · exact Subsingleton.elim (α := Fin 1) _ _
    · rfl
    · rfl⟩
  have he : (Rect.unit (s := S1x1x256x128) ![0, 0, 0, 0] S1x1x256x128.size inb_S1x1x256x128_S1x1x256x128_0_0_0_0).emb (ix4 0 0 n k) = ix4 0 0 n k := by
    funext a
    apply Fin.ext
    fin_cases a
    · rfl
    · rfl
    · show 0 + 1 * n.val = n.val; omega
    · show 0 + 1 * k.val = k.val; omega
  exact (pay_eq c i arg2 harg2 arg3 harg3 arg4 harg4 arg5 harg5 arg6 harg6 arg7 harg7 arg8 harg8 arg9 harg9 x0 x1 x2 x3 x4 x5 x6 x7 n k).trans (congrArg (blockOf x0 x1 x2 x3 x4 x5 x6 x7) he.symm)

end Cert.Layer.Compress
end
-- ==== Proof.CompressHost.lean ====
/-
  The compression of NSA's keys and values: the arrays the host prepares for the kernel, read at an index.
-/
module

public import proofs.«01_k».proof.Proof.CompressBlock
public import Idealize.ShloMosaic.Lib.StableHlo.ReadAt

@[expose] public section

set_option backward.proofsInPublic true
set_option maxRecDepth 65536

noncomputable section

namespace Cert.Layer.Compress

open Idealize.ShloMosaic Idealize.ShloMosaic.TcCoe Idealize.SL.Sem Cert.CompressIdeal Cert.CompressIdeal.Gen

variable (m : (ℓ : Loc nD τ sig) → Buf (Elt Ideal) ℓ)

/-- The head a lane belongs to, as the host computes it. -/
def headOf (c : ℕ) : BitVec 32 :=
  Scalar.select (IntOp.andi
      (IntOp.cmpi .ne (if BitVec.ofNat 32 c = 0 then 0 else if (BitVec.ofNat 32 c).msb then -1 else 1 : BitVec 32) (if 64#32 = 0 then 0 else if (64#32).msb then -1 else 1 : BitVec 32))
      (IntOp.cmpi .ne (IntOp.remsi .host (BitVec.ofNat 32 c) 64#32) 0#32))
    (IntOp.subi (IntOp.divsi .host (BitVec.ofNat 32 c) 64#32) 1#32) (IntOp.divsi .host (BitVec.ofNat 32 c) 64#32)

theorem headOf_eq : ∀ c : Fin 128, headOf c.val = BitVec.ofNat 32 (c.val / 64) := by decide +kernel
theorem same_head : ∀ a b : Fin 2, IntOp.cmpi .eq (BitVec.ofNat 32 a.val) (BitVec.ofNat 32 b.val) = if a.val = b.val then 1#1 else 0#1 := by decide +kernel

theorem sixtyFour : Ideal.ofBits FTy.f32 0x42800000#32 = ((64 : ℝ) : EReal) := by
  have h : Ideal.ofBits FTy.f32 0x42800000#32 = ((8388608 * 2 ^ (-17 : ℤ) : ℝ) : EReal) := by
    simp [Ideal.ofBits, Ideal.ieee]
  rw [h]
  norm_num

theorem seg_entry (c j : Fin 128) :
    Ideal.div (FloatOps.uitofp (F := Ideal) FTy.f32 (IntOp.cmpi .eq (headOf c.val) (headOf j.val))) (Ideal.ofBits FTy.f32 0x42800000#32)
      = if c.val / 64 = j.val / 64 then Ideal.div 1 (Ideal.ofBits FTy.f32 0x42800000#32) else (0 : EReal) := by
  rw [headOf_eq, headOf_eq, same_head ⟨c.val / 64, by omega⟩ ⟨j.val / 64, by omega⟩]
  by_cases h : c.val / 64 = j.val / 64
  · rw [if_pos h, if_pos h]
    congr 1
    show (((1#1 : BitVec 1).toNat : ℝ) : EReal) = 1
    norm_num
  · rw [if_neg h, if_neg h]
    have e : FloatOps.uitofp (F := Ideal) FTy.f32 (0#1) = (0 : EReal) := by
      show (((0#1 : BitVec 1).toNat : ℝ) : EReal) = 0
      norm_num
    rw [e, sixtyFour]
    unfold Ideal.div
    rw [if_neg (by norm_num)]
    exact zero_mul _

theorem V77 (d : Dev nD) (c : Fin 128) :
    (V m d main_v77 (ix2 0 c) : EReal) = if h : c.val < 64 then m ((d : Thread nD τ).loc main_arg4) (ix1 (⟨c.val, h⟩ : Fin 64)) else (1 : EReal) := by
  unfold V
  repeat after_reads_at
theorem V46 (d : Dev nD) (c j : Fin 128) :
    (V m d main_v46 (ix2 c j) : EReal) = if c.val / 64 = j.val / 64 then Ideal.div 1 (Ideal.ofBits FTy.f32 0x42800000#32) else 0 := by
  unfold V
  repeat after_reads_at
  simp only [id]
  pointwise
  exact seg_entry c j
theorem V74 (d : Dev nD) (l : Fin 32) (c : Fin 128) :
    (V m d main_v74 (ix2 l c) : EReal) = m ((d : Thread nD τ).loc main_arg1) (ix3 (⟨c.val / 64, by omega⟩ : Fin 2) l (⟨c.val % 64, by omega⟩ : Fin 64)) := by
  unfold V
  repeat after_reads_at
  by_cases hc : c.val < 64
  · rw [dif_pos hc]
    refine congrArg (m ((d : Thread nD τ).loc main_arg1)) ?_
    funext a
    apply Fin.ext
    fin_cases a
    · show 0 = c.val / 64; omega
    · rfl
    · show c.val = c.val % 64; omega
  · rw [dif_neg hc]
    refine congrArg (m ((d : Thread nD τ).loc main_arg1)) ?_
    funext a
    apply Fin.ext
    fin_cases a
    · show 1 = c.val / 64; omega
    · rfl
    · show c.val - 64 = c.val % 64; omega
theorem V69 (d : Dev nD) (h : Fin 512) (c : Fin 128) :
    (V m d main_v69 (ix2 h c) : EReal) = if h.val / 256 = c.val / 64 then m ((d : Thread nD τ).loc main_arg3) (ix3 (⟨c.val / 64, by omega⟩ : Fin 2) (⟨h.val % 256, by omega⟩ : Fin 256) (⟨c.val % 64, by omega⟩ : Fin 64)) else (0 : EReal) := by
  unfold V
  repeat after_reads_at
  by_cases hh : h.val < 256 <;> by_cases hc : c.val < 64
  all_goals first | rw [dif_pos hh] | rw [dif_neg hh]
  all_goals try pointwise
  all_goals first | rw [dif_pos hc] | rw [dif_neg hc] | skip
  all_goals first | rw [if_pos (show h.val / 256 = c.val / 64 by omega)] | rw [if_neg (show ¬ h.val / 256 = c.val / 64 by omega)]
  all_goals try rfl
  · refine congrArg (m ((d : Thread nD τ).loc main_arg3)) ?_
    funext a
    apply Fin.ext
    fin_cases a
    · show 0 = c.val / 64; omega
    · show h.val = h.val % 256; omega
    · show c.val = c.val % 64; omega
  · refine congrArg (m ((d : Thread nD τ).loc main_arg3)) ?_
    funext a
    apply Fin.ext
    fin_cases a
    · show 1 = c.val / 64; omega
    · show h.val - 256 = h.val % 256; omega
    · show c.val - 64 = c.val % 64; omega

theorem V58 (d : Dev nD) (l : Fin 32) (c : Fin 128) (h : Fin 512) :
    (V m d main_v58 (ix3 l c h) : EReal) = if c.val / 64 = h.val / 256 then m ((d : Thread nD τ).loc main_arg2) (ix3 (⟨h.val / 256, by omega⟩ : Fin 2) (⟨l.val * 64 + c.val % 64, by omega⟩ : Fin 2048) (⟨h.val % 256, by omega⟩ : Fin 256)) else (0 : EReal) := by
  unfold V
  repeat after_reads_at
  by_cases hc : c.val < 64
  · refine (dif_pos hc).trans ?_
    by_cases hh : h.val < 256
    · refine (dif_pos hh).trans ?_
      refine Eq.trans ?_ (if_pos (show c.val / 64 = h.val / 256 by omega)).symm
      refine congrArg (m ((d : Thread nD τ).loc main_arg2)) ?_
      funext a
      apply Fin.ext
      fin_cases a
      · show 0 = h.val / 256; omega
      · show l.val * 64 + c.val = l.val * 64 + c.val % 64; omega
      · show h.val = h.val % 256; omega
    · refine (dif_neg hh).trans ?_
      exact (if_neg (show ¬ c.val / 64 = h.val / 256 by omega)).symm
  · refine (dif_neg hc).trans ?_
    by_cases hh : h.val < 256
    · refine (dif_pos hh).trans ?_
      exact (if_neg (show ¬ c.val / 64 = h.val / 256 by omega)).symm
    · refine (dif_neg hh).trans ?_
      refine Eq.trans ?_ (if_pos (show c.val / 64 = h.val / 256 by omega)).symm
      refine congrArg (m ((d : Thread nD τ).loc main_arg2)) ?_
      funext a
      apply Fin.ext
      fin_cases a
      · show 1 = h.val / 256; omega
      · show l.val * 64 + (c.val - 64) = l.val * 64 + c.val % 64; omega
      · show h.val - 256 = h.val % 256; omega

/-- The angle of row `n` at frequency `j`. -/
def angle (n : Fin 256) (j : ℕ) : EReal :=
  FloatOps.sitofp (F := Ideal) FTy.f32 (IntOp.subi (IntOp.addi (IntOp.muli (BitVec.ofNat 32 n.val) 16#32) 32#32) 1#32) *
    Ideal.pow (Ideal.ofBits FTy.f32 0x461C4000#32) (Ideal.div (-FloatOps.sitofp (F := Ideal) FTy.f32 (BitVec.ofNat 32 j)) (Ideal.ofBits FTy.f32 0x42000000#32))

theorem V22 (d : Dev nD) (n : Fin 256) (c : Fin 128) : (V m d main_v22 (ix2 n c) : EReal) = Ideal.cos (angle n (c.val % 32)) := by
  unfold V
  after_reads_at
  rfl
/-- Which half of its head a lane is in, as the host computes it. -/
theorem turn : ∀ c : Fin 128, IntOp.cmpi .slt (Scalar.select (IntOp.andi
      (IntOp.cmpi .ne (IntOp.cmpi .slt (IntOp.remsi .host (BitVec.ofNat 32 c.val) (Scalar.select (IntOp.cmpi .eq 64#32 0#32) 1#32 64#32)) 0#32) (IntOp.cmpi .slt (Scalar.select (IntOp.cmpi .eq 64#32 0#32) 1#32 64#32) 0#32)) (IntOp.cmpi .ne (IntOp.remsi .host (BitVec.ofNat 32 c.val) (Scalar.select (IntOp.cmpi .eq 64#32 0#32) 1#32 64#32)) 0#32))
      (IntOp.addi (IntOp.remsi .host (BitVec.ofNat 32 c.val) (Scalar.select (IntOp.cmpi .eq 64#32 0#32) 1#32 64#32)) (Scalar.select (IntOp.cmpi .eq 64#32 0#32) 1#32 64#32)) (IntOp.remsi .host (BitVec.ofNat 32 c.val) (Scalar.select (IntOp.cmpi .eq 64#32 0#32) 1#32 64#32))) 32#32 = if c.val % 64 < 32 then 1#1 else 0#1 := by decide +kernel

theorem V35 (d : Dev nD) (n : Fin 256) (c : Fin 128) :
    (V m d main_v35 (ix2 n c) : EReal) = Ideal.sin (angle n (c.val % 32)) * (if c.val % 64 < 32 then Ideal.ofBits FTy.f32 0xBF800000#32 else Ideal.ofBits FTy.f32 0x3F800000#32) := by
  unfold V
  after_reads_at
  simp only [id]
  pointwise
  rw [turn]
  unfold angle
  by_cases h : c.val % 64 < 32
  · rw [if_pos h, if_pos h]; rfl
  · rw [if_neg h, if_neg h]; rfl

end Cert.Layer.Compress
end
-- ==== Proof.CompressRef.lean ====
/-
  The compression of NSA's keys and values: the reference's two halves read at an index.
-/
module

public import proofs.«01_k».proof.Proof.Gen.CompressReferenceIdeal.Read
public import proofs.«01_k».proof.Proof.CompressBlock
public import Idealize.ShloMosaic.Lib.ValueIdx

@[expose] public section

set_option backward.proofsInPublic true
set_option maxRecDepth 65536

noncomputable section

namespace Cert.Layer.Compress

open Idealize.ShloMosaic Idealize.ShloMosaic.TcCoe Idealize.SL.Sem Cert.CompressReferenceIdeal Cert.CompressReferenceIdeal.Gen
open Cert.CompressReferenceIdeal.Read

variable (x0 : (⟨S8x4096x3712, .f32⟩ : BufTy).Contents (Elt Ideal)) (x1 : (⟨S2x32x64, .f32⟩ : BufTy).Contents (Elt Ideal)) (x2 : (⟨S2x2048x256, .f32⟩ : BufTy).Contents (Elt Ideal)) (x3 : (⟨S2x256x64, .f32⟩ : BufTy).Contents (Elt Ideal))

/-- A token of a block, with the position embedding; part `p` is 0 for the keys and 1 for the values. -/
def tok (x0 : S8x4096x3712.Idx → EReal) (x1 : S2x32x64.Idx → EReal) (p : Fin 2) (b : Fin 8) (g : Fin 4) (n : Fin 256) (l : Fin 32) (d : Fin 64) : EReal :=
  x0 (ix3 b (⟨(16 * n.val + l.val) % 4096, by omega⟩ : Fin 4096) (⟨2048 + 128 * g.val + 64 * p.val + d.val, by omega⟩ : Fin 3712)) + x1 (ix3 p l d)

/-- The first layer before its activation. -/
def hid (x0 : S8x4096x3712.Idx → EReal) (x1 : S2x32x64.Idx → EReal) (x2 : S2x2048x256.Idx → EReal) (p : Fin 2) (b : Fin 8) (g : Fin 4) (n : Fin 256) (k : Fin 256) : EReal :=
  ∑ f : Fin 2048, tok x0 x1 p b g n ⟨f.val / 64, by omega⟩ ⟨f.val % 64, by omega⟩ * x2 (ix3 p f k)

/-- A block compressed. -/
def cmp (x0 : S8x4096x3712.Idx → EReal) (x1 : S2x32x64.Idx → EReal) (x2 : S2x2048x256.Idx → EReal) (x3 : S2x256x64.Idx → EReal) (p : Fin 2) (b : Fin 8) (g : Fin 4) (n : Fin 256) (d : Fin 64) : EReal :=
  ∑ k : Fin 256, gelu (hid x0 x1 x2 p b g n k) * x3 (ix3 p k d)

theorem gather_apply (x : S8x4x4096x64.Idx → EReal) (idx : IVec S256x32x1 32) (b : Fin 8) (g : Fin 4) (n : Fin 256) (l : Fin 32) (d : Fin 64) :
    Host.gather gather_S8x4x4096x64_S256x32x1_S8x4x256x32x64_014_2_n_n_2_2_84164 x idx (ix5 b g n l d)
      = x (ix4 b g (⟨min (idx (ix3 n l 0)).toInt.toNat 4095, by omega⟩ : Fin 4096) d) := by
  unfold Host.gather
  congr 1
  funext a
  refine Fin.ext ?_
  let G := gather_S8x4x4096x64_S256x32x1_S8x4x256x32x64_014_2_n_n_2_2_84164
  show G.start (ix5 b g n l d) idx a + G.batchCoord (ix5 b g n l d) a + G.offCoord (ix5 b g n l d) a = _
  rw [GatherDims.batchCoord_eq_zero _ _ _ (fun h => absurd h List.not_mem_nil), Nat.add_zero]
  have hk : ∀ a : Fin 4, a ≠ 2 → G.start (ix5 b g n l d) idx a = 0 := fun a h => by
    unfold GatherDims.start
    exact dif_neg (fun h' => h (List.mem_singleton.mp h'))
  match a with
  | ⟨0, _⟩ => show G.start (ix5 b g n l d) idx (0 : Fin 4) + G.offCoord (ix5 b g n l d) (0 : Fin 4) = b.val; rw [hk 0 (by decide), Nat.zero_add]; unfold GatherDims.offCoord; rw [dif_pos (show (0 : Fin 4) ∈ G.sKept by decide)]; rfl
  | ⟨1, _⟩ => show G.start (ix5 b g n l d) idx (1 : Fin 4) + G.offCoord (ix5 b g n l d) (1 : Fin 4) = g.val; rw [hk 1 (by decide), Nat.zero_add]; unfold GatherDims.offCoord; rw [dif_pos (show (1 : Fin 4) ∈ G.sKept by decide)]; rfl
  | ⟨3, _⟩ => show G.start (ix5 b g n l d) idx (3 : Fin 4) + G.offCoord (ix5 b g n l d) (3 : Fin 4) = d.val; rw [hk 3 (by decide), Nat.zero_add]; unfold GatherDims.offCoord; rw [dif_pos (show (3 : Fin 4) ∈ G.sKept by decide)]; rfl
  | ⟨2, _⟩ =>
    show G.start (ix5 b g n l d) idx (2 : Fin 4) + G.offCoord (ix5 b g n l d) (2 : Fin 4) = min (idx (ix3 n l 0)).toInt.toNat 4095
    rw [GatherDims.offCoord_eq_zero _ _ _ (fun h => ((GatherDims.mem_sKept _ _).mp h).1 (List.mem_singleton.mpr rfl)), Nat.add_zero]
    unfold GatherDims.start
    rw [dif_pos (show (2 : Fin 4) ∈ G.startIndexMap from List.mem_singleton.mpr rfl)]
    have hsi : G.siIdx (ix5 b g n l d) ⟨List.idxOf (2 : Fin 4) G.startIndexMap, List.idxOf_lt_length_iff.2 (List.mem_singleton.mpr rfl)⟩ = ix3 n l 0 := by
      funext b'; refine Fin.ext ?_
      match b' with
      | ⟨0, _⟩ => rfl
      | ⟨1, _⟩ => rfl
      | ⟨2, _⟩ => rfl
    rw [hsi]
    rfl

/-- A row's remainder by the number of rows, as a signed remainder made nonnegative. -/
def rem (x : BitVec 32) : BitVec 32 :=
  Scalar.select (IntOp.andi (IntOp.cmpi .ne (IntOp.cmpi .slt (IntOp.remsi .host x (Scalar.select (IntOp.cmpi .eq 4096#32 0#32) 1#32 4096#32)) 0#32) (IntOp.cmpi .slt (Scalar.select (IntOp.cmpi .eq 4096#32 0#32) 1#32 4096#32) 0#32)) (IntOp.cmpi .ne (IntOp.remsi .host x (Scalar.select (IntOp.cmpi .eq 4096#32 0#32) 1#32 4096#32)) 0#32)) (IntOp.addi (IntOp.remsi .host x (Scalar.select (IntOp.cmpi .eq 4096#32 0#32) 1#32 4096#32)) (Scalar.select (IntOp.cmpi .eq 4096#32 0#32) 1#32 4096#32)) (IntOp.remsi .host x (Scalar.select (IntOp.cmpi .eq 4096#32 0#32) 1#32 4096#32))

/-- A row made nonnegative once more, as an index. -/
def wrap (x : BitVec 32) : BitVec 32 := Scalar.select (IntOp.cmpi .slt (rem x) 0#32) (IntOp.addi (rem x) 4096#32) (rem x)

theorem wrap_eq : ∀ v : Fin 4112, min (wrap (BitVec.ofNat 32 v.val)).toInt.toNat 4095 = v.val % 4096 := by decide +kernel

theorem row_eq (n : Fin 256) (l : Fin 32) : IntOp.addi (IntOp.muli (BitVec.ofNat 32 n.val) 16#32) (BitVec.ofNat 32 l.val) = BitVec.ofNat 32 (16 * n.val + l.val) := by
  show BitVec.ofNat 32 n.val * BitVec.ofNat 32 16 + BitVec.ofNat 32 l.val = _
  rw [← BitVec.ofNat_mul, ← BitVec.ofNat_add, Nat.mul_comm]

theorem at26 (n : Fin 256) (l : Fin 32) : min (val_main_v26 (F := Ideal) (ix3 n l 0)).toInt.toNat 4095 = (16 * n.val + l.val) % 4096 := by
  refine Eq.trans ?_ (wrap_eq ⟨16 * n.val + l.val, by omega⟩)
  have e : val_main_v26 (F := Ideal) (ix3 n l 0) = wrap (IntOp.addi (IntOp.muli (BitVec.ofNat 32 n.val) 16#32) (BitVec.ofNat 32 l.val)) := by
    simp only [val_main_v11_apply, val_main_v12_apply, val_main_c_apply, val_main_v13_apply, val_main_v14_apply, val_main_v15_apply, val_main_v16_apply, val_main_v17_apply, val_main_v18_apply, val_main_v19_apply, val_main_c_0_apply, val_main_call0_v0_apply, val_main_call0_c_apply, val_main_call0_v1_apply, val_main_call0_c_0_apply, val_main_call0_v2_apply, val_main_call0_v3_apply, val_main_call0_v4_apply, val_main_call0_c_1_apply, val_main_call0_v5_apply, val_main_call0_v6_apply, val_main_call0_c_2_apply, val_main_call0_v7_apply, val_main_call0_v8_apply, val_main_call0_c_3_apply, val_main_call0_v9_apply, val_main_call0_v10_apply, val_main_call0_v11_apply, val_main_call0_v12_apply, val_main_call0_v13_apply, val_main_call0_v14_apply, val_main_v20_apply, val_main_c_1_apply, val_main_v21_apply, val_main_v22_apply, val_main_c_2_apply, val_main_v23_apply, val_main_v24_apply, val_main_v25_apply, val_main_v26_apply]
    rfl
  rw [e, row_eq]
theorem at70 (n : Fin 256) (l : Fin 32) : min (val_main_v70 (F := Ideal) (ix3 n l 0)).toInt.toNat 4095 = (16 * n.val + l.val) % 4096 := by
  refine Eq.trans ?_ (wrap_eq ⟨16 * n.val + l.val, by omega⟩)
  have e : val_main_v70 (F := Ideal) (ix3 n l 0) = wrap (IntOp.addi (IntOp.muli (BitVec.ofNat 32 n.val) 16#32) (BitVec.ofNat 32 l.val)) := by
    simp only [val_main_v55_apply, val_main_v56_apply, val_main_c_6_apply, val_main_v57_apply, val_main_v58_apply, val_main_v59_apply, val_main_v60_apply, val_main_v61_apply, val_main_v62_apply, val_main_v63_apply, val_main_c_7_apply, val_main_call1_v0_apply, val_main_call1_c_apply, val_main_call1_v1_apply, val_main_call1_c_0_apply, val_main_call1_v2_apply, val_main_call1_v3_apply, val_main_call1_v4_apply, val_main_call1_c_1_apply, val_main_call1_v5_apply, val_main_call1_v6_apply, val_main_call1_c_2_apply, val_main_call1_v7_apply, val_main_call1_v8_apply, val_main_call1_c_3_apply, val_main_call1_v9_apply, val_main_call1_v10_apply, val_main_call1_v11_apply, val_main_call1_v12_apply, val_main_call1_v13_apply, val_main_call1_v14_apply, val_main_v64_apply, val_main_c_8_apply, val_main_v65_apply, val_main_v66_apply, val_main_c_9_apply, val_main_v67_apply, val_main_v68_apply, val_main_v69_apply, val_main_v70_apply]
    rfl
  rw [e, row_eq]

theorem i_v4 (b : Fin 8) (g : Fin 4) (t : Fin 4096) (d : Fin 64) : idx_main_v4 (ix4 b g t d) = (ix5 0 b g t d) := by
  funext a
  apply Fin.ext
  fin_cases a
  · show 0 = 0; omega
  · show (((b.val * 4 + g.val) * 4096 + t.val) * 64 + d.val) / 1048576 % 8 = b.val; omega
  · show (((b.val * 4 + g.val) * 4096 + t.val) * 64 + d.val) / 262144 % 4 = g.val; omega
  · show (((b.val * 4 + g.val) * 4096 + t.val) * 64 + d.val) / 64 % 4096 = t.val; omega
  · show (((b.val * 4 + g.val) * 4096 + t.val) * 64 + d.val) % 64 = d.val; omega

theorem i_v3 (b : Fin 8) (g : Fin 4) (t : Fin 4096) (d : Fin 64) : idx_main_v3 (ix5 0 b g t d) = (ix5 0 b g t d) := by
  funext a
  apply Fin.ext
  fin_cases a
  · show 0 = 0; omega
  · show b.val = b.val; omega
  · show g.val = g.val; omega
  · show t.val = t.val; omega
  · show d.val = d.val; omega

theorem i_v2_0 (b : Fin 8) (g : Fin 4) (t : Fin 4096) (d : Fin 64) : idx_main_v2 (ix5 0 b g t d) = (ix5 b t g 0 d) := by
  funext a
  apply Fin.ext
  fin_cases a
  · show b.val = b.val; omega
  · show t.val = t.val; omega
  · show g.val = g.val; omega
  · show 0 = 0; omega
  · show d.val = d.val; omega

theorem i_v1_0 (b : Fin 8) (g : Fin 4) (t : Fin 4096) (d : Fin 64) : idx_main_v1 (ix5 b t g 0 d) = (ix3 b t (⟨128 * g.val + 64 * 0 + d.val, by omega⟩ : Fin 512)) := by
  funext a
  apply Fin.ext
  fin_cases a
  · show ((((b.val * 4096 + t.val) * 4 + g.val) * 2 + 0) * 64 + d.val) / 2097152 = b.val; omega
  · show ((((b.val * 4096 + t.val) * 4 + g.val) * 2 + 0) * 64 + d.val) / 512 % 4096 = t.val; omega
  · show ((((b.val * 4096 + t.val) * 4 + g.val) * 2 + 0) * 64 + d.val) % 512 = 128 * g.val + 64 * 0 + d.val; omega

theorem i_v0_0 (b : Fin 8) (g : Fin 4) (t : Fin 4096) (d : Fin 64) : idx_main_v0 (ix3 b t (⟨128 * g.val + 64 * 0 + d.val, by omega⟩ : Fin 512)) = (ix3 b t (⟨2048 + 128 * g.val + 64 * 0 + d.val, by omega⟩ : Fin 3712)) := by
  funext a
  apply Fin.ext
  fin_cases a
  · show b.val = b.val; omega
  · show t.val = t.val; omega
  · show 2048 + (128 * g.val + 64 * 0 + d.val) = 2048 + 128 * g.val + 64 * 0 + d.val; omega

theorem r_v4 (b : Fin 8) (g : Fin 4) (t : Fin 4096) (d : Fin 64) : val_main_v4 (F := Ideal) x0 (ix4 b g t d) = x0 (ix3 b t (⟨2048 + 128 * g.val + 64 * 0 + d.val, by omega⟩ : Fin 3712)) := by
  rw [val_main_v4_apply, i_v4, val_main_v3_apply, i_v3, val_main_v2_apply, i_v2_0, val_main_v1_apply, i_v1_0, val_main_v0_apply, i_v0_0]

theorem i_v48 (b : Fin 8) (g : Fin 4) (t : Fin 4096) (d : Fin 64) : idx_main_v48 (ix4 b g t d) = (ix5 0 b g t d) := by
  funext a
  apply Fin.ext
  fin_cases a
  · show 0 = 0; omega
  · show (((b.val * 4 + g.val) * 4096 + t.val) * 64 + d.val) / 1048576 % 8 = b.val; omega
  · show (((b.val * 4 + g.val) * 4096 + t.val) * 64 + d.val) / 262144 % 4 = g.val; omega
  · show (((b.val * 4 + g.val) * 4096 + t.val) * 64 + d.val) / 64 % 4096 = t.val; omega
  · show (((b.val * 4 + g.val) * 4096 + t.val) * 64 + d.val) % 64 = d.val; omega

theorem i_v47 (b : Fin 8) (g : Fin 4) (t : Fin 4096) (d : Fin 64) : idx_main_v47 (ix5 0 b g t d) = (ix5 1 b g t d) := by
  funext a
  apply Fin.ext
  fin_cases a
  · show 1 + 0 = 1; omega
  · show b.val = b.val; omega
  · show g.val = g.val; omega
  · show t.val = t.val; omega
  · show d.val = d.val; omega

theorem i_v2_1 (b : Fin 8) (g : Fin 4) (t : Fin 4096) (d : Fin 64) : idx_main_v2 (ix5 1 b g t d) = (ix5 b t g 1 d) := by
  funext a
  apply Fin.ext
  fin_cases a
  · show b.val = b.val; omega
  · show t.val = t.val; omega
  · show g.val = g.val; omega
  · show 1 = 1; omega
  · show d.val = d.val; omega

theorem i_v1_1 (b : Fin 8) (g : Fin 4) (t : Fin 4096) (d : Fin 64) : idx_main_v1 (ix5 b t g 1 d) = (ix3 b t (⟨128 * g.val + 64 * 1 + d.val, by omega⟩ : Fin 512)) := by
  funext a
  apply Fin.ext
  fin_cases a
  · show ((((b.val * 4096 + t.val) * 4 + g.val) * 2 + 1) * 64 + d.val) / 2097152 = b.val; omega
  · show ((((b.val * 4096 + t.val) * 4 + g.val) * 2 + 1) * 64 + d.val) / 512 % 4096 = t.val; omega
  · show ((((b.val * 4096 + t.val) * 4 + g.val) * 2 + 1) * 64 + d.val) % 512 = 128 * g.val + 64 * 1 + d.val; omega

theorem i_v0_1 (b : Fin 8) (g : Fin 4) (t : Fin 4096) (d : Fin 64) : idx_main_v0 (ix3 b t (⟨128 * g.val + 64 * 1 + d.val, by omega⟩ : Fin 512)) = (ix3 b t (⟨2048 + 128 * g.val + 64 * 1 + d.val, by omega⟩ : Fin 3712)) := by
  funext a
  apply Fin.ext
  fin_cases a
  · show b.val = b.val; omega
  · show t.val = t.val; omega
  · show 2048 + (128 * g.val + 64 * 1 + d.val) = 2048 + 128 * g.val + 64 * 1 + d.val; omega

theorem r_v48 (b : Fin 8) (g : Fin 4) (t : Fin 4096) (d : Fin 64) : val_main_v48 (F := Ideal) x0 (ix4 b g t d) = x0 (ix3 b t (⟨2048 + 128 * g.val + 64 * 1 + d.val, by omega⟩ : Fin 3712)) := by
  rw [val_main_v48_apply, i_v48, val_main_v47_apply, i_v47, val_main_v2_apply, i_v2_1, val_main_v1_apply, i_v1_1, val_main_v0_apply, i_v0_1]

theorem i_v6 (l : Fin 32) (d : Fin 64) : idx_main_v6 (ix2 l d) = (ix3 0 l d) := by
  funext a
  apply Fin.ext
  fin_cases a
  · show 0 = 0; omega
  · show (l.val * 64 + d.val) / 64 % 32 = l.val; omega
  · show (l.val * 64 + d.val) % 64 = d.val; omega

theorem i_v5 (l : Fin 32) (d : Fin 64) : idx_main_v5 (ix3 0 l d) = (ix3 0 l d) := by
  funext a
  apply Fin.ext
  fin_cases a
  · show 0 = 0; omega
  · show l.val = l.val; omega
  · show d.val = d.val; omega

theorem r_v6 (l : Fin 32) (d : Fin 64) : val_main_v6 (F := Ideal) x1 (ix2 l d) = x1 (ix3 0 l d) := by
  rw [val_main_v6_apply, i_v6, val_main_v5_apply, i_v5]

theorem i_v8 (f : Fin 2048) (k : Fin 256) : idx_main_v8 (ix2 f k) = (ix3 0 f k) := by
  funext a
  apply Fin.ext
  fin_cases a
  · show 0 = 0; omega
  · show (f.val * 256 + k.val) / 256 % 2048 = f.val; omega
  · show (f.val * 256 + k.val) % 256 = k.val; omega

theorem i_v7 (f : Fin 2048) (k : Fin 256) : idx_main_v7 (ix3 0 f k) = (ix3 0 f k) := by
  funext a
  apply Fin.ext
  fin_cases a
  · show 0 = 0; omega
  · show f.val = f.val; omega
  · show k.val = k.val; omega

theorem r_v8 (f : Fin 2048) (k : Fin 256) : val_main_v8 (F := Ideal) x2 (ix2 f k) = x2 (ix3 0 f k) := by
  rw [val_main_v8_apply, i_v8, val_main_v7_apply, i_v7]

theorem i_v10 (k : Fin 256) (d : Fin 64) : idx_main_v10 (ix2 k d) = (ix3 0 k d) := by
  funext a
  apply Fin.ext
  fin_cases a
  · show 0 = 0; omega
  · show (k.val * 64 + d.val) / 64 % 256 = k.val; omega
  · show (k.val * 64 + d.val) % 64 = d.val; omega

theorem i_v9 (k : Fin 256) (d : Fin 64) : idx_main_v9 (ix3 0 k d) = (ix3 0 k d) := by
  funext a
  apply Fin.ext
  fin_cases a
  · show 0 = 0; omega
  · show k.val = k.val; omega
  · show d.val = d.val; omega

theorem r_v10 (k : Fin 256) (d : Fin 64) : val_main_v10 (F := Ideal) x3 (ix2 k d) = x3 (ix3 0 k d) := by
  rw [val_main_v10_apply, i_v10, val_main_v9_apply, i_v9]

theorem i_v50 (l : Fin 32) (d : Fin 64) : idx_main_v50 (ix2 l d) = (ix3 0 l d) := by
  funext a
  apply Fin.ext
  fin_cases a
  · show 0 = 0; omega
  · show (l.val * 64 + d.val) / 64 % 32 = l.val; omega
  · show (l.val * 64 + d.val) % 64 = d.val; omega

theorem i_v49 (l : Fin 32) (d : Fin 64) : idx_main_v49 (ix3 0 l d) = (ix3 1 l d) := by
  funext a
  apply Fin.ext
  fin_cases a
  · show 1 + 0 = 1; omega
  · show l.val = l.val; omega
  · show d.val = d.val; omega

theorem r_v50 (l : Fin 32) (d : Fin 64) : val_main_v50 (F := Ideal) x1 (ix2 l d) = x1 (ix3 1 l d) := by
  rw [val_main_v50_apply, i_v50, val_main_v49_apply, i_v49]

theorem i_v52 (f : Fin 2048) (k : Fin 256) : idx_main_v52 (ix2 f k) = (ix3 0 f k) := by
  funext a
  apply Fin.ext
  fin_cases a
  · show 0 = 0; omega
  · show (f.val * 256 + k.val) / 256 % 2048 = f.val; omega
  · show (f.val * 256 + k.val) % 256 = k.val; omega

theorem i_v51 (f : Fin 2048) (k : Fin 256) : idx_main_v51 (ix3 0 f k) = (ix3 1 f k) := by
  funext a
  apply Fin.ext
  fin_cases a
  · show 1 + 0 = 1; omega
  · show f.val = f.val; omega
  · show k.val = k.val; omega

theorem r_v52 (f : Fin 2048) (k : Fin 256) : val_main_v52 (F := Ideal) x2 (ix2 f k) = x2 (ix3 1 f k) := by
  rw [val_main_v52_apply, i_v52, val_main_v51_apply, i_v51]

theorem i_v54 (k : Fin 256) (d : Fin 64) : idx_main_v54 (ix2 k d) = (ix3 0 k d) := by
  funext a
  apply Fin.ext
  fin_cases a
  · show 0 = 0; omega
  · show (k.val * 64 + d.val) / 64 % 256 = k.val; omega
  · show (k.val * 64 + d.val) % 64 = d.val; omega

theorem i_v53 (k : Fin 256) (d : Fin 64) : idx_main_v53 (ix3 0 k d) = (ix3 1 k d) := by
  funext a
  apply Fin.ext
  fin_cases a
  · show 1 + 0 = 1; omega
  · show k.val = k.val; omega
  · show d.val = d.val; omega

theorem r_v54 (k : Fin 256) (d : Fin 64) : val_main_v54 (F := Ideal) x3 (ix2 k d) = x3 (ix3 1 k d) := by
  rw [val_main_v54_apply, i_v54, val_main_v53_apply, i_v53]

theorem i_v29 (b : Fin 8) (g : Fin 4) (n : Fin 256) (l : Fin 32) (d : Fin 64) : idx_main_v29 (ix5 b g n l d) = (ix5 0 0 0 l d) := by
  funext a
  apply Fin.ext
  fin_cases a
  · show 0 = 0; omega
  · show 0 = 0; omega
  · show 0 = 0; omega
  · show l.val = l.val; omega
  · show d.val = d.val; omega

theorem i_v28 (l : Fin 32) (d : Fin 64) : idx_main_v28 (ix5 0 0 0 l d) = (ix2 l d) := by
  funext a
  apply Fin.ext
  fin_cases a
  · show l.val = l.val; omega
  · show d.val = d.val; omega

theorem r_v30 (b : Fin 8) (g : Fin 4) (n : Fin 256) (l : Fin 32) (d : Fin 64) : val_main_v30 (F := Ideal) x0 x1 (ix5 b g n l d) = tok x0 x1 0 b g n l d := by
  rw [val_main_v30_apply, val_main_v29_apply, i_v29, val_main_v28_apply, i_v28, r_v6]
  have e : val_main_v27 (F := Ideal) x0 (ix5 b g n l d) = x0 (ix3 b (⟨(16 * n.val + l.val) % 4096, by omega⟩ : Fin 4096) (⟨2048 + 128 * g.val + 64 * 0 + d.val, by omega⟩ : Fin 3712)) := by
    unfold val_main_v27
    rw [gather_apply, r_v4]
    simp only [at26]
  rw [e]
  rfl

theorem i_v31 (b : Fin 8) (g : Fin 4) (n : Fin 256) (f : Fin 2048) : idx_main_v31 (ix4 b g n f) = (ix5 b g n (⟨f.val / 64, by omega⟩ : Fin 32) (⟨f.val % 64, by omega⟩ : Fin 64)) := by
  funext a
  apply Fin.ext
  fin_cases a
  · show (((b.val * 4 + g.val) * 256 + n.val) * 2048 + f.val) / 2097152 = b.val; omega
  · show (((b.val * 4 + g.val) * 256 + n.val) * 2048 + f.val) / 524288 % 4 = g.val; omega
  · show (((b.val * 4 + g.val) * 256 + n.val) * 2048 + f.val) / 2048 % 256 = n.val; omega
  · show (((b.val * 4 + g.val) * 256 + n.val) * 2048 + f.val) / 64 % 32 = f.val / 64; omega
  · show (((b.val * 4 + g.val) * 256 + n.val) * 2048 + f.val) % 64 = f.val % 64; omega

theorem r_v32 (b : Fin 8) (g : Fin 4) (n : Fin 256) (k : Fin 256) : val_main_v32 (F := Ideal) x0 x1 x2 (ix4 b g n k) = hid x0 x1 x2 0 b g n k := by
  rw [val_main_v32_apply]
  refine Finset.sum_congr rfl fun f _ => ?_
  have el : lidx_main_v32 (ix4 b g n k) f = ix4 b g n f := by
    funext a; apply Fin.ext; fin_cases a <;> rfl
  have er : ridx_main_v32 (ix4 b g n k) f = ix2 f k := by
    funext a; apply Fin.ext; fin_cases a <;> rfl
  rw [el, er, val_main_v31_apply, i_v31, r_v30, r_v8]

theorem r_v45 (b : Fin 8) (g : Fin 4) (n : Fin 256) (k : Fin 256) : val_main_v45 (F := Ideal) x0 x1 x2 (ix4 b g n k) = gelu (hid x0 x1 x2 0 b g n k) := by
  simp only [val_main_v33_apply, val_main_v34_apply, val_main_cst_apply, val_main_v35_apply, val_main_v36_apply, val_main_v37_apply, val_main_cst_3_apply, val_main_v38_apply, val_main_v39_apply, val_main_v40_apply, val_main_cst_4_apply, val_main_v41_apply, val_main_v42_apply, val_main_cst_5_apply, val_main_v43_apply, val_main_v44_apply, val_main_v45_apply, r_v32]
  generalize hid x0 x1 x2 0 b g n k = h
  show h * (Ideal.ofBits FTy.f32 0x3F000000#32 * (Ideal.ofBits FTy.f32 0x3F800000#32 + Ideal.tanh (Ideal.ofBits FTy.f32 0x3F4C422A#32 * (h + Ideal.ofBits FTy.f32 0x3D372713#32 * (h * h * h))))) = _
  rw [Layer.one, mul_comm (h * h) h]
  rfl

theorem r_v46 (b : Fin 8) (g : Fin 4) (n : Fin 256) (d : Fin 64) : val_main_v46 (F := Ideal) x0 x1 x2 x3 (ix4 b g n d) = cmp x0 x1 x2 x3 0 b g n d := by
  rw [val_main_v46_apply]
  refine Finset.sum_congr rfl fun k _ => ?_
  have el : lidx_main_v46 (ix4 b g n d) k = ix4 b g n k := by
    funext a; apply Fin.ext; fin_cases a <;> rfl
  have er : ridx_main_v46 (ix4 b g n d) k = ix2 k d := by
    funext a; apply Fin.ext; fin_cases a <;> rfl
  rw [el, er, r_v45, r_v10]

theorem i_v73 (b : Fin 8) (g : Fin 4) (n : Fin 256) (l : Fin 32) (d : Fin 64) : idx_main_v73 (ix5 b g n l d) = (ix5 0 0 0 l d) := by
  funext a
  apply Fin.ext
  fin_cases a
  · show 0 = 0; omega
  · show 0 = 0; omega
  · show 0 = 0; omega
  · show l.val = l.val; omega
  · show d.val = d.val; omega

theorem i_v72 (l : Fin 32) (d : Fin 64) : idx_main_v72 (ix5 0 0 0 l d) = (ix2 l d) := by
  funext a
  apply Fin.ext
  fin_cases a
  · show l.val = l.val; omega
  · show d.val = d.val; omega

theorem r_v74 (b : Fin 8) (g : Fin 4) (n : Fin 256) (l : Fin 32) (d : Fin 64) : val_main_v74 (F := Ideal) x0 x1 (ix5 b g n l d) = tok x0 x1 1 b g n l d := by
  rw [val_main_v74_apply, val_main_v73_apply, i_v73, val_main_v72_apply, i_v72, r_v50]
  have e : val_main_v71 (F := Ideal) x0 (ix5 b g n l d) = x0 (ix3 b (⟨(16 * n.val + l.val) % 4096, by omega⟩ : Fin 4096) (⟨2048 + 128 * g.val + 64 * 1 + d.val, by omega⟩ : Fin 3712)) := by
    unfold val_main_v71
    rw [gather_apply, r_v48]
    simp only [at70]
  rw [e]
  rfl

theorem i_v75 (b : Fin 8) (g : Fin 4) (n : Fin 256) (f : Fin 2048) : idx_main_v75 (ix4 b g n f) = (ix5 b g n (⟨f.val / 64, by omega⟩ : Fin 32) (⟨f.val % 64, by omega⟩ : Fin 64)) := by
  funext a
  apply Fin.ext
  fin_cases a
  · show (((b.val * 4 + g.val) * 256 + n.val) * 2048 + f.val) / 2097152 = b.val; omega
  · show (((b.val * 4 + g.val) * 256 + n.val) * 2048 + f.val) / 524288 % 4 = g.val; omega
  · show (((b.val * 4 + g.val) * 256 + n.val) * 2048 + f.val) / 2048 % 256 = n.val; omega
  · show (((b.val * 4 + g.val) * 256 + n.val) * 2048 + f.val) / 64 % 32 = f.val / 64; omega
  · show (((b.val * 4 + g.val) * 256 + n.val) * 2048 + f.val) % 64 = f.val % 64; omega

theorem r_v76 (b : Fin 8) (g : Fin 4) (n : Fin 256) (k : Fin 256) : val_main_v76 (F := Ideal) x0 x1 x2 (ix4 b g n k) = hid x0 x1 x2 1 b g n k := by
  rw [val_main_v76_apply]
  refine Finset.sum_congr rfl fun f _ => ?_
  have el : lidx_main_v76 (ix4 b g n k) f = ix4 b g n f := by
    funext a; apply Fin.ext; fin_cases a <;> rfl
  have er : ridx_main_v76 (ix4 b g n k) f = ix2 f k := by
    funext a; apply Fin.ext; fin_cases a <;> rfl
  rw [el, er, val_main_v75_apply, i_v75, r_v74, r_v52]

theorem r_v89 (b : Fin 8) (g : Fin 4) (n : Fin 256) (k : Fin 256) : val_main_v89 (F := Ideal) x0 x1 x2 (ix4 b g n k) = gelu (hid x0 x1 x2 1 b g n k) := by
  simp only [val_main_v77_apply, val_main_v78_apply, val_main_cst_10_apply, val_main_v79_apply, val_main_v80_apply, val_main_v81_apply, val_main_cst_11_apply, val_main_v82_apply, val_main_v83_apply, val_main_v84_apply, val_main_cst_12_apply, val_main_v85_apply, val_main_v86_apply, val_main_cst_13_apply, val_main_v87_apply, val_main_v88_apply, val_main_v89_apply, r_v76]
  generalize hid x0 x1 x2 1 b g n k = h
  show h * (Ideal.ofBits FTy.f32 0x3F000000#32 * (Ideal.ofBits FTy.f32 0x3F800000#32 + Ideal.tanh (Ideal.ofBits FTy.f32 0x3F4C422A#32 * (h + Ideal.ofBits FTy.f32 0x3D372713#32 * (h * h * h))))) = _
  rw [Layer.one, mul_comm (h * h) h]
  rfl

theorem r_v90 (b : Fin 8) (g : Fin 4) (n : Fin 256) (d : Fin 64) : val_main_v90 (F := Ideal) x0 x1 x2 x3 (ix4 b g n d) = cmp x0 x1 x2 x3 1 b g n d := by
  rw [val_main_v90_apply]
  refine Finset.sum_congr rfl fun k _ => ?_
  have el : lidx_main_v90 (ix4 b g n d) k = ix4 b g n k := by
    funext a; apply Fin.ext; fin_cases a <;> rfl
  have er : ridx_main_v90 (ix4 b g n d) k = ix2 k d := by
    funext a; apply Fin.ext; fin_cases a <;> rfl
  rw [el, er, r_v89, r_v54]

end Cert.Layer.Compress
end
-- ==== Proof.CompressSums.lean ====
/-
  The compression of NSA's keys and values: the kernel's sums over zero-padded weights are the reference's, and the end of its block is the reference's end.
-/
module

public import proofs.«01_k».proof.Proof.CompressHost
public import proofs.«01_k».proof.Proof.CompressRef

@[expose] public section

set_option backward.proofsInPublic true
set_option maxRecDepth 65536

noncomputable section

namespace Cert.Layer.Compress

open Idealize.ShloMosaic Idealize.ShloMosaic.TcCoe Idealize.SL.Sem Cert.CompressIdeal Cert.CompressIdeal.Gen

/-- A sum over two stretches of which one is zero is the sum over the other. -/
theorem pick {N M : ℕ} (hM : M = 2 * N) (G : Fin M → EReal) (p : Fin 2) :
    ∑ h : Fin M, (if h.val / N = p.val then G h else 0) = ∑ k : Fin N, G ⟨N * p.val + k.val, by
      subst hM; have := k.isLt; have : N * p.val ≤ N * 1 := Nat.mul_le_mul_left N (by omega); omega⟩ := by
  subst hM
  rw [← (finProdFinEquiv (m := 2) (n := N)).sum_comp, Fintype.sum_prod_type]
  rw [Finset.sum_eq_single p]
  · refine Finset.sum_congr rfl fun k _ => ?_
    have hN : 0 < N := by have := k.isLt; omega
    have e : (finProdFinEquiv (p, k)).val / N = p.val := by
      show (k.val + N * p.val) / N = p.val
      rw [Nat.add_mul_div_left _ _ hN, Nat.div_eq_of_lt k.isLt, Nat.zero_add]
    rw [if_pos e]
    refine congrArg G (Fin.ext ?_)
    show k.val + N * p.val = N * p.val + k.val
    omega
  · intro q _ hq
    refine Finset.sum_eq_zero fun k _ => ?_
    have hN : 0 < N := by have := k.isLt; omega
    have e : (finProdFinEquiv (q, k)).val / N = q.val := by
      show (k.val + N * q.val) / N = q.val
      rw [Nat.add_mul_div_left _ _ hN, Nat.div_eq_of_lt k.isLt, Nat.zero_add]
    rw [e, if_neg (fun h => hq (Fin.ext h))]
  · intro h
    exact absurd (Finset.mem_univ _) h

/-- A sum over a block's flat axis, token by token. -/
theorem flat (F : Fin 2048 → EReal) : ∑ f : Fin 2048, F f = ∑ l : Fin 32, ∑ d : Fin 64, F ⟨l.val * 64 + d.val, by omega⟩ := by
  rw [← (finProdFinEquiv (m := 32) (n := 64)).sum_comp, Fintype.sum_prod_type]
  refine Finset.sum_congr rfl fun l _ => Finset.sum_congr rfl fun d _ => congrArg F (Fin.ext ?_)
  show d.val + 64 * l.val = l.val * 64 + d.val
  omega

/-- A sum over a block's tokens, its two strides apart. -/
theorem halves (H : Fin 32 → EReal) : ∑ l : Fin 32, H l = ∑ l : Fin 16, H ⟨l.val + 16 * 0, by omega⟩ + ∑ l : Fin 16, H ⟨l.val + 16 * 1, by omega⟩ := by
  have h := Fin.sum_univ_add (a := 16) (b := 16) H
  refine h.trans (congrArg₂ (· + ·) ?_ ?_)
  · exact Finset.sum_congr rfl fun l _ => congrArg H (Fin.ext rfl)
  · refine Finset.sum_congr rfl fun l _ => congrArg H (Fin.ext ?_)
    show 16 + l.val = l.val + 16 * 1
    omega

section
variable (y : S8x4096x3712.Idx → EReal) (pe : S2x32x64.Idx → EReal) (w1 : S2x2048x256.Idx → EReal) (w2 : S2x256x64.Idx → EReal)
  (b : Fin 8) (g : Fin 4)
  (x0 : Vec Ideal S1x4096x128 .f32) (x1 : Vec Ideal S32x128 .f32) (x2 : Vec Ideal S32x128x512 .bf16) (x3 : Vec Ideal S512x128 .bf16)
  (h0 : ∀ (t : Fin 4096) (c : Fin 128), (x0 (ix3 0 t c) : EReal) = y (ix3 b t (⟨2048 + 128 * g.val + c.val, by omega⟩ : Fin 3712)))
  (h1 : ∀ (l : Fin 32) (c : Fin 128), (x1 (ix2 l c) : EReal) = pe (ix3 (⟨c.val / 64, by omega⟩ : Fin 2) l (⟨c.val % 64, by omega⟩ : Fin 64)))
  (h2 : ∀ (l : Fin 32) (c : Fin 128) (h : Fin 512), (x2 (ix3 l c h) : EReal) = if c.val / 64 = h.val / 256 then w1 (ix3 (⟨h.val / 256, by omega⟩ : Fin 2) (⟨l.val * 64 + c.val % 64, by omega⟩ : Fin 2048) (⟨h.val % 256, by omega⟩ : Fin 256)) else (0 : EReal))
  (h3 : ∀ (h : Fin 512) (c : Fin 128), (x3 (ix2 h c) : EReal) = if h.val / 256 = c.val / 64 then w2 (ix3 (⟨c.val / 64, by omega⟩ : Fin 2) (⟨h.val % 256, by omega⟩ : Fin 256) (⟨c.val % 64, by omega⟩ : Fin 64)) else (0 : EReal))
include h0 h1 h2

theorem term_eq (o : ℕ) (ho : o < 2) (n : Fin 256) (h : Fin 512) (l : Fin 16) :
    term x0 x1 x2 o ho n h l = ∑ d : Fin 64, (y (ix3 b (⟨16 * n.val + l.val, by omega⟩ : Fin 4096) (⟨2048 + 128 * g.val + 64 * (h.val / 256) + d.val, by omega⟩ : Fin 3712))
      + pe (ix3 (⟨h.val / 256, by omega⟩ : Fin 2) (⟨l.val + 16 * o, by omega⟩ : Fin 32) d)) * w1 (ix3 (⟨h.val / 256, by omega⟩ : Fin 2) (⟨(l.val + 16 * o) * 64 + d.val, by omega⟩ : Fin 2048) (⟨h.val % 256, by omega⟩ : Fin 256)) := by
  unfold term
  refine Eq.trans (Finset.sum_congr rfl fun c _ => ?_) ((pick (N := 64) (M := 128) rfl (fun c : Fin 128 => (y (ix3 b (⟨16 * n.val + l.val, by omega⟩ : Fin 4096) (⟨2048 + 128 * g.val + c.val, by omega⟩ : Fin 3712))
      + pe (ix3 (⟨c.val / 64, by omega⟩ : Fin 2) (⟨l.val + 16 * o, by omega⟩ : Fin 32) (⟨c.val % 64, by omega⟩ : Fin 64))) * w1 (ix3 (⟨h.val / 256, by omega⟩ : Fin 2) (⟨(l.val + 16 * o) * 64 + c.val % 64, by omega⟩ : Fin 2048) (⟨h.val % 256, by omega⟩ : Fin 256))) ⟨h.val / 256, by omega⟩).trans (Finset.sum_congr rfl fun d _ => ?_))
  · rw [h0, h1, h2]
    show _ = if c.val / 64 = h.val / 256 then _ else _
    by_cases hc : c.val / 64 = h.val / 256
    · rw [if_pos hc, if_pos hc]
    · rw [if_neg hc, if_neg hc, mul_zero]
  · have e1 : (64 * (h.val / 256) + d.val) / 64 = h.val / 256 := by omega
    have e2 : (64 * (h.val / 256) + d.val) % 64 = d.val := by omega
    have e3 : 2048 + 128 * g.val + (64 * (h.val / 256) + d.val) = 2048 + 128 * g.val + 64 * (h.val / 256) + d.val := by omega
    simp only [e1, e2, e3]

theorem hid_eq (n : Fin 256) (h : Fin 512) :
    ∑ l : Fin 16, term x0 x1 x2 0 (by decide) n h l + ∑ l : Fin 16, term x0 x1 x2 1 (by decide) (nxt n) h l
      = hid y pe w1 (⟨h.val / 256, by omega⟩ : Fin 2) b g n (⟨h.val % 256, by omega⟩ : Fin 256) := by
  unfold hid
  rw [flat, halves]
  refine congrArg₂ (· + ·) (Finset.sum_congr rfl fun l _ => ?_) (Finset.sum_congr rfl fun l _ => ?_)
  · rw [term_eq y pe w1 b g x0 x1 x2 h0 h1 h2]
    refine Finset.sum_congr rfl fun d _ => ?_
    unfold tok
    have e1 : ((l.val + 16 * 0) * 64 + d.val) / 64 = l.val + 16 * 0 := by omega
    have e2 : ((l.val + 16 * 0) * 64 + d.val) % 64 = d.val := by omega
    have e3 : (16 * n.val + (l.val + 16 * 0)) % 4096 = 16 * n.val + l.val := by omega
    simp only [e1, e2, e3]
  · rw [term_eq y pe w1 b g x0 x1 x2 h0 h1 h2]
    refine Finset.sum_congr rfl fun d _ => ?_
    unfold tok
    have e1 : ((l.val + 16 * 1) * 64 + d.val) / 64 = l.val + 16 * 1 := by omega
    have e2 : ((l.val + 16 * 1) * 64 + d.val) % 64 = d.val := by omega
    have e3 : 16 * (nxt n).val + l.val = (16 * n.val + (l.val + 16 * 1)) % 4096 := by
      show 16 * ((n.val + 1) % 256) + l.val = _
      omega
    simp only [e1, e2, e3]

include h3 in
theorem mlp_eq (n : Fin 256) (c : Fin 128) :
    mlp x0 x1 x2 x3 n c = cmp y pe w1 w2 (⟨c.val / 64, by omega⟩ : Fin 2) b g n (⟨c.val % 64, by omega⟩ : Fin 64) := by
  unfold mlp cmp
  refine Eq.trans (Finset.sum_congr rfl fun h _ => ?_) ((pick (N := 256) (M := 512) rfl (fun h : Fin 512 => gelu (hid y pe w1 (⟨h.val / 256, by omega⟩ : Fin 2) b g n (⟨h.val % 256, by omega⟩ : Fin 256))
      * w2 (ix3 (⟨c.val / 64, by omega⟩ : Fin 2) (⟨h.val % 256, by omega⟩ : Fin 256) (⟨c.val % 64, by omega⟩ : Fin 64))) ⟨c.val / 64, by omega⟩).trans (Finset.sum_congr rfl fun k _ => ?_))
  · rw [hid_eq y pe w1 b g x0 x1 x2 h0 h1 h2, h3]
    show _ = if h.val / 256 = c.val / 64 then _ else _
    by_cases hc : h.val / 256 = c.val / 64
    · rw [if_pos hc, if_pos hc]
    · rw [if_neg hc, if_neg hc, mul_zero]
  · have e1 : (256 * (c.val / 64) + k.val) / 256 = c.val / 64 := by omega
    have e2 : (256 * (c.val / 64) + k.val) % 256 = k.val := by omega
    simp only [e1, e2]

end

/-- A key normalised. -/
def key (A : Fin 64 → EReal) (gain : S64.Idx → EReal) (d : Fin 64) : EReal :=
  A d * Ideal.rsqrt (Ideal.div (∑ j, A j * A j) (Ideal.ofBits FTy.f32 0x42800000#32) + Ideal.ofBits FTy.f32 0x358637BD#32) * gain (ix1 d)

/-- A row of keys normalised and rotated, beside its values. -/
def whole (A : Fin 2 → Fin 64 → EReal) (gain : S64.Idx → EReal) (n : Fin 256) (c : Fin 128) : EReal :=
  if h : c.val < 32 then key (A 0) gain ⟨c.val, by omega⟩ * Ideal.cos (angle n c.val) - key (A 0) gain ⟨c.val + 32, by omega⟩ * Ideal.sin (angle n c.val)
  else if h' : c.val < 64 then key (A 0) gain ⟨c.val, h'⟩ * Ideal.cos (angle n (c.val - 32)) + key (A 0) gain ⟨c.val - 32, by omega⟩ * Ideal.sin (angle n (c.val - 32))
  else A 1 ⟨c.val - 64, by omega⟩

theorem minusOne : Ideal.ofBits FTy.f32 0xBF800000#32 = (-1 : EReal) := by
  have h : Ideal.ofBits FTy.f32 0xBF800000#32 = ((-(8388608 * 2 ^ (-23 : ℤ)) : ℝ) : EReal) := by
    simp [Ideal.ofBits, Ideal.ieee]
  rw [h]
  norm_num

/-- Squares weighted by one over a number, summed, are their sum divided by it. -/
theorem mean_eq {N : ℕ} (a : Fin N → EReal) (w : EReal) (hw : w = ((64 : ℝ) : EReal)) :
    ∑ j, a j * a j * Ideal.div 1 w = Ideal.div (∑ j, a j * a j) w := by
  have hne : w ≠ 0 := by rw [hw]; norm_num
  have hd : ∀ x, Ideal.div x w = x * w⁻¹ := fun x => by unfold Ideal.div; rw [if_neg hne]
  have hn : ∀ j, 0 ≤ a j * a j := fun j => by
    rcases le_total 0 (a j) with h | h
    · exact mul_nonneg h h
    · rw [← neg_mul_neg]
      exact mul_nonneg (EReal.neg_nonneg.mpr h) (EReal.neg_nonneg.mpr h)
  simp only [hd, one_mul]
  have hs : ∀ s : Finset (Fin N), ∑ j ∈ s, a j * a j * w⁻¹ = (∑ j ∈ s, a j * a j) * w⁻¹ ∧ 0 ≤ ∑ j ∈ s, a j * a j := fun s => by
    refine ⟨?_, Finset.sum_nonneg fun j _ => hn j⟩
    induction s using Finset.induction_on with
    | empty => simp
    | insert i s hi ih =>
      rw [Finset.sum_insert hi, Finset.sum_insert hi, ih, EReal.right_distrib_of_nonneg (hn i) (Finset.sum_nonneg fun j _ => hn j)]
  exact (hs Finset.univ).1

theorem seg_mean (A : Fin 2 → Fin 64 → EReal) (c : Fin 128) (hc : c.val < 64) :
    ∑ j : Fin 128, A ⟨j.val / 64, by omega⟩ ⟨j.val % 64, by omega⟩ * A ⟨j.val / 64, by omega⟩ ⟨j.val % 64, by omega⟩ * (if j.val / 64 = c.val / 64 then Ideal.div 1 (Ideal.ofBits FTy.f32 0x42800000#32) else (0 : EReal))
      = Ideal.div (∑ j, A 0 j * A 0 j) (Ideal.ofBits FTy.f32 0x42800000#32) := by
  rw [← mean_eq _ _ sixtyFour]
  refine Eq.trans (Finset.sum_congr rfl fun j _ => ?_) ((pick (N := 64) (M := 128) rfl (fun j : Fin 128 => A ⟨j.val / 64, by omega⟩ ⟨j.val % 64, by omega⟩ * A ⟨j.val / 64, by omega⟩ ⟨j.val % 64, by omega⟩ * Ideal.div 1 (Ideal.ofBits FTy.f32 0x42800000#32)) 0).trans (Finset.sum_congr rfl fun k _ => ?_))
  · show _ = if j.val / 64 = 0 then _ else _
    have e : c.val / 64 = 0 := by omega
    rw [e]
    by_cases h : j.val / 64 = 0
    · rw [if_pos h, if_pos h]
    · rw [if_neg h, if_neg h, mul_zero]
  · have e1 : (⟨(64 * (0 : Fin 2).val + k.val) / 64, by show (64 * 0 + k.val) / 64 < 2; omega⟩ : Fin 2) = 0 := Fin.ext (by show (64 * 0 + k.val) / 64 = 0; omega)
    have e2 : (⟨(64 * (0 : Fin 2).val + k.val) % 64, by show (64 * 0 + k.val) % 64 < 64; omega⟩ : Fin 64) = k := Fin.ext (by show (64 * 0 + k.val) % 64 = k.val; omega)
    show A _ _ * A _ _ * _ = _
    rw [e1, e2]

theorem finish_eq (A : Fin 2 → Fin 64 → EReal) (gain : S64.Idx → EReal) (n : Fin 256) (kv gn cs sn : Fin 128 → EReal) (seg : Fin 128 → Fin 128 → EReal)
    (hk : ∀ c : Fin 128, kv c = A ⟨c.val / 64, by omega⟩ ⟨c.val % 64, by omega⟩)
    (hg : ∀ c : Fin 128, gn c = if h : c.val < 64 then gain (ix1 (⟨c.val, h⟩ : Fin 64)) else (1 : EReal))
    (hm : ∀ j c : Fin 128, seg j c = if j.val / 64 = c.val / 64 then Ideal.div 1 (Ideal.ofBits FTy.f32 0x42800000#32) else (0 : EReal))
    (hcs : ∀ c : Fin 128, cs c = Ideal.cos (angle n (c.val % 32)))
    (hsn : ∀ c : Fin 128, sn c = Ideal.sin (angle n (c.val % 32)) * (if c.val % 64 < 32 then Ideal.ofBits FTy.f32 0xBF800000#32 else Ideal.ofBits FTy.f32 0x3F800000#32))
    (c : Fin 128) : finish kv gn seg cs sn c = whole A gain n c := by
  have hkey : ∀ (c : Fin 128) (h : c.val < 64), keyed kv gn seg c = key (A 0) gain ⟨c.val, h⟩ := fun c h => by
    have e1 : (⟨c.val / 64, by omega⟩ : Fin 2) = 0 := Fin.ext (by show c.val / 64 = 0; omega)
    have e2 : (⟨c.val % 64, by omega⟩ : Fin 64) = ⟨c.val, h⟩ := Fin.ext (by show c.val % 64 = c.val; omega)
    unfold keyed key
    simp only [hk, hm]
    rw [seg_mean A c h, hg, dif_pos h, e1, e2]
  unfold finish whole
  by_cases h32 : c.val < 32
  · have ep : partner c = (⟨c.val + 32, by omega⟩ : Fin 128) := Fin.ext (by show (if c.val % 64 < 32 then (c.val + 32) % 128 else (c.val + 96) % 128) = c.val + 32; rw [if_pos (by omega)]; omega)
    have e3 : c.val % 32 = c.val := by omega
    rw [if_pos (by omega), dif_pos h32, ep, hkey c (by omega), hkey ⟨c.val + 32, by omega⟩ (by show c.val + 32 < 64; omega), hcs, hsn, if_pos (by omega), minusOne, e3, mul_neg, mul_one, mul_neg, sub_eq_add_neg]
  · by_cases h64 : c.val < 64
    · have ep : partner c = (⟨c.val - 32, by omega⟩ : Fin 128) := Fin.ext (by show (if c.val % 64 < 32 then (c.val + 32) % 128 else (c.val + 96) % 128) = c.val - 32; rw [if_neg (by omega)]; omega)
      have e3 : c.val % 32 = c.val - 32 := by omega
      rw [if_pos h64, dif_neg h32, dif_pos h64, ep, hkey c h64, hkey ⟨c.val - 32, by omega⟩ (by show c.val - 32 < 64; omega), hcs, hsn, if_neg (by omega), Layer.one, e3, mul_one]
    · have e1 : (⟨c.val / 64, by omega⟩ : Fin 2) = 1 := Fin.ext (by show c.val / 64 = 1; omega)
      have e2 : (⟨c.val % 64, by omega⟩ : Fin 64) = ⟨c.val - 64, by omega⟩ := Fin.ext (by show c.val % 64 = c.val - 64; omega)
      rw [if_neg h64, dif_neg h32, dif_neg h64, hk, e1, e2]

/-- A block whose windows hold what the host prepared is the reference's. -/
theorem block_whole (y : S8x4096x3712.Idx → EReal) (pe : S2x32x64.Idx → EReal) (w1 : S2x2048x256.Idx → EReal) (w2 : S2x256x64.Idx → EReal) (gain : S64.Idx → EReal) (b : Fin 8) (g : Fin 4) (n : Fin 256)
    (x0 : Vec Ideal S1x4096x128 .f32) (x1 : Vec Ideal S32x128 .f32) (x2 : Vec Ideal S32x128x512 .bf16) (x3 : Vec Ideal S512x128 .bf16) (x4 : Vec Ideal S1x128 .f32) (x5 x6 : Vec Ideal S256x128 .f32) (x7 : Vec Ideal S128x128 .bf16)
    (h0 : ∀ (t : Fin 4096) (c : Fin 128), (x0 (ix3 0 t c) : EReal) = y (ix3 b t (⟨2048 + 128 * g.val + c.val, by omega⟩ : Fin 3712)))
    (h1 : ∀ (l : Fin 32) (c : Fin 128), (x1 (ix2 l c) : EReal) = pe (ix3 (⟨c.val / 64, by omega⟩ : Fin 2) l (⟨c.val % 64, by omega⟩ : Fin 64)))
    (h2 : ∀ (l : Fin 32) (c : Fin 128) (h : Fin 512), (x2 (ix3 l c h) : EReal) = if c.val / 64 = h.val / 256 then w1 (ix3 (⟨h.val / 256, by omega⟩ : Fin 2) (⟨l.val * 64 + c.val % 64, by omega⟩ : Fin 2048) (⟨h.val % 256, by omega⟩ : Fin 256)) else (0 : EReal))
    (h3 : ∀ (h : Fin 512) (c : Fin 128), (x3 (ix2 h c) : EReal) = if h.val / 256 = c.val / 64 then w2 (ix3 (⟨c.val / 64, by omega⟩ : Fin 2) (⟨h.val % 256, by omega⟩ : Fin 256) (⟨c.val % 64, by omega⟩ : Fin 64)) else (0 : EReal))
    (h4 : ∀ c : Fin 128, (x4 (ix2 0 c) : EReal) = if h : c.val < 64 then gain (ix1 (⟨c.val, h⟩ : Fin 64)) else (1 : EReal))
    (h5 : ∀ c : Fin 128, (x5 (ix2 n c) : EReal) = Ideal.cos (angle n (c.val % 32)))
    (h6 : ∀ c : Fin 128, (x6 (ix2 n c) : EReal) = Ideal.sin (angle n (c.val % 32)) * (if c.val % 64 < 32 then Ideal.ofBits FTy.f32 0xBF800000#32 else Ideal.ofBits FTy.f32 0x3F800000#32))
    (h7 : ∀ j c : Fin 128, (x7 (ix2 j c) : EReal) = if j.val / 64 = c.val / 64 then Ideal.div 1 (Ideal.ofBits FTy.f32 0x42800000#32) else (0 : EReal)) (k : Fin 128) :
    finish (mlp x0 x1 x2 x3 n) (fun j => x4 (ix2 0 j)) (fun j k => x7 (ix2 j k)) (fun j => x5 (ix2 n j)) (fun j => x6 (ix2 n j)) k
      = whole (fun p => cmp y pe w1 w2 p b g n) gain n k :=
  finish_eq (fun p => cmp y pe w1 w2 p b g n) gain n _ _ _ _ _ (fun q => mlp_eq y pe w1 w2 b g x0 x1 x2 x3 h0 h1 h2 h3 n q) h4 h7 h5 h6 k

end Cert.Layer.Compress
end
-- ==== Proof.CompressRefEnd.lean ====
/-
  The compression of NSA's keys and values: the reference's array at an index.
-/
module

public import proofs.«01_k».proof.Proof.Gen.CompressReferenceIdeal.Read
public import proofs.«01_k».proof.Proof.CompressSums
public import Idealize.ShloMosaic.Lib.ValueIdx

@[expose] public section

set_option backward.proofsInPublic true
set_option maxRecDepth 65536

noncomputable section

namespace Cert.Layer.Compress

open Idealize.ShloMosaic Idealize.ShloMosaic.TcCoe Idealize.SL.Sem Cert.CompressReferenceIdeal Cert.CompressReferenceIdeal.Gen
open Cert.CompressReferenceIdeal.Read

variable (x0 : (⟨S8x4096x3712, .f32⟩ : BufTy).Contents (Elt Ideal)) (x1 : (⟨S2x32x64, .f32⟩ : BufTy).Contents (Elt Ideal)) (x2 : (⟨S2x2048x256, .f32⟩ : BufTy).Contents (Elt Ideal)) (x3 : (⟨S2x256x64, .f32⟩ : BufTy).Contents (Elt Ideal)) (x4 : (⟨S64, .f32⟩ : BufTy).Contents (Elt Ideal))

theorem r_v103 (b : Fin 8) (g : Fin 4) (n : Fin 256) (d : Fin 64) : val_main_v103 (F := Ideal) x0 x1 x2 x3 x4 (ix4 b g n d) = key (cmp x0 x1 x2 x3 0 b g n) x4 d := by
  have i1 : ∀ k, idx_main_v92 (idx_main_v93 (idx_main_v99 (ix4 b g n d))) k = ix4 b g n k := fun k => by
    funext a; apply Fin.ext; fin_cases a <;> rfl
  have i2 : idx_main_v101 (idx_main_v102 (ix4 b g n d)) = ix1 d := by
    funext a; apply Fin.ext; fin_cases a; rfl
  simp only [val_main_v91_apply, val_main_cst_14_apply, val_main_v92_apply, val_main_v93_apply, val_main_cst_15_apply, val_main_v94_apply, val_main_v95_apply, val_main_cst_16_apply, val_main_v96_apply, val_main_v97_apply, val_main_v98_apply, val_main_v99_apply, val_main_v100_apply, val_main_v101_apply, val_main_v102_apply, val_main_v103_apply, i1, i2, r_v46]
  show cmp x0 x1 x2 x3 0 b g n d * Ideal.rsqrt (Ideal.div (Ideal.ofBits FTy.f32 0#32 + ∑ k : Fin 64, cmp x0 x1 x2 x3 0 b g n k * cmp x0 x1 x2 x3 0 b g n k) (Ideal.ofBits FTy.f32 0x42800000#32)
    + Ideal.ofBits FTy.f32 0x358637BD#32) * x4 (ix1 d) = _
  rw [Layer.zero, zero_add]
  rfl

theorem r_v122 (n : Fin 256) (j : Fin 32) : val_main_v122 (F := Ideal) (ix2 n j) = angle n j.val := by
  simp only [val_main_v104_apply, val_main_c_17_apply, val_main_v105_apply, val_main_v106_apply, val_main_c_18_apply, val_main_v107_apply, val_main_v108_apply, val_main_c_19_apply, val_main_v109_apply, val_main_v110_apply, val_main_v112_apply, val_main_cst_20_apply, val_main_v113_apply, val_main_v114_apply, val_main_cst_21_apply, val_main_v115_apply, val_main_v116_apply, val_main_v117_apply, val_main_v118_apply, val_main_v119_apply, val_main_v120_apply, val_main_v121_apply, val_main_v122_apply]
  rfl

theorem r_v133 (b : Fin 8) (g : Fin 4) (n : Fin 256) (j : Fin 32) : val_main_v133 (F := Ideal) x0 x1 x2 x3 x4 (ix4 b g n j)
    = key (cmp x0 x1 x2 x3 0 b g n) x4 ⟨j.val, by omega⟩ * Ideal.cos (angle n j.val) - key (cmp x0 x1 x2 x3 0 b g n) x4 ⟨j.val + 32, by omega⟩ * Ideal.sin (angle n j.val) := by
  have ev125 : idx_main_v125 (ix4 b g n j) = ix4 b g n (⟨j.val, by omega⟩ : Fin 64) := by
    funext a
    apply Fin.ext
    fin_cases a
    · rfl
    · rfl
    · rfl
    · show j.val = j.val; omega
  have ev126 : idx_main_v126 (ix4 b g n j) = ix4 b g n (⟨j.val + 32, by omega⟩ : Fin 64) := by
    funext a
    apply Fin.ext
    fin_cases a
    · rfl
    · rfl
    · rfl
    · show 32 + j.val = j.val + 32; omega
  have ic : idx_main_v127 (idx_main_v128 (ix4 b g n j)) = ix2 n j := by
    funext a; apply Fin.ext; fin_cases a <;> rfl
  have is : idx_main_v130 (idx_main_v131 (ix4 b g n j)) = ix2 n j := by
    funext a; apply Fin.ext; fin_cases a <;> rfl
  simp only [val_main_v133_apply, val_main_v129_apply, val_main_v132_apply, val_main_v125_apply, val_main_v126_apply, val_main_v128_apply, val_main_v127_apply, val_main_v131_apply, val_main_v130_apply,
    val_main_v123_apply, val_main_v124_apply, ev125, ev126, ic, is, r_v103, r_v122]
  rfl

theorem r_v140 (b : Fin 8) (g : Fin 4) (n : Fin 256) (j : Fin 32) : val_main_v140 (F := Ideal) x0 x1 x2 x3 x4 (ix4 b g n j)
    = key (cmp x0 x1 x2 x3 0 b g n) x4 ⟨j.val + 32, by omega⟩ * Ideal.cos (angle n j.val) + key (cmp x0 x1 x2 x3 0 b g n) x4 ⟨j.val, by omega⟩ * Ideal.sin (angle n j.val) := by
  have ev126 : idx_main_v126 (ix4 b g n j) = ix4 b g n (⟨j.val + 32, by omega⟩ : Fin 64) := by
    funext a
    apply Fin.ext
    fin_cases a
    · rfl
    · rfl
    · rfl
    · show 32 + j.val = j.val + 32; omega
  have ev125 : idx_main_v125 (ix4 b g n j) = ix4 b g n (⟨j.val, by omega⟩ : Fin 64) := by
    funext a
    apply Fin.ext
    fin_cases a
    · rfl
    · rfl
    · rfl
    · show j.val = j.val; omega
  have ic : idx_main_v134 (idx_main_v135 (ix4 b g n j)) = ix2 n j := by
    funext a; apply Fin.ext; fin_cases a <;> rfl
  have is : idx_main_v137 (idx_main_v138 (ix4 b g n j)) = ix2 n j := by
    funext a; apply Fin.ext; fin_cases a <;> rfl
  simp only [val_main_v140_apply, val_main_v136_apply, val_main_v139_apply, val_main_v125_apply, val_main_v126_apply, val_main_v135_apply, val_main_v134_apply, val_main_v138_apply, val_main_v137_apply,
    val_main_v123_apply, val_main_v124_apply, ev126, ev125, ic, is, r_v103, r_v122]
  rfl

theorem cat141 (p q : (⟨S8x4x256x32, .f32⟩ : BufTy).Contents (Elt Ideal)) (h) (b : Fin 8) (g : Fin 4) (n : Fin 256) (c : Fin 64) :
    concatenate S8x4x256x64 3 [⟨S8x4x256x32, p⟩, ⟨S8x4x256x32, q⟩] h (ix4 b g n c) = if hc : c.val < 32 then p (ix4 b g n (⟨c.val, hc⟩ : Fin 32)) else q (ix4 b g n (⟨c.val - 32, by omega⟩ : Fin 32)) := by
  pointwise

theorem cat142 (p q : (⟨S8x4x256x64, .f32⟩ : BufTy).Contents (Elt Ideal)) (h) (b : Fin 8) (g : Fin 4) (n : Fin 256) (c : Fin 128) :
    concatenate S8x4x256x128 3 [⟨S8x4x256x64, p⟩, ⟨S8x4x256x64, q⟩] h (ix4 b g n c) = if hc : c.val < 64 then p (ix4 b g n (⟨c.val, hc⟩ : Fin 64)) else q (ix4 b g n (⟨c.val - 64, by omega⟩ : Fin 64)) := by
  pointwise

/-- The reference at an index. -/
theorem ref (b : Fin 8) (g : Fin 4) (n : Fin 256) (c : Fin 128) : val_main_v142 (F := Ideal) x0 x1 x2 x3 x4 (ix4 b g n c) = whole (fun p => cmp x0 x1 x2 x3 p b g n) x4 n c := by
  unfold val_main_v142 whole
  rw [cat142]
  by_cases h32 : c.val < 32
  · rw [dif_pos (show c.val < 64 by omega), dif_pos h32]
    unfold val_main_v141
    rw [cat141, dif_pos h32, r_v133]
  · rw [dif_neg h32]
    by_cases h64 : c.val < 64
    · rw [dif_pos h64, dif_pos h64]
      unfold val_main_v141
      rw [cat141, dif_neg h32, r_v140]
      have e : (⟨c.val - 32 + 32, by omega⟩ : Fin 64) = ⟨c.val, h64⟩ := Fin.ext (by show c.val - 32 + 32 = c.val; omega)
      rw [e]
    · rw [dif_neg h64, dif_neg h64, r_v90]

end Cert.Layer.Compress
end
-- ==== Proof.Compress.lean ====
/-
  The call that compresses NSA's keys and values: what the kernel leaves in its output is the reference's value, from any arguments.
-/
module

public import proofs.«01_k».proof.Defs
public import proofs.«01_k».proof.Proof.CompressRefEnd
public import Idealize.ShloMosaic.Lib.Quiescent

@[expose] public section

set_option backward.proofsInPublic true
set_option maxRecDepth 65536

noncomputable section

namespace Cert.Layer.Compress

open Idealize.ShloMosaic Idealize.ShloMosaic.TcCoe Idealize.SL.Sem Cert.CompressIdeal Cert.CompressIdeal.Gen

variable (m : (ℓ : Loc nD τ sig) → Buf (Elt Ideal) ℓ)

theorem index0 : ∀ t : Fin cfg0.N, win0_0.index t = ![(grid0.coords t 0).val, 0, 16 + (grid0.coords t 1).val] :=
  (by decide +kernel : ∀ t : Fin grid0.N, win0_0.index t = ![(grid0.coords t 0).val, 0, 16 + (grid0.coords t 1).val])
theorem index1 : ∀ t : Fin cfg0.N, win0_1.index t = ![0, 0] :=
  (by decide +kernel : ∀ t : Fin grid0.N, win0_1.index t = ![0, 0])
theorem index2 : ∀ t : Fin cfg0.N, win0_2.index t = ![0, 0, 0] :=
  (by decide +kernel : ∀ t : Fin grid0.N, win0_2.index t = ![0, 0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![(grid0.coords t 0).val, (grid0.coords t 1).val, 0, 0] :=
  (by decide +kernel : ∀ t : Fin grid0.N, win0_8.index t = ![(grid0.coords t 0).val, (grid0.coords t 1).val, 0, 0])
theorem point (b : Fin 8) (g : Fin 4) : ∃ t : Fin cfg0.N, (grid0.coords t 0).val = b.val ∧ (grid0.coords t 1).val = g.val :=
  (by decide +kernel : ∀ (b : Fin 8) (g : Fin 4), ∃ t : Fin grid0.N, (grid0.coords t 0).val = b.val ∧ (grid0.coords t 1).val = g.val) b g

theorem blk0 (c : Dev nD) (t : Fin cfg0.N) (b : Fin 8) (g : Fin 4) (hb : (grid0.coords t 0).val = b.val) (hg : (grid0.coords t 1).val = g.val) (r : Fin 4096) (l : Fin 128) :
    (iblk m c 0 t (ix3 0 r l) : EReal) = m ((c : Thread nD τ).loc main_arg0) (ix3 b r (⟨2048 + 128 * g.val + l.val, by omega⟩ : Fin 3712)) := by
  refine (congrFun (V_main_arg0 m c) ((win0_0.blk t).view.emb (ix3 0 r l))).trans (congrArg (m ((c : Thread nD τ).loc main_arg0)) ?_)
  funext a
  apply Fin.ext
  fin_cases a
  · show win0_0.index t 0 * 1 + 1 * 0 = b.val
    rw [index0]
    show (grid0.coords t 0).val * 1 + 1 * 0 = b.val
    omega
  · show win0_0.index t 1 * 4096 + 1 * r.val = r.val
    rw [index0]
    show 0 * 4096 + 1 * r.val = r.val
    omega
  · show win0_0.index t 2 * 128 + 1 * l.val = 2048 + 128 * g.val + l.val
    rw [index0]
    show (16 + (grid0.coords t 1).val) * 128 + 1 * l.val = 2048 + 128 * g.val + l.val
    omega

theorem blk1 (c : Dev nD) (t : Fin cfg0.N) (l : Fin 32) (q : Fin 128) : (iblk m c 1 t (ix2 l q) : EReal) = V m c main_v74 (ix2 l q) := by
  refine congrArg (V m c main_v74) ?_
  funext a
  apply Fin.ext
  fin_cases a
  · show win0_1.index t 0 * 32 + 1 * l.val = l.val
    rw [index1]
    show 0 * 32 + 1 * l.val = l.val
    omega
  · show win0_1.index t 1 * 128 + 1 * q.val = q.val
    rw [index1]
    show 0 * 128 + 1 * q.val = q.val
    omega

theorem blk2 (c : Dev nD) (t : Fin cfg0.N) (l : Fin 32) (q : Fin 128) (h : Fin 512) : (iblk m c 2 t (ix3 l q h) : EReal) = V m c main_v58 (ix3 l q h) := by
  refine congrArg (V m c main_v58) ?_
  funext a
  apply Fin.ext
  fin_cases a
  · show win0_2.index t 0 * 32 + 1 * l.val = l.val
    rw [index2]
    show 0 * 32 + 1 * l.val = l.val
    omega
  · show win0_2.index t 1 * 128 + 1 * q.val = q.val
    rw [index2]
    show 0 * 128 + 1 * q.val = q.val
    omega
  · show win0_2.index t 2 * 512 + 1 * h.val = h.val
    rw [index2]
    show 0 * 512 + 1 * h.val = h.val
    omega

theorem blk3 (c : Dev nD) (t : Fin cfg0.N) (h : Fin 512) (q : Fin 128) : (iblk m c 3 t (ix2 h q) : EReal) = V m c main_v69 (ix2 h q) := by
  refine congrArg (V m c main_v69) ?_
  funext a
  apply Fin.ext
  fin_cases a
  · show win0_3.index t 0 * 512 + 1 * h.val = h.val
    rw [index3]
    show 0 * 512 + 1 * h.val = h.val
    omega
  · show win0_3.index t 1 * 128 + 1 * q.val = q.val
    rw [index3]
    show 0 * 128 + 1 * q.val = q.val
    omega

theorem blk4 (c : Dev nD) (t : Fin cfg0.N) (q : Fin 128) : (iblk m c 4 t (ix2 0 q) : EReal) = V m c main_v77 (ix2 0 q) := by
  refine congrArg (V m c main_v77) ?_
  funext a
  apply Fin.ext
  fin_cases a
  · show win0_4.index t 0 * 1 + 1 * 0 = 0
    rw [index4]
    show 0 * 1 + 1 * 0 = 0
    omega
  · show win0_4.index t 1 * 128 + 1 * q.val = q.val
    rw [index4]
    show 0 * 128 + 1 * q.val = q.val
    omega

theorem blk5 (c : Dev nD) (t : Fin cfg0.N) (n : Fin 256) (q : Fin 128) : (iblk m c 5 t (ix2 n q) : EReal) = V m c main_v22 (ix2 n q) := by
  refine congrArg (V m c main_v22) ?_
  funext a
  apply Fin.ext
  fin_cases a
  · show win0_5.index t 0 * 256 + 1 * n.val = n.val
    rw [index5]
    show 0 * 256 + 1 * n.val = n.val
    omega
  · show win0_5.index t 1 * 128 + 1 * q.val = q.val
    rw [index5]
    show 0 * 128 + 1 * q.val = q.val
    omega

theorem blk6 (c : Dev nD) (t : Fin cfg0.N) (n : Fin 256) (q : Fin 128) : (iblk m c 6 t (ix2 n q) : EReal) = V m c main_v35 (ix2 n q) := by
  refine congrArg (V m c main_v35) ?_
  funext a
  apply Fin.ext
  fin_cases a
  · show win0_6.index t 0 * 256 + 1 * n.val = n.val
    rw [index6]
    show 0 * 256 + 1 * n.val = n.val
    omega
  · show win0_6.index t 1 * 128 + 1 * q.val = q.val
    rw [index6]
    show 0 * 128 + 1 * q.val = q.val
    omega

theorem blk7 (c : Dev nD) (t : Fin cfg0.N) (j : Fin 128) (q : Fin 128) : (iblk m c 7 t (ix2 j q) : EReal) = V m c main_v46 (ix2 j q) := by
  refine congrArg (V m c main_v46) ?_
  funext a
  apply Fin.ext
  fin_cases a
  · show win0_7.index t 0 * 128 + 1 * j.val = j.val
    rw [index7]
    show 0 * 128 + 1 * j.val = j.val
    omega
  · show win0_7.index t 1 * 128 + 1 * q.val = q.val
    rw [index7]
    show 0 * 128 + 1 * q.val = q.val
    omega

/-- The output array at an index. -/
theorem out (c : Dev nD) (b : Fin 8) (g : Fin 4) (n : Fin 256) (k : Fin 128) :
    (dats m 0 c).arrAt 8 cfg0.N (ix4 b g n k)
      = whole (fun p => cmp (m ((c : Thread nD τ).loc main_arg0)) (m ((c : Thread nD τ).loc main_arg1)) (m ((c : Thread nD τ).loc main_arg2)) (m ((c : Thread nD τ).loc main_arg3)) p b g n)
          (m ((c : Thread nD τ).loc main_arg4)) n k := by
  obtain ⟨t, hb, hg⟩ := point b g
  have h := congrFun (Value.blocks8 m c t (flush0_8 t)) (ix4 0 0 n k)
  blk_simp at h
  rw [after0_8] at h
  have he : (win0_8.blk t).view.emb (ix4 0 0 n k) = (ix4 b g n k : S8x4x256x128.Idx) := by
    funext a
    apply Fin.ext
    fin_cases a
    · show win0_8.index t 0 * 1 + 1 * 0 = b.val
      rw [index8]
      show (grid0.coords t 0).val * 1 + 1 * 0 = b.val
      omega
    · show win0_8.index t 1 * 1 + 1 * 0 = g.val
      rw [index8]
      show (grid0.coords t 1).val * 1 + 1 * 0 = g.val
      omega
    · show win0_8.index t 2 * 256 + 1 * n.val = n.val
      rw [index8]
      show 0 * 256 + 1 * n.val = n.val
      omega
    · show win0_8.index t 3 * 128 + 1 * k.val = k.val
      rw [index8]
      show 0 * 128 + 1 * k.val = k.val
      omega
  rw [he] at h
  refine h.trans ?_
  unfold outsAt0
  rw [block_eq]
  show finish (mlp (iblk m c 0 t) (iblk m c 1 t) (iblk m c 2 t) (iblk m c 3 t) n) (fun j => iblk m c 4 t (ix2 0 j)) (fun j k => iblk m c 7 t (ix2 j k))
    (fun j => iblk m c 5 t (ix2 n j)) (fun j => iblk m c 6 t (ix2 n j)) k = _
  have e0 := blk0 m c t b g hb hg
  have f1 := fun l q => (blk1 m c t l q).trans (V74 m c l q)
  have f2 := fun l q h => (blk2 m c t l q h).trans (V58 m c l q h)
  have f3 := fun h q => (blk3 m c t h q).trans (V69 m c h q)
  have f4 := fun q => (blk4 m c t q).trans (V77 m c q)
  have f5 := fun q => (blk5 m c t n q).trans (V22 m c n q)
  have f6 := fun q => (blk6 m c t n q).trans (V35 m c n q)
  have f7 := fun j q => (blk7 m c t j q).trans (V46 m c j q)
  clear h he
  revert e0 f1 f2 f3 f4 f5 f6 f7
  generalize iblk m c 0 t = x0, iblk m c 1 t = x1, iblk m c 2 t = x2, iblk m c 3 t = x3, iblk m c 4 t = x4, iblk m c 5 t = x5, iblk m c 6 t = x6, iblk m c 7 t = x7
  intro e0 f1 f2 f3 f4 f5 f6 f7
  exact block_whole _ _ _ _ _ b g n x0 x1 x2 x3 x4 x5 x6 x7 e0 f1 f2 f3 f4 f5 f6 f7 k

/-- The reference returns, leaves its arguments and no counter raised. -/
theorem reference : Cert.quiescent_CompressReferenceIdeal := by
  intro m ρ _
  exact (θ_run Cert.CompressReferenceIdeal.defs _ _).mono (fun r h => ⟨fun c => (h c).2, sem_eq_zero_of_no_sems (by decide) r.2⟩)
    (Cert.CompressReferenceIdeal.Value.run (F := Ideal) m ρ)

/-- The exact kernel's result is the reference's. -/
theorem value : Cert.algebraic_CompressIdeal_CompressReferenceIdeal := by
  intro m ρ m' ρ' hpre hagree
  refine ⟨fun c => Cert.CompressReferenceIdeal.Read.val_main_v142 (F := Ideal) (m' ((c.tc : Thread _ _).loc Cert.CompressReferenceIdeal.main_arg0))
      (m' ((c.tc : Thread _ _).loc Cert.CompressReferenceIdeal.main_arg1)) (m' ((c.tc : Thread _ _).loc Cert.CompressReferenceIdeal.main_arg2))
      (m' ((c.tc : Thread _ _).loc Cert.CompressReferenceIdeal.main_arg3)) (m' ((c.tc : Thread _ _).loc Cert.CompressReferenceIdeal.main_arg4)),
    (θ_run Cert.CompressIdeal.defs _ _).mono (fun r h c => ⟨(h c).1.trans ?_, (h c).2⟩) (Cert.CompressIdeal.Value.run_blocks (F := Ideal) m ρ),
    (θ_run Cert.CompressReferenceIdeal.defs _ _).mono (fun r h c => ⟨(h c).1.trans (Cert.CompressReferenceIdeal.Read.val_main_v142_eq (F := Ideal) _), (h c).2⟩)
      (Cert.CompressReferenceIdeal.Value.run (F := Ideal) m' ρ')⟩
  obtain ⟨h0, h1, h2, h3, h4⟩ := hagree c
  funext y
  obtain ⟨b, g, n, k, rfl⟩ : ∃ (b : Fin 8) (g : Fin 4) (n : Fin 256) (k : Fin 128), y = ix4 b g n k := ⟨y 0, y 1, y 2, y 3, by
    funext a; fin_cases a <;> rfl⟩
  refine (out m c b g n k).trans ?_
  refine Eq.trans ?_ (ref _ _ _ _ _ b g n k).symm
  rw [h0, h1, h2, h3, h4]

end Cert.Layer.Compress
end
-- ==== Proof.lean ====
/-
  The claims of this certificate, put together from the modules of each call.
-/
module

public import proofs.«01_k».proof.Defs
public import proofs.«01_k».proof.Proof.Attention
public import proofs.«01_k».proof.Proof.EarlyAttention
public import proofs.«01_k».proof.Proof.ProjMoba
public import proofs.«01_k».proof.Proof.ProjNsa
public import proofs.«01_k».proof.Proof.PostLayer0
public import proofs.«01_k».proof.Proof.PostLayer1
public import proofs.«01_k».proof.Proof.PostLayer2
public import proofs.«01_k».proof.Proof.PostLayer3
public import proofs.«01_k».proof.Proof.CompressBlock
public import proofs.«01_k».proof.Proof.CompressHost
public import proofs.«01_k».proof.Proof.CompressRef
public import proofs.«01_k».proof.Proof.CompressSums
public import proofs.«01_k».proof.Proof.CompressRefEnd
public import proofs.«01_k».proof.Proof.Compress
public import proofs.«01_k».proof.Proof.Gen.Early
public import proofs.«01_k».proof.Proof.Gen.Early.Frame
public import proofs.«01_k».proof.Proof.Gen.EarlyIdeal
public import proofs.«01_k».proof.Proof.Gen.EarlyIdeal.Frame
public import proofs.«01_k».proof.Proof.Gen.EarlyIdeal.Value
public import proofs.«01_k».proof.Proof.Gen.EarlyReferenceIdeal
public import proofs.«01_k».proof.Proof.Gen.EarlyReferenceIdeal.Run
public import proofs.«01_k».proof.Proof.Gen.EarlyReferenceIdeal.Read
public import proofs.«01_k».proof.Proof.Gen.Compress
public import proofs.«01_k».proof.Proof.Gen.Compress.Frame
public import proofs.«01_k».proof.Proof.Gen.CompressIdeal
public import proofs.«01_k».proof.Proof.Gen.CompressIdeal.Frame
public import proofs.«01_k».proof.Proof.Gen.CompressIdeal.Value
public import proofs.«01_k».proof.Proof.Gen.CompressReferenceIdeal
public import proofs.«01_k».proof.Proof.Gen.CompressReferenceIdeal.Run
public import proofs.«01_k».proof.Proof.Gen.CompressReferenceIdeal.Read
public import proofs.«01_k».proof.Proof.Gen.MobaProj
public import proofs.«01_k».proof.Proof.Gen.MobaProj.Frame
public import proofs.«01_k».proof.Proof.Gen.MobaProjIdeal
public import proofs.«01_k».proof.Proof.Gen.MobaProjIdeal.Frame
public import proofs.«01_k».proof.Proof.Gen.MobaProjIdeal.Value
public import proofs.«01_k».proof.Proof.Gen.MobaProjReferenceIdeal
public import proofs.«01_k».proof.Proof.Gen.MobaProjReferenceIdeal.Run
public import proofs.«01_k».proof.Proof.Gen.MobaProjReferenceIdeal.Read
public import proofs.«01_k».proof.Proof.Gen.NsaProj
public import proofs.«01_k».proof.Proof.Gen.NsaProj.Frame
public import proofs.«01_k».proof.Proof.Gen.NsaProjIdeal
public import proofs.«01_k».proof.Proof.Gen.NsaProjIdeal.Frame
public import proofs.«01_k».proof.Proof.Gen.NsaProjIdeal.Value
public import proofs.«01_k».proof.Proof.Gen.NsaProjReferenceIdeal
public import proofs.«01_k».proof.Proof.Gen.NsaProjReferenceIdeal.Run
public import proofs.«01_k».proof.Proof.Gen.NsaProjReferenceIdeal.Read
public import proofs.«01_k».proof.Proof.Gen.Post0
public import proofs.«01_k».proof.Proof.Gen.Post0.Frame
public import proofs.«01_k».proof.Proof.Gen.Post0Ideal
public import proofs.«01_k».proof.Proof.Gen.Post0Ideal.Frame
public import proofs.«01_k».proof.Proof.Gen.Post0Ideal.Value
public import proofs.«01_k».proof.Proof.Gen.Post0ReferenceIdeal
public import proofs.«01_k».proof.Proof.Gen.Post0ReferenceIdeal.Run
public import proofs.«01_k».proof.Proof.Gen.Post0ReferenceIdeal.Read
public import proofs.«01_k».proof.Proof.Gen.Post1
public import proofs.«01_k».proof.Proof.Gen.Post1.Frame
public import proofs.«01_k».proof.Proof.Gen.Post1Ideal
public import proofs.«01_k».proof.Proof.Gen.Post1Ideal.Frame
public import proofs.«01_k».proof.Proof.Gen.Post1Ideal.Value
public import proofs.«01_k».proof.Proof.Gen.Post1ReferenceIdeal
public import proofs.«01_k».proof.Proof.Gen.Post1ReferenceIdeal.Run
public import proofs.«01_k».proof.Proof.Gen.Post1ReferenceIdeal.Read
public import proofs.«01_k».proof.Proof.Gen.Post2
public import proofs.«01_k».proof.Proof.Gen.Post2.Frame
public import proofs.«01_k».proof.Proof.Gen.Post2Ideal
public import proofs.«01_k».proof.Proof.Gen.Post2Ideal.Frame
public import proofs.«01_k».proof.Proof.Gen.Post2Ideal.Value
public import proofs.«01_k».proof.Proof.Gen.Post2ReferenceIdeal
public import proofs.«01_k».proof.Proof.Gen.Post2ReferenceIdeal.Run
public import proofs.«01_k».proof.Proof.Gen.Post2ReferenceIdeal.Read
public import proofs.«01_k».proof.Proof.Gen.Post3
public import proofs.«01_k».proof.Proof.Gen.Post3.Frame
public import proofs.«01_k».proof.Proof.Gen.Post3Ideal
public import proofs.«01_k».proof.Proof.Gen.Post3Ideal.Frame
public import proofs.«01_k».proof.Proof.Gen.Post3Ideal.Value
public import proofs.«01_k».proof.Proof.Gen.Post3ReferenceIdeal
public import proofs.«01_k».proof.Proof.Gen.Post3ReferenceIdeal.Run
public import proofs.«01_k».proof.Proof.Gen.Post3ReferenceIdeal.Read

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Early.Gen.facts,
    Cert.EarlyIdeal.Gen.facts,
    Cert.EarlyReferenceIdeal.Gen.facts,
    Cert.MobaProj.Gen.facts,
    Cert.MobaProjIdeal.Gen.facts,
    Cert.MobaProjReferenceIdeal.Gen.facts,
    Cert.NsaProj.Gen.facts,
    Cert.NsaProjIdeal.Gen.facts,
    Cert.NsaProjReferenceIdeal.Gen.facts,
    Cert.Post0.Gen.facts,
    Cert.Post0Ideal.Gen.facts,
    Cert.Post0ReferenceIdeal.Gen.facts,
    Cert.Post1.Gen.facts,
    Cert.Post1Ideal.Gen.facts,
    Cert.Post1ReferenceIdeal.Gen.facts,
    Cert.Post2.Gen.facts,
    Cert.Post2Ideal.Gen.facts,
    Cert.Post2ReferenceIdeal.Gen.facts,
    Cert.Post3.Gen.facts,
    Cert.Post3Ideal.Gen.facts,
    Cert.Post3ReferenceIdeal.Gen.facts,
    Cert.Compress.Gen.facts,
    Cert.CompressIdeal.Gen.facts,
    Cert.CompressReferenceIdeal.Gen.facts,
    Cert.Attention.preFacts,
    fun m ρ _ => Cert.Kernel.Gen.frame m ρ,
    fun m ρ _ => Cert.KernelIdeal.Gen.frame m ρ,
    fun m ρ _ => Cert.KernelIdeal.Gen.frame m ρ,
    Cert.Attention.reference,
    fun m ρ _ => Cert.Attention.reference m ρ trivial,
    fun m ρ _ => Cert.Early.Gen.frame m ρ,
    fun m ρ _ => Cert.EarlyIdeal.Gen.frame m ρ,
    fun m ρ _ => Cert.EarlyIdeal.Gen.frame m ρ,
    Cert.EarlyAttention.reference,
    fun m ρ _ => Cert.EarlyAttention.reference m ρ trivial,
    fun m ρ _ => Cert.MobaProj.Gen.frame m ρ,
    fun m ρ _ => Cert.MobaProjIdeal.Gen.frame m ρ,
    Cert.Layer.MobaProj.reference,
    fun m ρ _ => Cert.NsaProj.Gen.frame m ρ,
    fun m ρ _ => Cert.NsaProjIdeal.Gen.frame m ρ,
    Cert.Layer.NsaProj.reference,
    fun m ρ _ => Cert.Post0.Gen.frame m ρ,
    fun m ρ _ => Cert.Post0Ideal.Gen.frame m ρ,
    Cert.Layer.Post0.reference,
    fun m ρ _ => Cert.Post1.Gen.frame m ρ,
    fun m ρ _ => Cert.Post1Ideal.Gen.frame m ρ,
    Cert.Layer.Post1.reference,
    fun m ρ _ => Cert.Post2.Gen.frame m ρ,
    fun m ρ _ => Cert.Post2Ideal.Gen.frame m ρ,
    Cert.Layer.Post2.reference,
    fun m ρ _ => Cert.Post3.Gen.frame m ρ,
    fun m ρ _ => Cert.Post3Ideal.Gen.frame m ρ,
    Cert.Layer.Post3.reference,
    fun m ρ _ => Cert.Compress.Gen.frame m ρ,
    fun m ρ _ => Cert.CompressIdeal.Gen.frame m ρ,
    Cert.Layer.Compress.reference,
    IdealRules.named_const.statement Cert.KernelIdeal.κ "mask" .f32 0xF149F2CA#32 ⊥ rfl,
    Cert.Attention.value,
    IdealRules.named_const.statement Cert.EarlyIdeal.κ "mask" .f32 0xF149F2CA#32 ⊥ rfl,
    Cert.EarlyAttention.value,
    trivial,
    Cert.Layer.MobaProj.value,
    trivial,
    Cert.Layer.NsaProj.value,
    trivial,
    Cert.Layer.Post0.value,
    trivial,
    Cert.Layer.Post1.value,
    trivial,
    Cert.Layer.Post2.value,
    trivial,
    Cert.Layer.Post3.value,
    trivial,
    Cert.Layer.Compress.value⟩

end Cert.Proof

end
